-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaRefIdeal (m : (ℓ : Loc Cert.InDaRefIdeal.nD Cert.InDaRefIdeal.τ Cert.InDaRefIdeal.sig) → Buf (Elt Ideal) ℓ) : Prop :=
  True

def Pre_In512 (m : (ℓ : Loc Cert.In512.nD Cert.In512.τ Cert.In512.sig) → Buf (Elt Bits) ℓ) : Prop :=
  True

def Pre_In512Ideal (m : (ℓ : Loc Cert.In512Ideal.nD Cert.In512Ideal.τ Cert.In512Ideal.sig) → Buf (Elt Ideal) ℓ) : Prop :=
  True

def Pre_In512RefIdeal (m : (ℓ : Loc Cert.In512RefIdeal.nD Cert.In512RefIdeal.τ Cert.In512RefIdeal.sig) → Buf (Elt Ideal) ℓ) : Prop :=
  True

def Pre_In1024 (m : (ℓ : Loc Cert.In1024.nD Cert.In1024.τ Cert.In1024.sig) → Buf (Elt Bits) ℓ) : Prop :=
  True

def Pre_In1024Ideal (m : (ℓ : Loc Cert.In1024Ideal.nD Cert.In1024Ideal.τ Cert.In1024Ideal.sig) → Buf (Elt Ideal) ℓ) : Prop :=
  True

def Pre_In1024RefIdeal (m : (ℓ : Loc Cert.In1024RefIdeal.nD Cert.In1024RefIdeal.τ Cert.In1024RefIdeal.sig) → Buf (Elt Ideal) ℓ) : Prop :=
  True

def Pre_In768 (m : (ℓ : Loc Cert.In768.nD Cert.In768.τ Cert.In768.sig) → Buf (Elt Bits) ℓ) : Prop :=
  True

def Pre_In768Ideal (m : (ℓ : Loc Cert.In768Ideal.nD Cert.In768Ideal.τ Cert.In768Ideal.sig) → Buf (Elt Ideal) ℓ) : Prop :=
  True

def Pre_In768RefIdeal (m : (ℓ : Loc Cert.In768RefIdeal.nD Cert.In768RefIdeal.τ Cert.In768RefIdeal.sig) → Buf (Elt Ideal) ℓ) : Prop :=
  True

def Pre_In128 (m : (ℓ : Loc Cert.In128.nD Cert.In128.τ Cert.In128.sig) → Buf (Elt Bits) ℓ) : Prop :=
  True

def Pre_In128Ideal (m : (ℓ : Loc Cert.In128Ideal.nD Cert.In128Ideal.τ Cert.In128Ideal.sig) → Buf (Elt Ideal) ℓ) : Prop :=
  True

def Pre_In128RefIdeal (m : (ℓ : Loc Cert.In128RefIdeal.nD Cert.In128RefIdeal.τ Cert.In128RefIdeal.sig) → Buf (Elt Ideal) ℓ) : Prop :=
  True

def Pre_InDb512 (m : (ℓ : Loc Cert.InDb512.nD Cert.InDb512.τ Cert.InDb512.sig) → Buf (Elt Bits) ℓ) : Prop :=
  True

def Pre_InDb512Ideal (m : (ℓ : Loc Cert.InDb512Ideal.nD Cert.InDb512Ideal.τ Cert.InDb512Ideal.sig) → Buf (Elt Ideal) ℓ) : Prop :=
  True

def Pre_InDb512RefIdeal (m : (ℓ : Loc Cert.InDb512RefIdeal.nD Cert.InDb512RefIdeal.τ Cert.InDb512RefIdeal.sig) → Buf (Elt Ideal) ℓ) : Prop :=
  True

def Pre_InDb1024 (m : (ℓ : Loc Cert.InDb1024.nD Cert.InDb1024.τ Cert.InDb1024.sig) → Buf (Elt Bits) ℓ) : Prop :=
  True

def Pre_InDb1024Ideal (m : (ℓ : Loc Cert.InDb1024Ideal.nD Cert.InDb1024Ideal.τ Cert.InDb1024Ideal.sig) → Buf (Elt Ideal) ℓ) : Prop :=
  True

def Pre_InDb1024RefIdeal (m : (ℓ : Loc Cert.InDb1024RefIdeal.nD Cert.InDb1024RefIdeal.τ Cert.InDb1024RefIdeal.sig) → Buf (Elt Ideal) ℓ) : Prop :=
  True

def Pre_InDb768 (m : (ℓ : Loc Cert.InDb768.nD Cert.InDb768.τ Cert.InDb768.sig) → Buf (Elt Bits) ℓ) : Prop :=
  True

def Pre_InDb768Ideal (m : (ℓ : Loc Cert.InDb768Ideal.nD Cert.InDb768Ideal.τ Cert.InDb768Ideal.sig) → Buf (Elt Ideal) ℓ) : Prop :=
  True

def Pre_InDb768RefIdeal (m : (ℓ : Loc Cert.InDb768RefIdeal.nD Cert.InDb768RefIdeal.τ Cert.InDb768RefIdeal.sig) → Buf (Elt Ideal) ℓ) : Prop :=
  True

def Pre_InDb128 (m : (ℓ : Loc Cert.InDb128.nD Cert.InDb128.τ Cert.InDb128.sig) → Buf (Elt Bits) ℓ) : Prop :=
  True

def Pre_InDb128Ideal (m : (ℓ : Loc Cert.InDb128Ideal.nD Cert.InDb128Ideal.τ Cert.InDb128Ideal.sig) → Buf (Elt Ideal) ℓ) : Prop :=
  True

def Pre_InDb128RefIdeal (m : (ℓ : Loc Cert.InDb128RefIdeal.nD Cert.InDb128RefIdeal.τ Cert.InDb128RefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateDa (m : (ℓ : Loc Cert.GateDa.nD Cert.GateDa.τ Cert.GateDa.sig) → Buf (Elt Bits) ℓ) : Prop :=
  True

def Pre_GateDaIdeal (m : (ℓ : Loc Cert.GateDaIdeal.nD Cert.GateDaIdeal.τ Cert.GateDaIdeal.sig) → Buf (Elt Ideal) ℓ) : Prop :=
  True

def Pre_GateDaRefIdeal (m : (ℓ : Loc Cert.GateDaRefIdeal.nD Cert.GateDaRefIdeal.τ Cert.GateDaRefIdeal.sig) → Buf (Elt Ideal) ℓ) : Prop :=
  True

def Pre_GateDb (m : (ℓ : Loc Cert.GateDb.nD Cert.GateDb.τ Cert.GateDb.sig) → Buf (Elt Bits) ℓ) : Prop :=
  True

def Pre_GateDbIdeal (m : (ℓ : Loc Cert.GateDbIdeal.nD Cert.GateDbIdeal.τ Cert.GateDbIdeal.sig) → Buf (Elt Ideal) ℓ) : Prop :=
  True

def Pre_GateDbRefIdeal (m : (ℓ : Loc Cert.GateDbRefIdeal.nD Cert.GateDbRefIdeal.τ Cert.GateDbRefIdeal.sig) → Buf (Elt Ideal) ℓ) : Prop :=
  True

def Pre_Br (m : (ℓ : Loc Cert.Br.nD Cert.Br.τ Cert.Br.sig) → Buf (Elt Bits) ℓ) : Prop :=
  True

def Pre_BrIdeal (m : (ℓ : Loc Cert.BrIdeal.nD Cert.BrIdeal.τ Cert.BrIdeal.sig) → Buf (Elt Ideal) ℓ) : Prop :=
  True

def Pre_BrRefIdeal (m : (ℓ : Loc Cert.BrRefIdeal.nD Cert.BrRefIdeal.τ Cert.BrRefIdeal.sig) → Buf (Elt Ideal) ℓ) : Prop :=
  True

def Pre_BrDa (m : (ℓ : Loc Cert.BrDa.nD Cert.BrDa.τ Cert.BrDa.sig) → Buf (Elt Bits) ℓ) : Prop :=
  True

def Pre_BrDaIdeal (m : (ℓ : Loc Cert.BrDaIdeal.nD Cert.BrDaIdeal.τ Cert.BrDaIdeal.sig) → Buf (Elt Ideal) ℓ) : Prop :=
  True

def Pre_BrDaRefIdeal (m : (ℓ : Loc Cert.BrDaRefIdeal.nD Cert.BrDaRefIdeal.τ Cert.BrDaRefIdeal.sig) → Buf (Elt Ideal) ℓ) : Prop :=
  True

def Pre_BrDb (m : (ℓ : Loc Cert.BrDb.nD Cert.BrDb.τ Cert.BrDb.sig) → Buf (Elt Bits) ℓ) : Prop :=
  True

def Pre_BrDbIdeal (m : (ℓ : Loc Cert.BrDbIdeal.nD Cert.BrDbIdeal.τ Cert.BrDbIdeal.sig) → Buf (Elt Ideal) ℓ) : Prop :=
  True

def Pre_BrDbRefIdeal (m : (ℓ : Loc Cert.BrDbRefIdeal.nD Cert.BrDbRefIdeal.τ Cert.BrDbRefIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaRefIdeal (m : (ℓ : Loc Cert.OutDaRefIdeal.nD Cert.OutDaRefIdeal.τ Cert.OutDaRefIdeal.sig) → Buf (Elt Ideal) ℓ) : Prop :=
  True

def Pre_AdamWMod (m : (ℓ : Loc Cert.AdamWMod.nD Cert.AdamWMod.τ Cert.AdamWMod.sig) → Buf (Elt Bits) ℓ) : Prop :=
  True

def Pre_AdamWModIdeal (m : (ℓ : Loc Cert.AdamWModIdeal.nD Cert.AdamWModIdeal.τ Cert.AdamWModIdeal.sig) → Buf (Elt Ideal) ℓ) : Prop :=
  True

def Pre_AdamWModRefIdeal (m : (ℓ : Loc Cert.AdamWModRefIdeal.nD Cert.AdamWModRefIdeal.τ Cert.AdamWModRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamS5WGlu (m : (ℓ : Loc Cert.AdamS5WGlu.nD Cert.AdamS5WGlu.τ Cert.AdamS5WGlu.sig) → Buf (Elt Bits) ℓ) : Prop :=
  True

def Pre_AdamS5WGluIdeal (m : (ℓ : Loc Cert.AdamS5WGluIdeal.nD Cert.AdamS5WGluIdeal.τ Cert.AdamS5WGluIdeal.sig) → Buf (Elt Ideal) ℓ) : Prop :=
  True

def Pre_AdamS5WGluRefIdeal (m : (ℓ : Loc Cert.AdamS5WGluRefIdeal.nD Cert.AdamS5WGluRefIdeal.τ Cert.AdamS5WGluRefIdeal.sig) → Buf (Elt Ideal) ℓ) : Prop :=
  True

def Pre_AdamWBranch (m : (ℓ : Loc Cert.AdamWBranch.nD Cert.AdamWBranch.τ Cert.AdamWBranch.sig) → Buf (Elt Bits) ℓ) : Prop :=
  True

def Pre_AdamWBranchIdeal (m : (ℓ : Loc Cert.AdamWBranchIdeal.nD Cert.AdamWBranchIdeal.τ Cert.AdamWBranchIdeal.sig) → Buf (Elt Ideal) ℓ) : Prop :=
  True

def Pre_AdamWBranchRefIdeal (m : (ℓ : Loc Cert.AdamWBranchRefIdeal.nD Cert.AdamWBranchRefIdeal.τ Cert.AdamWBranchRefIdeal.sig) → Buf (Elt Ideal) ℓ) : Prop :=
  True

def Pre_AdamWGate (m : (ℓ : Loc Cert.AdamWGate.nD Cert.AdamWGate.τ Cert.AdamWGate.sig) → Buf (Elt Bits) ℓ) : Prop :=
  True

def Pre_AdamWGateIdeal (m : (ℓ : Loc Cert.AdamWGateIdeal.nD Cert.AdamWGateIdeal.τ Cert.AdamWGateIdeal.sig) → Buf (Elt Ideal) ℓ) : Prop :=
  True

def Pre_AdamWGateRefIdeal (m : (ℓ : Loc Cert.AdamWGateRefIdeal.nD Cert.AdamWGateRefIdeal.τ Cert.AdamWGateRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_ScanBwdIdeal_decay_in_range [hPre_decay_in_range : Cert.Pre_decay_in_range.Facts] (m : (ℓ : Loc Cert.ScanBwdIdeal.nD Cert.ScanBwdIdeal.τ Cert.ScanBwdIdeal.sig) → Buf (Elt Ideal) ℓ) : Prop :=
  ∀ c : Dev Cert.ScanBwdIdeal.nD,
    (Cert.Pre_decay_in_range.fn (F := Ideal) (m ((c.tc : Thread Cert.ScanBwdIdeal.nD Cert.ScanBwdIdeal.τ).loc Cert.ScanBwdIdeal.main_arg0)) (m ((c.tc : Thread Cert.ScanBwdIdeal.nD Cert.ScanBwdIdeal.τ).loc Cert.ScanBwdIdeal.main_arg1)) (m ((c.tc : Thread Cert.ScanBwdIdeal.nD Cert.ScanBwdIdeal.τ).loc Cert.ScanBwdIdeal.main_arg2))) = (fun _ => 1#1)

def Pre_ScanBwdRefIdeal (m : (ℓ : Loc Cert.ScanBwdRefIdeal.nD Cert.ScanBwdRefIdeal.τ Cert.ScanBwdRefIdeal.sig) → Buf (Elt Ideal) ℓ) : Prop :=
  True

def Pre_ScanBwdRefIdeal_decay_in_range [hPre_decay_in_range : Cert.Pre_decay_in_range.Facts] (m : (ℓ : Loc Cert.ScanBwdRefIdeal.nD Cert.ScanBwdRefIdeal.τ Cert.ScanBwdRefIdeal.sig) → Buf (Elt Ideal) ℓ) : Prop :=
  ∀ c : Dev Cert.ScanBwdRefIdeal.nD,
    (Cert.Pre_decay_in_range.fn (F := Ideal) (m ((c.tc : Thread Cert.ScanBwdRefIdeal.nD Cert.ScanBwdRefIdeal.τ).loc Cert.ScanBwdRefIdeal.main_arg0)) (m ((c.tc : Thread Cert.ScanBwdRefIdeal.nD Cert.ScanBwdRefIdeal.τ).loc Cert.ScanBwdRefIdeal.main_arg1)) (m ((c.tc : Thread Cert.ScanBwdRefIdeal.nD Cert.ScanBwdRefIdeal.τ).loc Cert.ScanBwdRefIdeal.main_arg2))) = (fun _ => 1#1)

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2)
      ∧ r.2.mem ((c.tc : Thread Cert.InDa.nD Cert.InDa.τ).loc Cert.InDa.main_arg3) = m ((c.tc : Thread Cert.InDa.nD Cert.InDa.τ).loc Cert.InDa.main_arg3)
      ∧ r.2.mem ((c.tc : Thread Cert.InDa.nD Cert.InDa.τ).loc Cert.InDa.main_arg4) = m ((c.tc : Thread Cert.InDa.nD Cert.InDa.τ).loc Cert.InDa.main_arg4)
      ∧ r.2.mem ((c.tc : Thread Cert.InDa.nD Cert.InDa.τ).loc Cert.InDa.main_arg5) = m ((c.tc : Thread Cert.InDa.nD Cert.InDa.τ).loc Cert.InDa.main_arg5)
      ∧ r.2.mem ((c.tc : Thread Cert.InDa.nD Cert.InDa.τ).loc Cert.InDa.main_arg6) = m ((c.tc : Thread Cert.InDa.nD Cert.InDa.τ).loc Cert.InDa.main_arg6)
      ∧ r.2.mem ((c.tc : Thread Cert.InDa.nD Cert.InDa.τ).loc Cert.InDa.main_arg7) = m ((c.tc : Thread Cert.InDa.nD Cert.InDa.τ).loc Cert.InDa.main_arg7)
      ∧ r.2.mem ((c.tc : Thread Cert.InDa.nD Cert.InDa.τ).loc Cert.InDa.main_arg8) = m ((c.tc : Thread Cert.InDa.nD Cert.InDa.τ).loc Cert.InDa.main_arg8)
      ∧ r.2.mem ((c.tc : Thread Cert.InDa.nD Cert.InDa.τ).loc Cert.InDa.main_arg9) = m ((c.tc : Thread Cert.InDa.nD Cert.InDa.τ).loc Cert.InDa.main_arg9)
      ∧ r.2.mem ((c.tc : Thread Cert.InDa.nD Cert.InDa.τ).loc Cert.InDa.main_arg10) = m ((c.tc : Thread Cert.InDa.nD Cert.InDa.τ).loc Cert.InDa.main_arg10)
      ∧ r.2.mem ((c.tc : Thread Cert.InDa.nD Cert.InDa.τ).loc Cert.InDa.main_arg11) = m ((c.tc : Thread Cert.InDa.nD Cert.InDa.τ).loc Cert.InDa.main_arg11)
      ∧ r.2.mem ((c.tc : Thread Cert.InDa.nD Cert.InDa.τ).loc Cert.InDa.main_arg12) = m ((c.tc : Thread Cert.InDa.nD Cert.InDa.τ).loc Cert.InDa.main_arg12)
      ∧ r.2.mem ((c.tc : Thread Cert.InDa.nD Cert.InDa.τ).loc Cert.InDa.main_arg13) = m ((c.tc : Thread Cert.InDa.nD Cert.InDa.τ).loc Cert.InDa.main_arg13)
      ∧ r.2.mem ((c.tc : Thread Cert.InDa.nD Cert.InDa.τ).loc Cert.InDa.main_arg14) = m ((c.tc : Thread Cert.InDa.nD Cert.InDa.τ).loc Cert.InDa.main_arg14)
      ∧ r.2.mem ((c.tc : Thread Cert.InDa.nD Cert.InDa.τ).loc Cert.InDa.main_arg15) = m ((c.tc : Thread Cert.InDa.nD Cert.InDa.τ).loc Cert.InDa.main_arg15)
      ∧ r.2.mem ((c.tc : Thread Cert.InDa.nD Cert.InDa.τ).loc Cert.InDa.main_arg16) = m ((c.tc : Thread Cert.InDa.nD Cert.InDa.τ).loc Cert.InDa.main_arg16)
      ∧ r.2.mem ((c.tc : Thread Cert.InDa.nD Cert.InDa.τ).loc Cert.InDa.main_arg17) = m ((c.tc : Thread Cert.InDa.nD Cert.InDa.τ).loc Cert.InDa.main_arg17)
      ∧ r.2.mem ((c.tc : Thread Cert.InDa.nD Cert.InDa.τ).loc Cert.InDa.main_arg18) = m ((c.tc : Thread Cert.InDa.nD Cert.InDa.τ).loc Cert.InDa.main_arg18)
      ∧ r.2.mem ((c.tc : Thread Cert.InDa.nD Cert.InDa.τ).loc Cert.InDa.main_arg19) = m ((c.tc : Thread Cert.InDa.nD Cert.InDa.τ).loc Cert.InDa.main_arg19)
      ∧ r.2.mem ((c.tc : Thread Cert.InDa.nD Cert.InDa.τ).loc Cert.InDa.main_arg20) = m ((c.tc : Thread Cert.InDa.nD Cert.InDa.τ).loc Cert.InDa.main_arg20)
      ∧ r.2.mem ((c.tc : Thread Cert.InDa.nD Cert.InDa.τ).loc Cert.InDa.main_arg21) = m ((c.tc : Thread Cert.InDa.nD Cert.InDa.τ).loc Cert.InDa.main_arg21))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
      ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
      ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4)
      ∧ r.2.mem ((c.tc : Thread Cert.InDaIdeal.nD Cert.InDaIdeal.τ).loc Cert.InDaIdeal.main_arg5) = m ((c.tc : Thread Cert.InDaIdeal.nD Cert.InDaIdeal.τ).loc Cert.InDaIdeal.main_arg5)
      ∧ r.2.mem ((c.tc : Thread Cert.InDaIdeal.nD Cert.InDaIdeal.τ).loc Cert.InDaIdeal.main_arg6) = m ((c.tc : Thread Cert.InDaIdeal.nD Cert.InDaIdeal.τ).loc Cert.InDaIdeal.main_arg6)
      ∧ r.2.mem ((c.tc : Thread Cert.InDaIdeal.nD Cert.InDaIdeal.τ).loc Cert.InDaIdeal.main_arg7) = m ((c.tc : Thread Cert.InDaIdeal.nD Cert.InDaIdeal.τ).loc Cert.InDaIdeal.main_arg7)
      ∧ r.2.mem ((c.tc : Thread Cert.InDaIdeal.nD Cert.InDaIdeal.τ).loc Cert.InDaIdeal.main_arg8) = m ((c.tc : Thread Cert.InDaIdeal.nD Cert.InDaIdeal.τ).loc Cert.InDaIdeal.main_arg8)
      ∧ r.2.mem ((c.tc : Thread Cert.InDaIdeal.nD Cert.InDaIdeal.τ).loc Cert.InDaIdeal.main_arg9) = m ((c.tc : Thread Cert.InDaIdeal.nD Cert.InDaIdeal.τ).loc Cert.InDaIdeal.main_arg9)
      ∧ r.2.mem ((c.tc : Thread Cert.InDaIdeal.nD Cert.InDaIdeal.τ).loc Cert.InDaIdeal.main_arg10) = m ((c.tc : Thread Cert.InDaIdeal.nD Cert.InDaIdeal.τ).loc Cert.InDaIdeal.main_arg10)
      ∧ r.2.mem ((c.tc : Thread Cert.InDaIdeal.nD Cert.InDaIdeal.τ).loc Cert.InDaIdeal.main_arg11) = m ((c.tc : Thread Cert.InDaIdeal.nD Cert.InDaIdeal.τ).loc Cert.InDaIdeal.main_arg11)
      ∧ r.2.mem ((c.tc : Thread Cert.InDaIdeal.nD Cert.InDaIdeal.τ).loc Cert.InDaIdeal.main_arg12) = m ((c.tc : Thread Cert.InDaIdeal.nD Cert.InDaIdeal.τ).loc Cert.InDaIdeal.main_arg12)
      ∧ r.2.mem ((c.tc : Thread Cert.InDaIdeal.nD Cert.InDaIdeal.τ).loc Cert.InDaIdeal.main_arg13) = m ((c.tc : Thread Cert.InDaIdeal.nD Cert.InDaIdeal.τ).loc Cert.InDaIdeal.main_arg13)
      ∧ r.2.mem ((c.tc : Thread Cert.InDaIdeal.nD Cert.InDaIdeal.τ).loc Cert.InDaIdeal.main_arg14) = m ((c.tc : Thread Cert.InDaIdeal.nD Cert.InDaIdeal.τ).loc Cert.InDaIdeal.main_arg14)
      ∧ r.2.mem ((c.tc : Thread Cert.InDaIdeal.nD Cert.InDaIdeal.τ).loc Cert.InDaIdeal.main_arg15) = m ((c.tc : Thread Cert.InDaIdeal.nD Cert.InDaIdeal.τ).loc Cert.InDaIdeal.main_arg15)
      ∧ r.2.mem ((c.tc : Thread Cert.InDaIdeal.nD Cert.InDaIdeal.τ).loc Cert.InDaIdeal.main_arg16) = m ((c.tc : Thread Cert.InDaIdeal.nD Cert.InDaIdeal.τ).loc Cert.InDaIdeal.main_arg16)
      ∧ r.2.mem ((c.tc : Thread Cert.InDaIdeal.nD Cert.InDaIdeal.τ).loc Cert.InDaIdeal.main_arg17) = m ((c.tc : Thread Cert.InDaIdeal.nD Cert.InDaIdeal.τ).loc Cert.InDaIdeal.main_arg17)
      ∧ r.2.mem ((c.tc : Thread Cert.InDaIdeal.nD Cert.InDaIdeal.τ).loc Cert.InDaIdeal.main_arg18) = m ((c.tc : Thread Cert.InDaIdeal.nD Cert.InDaIdeal.τ).loc Cert.InDaIdeal.main_arg18)
      ∧ r.2.mem ((c.tc : Thread Cert.InDaIdeal.nD Cert.InDaIdeal.τ).loc Cert.InDaIdeal.main_arg19) = m ((c.tc : Thread Cert.InDaIdeal.nD Cert.InDaIdeal.τ).loc Cert.InDaIdeal.main_arg19)
      ∧ r.2.mem ((c.tc : Thread Cert.InDaIdeal.nD Cert.InDaIdeal.τ).loc Cert.InDaIdeal.main_arg20) = m ((c.tc : Thread Cert.InDaIdeal.nD Cert.InDaIdeal.τ).loc Cert.InDaIdeal.main_arg20)
      ∧ r.2.mem ((c.tc : Thread Cert.InDaIdeal.nD Cert.InDaIdeal.τ).loc Cert.InDaIdeal.main_arg21) = m ((c.tc : Thread Cert.InDaIdeal.nD Cert.InDaIdeal.τ).loc Cert.InDaIdeal.main_arg21))
      ∧ r.2.sem = fun _ => 0)

def quiescent_InDaRefIdeal [hInDaRefIdeal : Cert.InDaRefIdeal.Facts] : Prop :=
  ∀ (m : (ℓ : Loc Cert.InDaRefIdeal.nD Cert.InDaRefIdeal.τ Cert.InDaRefIdeal.sig) → Buf (Elt Ideal) ℓ) (g : Dev Cert.InDaRefIdeal.nD → PrngReg), Pre_InDaRefIdeal m →
    θ_run (Cert.InDaRefIdeal.defs (F := Ideal)) (onTc (τ := Cert.InDaRefIdeal.τ) (Cert.InDaRefIdeal.main (F := Ideal))) ⟨m, fun _ => 0, g⟩ (fun r => (∀ c : Dev Cert.InDaRefIdeal.nD,
      r.2.mem ((c.tc : Thread Cert.InDaRefIdeal.nD Cert.InDaRefIdeal.τ).loc Cert.InDaRefIdeal.main_arg0) = m ((c.tc : Thread Cert.InDaRefIdeal.nD Cert.InDaRefIdeal.τ).loc Cert.InDaRefIdeal.main_arg0)
      ∧ r.2.mem ((c.tc : Thread Cert.InDaRefIdeal.nD Cert.InDaRefIdeal.τ).loc Cert.InDaRefIdeal.main_arg1) = m ((c.tc : Thread Cert.InDaRefIdeal.nD Cert.InDaRefIdeal.τ).loc Cert.InDaRefIdeal.main_arg1)
      ∧ r.2.mem ((c.tc : Thread Cert.InDaRefIdeal.nD Cert.InDaRefIdeal.τ).loc Cert.InDaRefIdeal.main_arg2) = m ((c.tc : Thread Cert.InDaRefIdeal.nD Cert.InDaRefIdeal.τ).loc Cert.InDaRefIdeal.main_arg2)
      ∧ r.2.mem ((c.tc : Thread Cert.InDaRefIdeal.nD Cert.InDaRefIdeal.τ).loc Cert.InDaRefIdeal.main_arg3) = m ((c.tc : Thread Cert.InDaRefIdeal.nD Cert.InDaRefIdeal.τ).loc Cert.InDaRefIdeal.main_arg3)
      ∧ r.2.mem ((c.tc : Thread Cert.InDaRefIdeal.nD Cert.InDaRefIdeal.τ).loc Cert.InDaRefIdeal.main_arg4) = m ((c.tc : Thread Cert.InDaRefIdeal.nD Cert.InDaRefIdeal.τ).loc Cert.InDaRefIdeal.main_arg4)
      ∧ r.2.mem ((c.tc : Thread Cert.InDaRefIdeal.nD Cert.InDaRefIdeal.τ).loc Cert.InDaRefIdeal.main_arg5) = m ((c.tc : Thread Cert.InDaRefIdeal.nD Cert.InDaRefIdeal.τ).loc Cert.InDaRefIdeal.main_arg5)
      ∧ r.2.mem ((c.tc : Thread Cert.InDaRefIdeal.nD Cert.InDaRefIdeal.τ).loc Cert.InDaRefIdeal.main_arg6) = m ((c.tc : Thread Cert.InDaRefIdeal.nD Cert.InDaRefIdeal.τ).loc Cert.InDaRefIdeal.main_arg6)
      ∧ r.2.mem ((c.tc : Thread Cert.InDaRefIdeal.nD Cert.InDaRefIdeal.τ).loc Cert.InDaRefIdeal.main_arg7) = m ((c.tc : Thread Cert.InDaRefIdeal.nD Cert.InDaRefIdeal.τ).loc Cert.InDaRefIdeal.main_arg7)
      ∧ r.2.mem ((c.tc : Thread Cert.InDaRefIdeal.nD Cert.InDaRefIdeal.τ).loc Cert.InDaRefIdeal.main_arg8) = m ((c.tc : Thread Cert.InDaRefIdeal.nD Cert.InDaRefIdeal.τ).loc Cert.InDaRefIdeal.main_arg8)
      ∧ r.2.mem ((c.tc : Thread Cert.InDaRefIdeal.nD Cert.InDaRefIdeal.τ).loc Cert.InDaRefIdeal.main_arg9) = m ((c.tc : Thread Cert.InDaRefIdeal.nD Cert.InDaRefIdeal.τ).loc Cert.InDaRefIdeal.main_arg9)
      ∧ r.2.mem ((c.tc : Thread Cert.InDaRefIdeal.nD Cert.InDaRefIdeal.τ).loc Cert.InDaRefIdeal.main_arg10) = m ((c.tc : Thread Cert.InDaRefIdeal.nD Cert.InDaRefIdeal.τ).loc Cert.InDaRefIdeal.main_arg10)
      ∧ r.2.mem ((c.tc : Thread Cert.InDaRefIdeal.nD Cert.InDaRefIdeal.τ).loc Cert.InDaRefIdeal.main_arg11) = m ((c.tc : Thread Cert.InDaRefIdeal.nD Cert.InDaRefIdeal.τ).loc Cert.InDaRefIdeal.main_arg11)
      ∧ r.2.mem ((c.tc : Thread Cert.InDaRefIdeal.nD Cert.InDaRefIdeal.τ).loc Cert.InDaRefIdeal.main_arg12) = m ((c.tc : Thread Cert.InDaRefIdeal.nD Cert.InDaRefIdeal.τ).loc Cert.InDaRefIdeal.main_arg12)
      ∧ r.2.mem ((c.tc : Thread Cert.InDaRefIdeal.nD Cert.InDaRefIdeal.τ).loc Cert.InDaRefIdeal.main_arg13) = m ((c.tc : Thread Cert.InDaRefIdeal.nD Cert.InDaRefIdeal.τ).loc Cert.InDaRefIdeal.main_arg13)
      ∧ r.2.mem ((c.tc : Thread Cert.InDaRefIdeal.nD Cert.InDaRefIdeal.τ).loc Cert.InDaRefIdeal.main_arg14) = m ((c.tc : Thread Cert.InDaRefIdeal.nD Cert.InDaRefIdeal.τ).loc Cert.InDaRefIdeal.main_arg14)
      ∧ r.2.mem ((c.tc : Thread Cert.InDaRefIdeal.nD Cert.InDaRefIdeal.τ).loc Cert.InDaRefIdeal.main_arg15) = m ((c.tc : Thread Cert.InDaRefIdeal.nD Cert.InDaRefIdeal.τ).loc Cert.InDaRefIdeal.main_arg15)
      ∧ r.2.mem ((c.tc : Thread Cert.InDaRefIdeal.nD Cert.InDaRefIdeal.τ).loc Cert.InDaRefIdeal.main_arg16) = m ((c.tc : Thread Cert.InDaRefIdeal.nD Cert.InDaRefIdeal.τ).loc Cert.InDaRefIdeal.main_arg16)
      ∧ r.2.mem ((c.tc : Thread Cert.InDaRefIdeal.nD Cert.InDaRefIdeal.τ).loc Cert.InDaRefIdeal.main_arg17) = m ((c.tc : Thread Cert.InDaRefIdeal.nD Cert.InDaRefIdeal.τ).loc Cert.InDaRefIdeal.main_arg17)
      ∧ r.2.mem ((c.tc : Thread Cert.InDaRefIdeal.nD Cert.InDaRefIdeal.τ).loc Cert.InDaRefIdeal.main_arg18) = m ((c.tc : Thread Cert.InDaRefIdeal.nD Cert.InDaRefIdeal.τ).loc Cert.InDaRefIdeal.main_arg18)
      ∧ r.2.mem ((c.tc : Thread Cert.InDaRefIdeal.nD Cert.InDaRefIdeal.τ).loc Cert.InDaRefIdeal.main_arg19) = m ((c.tc : Thread Cert.InDaRefIdeal.nD Cert.InDaRefIdeal.τ).loc Cert.InDaRefIdeal.main_arg19)
      ∧ r.2.mem ((c.tc : Thread Cert.InDaRefIdeal.nD Cert.InDaRefIdeal.τ).loc Cert.InDaRefIdeal.main_arg20) = m ((c.tc : Thread Cert.InDaRefIdeal.nD Cert.InDaRefIdeal.τ).loc Cert.InDaRefIdeal.main_arg20)
      ∧ r.2.mem ((c.tc : Thread Cert.InDaRefIdeal.nD Cert.InDaRefIdeal.τ).loc Cert.InDaRefIdeal.main_arg21) = m ((c.tc : Thread Cert.InDaRefIdeal.nD Cert.InDaRefIdeal.τ).loc Cert.InDaRefIdeal.main_arg21))
      ∧ r.2.sem = fun _ => 0)

def quiescent_In512 [hIn512 : Cert.In512.Facts] : Prop :=
  ∀ (m : (ℓ : Loc Cert.In512.nD Cert.In512.τ Cert.In512.sig) → Buf (Elt Bits) ℓ) (g : Dev Cert.In512.nD → PrngReg), Pre_In512 m →
    θ_run (Cert.In512.defs (F := Bits)) (onTc (τ := Cert.In512.τ) (Cert.In512.main (F := Bits))) ⟨m, fun _ => 0, g⟩ (fun r => (∀ c : Dev Cert.In512.nD,
      r.2.mem ((c.tc : Thread Cert.In512.nD Cert.In512.τ).loc Cert.In512.main_arg0) = m ((c.tc : Thread Cert.In512.nD Cert.In512.τ).loc Cert.In512.main_arg0)
      ∧ r.2.mem ((c.tc : Thread Cert.In512.nD Cert.In512.τ).loc Cert.In512.main_arg1) = m ((c.tc : Thread Cert.In512.nD Cert.In512.τ).loc Cert.In512.main_arg1))
      ∧ r.2.sem = fun _ => 0)

def quiescent_In512Ideal [hIn512Ideal : Cert.In512Ideal.Facts] : Prop :=
  ∀ (m : (ℓ : Loc Cert.In512Ideal.nD Cert.In512Ideal.τ Cert.In512Ideal.sig) → Buf (Elt Ideal) ℓ) (g : Dev Cert.In512Ideal.nD → PrngReg), Pre_In512Ideal m →
    θ_run (Cert.In512Ideal.defs (F := Ideal)) (onTc (τ := Cert.In512Ideal.τ) (Cert.In512Ideal.main (F := Ideal))) ⟨m, fun _ => 0, g⟩ (fun r => (∀ c : Dev Cert.In512Ideal.nD,
      r.2.mem ((c.tc : Thread Cert.In512Ideal.nD Cert.In512Ideal.τ).loc Cert.In512Ideal.main_arg0) = m ((c.tc : Thread Cert.In512Ideal.nD Cert.In512Ideal.τ).loc Cert.In512Ideal.main_arg0)
      ∧ r.2.mem ((c.tc : Thread Cert.In512Ideal.nD Cert.In512Ideal.τ).loc Cert.In512Ideal.main_arg1) = m ((c.tc : Thread Cert.In512Ideal.nD Cert.In512Ideal.τ).loc Cert.In512Ideal.main_arg1))
      ∧ r.2.sem = fun _ => 0)

def quiescent_In512RefIdeal [hIn512RefIdeal : Cert.In512RefIdeal.Facts] : Prop :=
  ∀ (m : (ℓ : Loc Cert.In512RefIdeal.nD Cert.In512RefIdeal.τ Cert.In512RefIdeal.sig) → Buf (Elt Ideal) ℓ) (g : Dev Cert.In512RefIdeal.nD → PrngReg), Pre_In512RefIdeal m →
    θ_run (Cert.In512RefIdeal.defs (F := Ideal)) (onTc (τ := Cert.In512RefIdeal.τ) (Cert.In512RefIdeal.main (F := Ideal))) ⟨m, fun _ => 0, g⟩ (fun r => (∀ c : Dev Cert.In512RefIdeal.nD,
      r.2.mem ((c.tc : Thread Cert.In512RefIdeal.nD Cert.In512RefIdeal.τ).loc Cert.In512RefIdeal.main_arg0) = m ((c.tc : Thread Cert.In512RefIdeal.nD Cert.In512RefIdeal.τ).loc Cert.In512RefIdeal.main_arg0)
      ∧ r.2.mem ((c.tc : Thread Cert.In512RefIdeal.nD Cert.In512RefIdeal.τ).loc Cert.In512RefIdeal.main_arg1) = m ((c.tc : Thread Cert.In512RefIdeal.nD Cert.In512RefIdeal.τ).loc Cert.In512RefIdeal.main_arg1))
      ∧ r.2.sem = fun _ => 0)

def quiescent_In1024 [hIn1024 : Cert.In1024.Facts] : Prop :=
  ∀ (m : (ℓ : Loc Cert.In1024.nD Cert.In1024.τ Cert.In1024.sig) → Buf (Elt Bits) ℓ) (g : Dev Cert.In1024.nD → PrngReg), Pre_In1024 m →
    θ_run (Cert.In1024.defs (F := Bits)) (onTc (τ := Cert.In1024.τ) (Cert.In1024.main (F := Bits))) ⟨m, fun _ => 0, g⟩ (fun r => (∀ c : Dev Cert.In1024.nD,
      r.2.mem ((c.tc : Thread Cert.In1024.nD Cert.In1024.τ).loc Cert.In1024.main_arg0) = m ((c.tc : Thread Cert.In1024.nD Cert.In1024.τ).loc Cert.In1024.main_arg0)
      ∧ r.2.mem ((c.tc : Thread Cert.In1024.nD Cert.In1024.τ).loc Cert.In1024.main_arg1) = m ((c.tc : Thread Cert.In1024.nD Cert.In1024.τ).loc Cert.In1024.main_arg1))
      ∧ r.2.sem = fun _ => 0)

def quiescent_In1024Ideal [hIn1024Ideal : Cert.In1024Ideal.Facts] : Prop :=
  ∀ (m : (ℓ : Loc Cert.In1024Ideal.nD Cert.In1024Ideal.τ Cert.In1024Ideal.sig) → Buf (Elt Ideal) ℓ) (g : Dev Cert.In1024Ideal.nD → PrngReg), Pre_In1024Ideal m →
    θ_run (Cert.In1024Ideal.defs (F := Ideal)) (onTc (τ := Cert.In1024Ideal.τ) (Cert.In1024Ideal.main (F := Ideal))) ⟨m, fun _ => 0, g⟩ (fun r => (∀ c : Dev Cert.In1024Ideal.nD,
      r.2.mem ((c.tc : Thread Cert.In1024Ideal.nD Cert.In1024Ideal.τ).loc Cert.In1024Ideal.main_arg0) = m ((c.tc : Thread Cert.In1024Ideal.nD Cert.In1024Ideal.τ).loc Cert.In1024Ideal.main_arg0)
      ∧ r.2.mem ((c.tc : Thread Cert.In1024Ideal.nD Cert.In1024Ideal.τ).loc Cert.In1024Ideal.main_arg1) = m ((c.tc : Thread Cert.In1024Ideal.nD Cert.In1024Ideal.τ).loc Cert.In1024Ideal.main_arg1))
      ∧ r.2.sem = fun _ => 0)

def quiescent_In1024RefIdeal [hIn1024RefIdeal : Cert.In1024RefIdeal.Facts] : Prop :=
  ∀ (m : (ℓ : Loc Cert.In1024RefIdeal.nD Cert.In1024RefIdeal.τ Cert.In1024RefIdeal.sig) → Buf (Elt Ideal) ℓ) (g : Dev Cert.In1024RefIdeal.nD → PrngReg), Pre_In1024RefIdeal m →
    θ_run (Cert.In1024RefIdeal.defs (F := Ideal)) (onTc (τ := Cert.In1024RefIdeal.τ) (Cert.In1024RefIdeal.main (F := Ideal))) ⟨m, fun _ => 0, g⟩ (fun r => (∀ c : Dev Cert.In1024RefIdeal.nD,
      r.2.mem ((c.tc : Thread Cert.In1024RefIdeal.nD Cert.In1024RefIdeal.τ).loc Cert.In1024RefIdeal.main_arg0) = m ((c.tc : Thread Cert.In1024RefIdeal.nD Cert.In1024RefIdeal.τ).loc Cert.In1024RefIdeal.main_arg0)
      ∧ r.2.mem ((c.tc : Thread Cert.In1024RefIdeal.nD Cert.In1024RefIdeal.τ).loc Cert.In1024RefIdeal.main_arg1) = m ((c.tc : Thread Cert.In1024RefIdeal.nD Cert.In1024RefIdeal.τ).loc Cert.In1024RefIdeal.main_arg1))
      ∧ r.2.sem = fun _ => 0)

def quiescent_In768 [hIn768 : Cert.In768.Facts] : Prop :=
  ∀ (m : (ℓ : Loc Cert.In768.nD Cert.In768.τ Cert.In768.sig) → Buf (Elt Bits) ℓ) (g : Dev Cert.In768.nD → PrngReg), Pre_In768 m →
    θ_run (Cert.In768.defs (F := Bits)) (onTc (τ := Cert.In768.τ) (Cert.In768.main (F := Bits))) ⟨m, fun _ => 0, g⟩ (fun r => (∀ c : Dev Cert.In768.nD,
      r.2.mem ((c.tc : Thread Cert.In768.nD Cert.In768.τ).loc Cert.In768.main_arg0) = m ((c.tc : Thread Cert.In768.nD Cert.In768.τ).loc Cert.In768.main_arg0)
      ∧ r.2.mem ((c.tc : Thread Cert.In768.nD Cert.In768.τ).loc Cert.In768.main_arg1) = m ((c.tc : Thread Cert.In768.nD Cert.In768.τ).loc Cert.In768.main_arg1))
      ∧ r.2.sem = fun _ => 0)

def quiescent_In768Ideal [hIn768Ideal : Cert.In768Ideal.Facts] : Prop :=
  ∀ (m : (ℓ : Loc Cert.In768Ideal.nD Cert.In768Ideal.τ Cert.In768Ideal.sig) → Buf (Elt Ideal) ℓ) (g : Dev Cert.In768Ideal.nD → PrngReg), Pre_In768Ideal m →
    θ_run (Cert.In768Ideal.defs (F := Ideal)) (onTc (τ := Cert.In768Ideal.τ) (Cert.In768Ideal.main (F := Ideal))) ⟨m, fun _ => 0, g⟩ (fun r => (∀ c : Dev Cert.In768Ideal.nD,
      r.2.mem ((c.tc : Thread Cert.In768Ideal.nD Cert.In768Ideal.τ).loc Cert.In768Ideal.main_arg0) = m ((c.tc : Thread Cert.In768Ideal.nD Cert.In768Ideal.τ).loc Cert.In768Ideal.main_arg0)
      ∧ r.2.mem ((c.tc : Thread Cert.In768Ideal.nD Cert.In768Ideal.τ).loc Cert.In768Ideal.main_arg1) = m ((c.tc : Thread Cert.In768Ideal.nD Cert.In768Ideal.τ).loc Cert.In768Ideal.main_arg1))
      ∧ r.2.sem = fun _ => 0)

def quiescent_In768RefIdeal [hIn768RefIdeal : Cert.In768RefIdeal.Facts] : Prop :=
  ∀ (m : (ℓ : Loc Cert.In768RefIdeal.nD Cert.In768RefIdeal.τ Cert.In768RefIdeal.sig) → Buf (Elt Ideal) ℓ) (g : Dev Cert.In768RefIdeal.nD → PrngReg), Pre_In768RefIdeal m →
    θ_run (Cert.In768RefIdeal.defs (F := Ideal)) (onTc (τ := Cert.In768RefIdeal.τ) (Cert.In768RefIdeal.main (F := Ideal))) ⟨m, fun _ => 0, g⟩ (fun r => (∀ c : Dev Cert.In768RefIdeal.nD,
      r.2.mem ((c.tc : Thread Cert.In768RefIdeal.nD Cert.In768RefIdeal.τ).loc Cert.In768RefIdeal.main_arg0) = m ((c.tc : Thread Cert.In768RefIdeal.nD Cert.In768RefIdeal.τ).loc Cert.In768RefIdeal.main_arg0)
      ∧ r.2.mem ((c.tc : Thread Cert.In768RefIdeal.nD Cert.In768RefIdeal.τ).loc Cert.In768RefIdeal.main_arg1) = m ((c.tc : Thread Cert.In768RefIdeal.nD Cert.In768RefIdeal.τ).loc Cert.In768RefIdeal.main_arg1))
      ∧ r.2.sem = fun _ => 0)

def quiescent_In128 [hIn128 : Cert.In128.Facts] : Prop :=
  ∀ (m : (ℓ : Loc Cert.In128.nD Cert.In128.τ Cert.In128.sig) → Buf (Elt Bits) ℓ) (g : Dev Cert.In128.nD → PrngReg), Pre_In128 m →
    θ_run (Cert.In128.defs (F := Bits)) (onTc (τ := Cert.In128.τ) (Cert.In128.main (F := Bits))) ⟨m, fun _ => 0, g⟩ (fun r => (∀ c : Dev Cert.In128.nD,
      r.2.mem ((c.tc : Thread Cert.In128.nD Cert.In128.τ).loc Cert.In128.main_arg0) = m ((c.tc : Thread Cert.In128.nD Cert.In128.τ).loc Cert.In128.main_arg0)
      ∧ r.2.mem ((c.tc : Thread Cert.In128.nD Cert.In128.τ).loc Cert.In128.main_arg1) = m ((c.tc : Thread Cert.In128.nD Cert.In128.τ).loc Cert.In128.main_arg1))
      ∧ r.2.sem = fun _ => 0)

def quiescent_In128Ideal [hIn128Ideal : Cert.In128Ideal.Facts] : Prop :=
  ∀ (m : (ℓ : Loc Cert.In128Ideal.nD Cert.In128Ideal.τ Cert.In128Ideal.sig) → Buf (Elt Ideal) ℓ) (g : Dev Cert.In128Ideal.nD → PrngReg), Pre_In128Ideal m →
    θ_run (Cert.In128Ideal.defs (F := Ideal)) (onTc (τ := Cert.In128Ideal.τ) (Cert.In128Ideal.main (F := Ideal))) ⟨m, fun _ => 0, g⟩ (fun r => (∀ c : Dev Cert.In128Ideal.nD,
      r.2.mem ((c.tc : Thread Cert.In128Ideal.nD Cert.In128Ideal.τ).loc Cert.In128Ideal.main_arg0) = m ((c.tc : Thread Cert.In128Ideal.nD Cert.In128Ideal.τ).loc Cert.In128Ideal.main_arg0)
      ∧ r.2.mem ((c.tc : Thread Cert.In128Ideal.nD Cert.In128Ideal.τ).loc Cert.In128Ideal.main_arg1) = m ((c.tc : Thread Cert.In128Ideal.nD Cert.In128Ideal.τ).loc Cert.In128Ideal.main_arg1))
      ∧ r.2.sem = fun _ => 0)

def quiescent_In128RefIdeal [hIn128RefIdeal : Cert.In128RefIdeal.Facts] : Prop :=
  ∀ (m : (ℓ : Loc Cert.In128RefIdeal.nD Cert.In128RefIdeal.τ Cert.In128RefIdeal.sig) → Buf (Elt Ideal) ℓ) (g : Dev Cert.In128RefIdeal.nD → PrngReg), Pre_In128RefIdeal m →
    θ_run (Cert.In128RefIdeal.defs (F := Ideal)) (onTc (τ := Cert.In128RefIdeal.τ) (Cert.In128RefIdeal.main (F := Ideal))) ⟨m, fun _ => 0, g⟩ (fun r => (∀ c : Dev Cert.In128RefIdeal.nD,
      r.2.mem ((c.tc : Thread Cert.In128RefIdeal.nD Cert.In128RefIdeal.τ).loc Cert.In128RefIdeal.main_arg0) = m ((c.tc : Thread Cert.In128RefIdeal.nD Cert.In128RefIdeal.τ).loc Cert.In128RefIdeal.main_arg0)
      ∧ r.2.mem ((c.tc : Thread Cert.In128RefIdeal.nD Cert.In128RefIdeal.τ).loc Cert.In128RefIdeal.main_arg1) = m ((c.tc : Thread Cert.In128RefIdeal.nD Cert.In128RefIdeal.τ).loc Cert.In128RefIdeal.main_arg1))
      ∧ r.2.sem = fun _ => 0)

def quiescent_InDb512 [hInDb512 : Cert.InDb512.Facts] : Prop :=
  ∀ (m : (ℓ : Loc Cert.InDb512.nD Cert.InDb512.τ Cert.InDb512.sig) → Buf (Elt Bits) ℓ) (g : Dev Cert.InDb512.nD → PrngReg), Pre_InDb512 m →
    θ_run (Cert.InDb512.defs (F := Bits)) (onTc (τ := Cert.InDb512.τ) (Cert.InDb512.main (F := Bits))) ⟨m, fun _ => 0, g⟩ (fun r => (∀ c : Dev Cert.InDb512.nD,
      r.2.mem ((c.tc : Thread Cert.InDb512.nD Cert.InDb512.τ).loc Cert.InDb512.main_arg0) = m ((c.tc : Thread Cert.InDb512.nD Cert.InDb512.τ).loc Cert.InDb512.main_arg0)
      ∧ r.2.mem ((c.tc : Thread Cert.InDb512.nD Cert.InDb512.τ).loc Cert.InDb512.main_arg1) = m ((c.tc : Thread Cert.InDb512.nD Cert.InDb512.τ).loc Cert.InDb512.main_arg1))
      ∧ r.2.sem = fun _ => 0)

def quiescent_InDb512Ideal [hInDb512Ideal : Cert.InDb512Ideal.Facts] : Prop :=
  ∀ (m : (ℓ : Loc Cert.InDb512Ideal.nD Cert.InDb512Ideal.τ Cert.InDb512Ideal.sig) → Buf (Elt Ideal) ℓ) (g : Dev Cert.InDb512Ideal.nD → PrngReg), Pre_InDb512Ideal m →
    θ_run (Cert.InDb512Ideal.defs (F := Ideal)) (onTc (τ := Cert.InDb512Ideal.τ) (Cert.InDb512Ideal.main (F := Ideal))) ⟨m, fun _ => 0, g⟩ (fun r => (∀ c : Dev Cert.InDb512Ideal.nD,
      r.2.mem ((c.tc : Thread Cert.InDb512Ideal.nD Cert.InDb512Ideal.τ).loc Cert.InDb512Ideal.main_arg0) = m ((c.tc : Thread Cert.InDb512Ideal.nD Cert.InDb512Ideal.τ).loc Cert.InDb512Ideal.main_arg0)
      ∧ r.2.mem ((c.tc : Thread Cert.InDb512Ideal.nD Cert.InDb512Ideal.τ).loc Cert.InDb512Ideal.main_arg1) = m ((c.tc : Thread Cert.InDb512Ideal.nD Cert.InDb512Ideal.τ).loc Cert.InDb512Ideal.main_arg1))
      ∧ r.2.sem = fun _ => 0)

def quiescent_InDb512RefIdeal [hInDb512RefIdeal : Cert.InDb512RefIdeal.Facts] : Prop :=
  ∀ (m : (ℓ : Loc Cert.InDb512RefIdeal.nD Cert.InDb512RefIdeal.τ Cert.InDb512RefIdeal.sig) → Buf (Elt Ideal) ℓ) (g : Dev Cert.InDb512RefIdeal.nD → PrngReg), Pre_InDb512RefIdeal m →
    θ_run (Cert.InDb512RefIdeal.defs (F := Ideal)) (onTc (τ := Cert.InDb512RefIdeal.τ) (Cert.InDb512RefIdeal.main (F := Ideal))) ⟨m, fun _ => 0, g⟩ (fun r => (∀ c : Dev Cert.InDb512RefIdeal.nD,
      r.2.mem ((c.tc : Thread Cert.InDb512RefIdeal.nD Cert.InDb512RefIdeal.τ).loc Cert.InDb512RefIdeal.main_arg0) = m ((c.tc : Thread Cert.InDb512RefIdeal.nD Cert.InDb512RefIdeal.τ).loc Cert.InDb512RefIdeal.main_arg0)
      ∧ r.2.mem ((c.tc : Thread Cert.InDb512RefIdeal.nD Cert.InDb512RefIdeal.τ).loc Cert.InDb512RefIdeal.main_arg1) = m ((c.tc : Thread Cert.InDb512RefIdeal.nD Cert.InDb512RefIdeal.τ).loc Cert.InDb512RefIdeal.main_arg1))
      ∧ r.2.sem = fun _ => 0)

def quiescent_InDb1024 [hInDb1024 : Cert.InDb1024.Facts] : Prop :=
  ∀ (m : (ℓ : Loc Cert.InDb1024.nD Cert.InDb1024.τ Cert.InDb1024.sig) → Buf (Elt Bits) ℓ) (g : Dev Cert.InDb1024.nD → PrngReg), Pre_InDb1024 m →
    θ_run (Cert.InDb1024.defs (F := Bits)) (onTc (τ := Cert.InDb1024.τ) (Cert.InDb1024.main (F := Bits))) ⟨m, fun _ => 0, g⟩ (fun r => (∀ c : Dev Cert.InDb1024.nD,
      r.2.mem ((c.tc : Thread Cert.InDb1024.nD Cert.InDb1024.τ).loc Cert.InDb1024.main_arg0) = m ((c.tc : Thread Cert.InDb1024.nD Cert.InDb1024.τ).loc Cert.InDb1024.main_arg0)
      ∧ r.2.mem ((c.tc : Thread Cert.InDb1024.nD Cert.InDb1024.τ).loc Cert.InDb1024.main_arg1) = m ((c.tc : Thread Cert.InDb1024.nD Cert.InDb1024.τ).loc Cert.InDb1024.main_arg1))
      ∧ r.2.sem = fun _ => 0)

def quiescent_InDb1024Ideal [hInDb1024Ideal : Cert.InDb1024Ideal.Facts] : Prop :=
  ∀ (m : (ℓ : Loc Cert.InDb1024Ideal.nD Cert.InDb1024Ideal.τ Cert.InDb1024Ideal.sig) → Buf (Elt Ideal) ℓ) (g : Dev Cert.InDb1024Ideal.nD → PrngReg), Pre_InDb1024Ideal m →
    θ_run (Cert.InDb1024Ideal.defs (F := Ideal)) (onTc (τ := Cert.InDb1024Ideal.τ) (Cert.InDb1024Ideal.main (F := Ideal))) ⟨m, fun _ => 0, g⟩ (fun r => (∀ c : Dev Cert.InDb1024Ideal.nD,
      r.2.mem ((c.tc : Thread Cert.InDb1024Ideal.nD Cert.InDb1024Ideal.τ).loc Cert.InDb1024Ideal.main_arg0) = m ((c.tc : Thread Cert.InDb1024Ideal.nD Cert.InDb1024Ideal.τ).loc Cert.InDb1024Ideal.main_arg0)
      ∧ r.2.mem ((c.tc : Thread Cert.InDb1024Ideal.nD Cert.InDb1024Ideal.τ).loc Cert.InDb1024Ideal.main_arg1) = m ((c.tc : Thread Cert.InDb1024Ideal.nD Cert.InDb1024Ideal.τ).loc Cert.InDb1024Ideal.main_arg1))
      ∧ r.2.sem = fun _ => 0)

def quiescent_InDb1024RefIdeal [hInDb1024RefIdeal : Cert.InDb1024RefIdeal.Facts] : Prop :=
  ∀ (m : (ℓ : Loc Cert.InDb1024RefIdeal.nD Cert.InDb1024RefIdeal.τ Cert.InDb1024RefIdeal.sig) → Buf (Elt Ideal) ℓ) (g : Dev Cert.InDb1024RefIdeal.nD → PrngReg), Pre_InDb1024RefIdeal m →
    θ_run (Cert.InDb1024RefIdeal.defs (F := Ideal)) (onTc (τ := Cert.InDb1024RefIdeal.τ) (Cert.InDb1024RefIdeal.main (F := Ideal))) ⟨m, fun _ => 0, g⟩ (fun r => (∀ c : Dev Cert.InDb1024RefIdeal.nD,
      r.2.mem ((c.tc : Thread Cert.InDb1024RefIdeal.nD Cert.InDb1024RefIdeal.τ).loc Cert.InDb1024RefIdeal.main_arg0) = m ((c.tc : Thread Cert.InDb1024RefIdeal.nD Cert.InDb1024RefIdeal.τ).loc Cert.InDb1024RefIdeal.main_arg0)
      ∧ r.2.mem ((c.tc : Thread Cert.InDb1024RefIdeal.nD Cert.InDb1024RefIdeal.τ).loc Cert.InDb1024RefIdeal.main_arg1) = m ((c.tc : Thread Cert.InDb1024RefIdeal.nD Cert.InDb1024RefIdeal.τ).loc Cert.InDb1024RefIdeal.main_arg1))
      ∧ r.2.sem = fun _ => 0)

def quiescent_InDb768 [hInDb768 : Cert.InDb768.Facts] : Prop :=
  ∀ (m : (ℓ : Loc Cert.InDb768.nD Cert.InDb768.τ Cert.InDb768.sig) → Buf (Elt Bits) ℓ) (g : Dev Cert.InDb768.nD → PrngReg), Pre_InDb768 m →
    θ_run (Cert.InDb768.defs (F := Bits)) (onTc (τ := Cert.InDb768.τ) (Cert.InDb768.main (F := Bits))) ⟨m, fun _ => 0, g⟩ (fun r => (∀ c : Dev Cert.InDb768.nD,
      r.2.mem ((c.tc : Thread Cert.InDb768.nD Cert.InDb768.τ).loc Cert.InDb768.main_arg0) = m ((c.tc : Thread Cert.InDb768.nD Cert.InDb768.τ).loc Cert.InDb768.main_arg0)
      ∧ r.2.mem ((c.tc : Thread Cert.InDb768.nD Cert.InDb768.τ).loc Cert.InDb768.main_arg1) = m ((c.tc : Thread Cert.InDb768.nD Cert.InDb768.τ).loc Cert.InDb768.main_arg1))
      ∧ r.2.sem = fun _ => 0)

def quiescent_InDb768Ideal [hInDb768Ideal : Cert.InDb768Ideal.Facts] : Prop :=
  ∀ (m : (ℓ : Loc Cert.InDb768Ideal.nD Cert.InDb768Ideal.τ Cert.InDb768Ideal.sig) → Buf (Elt Ideal) ℓ) (g : Dev Cert.InDb768Ideal.nD → PrngReg), Pre_InDb768Ideal m →
    θ_run (Cert.InDb768Ideal.defs (F := Ideal)) (onTc (τ := Cert.InDb768Ideal.τ) (Cert.InDb768Ideal.main (F := Ideal))) ⟨m, fun _ => 0, g⟩ (fun r => (∀ c : Dev Cert.InDb768Ideal.nD,
      r.2.mem ((c.tc : Thread Cert.InDb768Ideal.nD Cert.InDb768Ideal.τ).loc Cert.InDb768Ideal.main_arg0) = m ((c.tc : Thread Cert.InDb768Ideal.nD Cert.InDb768Ideal.τ).loc Cert.InDb768Ideal.main_arg0)
      ∧ r.2.mem ((c.tc : Thread Cert.InDb768Ideal.nD Cert.InDb768Ideal.τ).loc Cert.InDb768Ideal.main_arg1) = m ((c.tc : Thread Cert.InDb768Ideal.nD Cert.InDb768Ideal.τ).loc Cert.InDb768Ideal.main_arg1))
      ∧ r.2.sem = fun _ => 0)

def quiescent_InDb768RefIdeal [hInDb768RefIdeal : Cert.InDb768RefIdeal.Facts] : Prop :=
  ∀ (m : (ℓ : Loc Cert.InDb768RefIdeal.nD Cert.InDb768RefIdeal.τ Cert.InDb768RefIdeal.sig) → Buf (Elt Ideal) ℓ) (g : Dev Cert.InDb768RefIdeal.nD → PrngReg), Pre_InDb768RefIdeal m →
    θ_run (Cert.InDb768RefIdeal.defs (F := Ideal)) (onTc (τ := Cert.InDb768RefIdeal.τ) (Cert.InDb768RefIdeal.main (F := Ideal))) ⟨m, fun _ => 0, g⟩ (fun r => (∀ c : Dev Cert.InDb768RefIdeal.nD,
      r.2.mem ((c.tc : Thread Cert.InDb768RefIdeal.nD Cert.InDb768RefIdeal.τ).loc Cert.InDb768RefIdeal.main_arg0) = m ((c.tc : Thread Cert.InDb768RefIdeal.nD Cert.InDb768RefIdeal.τ).loc Cert.InDb768RefIdeal.main_arg0)
      ∧ r.2.mem ((c.tc : Thread Cert.InDb768RefIdeal.nD Cert.InDb768RefIdeal.τ).loc Cert.InDb768RefIdeal.main_arg1) = m ((c.tc : Thread Cert.InDb768RefIdeal.nD Cert.InDb768RefIdeal.τ).loc Cert.InDb768RefIdeal.main_arg1))
      ∧ r.2.sem = fun _ => 0)

def quiescent_InDb128 [hInDb128 : Cert.InDb128.Facts] : Prop :=
  ∀ (m : (ℓ : Loc Cert.InDb128.nD Cert.InDb128.τ Cert.InDb128.sig) → Buf (Elt Bits) ℓ) (g : Dev Cert.InDb128.nD → PrngReg), Pre_InDb128 m →
    θ_run (Cert.InDb128.defs (F := Bits)) (onTc (τ := Cert.InDb128.τ) (Cert.InDb128.main (F := Bits))) ⟨m, fun _ => 0, g⟩ (fun r => (∀ c : Dev Cert.InDb128.nD,
      r.2.mem ((c.tc : Thread Cert.InDb128.nD Cert.InDb128.τ).loc Cert.InDb128.main_arg0) = m ((c.tc : Thread Cert.InDb128.nD Cert.InDb128.τ).loc Cert.InDb128.main_arg0)
      ∧ r.2.mem ((c.tc : Thread Cert.InDb128.nD Cert.InDb128.τ).loc Cert.InDb128.main_arg1) = m ((c.tc : Thread Cert.InDb128.nD Cert.InDb128.τ).loc Cert.InDb128.main_arg1))
      ∧ r.2.sem = fun _ => 0)

def quiescent_InDb128Ideal [hInDb128Ideal : Cert.InDb128Ideal.Facts] : Prop :=
  ∀ (m : (ℓ : Loc Cert.InDb128Ideal.nD Cert.InDb128Ideal.τ Cert.InDb128Ideal.sig) → Buf (Elt Ideal) ℓ) (g : Dev Cert.InDb128Ideal.nD → PrngReg), Pre_InDb128Ideal m →
    θ_run (Cert.InDb128Ideal.defs (F := Ideal)) (onTc (τ := Cert.InDb128Ideal.τ) (Cert.InDb128Ideal.main (F := Ideal))) ⟨m, fun _ => 0, g⟩ (fun r => (∀ c : Dev Cert.InDb128Ideal.nD,
      r.2.mem ((c.tc : Thread Cert.InDb128Ideal.nD Cert.InDb128Ideal.τ).loc Cert.InDb128Ideal.main_arg0) = m ((c.tc : Thread Cert.InDb128Ideal.nD Cert.InDb128Ideal.τ).loc Cert.InDb128Ideal.main_arg0)
      ∧ r.2.mem ((c.tc : Thread Cert.InDb128Ideal.nD Cert.InDb128Ideal.τ).loc Cert.InDb128Ideal.main_arg1) = m ((c.tc : Thread Cert.InDb128Ideal.nD Cert.InDb128Ideal.τ).loc Cert.InDb128Ideal.main_arg1))
      ∧ r.2.sem = fun _ => 0)

def quiescent_InDb128RefIdeal [hInDb128RefIdeal : Cert.InDb128RefIdeal.Facts] : Prop :=
  ∀ (m : (ℓ : Loc Cert.InDb128RefIdeal.nD Cert.InDb128RefIdeal.τ Cert.InDb128RefIdeal.sig) → Buf (Elt Ideal) ℓ) (g : Dev Cert.InDb128RefIdeal.nD → PrngReg), Pre_InDb128RefIdeal m →
    θ_run (Cert.InDb128RefIdeal.defs (F := Ideal)) (onTc (τ := Cert.InDb128RefIdeal.τ) (Cert.InDb128RefIdeal.main (F := Ideal))) ⟨m, fun _ => 0, g⟩ (fun r => (∀ c : Dev Cert.InDb128RefIdeal.nD,
      r.2.mem ((c.tc : Thread Cert.InDb128RefIdeal.nD Cert.InDb128RefIdeal.τ).loc Cert.InDb128RefIdeal.main_arg0) = m ((c.tc : Thread Cert.InDb128RefIdeal.nD Cert.InDb128RefIdeal.τ).loc Cert.InDb128RefIdeal.main_arg0)
      ∧ r.2.mem ((c.tc : Thread Cert.InDb128RefIdeal.nD Cert.InDb128RefIdeal.τ).loc Cert.InDb128RefIdeal.main_arg1) = m ((c.tc : Thread Cert.InDb128RefIdeal.nD Cert.InDb128RefIdeal.τ).loc Cert.InDb128RefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateDa [hGateDa : Cert.GateDa.Facts] : Prop :=
  ∀ (m : (ℓ : Loc Cert.GateDa.nD Cert.GateDa.τ Cert.GateDa.sig) → Buf (Elt Bits) ℓ) (g : Dev Cert.GateDa.nD → PrngReg), Pre_GateDa m →
    θ_run (Cert.GateDa.defs (F := Bits)) (onTc (τ := Cert.GateDa.τ) (Cert.GateDa.main (F := Bits))) ⟨m, fun _ => 0, g⟩ (fun r => (∀ c : Dev Cert.GateDa.nD,
      r.2.mem ((c.tc : Thread Cert.GateDa.nD Cert.GateDa.τ).loc Cert.GateDa.main_arg0) = m ((c.tc : Thread Cert.GateDa.nD Cert.GateDa.τ).loc Cert.GateDa.main_arg0)
      ∧ r.2.mem ((c.tc : Thread Cert.GateDa.nD Cert.GateDa.τ).loc Cert.GateDa.main_arg1) = m ((c.tc : Thread Cert.GateDa.nD Cert.GateDa.τ).loc Cert.GateDa.main_arg1))
      ∧ r.2.sem = fun _ => 0)

def quiescent_GateDaIdeal [hGateDaIdeal : Cert.GateDaIdeal.Facts] : Prop :=
  ∀ (m : (ℓ : Loc Cert.GateDaIdeal.nD Cert.GateDaIdeal.τ Cert.GateDaIdeal.sig) → Buf (Elt Ideal) ℓ) (g : Dev Cert.GateDaIdeal.nD → PrngReg), Pre_GateDaIdeal m →
    θ_run (Cert.GateDaIdeal.defs (F := Ideal)) (onTc (τ := Cert.GateDaIdeal.τ) (Cert.GateDaIdeal.main (F := Ideal))) ⟨m, fun _ => 0, g⟩ (fun r => (∀ c : Dev Cert.GateDaIdeal.nD,
      r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
      ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1))
      ∧ r.2.sem = fun _ => 0)

def quiescent_GateDaRefIdeal [hGateDaRefIdeal : Cert.GateDaRefIdeal.Facts] : Prop :=
  ∀ (m : (ℓ : Loc Cert.GateDaRefIdeal.nD Cert.GateDaRefIdeal.τ Cert.GateDaRefIdeal.sig) → Buf (Elt Ideal) ℓ) (g : Dev Cert.GateDaRefIdeal.nD → PrngReg), Pre_GateDaRefIdeal m →
    θ_run (Cert.GateDaRefIdeal.defs (F := Ideal)) (onTc (τ := Cert.GateDaRefIdeal.τ) (Cert.GateDaRefIdeal.main (F := Ideal))) ⟨m, fun _ => 0, g⟩ (fun r => (∀ c : Dev Cert.GateDaRefIdeal.nD,
      r.2.mem ((c.tc : Thread Cert.GateDaRefIdeal.nD Cert.GateDaRefIdeal.τ).loc Cert.GateDaRefIdeal.main_arg0) = m ((c.tc : Thread Cert.GateDaRefIdeal.nD Cert.GateDaRefIdeal.τ).loc Cert.GateDaRefIdeal.main_arg0)
      ∧ r.2.mem ((c.tc : Thread Cert.GateDaRefIdeal.nD Cert.GateDaRefIdeal.τ).loc Cert.GateDaRefIdeal.main_arg1) = m ((c.tc : Thread Cert.GateDaRefIdeal.nD Cert.GateDaRefIdeal.τ).loc Cert.GateDaRefIdeal.main_arg1))
      ∧ r.2.sem = fun _ => 0)

def quiescent_GateDb [hGateDb : Cert.GateDb.Facts] : Prop :=
  ∀ (m : (ℓ : Loc Cert.GateDb.nD Cert.GateDb.τ Cert.GateDb.sig) → Buf (Elt Bits) ℓ) (g : Dev Cert.GateDb.nD → PrngReg), Pre_GateDb m →
    θ_run (Cert.GateDb.defs (F := Bits)) (onTc (τ := Cert.GateDb.τ) (Cert.GateDb.main (F := Bits))) ⟨m, fun _ => 0, g⟩ (fun r => (∀ c : Dev Cert.GateDb.nD,
      r.2.mem ((c.tc : Thread Cert.GateDb.nD Cert.GateDb.τ).loc Cert.GateDb.main_arg0) = m ((c.tc : Thread Cert.GateDb.nD Cert.GateDb.τ).loc Cert.GateDb.main_arg0)
      ∧ r.2.mem ((c.tc : Thread Cert.GateDb.nD Cert.GateDb.τ).loc Cert.GateDb.main_arg1) = m ((c.tc : Thread Cert.GateDb.nD Cert.GateDb.τ).loc Cert.GateDb.main_arg1))
      ∧ r.2.sem = fun _ => 0)

def quiescent_GateDbIdeal [hGateDbIdeal : Cert.GateDbIdeal.Facts] : Prop :=
  ∀ (m : (ℓ : Loc Cert.GateDbIdeal.nD Cert.GateDbIdeal.τ Cert.GateDbIdeal.sig) → Buf (Elt Ideal) ℓ) (g : Dev Cert.GateDbIdeal.nD → PrngReg), Pre_GateDbIdeal m →
    θ_run (Cert.GateDbIdeal.defs (F := Ideal)) (onTc (τ := Cert.GateDbIdeal.τ) (Cert.GateDbIdeal.main (F := Ideal))) ⟨m, fun _ => 0, g⟩ (fun r => (∀ c : Dev Cert.GateDbIdeal.nD,
      r.2.mem ((c.tc : Thread Cert.GateDbIdeal.nD Cert.GateDbIdeal.τ).loc Cert.GateDbIdeal.main_arg0) = m ((c.tc : Thread Cert.GateDbIdeal.nD Cert.GateDbIdeal.τ).loc Cert.GateDbIdeal.main_arg0)
      ∧ r.2.mem ((c.tc : Thread Cert.GateDbIdeal.nD Cert.GateDbIdeal.τ).loc Cert.GateDbIdeal.main_arg1) = m ((c.tc : Thread Cert.GateDbIdeal.nD Cert.GateDbIdeal.τ).loc Cert.GateDbIdeal.main_arg1))
      ∧ r.2.sem = fun _ => 0)

def quiescent_GateDbRefIdeal [hGateDbRefIdeal : Cert.GateDbRefIdeal.Facts] : Prop :=
  ∀ (m : (ℓ : Loc Cert.GateDbRefIdeal.nD Cert.GateDbRefIdeal.τ Cert.GateDbRefIdeal.sig) → Buf (Elt Ideal) ℓ) (g : Dev Cert.GateDbRefIdeal.nD → PrngReg), Pre_GateDbRefIdeal m →
    θ_run (Cert.GateDbRefIdeal.defs (F := Ideal)) (onTc (τ := Cert.GateDbRefIdeal.τ) (Cert.GateDbRefIdeal.main (F := Ideal))) ⟨m, fun _ => 0, g⟩ (fun r => (∀ c : Dev Cert.GateDbRefIdeal.nD,
      r.2.mem ((c.tc : Thread Cert.GateDbRefIdeal.nD Cert.GateDbRefIdeal.τ).loc Cert.GateDbRefIdeal.main_arg0) = m ((c.tc : Thread Cert.GateDbRefIdeal.nD Cert.GateDbRefIdeal.τ).loc Cert.GateDbRefIdeal.main_arg0)
      ∧ r.2.mem ((c.tc : Thread Cert.GateDbRefIdeal.nD Cert.GateDbRefIdeal.τ).loc Cert.GateDbRefIdeal.main_arg1) = m ((c.tc : Thread Cert.GateDbRefIdeal.nD Cert.GateDbRefIdeal.τ).loc Cert.GateDbRefIdeal.main_arg1))
      ∧ r.2.sem = fun _ => 0)

def quiescent_Br [hBr : Cert.Br.Facts] : Prop :=
  ∀ (m : (ℓ : Loc Cert.Br.nD Cert.Br.τ Cert.Br.sig) → Buf (Elt Bits) ℓ) (g : Dev Cert.Br.nD → PrngReg), Pre_Br m →
    θ_run (Cert.Br.defs (F := Bits)) (onTc (τ := Cert.Br.τ) (Cert.Br.main (F := Bits))) ⟨m, fun _ => 0, g⟩ (fun r => (∀ c : Dev Cert.Br.nD,
      r.2.mem ((c.tc : Thread Cert.Br.nD Cert.Br.τ).loc Cert.Br.main_arg0) = m ((c.tc : Thread Cert.Br.nD Cert.Br.τ).loc Cert.Br.main_arg0)
      ∧ r.2.mem ((c.tc : Thread Cert.Br.nD Cert.Br.τ).loc Cert.Br.main_arg1) = m ((c.tc : Thread Cert.Br.nD Cert.Br.τ).loc Cert.Br.main_arg1))
      ∧ r.2.sem = fun _ => 0)

def quiescent_BrIdeal [hBrIdeal : Cert.BrIdeal.Facts] : Prop :=
  ∀ (m : (ℓ : Loc Cert.BrIdeal.nD Cert.BrIdeal.τ Cert.BrIdeal.sig) → Buf (Elt Ideal) ℓ) (g : Dev Cert.BrIdeal.nD → PrngReg), Pre_BrIdeal m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ r.2.sem = fun _ => 0)

def quiescent_BrRefIdeal [hBrRefIdeal : Cert.BrRefIdeal.Facts] : Prop :=
  ∀ (m : (ℓ : Loc Cert.BrRefIdeal.nD Cert.BrRefIdeal.τ Cert.BrRefIdeal.sig) → Buf (Elt Ideal) ℓ) (g : Dev Cert.BrRefIdeal.nD → PrngReg), Pre_BrRefIdeal m →
    θ_run (Cert.BrRefIdeal.defs (F := Ideal)) (onTc (τ := Cert.BrRefIdeal.τ) (Cert.BrRefIdeal.main (F := Ideal))) ⟨m, fun _ => 0, g⟩ (fun r => (∀ c : Dev Cert.BrRefIdeal.nD,
      r.2.mem ((c.tc : Thread Cert.BrRefIdeal.nD Cert.BrRefIdeal.τ).loc Cert.BrRefIdeal.main_arg0) = m ((c.tc : Thread Cert.BrRefIdeal.nD Cert.BrRefIdeal.τ).loc Cert.BrRefIdeal.main_arg0)
      ∧ r.2.mem ((c.tc : Thread Cert.BrRefIdeal.nD Cert.BrRefIdeal.τ).loc Cert.BrRefIdeal.main_arg1) = m ((c.tc : Thread Cert.BrRefIdeal.nD Cert.BrRefIdeal.τ).loc Cert.BrRefIdeal.main_arg1))
      ∧ r.2.sem = fun _ => 0)

def quiescent_BrDa [hBrDa : Cert.BrDa.Facts] : Prop :=
  ∀ (m : (ℓ : Loc Cert.BrDa.nD Cert.BrDa.τ Cert.BrDa.sig) → Buf (Elt Bits) ℓ) (g : Dev Cert.BrDa.nD → PrngReg), Pre_BrDa m →
    θ_run (Cert.BrDa.defs (F := Bits)) (onTc (τ := Cert.BrDa.τ) (Cert.BrDa.main (F := Bits))) ⟨m, fun _ => 0, g⟩ (fun r => (∀ c : Dev Cert.BrDa.nD,
      r.2.mem ((c.tc : Thread Cert.BrDa.nD Cert.BrDa.τ).loc Cert.BrDa.main_arg0) = m ((c.tc : Thread Cert.BrDa.nD Cert.BrDa.τ).loc Cert.BrDa.main_arg0)
      ∧ r.2.mem ((c.tc : Thread Cert.BrDa.nD Cert.BrDa.τ).loc Cert.BrDa.main_arg1) = m ((c.tc : Thread Cert.BrDa.nD Cert.BrDa.τ).loc Cert.BrDa.main_arg1))
      ∧ r.2.sem = fun _ => 0)

def quiescent_BrDaIdeal [hBrDaIdeal : Cert.BrDaIdeal.Facts] : Prop :=
  ∀ (m : (ℓ : Loc Cert.BrDaIdeal.nD Cert.BrDaIdeal.τ Cert.BrDaIdeal.sig) → Buf (Elt Ideal) ℓ) (g : Dev Cert.BrDaIdeal.nD → PrngReg), Pre_BrDaIdeal m →
    θ_run (Cert.BrDaIdeal.defs (F := Ideal)) (onTc (τ := Cert.BrDaIdeal.τ) (Cert.BrDaIdeal.main (F := Ideal))) ⟨m, fun _ => 0, g⟩ (fun r => (∀ c : Dev Cert.BrDaIdeal.nD,
      r.2.mem ((c.tc : Thread Cert.BrDaIdeal.nD Cert.BrDaIdeal.τ).loc Cert.BrDaIdeal.main_arg0) = m ((c.tc : Thread Cert.BrDaIdeal.nD Cert.BrDaIdeal.τ).loc Cert.BrDaIdeal.main_arg0)
      ∧ r.2.mem ((c.tc : Thread Cert.BrDaIdeal.nD Cert.BrDaIdeal.τ).loc Cert.BrDaIdeal.main_arg1) = m ((c.tc : Thread Cert.BrDaIdeal.nD Cert.BrDaIdeal.τ).loc Cert.BrDaIdeal.main_arg1))
      ∧ r.2.sem = fun _ => 0)

def quiescent_BrDaRefIdeal [hBrDaRefIdeal : Cert.BrDaRefIdeal.Facts] : Prop :=
  ∀ (m : (ℓ : Loc Cert.BrDaRefIdeal.nD Cert.BrDaRefIdeal.τ Cert.BrDaRefIdeal.sig) → Buf (Elt Ideal) ℓ) (g : Dev Cert.BrDaRefIdeal.nD → PrngReg), Pre_BrDaRefIdeal m →
    θ_run (Cert.BrDaRefIdeal.defs (F := Ideal)) (onTc (τ := Cert.BrDaRefIdeal.τ) (Cert.BrDaRefIdeal.main (F := Ideal))) ⟨m, fun _ => 0, g⟩ (fun r => (∀ c : Dev Cert.BrDaRefIdeal.nD,
      r.2.mem ((c.tc : Thread Cert.BrDaRefIdeal.nD Cert.BrDaRefIdeal.τ).loc Cert.BrDaRefIdeal.main_arg0) = m ((c.tc : Thread Cert.BrDaRefIdeal.nD Cert.BrDaRefIdeal.τ).loc Cert.BrDaRefIdeal.main_arg0)
      ∧ r.2.mem ((c.tc : Thread Cert.BrDaRefIdeal.nD Cert.BrDaRefIdeal.τ).loc Cert.BrDaRefIdeal.main_arg1) = m ((c.tc : Thread Cert.BrDaRefIdeal.nD Cert.BrDaRefIdeal.τ).loc Cert.BrDaRefIdeal.main_arg1))
      ∧ r.2.sem = fun _ => 0)

def quiescent_BrDb [hBrDb : Cert.BrDb.Facts] : Prop :=
  ∀ (m : (ℓ : Loc Cert.BrDb.nD Cert.BrDb.τ Cert.BrDb.sig) → Buf (Elt Bits) ℓ) (g : Dev Cert.BrDb.nD → PrngReg), Pre_BrDb m →
    θ_run (Cert.BrDb.defs (F := Bits)) (onTc (τ := Cert.BrDb.τ) (Cert.BrDb.main (F := Bits))) ⟨m, fun _ => 0, g⟩ (fun r => (∀ c : Dev Cert.BrDb.nD,
      r.2.mem ((c.tc : Thread Cert.BrDb.nD Cert.BrDb.τ).loc Cert.BrDb.main_arg0) = m ((c.tc : Thread Cert.BrDb.nD Cert.BrDb.τ).loc Cert.BrDb.main_arg0)
      ∧ r.2.mem ((c.tc : Thread Cert.BrDb.nD Cert.BrDb.τ).loc Cert.BrDb.main_arg1) = m ((c.tc : Thread Cert.BrDb.nD Cert.BrDb.τ).loc Cert.BrDb.main_arg1))
      ∧ r.2.sem = fun _ => 0)

def quiescent_BrDbIdeal [hBrDbIdeal : Cert.BrDbIdeal.Facts] : Prop :=
  ∀ (m : (ℓ : Loc Cert.BrDbIdeal.nD Cert.BrDbIdeal.τ Cert.BrDbIdeal.sig) → Buf (Elt Ideal) ℓ) (g : Dev Cert.BrDbIdeal.nD → PrngReg), Pre_BrDbIdeal m →
    θ_run (Cert.BrDbIdeal.defs (F := Ideal)) (onTc (τ := Cert.BrDbIdeal.τ) (Cert.BrDbIdeal.main (F := Ideal))) ⟨m, fun _ => 0, g⟩ (fun r => (∀ c : Dev Cert.BrDbIdeal.nD,
      r.2.mem ((c.tc : Thread Cert.BrDbIdeal.nD Cert.BrDbIdeal.τ).loc Cert.BrDbIdeal.main_arg0) = m ((c.tc : Thread Cert.BrDbIdeal.nD Cert.BrDbIdeal.τ).loc Cert.BrDbIdeal.main_arg0)
      ∧ r.2.mem ((c.tc : Thread Cert.BrDbIdeal.nD Cert.BrDbIdeal.τ).loc Cert.BrDbIdeal.main_arg1) = m ((c.tc : Thread Cert.BrDbIdeal.nD Cert.BrDbIdeal.τ).loc Cert.BrDbIdeal.main_arg1))
      ∧ r.2.sem = fun _ => 0)

def quiescent_BrDbRefIdeal [hBrDbRefIdeal : Cert.BrDbRefIdeal.Facts] : Prop :=
  ∀ (m : (ℓ : Loc Cert.BrDbRefIdeal.nD Cert.BrDbRefIdeal.τ Cert.BrDbRefIdeal.sig) → Buf (Elt Ideal) ℓ) (g : Dev Cert.BrDbRefIdeal.nD → PrngReg), Pre_BrDbRefIdeal m →
    θ_run (Cert.BrDbRefIdeal.defs (F := Ideal)) (onTc (τ := Cert.BrDbRefIdeal.τ) (Cert.BrDbRefIdeal.main (F := Ideal))) ⟨m, fun _ => 0, g⟩ (fun r => (∀ c : Dev Cert.BrDbRefIdeal.nD,
      r.2.mem ((c.tc : Thread Cert.BrDbRefIdeal.nD Cert.BrDbRefIdeal.τ).loc Cert.BrDbRefIdeal.main_arg0) = m ((c.tc : Thread Cert.BrDbRefIdeal.nD Cert.BrDbRefIdeal.τ).loc Cert.BrDbRefIdeal.main_arg0)
      ∧ r.2.mem ((c.tc : Thread Cert.BrDbRefIdeal.nD Cert.BrDbRefIdeal.τ).loc Cert.BrDbRefIdeal.main_arg1) = m ((c.tc : Thread Cert.BrDbRefIdeal.nD Cert.BrDbRefIdeal.τ).loc Cert.BrDbRefIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ r.2.sem = fun _ => 0)

def quiescent_OutDaRefIdeal [hOutDaRefIdeal : Cert.OutDaRefIdeal.Facts] : Prop :=
  ∀ (m : (ℓ : Loc Cert.OutDaRefIdeal.nD Cert.OutDaRefIdeal.τ Cert.OutDaRefIdeal.sig) → Buf (Elt Ideal) ℓ) (g : Dev Cert.OutDaRefIdeal.nD → PrngReg), Pre_OutDaRefIdeal m →
    θ_run (Cert.OutDaRefIdeal.defs (F := Ideal)) (onTc (τ := Cert.OutDaRefIdeal.τ) (Cert.OutDaRefIdeal.main (F := Ideal))) ⟨m, fun _ => 0, g⟩ (fun r => (∀ c : Dev Cert.OutDaRefIdeal.nD,
      r.2.mem ((c.tc : Thread Cert.OutDaRefIdeal.nD Cert.OutDaRefIdeal.τ).loc Cert.OutDaRefIdeal.main_arg0) = m ((c.tc : Thread Cert.OutDaRefIdeal.nD Cert.OutDaRefIdeal.τ).loc Cert.OutDaRefIdeal.main_arg0)
      ∧ r.2.mem ((c.tc : Thread Cert.OutDaRefIdeal.nD Cert.OutDaRefIdeal.τ).loc Cert.OutDaRefIdeal.main_arg1) = m ((c.tc : Thread Cert.OutDaRefIdeal.nD Cert.OutDaRefIdeal.τ).loc Cert.OutDaRefIdeal.main_arg1))
      ∧ r.2.sem = fun _ => 0)

def quiescent_AdamWMod [hAdamWMod : Cert.AdamWMod.Facts] : Prop :=
  ∀ (m : (ℓ : Loc Cert.AdamWMod.nD Cert.AdamWMod.τ Cert.AdamWMod.sig) → Buf (Elt Bits) ℓ) (g : Dev Cert.AdamWMod.nD → PrngReg), Pre_AdamWMod m →
    θ_run (Cert.AdamWMod.defs (F := Bits)) (onTc (τ := Cert.AdamWMod.τ) (Cert.AdamWMod.main (F := Bits))) ⟨m, fun _ => 0, g⟩ (fun r => (∀ c : Dev Cert.AdamWMod.nD,
      r.2.mem ((c.tc : Thread Cert.AdamWMod.nD Cert.AdamWMod.τ).loc Cert.AdamWMod.main_arg0) = m ((c.tc : Thread Cert.AdamWMod.nD Cert.AdamWMod.τ).loc Cert.AdamWMod.main_arg0)
      ∧ r.2.mem ((c.tc : Thread Cert.AdamWMod.nD Cert.AdamWMod.τ).loc Cert.AdamWMod.main_arg1) = m ((c.tc : Thread Cert.AdamWMod.nD Cert.AdamWMod.τ).loc Cert.AdamWMod.main_arg1)
      ∧ r.2.mem ((c.tc : Thread Cert.AdamWMod.nD Cert.AdamWMod.τ).loc Cert.AdamWMod.main_arg2) = m ((c.tc : Thread Cert.AdamWMod.nD Cert.AdamWMod.τ).loc Cert.AdamWMod.main_arg2)
      ∧ r.2.mem ((c.tc : Thread Cert.AdamWMod.nD Cert.AdamWMod.τ).loc Cert.AdamWMod.main_arg3) = m ((c.tc : Thread Cert.AdamWMod.nD Cert.AdamWMod.τ).loc Cert.AdamWMod.main_arg3))
      ∧ r.2.sem = fun _ => 0)

def quiescent_AdamWModIdeal [hAdamWModIdeal : Cert.AdamWModIdeal.Facts] : Prop :=
  ∀ (m : (ℓ : Loc Cert.AdamWModIdeal.nD Cert.AdamWModIdeal.τ Cert.AdamWModIdeal.sig) → Buf (Elt Ideal) ℓ) (g : Dev Cert.AdamWModIdeal.nD → PrngReg), Pre_AdamWModIdeal m →
    θ_run (Cert.AdamWModIdeal.defs (F := Ideal)) (onTc (τ := Cert.AdamWModIdeal.τ) (Cert.AdamWModIdeal.main (F := Ideal))) ⟨m, fun _ => 0, g⟩ (fun r => (∀ c : Dev Cert.AdamWModIdeal.nD,
      r.2.mem ((c.tc : Thread Cert.AdamWModIdeal.nD Cert.AdamWModIdeal.τ).loc Cert.AdamWModIdeal.main_arg0) = m ((c.tc : Thread Cert.AdamWModIdeal.nD Cert.AdamWModIdeal.τ).loc Cert.AdamWModIdeal.main_arg0)
      ∧ r.2.mem ((c.tc : Thread Cert.AdamWModIdeal.nD Cert.AdamWModIdeal.τ).loc Cert.AdamWModIdeal.main_arg1) = m ((c.tc : Thread Cert.AdamWModIdeal.nD Cert.AdamWModIdeal.τ).loc Cert.AdamWModIdeal.main_arg1)
      ∧ r.2.mem ((c.tc : Thread Cert.AdamWModIdeal.nD Cert.AdamWModIdeal.τ).loc Cert.AdamWModIdeal.main_arg2) = m ((c.tc : Thread Cert.AdamWModIdeal.nD Cert.AdamWModIdeal.τ).loc Cert.AdamWModIdeal.main_arg2)
      ∧ r.2.mem ((c.tc : Thread Cert.AdamWModIdeal.nD Cert.AdamWModIdeal.τ).loc Cert.AdamWModIdeal.main_arg3) = m ((c.tc : Thread Cert.AdamWModIdeal.nD Cert.AdamWModIdeal.τ).loc Cert.AdamWModIdeal.main_arg3))
      ∧ r.2.sem = fun _ => 0)

def quiescent_AdamWModRefIdeal [hAdamWModRefIdeal : Cert.AdamWModRefIdeal.Facts] : Prop :=
  ∀ (m : (ℓ : Loc Cert.AdamWModRefIdeal.nD Cert.AdamWModRefIdeal.τ Cert.AdamWModRefIdeal.sig) → Buf (Elt Ideal) ℓ) (g : Dev Cert.AdamWModRefIdeal.nD → PrngReg), Pre_AdamWModRefIdeal m →
    θ_run (Cert.AdamWModRefIdeal.defs (F := Ideal)) (onTc (τ := Cert.AdamWModRefIdeal.τ) (Cert.AdamWModRefIdeal.main (F := Ideal))) ⟨m, fun _ => 0, g⟩ (fun r => (∀ c : Dev Cert.AdamWModRefIdeal.nD,
      r.2.mem ((c.tc : Thread Cert.AdamWModRefIdeal.nD Cert.AdamWModRefIdeal.τ).loc Cert.AdamWModRefIdeal.main_arg0) = m ((c.tc : Thread Cert.AdamWModRefIdeal.nD Cert.AdamWModRefIdeal.τ).loc Cert.AdamWModRefIdeal.main_arg0)
      ∧ r.2.mem ((c.tc : Thread Cert.AdamWModRefIdeal.nD Cert.AdamWModRefIdeal.τ).loc Cert.AdamWModRefIdeal.main_arg1) = m ((c.tc : Thread Cert.AdamWModRefIdeal.nD Cert.AdamWModRefIdeal.τ).loc Cert.AdamWModRefIdeal.main_arg1)
      ∧ r.2.mem ((c.tc : Thread Cert.AdamWModRefIdeal.nD Cert.AdamWModRefIdeal.τ).loc Cert.AdamWModRefIdeal.main_arg2) = m ((c.tc : Thread Cert.AdamWModRefIdeal.nD Cert.AdamWModRefIdeal.τ).loc Cert.AdamWModRefIdeal.main_arg2)
      ∧ r.2.mem ((c.tc : Thread Cert.AdamWModRefIdeal.nD Cert.AdamWModRefIdeal.τ).loc Cert.AdamWModRefIdeal.main_arg3) = m ((c.tc : Thread Cert.AdamWModRefIdeal.nD Cert.AdamWModRefIdeal.τ).loc Cert.AdamWModRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamS5WGlu [hAdamS5WGlu : Cert.AdamS5WGlu.Facts] : Prop :=
  ∀ (m : (ℓ : Loc Cert.AdamS5WGlu.nD Cert.AdamS5WGlu.τ Cert.AdamS5WGlu.sig) → Buf (Elt Bits) ℓ) (g : Dev Cert.AdamS5WGlu.nD → PrngReg), Pre_AdamS5WGlu m →
    θ_run (Cert.AdamS5WGlu.defs (F := Bits)) (onTc (τ := Cert.AdamS5WGlu.τ) (Cert.AdamS5WGlu.main (F := Bits))) ⟨m, fun _ => 0, g⟩ (fun r => (∀ c : Dev Cert.AdamS5WGlu.nD,
      r.2.mem ((c.tc : Thread Cert.AdamS5WGlu.nD Cert.AdamS5WGlu.τ).loc Cert.AdamS5WGlu.main_arg0) = m ((c.tc : Thread Cert.AdamS5WGlu.nD Cert.AdamS5WGlu.τ).loc Cert.AdamS5WGlu.main_arg0)
      ∧ r.2.mem ((c.tc : Thread Cert.AdamS5WGlu.nD Cert.AdamS5WGlu.τ).loc Cert.AdamS5WGlu.main_arg1) = m ((c.tc : Thread Cert.AdamS5WGlu.nD Cert.AdamS5WGlu.τ).loc Cert.AdamS5WGlu.main_arg1)
      ∧ r.2.mem ((c.tc : Thread Cert.AdamS5WGlu.nD Cert.AdamS5WGlu.τ).loc Cert.AdamS5WGlu.main_arg2) = m ((c.tc : Thread Cert.AdamS5WGlu.nD Cert.AdamS5WGlu.τ).loc Cert.AdamS5WGlu.main_arg2)
      ∧ r.2.mem ((c.tc : Thread Cert.AdamS5WGlu.nD Cert.AdamS5WGlu.τ).loc Cert.AdamS5WGlu.main_arg3) = m ((c.tc : Thread Cert.AdamS5WGlu.nD Cert.AdamS5WGlu.τ).loc Cert.AdamS5WGlu.main_arg3))
      ∧ r.2.sem = fun _ => 0)

def quiescent_AdamS5WGluIdeal [hAdamS5WGluIdeal : Cert.AdamS5WGluIdeal.Facts] : Prop :=
  ∀ (m : (ℓ : Loc Cert.AdamS5WGluIdeal.nD Cert.AdamS5WGluIdeal.τ Cert.AdamS5WGluIdeal.sig) → Buf (Elt Ideal) ℓ) (g : Dev Cert.AdamS5WGluIdeal.nD → PrngReg), Pre_AdamS5WGluIdeal m →
    θ_run (Cert.AdamS5WGluIdeal.defs (F := Ideal)) (onTc (τ := Cert.AdamS5WGluIdeal.τ) (Cert.AdamS5WGluIdeal.main (F := Ideal))) ⟨m, fun _ => 0, g⟩ (fun r => (∀ c : Dev Cert.AdamS5WGluIdeal.nD,
      r.2.mem ((c.tc : Thread Cert.AdamS5WGluIdeal.nD Cert.AdamS5WGluIdeal.τ).loc Cert.AdamS5WGluIdeal.main_arg0) = m ((c.tc : Thread Cert.AdamS5WGluIdeal.nD Cert.AdamS5WGluIdeal.τ).loc Cert.AdamS5WGluIdeal.main_arg0)
      ∧ r.2.mem ((c.tc : Thread Cert.AdamS5WGluIdeal.nD Cert.AdamS5WGluIdeal.τ).loc Cert.AdamS5WGluIdeal.main_arg1) = m ((c.tc : Thread Cert.AdamS5WGluIdeal.nD Cert.AdamS5WGluIdeal.τ).loc Cert.AdamS5WGluIdeal.main_arg1)
      ∧ r.2.mem ((c.tc : Thread Cert.AdamS5WGluIdeal.nD Cert.AdamS5WGluIdeal.τ).loc Cert.AdamS5WGluIdeal.main_arg2) = m ((c.tc : Thread Cert.AdamS5WGluIdeal.nD Cert.AdamS5WGluIdeal.τ).loc Cert.AdamS5WGluIdeal.main_arg2)
      ∧ r.2.mem ((c.tc : Thread Cert.AdamS5WGluIdeal.nD Cert.AdamS5WGluIdeal.τ).loc Cert.AdamS5WGluIdeal.main_arg3) = m ((c.tc : Thread Cert.AdamS5WGluIdeal.nD Cert.AdamS5WGluIdeal.τ).loc Cert.AdamS5WGluIdeal.main_arg3))
      ∧ r.2.sem = fun _ => 0)

def quiescent_AdamS5WGluRefIdeal [hAdamS5WGluRefIdeal : Cert.AdamS5WGluRefIdeal.Facts] : Prop :=
  ∀ (m : (ℓ : Loc Cert.AdamS5WGluRefIdeal.nD Cert.AdamS5WGluRefIdeal.τ Cert.AdamS5WGluRefIdeal.sig) → Buf (Elt Ideal) ℓ) (g : Dev Cert.AdamS5WGluRefIdeal.nD → PrngReg), Pre_AdamS5WGluRefIdeal m →
    θ_run (Cert.AdamS5WGluRefIdeal.defs (F := Ideal)) (onTc (τ := Cert.AdamS5WGluRefIdeal.τ) (Cert.AdamS5WGluRefIdeal.main (F := Ideal))) ⟨m, fun _ => 0, g⟩ (fun r => (∀ c : Dev Cert.AdamS5WGluRefIdeal.nD,
      r.2.mem ((c.tc : Thread Cert.AdamS5WGluRefIdeal.nD Cert.AdamS5WGluRefIdeal.τ).loc Cert.AdamS5WGluRefIdeal.main_arg0) = m ((c.tc : Thread Cert.AdamS5WGluRefIdeal.nD Cert.AdamS5WGluRefIdeal.τ).loc Cert.AdamS5WGluRefIdeal.main_arg0)
      ∧ r.2.mem ((c.tc : Thread Cert.AdamS5WGluRefIdeal.nD Cert.AdamS5WGluRefIdeal.τ).loc Cert.AdamS5WGluRefIdeal.main_arg1) = m ((c.tc : Thread Cert.AdamS5WGluRefIdeal.nD Cert.AdamS5WGluRefIdeal.τ).loc Cert.AdamS5WGluRefIdeal.main_arg1)
      ∧ r.2.mem ((c.tc : Thread Cert.AdamS5WGluRefIdeal.nD Cert.AdamS5WGluRefIdeal.τ).loc Cert.AdamS5WGluRefIdeal.main_arg2) = m ((c.tc : Thread Cert.AdamS5WGluRefIdeal.nD Cert.AdamS5WGluRefIdeal.τ).loc Cert.AdamS5WGluRefIdeal.main_arg2)
      ∧ r.2.mem ((c.tc : Thread Cert.AdamS5WGluRefIdeal.nD Cert.AdamS5WGluRefIdeal.τ).loc Cert.AdamS5WGluRefIdeal.main_arg3) = m ((c.tc : Thread Cert.AdamS5WGluRefIdeal.nD Cert.AdamS5WGluRefIdeal.τ).loc Cert.AdamS5WGluRefIdeal.main_arg3))
      ∧ r.2.sem = fun _ => 0)

def quiescent_AdamWBranch [hAdamWBranch : Cert.AdamWBranch.Facts] : Prop :=
  ∀ (m : (ℓ : Loc Cert.AdamWBranch.nD Cert.AdamWBranch.τ Cert.AdamWBranch.sig) → Buf (Elt Bits) ℓ) (g : Dev Cert.AdamWBranch.nD → PrngReg), Pre_AdamWBranch m →
    θ_run (Cert.AdamWBranch.defs (F := Bits)) (onTc (τ := Cert.AdamWBranch.τ) (Cert.AdamWBranch.main (F := Bits))) ⟨m, fun _ => 0, g⟩ (fun r => (∀ c : Dev Cert.AdamWBranch.nD,
      r.2.mem ((c.tc : Thread Cert.AdamWBranch.nD Cert.AdamWBranch.τ).loc Cert.AdamWBranch.main_arg0) = m ((c.tc : Thread Cert.AdamWBranch.nD Cert.AdamWBranch.τ).loc Cert.AdamWBranch.main_arg0)
      ∧ r.2.mem ((c.tc : Thread Cert.AdamWBranch.nD Cert.AdamWBranch.τ).loc Cert.AdamWBranch.main_arg1) = m ((c.tc : Thread Cert.AdamWBranch.nD Cert.AdamWBranch.τ).loc Cert.AdamWBranch.main_arg1)
      ∧ r.2.mem ((c.tc : Thread Cert.AdamWBranch.nD Cert.AdamWBranch.τ).loc Cert.AdamWBranch.main_arg2) = m ((c.tc : Thread Cert.AdamWBranch.nD Cert.AdamWBranch.τ).loc Cert.AdamWBranch.main_arg2)
      ∧ r.2.mem ((c.tc : Thread Cert.AdamWBranch.nD Cert.AdamWBranch.τ).loc Cert.AdamWBranch.main_arg3) = m ((c.tc : Thread Cert.AdamWBranch.nD Cert.AdamWBranch.τ).loc Cert.AdamWBranch.main_arg3))
      ∧ r.2.sem = fun _ => 0)

def quiescent_AdamWBranchIdeal [hAdamWBranchIdeal : Cert.AdamWBranchIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg), Pre_AdamWBranchIdeal m →
    θ_run (Cert.AdamWBranchIdeal.defs (F := Ideal)) (onTc (τ := Cert.AdamWBranchIdeal.τ) (Cert.AdamWBranchIdeal.main (F := Ideal))) ⟨m, fun _ => 0, g⟩ (fun r => (∀ c : Dev Cert.AdamWBranchIdeal.nD,
      r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
      ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
      ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
      ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ r.2.sem = fun _ => 0)

def quiescent_AdamWBranchRefIdeal [hAdamWBranchRefIdeal : Cert.AdamWBranchRefIdeal.Facts] : Prop :=
  ∀ (m : (ℓ : Loc Cert.AdamWBranchRefIdeal.nD Cert.AdamWBranchRefIdeal.τ Cert.AdamWBranchRefIdeal.sig) → Buf (Elt Ideal) ℓ) (g : Dev Cert.AdamWBranchRefIdeal.nD → PrngReg), Pre_AdamWBranchRefIdeal m →
    θ_run (Cert.AdamWBranchRefIdeal.defs (F := Ideal)) (onTc (τ := Cert.AdamWBranchRefIdeal.τ) (Cert.AdamWBranchRefIdeal.main (F := Ideal))) ⟨m, fun _ => 0, g⟩ (fun r => (∀ c : Dev Cert.AdamWBranchRefIdeal.nD,
      r.2.mem ((c.tc : Thread Cert.AdamWBranchRefIdeal.nD Cert.AdamWBranchRefIdeal.τ).loc Cert.AdamWBranchRefIdeal.main_arg0) = m ((c.tc : Thread Cert.AdamWBranchRefIdeal.nD Cert.AdamWBranchRefIdeal.τ).loc Cert.AdamWBranchRefIdeal.main_arg0)
      ∧ r.2.mem ((c.tc : Thread Cert.AdamWBranchRefIdeal.nD Cert.AdamWBranchRefIdeal.τ).loc Cert.AdamWBranchRefIdeal.main_arg1) = m ((c.tc : Thread Cert.AdamWBranchRefIdeal.nD Cert.AdamWBranchRefIdeal.τ).loc Cert.AdamWBranchRefIdeal.main_arg1)
      ∧ r.2.mem ((c.tc : Thread Cert.AdamWBranchRefIdeal.nD Cert.AdamWBranchRefIdeal.τ).loc Cert.AdamWBranchRefIdeal.main_arg2) = m ((c.tc : Thread Cert.AdamWBranchRefIdeal.nD Cert.AdamWBranchRefIdeal.τ).loc Cert.AdamWBranchRefIdeal.main_arg2)
      ∧ r.2.mem ((c.tc : Thread Cert.AdamWBranchRefIdeal.nD Cert.AdamWBranchRefIdeal.τ).loc Cert.AdamWBranchRefIdeal.main_arg3) = m ((c.tc : Thread Cert.AdamWBranchRefIdeal.nD Cert.AdamWBranchRefIdeal.τ).loc Cert.AdamWBranchRefIdeal.main_arg3))
      ∧ r.2.sem = fun _ => 0)

def quiescent_AdamWGate [hAdamWGate : Cert.AdamWGate.Facts] : Prop :=
  ∀ (m : (ℓ : Loc Cert.AdamWGate.nD Cert.AdamWGate.τ Cert.AdamWGate.sig) → Buf (Elt Bits) ℓ) (g : Dev Cert.AdamWGate.nD → PrngReg), Pre_AdamWGate m →
    θ_run (Cert.AdamWGate.defs (F := Bits)) (onTc (τ := Cert.AdamWGate.τ) (Cert.AdamWGate.main (F := Bits))) ⟨m, fun _ => 0, g⟩ (fun r => (∀ c : Dev Cert.AdamWGate.nD,
      r.2.mem ((c.tc : Thread Cert.AdamWGate.nD Cert.AdamWGate.τ).loc Cert.AdamWGate.main_arg0) = m ((c.tc : Thread Cert.AdamWGate.nD Cert.AdamWGate.τ).loc Cert.AdamWGate.main_arg0)
      ∧ r.2.mem ((c.tc : Thread Cert.AdamWGate.nD Cert.AdamWGate.τ).loc Cert.AdamWGate.main_arg1) = m ((c.tc : Thread Cert.AdamWGate.nD Cert.AdamWGate.τ).loc Cert.AdamWGate.main_arg1)
      ∧ r.2.mem ((c.tc : Thread Cert.AdamWGate.nD Cert.AdamWGate.τ).loc Cert.AdamWGate.main_arg2) = m ((c.tc : Thread Cert.AdamWGate.nD Cert.AdamWGate.τ).loc Cert.AdamWGate.main_arg2)
      ∧ r.2.mem ((c.tc : Thread Cert.AdamWGate.nD Cert.AdamWGate.τ).loc Cert.AdamWGate.main_arg3) = m ((c.tc : Thread Cert.AdamWGate.nD Cert.AdamWGate.τ).loc Cert.AdamWGate.main_arg3))
      ∧ r.2.sem = fun _ => 0)

def quiescent_AdamWGateIdeal [hAdamWGateIdeal : Cert.AdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg), Pre_AdamWGateIdeal m →
    θ_run (Cert.AdamWGateIdeal.defs (F := Ideal)) (onTc (τ := Cert.AdamWGateIdeal.τ) (Cert.AdamWGateIdeal.main (F := Ideal))) ⟨m, fun _ => 0, g⟩ (fun r => (∀ c : Dev Cert.AdamWGateIdeal.nD,
      r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
      ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
      ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
      ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ r.2.sem = fun _ => 0)

def quiescent_AdamWGateRefIdeal [hAdamWGateRefIdeal : Cert.AdamWGateRefIdeal.Facts] : Prop :=
  ∀ (m : (ℓ : Loc Cert.AdamWGateRefIdeal.nD Cert.AdamWGateRefIdeal.τ Cert.AdamWGateRefIdeal.sig) → Buf (Elt Ideal) ℓ) (g : Dev Cert.AdamWGateRefIdeal.nD → PrngReg), Pre_AdamWGateRefIdeal m →
    θ_run (Cert.AdamWGateRefIdeal.defs (F := Ideal)) (onTc (τ := Cert.AdamWGateRefIdeal.τ) (Cert.AdamWGateRefIdeal.main (F := Ideal))) ⟨m, fun _ => 0, g⟩ (fun r => (∀ c : Dev Cert.AdamWGateRefIdeal.nD,
      r.2.mem ((c.tc : Thread Cert.AdamWGateRefIdeal.nD Cert.AdamWGateRefIdeal.τ).loc Cert.AdamWGateRefIdeal.main_arg0) = m ((c.tc : Thread Cert.AdamWGateRefIdeal.nD Cert.AdamWGateRefIdeal.τ).loc Cert.AdamWGateRefIdeal.main_arg0)
      ∧ r.2.mem ((c.tc : Thread Cert.AdamWGateRefIdeal.nD Cert.AdamWGateRefIdeal.τ).loc Cert.AdamWGateRefIdeal.main_arg1) = m ((c.tc : Thread Cert.AdamWGateRefIdeal.nD Cert.AdamWGateRefIdeal.τ).loc Cert.AdamWGateRefIdeal.main_arg1)
      ∧ r.2.mem ((c.tc : Thread Cert.AdamWGateRefIdeal.nD Cert.AdamWGateRefIdeal.τ).loc Cert.AdamWGateRefIdeal.main_arg2) = m ((c.tc : Thread Cert.AdamWGateRefIdeal.nD Cert.AdamWGateRefIdeal.τ).loc Cert.AdamWGateRefIdeal.main_arg2)
      ∧ r.2.mem ((c.tc : Thread Cert.AdamWGateRefIdeal.nD Cert.AdamWGateRefIdeal.τ).loc Cert.AdamWGateRefIdeal.main_arg3) = m ((c.tc : Thread Cert.AdamWGateRefIdeal.nD Cert.AdamWGateRefIdeal.τ).loc Cert.AdamWGateRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0)
      ∧ r.2.mem ((c.tc : Thread Cert.ScanBwd.nD Cert.ScanBwd.τ).loc Cert.ScanBwd.main_arg1) = m ((c.tc : Thread Cert.ScanBwd.nD Cert.ScanBwd.τ).loc Cert.ScanBwd.main_arg1)
      ∧ r.2.mem ((c.tc : Thread Cert.ScanBwd.nD Cert.ScanBwd.τ).loc Cert.ScanBwd.main_arg2) = m ((c.tc : Thread Cert.ScanBwd.nD Cert.ScanBwd.τ).loc Cert.ScanBwd.main_arg2))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2))
      ∧ r.2.sem = fun _ => 0)

def quiescent_ScanBwdIdeal_pre_decay_in_range [hScanBwdIdeal : Cert.ScanBwdIdeal.Facts] [hPre_decay_in_range : Cert.Pre_decay_in_range.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal_decay_in_range m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2))
      ∧ r.2.sem = fun _ => 0)

def quiescent_ScanBwdRefIdeal [hScanBwdRefIdeal : Cert.ScanBwdRefIdeal.Facts] : Prop :=
  ∀ (m : (ℓ : Loc Cert.ScanBwdRefIdeal.nD Cert.ScanBwdRefIdeal.τ Cert.ScanBwdRefIdeal.sig) → Buf (Elt Ideal) ℓ) (g : Dev Cert.ScanBwdRefIdeal.nD → PrngReg), Pre_ScanBwdRefIdeal m →
    θ_run (Cert.ScanBwdRefIdeal.defs (F := Ideal)) (onTc (τ := Cert.ScanBwdRefIdeal.τ) (Cert.ScanBwdRefIdeal.main (F := Ideal))) ⟨m, fun _ => 0, g⟩ (fun r => (∀ c : Dev Cert.ScanBwdRefIdeal.nD,
      r.2.mem ((c.tc : Thread Cert.ScanBwdRefIdeal.nD Cert.ScanBwdRefIdeal.τ).loc Cert.ScanBwdRefIdeal.main_arg0) = m ((c.tc : Thread Cert.ScanBwdRefIdeal.nD Cert.ScanBwdRefIdeal.τ).loc Cert.ScanBwdRefIdeal.main_arg0)
      ∧ r.2.mem ((c.tc : Thread Cert.ScanBwdRefIdeal.nD Cert.ScanBwdRefIdeal.τ).loc Cert.ScanBwdRefIdeal.main_arg1) = m ((c.tc : Thread Cert.ScanBwdRefIdeal.nD Cert.ScanBwdRefIdeal.τ).loc Cert.ScanBwdRefIdeal.main_arg1)
      ∧ r.2.mem ((c.tc : Thread Cert.ScanBwdRefIdeal.nD Cert.ScanBwdRefIdeal.τ).loc Cert.ScanBwdRefIdeal.main_arg2) = m ((c.tc : Thread Cert.ScanBwdRefIdeal.nD Cert.ScanBwdRefIdeal.τ).loc Cert.ScanBwdRefIdeal.main_arg2))
      ∧ r.2.sem = fun _ => 0)

def quiescent_ScanBwdRefIdeal_pre_decay_in_range [hScanBwdRefIdeal : Cert.ScanBwdRefIdeal.Facts] [hPre_decay_in_range : Cert.Pre_decay_in_range.Facts] : Prop :=
  ∀ (m : (ℓ : Loc Cert.ScanBwdRefIdeal.nD Cert.ScanBwdRefIdeal.τ Cert.ScanBwdRefIdeal.sig) → Buf (Elt Ideal) ℓ) (g : Dev Cert.ScanBwdRefIdeal.nD → PrngReg), Pre_ScanBwdRefIdeal_decay_in_range m →
    θ_run (Cert.ScanBwdRefIdeal.defs (F := Ideal)) (onTc (τ := Cert.ScanBwdRefIdeal.τ) (Cert.ScanBwdRefIdeal.main (F := Ideal))) ⟨m, fun _ => 0, g⟩ (fun r => (∀ c : Dev Cert.ScanBwdRefIdeal.nD,
      r.2.mem ((c.tc : Thread Cert.ScanBwdRefIdeal.nD Cert.ScanBwdRefIdeal.τ).loc Cert.ScanBwdRefIdeal.main_arg0) = m ((c.tc : Thread Cert.ScanBwdRefIdeal.nD Cert.ScanBwdRefIdeal.τ).loc Cert.ScanBwdRefIdeal.main_arg0)
      ∧ r.2.mem ((c.tc : Thread Cert.ScanBwdRefIdeal.nD Cert.ScanBwdRefIdeal.τ).loc Cert.ScanBwdRefIdeal.main_arg1) = m ((c.tc : Thread Cert.ScanBwdRefIdeal.nD Cert.ScanBwdRefIdeal.τ).loc Cert.ScanBwdRefIdeal.main_arg1)
      ∧ r.2.mem ((c.tc : Thread Cert.ScanBwdRefIdeal.nD Cert.ScanBwdRefIdeal.τ).loc Cert.ScanBwdRefIdeal.main_arg2) = m ((c.tc : Thread Cert.ScanBwdRefIdeal.nD Cert.ScanBwdRefIdeal.τ).loc Cert.ScanBwdRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)) (v3 : (c : Dev Cert.MixIdeal.nD) → Buf (Elt Ideal) ((c.tc : Thread Cert.MixIdeal.nD Cert.MixIdeal.τ).loc Cert.MixIdeal.main_v1_3)) (v4 : (c : Dev Cert.MixIdeal.nD) → Buf (Elt Ideal) ((c.tc : Thread Cert.MixIdeal.nD Cert.MixIdeal.τ).loc Cert.MixIdeal.main_v1_4)) (v5 : (c : Dev Cert.MixIdeal.nD) → Buf (Elt Ideal) ((c.tc : Thread Cert.MixIdeal.nD Cert.MixIdeal.τ).loc Cert.MixIdeal.main_v1_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_v1_3) = v3 c
          ∧ r.2.mem ((c.tc : Thread Cert.MixIdeal.nD Cert.MixIdeal.τ).loc Cert.MixIdeal.main_v1_4) = v4 c
          ∧ r.2.mem ((c.tc : Thread Cert.MixIdeal.nD Cert.MixIdeal.τ).loc Cert.MixIdeal.main_v1_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v34) = v0 c
          ∧ r.2.mem ((c.tc : Thread Cert.MixRefIdeal.nD Cert.MixRefIdeal.τ).loc Cert.MixRefIdeal.main_v36) = v1 c
          ∧ r.2.mem ((c.tc : Thread Cert.MixRefIdeal.nD Cert.MixRefIdeal.τ).loc Cert.MixRefIdeal.main_v38) = v2 c
          ∧ r.2.mem ((c.tc : Thread Cert.MixRefIdeal.nD Cert.MixRefIdeal.τ).loc Cert.MixRefIdeal.main_v40) = v3 c
          ∧ r.2.mem ((c.tc : Thread Cert.MixRefIdeal.nD Cert.MixRefIdeal.τ).loc Cert.MixRefIdeal.main_v42) = v4 c
          ∧ r.2.mem ((c.tc : Thread Cert.MixRefIdeal.nD Cert.MixRefIdeal.τ).loc Cert.MixRefIdeal.main_v44) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_InDa_InDaIdeal : Prop :=
  True

def algebraic_InDaIdeal_InDaRefIdeal [hInDaIdeal : Cert.InDaIdeal.Facts] [hInDaRefIdeal : Cert.InDaRefIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaRefIdeal.nD Cert.InDaRefIdeal.τ Cert.InDaRefIdeal.sig) → Buf (Elt Ideal) ℓ) (g' : Dev Cert.InDaRefIdeal.nD → PrngReg), Pre_InDaIdeal m →
    (∀ c : Dev Cert.InDaIdeal.nD,
      m' ((c.tc : Thread Cert.InDaRefIdeal.nD Cert.InDaRefIdeal.τ).loc Cert.InDaRefIdeal.main_arg0) = m ((c.tc : Thread Cert.InDaIdeal.nD Cert.InDaIdeal.τ).loc Cert.InDaIdeal.main_arg0)
      ∧ m' ((c.tc : Thread Cert.InDaRefIdeal.nD Cert.InDaRefIdeal.τ).loc Cert.InDaRefIdeal.main_arg1) = m ((c.tc : Thread Cert.InDaIdeal.nD Cert.InDaIdeal.τ).loc Cert.InDaIdeal.main_arg1)
      ∧ m' ((c.tc : Thread Cert.InDaRefIdeal.nD Cert.InDaRefIdeal.τ).loc Cert.InDaRefIdeal.main_arg2) = m ((c.tc : Thread Cert.InDaIdeal.nD Cert.InDaIdeal.τ).loc Cert.InDaIdeal.main_arg2)
      ∧ m' ((c.tc : Thread Cert.InDaRefIdeal.nD Cert.InDaRefIdeal.τ).loc Cert.InDaRefIdeal.main_arg3) = m ((c.tc : Thread Cert.InDaIdeal.nD Cert.InDaIdeal.τ).loc Cert.InDaIdeal.main_arg3)
      ∧ m' ((c.tc : Thread Cert.InDaRefIdeal.nD Cert.InDaRefIdeal.τ).loc Cert.InDaRefIdeal.main_arg4) = m ((c.tc : Thread Cert.InDaIdeal.nD Cert.InDaIdeal.τ).loc Cert.InDaIdeal.main_arg4)
      ∧ m' ((c.tc : Thread Cert.InDaRefIdeal.nD Cert.InDaRefIdeal.τ).loc Cert.InDaRefIdeal.main_arg5) = m ((c.tc : Thread Cert.InDaIdeal.nD Cert.InDaIdeal.τ).loc Cert.InDaIdeal.main_arg5)
      ∧ m' ((c.tc : Thread Cert.InDaRefIdeal.nD Cert.InDaRefIdeal.τ).loc Cert.InDaRefIdeal.main_arg6) = m ((c.tc : Thread Cert.InDaIdeal.nD Cert.InDaIdeal.τ).loc Cert.InDaIdeal.main_arg6)
      ∧ m' ((c.tc : Thread Cert.InDaRefIdeal.nD Cert.InDaRefIdeal.τ).loc Cert.InDaRefIdeal.main_arg7) = m ((c.tc : Thread Cert.InDaIdeal.nD Cert.InDaIdeal.τ).loc Cert.InDaIdeal.main_arg7)
      ∧ m' ((c.tc : Thread Cert.InDaRefIdeal.nD Cert.InDaRefIdeal.τ).loc Cert.InDaRefIdeal.main_arg8) = m ((c.tc : Thread Cert.InDaIdeal.nD Cert.InDaIdeal.τ).loc Cert.InDaIdeal.main_arg8)
      ∧ m' ((c.tc : Thread Cert.InDaRefIdeal.nD Cert.InDaRefIdeal.τ).loc Cert.InDaRefIdeal.main_arg9) = m ((c.tc : Thread Cert.InDaIdeal.nD Cert.InDaIdeal.τ).loc Cert.InDaIdeal.main_arg9)
      ∧ m' ((c.tc : Thread Cert.InDaRefIdeal.nD Cert.InDaRefIdeal.τ).loc Cert.InDaRefIdeal.main_arg10) = m ((c.tc : Thread Cert.InDaIdeal.nD Cert.InDaIdeal.τ).loc Cert.InDaIdeal.main_arg10)
      ∧ m' ((c.tc : Thread Cert.InDaRefIdeal.nD Cert.InDaRefIdeal.τ).loc Cert.InDaRefIdeal.main_arg11) = m ((c.tc : Thread Cert.InDaIdeal.nD Cert.InDaIdeal.τ).loc Cert.InDaIdeal.main_arg11)
      ∧ m' ((c.tc : Thread Cert.InDaRefIdeal.nD Cert.InDaRefIdeal.τ).loc Cert.InDaRefIdeal.main_arg12) = m ((c.tc : Thread Cert.InDaIdeal.nD Cert.InDaIdeal.τ).loc Cert.InDaIdeal.main_arg12)
      ∧ m' ((c.tc : Thread Cert.InDaRefIdeal.nD Cert.InDaRefIdeal.τ).loc Cert.InDaRefIdeal.main_arg13) = m ((c.tc : Thread Cert.InDaIdeal.nD Cert.InDaIdeal.τ).loc Cert.InDaIdeal.main_arg13)
      ∧ m' ((c.tc : Thread Cert.InDaRefIdeal.nD Cert.InDaRefIdeal.τ).loc Cert.InDaRefIdeal.main_arg14) = m ((c.tc : Thread Cert.InDaIdeal.nD Cert.InDaIdeal.τ).loc Cert.InDaIdeal.main_arg14)
      ∧ m' ((c.tc : Thread Cert.InDaRefIdeal.nD Cert.InDaRefIdeal.τ).loc Cert.InDaRefIdeal.main_arg15) = m ((c.tc : Thread Cert.InDaIdeal.nD Cert.InDaIdeal.τ).loc Cert.InDaIdeal.main_arg15)
      ∧ m' ((c.tc : Thread Cert.InDaRefIdeal.nD Cert.InDaRefIdeal.τ).loc Cert.InDaRefIdeal.main_arg16) = m ((c.tc : Thread Cert.InDaIdeal.nD Cert.InDaIdeal.τ).loc Cert.InDaIdeal.main_arg16)
      ∧ m' ((c.tc : Thread Cert.InDaRefIdeal.nD Cert.InDaRefIdeal.τ).loc Cert.InDaRefIdeal.main_arg17) = m ((c.tc : Thread Cert.InDaIdeal.nD Cert.InDaIdeal.τ).loc Cert.InDaIdeal.main_arg17)
      ∧ m' ((c.tc : Thread Cert.InDaRefIdeal.nD Cert.InDaRefIdeal.τ).loc Cert.InDaRefIdeal.main_arg18) = m ((c.tc : Thread Cert.InDaIdeal.nD Cert.InDaIdeal.τ).loc Cert.InDaIdeal.main_arg18)
      ∧ m' ((c.tc : Thread Cert.InDaRefIdeal.nD Cert.InDaRefIdeal.τ).loc Cert.InDaRefIdeal.main_arg19) = m ((c.tc : Thread Cert.InDaIdeal.nD Cert.InDaIdeal.τ).loc Cert.InDaIdeal.main_arg19)
      ∧ m' ((c.tc : Thread Cert.InDaRefIdeal.nD Cert.InDaRefIdeal.τ).loc Cert.InDaRefIdeal.main_arg20) = m ((c.tc : Thread Cert.InDaIdeal.nD Cert.InDaIdeal.τ).loc Cert.InDaIdeal.main_arg20)
      ∧ m' ((c.tc : Thread Cert.InDaRefIdeal.nD Cert.InDaRefIdeal.τ).loc Cert.InDaRefIdeal.main_arg21) = m ((c.tc : Thread Cert.InDaIdeal.nD Cert.InDaIdeal.τ).loc Cert.InDaIdeal.main_arg21)) →
    ∃ (v0 : (c : Dev Cert.InDaIdeal.nD) → Buf (Elt Ideal) ((c.tc : Thread Cert.InDaIdeal.nD Cert.InDaIdeal.τ).loc Cert.InDaIdeal.main_v0)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v0) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
          ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
          ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4)
          ∧ r.2.mem ((c.tc : Thread Cert.InDaIdeal.nD Cert.InDaIdeal.τ).loc Cert.InDaIdeal.main_arg5) = m ((c.tc : Thread Cert.InDaIdeal.nD Cert.InDaIdeal.τ).loc Cert.InDaIdeal.main_arg5)
          ∧ r.2.mem ((c.tc : Thread Cert.InDaIdeal.nD Cert.InDaIdeal.τ).loc Cert.InDaIdeal.main_arg6) = m ((c.tc : Thread Cert.InDaIdeal.nD Cert.InDaIdeal.τ).loc Cert.InDaIdeal.main_arg6)
          ∧ r.2.mem ((c.tc : Thread Cert.InDaIdeal.nD Cert.InDaIdeal.τ).loc Cert.InDaIdeal.main_arg7) = m ((c.tc : Thread Cert.InDaIdeal.nD Cert.InDaIdeal.τ).loc Cert.InDaIdeal.main_arg7)
          ∧ r.2.mem ((c.tc : Thread Cert.InDaIdeal.nD Cert.InDaIdeal.τ).loc Cert.InDaIdeal.main_arg8) = m ((c.tc : Thread Cert.InDaIdeal.nD Cert.InDaIdeal.τ).loc Cert.InDaIdeal.main_arg8)
          ∧ r.2.mem ((c.tc : Thread Cert.InDaIdeal.nD Cert.InDaIdeal.τ).loc Cert.InDaIdeal.main_arg9) = m ((c.tc : Thread Cert.InDaIdeal.nD Cert.InDaIdeal.τ).loc Cert.InDaIdeal.main_arg9)
          ∧ r.2.mem ((c.tc : Thread Cert.InDaIdeal.nD Cert.InDaIdeal.τ).loc Cert.InDaIdeal.main_arg10) = m ((c.tc : Thread Cert.InDaIdeal.nD Cert.InDaIdeal.τ).loc Cert.InDaIdeal.main_arg10)
          ∧ r.2.mem ((c.tc : Thread Cert.InDaIdeal.nD Cert.InDaIdeal.τ).loc Cert.InDaIdeal.main_arg11) = m ((c.tc : Thread Cert.InDaIdeal.nD Cert.InDaIdeal.τ).loc Cert.InDaIdeal.main_arg11)
          ∧ r.2.mem ((c.tc : Thread Cert.InDaIdeal.nD Cert.InDaIdeal.τ).loc Cert.InDaIdeal.main_arg12) = m ((c.tc : Thread Cert.InDaIdeal.nD Cert.InDaIdeal.τ).loc Cert.InDaIdeal.main_arg12)
          ∧ r.2.mem ((c.tc : Thread Cert.InDaIdeal.nD Cert.InDaIdeal.τ).loc Cert.InDaIdeal.main_arg13) = m ((c.tc : Thread Cert.InDaIdeal.nD Cert.InDaIdeal.τ).loc Cert.InDaIdeal.main_arg13)
          ∧ r.2.mem ((c.tc : Thread Cert.InDaIdeal.nD Cert.InDaIdeal.τ).loc Cert.InDaIdeal.main_arg14) = m ((c.tc : Thread Cert.InDaIdeal.nD Cert.InDaIdeal.τ).loc Cert.InDaIdeal.main_arg14)
          ∧ r.2.mem ((c.tc : Thread Cert.InDaIdeal.nD Cert.InDaIdeal.τ).loc Cert.InDaIdeal.main_arg15) = m ((c.tc : Thread Cert.InDaIdeal.nD Cert.InDaIdeal.τ).loc Cert.InDaIdeal.main_arg15)
          ∧ r.2.mem ((c.tc : Thread Cert.InDaIdeal.nD Cert.InDaIdeal.τ).loc Cert.InDaIdeal.main_arg16) = m ((c.tc : Thread Cert.InDaIdeal.nD Cert.InDaIdeal.τ).loc Cert.InDaIdeal.main_arg16)
          ∧ r.2.mem ((c.tc : Thread Cert.InDaIdeal.nD Cert.InDaIdeal.τ).loc Cert.InDaIdeal.main_arg17) = m ((c.tc : Thread Cert.InDaIdeal.nD Cert.InDaIdeal.τ).loc Cert.InDaIdeal.main_arg17)
          ∧ r.2.mem ((c.tc : Thread Cert.InDaIdeal.nD Cert.InDaIdeal.τ).loc Cert.InDaIdeal.main_arg18) = m ((c.tc : Thread Cert.InDaIdeal.nD Cert.InDaIdeal.τ).loc Cert.InDaIdeal.main_arg18)
          ∧ r.2.mem ((c.tc : Thread Cert.InDaIdeal.nD Cert.InDaIdeal.τ).loc Cert.InDaIdeal.main_arg19) = m ((c.tc : Thread Cert.InDaIdeal.nD Cert.InDaIdeal.τ).loc Cert.InDaIdeal.main_arg19)
          ∧ r.2.mem ((c.tc : Thread Cert.InDaIdeal.nD Cert.InDaIdeal.τ).loc Cert.InDaIdeal.main_arg20) = m ((c.tc : Thread Cert.InDaIdeal.nD Cert.InDaIdeal.τ).loc Cert.InDaIdeal.main_arg20)
          ∧ r.2.mem ((c.tc : Thread Cert.InDaIdeal.nD Cert.InDaIdeal.τ).loc Cert.InDaIdeal.main_arg21) = m ((c.tc : Thread Cert.InDaIdeal.nD Cert.InDaIdeal.τ).loc Cert.InDaIdeal.main_arg21))
      ∧ θ_run (Cert.InDaRefIdeal.defs (F := Ideal)) (onTc (τ := Cert.InDaRefIdeal.τ) (Cert.InDaRefIdeal.main (F := Ideal))) ⟨m', fun _ => 0, g'⟩ (fun r => ∀ c : Dev Cert.InDaRefIdeal.nD,
          r.2.mem ((c.tc : Thread Cert.InDaRefIdeal.nD Cert.InDaRefIdeal.τ).loc Cert.InDaRefIdeal.main_v44) = v0 c
          ∧ r.2.mem ((c.tc : Thread Cert.InDaRefIdeal.nD Cert.InDaRefIdeal.τ).loc Cert.InDaRefIdeal.main_arg0) = m' ((c.tc : Thread Cert.InDaRefIdeal.nD Cert.InDaRefIdeal.τ).loc Cert.InDaRefIdeal.main_arg0)
          ∧ r.2.mem ((c.tc : Thread Cert.InDaRefIdeal.nD Cert.InDaRefIdeal.τ).loc Cert.InDaRefIdeal.main_arg1) = m' ((c.tc : Thread Cert.InDaRefIdeal.nD Cert.InDaRefIdeal.τ).loc Cert.InDaRefIdeal.main_arg1)
          ∧ r.2.mem ((c.tc : Thread Cert.InDaRefIdeal.nD Cert.InDaRefIdeal.τ).loc Cert.InDaRefIdeal.main_arg2) = m' ((c.tc : Thread Cert.InDaRefIdeal.nD Cert.InDaRefIdeal.τ).loc Cert.InDaRefIdeal.main_arg2)
          ∧ r.2.mem ((c.tc : Thread Cert.InDaRefIdeal.nD Cert.InDaRefIdeal.τ).loc Cert.InDaRefIdeal.main_arg3) = m' ((c.tc : Thread Cert.InDaRefIdeal.nD Cert.InDaRefIdeal.τ).loc Cert.InDaRefIdeal.main_arg3)
          ∧ r.2.mem ((c.tc : Thread Cert.InDaRefIdeal.nD Cert.InDaRefIdeal.τ).loc Cert.InDaRefIdeal.main_arg4) = m' ((c.tc : Thread Cert.InDaRefIdeal.nD Cert.InDaRefIdeal.τ).loc Cert.InDaRefIdeal.main_arg4)
          ∧ r.2.mem ((c.tc : Thread Cert.InDaRefIdeal.nD Cert.InDaRefIdeal.τ).loc Cert.InDaRefIdeal.main_arg5) = m' ((c.tc : Thread Cert.InDaRefIdeal.nD Cert.InDaRefIdeal.τ).loc Cert.InDaRefIdeal.main_arg5)
          ∧ r.2.mem ((c.tc : Thread Cert.InDaRefIdeal.nD Cert.InDaRefIdeal.τ).loc Cert.InDaRefIdeal.main_arg6) = m' ((c.tc : Thread Cert.InDaRefIdeal.nD Cert.InDaRefIdeal.τ).loc Cert.InDaRefIdeal.main_arg6)
          ∧ r.2.mem ((c.tc : Thread Cert.InDaRefIdeal.nD Cert.InDaRefIdeal.τ).loc Cert.InDaRefIdeal.main_arg7) = m' ((c.tc : Thread Cert.InDaRefIdeal.nD Cert.InDaRefIdeal.τ).loc Cert.InDaRefIdeal.main_arg7)
          ∧ r.2.mem ((c.tc : Thread Cert.InDaRefIdeal.nD Cert.InDaRefIdeal.τ).loc Cert.InDaRefIdeal.main_arg8) = m' ((c.tc : Thread Cert.InDaRefIdeal.nD Cert.InDaRefIdeal.τ).loc Cert.InDaRefIdeal.main_arg8)
          ∧ r.2.mem ((c.tc : Thread Cert.InDaRefIdeal.nD Cert.InDaRefIdeal.τ).loc Cert.InDaRefIdeal.main_arg9) = m' ((c.tc : Thread Cert.InDaRefIdeal.nD Cert.InDaRefIdeal.τ).loc Cert.InDaRefIdeal.main_arg9)
          ∧ r.2.mem ((c.tc : Thread Cert.InDaRefIdeal.nD Cert.InDaRefIdeal.τ).loc Cert.InDaRefIdeal.main_arg10) = m' ((c.tc : Thread Cert.InDaRefIdeal.nD Cert.InDaRefIdeal.τ).loc Cert.InDaRefIdeal.main_arg10)
          ∧ r.2.mem ((c.tc : Thread Cert.InDaRefIdeal.nD Cert.InDaRefIdeal.τ).loc Cert.InDaRefIdeal.main_arg11) = m' ((c.tc : Thread Cert.InDaRefIdeal.nD Cert.InDaRefIdeal.τ).loc Cert.InDaRefIdeal.main_arg11)
          ∧ r.2.mem ((c.tc : Thread Cert.InDaRefIdeal.nD Cert.InDaRefIdeal.τ).loc Cert.InDaRefIdeal.main_arg12) = m' ((c.tc : Thread Cert.InDaRefIdeal.nD Cert.InDaRefIdeal.τ).loc Cert.InDaRefIdeal.main_arg12)
          ∧ r.2.mem ((c.tc : Thread Cert.InDaRefIdeal.nD Cert.InDaRefIdeal.τ).loc Cert.InDaRefIdeal.main_arg13) = m' ((c.tc : Thread Cert.InDaRefIdeal.nD Cert.InDaRefIdeal.τ).loc Cert.InDaRefIdeal.main_arg13)
          ∧ r.2.mem ((c.tc : Thread Cert.InDaRefIdeal.nD Cert.InDaRefIdeal.τ).loc Cert.InDaRefIdeal.main_arg14) = m' ((c.tc : Thread Cert.InDaRefIdeal.nD Cert.InDaRefIdeal.τ).loc Cert.InDaRefIdeal.main_arg14)
          ∧ r.2.mem ((c.tc : Thread Cert.InDaRefIdeal.nD Cert.InDaRefIdeal.τ).loc Cert.InDaRefIdeal.main_arg15) = m' ((c.tc : Thread Cert.InDaRefIdeal.nD Cert.InDaRefIdeal.τ).loc Cert.InDaRefIdeal.main_arg15)
          ∧ r.2.mem ((c.tc : Thread Cert.InDaRefIdeal.nD Cert.InDaRefIdeal.τ).loc Cert.InDaRefIdeal.main_arg16) = m' ((c.tc : Thread Cert.InDaRefIdeal.nD Cert.InDaRefIdeal.τ).loc Cert.InDaRefIdeal.main_arg16)
          ∧ r.2.mem ((c.tc : Thread Cert.InDaRefIdeal.nD Cert.InDaRefIdeal.τ).loc Cert.InDaRefIdeal.main_arg17) = m' ((c.tc : Thread Cert.InDaRefIdeal.nD Cert.InDaRefIdeal.τ).loc Cert.InDaRefIdeal.main_arg17)
          ∧ r.2.mem ((c.tc : Thread Cert.InDaRefIdeal.nD Cert.InDaRefIdeal.τ).loc Cert.InDaRefIdeal.main_arg18) = m' ((c.tc : Thread Cert.InDaRefIdeal.nD Cert.InDaRefIdeal.τ).loc Cert.InDaRefIdeal.main_arg18)
          ∧ r.2.mem ((c.tc : Thread Cert.InDaRefIdeal.nD Cert.InDaRefIdeal.τ).loc Cert.InDaRefIdeal.main_arg19) = m' ((c.tc : Thread Cert.InDaRefIdeal.nD Cert.InDaRefIdeal.τ).loc Cert.InDaRefIdeal.main_arg19)
          ∧ r.2.mem ((c.tc : Thread Cert.InDaRefIdeal.nD Cert.InDaRefIdeal.τ).loc Cert.InDaRefIdeal.main_arg20) = m' ((c.tc : Thread Cert.InDaRefIdeal.nD Cert.InDaRefIdeal.τ).loc Cert.InDaRefIdeal.main_arg20)
          ∧ r.2.mem ((c.tc : Thread Cert.InDaRefIdeal.nD Cert.InDaRefIdeal.τ).loc Cert.InDaRefIdeal.main_arg21) = m' ((c.tc : Thread Cert.InDaRefIdeal.nD Cert.InDaRefIdeal.τ).loc Cert.InDaRefIdeal.main_arg21))

def preserves_In512_In512Ideal : Prop :=
  True

def algebraic_In512Ideal_In512RefIdeal [hIn512Ideal : Cert.In512Ideal.Facts] [hIn512RefIdeal : Cert.In512RefIdeal.Facts] : Prop :=
  ∀ (m : (ℓ : Loc Cert.In512Ideal.nD Cert.In512Ideal.τ Cert.In512Ideal.sig) → Buf (Elt Ideal) ℓ) (g : Dev Cert.In512Ideal.nD → PrngReg)
    (m' : (ℓ : Loc Cert.In512RefIdeal.nD Cert.In512RefIdeal.τ Cert.In512RefIdeal.sig) → Buf (Elt Ideal) ℓ) (g' : Dev Cert.In512RefIdeal.nD → PrngReg), Pre_In512Ideal m →
    (∀ c : Dev Cert.In512Ideal.nD,
      m' ((c.tc : Thread Cert.In512RefIdeal.nD Cert.In512RefIdeal.τ).loc Cert.In512RefIdeal.main_arg0) = m ((c.tc : Thread Cert.In512Ideal.nD Cert.In512Ideal.τ).loc Cert.In512Ideal.main_arg0)
      ∧ m' ((c.tc : Thread Cert.In512RefIdeal.nD Cert.In512RefIdeal.τ).loc Cert.In512RefIdeal.main_arg1) = m ((c.tc : Thread Cert.In512Ideal.nD Cert.In512Ideal.τ).loc Cert.In512Ideal.main_arg1)) →
    ∃ (v0 : (c : Dev Cert.In512Ideal.nD) → Buf (Elt Ideal) ((c.tc : Thread Cert.In512Ideal.nD Cert.In512Ideal.τ).loc Cert.In512Ideal.main_v0)),
      θ_run (Cert.In512Ideal.defs (F := Ideal)) (onTc (τ := Cert.In512Ideal.τ) (Cert.In512Ideal.main (F := Ideal))) ⟨m, fun _ => 0, g⟩ (fun r => ∀ c : Dev Cert.In512Ideal.nD,
          r.2.mem ((c.tc : Thread Cert.In512Ideal.nD Cert.In512Ideal.τ).loc Cert.In512Ideal.main_v0) = v0 c
          ∧ r.2.mem ((c.tc : Thread Cert.In512Ideal.nD Cert.In512Ideal.τ).loc Cert.In512Ideal.main_arg0) = m ((c.tc : Thread Cert.In512Ideal.nD Cert.In512Ideal.τ).loc Cert.In512Ideal.main_arg0)
          ∧ r.2.mem ((c.tc : Thread Cert.In512Ideal.nD Cert.In512Ideal.τ).loc Cert.In512Ideal.main_arg1) = m ((c.tc : Thread Cert.In512Ideal.nD Cert.In512Ideal.τ).loc Cert.In512Ideal.main_arg1))
      ∧ θ_run (Cert.In512RefIdeal.defs (F := Ideal)) (onTc (τ := Cert.In512RefIdeal.τ) (Cert.In512RefIdeal.main (F := Ideal))) ⟨m', fun _ => 0, g'⟩ (fun r => ∀ c : Dev Cert.In512RefIdeal.nD,
          r.2.mem ((c.tc : Thread Cert.In512RefIdeal.nD Cert.In512RefIdeal.τ).loc Cert.In512RefIdeal.main_v2) = v0 c
          ∧ r.2.mem ((c.tc : Thread Cert.In512RefIdeal.nD Cert.In512RefIdeal.τ).loc Cert.In512RefIdeal.main_arg0) = m' ((c.tc : Thread Cert.In512RefIdeal.nD Cert.In512RefIdeal.τ).loc Cert.In512RefIdeal.main_arg0)
          ∧ r.2.mem ((c.tc : Thread Cert.In512RefIdeal.nD Cert.In512RefIdeal.τ).loc Cert.In512RefIdeal.main_arg1) = m' ((c.tc : Thread Cert.In512RefIdeal.nD Cert.In512RefIdeal.τ).loc Cert.In512RefIdeal.main_arg1))

def preserves_In1024_In1024Ideal : Prop :=
  True

def algebraic_In1024Ideal_In1024RefIdeal [hIn1024Ideal : Cert.In1024Ideal.Facts] [hIn1024RefIdeal : Cert.In1024RefIdeal.Facts] : Prop :=
  ∀ (m : (ℓ : Loc Cert.In1024Ideal.nD Cert.In1024Ideal.τ Cert.In1024Ideal.sig) → Buf (Elt Ideal) ℓ) (g : Dev Cert.In1024Ideal.nD → PrngReg)
    (m' : (ℓ : Loc Cert.In1024RefIdeal.nD Cert.In1024RefIdeal.τ Cert.In1024RefIdeal.sig) → Buf (Elt Ideal) ℓ) (g' : Dev Cert.In1024RefIdeal.nD → PrngReg), Pre_In1024Ideal m →
    (∀ c : Dev Cert.In1024Ideal.nD,
      m' ((c.tc : Thread Cert.In1024RefIdeal.nD Cert.In1024RefIdeal.τ).loc Cert.In1024RefIdeal.main_arg0) = m ((c.tc : Thread Cert.In1024Ideal.nD Cert.In1024Ideal.τ).loc Cert.In1024Ideal.main_arg0)
      ∧ m' ((c.tc : Thread Cert.In1024RefIdeal.nD Cert.In1024RefIdeal.τ).loc Cert.In1024RefIdeal.main_arg1) = m ((c.tc : Thread Cert.In1024Ideal.nD Cert.In1024Ideal.τ).loc Cert.In1024Ideal.main_arg1)) →
    ∃ (v0 : (c : Dev Cert.In1024Ideal.nD) → Buf (Elt Ideal) ((c.tc : Thread Cert.In1024Ideal.nD Cert.In1024Ideal.τ).loc Cert.In1024Ideal.main_v0)),
      θ_run (Cert.In1024Ideal.defs (F := Ideal)) (onTc (τ := Cert.In1024Ideal.τ) (Cert.In1024Ideal.main (F := Ideal))) ⟨m, fun _ => 0, g⟩ (fun r => ∀ c : Dev Cert.In1024Ideal.nD,
          r.2.mem ((c.tc : Thread Cert.In1024Ideal.nD Cert.In1024Ideal.τ).loc Cert.In1024Ideal.main_v0) = v0 c
          ∧ r.2.mem ((c.tc : Thread Cert.In1024Ideal.nD Cert.In1024Ideal.τ).loc Cert.In1024Ideal.main_arg0) = m ((c.tc : Thread Cert.In1024Ideal.nD Cert.In1024Ideal.τ).loc Cert.In1024Ideal.main_arg0)
          ∧ r.2.mem ((c.tc : Thread Cert.In1024Ideal.nD Cert.In1024Ideal.τ).loc Cert.In1024Ideal.main_arg1) = m ((c.tc : Thread Cert.In1024Ideal.nD Cert.In1024Ideal.τ).loc Cert.In1024Ideal.main_arg1))
      ∧ θ_run (Cert.In1024RefIdeal.defs (F := Ideal)) (onTc (τ := Cert.In1024RefIdeal.τ) (Cert.In1024RefIdeal.main (F := Ideal))) ⟨m', fun _ => 0, g'⟩ (fun r => ∀ c : Dev Cert.In1024RefIdeal.nD,
          r.2.mem ((c.tc : Thread Cert.In1024RefIdeal.nD Cert.In1024RefIdeal.τ).loc Cert.In1024RefIdeal.main_v2) = v0 c
          ∧ r.2.mem ((c.tc : Thread Cert.In1024RefIdeal.nD Cert.In1024RefIdeal.τ).loc Cert.In1024RefIdeal.main_arg0) = m' ((c.tc : Thread Cert.In1024RefIdeal.nD Cert.In1024RefIdeal.τ).loc Cert.In1024RefIdeal.main_arg0)
          ∧ r.2.mem ((c.tc : Thread Cert.In1024RefIdeal.nD Cert.In1024RefIdeal.τ).loc Cert.In1024RefIdeal.main_arg1) = m' ((c.tc : Thread Cert.In1024RefIdeal.nD Cert.In1024RefIdeal.τ).loc Cert.In1024RefIdeal.main_arg1))

def preserves_In768_In768Ideal : Prop :=
  True

def algebraic_In768Ideal_In768RefIdeal [hIn768Ideal : Cert.In768Ideal.Facts] [hIn768RefIdeal : Cert.In768RefIdeal.Facts] : Prop :=
  ∀ (m : (ℓ : Loc Cert.In768Ideal.nD Cert.In768Ideal.τ Cert.In768Ideal.sig) → Buf (Elt Ideal) ℓ) (g : Dev Cert.In768Ideal.nD → PrngReg)
    (m' : (ℓ : Loc Cert.In768RefIdeal.nD Cert.In768RefIdeal.τ Cert.In768RefIdeal.sig) → Buf (Elt Ideal) ℓ) (g' : Dev Cert.In768RefIdeal.nD → PrngReg), Pre_In768Ideal m →
    (∀ c : Dev Cert.In768Ideal.nD,
      m' ((c.tc : Thread Cert.In768RefIdeal.nD Cert.In768RefIdeal.τ).loc Cert.In768RefIdeal.main_arg0) = m ((c.tc : Thread Cert.In768Ideal.nD Cert.In768Ideal.τ).loc Cert.In768Ideal.main_arg0)
      ∧ m' ((c.tc : Thread Cert.In768RefIdeal.nD Cert.In768RefIdeal.τ).loc Cert.In768RefIdeal.main_arg1) = m ((c.tc : Thread Cert.In768Ideal.nD Cert.In768Ideal.τ).loc Cert.In768Ideal.main_arg1)) →
    ∃ (v0 : (c : Dev Cert.In768Ideal.nD) → Buf (Elt Ideal) ((c.tc : Thread Cert.In768Ideal.nD Cert.In768Ideal.τ).loc Cert.In768Ideal.main_v0)),
      θ_run (Cert.In768Ideal.defs (F := Ideal)) (onTc (τ := Cert.In768Ideal.τ) (Cert.In768Ideal.main (F := Ideal))) ⟨m, fun _ => 0, g⟩ (fun r => ∀ c : Dev Cert.In768Ideal.nD,
          r.2.mem ((c.tc : Thread Cert.In768Ideal.nD Cert.In768Ideal.τ).loc Cert.In768Ideal.main_v0) = v0 c
          ∧ r.2.mem ((c.tc : Thread Cert.In768Ideal.nD Cert.In768Ideal.τ).loc Cert.In768Ideal.main_arg0) = m ((c.tc : Thread Cert.In768Ideal.nD Cert.In768Ideal.τ).loc Cert.In768Ideal.main_arg0)
          ∧ r.2.mem ((c.tc : Thread Cert.In768Ideal.nD Cert.In768Ideal.τ).loc Cert.In768Ideal.main_arg1) = m ((c.tc : Thread Cert.In768Ideal.nD Cert.In768Ideal.τ).loc Cert.In768Ideal.main_arg1))
      ∧ θ_run (Cert.In768RefIdeal.defs (F := Ideal)) (onTc (τ := Cert.In768RefIdeal.τ) (Cert.In768RefIdeal.main (F := Ideal))) ⟨m', fun _ => 0, g'⟩ (fun r => ∀ c : Dev Cert.In768RefIdeal.nD,
          r.2.mem ((c.tc : Thread Cert.In768RefIdeal.nD Cert.In768RefIdeal.τ).loc Cert.In768RefIdeal.main_v2) = v0 c
          ∧ r.2.mem ((c.tc : Thread Cert.In768RefIdeal.nD Cert.In768RefIdeal.τ).loc Cert.In768RefIdeal.main_arg0) = m' ((c.tc : Thread Cert.In768RefIdeal.nD Cert.In768RefIdeal.τ).loc Cert.In768RefIdeal.main_arg0)
          ∧ r.2.mem ((c.tc : Thread Cert.In768RefIdeal.nD Cert.In768RefIdeal.τ).loc Cert.In768RefIdeal.main_arg1) = m' ((c.tc : Thread Cert.In768RefIdeal.nD Cert.In768RefIdeal.τ).loc Cert.In768RefIdeal.main_arg1))

def preserves_In128_In128Ideal : Prop :=
  True

def algebraic_In128Ideal_In128RefIdeal [hIn128Ideal : Cert.In128Ideal.Facts] [hIn128RefIdeal : Cert.In128RefIdeal.Facts] : Prop :=
  ∀ (m : (ℓ : Loc Cert.In128Ideal.nD Cert.In128Ideal.τ Cert.In128Ideal.sig) → Buf (Elt Ideal) ℓ) (g : Dev Cert.In128Ideal.nD → PrngReg)
    (m' : (ℓ : Loc Cert.In128RefIdeal.nD Cert.In128RefIdeal.τ Cert.In128RefIdeal.sig) → Buf (Elt Ideal) ℓ) (g' : Dev Cert.In128RefIdeal.nD → PrngReg), Pre_In128Ideal m →
    (∀ c : Dev Cert.In128Ideal.nD,
      m' ((c.tc : Thread Cert.In128RefIdeal.nD Cert.In128RefIdeal.τ).loc Cert.In128RefIdeal.main_arg0) = m ((c.tc : Thread Cert.In128Ideal.nD Cert.In128Ideal.τ).loc Cert.In128Ideal.main_arg0)
      ∧ m' ((c.tc : Thread Cert.In128RefIdeal.nD Cert.In128RefIdeal.τ).loc Cert.In128RefIdeal.main_arg1) = m ((c.tc : Thread Cert.In128Ideal.nD Cert.In128Ideal.τ).loc Cert.In128Ideal.main_arg1)) →
    ∃ (v0 : (c : Dev Cert.In128Ideal.nD) → Buf (Elt Ideal) ((c.tc : Thread Cert.In128Ideal.nD Cert.In128Ideal.τ).loc Cert.In128Ideal.main_v0)),
      θ_run (Cert.In128Ideal.defs (F := Ideal)) (onTc (τ := Cert.In128Ideal.τ) (Cert.In128Ideal.main (F := Ideal))) ⟨m, fun _ => 0, g⟩ (fun r => ∀ c : Dev Cert.In128Ideal.nD,
          r.2.mem ((c.tc : Thread Cert.In128Ideal.nD Cert.In128Ideal.τ).loc Cert.In128Ideal.main_v0) = v0 c
          ∧ r.2.mem ((c.tc : Thread Cert.In128Ideal.nD Cert.In128Ideal.τ).loc Cert.In128Ideal.main_arg0) = m ((c.tc : Thread Cert.In128Ideal.nD Cert.In128Ideal.τ).loc Cert.In128Ideal.main_arg0)
          ∧ r.2.mem ((c.tc : Thread Cert.In128Ideal.nD Cert.In128Ideal.τ).loc Cert.In128Ideal.main_arg1) = m ((c.tc : Thread Cert.In128Ideal.nD Cert.In128Ideal.τ).loc Cert.In128Ideal.main_arg1))
      ∧ θ_run (Cert.In128RefIdeal.defs (F := Ideal)) (onTc (τ := Cert.In128RefIdeal.τ) (Cert.In128RefIdeal.main (F := Ideal))) ⟨m', fun _ => 0, g'⟩ (fun r => ∀ c : Dev Cert.In128RefIdeal.nD,
          r.2.mem ((c.tc : Thread Cert.In128RefIdeal.nD Cert.In128RefIdeal.τ).loc Cert.In128RefIdeal.main_v2) = v0 c
          ∧ r.2.mem ((c.tc : Thread Cert.In128RefIdeal.nD Cert.In128RefIdeal.τ).loc Cert.In128RefIdeal.main_arg0) = m' ((c.tc : Thread Cert.In128RefIdeal.nD Cert.In128RefIdeal.τ).loc Cert.In128RefIdeal.main_arg0)
          ∧ r.2.mem ((c.tc : Thread Cert.In128RefIdeal.nD Cert.In128RefIdeal.τ).loc Cert.In128RefIdeal.main_arg1) = m' ((c.tc : Thread Cert.In128RefIdeal.nD Cert.In128RefIdeal.τ).loc Cert.In128RefIdeal.main_arg1))

def preserves_InDb512_InDb512Ideal : Prop :=
  True

def algebraic_InDb512Ideal_InDb512RefIdeal [hInDb512Ideal : Cert.InDb512Ideal.Facts] [hInDb512RefIdeal : Cert.InDb512RefIdeal.Facts] : Prop :=
  ∀ (m : (ℓ : Loc Cert.InDb512Ideal.nD Cert.InDb512Ideal.τ Cert.InDb512Ideal.sig) → Buf (Elt Ideal) ℓ) (g : Dev Cert.InDb512Ideal.nD → PrngReg)
    (m' : (ℓ : Loc Cert.InDb512RefIdeal.nD Cert.InDb512RefIdeal.τ Cert.InDb512RefIdeal.sig) → Buf (Elt Ideal) ℓ) (g' : Dev Cert.InDb512RefIdeal.nD → PrngReg), Pre_InDb512Ideal m →
    (∀ c : Dev Cert.InDb512Ideal.nD,
      m' ((c.tc : Thread Cert.InDb512RefIdeal.nD Cert.InDb512RefIdeal.τ).loc Cert.InDb512RefIdeal.main_arg0) = m ((c.tc : Thread Cert.InDb512Ideal.nD Cert.InDb512Ideal.τ).loc Cert.InDb512Ideal.main_arg0)
      ∧ m' ((c.tc : Thread Cert.InDb512RefIdeal.nD Cert.InDb512RefIdeal.τ).loc Cert.InDb512RefIdeal.main_arg1) = m ((c.tc : Thread Cert.InDb512Ideal.nD Cert.InDb512Ideal.τ).loc Cert.InDb512Ideal.main_arg1)) →
    ∃ (v0 : (c : Dev Cert.InDb512Ideal.nD) → Buf (Elt Ideal) ((c.tc : Thread Cert.InDb512Ideal.nD Cert.InDb512Ideal.τ).loc Cert.InDb512Ideal.main_v0)),
      θ_run (Cert.InDb512Ideal.defs (F := Ideal)) (onTc (τ := Cert.InDb512Ideal.τ) (Cert.InDb512Ideal.main (F := Ideal))) ⟨m, fun _ => 0, g⟩ (fun r => ∀ c : Dev Cert.InDb512Ideal.nD,
          r.2.mem ((c.tc : Thread Cert.InDb512Ideal.nD Cert.InDb512Ideal.τ).loc Cert.InDb512Ideal.main_v0) = v0 c
          ∧ r.2.mem ((c.tc : Thread Cert.InDb512Ideal.nD Cert.InDb512Ideal.τ).loc Cert.InDb512Ideal.main_arg0) = m ((c.tc : Thread Cert.InDb512Ideal.nD Cert.InDb512Ideal.τ).loc Cert.InDb512Ideal.main_arg0)
          ∧ r.2.mem ((c.tc : Thread Cert.InDb512Ideal.nD Cert.InDb512Ideal.τ).loc Cert.InDb512Ideal.main_arg1) = m ((c.tc : Thread Cert.InDb512Ideal.nD Cert.InDb512Ideal.τ).loc Cert.InDb512Ideal.main_arg1))
      ∧ θ_run (Cert.InDb512RefIdeal.defs (F := Ideal)) (onTc (τ := Cert.InDb512RefIdeal.τ) (Cert.InDb512RefIdeal.main (F := Ideal))) ⟨m', fun _ => 0, g'⟩ (fun r => ∀ c : Dev Cert.InDb512RefIdeal.nD,
          r.2.mem ((c.tc : Thread Cert.InDb512RefIdeal.nD Cert.InDb512RefIdeal.τ).loc Cert.InDb512RefIdeal.main_v4) = v0 c
          ∧ r.2.mem ((c.tc : Thread Cert.InDb512RefIdeal.nD Cert.InDb512RefIdeal.τ).loc Cert.InDb512RefIdeal.main_arg0) = m' ((c.tc : Thread Cert.InDb512RefIdeal.nD Cert.InDb512RefIdeal.τ).loc Cert.InDb512RefIdeal.main_arg0)
          ∧ r.2.mem ((c.tc : Thread Cert.InDb512RefIdeal.nD Cert.InDb512RefIdeal.τ).loc Cert.InDb512RefIdeal.main_arg1) = m' ((c.tc : Thread Cert.InDb512RefIdeal.nD Cert.InDb512RefIdeal.τ).loc Cert.InDb512RefIdeal.main_arg1))

def preserves_InDb1024_InDb1024Ideal : Prop :=
  True

def algebraic_InDb1024Ideal_InDb1024RefIdeal [hInDb1024Ideal : Cert.InDb1024Ideal.Facts] [hInDb1024RefIdeal : Cert.InDb1024RefIdeal.Facts] : Prop :=
  ∀ (m : (ℓ : Loc Cert.InDb1024Ideal.nD Cert.InDb1024Ideal.τ Cert.InDb1024Ideal.sig) → Buf (Elt Ideal) ℓ) (g : Dev Cert.InDb1024Ideal.nD → PrngReg)
    (m' : (ℓ : Loc Cert.InDb1024RefIdeal.nD Cert.InDb1024RefIdeal.τ Cert.InDb1024RefIdeal.sig) → Buf (Elt Ideal) ℓ) (g' : Dev Cert.InDb1024RefIdeal.nD → PrngReg), Pre_InDb1024Ideal m →
    (∀ c : Dev Cert.InDb1024Ideal.nD,
      m' ((c.tc : Thread Cert.InDb1024RefIdeal.nD Cert.InDb1024RefIdeal.τ).loc Cert.InDb1024RefIdeal.main_arg0) = m ((c.tc : Thread Cert.InDb1024Ideal.nD Cert.InDb1024Ideal.τ).loc Cert.InDb1024Ideal.main_arg0)
      ∧ m' ((c.tc : Thread Cert.InDb1024RefIdeal.nD Cert.InDb1024RefIdeal.τ).loc Cert.InDb1024RefIdeal.main_arg1) = m ((c.tc : Thread Cert.InDb1024Ideal.nD Cert.InDb1024Ideal.τ).loc Cert.InDb1024Ideal.main_arg1)) →
    ∃ (v0 : (c : Dev Cert.InDb1024Ideal.nD) → Buf (Elt Ideal) ((c.tc : Thread Cert.InDb1024Ideal.nD Cert.InDb1024Ideal.τ).loc Cert.InDb1024Ideal.main_v0)),
      θ_run (Cert.InDb1024Ideal.defs (F := Ideal)) (onTc (τ := Cert.InDb1024Ideal.τ) (Cert.InDb1024Ideal.main (F := Ideal))) ⟨m, fun _ => 0, g⟩ (fun r => ∀ c : Dev Cert.InDb1024Ideal.nD,
          r.2.mem ((c.tc : Thread Cert.InDb1024Ideal.nD Cert.InDb1024Ideal.τ).loc Cert.InDb1024Ideal.main_v0) = v0 c
          ∧ r.2.mem ((c.tc : Thread Cert.InDb1024Ideal.nD Cert.InDb1024Ideal.τ).loc Cert.InDb1024Ideal.main_arg0) = m ((c.tc : Thread Cert.InDb1024Ideal.nD Cert.InDb1024Ideal.τ).loc Cert.InDb1024Ideal.main_arg0)
          ∧ r.2.mem ((c.tc : Thread Cert.InDb1024Ideal.nD Cert.InDb1024Ideal.τ).loc Cert.InDb1024Ideal.main_arg1) = m ((c.tc : Thread Cert.InDb1024Ideal.nD Cert.InDb1024Ideal.τ).loc Cert.InDb1024Ideal.main_arg1))
      ∧ θ_run (Cert.InDb1024RefIdeal.defs (F := Ideal)) (onTc (τ := Cert.InDb1024RefIdeal.τ) (Cert.InDb1024RefIdeal.main (F := Ideal))) ⟨m', fun _ => 0, g'⟩ (fun r => ∀ c : Dev Cert.InDb1024RefIdeal.nD,
          r.2.mem ((c.tc : Thread Cert.InDb1024RefIdeal.nD Cert.InDb1024RefIdeal.τ).loc Cert.InDb1024RefIdeal.main_v4) = v0 c
          ∧ r.2.mem ((c.tc : Thread Cert.InDb1024RefIdeal.nD Cert.InDb1024RefIdeal.τ).loc Cert.InDb1024RefIdeal.main_arg0) = m' ((c.tc : Thread Cert.InDb1024RefIdeal.nD Cert.InDb1024RefIdeal.τ).loc Cert.InDb1024RefIdeal.main_arg0)
          ∧ r.2.mem ((c.tc : Thread Cert.InDb1024RefIdeal.nD Cert.InDb1024RefIdeal.τ).loc Cert.InDb1024RefIdeal.main_arg1) = m' ((c.tc : Thread Cert.InDb1024RefIdeal.nD Cert.InDb1024RefIdeal.τ).loc Cert.InDb1024RefIdeal.main_arg1))

def preserves_InDb768_InDb768Ideal : Prop :=
  True

def algebraic_InDb768Ideal_InDb768RefIdeal [hInDb768Ideal : Cert.InDb768Ideal.Facts] [hInDb768RefIdeal : Cert.InDb768RefIdeal.Facts] : Prop :=
  ∀ (m : (ℓ : Loc Cert.InDb768Ideal.nD Cert.InDb768Ideal.τ Cert.InDb768Ideal.sig) → Buf (Elt Ideal) ℓ) (g : Dev Cert.InDb768Ideal.nD → PrngReg)
    (m' : (ℓ : Loc Cert.InDb768RefIdeal.nD Cert.InDb768RefIdeal.τ Cert.InDb768RefIdeal.sig) → Buf (Elt Ideal) ℓ) (g' : Dev Cert.InDb768RefIdeal.nD → PrngReg), Pre_InDb768Ideal m →
    (∀ c : Dev Cert.InDb768Ideal.nD,
      m' ((c.tc : Thread Cert.InDb768RefIdeal.nD Cert.InDb768RefIdeal.τ).loc Cert.InDb768RefIdeal.main_arg0) = m ((c.tc : Thread Cert.InDb768Ideal.nD Cert.InDb768Ideal.τ).loc Cert.InDb768Ideal.main_arg0)
      ∧ m' ((c.tc : Thread Cert.InDb768RefIdeal.nD Cert.InDb768RefIdeal.τ).loc Cert.InDb768RefIdeal.main_arg1) = m ((c.tc : Thread Cert.InDb768Ideal.nD Cert.InDb768Ideal.τ).loc Cert.InDb768Ideal.main_arg1)) →
    ∃ (v0 : (c : Dev Cert.InDb768Ideal.nD) → Buf (Elt Ideal) ((c.tc : Thread Cert.InDb768Ideal.nD Cert.InDb768Ideal.τ).loc Cert.InDb768Ideal.main_v0)),
      θ_run (Cert.InDb768Ideal.defs (F := Ideal)) (onTc (τ := Cert.InDb768Ideal.τ) (Cert.InDb768Ideal.main (F := Ideal))) ⟨m, fun _ => 0, g⟩ (fun r => ∀ c : Dev Cert.InDb768Ideal.nD,
          r.2.mem ((c.tc : Thread Cert.InDb768Ideal.nD Cert.InDb768Ideal.τ).loc Cert.InDb768Ideal.main_v0) = v0 c
          ∧ r.2.mem ((c.tc : Thread Cert.InDb768Ideal.nD Cert.InDb768Ideal.τ).loc Cert.InDb768Ideal.main_arg0) = m ((c.tc : Thread Cert.InDb768Ideal.nD Cert.InDb768Ideal.τ).loc Cert.InDb768Ideal.main_arg0)
          ∧ r.2.mem ((c.tc : Thread Cert.InDb768Ideal.nD Cert.InDb768Ideal.τ).loc Cert.InDb768Ideal.main_arg1) = m ((c.tc : Thread Cert.InDb768Ideal.nD Cert.InDb768Ideal.τ).loc Cert.InDb768Ideal.main_arg1))
      ∧ θ_run (Cert.InDb768RefIdeal.defs (F := Ideal)) (onTc (τ := Cert.InDb768RefIdeal.τ) (Cert.InDb768RefIdeal.main (F := Ideal))) ⟨m', fun _ => 0, g'⟩ (fun r => ∀ c : Dev Cert.InDb768RefIdeal.nD,
          r.2.mem ((c.tc : Thread Cert.InDb768RefIdeal.nD Cert.InDb768RefIdeal.τ).loc Cert.InDb768RefIdeal.main_v4) = v0 c
          ∧ r.2.mem ((c.tc : Thread Cert.InDb768RefIdeal.nD Cert.InDb768RefIdeal.τ).loc Cert.InDb768RefIdeal.main_arg0) = m' ((c.tc : Thread Cert.InDb768RefIdeal.nD Cert.InDb768RefIdeal.τ).loc Cert.InDb768RefIdeal.main_arg0)
          ∧ r.2.mem ((c.tc : Thread Cert.InDb768RefIdeal.nD Cert.InDb768RefIdeal.τ).loc Cert.InDb768RefIdeal.main_arg1) = m' ((c.tc : Thread Cert.InDb768RefIdeal.nD Cert.InDb768RefIdeal.τ).loc Cert.InDb768RefIdeal.main_arg1))

def preserves_InDb128_InDb128Ideal : Prop :=
  True

def algebraic_InDb128Ideal_InDb128RefIdeal [hInDb128Ideal : Cert.InDb128Ideal.Facts] [hInDb128RefIdeal : Cert.InDb128RefIdeal.Facts] : Prop :=
  ∀ (m : (ℓ : Loc Cert.InDb128Ideal.nD Cert.InDb128Ideal.τ Cert.InDb128Ideal.sig) → Buf (Elt Ideal) ℓ) (g : Dev Cert.InDb128Ideal.nD → PrngReg)
    (m' : (ℓ : Loc Cert.InDb128RefIdeal.nD Cert.InDb128RefIdeal.τ Cert.InDb128RefIdeal.sig) → Buf (Elt Ideal) ℓ) (g' : Dev Cert.InDb128RefIdeal.nD → PrngReg), Pre_InDb128Ideal m →
    (∀ c : Dev Cert.InDb128Ideal.nD,
      m' ((c.tc : Thread Cert.InDb128RefIdeal.nD Cert.InDb128RefIdeal.τ).loc Cert.InDb128RefIdeal.main_arg0) = m ((c.tc : Thread Cert.InDb128Ideal.nD Cert.InDb128Ideal.τ).loc Cert.InDb128Ideal.main_arg0)
      ∧ m' ((c.tc : Thread Cert.InDb128RefIdeal.nD Cert.InDb128RefIdeal.τ).loc Cert.InDb128RefIdeal.main_arg1) = m ((c.tc : Thread Cert.InDb128Ideal.nD Cert.InDb128Ideal.τ).loc Cert.InDb128Ideal.main_arg1)) →
    ∃ (v0 : (c : Dev Cert.InDb128Ideal.nD) → Buf (Elt Ideal) ((c.tc : Thread Cert.InDb128Ideal.nD Cert.InDb128Ideal.τ).loc Cert.InDb128Ideal.main_v0)),
      θ_run (Cert.InDb128Ideal.defs (F := Ideal)) (onTc (τ := Cert.InDb128Ideal.τ) (Cert.InDb128Ideal.main (F := Ideal))) ⟨m, fun _ => 0, g⟩ (fun r => ∀ c : Dev Cert.InDb128Ideal.nD,
          r.2.mem ((c.tc : Thread Cert.InDb128Ideal.nD Cert.InDb128Ideal.τ).loc Cert.InDb128Ideal.main_v0) = v0 c
          ∧ r.2.mem ((c.tc : Thread Cert.InDb128Ideal.nD Cert.InDb128Ideal.τ).loc Cert.InDb128Ideal.main_arg0) = m ((c.tc : Thread Cert.InDb128Ideal.nD Cert.InDb128Ideal.τ).loc Cert.InDb128Ideal.main_arg0)
          ∧ r.2.mem ((c.tc : Thread Cert.InDb128Ideal.nD Cert.InDb128Ideal.τ).loc Cert.InDb128Ideal.main_arg1) = m ((c.tc : Thread Cert.InDb128Ideal.nD Cert.InDb128Ideal.τ).loc Cert.InDb128Ideal.main_arg1))
      ∧ θ_run (Cert.InDb128RefIdeal.defs (F := Ideal)) (onTc (τ := Cert.InDb128RefIdeal.τ) (Cert.InDb128RefIdeal.main (F := Ideal))) ⟨m', fun _ => 0, g'⟩ (fun r => ∀ c : Dev Cert.InDb128RefIdeal.nD,
          r.2.mem ((c.tc : Thread Cert.InDb128RefIdeal.nD Cert.InDb128RefIdeal.τ).loc Cert.InDb128RefIdeal.main_v4) = v0 c
          ∧ r.2.mem ((c.tc : Thread Cert.InDb128RefIdeal.nD Cert.InDb128RefIdeal.τ).loc Cert.InDb128RefIdeal.main_arg0) = m' ((c.tc : Thread Cert.InDb128RefIdeal.nD Cert.InDb128RefIdeal.τ).loc Cert.InDb128RefIdeal.main_arg0)
          ∧ r.2.mem ((c.tc : Thread Cert.InDb128RefIdeal.nD Cert.InDb128RefIdeal.τ).loc Cert.InDb128RefIdeal.main_arg1) = m' ((c.tc : Thread Cert.InDb128RefIdeal.nD Cert.InDb128RefIdeal.τ).loc Cert.InDb128RefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v20) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_GateDa_GateDaIdeal : Prop :=
  True

def algebraic_GateDaIdeal_GateDaRefIdeal [hGateDaIdeal : Cert.GateDaIdeal.Facts] [hGateDaRefIdeal : Cert.GateDaRefIdeal.Facts] : Prop :=
  ∀ (m : (ℓ : Loc Cert.GateDaIdeal.nD Cert.GateDaIdeal.τ Cert.GateDaIdeal.sig) → Buf (Elt Ideal) ℓ) (g : Dev Cert.GateDaIdeal.nD → PrngReg)
    (m' : (ℓ : Loc Cert.GateDaRefIdeal.nD Cert.GateDaRefIdeal.τ Cert.GateDaRefIdeal.sig) → Buf (Elt Ideal) ℓ) (g' : Dev Cert.GateDaRefIdeal.nD → PrngReg), Pre_GateDaIdeal m →
    (∀ c : Dev Cert.GateDaIdeal.nD,
      m' ((c.tc : Thread Cert.GateDaRefIdeal.nD Cert.GateDaRefIdeal.τ).loc Cert.GateDaRefIdeal.main_arg0) = m ((c.tc : Thread Cert.GateDaIdeal.nD Cert.GateDaIdeal.τ).loc Cert.GateDaIdeal.main_arg0)
      ∧ m' ((c.tc : Thread Cert.GateDaRefIdeal.nD Cert.GateDaRefIdeal.τ).loc Cert.GateDaRefIdeal.main_arg1) = m ((c.tc : Thread Cert.GateDaIdeal.nD Cert.GateDaIdeal.τ).loc Cert.GateDaIdeal.main_arg1)) →
    ∃ (v0 : (c : Dev Cert.GateDaIdeal.nD) → Buf (Elt Ideal) ((c.tc : Thread Cert.GateDaIdeal.nD Cert.GateDaIdeal.τ).loc Cert.GateDaIdeal.main_v2)),
      θ_run (Cert.GateDaIdeal.defs (F := Ideal)) (onTc (τ := Cert.GateDaIdeal.τ) (Cert.GateDaIdeal.main (F := Ideal))) ⟨m, fun _ => 0, g⟩ (fun r => ∀ c : Dev Cert.GateDaIdeal.nD,
          r.2.mem ((c.tc : Thread Cert.GateDaIdeal.nD Cert.GateDaIdeal.τ).loc Cert.GateDaIdeal.main_v2) = v0 c
          ∧ r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
          ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1))
      ∧ θ_run (Cert.GateDaRefIdeal.defs (F := Ideal)) (onTc (τ := Cert.GateDaRefIdeal.τ) (Cert.GateDaRefIdeal.main (F := Ideal))) ⟨m', fun _ => 0, g'⟩ (fun r => ∀ c : Dev Cert.GateDaRefIdeal.nD,
          r.2.mem ((c.tc : Thread Cert.GateDaRefIdeal.nD Cert.GateDaRefIdeal.τ).loc Cert.GateDaRefIdeal.main_v36) = v0 c
          ∧ r.2.mem ((c.tc : Thread Cert.GateDaRefIdeal.nD Cert.GateDaRefIdeal.τ).loc Cert.GateDaRefIdeal.main_arg0) = m' ((c.tc : Thread Cert.GateDaRefIdeal.nD Cert.GateDaRefIdeal.τ).loc Cert.GateDaRefIdeal.main_arg0)
          ∧ r.2.mem ((c.tc : Thread Cert.GateDaRefIdeal.nD Cert.GateDaRefIdeal.τ).loc Cert.GateDaRefIdeal.main_arg1) = m' ((c.tc : Thread Cert.GateDaRefIdeal.nD Cert.GateDaRefIdeal.τ).loc Cert.GateDaRefIdeal.main_arg1))

def preserves_GateDb_GateDbIdeal : Prop :=
  True

def algebraic_GateDbIdeal_GateDbRefIdeal [hGateDbIdeal : Cert.GateDbIdeal.Facts] [hGateDbRefIdeal : Cert.GateDbRefIdeal.Facts] : Prop :=
  ∀ (m : (ℓ : Loc Cert.GateDbIdeal.nD Cert.GateDbIdeal.τ Cert.GateDbIdeal.sig) → Buf (Elt Ideal) ℓ) (g : Dev Cert.GateDbIdeal.nD → PrngReg)
    (m' : (ℓ : Loc Cert.GateDbRefIdeal.nD Cert.GateDbRefIdeal.τ Cert.GateDbRefIdeal.sig) → Buf (Elt Ideal) ℓ) (g' : Dev Cert.GateDbRefIdeal.nD → PrngReg), Pre_GateDbIdeal m →
    (∀ c : Dev Cert.GateDbIdeal.nD,
      m' ((c.tc : Thread Cert.GateDbRefIdeal.nD Cert.GateDbRefIdeal.τ).loc Cert.GateDbRefIdeal.main_arg0) = m ((c.tc : Thread Cert.GateDbIdeal.nD Cert.GateDbIdeal.τ).loc Cert.GateDbIdeal.main_arg0)
      ∧ m' ((c.tc : Thread Cert.GateDbRefIdeal.nD Cert.GateDbRefIdeal.τ).loc Cert.GateDbRefIdeal.main_arg1) = m ((c.tc : Thread Cert.GateDbIdeal.nD Cert.GateDbIdeal.τ).loc Cert.GateDbIdeal.main_arg1)) →
    ∃ (v0 : (c : Dev Cert.GateDbIdeal.nD) → Buf (Elt Ideal) ((c.tc : Thread Cert.GateDbIdeal.nD Cert.GateDbIdeal.τ).loc Cert.GateDbIdeal.main_v0)),
      θ_run (Cert.GateDbIdeal.defs (F := Ideal)) (onTc (τ := Cert.GateDbIdeal.τ) (Cert.GateDbIdeal.main (F := Ideal))) ⟨m, fun _ => 0, g⟩ (fun r => ∀ c : Dev Cert.GateDbIdeal.nD,
          r.2.mem ((c.tc : Thread Cert.GateDbIdeal.nD Cert.GateDbIdeal.τ).loc Cert.GateDbIdeal.main_v0) = v0 c
          ∧ r.2.mem ((c.tc : Thread Cert.GateDbIdeal.nD Cert.GateDbIdeal.τ).loc Cert.GateDbIdeal.main_arg0) = m ((c.tc : Thread Cert.GateDbIdeal.nD Cert.GateDbIdeal.τ).loc Cert.GateDbIdeal.main_arg0)
          ∧ r.2.mem ((c.tc : Thread Cert.GateDbIdeal.nD Cert.GateDbIdeal.τ).loc Cert.GateDbIdeal.main_arg1) = m ((c.tc : Thread Cert.GateDbIdeal.nD Cert.GateDbIdeal.τ).loc Cert.GateDbIdeal.main_arg1))
      ∧ θ_run (Cert.GateDbRefIdeal.defs (F := Ideal)) (onTc (τ := Cert.GateDbRefIdeal.τ) (Cert.GateDbRefIdeal.main (F := Ideal))) ⟨m', fun _ => 0, g'⟩ (fun r => ∀ c : Dev Cert.GateDbRefIdeal.nD,
          r.2.mem ((c.tc : Thread Cert.GateDbRefIdeal.nD Cert.GateDbRefIdeal.τ).loc Cert.GateDbRefIdeal.main_v23) = v0 c
          ∧ r.2.mem ((c.tc : Thread Cert.GateDbRefIdeal.nD Cert.GateDbRefIdeal.τ).loc Cert.GateDbRefIdeal.main_arg0) = m' ((c.tc : Thread Cert.GateDbRefIdeal.nD Cert.GateDbRefIdeal.τ).loc Cert.GateDbRefIdeal.main_arg0)
          ∧ r.2.mem ((c.tc : Thread Cert.GateDbRefIdeal.nD Cert.GateDbRefIdeal.τ).loc Cert.GateDbRefIdeal.main_arg1) = m' ((c.tc : Thread Cert.GateDbRefIdeal.nD Cert.GateDbRefIdeal.τ).loc Cert.GateDbRefIdeal.main_arg1))

def preserves_Br_BrIdeal : Prop :=
  True

def algebraic_BrIdeal_BrRefIdeal [hBrIdeal : Cert.BrIdeal.Facts] [hBrRefIdeal : Cert.BrRefIdeal.Facts] : Prop :=
  ∀ (m : (ℓ : Loc Cert.BrIdeal.nD Cert.BrIdeal.τ Cert.BrIdeal.sig) → Buf (Elt Ideal) ℓ) (g : Dev Cert.BrIdeal.nD → PrngReg)
    (m' : (ℓ : Loc Cert.BrRefIdeal.nD Cert.BrRefIdeal.τ Cert.BrRefIdeal.sig) → Buf (Elt Ideal) ℓ) (g' : Dev Cert.BrRefIdeal.nD → PrngReg), Pre_BrIdeal m →
    (∀ c : Dev Cert.BrIdeal.nD,
      m' ((c.tc : Thread Cert.BrRefIdeal.nD Cert.BrRefIdeal.τ).loc Cert.BrRefIdeal.main_arg0) = m ((c.tc : Thread Cert.BrIdeal.nD Cert.BrIdeal.τ).loc Cert.BrIdeal.main_arg0)
      ∧ m' ((c.tc : Thread Cert.BrRefIdeal.nD Cert.BrRefIdeal.τ).loc Cert.BrRefIdeal.main_arg1) = m ((c.tc : Thread Cert.BrIdeal.nD Cert.BrIdeal.τ).loc Cert.BrIdeal.main_arg1)) →
    ∃ (v0 : (c : Dev Cert.BrIdeal.nD) → Buf (Elt Ideal) ((c.tc : Thread Cert.BrIdeal.nD Cert.BrIdeal.τ).loc Cert.BrIdeal.main_v0)),
      θ_run (Cert.BrIdeal.defs (F := Ideal)) (onTc (τ := Cert.BrIdeal.τ) (Cert.BrIdeal.main (F := Ideal))) ⟨m, fun _ => 0, g⟩ (fun r => ∀ c : Dev Cert.BrIdeal.nD,
          r.2.mem ((c.tc : Thread Cert.BrIdeal.nD Cert.BrIdeal.τ).loc Cert.BrIdeal.main_v0) = v0 c
          ∧ r.2.mem ((c.tc : Thread Cert.BrIdeal.nD Cert.BrIdeal.τ).loc Cert.BrIdeal.main_arg0) = m ((c.tc : Thread Cert.BrIdeal.nD Cert.BrIdeal.τ).loc Cert.BrIdeal.main_arg0)
          ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ θ_run (Cert.BrRefIdeal.defs (F := Ideal)) (onTc (τ := Cert.BrRefIdeal.τ) (Cert.BrRefIdeal.main (F := Ideal))) ⟨m', fun _ => 0, g'⟩ (fun r => ∀ c : Dev Cert.BrRefIdeal.nD,
          r.2.mem ((c.tc : Thread Cert.BrRefIdeal.nD Cert.BrRefIdeal.τ).loc Cert.BrRefIdeal.main_v3) = v0 c
          ∧ r.2.mem ((c.tc : Thread Cert.BrRefIdeal.nD Cert.BrRefIdeal.τ).loc Cert.BrRefIdeal.main_arg0) = m' ((c.tc : Thread Cert.BrRefIdeal.nD Cert.BrRefIdeal.τ).loc Cert.BrRefIdeal.main_arg0)
          ∧ r.2.mem ((c.tc : Thread Cert.BrRefIdeal.nD Cert.BrRefIdeal.τ).loc Cert.BrRefIdeal.main_arg1) = m' ((c.tc : Thread Cert.BrRefIdeal.nD Cert.BrRefIdeal.τ).loc Cert.BrRefIdeal.main_arg1))

def preserves_BrDa_BrDaIdeal : Prop :=
  True

def algebraic_BrDaIdeal_BrDaRefIdeal [hBrDaIdeal : Cert.BrDaIdeal.Facts] [hBrDaRefIdeal : Cert.BrDaRefIdeal.Facts] : Prop :=
  ∀ (m : (ℓ : Loc Cert.BrDaIdeal.nD Cert.BrDaIdeal.τ Cert.BrDaIdeal.sig) → Buf (Elt Ideal) ℓ) (g : Dev Cert.BrDaIdeal.nD → PrngReg)
    (m' : (ℓ : Loc Cert.BrDaRefIdeal.nD Cert.BrDaRefIdeal.τ Cert.BrDaRefIdeal.sig) → Buf (Elt Ideal) ℓ) (g' : Dev Cert.BrDaRefIdeal.nD → PrngReg), Pre_BrDaIdeal m →
    (∀ c : Dev Cert.BrDaIdeal.nD,
      m' ((c.tc : Thread Cert.BrDaRefIdeal.nD Cert.BrDaRefIdeal.τ).loc Cert.BrDaRefIdeal.main_arg0) = m ((c.tc : Thread Cert.BrDaIdeal.nD Cert.BrDaIdeal.τ).loc Cert.BrDaIdeal.main_arg0)
      ∧ m' ((c.tc : Thread Cert.BrDaRefIdeal.nD Cert.BrDaRefIdeal.τ).loc Cert.BrDaRefIdeal.main_arg1) = m ((c.tc : Thread Cert.BrDaIdeal.nD Cert.BrDaIdeal.τ).loc Cert.BrDaIdeal.main_arg1)) →
    ∃ (v0 : (c : Dev Cert.BrDaIdeal.nD) → Buf (Elt Ideal) ((c.tc : Thread Cert.BrDaIdeal.nD Cert.BrDaIdeal.τ).loc Cert.BrDaIdeal.main_v0)),
      θ_run (Cert.BrDaIdeal.defs (F := Ideal)) (onTc (τ := Cert.BrDaIdeal.τ) (Cert.BrDaIdeal.main (F := Ideal))) ⟨m, fun _ => 0, g⟩ (fun r => ∀ c : Dev Cert.BrDaIdeal.nD,
          r.2.mem ((c.tc : Thread Cert.BrDaIdeal.nD Cert.BrDaIdeal.τ).loc Cert.BrDaIdeal.main_v0) = v0 c
          ∧ r.2.mem ((c.tc : Thread Cert.BrDaIdeal.nD Cert.BrDaIdeal.τ).loc Cert.BrDaIdeal.main_arg0) = m ((c.tc : Thread Cert.BrDaIdeal.nD Cert.BrDaIdeal.τ).loc Cert.BrDaIdeal.main_arg0)
          ∧ r.2.mem ((c.tc : Thread Cert.BrDaIdeal.nD Cert.BrDaIdeal.τ).loc Cert.BrDaIdeal.main_arg1) = m ((c.tc : Thread Cert.BrDaIdeal.nD Cert.BrDaIdeal.τ).loc Cert.BrDaIdeal.main_arg1))
      ∧ θ_run (Cert.BrDaRefIdeal.defs (F := Ideal)) (onTc (τ := Cert.BrDaRefIdeal.τ) (Cert.BrDaRefIdeal.main (F := Ideal))) ⟨m', fun _ => 0, g'⟩ (fun r => ∀ c : Dev Cert.BrDaRefIdeal.nD,
          r.2.mem ((c.tc : Thread Cert.BrDaRefIdeal.nD Cert.BrDaRefIdeal.τ).loc Cert.BrDaRefIdeal.main_v5) = v0 c
          ∧ r.2.mem ((c.tc : Thread Cert.BrDaRefIdeal.nD Cert.BrDaRefIdeal.τ).loc Cert.BrDaRefIdeal.main_arg0) = m' ((c.tc : Thread Cert.BrDaRefIdeal.nD Cert.BrDaRefIdeal.τ).loc Cert.BrDaRefIdeal.main_arg0)
          ∧ r.2.mem ((c.tc : Thread Cert.BrDaRefIdeal.nD Cert.BrDaRefIdeal.τ).loc Cert.BrDaRefIdeal.main_arg1) = m' ((c.tc : Thread Cert.BrDaRefIdeal.nD Cert.BrDaRefIdeal.τ).loc Cert.BrDaRefIdeal.main_arg1))

def preserves_BrDb_BrDbIdeal : Prop :=
  True

def algebraic_BrDbIdeal_BrDbRefIdeal [hBrDbIdeal : Cert.BrDbIdeal.Facts] [hBrDbRefIdeal : Cert.BrDbRefIdeal.Facts] : Prop :=
  ∀ (m : (ℓ : Loc Cert.BrDbIdeal.nD Cert.BrDbIdeal.τ Cert.BrDbIdeal.sig) → Buf (Elt Ideal) ℓ) (g : Dev Cert.BrDbIdeal.nD → PrngReg)
    (m' : (ℓ : Loc Cert.BrDbRefIdeal.nD Cert.BrDbRefIdeal.τ Cert.BrDbRefIdeal.sig) → Buf (Elt Ideal) ℓ) (g' : Dev Cert.BrDbRefIdeal.nD → PrngReg), Pre_BrDbIdeal m →
    (∀ c : Dev Cert.BrDbIdeal.nD,
      m' ((c.tc : Thread Cert.BrDbRefIdeal.nD Cert.BrDbRefIdeal.τ).loc Cert.BrDbRefIdeal.main_arg0) = m ((c.tc : Thread Cert.BrDbIdeal.nD Cert.BrDbIdeal.τ).loc Cert.BrDbIdeal.main_arg0)
      ∧ m' ((c.tc : Thread Cert.BrDbRefIdeal.nD Cert.BrDbRefIdeal.τ).loc Cert.BrDbRefIdeal.main_arg1) = m ((c.tc : Thread Cert.BrDbIdeal.nD Cert.BrDbIdeal.τ).loc Cert.BrDbIdeal.main_arg1)) →
    ∃ (v0 : (c : Dev Cert.BrDbIdeal.nD) → Buf (Elt Ideal) ((c.tc : Thread Cert.BrDbIdeal.nD Cert.BrDbIdeal.τ).loc Cert.BrDbIdeal.main_v0)),
      θ_run (Cert.BrDbIdeal.defs (F := Ideal)) (onTc (τ := Cert.BrDbIdeal.τ) (Cert.BrDbIdeal.main (F := Ideal))) ⟨m, fun _ => 0, g⟩ (fun r => ∀ c : Dev Cert.BrDbIdeal.nD,
          r.2.mem ((c.tc : Thread Cert.BrDbIdeal.nD Cert.BrDbIdeal.τ).loc Cert.BrDbIdeal.main_v0) = v0 c
          ∧ r.2.mem ((c.tc : Thread Cert.BrDbIdeal.nD Cert.BrDbIdeal.τ).loc Cert.BrDbIdeal.main_arg0) = m ((c.tc : Thread Cert.BrDbIdeal.nD Cert.BrDbIdeal.τ).loc Cert.BrDbIdeal.main_arg0)
          ∧ r.2.mem ((c.tc : Thread Cert.BrDbIdeal.nD Cert.BrDbIdeal.τ).loc Cert.BrDbIdeal.main_arg1) = m ((c.tc : Thread Cert.BrDbIdeal.nD Cert.BrDbIdeal.τ).loc Cert.BrDbIdeal.main_arg1))
      ∧ θ_run (Cert.BrDbRefIdeal.defs (F := Ideal)) (onTc (τ := Cert.BrDbRefIdeal.τ) (Cert.BrDbRefIdeal.main (F := Ideal))) ⟨m', fun _ => 0, g'⟩ (fun r => ∀ c : Dev Cert.BrDbRefIdeal.nD,
          r.2.mem ((c.tc : Thread Cert.BrDbRefIdeal.nD Cert.BrDbRefIdeal.τ).loc Cert.BrDbRefIdeal.main_v5) = v0 c
          ∧ r.2.mem ((c.tc : Thread Cert.BrDbRefIdeal.nD Cert.BrDbRefIdeal.τ).loc Cert.BrDbRefIdeal.main_arg0) = m' ((c.tc : Thread Cert.BrDbRefIdeal.nD Cert.BrDbRefIdeal.τ).loc Cert.BrDbRefIdeal.main_arg0)
          ∧ r.2.mem ((c.tc : Thread Cert.BrDbRefIdeal.nD Cert.BrDbRefIdeal.τ).loc Cert.BrDbRefIdeal.main_arg1) = m' ((c.tc : Thread Cert.BrDbRefIdeal.nD Cert.BrDbRefIdeal.τ).loc Cert.BrDbRefIdeal.main_arg1))

def preserves_OutDa_OutDaIdeal : Prop :=
  True

def algebraic_OutDaIdeal_OutDaRefIdeal [hOutDaIdeal : Cert.OutDaIdeal.Facts] [hOutDaRefIdeal : Cert.OutDaRefIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaRefIdeal.nD Cert.OutDaRefIdeal.τ Cert.OutDaRefIdeal.sig) → Buf (Elt Ideal) ℓ) (g' : Dev Cert.OutDaRefIdeal.nD → PrngReg), Pre_OutDaIdeal m →
    (∀ c : Dev Cert.OutDaIdeal.nD,
      m' ((c.tc : Thread Cert.OutDaRefIdeal.nD Cert.OutDaRefIdeal.τ).loc Cert.OutDaRefIdeal.main_arg0) = m ((c.tc : Thread Cert.OutDaIdeal.nD Cert.OutDaIdeal.τ).loc Cert.OutDaIdeal.main_arg0)
      ∧ m' ((c.tc : Thread Cert.OutDaRefIdeal.nD Cert.OutDaRefIdeal.τ).loc Cert.OutDaRefIdeal.main_arg1) = m ((c.tc : Thread Cert.OutDaIdeal.nD Cert.OutDaIdeal.τ).loc Cert.OutDaIdeal.main_arg1)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ θ_run (Cert.OutDaRefIdeal.defs (F := Ideal)) (onTc (τ := Cert.OutDaRefIdeal.τ) (Cert.OutDaRefIdeal.main (F := Ideal))) ⟨m', fun _ => 0, g'⟩ (fun r => ∀ c : Dev Cert.OutDaRefIdeal.nD,
          r.2.mem ((c.tc : Thread Cert.OutDaRefIdeal.nD Cert.OutDaRefIdeal.τ).loc Cert.OutDaRefIdeal.main_v4) = v0 c
          ∧ r.2.mem ((c.tc : Thread Cert.OutDaRefIdeal.nD Cert.OutDaRefIdeal.τ).loc Cert.OutDaRefIdeal.main_arg0) = m' ((c.tc : Thread Cert.OutDaRefIdeal.nD Cert.OutDaRefIdeal.τ).loc Cert.OutDaRefIdeal.main_arg0)
          ∧ r.2.mem ((c.tc : Thread Cert.OutDaRefIdeal.nD Cert.OutDaRefIdeal.τ).loc Cert.OutDaRefIdeal.main_arg1) = m' ((c.tc : Thread Cert.OutDaRefIdeal.nD Cert.OutDaRefIdeal.τ).loc Cert.OutDaRefIdeal.main_arg1))

def preserves_AdamWMod_AdamWModIdeal : Prop :=
  True

def algebraic_AdamWModIdeal_AdamWModRefIdeal [hAdamWModIdeal : Cert.AdamWModIdeal.Facts] [hAdamWModRefIdeal : Cert.AdamWModRefIdeal.Facts] : Prop :=
  ∀ (m : (ℓ : Loc Cert.AdamWModIdeal.nD Cert.AdamWModIdeal.τ Cert.AdamWModIdeal.sig) → Buf (Elt Ideal) ℓ) (g : Dev Cert.AdamWModIdeal.nD → PrngReg)
    (m' : (ℓ : Loc Cert.AdamWModRefIdeal.nD Cert.AdamWModRefIdeal.τ Cert.AdamWModRefIdeal.sig) → Buf (Elt Ideal) ℓ) (g' : Dev Cert.AdamWModRefIdeal.nD → PrngReg), Pre_AdamWModIdeal m →
    (∀ c : Dev Cert.AdamWModIdeal.nD,
      m' ((c.tc : Thread Cert.AdamWModRefIdeal.nD Cert.AdamWModRefIdeal.τ).loc Cert.AdamWModRefIdeal.main_arg0) = m ((c.tc : Thread Cert.AdamWModIdeal.nD Cert.AdamWModIdeal.τ).loc Cert.AdamWModIdeal.main_arg0)
      ∧ m' ((c.tc : Thread Cert.AdamWModRefIdeal.nD Cert.AdamWModRefIdeal.τ).loc Cert.AdamWModRefIdeal.main_arg1) = m ((c.tc : Thread Cert.AdamWModIdeal.nD Cert.AdamWModIdeal.τ).loc Cert.AdamWModIdeal.main_arg1)
      ∧ m' ((c.tc : Thread Cert.AdamWModRefIdeal.nD Cert.AdamWModRefIdeal.τ).loc Cert.AdamWModRefIdeal.main_arg2) = m ((c.tc : Thread Cert.AdamWModIdeal.nD Cert.AdamWModIdeal.τ).loc Cert.AdamWModIdeal.main_arg2)
      ∧ m' ((c.tc : Thread Cert.AdamWModRefIdeal.nD Cert.AdamWModRefIdeal.τ).loc Cert.AdamWModRefIdeal.main_arg3) = m ((c.tc : Thread Cert.AdamWModIdeal.nD Cert.AdamWModIdeal.τ).loc Cert.AdamWModIdeal.main_arg3)) →
    ∃ (v0 : (c : Dev Cert.AdamWModIdeal.nD) → Buf (Elt Ideal) ((c.tc : Thread Cert.AdamWModIdeal.nD Cert.AdamWModIdeal.τ).loc Cert.AdamWModIdeal.main_v4_0)) (v1 : (c : Dev Cert.AdamWModIdeal.nD) → Buf (Elt Ideal) ((c.tc : Thread Cert.AdamWModIdeal.nD Cert.AdamWModIdeal.τ).loc Cert.AdamWModIdeal.main_v4_1)) (v2 : (c : Dev Cert.AdamWModIdeal.nD) → Buf (Elt Ideal) ((c.tc : Thread Cert.AdamWModIdeal.nD Cert.AdamWModIdeal.τ).loc Cert.AdamWModIdeal.main_v4_2)),
      θ_run (Cert.AdamWModIdeal.defs (F := Ideal)) (onTc (τ := Cert.AdamWModIdeal.τ) (Cert.AdamWModIdeal.main (F := Ideal))) ⟨m, fun _ => 0, g⟩ (fun r => ∀ c : Dev Cert.AdamWModIdeal.nD,
          r.2.mem ((c.tc : Thread Cert.AdamWModIdeal.nD Cert.AdamWModIdeal.τ).loc Cert.AdamWModIdeal.main_v4_0) = v0 c
          ∧ r.2.mem ((c.tc : Thread Cert.AdamWModIdeal.nD Cert.AdamWModIdeal.τ).loc Cert.AdamWModIdeal.main_v4_1) = v1 c
          ∧ r.2.mem ((c.tc : Thread Cert.AdamWModIdeal.nD Cert.AdamWModIdeal.τ).loc Cert.AdamWModIdeal.main_v4_2) = v2 c
          ∧ r.2.mem ((c.tc : Thread Cert.AdamWModIdeal.nD Cert.AdamWModIdeal.τ).loc Cert.AdamWModIdeal.main_arg0) = m ((c.tc : Thread Cert.AdamWModIdeal.nD Cert.AdamWModIdeal.τ).loc Cert.AdamWModIdeal.main_arg0)
          ∧ r.2.mem ((c.tc : Thread Cert.AdamWModIdeal.nD Cert.AdamWModIdeal.τ).loc Cert.AdamWModIdeal.main_arg1) = m ((c.tc : Thread Cert.AdamWModIdeal.nD Cert.AdamWModIdeal.τ).loc Cert.AdamWModIdeal.main_arg1)
          ∧ r.2.mem ((c.tc : Thread Cert.AdamWModIdeal.nD Cert.AdamWModIdeal.τ).loc Cert.AdamWModIdeal.main_arg2) = m ((c.tc : Thread Cert.AdamWModIdeal.nD Cert.AdamWModIdeal.τ).loc Cert.AdamWModIdeal.main_arg2)
          ∧ r.2.mem ((c.tc : Thread Cert.AdamWModIdeal.nD Cert.AdamWModIdeal.τ).loc Cert.AdamWModIdeal.main_arg3) = m ((c.tc : Thread Cert.AdamWModIdeal.nD Cert.AdamWModIdeal.τ).loc Cert.AdamWModIdeal.main_arg3))
      ∧ θ_run (Cert.AdamWModRefIdeal.defs (F := Ideal)) (onTc (τ := Cert.AdamWModRefIdeal.τ) (Cert.AdamWModRefIdeal.main (F := Ideal))) ⟨m', fun _ => 0, g'⟩ (fun r => ∀ c : Dev Cert.AdamWModRefIdeal.nD,
          r.2.mem ((c.tc : Thread Cert.AdamWModRefIdeal.nD Cert.AdamWModRefIdeal.τ).loc Cert.AdamWModRefIdeal.main_v24) = v0 c
          ∧ r.2.mem ((c.tc : Thread Cert.AdamWModRefIdeal.nD Cert.AdamWModRefIdeal.τ).loc Cert.AdamWModRefIdeal.main_v25) = v1 c
          ∧ r.2.mem ((c.tc : Thread Cert.AdamWModRefIdeal.nD Cert.AdamWModRefIdeal.τ).loc Cert.AdamWModRefIdeal.main_v26) = v2 c
          ∧ r.2.mem ((c.tc : Thread Cert.AdamWModRefIdeal.nD Cert.AdamWModRefIdeal.τ).loc Cert.AdamWModRefIdeal.main_arg0) = m' ((c.tc : Thread Cert.AdamWModRefIdeal.nD Cert.AdamWModRefIdeal.τ).loc Cert.AdamWModRefIdeal.main_arg0)
          ∧ r.2.mem ((c.tc : Thread Cert.AdamWModRefIdeal.nD Cert.AdamWModRefIdeal.τ).loc Cert.AdamWModRefIdeal.main_arg1) = m' ((c.tc : Thread Cert.AdamWModRefIdeal.nD Cert.AdamWModRefIdeal.τ).loc Cert.AdamWModRefIdeal.main_arg1)
          ∧ r.2.mem ((c.tc : Thread Cert.AdamWModRefIdeal.nD Cert.AdamWModRefIdeal.τ).loc Cert.AdamWModRefIdeal.main_arg2) = m' ((c.tc : Thread Cert.AdamWModRefIdeal.nD Cert.AdamWModRefIdeal.τ).loc Cert.AdamWModRefIdeal.main_arg2)
          ∧ r.2.mem ((c.tc : Thread Cert.AdamWModRefIdeal.nD Cert.AdamWModRefIdeal.τ).loc Cert.AdamWModRefIdeal.main_arg3) = m' ((c.tc : Thread Cert.AdamWModRefIdeal.nD Cert.AdamWModRefIdeal.τ).loc Cert.AdamWModRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4_0)) (v1 : (c : Dev Cert.AdamWInIdeal.nD) → Buf (Elt Ideal) ((c.tc : Thread Cert.AdamWInIdeal.nD Cert.AdamWInIdeal.τ).loc Cert.AdamWInIdeal.main_v4_1)) (v2 : (c : Dev Cert.AdamWInIdeal.nD) → Buf (Elt Ideal) ((c.tc : Thread Cert.AdamWInIdeal.nD Cert.AdamWInIdeal.τ).loc Cert.AdamWInIdeal.main_v4_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4_0) = v0 c
          ∧ r.2.mem ((c.tc : Thread Cert.AdamWInIdeal.nD Cert.AdamWInIdeal.τ).loc Cert.AdamWInIdeal.main_v4_1) = v1 c
          ∧ r.2.mem ((c.tc : Thread Cert.AdamWInIdeal.nD Cert.AdamWInIdeal.τ).loc Cert.AdamWInIdeal.main_v4_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v24) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v26) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamS5WGlu_AdamS5WGluIdeal : Prop :=
  True

def algebraic_AdamS5WGluIdeal_AdamS5WGluRefIdeal [hAdamS5WGluIdeal : Cert.AdamS5WGluIdeal.Facts] [hAdamS5WGluRefIdeal : Cert.AdamS5WGluRefIdeal.Facts] : Prop :=
  ∀ (m : (ℓ : Loc Cert.AdamS5WGluIdeal.nD Cert.AdamS5WGluIdeal.τ Cert.AdamS5WGluIdeal.sig) → Buf (Elt Ideal) ℓ) (g : Dev Cert.AdamS5WGluIdeal.nD → PrngReg)
    (m' : (ℓ : Loc Cert.AdamS5WGluRefIdeal.nD Cert.AdamS5WGluRefIdeal.τ Cert.AdamS5WGluRefIdeal.sig) → Buf (Elt Ideal) ℓ) (g' : Dev Cert.AdamS5WGluRefIdeal.nD → PrngReg), Pre_AdamS5WGluIdeal m →
    (∀ c : Dev Cert.AdamS5WGluIdeal.nD,
      m' ((c.tc : Thread Cert.AdamS5WGluRefIdeal.nD Cert.AdamS5WGluRefIdeal.τ).loc Cert.AdamS5WGluRefIdeal.main_arg0) = m ((c.tc : Thread Cert.AdamS5WGluIdeal.nD Cert.AdamS5WGluIdeal.τ).loc Cert.AdamS5WGluIdeal.main_arg0)
      ∧ m' ((c.tc : Thread Cert.AdamS5WGluRefIdeal.nD Cert.AdamS5WGluRefIdeal.τ).loc Cert.AdamS5WGluRefIdeal.main_arg1) = m ((c.tc : Thread Cert.AdamS5WGluIdeal.nD Cert.AdamS5WGluIdeal.τ).loc Cert.AdamS5WGluIdeal.main_arg1)
      ∧ m' ((c.tc : Thread Cert.AdamS5WGluRefIdeal.nD Cert.AdamS5WGluRefIdeal.τ).loc Cert.AdamS5WGluRefIdeal.main_arg2) = m ((c.tc : Thread Cert.AdamS5WGluIdeal.nD Cert.AdamS5WGluIdeal.τ).loc Cert.AdamS5WGluIdeal.main_arg2)
      ∧ m' ((c.tc : Thread Cert.AdamS5WGluRefIdeal.nD Cert.AdamS5WGluRefIdeal.τ).loc Cert.AdamS5WGluRefIdeal.main_arg3) = m ((c.tc : Thread Cert.AdamS5WGluIdeal.nD Cert.AdamS5WGluIdeal.τ).loc Cert.AdamS5WGluIdeal.main_arg3)) →
    ∃ (v0 : (c : Dev Cert.AdamS5WGluIdeal.nD) → Buf (Elt Ideal) ((c.tc : Thread Cert.AdamS5WGluIdeal.nD Cert.AdamS5WGluIdeal.τ).loc Cert.AdamS5WGluIdeal.main_v4_0)) (v1 : (c : Dev Cert.AdamS5WGluIdeal.nD) → Buf (Elt Ideal) ((c.tc : Thread Cert.AdamS5WGluIdeal.nD Cert.AdamS5WGluIdeal.τ).loc Cert.AdamS5WGluIdeal.main_v4_1)) (v2 : (c : Dev Cert.AdamS5WGluIdeal.nD) → Buf (Elt Ideal) ((c.tc : Thread Cert.AdamS5WGluIdeal.nD Cert.AdamS5WGluIdeal.τ).loc Cert.AdamS5WGluIdeal.main_v4_2)),
      θ_run (Cert.AdamS5WGluIdeal.defs (F := Ideal)) (onTc (τ := Cert.AdamS5WGluIdeal.τ) (Cert.AdamS5WGluIdeal.main (F := Ideal))) ⟨m, fun _ => 0, g⟩ (fun r => ∀ c : Dev Cert.AdamS5WGluIdeal.nD,
          r.2.mem ((c.tc : Thread Cert.AdamS5WGluIdeal.nD Cert.AdamS5WGluIdeal.τ).loc Cert.AdamS5WGluIdeal.main_v4_0) = v0 c
          ∧ r.2.mem ((c.tc : Thread Cert.AdamS5WGluIdeal.nD Cert.AdamS5WGluIdeal.τ).loc Cert.AdamS5WGluIdeal.main_v4_1) = v1 c
          ∧ r.2.mem ((c.tc : Thread Cert.AdamS5WGluIdeal.nD Cert.AdamS5WGluIdeal.τ).loc Cert.AdamS5WGluIdeal.main_v4_2) = v2 c
          ∧ r.2.mem ((c.tc : Thread Cert.AdamS5WGluIdeal.nD Cert.AdamS5WGluIdeal.τ).loc Cert.AdamS5WGluIdeal.main_arg0) = m ((c.tc : Thread Cert.AdamS5WGluIdeal.nD Cert.AdamS5WGluIdeal.τ).loc Cert.AdamS5WGluIdeal.main_arg0)
          ∧ r.2.mem ((c.tc : Thread Cert.AdamS5WGluIdeal.nD Cert.AdamS5WGluIdeal.τ).loc Cert.AdamS5WGluIdeal.main_arg1) = m ((c.tc : Thread Cert.AdamS5WGluIdeal.nD Cert.AdamS5WGluIdeal.τ).loc Cert.AdamS5WGluIdeal.main_arg1)
          ∧ r.2.mem ((c.tc : Thread Cert.AdamS5WGluIdeal.nD Cert.AdamS5WGluIdeal.τ).loc Cert.AdamS5WGluIdeal.main_arg2) = m ((c.tc : Thread Cert.AdamS5WGluIdeal.nD Cert.AdamS5WGluIdeal.τ).loc Cert.AdamS5WGluIdeal.main_arg2)
          ∧ r.2.mem ((c.tc : Thread Cert.AdamS5WGluIdeal.nD Cert.AdamS5WGluIdeal.τ).loc Cert.AdamS5WGluIdeal.main_arg3) = m ((c.tc : Thread Cert.AdamS5WGluIdeal.nD Cert.AdamS5WGluIdeal.τ).loc Cert.AdamS5WGluIdeal.main_arg3))
      ∧ θ_run (Cert.AdamS5WGluRefIdeal.defs (F := Ideal)) (onTc (τ := Cert.AdamS5WGluRefIdeal.τ) (Cert.AdamS5WGluRefIdeal.main (F := Ideal))) ⟨m', fun _ => 0, g'⟩ (fun r => ∀ c : Dev Cert.AdamS5WGluRefIdeal.nD,
          r.2.mem ((c.tc : Thread Cert.AdamS5WGluRefIdeal.nD Cert.AdamS5WGluRefIdeal.τ).loc Cert.AdamS5WGluRefIdeal.main_v24) = v0 c
          ∧ r.2.mem ((c.tc : Thread Cert.AdamS5WGluRefIdeal.nD Cert.AdamS5WGluRefIdeal.τ).loc Cert.AdamS5WGluRefIdeal.main_v25) = v1 c
          ∧ r.2.mem ((c.tc : Thread Cert.AdamS5WGluRefIdeal.nD Cert.AdamS5WGluRefIdeal.τ).loc Cert.AdamS5WGluRefIdeal.main_v26) = v2 c
          ∧ r.2.mem ((c.tc : Thread Cert.AdamS5WGluRefIdeal.nD Cert.AdamS5WGluRefIdeal.τ).loc Cert.AdamS5WGluRefIdeal.main_arg0) = m' ((c.tc : Thread Cert.AdamS5WGluRefIdeal.nD Cert.AdamS5WGluRefIdeal.τ).loc Cert.AdamS5WGluRefIdeal.main_arg0)
          ∧ r.2.mem ((c.tc : Thread Cert.AdamS5WGluRefIdeal.nD Cert.AdamS5WGluRefIdeal.τ).loc Cert.AdamS5WGluRefIdeal.main_arg1) = m' ((c.tc : Thread Cert.AdamS5WGluRefIdeal.nD Cert.AdamS5WGluRefIdeal.τ).loc Cert.AdamS5WGluRefIdeal.main_arg1)
          ∧ r.2.mem ((c.tc : Thread Cert.AdamS5WGluRefIdeal.nD Cert.AdamS5WGluRefIdeal.τ).loc Cert.AdamS5WGluRefIdeal.main_arg2) = m' ((c.tc : Thread Cert.AdamS5WGluRefIdeal.nD Cert.AdamS5WGluRefIdeal.τ).loc Cert.AdamS5WGluRefIdeal.main_arg2)
          ∧ r.2.mem ((c.tc : Thread Cert.AdamS5WGluRefIdeal.nD Cert.AdamS5WGluRefIdeal.τ).loc Cert.AdamS5WGluRefIdeal.main_arg3) = m' ((c.tc : Thread Cert.AdamS5WGluRefIdeal.nD Cert.AdamS5WGluRefIdeal.τ).loc Cert.AdamS5WGluRefIdeal.main_arg3))

def preserves_AdamWBranch_AdamWBranchIdeal : Prop :=
  True

def algebraic_AdamWBranchIdeal_AdamWBranchRefIdeal [hAdamWBranchIdeal : Cert.AdamWBranchIdeal.Facts] [hAdamWBranchRefIdeal : Cert.AdamWBranchRefIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg)
    (m' : (ℓ : Loc Cert.AdamWBranchRefIdeal.nD Cert.AdamWBranchRefIdeal.τ Cert.AdamWBranchRefIdeal.sig) → Buf (Elt Ideal) ℓ) (g' : Dev Cert.AdamWBranchRefIdeal.nD → PrngReg), Pre_AdamWBranchIdeal m →
    (∀ c : Dev Cert.AdamWBranchIdeal.nD,
      m' ((c.tc : Thread Cert.AdamWBranchRefIdeal.nD Cert.AdamWBranchRefIdeal.τ).loc Cert.AdamWBranchRefIdeal.main_arg0) = m ((c.tc : Thread Cert.AdamWBranchIdeal.nD Cert.AdamWBranchIdeal.τ).loc Cert.AdamWBranchIdeal.main_arg0)
      ∧ m' ((c.tc : Thread Cert.AdamWBranchRefIdeal.nD Cert.AdamWBranchRefIdeal.τ).loc Cert.AdamWBranchRefIdeal.main_arg1) = m ((c.tc : Thread Cert.AdamWBranchIdeal.nD Cert.AdamWBranchIdeal.τ).loc Cert.AdamWBranchIdeal.main_arg1)
      ∧ m' ((c.tc : Thread Cert.AdamWBranchRefIdeal.nD Cert.AdamWBranchRefIdeal.τ).loc Cert.AdamWBranchRefIdeal.main_arg2) = m ((c.tc : Thread Cert.AdamWBranchIdeal.nD Cert.AdamWBranchIdeal.τ).loc Cert.AdamWBranchIdeal.main_arg2)
      ∧ m' ((c.tc : Thread Cert.AdamWBranchRefIdeal.nD Cert.AdamWBranchRefIdeal.τ).loc Cert.AdamWBranchRefIdeal.main_arg3) = m ((c.tc : Thread Cert.AdamWBranchIdeal.nD Cert.AdamWBranchIdeal.τ).loc Cert.AdamWBranchIdeal.main_arg3)) →
    ∃ (v0 : (c : Dev Cert.AdamWBranchIdeal.nD) → Buf (Elt Ideal) ((c.tc : Thread Cert.AdamWBranchIdeal.nD Cert.AdamWBranchIdeal.τ).loc Cert.AdamWBranchIdeal.main_v4_0)) (v1 : (c : Dev Cert.AdamWBranchIdeal.nD) → Buf (Elt Ideal) ((c.tc : Thread Cert.AdamWBranchIdeal.nD Cert.AdamWBranchIdeal.τ).loc Cert.AdamWBranchIdeal.main_v4_1)) (v2 : (c : Dev Cert.AdamWBranchIdeal.nD) → Buf (Elt Ideal) ((c.tc : Thread Cert.AdamWBranchIdeal.nD Cert.AdamWBranchIdeal.τ).loc Cert.AdamWBranchIdeal.main_v4_2)),
      θ_run (Cert.AdamWBranchIdeal.defs (F := Ideal)) (onTc (τ := Cert.AdamWBranchIdeal.τ) (Cert.AdamWBranchIdeal.main (F := Ideal))) ⟨m, fun _ => 0, g⟩ (fun r => ∀ c : Dev Cert.AdamWBranchIdeal.nD,
          r.2.mem ((c.tc : Thread Cert.AdamWBranchIdeal.nD Cert.AdamWBranchIdeal.τ).loc Cert.AdamWBranchIdeal.main_v4_0) = v0 c
          ∧ r.2.mem ((c.tc : Thread Cert.AdamWBranchIdeal.nD Cert.AdamWBranchIdeal.τ).loc Cert.AdamWBranchIdeal.main_v4_1) = v1 c
          ∧ r.2.mem ((c.tc : Thread Cert.AdamWBranchIdeal.nD Cert.AdamWBranchIdeal.τ).loc Cert.AdamWBranchIdeal.main_v4_2) = v2 c
          ∧ r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
          ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
          ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
          ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ θ_run (Cert.AdamWBranchRefIdeal.defs (F := Ideal)) (onTc (τ := Cert.AdamWBranchRefIdeal.τ) (Cert.AdamWBranchRefIdeal.main (F := Ideal))) ⟨m', fun _ => 0, g'⟩ (fun r => ∀ c : Dev Cert.AdamWBranchRefIdeal.nD,
          r.2.mem ((c.tc : Thread Cert.AdamWBranchRefIdeal.nD Cert.AdamWBranchRefIdeal.τ).loc Cert.AdamWBranchRefIdeal.main_v24) = v0 c
          ∧ r.2.mem ((c.tc : Thread Cert.AdamWBranchRefIdeal.nD Cert.AdamWBranchRefIdeal.τ).loc Cert.AdamWBranchRefIdeal.main_v25) = v1 c
          ∧ r.2.mem ((c.tc : Thread Cert.AdamWBranchRefIdeal.nD Cert.AdamWBranchRefIdeal.τ).loc Cert.AdamWBranchRefIdeal.main_v26) = v2 c
          ∧ r.2.mem ((c.tc : Thread Cert.AdamWBranchRefIdeal.nD Cert.AdamWBranchRefIdeal.τ).loc Cert.AdamWBranchRefIdeal.main_arg0) = m' ((c.tc : Thread Cert.AdamWBranchRefIdeal.nD Cert.AdamWBranchRefIdeal.τ).loc Cert.AdamWBranchRefIdeal.main_arg0)
          ∧ r.2.mem ((c.tc : Thread Cert.AdamWBranchRefIdeal.nD Cert.AdamWBranchRefIdeal.τ).loc Cert.AdamWBranchRefIdeal.main_arg1) = m' ((c.tc : Thread Cert.AdamWBranchRefIdeal.nD Cert.AdamWBranchRefIdeal.τ).loc Cert.AdamWBranchRefIdeal.main_arg1)
          ∧ r.2.mem ((c.tc : Thread Cert.AdamWBranchRefIdeal.nD Cert.AdamWBranchRefIdeal.τ).loc Cert.AdamWBranchRefIdeal.main_arg2) = m' ((c.tc : Thread Cert.AdamWBranchRefIdeal.nD Cert.AdamWBranchRefIdeal.τ).loc Cert.AdamWBranchRefIdeal.main_arg2)
          ∧ r.2.mem ((c.tc : Thread Cert.AdamWBranchRefIdeal.nD Cert.AdamWBranchRefIdeal.τ).loc Cert.AdamWBranchRefIdeal.main_arg3) = m' ((c.tc : Thread Cert.AdamWBranchRefIdeal.nD Cert.AdamWBranchRefIdeal.τ).loc Cert.AdamWBranchRefIdeal.main_arg3))

def preserves_AdamWGate_AdamWGateIdeal : Prop :=
  True

def algebraic_AdamWGateIdeal_AdamWGateRefIdeal [hAdamWGateIdeal : Cert.AdamWGateIdeal.Facts] [hAdamWGateRefIdeal : Cert.AdamWGateRefIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg)
    (m' : (ℓ : Loc Cert.AdamWGateRefIdeal.nD Cert.AdamWGateRefIdeal.τ Cert.AdamWGateRefIdeal.sig) → Buf (Elt Ideal) ℓ) (g' : Dev Cert.AdamWGateRefIdeal.nD → PrngReg), Pre_AdamWGateIdeal m →
    (∀ c : Dev Cert.AdamWGateIdeal.nD,
      m' ((c.tc : Thread Cert.AdamWGateRefIdeal.nD Cert.AdamWGateRefIdeal.τ).loc Cert.AdamWGateRefIdeal.main_arg0) = m ((c.tc : Thread Cert.AdamWGateIdeal.nD Cert.AdamWGateIdeal.τ).loc Cert.AdamWGateIdeal.main_arg0)
      ∧ m' ((c.tc : Thread Cert.AdamWGateRefIdeal.nD Cert.AdamWGateRefIdeal.τ).loc Cert.AdamWGateRefIdeal.main_arg1) = m ((c.tc : Thread Cert.AdamWGateIdeal.nD Cert.AdamWGateIdeal.τ).loc Cert.AdamWGateIdeal.main_arg1)
      ∧ m' ((c.tc : Thread Cert.AdamWGateRefIdeal.nD Cert.AdamWGateRefIdeal.τ).loc Cert.AdamWGateRefIdeal.main_arg2) = m ((c.tc : Thread Cert.AdamWGateIdeal.nD Cert.AdamWGateIdeal.τ).loc Cert.AdamWGateIdeal.main_arg2)
      ∧ m' ((c.tc : Thread Cert.AdamWGateRefIdeal.nD Cert.AdamWGateRefIdeal.τ).loc Cert.AdamWGateRefIdeal.main_arg3) = m ((c.tc : Thread Cert.AdamWGateIdeal.nD Cert.AdamWGateIdeal.τ).loc Cert.AdamWGateIdeal.main_arg3)) →
    ∃ (v0 : (c : Dev Cert.AdamWGateIdeal.nD) → Buf (Elt Ideal) ((c.tc : Thread Cert.AdamWGateIdeal.nD Cert.AdamWGateIdeal.τ).loc Cert.AdamWGateIdeal.main_v4_0)) (v1 : (c : Dev Cert.AdamWGateIdeal.nD) → Buf (Elt Ideal) ((c.tc : Thread Cert.AdamWGateIdeal.nD Cert.AdamWGateIdeal.τ).loc Cert.AdamWGateIdeal.main_v4_1)) (v2 : (c : Dev Cert.AdamWGateIdeal.nD) → Buf (Elt Ideal) ((c.tc : Thread Cert.AdamWGateIdeal.nD Cert.AdamWGateIdeal.τ).loc Cert.AdamWGateIdeal.main_v4_2)),
      θ_run (Cert.AdamWGateIdeal.defs (F := Ideal)) (onTc (τ := Cert.AdamWGateIdeal.τ) (Cert.AdamWGateIdeal.main (F := Ideal))) ⟨m, fun _ => 0, g⟩ (fun r => ∀ c : Dev Cert.AdamWGateIdeal.nD,
          r.2.mem ((c.tc : Thread Cert.AdamWGateIdeal.nD Cert.AdamWGateIdeal.τ).loc Cert.AdamWGateIdeal.main_v4_0) = v0 c
          ∧ r.2.mem ((c.tc : Thread Cert.AdamWGateIdeal.nD Cert.AdamWGateIdeal.τ).loc Cert.AdamWGateIdeal.main_v4_1) = v1 c
          ∧ r.2.mem ((c.tc : Thread Cert.AdamWGateIdeal.nD Cert.AdamWGateIdeal.τ).loc Cert.AdamWGateIdeal.main_v4_2) = v2 c
          ∧ r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
          ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
          ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
          ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ θ_run (Cert.AdamWGateRefIdeal.defs (F := Ideal)) (onTc (τ := Cert.AdamWGateRefIdeal.τ) (Cert.AdamWGateRefIdeal.main (F := Ideal))) ⟨m', fun _ => 0, g'⟩ (fun r => ∀ c : Dev Cert.AdamWGateRefIdeal.nD,
          r.2.mem ((c.tc : Thread Cert.AdamWGateRefIdeal.nD Cert.AdamWGateRefIdeal.τ).loc Cert.AdamWGateRefIdeal.main_v24) = v0 c
          ∧ r.2.mem ((c.tc : Thread Cert.AdamWGateRefIdeal.nD Cert.AdamWGateRefIdeal.τ).loc Cert.AdamWGateRefIdeal.main_v25) = v1 c
          ∧ r.2.mem ((c.tc : Thread Cert.AdamWGateRefIdeal.nD Cert.AdamWGateRefIdeal.τ).loc Cert.AdamWGateRefIdeal.main_v26) = v2 c
          ∧ r.2.mem ((c.tc : Thread Cert.AdamWGateRefIdeal.nD Cert.AdamWGateRefIdeal.τ).loc Cert.AdamWGateRefIdeal.main_arg0) = m' ((c.tc : Thread Cert.AdamWGateRefIdeal.nD Cert.AdamWGateRefIdeal.τ).loc Cert.AdamWGateRefIdeal.main_arg0)
          ∧ r.2.mem ((c.tc : Thread Cert.AdamWGateRefIdeal.nD Cert.AdamWGateRefIdeal.τ).loc Cert.AdamWGateRefIdeal.main_arg1) = m' ((c.tc : Thread Cert.AdamWGateRefIdeal.nD Cert.AdamWGateRefIdeal.τ).loc Cert.AdamWGateRefIdeal.main_arg1)
          ∧ r.2.mem ((c.tc : Thread Cert.AdamWGateRefIdeal.nD Cert.AdamWGateRefIdeal.τ).loc Cert.AdamWGateRefIdeal.main_arg2) = m' ((c.tc : Thread Cert.AdamWGateRefIdeal.nD Cert.AdamWGateRefIdeal.τ).loc Cert.AdamWGateRefIdeal.main_arg2)
          ∧ r.2.mem ((c.tc : Thread Cert.AdamWGateRefIdeal.nD Cert.AdamWGateRefIdeal.τ).loc Cert.AdamWGateRefIdeal.main_arg3) = m' ((c.tc : Thread Cert.AdamWGateRefIdeal.nD Cert.AdamWGateRefIdeal.τ).loc Cert.AdamWGateRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v4_0)) (v1 : (c : Dev Cert.AdamWOutIdeal.nD) → Buf (Elt Ideal) ((c.tc : Thread Cert.AdamWOutIdeal.nD Cert.AdamWOutIdeal.τ).loc Cert.AdamWOutIdeal.main_v4_1)) (v2 : (c : Dev Cert.AdamWOutIdeal.nD) → Buf (Elt Ideal) ((c.tc : Thread Cert.AdamWOutIdeal.nD Cert.AdamWOutIdeal.τ).loc Cert.AdamWOutIdeal.main_v4_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v4_0) = v0 c
          ∧ r.2.mem ((c.tc : Thread Cert.AdamWOutIdeal.nD Cert.AdamWOutIdeal.τ).loc Cert.AdamWOutIdeal.main_v4_1) = v1 c
          ∧ r.2.mem ((c.tc : Thread Cert.AdamWOutIdeal.nD Cert.AdamWOutIdeal.τ).loc Cert.AdamWOutIdeal.main_v4_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v24) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v26) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_ScanBwd_ScanBwdIdeal : Prop :=
  True

def algebraic_ScanBwdIdeal_ScanBwdRefIdeal_pre_decay_in_range [hScanBwdIdeal : Cert.ScanBwdIdeal.Facts] [hScanBwdRefIdeal : Cert.ScanBwdRefIdeal.Facts] [hPre_decay_in_range : Cert.Pre_decay_in_range.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg)
    (m' : (ℓ : Loc Cert.ScanBwdRefIdeal.nD Cert.ScanBwdRefIdeal.τ Cert.ScanBwdRefIdeal.sig) → Buf (Elt Ideal) ℓ) (g' : Dev Cert.ScanBwdRefIdeal.nD → PrngReg), Pre_ScanBwdIdeal_decay_in_range m →
    (∀ c : Dev Cert.ScanBwdIdeal.nD,
      m' ((c.tc : Thread Cert.ScanBwdRefIdeal.nD Cert.ScanBwdRefIdeal.τ).loc Cert.ScanBwdRefIdeal.main_arg0) = m ((c.tc : Thread Cert.ScanBwdIdeal.nD Cert.ScanBwdIdeal.τ).loc Cert.ScanBwdIdeal.main_arg0)
      ∧ m' ((c.tc : Thread Cert.ScanBwdRefIdeal.nD Cert.ScanBwdRefIdeal.τ).loc Cert.ScanBwdRefIdeal.main_arg1) = m ((c.tc : Thread Cert.ScanBwdIdeal.nD Cert.ScanBwdIdeal.τ).loc Cert.ScanBwdIdeal.main_arg1)
      ∧ m' ((c.tc : Thread Cert.ScanBwdRefIdeal.nD Cert.ScanBwdRefIdeal.τ).loc Cert.ScanBwdRefIdeal.main_arg2) = m ((c.tc : Thread Cert.ScanBwdIdeal.nD Cert.ScanBwdIdeal.τ).loc Cert.ScanBwdIdeal.main_arg2)) →
    ∃ (v0 : (c : Dev Cert.ScanBwdIdeal.nD) → Buf (Elt Ideal) ((c.tc : Thread Cert.ScanBwdIdeal.nD Cert.ScanBwdIdeal.τ).loc Cert.ScanBwdIdeal.main_v0_0)) (v1 : (c : Dev Cert.ScanBwdIdeal.nD) → Buf (Elt Ideal) ((c.tc : Thread Cert.ScanBwdIdeal.nD Cert.ScanBwdIdeal.τ).loc Cert.ScanBwdIdeal.main_v0_1)),
      θ_run (Cert.ScanBwdIdeal.defs (F := Ideal)) (onTc (τ := Cert.ScanBwdIdeal.τ) (Cert.ScanBwdIdeal.main (F := Ideal))) ⟨m, fun _ => 0, g⟩ (fun r => ∀ c : Dev Cert.ScanBwdIdeal.nD,
          r.2.mem ((c.tc : Thread Cert.ScanBwdIdeal.nD Cert.ScanBwdIdeal.τ).loc Cert.ScanBwdIdeal.main_v0_0) = v0 c
          ∧ r.2.mem ((c.tc : Thread Cert.ScanBwdIdeal.nD Cert.ScanBwdIdeal.τ).loc Cert.ScanBwdIdeal.main_v0_1) = v1 c
          ∧ r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
          ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
          ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2))
      ∧ θ_run (Cert.ScanBwdRefIdeal.defs (F := Ideal)) (onTc (τ := Cert.ScanBwdRefIdeal.τ) (Cert.ScanBwdRefIdeal.main (F := Ideal))) ⟨m', fun _ => 0, g'⟩ (fun r => ∀ c : Dev Cert.ScanBwdRefIdeal.nD,
          r.2.mem ((c.tc : Thread Cert.ScanBwdRefIdeal.nD Cert.ScanBwdRefIdeal.τ).loc Cert.ScanBwdRefIdeal.main_v5_5) = v0 c
          ∧ r.2.mem ((c.tc : Thread Cert.ScanBwdRefIdeal.nD Cert.ScanBwdRefIdeal.τ).loc Cert.ScanBwdRefIdeal.main_v5_6) = v1 c
          ∧ r.2.mem ((c.tc : Thread Cert.ScanBwdRefIdeal.nD Cert.ScanBwdRefIdeal.τ).loc Cert.ScanBwdRefIdeal.main_arg0) = m' ((c.tc : Thread Cert.ScanBwdRefIdeal.nD Cert.ScanBwdRefIdeal.τ).loc Cert.ScanBwdRefIdeal.main_arg0)
          ∧ r.2.mem ((c.tc : Thread Cert.ScanBwdRefIdeal.nD Cert.ScanBwdRefIdeal.τ).loc Cert.ScanBwdRefIdeal.main_arg1) = m' ((c.tc : Thread Cert.ScanBwdRefIdeal.nD Cert.ScanBwdRefIdeal.τ).loc Cert.ScanBwdRefIdeal.main_arg1)
          ∧ r.2.mem ((c.tc : Thread Cert.ScanBwdRefIdeal.nD Cert.ScanBwdRefIdeal.τ).loc Cert.ScanBwdRefIdeal.main_arg2) = m' ((c.tc : Thread Cert.ScanBwdRefIdeal.nD Cert.ScanBwdRefIdeal.τ).loc Cert.ScanBwdRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v5)) (v1 : (c : Dev Cert.AdamSmallIdeal.nD) → Buf (Elt Ideal) ((c.tc : Thread Cert.AdamSmallIdeal.nD Cert.AdamSmallIdeal.τ).loc Cert.AdamSmallIdeal.main_v9)) (v2 : (c : Dev Cert.AdamSmallIdeal.nD) → Buf (Elt Ideal) ((c.tc : Thread Cert.AdamSmallIdeal.nD Cert.AdamSmallIdeal.τ).loc Cert.AdamSmallIdeal.main_v14)) (v3 : (c : Dev Cert.AdamSmallIdeal.nD) → Buf (Elt Ideal) ((c.tc : Thread Cert.AdamSmallIdeal.nD Cert.AdamSmallIdeal.τ).loc Cert.AdamSmallIdeal.main_v19)) (v4 : (c : Dev Cert.AdamSmallIdeal.nD) → Buf (Elt Ideal) ((c.tc : Thread Cert.AdamSmallIdeal.nD Cert.AdamSmallIdeal.τ).loc Cert.AdamSmallIdeal.main_v23)) (v5 : (c : Dev Cert.AdamSmallIdeal.nD) → Buf (Elt Ideal) ((c.tc : Thread Cert.AdamSmallIdeal.nD Cert.AdamSmallIdeal.τ).loc Cert.AdamSmallIdeal.main_v26)) (v6 : (c : Dev Cert.AdamSmallIdeal.nD) → Buf (Elt Ideal) ((c.tc : Thread Cert.AdamSmallIdeal.nD Cert.AdamSmallIdeal.τ).loc Cert.AdamSmallIdeal.main_v30)) (v7 : (c : Dev Cert.AdamSmallIdeal.nD) → Buf (Elt Ideal) ((c.tc : Thread Cert.AdamSmallIdeal.nD Cert.AdamSmallIdeal.τ).loc Cert.AdamSmallIdeal.main_v34)) (v8 : (c : Dev Cert.AdamSmallIdeal.nD) → Buf (Elt Ideal) ((c.tc : Thread Cert.AdamSmallIdeal.nD Cert.AdamSmallIdeal.τ).loc Cert.AdamSmallIdeal.main_v38)) (v9 : (c : Dev Cert.AdamSmallIdeal.nD) → Buf (Elt Ideal) ((c.tc : Thread Cert.AdamSmallIdeal.nD Cert.AdamSmallIdeal.τ).loc Cert.AdamSmallIdeal.main_v42)) (v10 : (c : Dev Cert.AdamSmallIdeal.nD) → Buf (Elt Ideal) ((c.tc : Thread Cert.AdamSmallIdeal.nD Cert.AdamSmallIdeal.τ).loc Cert.AdamSmallIdeal.main_v46)) (v11 : (c : Dev Cert.AdamSmallIdeal.nD) → Buf (Elt Ideal) ((c.tc : Thread Cert.AdamSmallIdeal.nD Cert.AdamSmallIdeal.τ).loc Cert.AdamSmallIdeal.main_v51)) (v12 : (c : Dev Cert.AdamSmallIdeal.nD) → Buf (Elt Ideal) ((c.tc : Thread Cert.AdamSmallIdeal.nD Cert.AdamSmallIdeal.τ).loc Cert.AdamSmallIdeal.main_v55)) (v13 : (c : Dev Cert.AdamSmallIdeal.nD) → Buf (Elt Ideal) ((c.tc : Thread Cert.AdamSmallIdeal.nD Cert.AdamSmallIdeal.τ).loc Cert.AdamSmallIdeal.main_v59)) (v14 : (c : Dev Cert.AdamSmallIdeal.nD) → Buf (Elt Ideal) ((c.tc : Thread Cert.AdamSmallIdeal.nD Cert.AdamSmallIdeal.τ).loc Cert.AdamSmallIdeal.main_v63)) (v15 : (c : Dev Cert.AdamSmallIdeal.nD) → Buf (Elt Ideal) ((c.tc : Thread Cert.AdamSmallIdeal.nD Cert.AdamSmallIdeal.τ).loc Cert.AdamSmallIdeal.main_v67)) (v16 : (c : Dev Cert.AdamSmallIdeal.nD) → Buf (Elt Ideal) ((c.tc : Thread Cert.AdamSmallIdeal.nD Cert.AdamSmallIdeal.τ).loc Cert.AdamSmallIdeal.main_v71)) (v17 : (c : Dev Cert.AdamSmallIdeal.nD) → Buf (Elt Ideal) ((c.tc : Thread Cert.AdamSmallIdeal.nD Cert.AdamSmallIdeal.τ).loc Cert.AdamSmallIdeal.main_v75)) (v18 : (c : Dev Cert.AdamSmallIdeal.nD) → Buf (Elt Ideal) ((c.tc : Thread Cert.AdamSmallIdeal.nD Cert.AdamSmallIdeal.τ).loc Cert.AdamSmallIdeal.main_v79)) (v19 : (c : Dev Cert.AdamSmallIdeal.nD) → Buf (Elt Ideal) ((c.tc : Thread Cert.AdamSmallIdeal.nD Cert.AdamSmallIdeal.τ).loc Cert.AdamSmallIdeal.main_v83)) (v20 : (c : Dev Cert.AdamSmallIdeal.nD) → Buf (Elt Ideal) ((c.tc : Thread Cert.AdamSmallIdeal.nD Cert.AdamSmallIdeal.τ).loc Cert.AdamSmallIdeal.main_v87)) (v21 : (c : Dev Cert.AdamSmallIdeal.nD) → Buf (Elt Ideal) ((c.tc : Thread Cert.AdamSmallIdeal.nD Cert.AdamSmallIdeal.τ).loc Cert.AdamSmallIdeal.main_v92)) (v22 : (c : Dev Cert.AdamSmallIdeal.nD) → Buf (Elt Ideal) ((c.tc : Thread Cert.AdamSmallIdeal.nD Cert.AdamSmallIdeal.τ).loc Cert.AdamSmallIdeal.main_v97)) (v23 : (c : Dev Cert.AdamSmallIdeal.nD) → Buf (Elt Ideal) ((c.tc : Thread Cert.AdamSmallIdeal.nD Cert.AdamSmallIdeal.τ).loc Cert.AdamSmallIdeal.main_v102)) (v24 : (c : Dev Cert.AdamSmallIdeal.nD) → Buf (Elt Ideal) ((c.tc : Thread Cert.AdamSmallIdeal.nD Cert.AdamSmallIdeal.τ).loc Cert.AdamSmallIdeal.main_v107)) (v25 : (c : Dev Cert.AdamSmallIdeal.nD) → Buf (Elt Ideal) ((c.tc : Thread Cert.AdamSmallIdeal.nD Cert.AdamSmallIdeal.τ).loc Cert.AdamSmallIdeal.main_v111)) (v26 : (c : Dev Cert.AdamSmallIdeal.nD) → Buf (Elt Ideal) ((c.tc : Thread Cert.AdamSmallIdeal.nD Cert.AdamSmallIdeal.τ).loc Cert.AdamSmallIdeal.main_v114)) (v27 : (c : Dev Cert.AdamSmallIdeal.nD) → Buf (Elt Ideal) ((c.tc : Thread Cert.AdamSmallIdeal.nD Cert.AdamSmallIdeal.τ).loc Cert.AdamSmallIdeal.main_v119)) (v28 : (c : Dev Cert.AdamSmallIdeal.nD) → Buf (Elt Ideal) ((c.tc : Thread Cert.AdamSmallIdeal.nD Cert.AdamSmallIdeal.τ).loc Cert.AdamSmallIdeal.main_v123)) (v29 : (c : Dev Cert.AdamSmallIdeal.nD) → Buf (Elt Ideal) ((c.tc : Thread Cert.AdamSmallIdeal.nD Cert.AdamSmallIdeal.τ).loc Cert.AdamSmallIdeal.main_v128)) (v30 : (c : Dev Cert.AdamSmallIdeal.nD) → Buf (Elt Ideal) ((c.tc : Thread Cert.AdamSmallIdeal.nD Cert.AdamSmallIdeal.τ).loc Cert.AdamSmallIdeal.main_v133)) (v31 : (c : Dev Cert.AdamSmallIdeal.nD) → Buf (Elt Ideal) ((c.tc : Thread Cert.AdamSmallIdeal.nD Cert.AdamSmallIdeal.τ).loc Cert.AdamSmallIdeal.main_v137)) (v32 : (c : Dev Cert.AdamSmallIdeal.nD) → Buf (Elt Ideal) ((c.tc : Thread Cert.AdamSmallIdeal.nD Cert.AdamSmallIdeal.τ).loc Cert.AdamSmallIdeal.main_v140)) (v33 : (c : Dev Cert.AdamSmallIdeal.nD) → Buf (Elt Ideal) ((c.tc : Thread Cert.AdamSmallIdeal.nD Cert.AdamSmallIdeal.τ).loc Cert.AdamSmallIdeal.main_v144)) (v34 : (c : Dev Cert.AdamSmallIdeal.nD) → Buf (Elt Ideal) ((c.tc : Thread Cert.AdamSmallIdeal.nD Cert.AdamSmallIdeal.τ).loc Cert.AdamSmallIdeal.main_v148)) (v35 : (c : Dev Cert.AdamSmallIdeal.nD) → Buf (Elt Ideal) ((c.tc : Thread Cert.AdamSmallIdeal.nD Cert.AdamSmallIdeal.τ).loc Cert.AdamSmallIdeal.main_v152)) (v36 : (c : Dev Cert.AdamSmallIdeal.nD) → Buf (Elt Ideal) ((c.tc : Thread Cert.AdamSmallIdeal.nD Cert.AdamSmallIdeal.τ).loc Cert.AdamSmallIdeal.main_v156)) (v37 : (c : Dev Cert.AdamSmallIdeal.nD) → Buf (Elt Ideal) ((c.tc : Thread Cert.AdamSmallIdeal.nD Cert.AdamSmallIdeal.τ).loc Cert.AdamSmallIdeal.main_v160)) (v38 : (c : Dev Cert.AdamSmallIdeal.nD) → Buf (Elt Ideal) ((c.tc : Thread Cert.AdamSmallIdeal.nD Cert.AdamSmallIdeal.τ).loc Cert.AdamSmallIdeal.main_v165)) (v39 : (c : Dev Cert.AdamSmallIdeal.nD) → Buf (Elt Ideal) ((c.tc : Thread Cert.AdamSmallIdeal.nD Cert.AdamSmallIdeal.τ).loc Cert.AdamSmallIdeal.main_v169)) (v40 : (c : Dev Cert.AdamSmallIdeal.nD) → Buf (Elt Ideal) ((c.tc : Thread Cert.AdamSmallIdeal.nD Cert.AdamSmallIdeal.τ).loc Cert.AdamSmallIdeal.main_v173)) (v41 : (c : Dev Cert.AdamSmallIdeal.nD) → Buf (Elt Ideal) ((c.tc : Thread Cert.AdamSmallIdeal.nD Cert.AdamSmallIdeal.τ).loc Cert.AdamSmallIdeal.main_v177)) (v42 : (c : Dev Cert.AdamSmallIdeal.nD) → Buf (Elt Ideal) ((c.tc : Thread Cert.AdamSmallIdeal.nD Cert.AdamSmallIdeal.τ).loc Cert.AdamSmallIdeal.main_v181)) (v43 : (c : Dev Cert.AdamSmallIdeal.nD) → Buf (Elt Ideal) ((c.tc : Thread Cert.AdamSmallIdeal.nD Cert.AdamSmallIdeal.τ).loc Cert.AdamSmallIdeal.main_v185)) (v44 : (c : Dev Cert.AdamSmallIdeal.nD) → Buf (Elt Ideal) ((c.tc : Thread Cert.AdamSmallIdeal.nD Cert.AdamSmallIdeal.τ).loc Cert.AdamSmallIdeal.main_v189)) (v45 : (c : Dev Cert.AdamSmallIdeal.nD) → Buf (Elt Ideal) ((c.tc : Thread Cert.AdamSmallIdeal.nD Cert.AdamSmallIdeal.τ).loc Cert.AdamSmallIdeal.main_v193)) (v46 : (c : Dev Cert.AdamSmallIdeal.nD) → Buf (Elt Ideal) ((c.tc : Thread Cert.AdamSmallIdeal.nD Cert.AdamSmallIdeal.τ).loc Cert.AdamSmallIdeal.main_v197)) (v47 : (c : Dev Cert.AdamSmallIdeal.nD) → Buf (Elt Ideal) ((c.tc : Thread Cert.AdamSmallIdeal.nD Cert.AdamSmallIdeal.τ).loc Cert.AdamSmallIdeal.main_v201)) (v48 : (c : Dev Cert.AdamSmallIdeal.nD) → Buf (Elt Ideal) ((c.tc : Thread Cert.AdamSmallIdeal.nD Cert.AdamSmallIdeal.τ).loc Cert.AdamSmallIdeal.main_v206)) (v49 : (c : Dev Cert.AdamSmallIdeal.nD) → Buf (Elt Ideal) ((c.tc : Thread Cert.AdamSmallIdeal.nD Cert.AdamSmallIdeal.τ).loc Cert.AdamSmallIdeal.main_v211)) (v50 : (c : Dev Cert.AdamSmallIdeal.nD) → Buf (Elt Ideal) ((c.tc : Thread Cert.AdamSmallIdeal.nD Cert.AdamSmallIdeal.τ).loc Cert.AdamSmallIdeal.main_v216)) (v51 : (c : Dev Cert.AdamSmallIdeal.nD) → Buf (Elt Ideal) ((c.tc : Thread Cert.AdamSmallIdeal.nD Cert.AdamSmallIdeal.τ).loc Cert.AdamSmallIdeal.main_v221)) (v52 : (c : Dev Cert.AdamSmallIdeal.nD) → Buf (Elt Ideal) ((c.tc : Thread Cert.AdamSmallIdeal.nD Cert.AdamSmallIdeal.τ).loc Cert.AdamSmallIdeal.main_v225)) (v53 : (c : Dev Cert.AdamSmallIdeal.nD) → Buf (Elt Ideal) ((c.tc : Thread Cert.AdamSmallIdeal.nD Cert.AdamSmallIdeal.τ).loc Cert.AdamSmallIdeal.main_v228)) (v54 : (c : Dev Cert.AdamSmallIdeal.nD) → Buf (Elt Ideal) ((c.tc : Thread Cert.AdamSmallIdeal.nD Cert.AdamSmallIdeal.τ).loc Cert.AdamSmallIdeal.main_v233)) (v55 : (c : Dev Cert.AdamSmallIdeal.nD) → Buf (Elt Ideal) ((c.tc : Thread Cert.AdamSmallIdeal.nD Cert.AdamSmallIdeal.τ).loc Cert.AdamSmallIdeal.main_v237)) (v56 : (c : Dev Cert.AdamSmallIdeal.nD) → Buf (Elt Ideal) ((c.tc : Thread Cert.AdamSmallIdeal.nD Cert.AdamSmallIdeal.τ).loc Cert.AdamSmallIdeal.main_v242)) (v57 : (c : Dev Cert.AdamSmallIdeal.nD) → Buf (Elt Ideal) ((c.tc : Thread Cert.AdamSmallIdeal.nD Cert.AdamSmallIdeal.τ).loc Cert.AdamSmallIdeal.main_v247)) (v58 : (c : Dev Cert.AdamSmallIdeal.nD) → Buf (Elt Ideal) ((c.tc : Thread Cert.AdamSmallIdeal.nD Cert.AdamSmallIdeal.τ).loc Cert.AdamSmallIdeal.main_v251)) (v59 : (c : Dev Cert.AdamSmallIdeal.nD) → Buf (Elt Ideal) ((c.tc : Thread Cert.AdamSmallIdeal.nD Cert.AdamSmallIdeal.τ).loc Cert.AdamSmallIdeal.main_v254)) (v60 : (c : Dev Cert.AdamSmallIdeal.nD) → Buf (Elt Ideal) ((c.tc : Thread Cert.AdamSmallIdeal.nD Cert.AdamSmallIdeal.τ).loc Cert.AdamSmallIdeal.main_v258)) (v61 : (c : Dev Cert.AdamSmallIdeal.nD) → Buf (Elt Ideal) ((c.tc : Thread Cert.AdamSmallIdeal.nD Cert.AdamSmallIdeal.τ).loc Cert.AdamSmallIdeal.main_v262)) (v62 : (c : Dev Cert.AdamSmallIdeal.nD) → Buf (Elt Ideal) ((c.tc : Thread Cert.AdamSmallIdeal.nD Cert.AdamSmallIdeal.τ).loc Cert.AdamSmallIdeal.main_v266)) (v63 : (c : Dev Cert.AdamSmallIdeal.nD) → Buf (Elt Ideal) ((c.tc : Thread Cert.AdamSmallIdeal.nD Cert.AdamSmallIdeal.τ).loc Cert.AdamSmallIdeal.main_v270)) (v64 : (c : Dev Cert.AdamSmallIdeal.nD) → Buf (Elt Ideal) ((c.tc : Thread Cert.AdamSmallIdeal.nD Cert.AdamSmallIdeal.τ).loc Cert.AdamSmallIdeal.main_v274)) (v65 : (c : Dev Cert.AdamSmallIdeal.nD) → Buf (Elt Ideal) ((c.tc : Thread Cert.AdamSmallIdeal.nD Cert.AdamSmallIdeal.τ).loc Cert.AdamSmallIdeal.main_v279)) (v66 : (c : Dev Cert.AdamSmallIdeal.nD) → Buf (Elt Ideal) ((c.tc : Thread Cert.AdamSmallIdeal.nD Cert.AdamSmallIdeal.τ).loc Cert.AdamSmallIdeal.main_v283)) (v67 : (c : Dev Cert.AdamSmallIdeal.nD) → Buf (Elt Ideal) ((c.tc : Thread Cert.AdamSmallIdeal.nD Cert.AdamSmallIdeal.τ).loc Cert.AdamSmallIdeal.main_v287)) (v68 : (c : Dev Cert.AdamSmallIdeal.nD) → Buf (Elt Ideal) ((c.tc : Thread Cert.AdamSmallIdeal.nD Cert.AdamSmallIdeal.τ).loc Cert.AdamSmallIdeal.main_v291)) (v69 : (c : Dev Cert.AdamSmallIdeal.nD) → Buf (Elt Ideal) ((c.tc : Thread Cert.AdamSmallIdeal.nD Cert.AdamSmallIdeal.τ).loc Cert.AdamSmallIdeal.main_v295)) (v70 : (c : Dev Cert.AdamSmallIdeal.nD) → Buf (Elt Ideal) ((c.tc : Thread Cert.AdamSmallIdeal.nD Cert.AdamSmallIdeal.τ).loc Cert.AdamSmallIdeal.main_v299)) (v71 : (c : Dev Cert.AdamSmallIdeal.nD) → Buf (Elt Ideal) ((c.tc : Thread Cert.AdamSmallIdeal.nD Cert.AdamSmallIdeal.τ).loc Cert.AdamSmallIdeal.main_v303)) (v72 : (c : Dev Cert.AdamSmallIdeal.nD) → Buf (Elt Ideal) ((c.tc : Thread Cert.AdamSmallIdeal.nD Cert.AdamSmallIdeal.τ).loc Cert.AdamSmallIdeal.main_v307)) (v73 : (c : Dev Cert.AdamSmallIdeal.nD) → Buf (Elt Ideal) ((c.tc : Thread Cert.AdamSmallIdeal.nD Cert.AdamSmallIdeal.τ).loc Cert.AdamSmallIdeal.main_v311)) (v74 : (c : Dev Cert.AdamSmallIdeal.nD) → Buf (Elt Ideal) ((c.tc : Thread Cert.AdamSmallIdeal.nD Cert.AdamSmallIdeal.τ).loc Cert.AdamSmallIdeal.main_v315)) (v75 : (c : Dev Cert.AdamSmallIdeal.nD) → Buf (Elt Ideal) ((c.tc : Thread Cert.AdamSmallIdeal.nD Cert.AdamSmallIdeal.τ).loc Cert.AdamSmallIdeal.main_v320)) (v76 : (c : Dev Cert.AdamSmallIdeal.nD) → Buf (Elt Ideal) ((c.tc : Thread Cert.AdamSmallIdeal.nD Cert.AdamSmallIdeal.τ).loc Cert.AdamSmallIdeal.main_v325)) (v77 : (c : Dev Cert.AdamSmallIdeal.nD) → Buf (Elt Ideal) ((c.tc : Thread Cert.AdamSmallIdeal.nD Cert.AdamSmallIdeal.τ).loc Cert.AdamSmallIdeal.main_v330)) (v78 : (c : Dev Cert.AdamSmallIdeal.nD) → Buf (Elt Ideal) ((c.tc : Thread Cert.AdamSmallIdeal.nD Cert.AdamSmallIdeal.τ).loc Cert.AdamSmallIdeal.main_v335)) (v79 : (c : Dev Cert.AdamSmallIdeal.nD) → Buf (Elt Ideal) ((c.tc : Thread Cert.AdamSmallIdeal.nD Cert.AdamSmallIdeal.τ).loc Cert.AdamSmallIdeal.main_v339)) (v80 : (c : Dev Cert.AdamSmallIdeal.nD) → Buf (Elt Ideal) ((c.tc : Thread Cert.AdamSmallIdeal.nD Cert.AdamSmallIdeal.τ).loc Cert.AdamSmallIdeal.main_v342)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v5) = v0 c
          ∧ r.2.mem ((c.tc : Thread Cert.AdamSmallIdeal.nD Cert.AdamSmallIdeal.τ).loc Cert.AdamSmallIdeal.main_v9) = v1 c
          ∧ r.2.mem ((c.tc : Thread Cert.AdamSmallIdeal.nD Cert.AdamSmallIdeal.τ).loc Cert.AdamSmallIdeal.main_v14) = v2 c
          ∧ r.2.mem ((c.tc : Thread Cert.AdamSmallIdeal.nD Cert.AdamSmallIdeal.τ).loc Cert.AdamSmallIdeal.main_v19) = v3 c
          ∧ r.2.mem ((c.tc : Thread Cert.AdamSmallIdeal.nD Cert.AdamSmallIdeal.τ).loc Cert.AdamSmallIdeal.main_v23) = v4 c
          ∧ r.2.mem ((c.tc : Thread Cert.AdamSmallIdeal.nD Cert.AdamSmallIdeal.τ).loc Cert.AdamSmallIdeal.main_v26) = v5 c
          ∧ r.2.mem ((c.tc : Thread Cert.AdamSmallIdeal.nD Cert.AdamSmallIdeal.τ).loc Cert.AdamSmallIdeal.main_v30) = v6 c
          ∧ r.2.mem ((c.tc : Thread Cert.AdamSmallIdeal.nD Cert.AdamSmallIdeal.τ).loc Cert.AdamSmallIdeal.main_v34) = v7 c
          ∧ r.2.mem ((c.tc : Thread Cert.AdamSmallIdeal.nD Cert.AdamSmallIdeal.τ).loc Cert.AdamSmallIdeal.main_v38) = v8 c
          ∧ r.2.mem ((c.tc : Thread Cert.AdamSmallIdeal.nD Cert.AdamSmallIdeal.τ).loc Cert.AdamSmallIdeal.main_v42) = v9 c
          ∧ r.2.mem ((c.tc : Thread Cert.AdamSmallIdeal.nD Cert.AdamSmallIdeal.τ).loc Cert.AdamSmallIdeal.main_v46) = v10 c
          ∧ r.2.mem ((c.tc : Thread Cert.AdamSmallIdeal.nD Cert.AdamSmallIdeal.τ).loc Cert.AdamSmallIdeal.main_v51) = v11 c
          ∧ r.2.mem ((c.tc : Thread Cert.AdamSmallIdeal.nD Cert.AdamSmallIdeal.τ).loc Cert.AdamSmallIdeal.main_v55) = v12 c
          ∧ r.2.mem ((c.tc : Thread Cert.AdamSmallIdeal.nD Cert.AdamSmallIdeal.τ).loc Cert.AdamSmallIdeal.main_v59) = v13 c
          ∧ r.2.mem ((c.tc : Thread Cert.AdamSmallIdeal.nD Cert.AdamSmallIdeal.τ).loc Cert.AdamSmallIdeal.main_v63) = v14 c
          ∧ r.2.mem ((c.tc : Thread Cert.AdamSmallIdeal.nD Cert.AdamSmallIdeal.τ).loc Cert.AdamSmallIdeal.main_v67) = v15 c
          ∧ r.2.mem ((c.tc : Thread Cert.AdamSmallIdeal.nD Cert.AdamSmallIdeal.τ).loc Cert.AdamSmallIdeal.main_v71) = v16 c
          ∧ r.2.mem ((c.tc : Thread Cert.AdamSmallIdeal.nD Cert.AdamSmallIdeal.τ).loc Cert.AdamSmallIdeal.main_v75) = v17 c
          ∧ r.2.mem ((c.tc : Thread Cert.AdamSmallIdeal.nD Cert.AdamSmallIdeal.τ).loc Cert.AdamSmallIdeal.main_v79) = v18 c
          ∧ r.2.mem ((c.tc : Thread Cert.AdamSmallIdeal.nD Cert.AdamSmallIdeal.τ).loc Cert.AdamSmallIdeal.main_v83) = v19 c
          ∧ r.2.mem ((c.tc : Thread Cert.AdamSmallIdeal.nD Cert.AdamSmallIdeal.τ).loc Cert.AdamSmallIdeal.main_v87) = v20 c
          ∧ r.2.mem ((c.tc : Thread Cert.AdamSmallIdeal.nD Cert.AdamSmallIdeal.τ).loc Cert.AdamSmallIdeal.main_v92) = v21 c
          ∧ r.2.mem ((c.tc : Thread Cert.AdamSmallIdeal.nD Cert.AdamSmallIdeal.τ).loc Cert.AdamSmallIdeal.main_v97) = v22 c
          ∧ r.2.mem ((c.tc : Thread Cert.AdamSmallIdeal.nD Cert.AdamSmallIdeal.τ).loc Cert.AdamSmallIdeal.main_v102) = v23 c
          ∧ r.2.mem ((c.tc : Thread Cert.AdamSmallIdeal.nD Cert.AdamSmallIdeal.τ).loc Cert.AdamSmallIdeal.main_v107) = v24 c
          ∧ r.2.mem ((c.tc : Thread Cert.AdamSmallIdeal.nD Cert.AdamSmallIdeal.τ).loc Cert.AdamSmallIdeal.main_v111) = v25 c
          ∧ r.2.mem ((c.tc : Thread Cert.AdamSmallIdeal.nD Cert.AdamSmallIdeal.τ).loc Cert.AdamSmallIdeal.main_v114) = v26 c
          ∧ r.2.mem ((c.tc : Thread Cert.AdamSmallIdeal.nD Cert.AdamSmallIdeal.τ).loc Cert.AdamSmallIdeal.main_v119) = v27 c
          ∧ r.2.mem ((c.tc : Thread Cert.AdamSmallIdeal.nD Cert.AdamSmallIdeal.τ).loc Cert.AdamSmallIdeal.main_v123) = v28 c
          ∧ r.2.mem ((c.tc : Thread Cert.AdamSmallIdeal.nD Cert.AdamSmallIdeal.τ).loc Cert.AdamSmallIdeal.main_v128) = v29 c
          ∧ r.2.mem ((c.tc : Thread Cert.AdamSmallIdeal.nD Cert.AdamSmallIdeal.τ).loc Cert.AdamSmallIdeal.main_v133) = v30 c
          ∧ r.2.mem ((c.tc : Thread Cert.AdamSmallIdeal.nD Cert.AdamSmallIdeal.τ).loc Cert.AdamSmallIdeal.main_v137) = v31 c
          ∧ r.2.mem ((c.tc : Thread Cert.AdamSmallIdeal.nD Cert.AdamSmallIdeal.τ).loc Cert.AdamSmallIdeal.main_v140) = v32 c
          ∧ r.2.mem ((c.tc : Thread Cert.AdamSmallIdeal.nD Cert.AdamSmallIdeal.τ).loc Cert.AdamSmallIdeal.main_v144) = v33 c
          ∧ r.2.mem ((c.tc : Thread Cert.AdamSmallIdeal.nD Cert.AdamSmallIdeal.τ).loc Cert.AdamSmallIdeal.main_v148) = v34 c
          ∧ r.2.mem ((c.tc : Thread Cert.AdamSmallIdeal.nD Cert.AdamSmallIdeal.τ).loc Cert.AdamSmallIdeal.main_v152) = v35 c
          ∧ r.2.mem ((c.tc : Thread Cert.AdamSmallIdeal.nD Cert.AdamSmallIdeal.τ).loc Cert.AdamSmallIdeal.main_v156) = v36 c
          ∧ r.2.mem ((c.tc : Thread Cert.AdamSmallIdeal.nD Cert.AdamSmallIdeal.τ).loc Cert.AdamSmallIdeal.main_v160) = v37 c
          ∧ r.2.mem ((c.tc : Thread Cert.AdamSmallIdeal.nD Cert.AdamSmallIdeal.τ).loc Cert.AdamSmallIdeal.main_v165) = v38 c
          ∧ r.2.mem ((c.tc : Thread Cert.AdamSmallIdeal.nD Cert.AdamSmallIdeal.τ).loc Cert.AdamSmallIdeal.main_v169) = v39 c
          ∧ r.2.mem ((c.tc : Thread Cert.AdamSmallIdeal.nD Cert.AdamSmallIdeal.τ).loc Cert.AdamSmallIdeal.main_v173) = v40 c
          ∧ r.2.mem ((c.tc : Thread Cert.AdamSmallIdeal.nD Cert.AdamSmallIdeal.τ).loc Cert.AdamSmallIdeal.main_v177) = v41 c
          ∧ r.2.mem ((c.tc : Thread Cert.AdamSmallIdeal.nD Cert.AdamSmallIdeal.τ).loc Cert.AdamSmallIdeal.main_v181) = v42 c
          ∧ r.2.mem ((c.tc : Thread Cert.AdamSmallIdeal.nD Cert.AdamSmallIdeal.τ).loc Cert.AdamSmallIdeal.main_v185) = v43 c
          ∧ r.2.mem ((c.tc : Thread Cert.AdamSmallIdeal.nD Cert.AdamSmallIdeal.τ).loc Cert.AdamSmallIdeal.main_v189) = v44 c
          ∧ r.2.mem ((c.tc : Thread Cert.AdamSmallIdeal.nD Cert.AdamSmallIdeal.τ).loc Cert.AdamSmallIdeal.main_v193) = v45 c
          ∧ r.2.mem ((c.tc : Thread Cert.AdamSmallIdeal.nD Cert.AdamSmallIdeal.τ).loc Cert.AdamSmallIdeal.main_v197) = v46 c
          ∧ r.2.mem ((c.tc : Thread Cert.AdamSmallIdeal.nD Cert.AdamSmallIdeal.τ).loc Cert.AdamSmallIdeal.main_v201) = v47 c
          ∧ r.2.mem ((c.tc : Thread Cert.AdamSmallIdeal.nD Cert.AdamSmallIdeal.τ).loc Cert.AdamSmallIdeal.main_v206) = v48 c
          ∧ r.2.mem ((c.tc : Thread Cert.AdamSmallIdeal.nD Cert.AdamSmallIdeal.τ).loc Cert.AdamSmallIdeal.main_v211) = v49 c
          ∧ r.2.mem ((c.tc : Thread Cert.AdamSmallIdeal.nD Cert.AdamSmallIdeal.τ).loc Cert.AdamSmallIdeal.main_v216) = v50 c
          ∧ r.2.mem ((c.tc : Thread Cert.AdamSmallIdeal.nD Cert.AdamSmallIdeal.τ).loc Cert.AdamSmallIdeal.main_v221) = v51 c
          ∧ r.2.mem ((c.tc : Thread Cert.AdamSmallIdeal.nD Cert.AdamSmallIdeal.τ).loc Cert.AdamSmallIdeal.main_v225) = v52 c
          ∧ r.2.mem ((c.tc : Thread Cert.AdamSmallIdeal.nD Cert.AdamSmallIdeal.τ).loc Cert.AdamSmallIdeal.main_v228) = v53 c
          ∧ r.2.mem ((c.tc : Thread Cert.AdamSmallIdeal.nD Cert.AdamSmallIdeal.τ).loc Cert.AdamSmallIdeal.main_v233) = v54 c
          ∧ r.2.mem ((c.tc : Thread Cert.AdamSmallIdeal.nD Cert.AdamSmallIdeal.τ).loc Cert.AdamSmallIdeal.main_v237) = v55 c
          ∧ r.2.mem ((c.tc : Thread Cert.AdamSmallIdeal.nD Cert.AdamSmallIdeal.τ).loc Cert.AdamSmallIdeal.main_v242) = v56 c
          ∧ r.2.mem ((c.tc : Thread Cert.AdamSmallIdeal.nD Cert.AdamSmallIdeal.τ).loc Cert.AdamSmallIdeal.main_v247) = v57 c
          ∧ r.2.mem ((c.tc : Thread Cert.AdamSmallIdeal.nD Cert.AdamSmallIdeal.τ).loc Cert.AdamSmallIdeal.main_v251) = v58 c
          ∧ r.2.mem ((c.tc : Thread Cert.AdamSmallIdeal.nD Cert.AdamSmallIdeal.τ).loc Cert.AdamSmallIdeal.main_v254) = v59 c
          ∧ r.2.mem ((c.tc : Thread Cert.AdamSmallIdeal.nD Cert.AdamSmallIdeal.τ).loc Cert.AdamSmallIdeal.main_v258) = v60 c
          ∧ r.2.mem ((c.tc : Thread Cert.AdamSmallIdeal.nD Cert.AdamSmallIdeal.τ).loc Cert.AdamSmallIdeal.main_v262) = v61 c
          ∧ r.2.mem ((c.tc : Thread Cert.AdamSmallIdeal.nD Cert.AdamSmallIdeal.τ).loc Cert.AdamSmallIdeal.main_v266) = v62 c
          ∧ r.2.mem ((c.tc : Thread Cert.AdamSmallIdeal.nD Cert.AdamSmallIdeal.τ).loc Cert.AdamSmallIdeal.main_v270) = v63 c
          ∧ r.2.mem ((c.tc : Thread Cert.AdamSmallIdeal.nD Cert.AdamSmallIdeal.τ).loc Cert.AdamSmallIdeal.main_v274) = v64 c
          ∧ r.2.mem ((c.tc : Thread Cert.AdamSmallIdeal.nD Cert.AdamSmallIdeal.τ).loc Cert.AdamSmallIdeal.main_v279) = v65 c
          ∧ r.2.mem ((c.tc : Thread Cert.AdamSmallIdeal.nD Cert.AdamSmallIdeal.τ).loc Cert.AdamSmallIdeal.main_v283) = v66 c
          ∧ r.2.mem ((c.tc : Thread Cert.AdamSmallIdeal.nD Cert.AdamSmallIdeal.τ).loc Cert.AdamSmallIdeal.main_v287) = v67 c
          ∧ r.2.mem ((c.tc : Thread Cert.AdamSmallIdeal.nD Cert.AdamSmallIdeal.τ).loc Cert.AdamSmallIdeal.main_v291) = v68 c
          ∧ r.2.mem ((c.tc : Thread Cert.AdamSmallIdeal.nD Cert.AdamSmallIdeal.τ).loc Cert.AdamSmallIdeal.main_v295) = v69 c
          ∧ r.2.mem ((c.tc : Thread Cert.AdamSmallIdeal.nD Cert.AdamSmallIdeal.τ).loc Cert.AdamSmallIdeal.main_v299) = v70 c
          ∧ r.2.mem ((c.tc : Thread Cert.AdamSmallIdeal.nD Cert.AdamSmallIdeal.τ).loc Cert.AdamSmallIdeal.main_v303) = v71 c
          ∧ r.2.mem ((c.tc : Thread Cert.AdamSmallIdeal.nD Cert.AdamSmallIdeal.τ).loc Cert.AdamSmallIdeal.main_v307) = v72 c
          ∧ r.2.mem ((c.tc : Thread Cert.AdamSmallIdeal.nD Cert.AdamSmallIdeal.τ).loc Cert.AdamSmallIdeal.main_v311) = v73 c
          ∧ r.2.mem ((c.tc : Thread Cert.AdamSmallIdeal.nD Cert.AdamSmallIdeal.τ).loc Cert.AdamSmallIdeal.main_v315) = v74 c
          ∧ r.2.mem ((c.tc : Thread Cert.AdamSmallIdeal.nD Cert.AdamSmallIdeal.τ).loc Cert.AdamSmallIdeal.main_v320) = v75 c
          ∧ r.2.mem ((c.tc : Thread Cert.AdamSmallIdeal.nD Cert.AdamSmallIdeal.τ).loc Cert.AdamSmallIdeal.main_v325) = v76 c
          ∧ r.2.mem ((c.tc : Thread Cert.AdamSmallIdeal.nD Cert.AdamSmallIdeal.τ).loc Cert.AdamSmallIdeal.main_v330) = v77 c
          ∧ r.2.mem ((c.tc : Thread Cert.AdamSmallIdeal.nD Cert.AdamSmallIdeal.τ).loc Cert.AdamSmallIdeal.main_v335) = v78 c
          ∧ r.2.mem ((c.tc : Thread Cert.AdamSmallIdeal.nD Cert.AdamSmallIdeal.τ).loc Cert.AdamSmallIdeal.main_v339) = v79 c
          ∧ r.2.mem ((c.tc : Thread Cert.AdamSmallIdeal.nD Cert.AdamSmallIdeal.τ).loc Cert.AdamSmallIdeal.main_v342) = v80 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v28) = v0 c
          ∧ r.2.mem ((c.tc : Thread Cert.AdamSmallRefIdeal.nD Cert.AdamSmallRefIdeal.τ).loc Cert.AdamSmallRefIdeal.main_v30) = v1 c
          ∧ r.2.mem ((c.tc : Thread Cert.AdamSmallRefIdeal.nD Cert.AdamSmallRefIdeal.τ).loc Cert.AdamSmallRefIdeal.main_v32) = v2 c
          ∧ r.2.mem ((c.tc : Thread Cert.AdamSmallRefIdeal.nD Cert.AdamSmallRefIdeal.τ).loc Cert.AdamSmallRefIdeal.main_v34) = v3 c
          ∧ r.2.mem ((c.tc : Thread Cert.AdamSmallRefIdeal.nD Cert.AdamSmallRefIdeal.τ).loc Cert.AdamSmallRefIdeal.main_v36) = v4 c
          ∧ r.2.mem ((c.tc : Thread Cert.AdamSmallRefIdeal.nD Cert.AdamSmallRefIdeal.τ).loc Cert.AdamSmallRefIdeal.main_v37) = v5 c
          ∧ r.2.mem ((c.tc : Thread Cert.AdamSmallRefIdeal.nD Cert.AdamSmallRefIdeal.τ).loc Cert.AdamSmallRefIdeal.main_v39) = v6 c
          ∧ r.2.mem ((c.tc : Thread Cert.AdamSmallRefIdeal.nD Cert.AdamSmallRefIdeal.τ).loc Cert.AdamSmallRefIdeal.main_v41) = v7 c
          ∧ r.2.mem ((c.tc : Thread Cert.AdamSmallRefIdeal.nD Cert.AdamSmallRefIdeal.τ).loc Cert.AdamSmallRefIdeal.main_v43) = v8 c
          ∧ r.2.mem ((c.tc : Thread Cert.AdamSmallRefIdeal.nD Cert.AdamSmallRefIdeal.τ).loc Cert.AdamSmallRefIdeal.main_v45) = v9 c
          ∧ r.2.mem ((c.tc : Thread Cert.AdamSmallRefIdeal.nD Cert.AdamSmallRefIdeal.τ).loc Cert.AdamSmallRefIdeal.main_v47) = v10 c
          ∧ r.2.mem ((c.tc : Thread Cert.AdamSmallRefIdeal.nD Cert.AdamSmallRefIdeal.τ).loc Cert.AdamSmallRefIdeal.main_v49) = v11 c
          ∧ r.2.mem ((c.tc : Thread Cert.AdamSmallRefIdeal.nD Cert.AdamSmallRefIdeal.τ).loc Cert.AdamSmallRefIdeal.main_v51) = v12 c
          ∧ r.2.mem ((c.tc : Thread Cert.AdamSmallRefIdeal.nD Cert.AdamSmallRefIdeal.τ).loc Cert.AdamSmallRefIdeal.main_v53) = v13 c
          ∧ r.2.mem ((c.tc : Thread Cert.AdamSmallRefIdeal.nD Cert.AdamSmallRefIdeal.τ).loc Cert.AdamSmallRefIdeal.main_v55) = v14 c
          ∧ r.2.mem ((c.tc : Thread Cert.AdamSmallRefIdeal.nD Cert.AdamSmallRefIdeal.τ).loc Cert.AdamSmallRefIdeal.main_v57) = v15 c
          ∧ r.2.mem ((c.tc : Thread Cert.AdamSmallRefIdeal.nD Cert.AdamSmallRefIdeal.τ).loc Cert.AdamSmallRefIdeal.main_v59) = v16 c
          ∧ r.2.mem ((c.tc : Thread Cert.AdamSmallRefIdeal.nD Cert.AdamSmallRefIdeal.τ).loc Cert.AdamSmallRefIdeal.main_v61) = v17 c
          ∧ r.2.mem ((c.tc : Thread Cert.AdamSmallRefIdeal.nD Cert.AdamSmallRefIdeal.τ).loc Cert.AdamSmallRefIdeal.main_v63) = v18 c
          ∧ r.2.mem ((c.tc : Thread Cert.AdamSmallRefIdeal.nD Cert.AdamSmallRefIdeal.τ).loc Cert.AdamSmallRefIdeal.main_v65) = v19 c
          ∧ r.2.mem ((c.tc : Thread Cert.AdamSmallRefIdeal.nD Cert.AdamSmallRefIdeal.τ).loc Cert.AdamSmallRefIdeal.main_v67) = v20 c
          ∧ r.2.mem ((c.tc : Thread Cert.AdamSmallRefIdeal.nD Cert.AdamSmallRefIdeal.τ).loc Cert.AdamSmallRefIdeal.main_v69) = v21 c
          ∧ r.2.mem ((c.tc : Thread Cert.AdamSmallRefIdeal.nD Cert.AdamSmallRefIdeal.τ).loc Cert.AdamSmallRefIdeal.main_v71) = v22 c
          ∧ r.2.mem ((c.tc : Thread Cert.AdamSmallRefIdeal.nD Cert.AdamSmallRefIdeal.τ).loc Cert.AdamSmallRefIdeal.main_v73) = v23 c
          ∧ r.2.mem ((c.tc : Thread Cert.AdamSmallRefIdeal.nD Cert.AdamSmallRefIdeal.τ).loc Cert.AdamSmallRefIdeal.main_v75) = v24 c
          ∧ r.2.mem ((c.tc : Thread Cert.AdamSmallRefIdeal.nD Cert.AdamSmallRefIdeal.τ).loc Cert.AdamSmallRefIdeal.main_v77) = v25 c
          ∧ r.2.mem ((c.tc : Thread Cert.AdamSmallRefIdeal.nD Cert.AdamSmallRefIdeal.τ).loc Cert.AdamSmallRefIdeal.main_v78) = v26 c
          ∧ r.2.mem ((c.tc : Thread Cert.AdamSmallRefIdeal.nD Cert.AdamSmallRefIdeal.τ).loc Cert.AdamSmallRefIdeal.main_v80) = v27 c
          ∧ r.2.mem ((c.tc : Thread Cert.AdamSmallRefIdeal.nD Cert.AdamSmallRefIdeal.τ).loc Cert.AdamSmallRefIdeal.main_v82) = v28 c
          ∧ r.2.mem ((c.tc : Thread Cert.AdamSmallRefIdeal.nD Cert.AdamSmallRefIdeal.τ).loc Cert.AdamSmallRefIdeal.main_v84) = v29 c
          ∧ r.2.mem ((c.tc : Thread Cert.AdamSmallRefIdeal.nD Cert.AdamSmallRefIdeal.τ).loc Cert.AdamSmallRefIdeal.main_v86) = v30 c
          ∧ r.2.mem ((c.tc : Thread Cert.AdamSmallRefIdeal.nD Cert.AdamSmallRefIdeal.τ).loc Cert.AdamSmallRefIdeal.main_v88) = v31 c
          ∧ r.2.mem ((c.tc : Thread Cert.AdamSmallRefIdeal.nD Cert.AdamSmallRefIdeal.τ).loc Cert.AdamSmallRefIdeal.main_v89) = v32 c
          ∧ r.2.mem ((c.tc : Thread Cert.AdamSmallRefIdeal.nD Cert.AdamSmallRefIdeal.τ).loc Cert.AdamSmallRefIdeal.main_v91) = v33 c
          ∧ r.2.mem ((c.tc : Thread Cert.AdamSmallRefIdeal.nD Cert.AdamSmallRefIdeal.τ).loc Cert.AdamSmallRefIdeal.main_v93) = v34 c
          ∧ r.2.mem ((c.tc : Thread Cert.AdamSmallRefIdeal.nD Cert.AdamSmallRefIdeal.τ).loc Cert.AdamSmallRefIdeal.main_v95) = v35 c
          ∧ r.2.mem ((c.tc : Thread Cert.AdamSmallRefIdeal.nD Cert.AdamSmallRefIdeal.τ).loc Cert.AdamSmallRefIdeal.main_v97) = v36 c
          ∧ r.2.mem ((c.tc : Thread Cert.AdamSmallRefIdeal.nD Cert.AdamSmallRefIdeal.τ).loc Cert.AdamSmallRefIdeal.main_v99) = v37 c
          ∧ r.2.mem ((c.tc : Thread Cert.AdamSmallRefIdeal.nD Cert.AdamSmallRefIdeal.τ).loc Cert.AdamSmallRefIdeal.main_v101) = v38 c
          ∧ r.2.mem ((c.tc : Thread Cert.AdamSmallRefIdeal.nD Cert.AdamSmallRefIdeal.τ).loc Cert.AdamSmallRefIdeal.main_v103) = v39 c
          ∧ r.2.mem ((c.tc : Thread Cert.AdamSmallRefIdeal.nD Cert.AdamSmallRefIdeal.τ).loc Cert.AdamSmallRefIdeal.main_v105) = v40 c
          ∧ r.2.mem ((c.tc : Thread Cert.AdamSmallRefIdeal.nD Cert.AdamSmallRefIdeal.τ).loc Cert.AdamSmallRefIdeal.main_v107) = v41 c
          ∧ r.2.mem ((c.tc : Thread Cert.AdamSmallRefIdeal.nD Cert.AdamSmallRefIdeal.τ).loc Cert.AdamSmallRefIdeal.main_v109) = v42 c
          ∧ r.2.mem ((c.tc : Thread Cert.AdamSmallRefIdeal.nD Cert.AdamSmallRefIdeal.τ).loc Cert.AdamSmallRefIdeal.main_v111) = v43 c
          ∧ r.2.mem ((c.tc : Thread Cert.AdamSmallRefIdeal.nD Cert.AdamSmallRefIdeal.τ).loc Cert.AdamSmallRefIdeal.main_v113) = v44 c
          ∧ r.2.mem ((c.tc : Thread Cert.AdamSmallRefIdeal.nD Cert.AdamSmallRefIdeal.τ).loc Cert.AdamSmallRefIdeal.main_v115) = v45 c
          ∧ r.2.mem ((c.tc : Thread Cert.AdamSmallRefIdeal.nD Cert.AdamSmallRefIdeal.τ).loc Cert.AdamSmallRefIdeal.main_v117) = v46 c
          ∧ r.2.mem ((c.tc : Thread Cert.AdamSmallRefIdeal.nD Cert.AdamSmallRefIdeal.τ).loc Cert.AdamSmallRefIdeal.main_v119) = v47 c
          ∧ r.2.mem ((c.tc : Thread Cert.AdamSmallRefIdeal.nD Cert.AdamSmallRefIdeal.τ).loc Cert.AdamSmallRefIdeal.main_v121) = v48 c
          ∧ r.2.mem ((c.tc : Thread Cert.AdamSmallRefIdeal.nD Cert.AdamSmallRefIdeal.τ).loc Cert.AdamSmallRefIdeal.main_v123) = v49 c
          ∧ r.2.mem ((c.tc : Thread Cert.AdamSmallRefIdeal.nD Cert.AdamSmallRefIdeal.τ).loc Cert.AdamSmallRefIdeal.main_v125) = v50 c
          ∧ r.2.mem ((c.tc : Thread Cert.AdamSmallRefIdeal.nD Cert.AdamSmallRefIdeal.τ).loc Cert.AdamSmallRefIdeal.main_v127) = v51 c
          ∧ r.2.mem ((c.tc : Thread Cert.AdamSmallRefIdeal.nD Cert.AdamSmallRefIdeal.τ).loc Cert.AdamSmallRefIdeal.main_v129) = v52 c
          ∧ r.2.mem ((c.tc : Thread Cert.AdamSmallRefIdeal.nD Cert.AdamSmallRefIdeal.τ).loc Cert.AdamSmallRefIdeal.main_v130) = v53 c
          ∧ r.2.mem ((c.tc : Thread Cert.AdamSmallRefIdeal.nD Cert.AdamSmallRefIdeal.τ).loc Cert.AdamSmallRefIdeal.main_v132) = v54 c
          ∧ r.2.mem ((c.tc : Thread Cert.AdamSmallRefIdeal.nD Cert.AdamSmallRefIdeal.τ).loc Cert.AdamSmallRefIdeal.main_v134) = v55 c
          ∧ r.2.mem ((c.tc : Thread Cert.AdamSmallRefIdeal.nD Cert.AdamSmallRefIdeal.τ).loc Cert.AdamSmallRefIdeal.main_v136) = v56 c
          ∧ r.2.mem ((c.tc : Thread Cert.AdamSmallRefIdeal.nD Cert.AdamSmallRefIdeal.τ).loc Cert.AdamSmallRefIdeal.main_v138) = v57 c
          ∧ r.2.mem ((c.tc : Thread Cert.AdamSmallRefIdeal.nD Cert.AdamSmallRefIdeal.τ).loc Cert.AdamSmallRefIdeal.main_v140) = v58 c
          ∧ r.2.mem ((c.tc : Thread Cert.AdamSmallRefIdeal.nD Cert.AdamSmallRefIdeal.τ).loc Cert.AdamSmallRefIdeal.main_v141) = v59 c
          ∧ r.2.mem ((c.tc : Thread Cert.AdamSmallRefIdeal.nD Cert.AdamSmallRefIdeal.τ).loc Cert.AdamSmallRefIdeal.main_v143) = v60 c
          ∧ r.2.mem ((c.tc : Thread Cert.AdamSmallRefIdeal.nD Cert.AdamSmallRefIdeal.τ).loc Cert.AdamSmallRefIdeal.main_v145) = v61 c
          ∧ r.2.mem ((c.tc : Thread Cert.AdamSmallRefIdeal.nD Cert.AdamSmallRefIdeal.τ).loc Cert.AdamSmallRefIdeal.main_v147) = v62 c
          ∧ r.2.mem ((c.tc : Thread Cert.AdamSmallRefIdeal.nD Cert.AdamSmallRefIdeal.τ).loc Cert.AdamSmallRefIdeal.main_v149) = v63 c
          ∧ r.2.mem ((c.tc : Thread Cert.AdamSmallRefIdeal.nD Cert.AdamSmallRefIdeal.τ).loc Cert.AdamSmallRefIdeal.main_v151) = v64 c
          ∧ r.2.mem ((c.tc : Thread Cert.AdamSmallRefIdeal.nD Cert.AdamSmallRefIdeal.τ).loc Cert.AdamSmallRefIdeal.main_v153) = v65 c
          ∧ r.2.mem ((c.tc : Thread Cert.AdamSmallRefIdeal.nD Cert.AdamSmallRefIdeal.τ).loc Cert.AdamSmallRefIdeal.main_v155) = v66 c
          ∧ r.2.mem ((c.tc : Thread Cert.AdamSmallRefIdeal.nD Cert.AdamSmallRefIdeal.τ).loc Cert.AdamSmallRefIdeal.main_v157) = v67 c
          ∧ r.2.mem ((c.tc : Thread Cert.AdamSmallRefIdeal.nD Cert.AdamSmallRefIdeal.τ).loc Cert.AdamSmallRefIdeal.main_v159) = v68 c
          ∧ r.2.mem ((c.tc : Thread Cert.AdamSmallRefIdeal.nD Cert.AdamSmallRefIdeal.τ).loc Cert.AdamSmallRefIdeal.main_v161) = v69 c
          ∧ r.2.mem ((c.tc : Thread Cert.AdamSmallRefIdeal.nD Cert.AdamSmallRefIdeal.τ).loc Cert.AdamSmallRefIdeal.main_v163) = v70 c
          ∧ r.2.mem ((c.tc : Thread Cert.AdamSmallRefIdeal.nD Cert.AdamSmallRefIdeal.τ).loc Cert.AdamSmallRefIdeal.main_v165) = v71 c
          ∧ r.2.mem ((c.tc : Thread Cert.AdamSmallRefIdeal.nD Cert.AdamSmallRefIdeal.τ).loc Cert.AdamSmallRefIdeal.main_v167) = v72 c
          ∧ r.2.mem ((c.tc : Thread Cert.AdamSmallRefIdeal.nD Cert.AdamSmallRefIdeal.τ).loc Cert.AdamSmallRefIdeal.main_v169) = v73 c
          ∧ r.2.mem ((c.tc : Thread Cert.AdamSmallRefIdeal.nD Cert.AdamSmallRefIdeal.τ).loc Cert.AdamSmallRefIdeal.main_v171) = v74 c
          ∧ r.2.mem ((c.tc : Thread Cert.AdamSmallRefIdeal.nD Cert.AdamSmallRefIdeal.τ).loc Cert.AdamSmallRefIdeal.main_v173) = v75 c
          ∧ r.2.mem ((c.tc : Thread Cert.AdamSmallRefIdeal.nD Cert.AdamSmallRefIdeal.τ).loc Cert.AdamSmallRefIdeal.main_v175) = v76 c
          ∧ r.2.mem ((c.tc : Thread Cert.AdamSmallRefIdeal.nD Cert.AdamSmallRefIdeal.τ).loc Cert.AdamSmallRefIdeal.main_v177) = v77 c
          ∧ r.2.mem ((c.tc : Thread Cert.AdamSmallRefIdeal.nD Cert.AdamSmallRefIdeal.τ).loc Cert.AdamSmallRefIdeal.main_v179) = v78 c
          ∧ r.2.mem ((c.tc : Thread Cert.AdamSmallRefIdeal.nD Cert.AdamSmallRefIdeal.τ).loc Cert.AdamSmallRefIdeal.main_v181) = v79 c
          ∧ r.2.mem ((c.tc : Thread Cert.AdamSmallRefIdeal.nD Cert.AdamSmallRefIdeal.τ).loc Cert.AdamSmallRefIdeal.main_v182) = v80 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hMix : Cert.Mix.Facts) (hMixIdeal : Cert.MixIdeal.Facts) (hMixRefIdeal : Cert.MixRefIdeal.Facts) (hInDa : Cert.InDa.Facts) (hInDaIdeal : Cert.InDaIdeal.Facts) (hInDaRefIdeal : Cert.InDaRefIdeal.Facts) (hIn512 : Cert.In512.Facts) (hIn512Ideal : Cert.In512Ideal.Facts) (hIn512RefIdeal : Cert.In512RefIdeal.Facts) (hIn1024 : Cert.In1024.Facts) (hIn1024Ideal : Cert.In1024Ideal.Facts) (hIn1024RefIdeal : Cert.In1024RefIdeal.Facts) (hIn768 : Cert.In768.Facts) (hIn768Ideal : Cert.In768Ideal.Facts) (hIn768RefIdeal : Cert.In768RefIdeal.Facts) (hIn128 : Cert.In128.Facts) (hIn128Ideal : Cert.In128Ideal.Facts) (hIn128RefIdeal : Cert.In128RefIdeal.Facts) (hInDb512 : Cert.InDb512.Facts) (hInDb512Ideal : Cert.InDb512Ideal.Facts) (hInDb512RefIdeal : Cert.InDb512RefIdeal.Facts) (hInDb1024 : Cert.InDb1024.Facts) (hInDb1024Ideal : Cert.InDb1024Ideal.Facts) (hInDb1024RefIdeal : Cert.InDb1024RefIdeal.Facts) (hInDb768 : Cert.InDb768.Facts) (hInDb768Ideal : Cert.InDb768Ideal.Facts) (hInDb768RefIdeal : Cert.InDb768RefIdeal.Facts) (hInDb128 : Cert.InDb128.Facts) (hInDb128Ideal : Cert.InDb128Ideal.Facts) (hInDb128RefIdeal : Cert.InDb128RefIdeal.Facts) (hGate : Cert.Gate.Facts) (hGateIdeal : Cert.GateIdeal.Facts) (hGateRefIdeal : Cert.GateRefIdeal.Facts) (hGateDa : Cert.GateDa.Facts) (hGateDaIdeal : Cert.GateDaIdeal.Facts) (hGateDaRefIdeal : Cert.GateDaRefIdeal.Facts) (hGateDb : Cert.GateDb.Facts) (hGateDbIdeal : Cert.GateDbIdeal.Facts) (hGateDbRefIdeal : Cert.GateDbRefIdeal.Facts) (hBr : Cert.Br.Facts) (hBrIdeal : Cert.BrIdeal.Facts) (hBrRefIdeal : Cert.BrRefIdeal.Facts) (hBrDa : Cert.BrDa.Facts) (hBrDaIdeal : Cert.BrDaIdeal.Facts) (hBrDaRefIdeal : Cert.BrDaRefIdeal.Facts) (hBrDb : Cert.BrDb.Facts) (hBrDbIdeal : Cert.BrDbIdeal.Facts) (hBrDbRefIdeal : Cert.BrDbRefIdeal.Facts) (hOutDa : Cert.OutDa.Facts) (hOutDaIdeal : Cert.OutDaIdeal.Facts) (hOutDaRefIdeal : Cert.OutDaRefIdeal.Facts) (hAdamWMod : Cert.AdamWMod.Facts) (hAdamWModIdeal : Cert.AdamWModIdeal.Facts) (hAdamWModRefIdeal : Cert.AdamWModRefIdeal.Facts) (hAdamWIn : Cert.AdamWIn.Facts) (hAdamWInIdeal : Cert.AdamWInIdeal.Facts) (hAdamWInRefIdeal : Cert.AdamWInRefIdeal.Facts) (hAdamS5WGlu : Cert.AdamS5WGlu.Facts) (hAdamS5WGluIdeal : Cert.AdamS5WGluIdeal.Facts) (hAdamS5WGluRefIdeal : Cert.AdamS5WGluRefIdeal.Facts) (hAdamWBranch : Cert.AdamWBranch.Facts) (hAdamWBranchIdeal : Cert.AdamWBranchIdeal.Facts) (hAdamWBranchRefIdeal : Cert.AdamWBranchRefIdeal.Facts) (hAdamWGate : Cert.AdamWGate.Facts) (hAdamWGateIdeal : Cert.AdamWGateIdeal.Facts) (hAdamWGateRefIdeal : Cert.AdamWGateRefIdeal.Facts) (hAdamWOut : Cert.AdamWOut.Facts) (hAdamWOutIdeal : Cert.AdamWOutIdeal.Facts) (hAdamWOutRefIdeal : Cert.AdamWOutRefIdeal.Facts) (hScanBwd : Cert.ScanBwd.Facts) (hScanBwdIdeal : Cert.ScanBwdIdeal.Facts) (hScanBwdRefIdeal : Cert.ScanBwdRefIdeal.Facts) (hAdamSmall : Cert.AdamSmall.Facts) (hAdamSmallIdeal : Cert.AdamSmallIdeal.Facts) (hAdamSmallRefIdeal : Cert.AdamSmallRefIdeal.Facts) (hPre_decay_in_range : Cert.Pre_decay_in_range.Facts),
    quiescent_Mix (hMix := hMix)
    ∧ quiescent_MixIdeal (hMixIdeal := hMixIdeal)
    ∧ quiescent_MixRefIdeal (hMixRefIdeal := hMixRefIdeal)
    ∧ quiescent_InDa (hInDa := hInDa)
    ∧ quiescent_InDaIdeal (hInDaIdeal := hInDaIdeal)
    ∧ quiescent_InDaRefIdeal (hInDaRefIdeal := hInDaRefIdeal)
    ∧ quiescent_In512 (hIn512 := hIn512)
    ∧ quiescent_In512Ideal (hIn512Ideal := hIn512Ideal)
    ∧ quiescent_In512RefIdeal (hIn512RefIdeal := hIn512RefIdeal)
    ∧ quiescent_In1024 (hIn1024 := hIn1024)
    ∧ quiescent_In1024Ideal (hIn1024Ideal := hIn1024Ideal)
    ∧ quiescent_In1024RefIdeal (hIn1024RefIdeal := hIn1024RefIdeal)
    ∧ quiescent_In768 (hIn768 := hIn768)
    ∧ quiescent_In768Ideal (hIn768Ideal := hIn768Ideal)
    ∧ quiescent_In768RefIdeal (hIn768RefIdeal := hIn768RefIdeal)
    ∧ quiescent_In128 (hIn128 := hIn128)
    ∧ quiescent_In128Ideal (hIn128Ideal := hIn128Ideal)
    ∧ quiescent_In128RefIdeal (hIn128RefIdeal := hIn128RefIdeal)
    ∧ quiescent_InDb512 (hInDb512 := hInDb512)
    ∧ quiescent_InDb512Ideal (hInDb512Ideal := hInDb512Ideal)
    ∧ quiescent_InDb512RefIdeal (hInDb512RefIdeal := hInDb512RefIdeal)
    ∧ quiescent_InDb1024 (hInDb1024 := hInDb1024)
    ∧ quiescent_InDb1024Ideal (hInDb1024Ideal := hInDb1024Ideal)
    ∧ quiescent_InDb1024RefIdeal (hInDb1024RefIdeal := hInDb1024RefIdeal)
    ∧ quiescent_InDb768 (hInDb768 := hInDb768)
    ∧ quiescent_InDb768Ideal (hInDb768Ideal := hInDb768Ideal)
    ∧ quiescent_InDb768RefIdeal (hInDb768RefIdeal := hInDb768RefIdeal)
    ∧ quiescent_InDb128 (hInDb128 := hInDb128)
    ∧ quiescent_InDb128Ideal (hInDb128Ideal := hInDb128Ideal)
    ∧ quiescent_InDb128RefIdeal (hInDb128RefIdeal := hInDb128RefIdeal)
    ∧ quiescent_Gate (hGate := hGate)
    ∧ quiescent_GateIdeal (hGateIdeal := hGateIdeal)
    ∧ quiescent_GateRefIdeal (hGateRefIdeal := hGateRefIdeal)
    ∧ quiescent_GateDa (hGateDa := hGateDa)
    ∧ quiescent_GateDaIdeal (hGateDaIdeal := hGateDaIdeal)
    ∧ quiescent_GateDaRefIdeal (hGateDaRefIdeal := hGateDaRefIdeal)
    ∧ quiescent_GateDb (hGateDb := hGateDb)
    ∧ quiescent_GateDbIdeal (hGateDbIdeal := hGateDbIdeal)
    ∧ quiescent_GateDbRefIdeal (hGateDbRefIdeal := hGateDbRefIdeal)
    ∧ quiescent_Br (hBr := hBr)
    ∧ quiescent_BrIdeal (hBrIdeal := hBrIdeal)
    ∧ quiescent_BrRefIdeal (hBrRefIdeal := hBrRefIdeal)
    ∧ quiescent_BrDa (hBrDa := hBrDa)
    ∧ quiescent_BrDaIdeal (hBrDaIdeal := hBrDaIdeal)
    ∧ quiescent_BrDaRefIdeal (hBrDaRefIdeal := hBrDaRefIdeal)
    ∧ quiescent_BrDb (hBrDb := hBrDb)
    ∧ quiescent_BrDbIdeal (hBrDbIdeal := hBrDbIdeal)
    ∧ quiescent_BrDbRefIdeal (hBrDbRefIdeal := hBrDbRefIdeal)
    ∧ quiescent_OutDa (hOutDa := hOutDa)
    ∧ quiescent_OutDaIdeal (hOutDaIdeal := hOutDaIdeal)
    ∧ quiescent_OutDaRefIdeal (hOutDaRefIdeal := hOutDaRefIdeal)
    ∧ quiescent_AdamWMod (hAdamWMod := hAdamWMod)
    ∧ quiescent_AdamWModIdeal (hAdamWModIdeal := hAdamWModIdeal)
    ∧ quiescent_AdamWModRefIdeal (hAdamWModRefIdeal := hAdamWModRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamS5WGlu (hAdamS5WGlu := hAdamS5WGlu)
    ∧ quiescent_AdamS5WGluIdeal (hAdamS5WGluIdeal := hAdamS5WGluIdeal)
    ∧ quiescent_AdamS5WGluRefIdeal (hAdamS5WGluRefIdeal := hAdamS5WGluRefIdeal)
    ∧ quiescent_AdamWBranch (hAdamWBranch := hAdamWBranch)
    ∧ quiescent_AdamWBranchIdeal (hAdamWBranchIdeal := hAdamWBranchIdeal)
    ∧ quiescent_AdamWBranchRefIdeal (hAdamWBranchRefIdeal := hAdamWBranchRefIdeal)
    ∧ quiescent_AdamWGate (hAdamWGate := hAdamWGate)
    ∧ quiescent_AdamWGateIdeal (hAdamWGateIdeal := hAdamWGateIdeal)
    ∧ quiescent_AdamWGateRefIdeal (hAdamWGateRefIdeal := hAdamWGateRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_ScanBwd (hScanBwd := hScanBwd)
    ∧ quiescent_ScanBwdIdeal (hScanBwdIdeal := hScanBwdIdeal)
    ∧ quiescent_ScanBwdIdeal_pre_decay_in_range (hScanBwdIdeal := hScanBwdIdeal) (hPre_decay_in_range := hPre_decay_in_range)
    ∧ quiescent_ScanBwdRefIdeal (hScanBwdRefIdeal := hScanBwdRefIdeal)
    ∧ quiescent_ScanBwdRefIdeal_pre_decay_in_range (hScanBwdRefIdeal := hScanBwdRefIdeal) (hPre_decay_in_range := hPre_decay_in_range)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Mix_MixIdeal
    ∧ algebraic_MixIdeal_MixRefIdeal (hMixIdeal := hMixIdeal) (hMixRefIdeal := hMixRefIdeal)
    ∧ preserves_InDa_InDaIdeal
    ∧ algebraic_InDaIdeal_InDaRefIdeal (hInDaIdeal := hInDaIdeal) (hInDaRefIdeal := hInDaRefIdeal)
    ∧ preserves_In512_In512Ideal
    ∧ algebraic_In512Ideal_In512RefIdeal (hIn512Ideal := hIn512Ideal) (hIn512RefIdeal := hIn512RefIdeal)
    ∧ preserves_In1024_In1024Ideal
    ∧ algebraic_In1024Ideal_In1024RefIdeal (hIn1024Ideal := hIn1024Ideal) (hIn1024RefIdeal := hIn1024RefIdeal)
    ∧ preserves_In768_In768Ideal
    ∧ algebraic_In768Ideal_In768RefIdeal (hIn768Ideal := hIn768Ideal) (hIn768RefIdeal := hIn768RefIdeal)
    ∧ preserves_In128_In128Ideal
    ∧ algebraic_In128Ideal_In128RefIdeal (hIn128Ideal := hIn128Ideal) (hIn128RefIdeal := hIn128RefIdeal)
    ∧ preserves_InDb512_InDb512Ideal
    ∧ algebraic_InDb512Ideal_InDb512RefIdeal (hInDb512Ideal := hInDb512Ideal) (hInDb512RefIdeal := hInDb512RefIdeal)
    ∧ preserves_InDb1024_InDb1024Ideal
    ∧ algebraic_InDb1024Ideal_InDb1024RefIdeal (hInDb1024Ideal := hInDb1024Ideal) (hInDb1024RefIdeal := hInDb1024RefIdeal)
    ∧ preserves_InDb768_InDb768Ideal
    ∧ algebraic_InDb768Ideal_InDb768RefIdeal (hInDb768Ideal := hInDb768Ideal) (hInDb768RefIdeal := hInDb768RefIdeal)
    ∧ preserves_InDb128_InDb128Ideal
    ∧ algebraic_InDb128Ideal_InDb128RefIdeal (hInDb128Ideal := hInDb128Ideal) (hInDb128RefIdeal := hInDb128RefIdeal)
    ∧ preserves_Gate_GateIdeal
    ∧ algebraic_GateIdeal_GateRefIdeal (hGateIdeal := hGateIdeal) (hGateRefIdeal := hGateRefIdeal)
    ∧ preserves_GateDa_GateDaIdeal
    ∧ algebraic_GateDaIdeal_GateDaRefIdeal (hGateDaIdeal := hGateDaIdeal) (hGateDaRefIdeal := hGateDaRefIdeal)
    ∧ preserves_GateDb_GateDbIdeal
    ∧ algebraic_GateDbIdeal_GateDbRefIdeal (hGateDbIdeal := hGateDbIdeal) (hGateDbRefIdeal := hGateDbRefIdeal)
    ∧ preserves_Br_BrIdeal
    ∧ algebraic_BrIdeal_BrRefIdeal (hBrIdeal := hBrIdeal) (hBrRefIdeal := hBrRefIdeal)
    ∧ preserves_BrDa_BrDaIdeal
    ∧ algebraic_BrDaIdeal_BrDaRefIdeal (hBrDaIdeal := hBrDaIdeal) (hBrDaRefIdeal := hBrDaRefIdeal)
    ∧ preserves_BrDb_BrDbIdeal
    ∧ algebraic_BrDbIdeal_BrDbRefIdeal (hBrDbIdeal := hBrDbIdeal) (hBrDbRefIdeal := hBrDbRefIdeal)
    ∧ preserves_OutDa_OutDaIdeal
    ∧ algebraic_OutDaIdeal_OutDaRefIdeal (hOutDaIdeal := hOutDaIdeal) (hOutDaRefIdeal := hOutDaRefIdeal)
    ∧ preserves_AdamWMod_AdamWModIdeal
    ∧ algebraic_AdamWModIdeal_AdamWModRefIdeal (hAdamWModIdeal := hAdamWModIdeal) (hAdamWModRefIdeal := hAdamWModRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamS5WGlu_AdamS5WGluIdeal
    ∧ algebraic_AdamS5WGluIdeal_AdamS5WGluRefIdeal (hAdamS5WGluIdeal := hAdamS5WGluIdeal) (hAdamS5WGluRefIdeal := hAdamS5WGluRefIdeal)
    ∧ preserves_AdamWBranch_AdamWBranchIdeal
    ∧ algebraic_AdamWBranchIdeal_AdamWBranchRefIdeal (hAdamWBranchIdeal := hAdamWBranchIdeal) (hAdamWBranchRefIdeal := hAdamWBranchRefIdeal)
    ∧ preserves_AdamWGate_AdamWGateIdeal
    ∧ algebraic_AdamWGateIdeal_AdamWGateRefIdeal (hAdamWGateIdeal := hAdamWGateIdeal) (hAdamWGateRefIdeal := hAdamWGateRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_ScanBwd_ScanBwdIdeal
    ∧ algebraic_ScanBwdIdeal_ScanBwdRefIdeal_pre_decay_in_range (hScanBwdIdeal := hScanBwdIdeal) (hScanBwdRefIdeal := hScanBwdRefIdeal) (hPre_decay_in_range := hPre_decay_in_range)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_decay_in_range.lean ====
abbrev S4352x512 : Shape := ⟨2, ![4352, 512]⟩
abbrev S_ : Shape := ⟨0, ![]⟩

class Facts : Prop where
  bcast_S_S4352x512 : S_.BroadcastsInDim S4352x512 (![] : Fin 0 → Fin S4352x512.rank)

variable [Facts]

def fn {F : FTy → Type} [FloatOps F] (main_arg0 : FVec F S4352x512 .f32) (main_arg1 : FVec F S4352x512 .f32) (main_arg2 : FVec F S4352x512 .f32) : IVec S4352x512 1 :=
  let main_cst : FVec F S_ .f32 := constant S_ .f32 0x00000000#32
  let main_v0 : FVec F S4352x512 .f32 := broadcastInDim S4352x512 ![] bcast_S_S4352x512 main_cst
  let main_v1 : IVec S4352x512 1 := cmpf .oge main_arg0 main_v0
  let main_cst_0 : FVec F S_ .f32 := constant S_ .f32 0x7F800000#32
  let main_v2 : FVec F S4352x512 .f32 := broadcastInDim S4352x512 ![] bcast_S_S4352x512 main_cst_0
  let main_v3 : IVec S4352x512 1 := cmpf .olt main_arg0 main_v2
  let main_v4 : IVec S4352x512 1 := andi main_v1 main_v3
  main_v4
-- ==== Mix.lean ====
abbrev S4352x4096 : Shape := ⟨2, ![4352, 4096]⟩
abbrev S4352x1024 : Shape := ⟨2, ![4352, 1024]⟩
abbrev S4x1024 : Shape := ⟨2, ![4, 1024]⟩
abbrev S1x4096 : Shape := ⟨2, ![1, 4096]⟩
abbrev S256x4096 : Shape := ⟨2, ![256, 4096]⟩
abbrev S256x1024 : Shape := ⟨2, ![256, 1024]⟩
abbrev S1x1024 : Shape := ⟨2, ![1, 1024]⟩
abbrev S1024 : Shape := ⟨1, ![1024]⟩
abbrev S1x3072 : Shape := ⟨2, ![1, 3072]⟩
abbrev S256x3072 : Shape := ⟨2, ![256, 3072]⟩
abbrev S1x2048 : Shape := ⟨2, ![1, 2048]⟩
abbrev S256x2048 : Shape := ⟨2, ![256, 2048]⟩

abbrev nBuf : Space → Nat
  | .hbm => 14
  | .vmem => 24
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4x1024, .f32⟩
  | .hbm, ⟨6, _⟩ => ⟨S4352x1024, .bf16⟩
  | .hbm, ⟨7, _⟩ => ⟨S1x4096, .f32⟩
  | .hbm, ⟨8, _⟩ => ⟨S1x4096, .f32⟩
  | .hbm, ⟨9, _⟩ => ⟨S4352x4096, .bf16⟩
  | .hbm, ⟨10, _⟩ => ⟨S4352x1024, .bf16⟩
  | .hbm, ⟨11, _⟩ => ⟨S4352x1024, .bf16⟩
  | .hbm, ⟨12, _⟩ => ⟨S4352x1024, .bf16⟩
  | .hbm, ⟨13, _⟩ => ⟨S4352x1024, .bf16⟩
  | .local _ .vmem, ⟨0, _⟩ => ⟨S1x4096, .f32⟩
  | .local _ .vmem, ⟨1, _⟩ => ⟨S256x4096, .bf16⟩
  | .local _ .vmem, ⟨2, _⟩ => ⟨S256x4096, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1x4096, .f32⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v107 : BitVec 1 := Scalar.cmpi .eq arg0 c0_i32
  let v108 : BitVec 32 := Scalar.extui v107
  let c0_i32_28 : BitVec 32 := 0#32
  let v109 : BitVec 1 := Scalar.cmpi .ne v108 c0_i32_28
  v109

def k0_cond2 (i : grid0.Coords) : BitVec 1 :=
  let arg0 : BitVec 32 := BitVec.ofNat 32 (i 0).val
  let c0_i32_29 : BitVec 32 := 0#32
  let v110 : BitVec 1 := Scalar.cmpi .sgt arg0 c0_i32_29
  let v111 : BitVec 32 := Scalar.extui v110
  let c0_i32_30 : BitVec 32 := 0#32
  let v112 : BitVec 1 := Scalar.cmpi .ne v111 c0_i32_30
  v112

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S4352x4096 : Shape := ⟨2, ![4352, 4096]⟩
abbrev S4352x1024 : Shape := ⟨2, ![4352, 1024]⟩
abbrev S4x1024 : Shape := ⟨2, ![4, 1024]⟩
abbrev S4352x1x1024 : Shape := ⟨3, ![4352, 1, 1024]⟩
abbrev S4352x4x1024 : Shape := ⟨3, ![4352, 4, 1024]⟩
abbrev S1x4x1024 : Shape := ⟨3, ![1, 4, 1024]⟩
abbrev S_ : Shape := ⟨0, ![]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4x1024, .f32⟩
  | .hbm, ⟨6, _⟩ => ⟨S4352x1024, .bf16⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x1x1024, .f32⟩
  | .hbm, ⟨12, _⟩ => ⟨S4352x1x1024, .f32⟩
  | .hbm, ⟨13, _⟩ => ⟨S4352x1x1024, .f32⟩
  | .hbm, ⟨14, _⟩ => ⟨S4352x1x1024, .f32⟩
  | .hbm, ⟨15, _⟩ => ⟨S4352x4x1024, .f32⟩
  | .hbm, ⟨16, _⟩ => ⟨S4352x4096, .f32⟩
  | .hbm, ⟨17, _⟩ => ⟨S4352x4x1024, .f32⟩
  | .hbm, ⟨18, _⟩ => ⟨S1x4x1024, .f32⟩
  | .hbm, ⟨19, _⟩ => ⟨S4352x4x1024, .f32⟩
  | .hbm, ⟨20, _⟩ => ⟨S4352x4x1024, .f32⟩
  | .hbm, ⟨21, _⟩ => ⟨S4352x4x1024, .f32⟩
  | .hbm, ⟨22, _⟩ => ⟨S4352x4x1024, .f32⟩
  | .hbm, ⟨23, _⟩ => ⟨S_, .f32⟩
  | .hbm, ⟨24, _⟩ => ⟨S4352x4x1024, .f32⟩
  | .hbm, ⟨25, _⟩ => ⟨S4352x4x1024, .f32⟩
  | .hbm, ⟨26, _⟩ => ⟨S_, .f32⟩
  | .hbm, ⟨27, _⟩ => ⟨S4352x4x1024, .f32⟩
  | .hbm, ⟨28, _⟩ => ⟨S4352x4x1024, .f32⟩
  | .hbm, ⟨29, _⟩ => ⟨S_, .f32⟩
  | .hbm, ⟨30, _⟩ => ⟨S4352x4x1024, .f32⟩
  | .hbm, ⟨31, _⟩ => ⟨S4352x4x1024, .f32⟩
  | .hbm, ⟨32, _⟩ => ⟨S4352x4x1024, .f32⟩
  | .hbm, ⟨33, _⟩ => ⟨S4352x4x1024, .f32⟩
  | .hbm, ⟨34, _⟩ => ⟨S_, .f32⟩
  | .hbm, ⟨35, _⟩ => ⟨S4352x1024, .f32⟩
  | .hbm, ⟨36, _⟩ => ⟨S4352x1024, .f32⟩
  | .hbm, ⟨37, _⟩ => ⟨S4352x4x1024, .f32⟩
  | .hbm, ⟨38, _⟩ => ⟨S4352x4x1024, .f32⟩
  | .hbm, ⟨39, _⟩ => ⟨S4352x4x1024, .f32⟩
  | .hbm, ⟨40, _⟩ => ⟨S4352x4x1024, .f32⟩
  | .hbm, ⟨41, _⟩ => ⟨S_, .f32⟩
  | .hbm, ⟨42, _⟩ => ⟨S4x1024, .f32⟩
  | .hbm, ⟨43, _⟩ => ⟨S1x4x1024, .f32⟩
  | .hbm, ⟨44, _⟩ => ⟨S_, .f32⟩
  | .hbm, ⟨45, _⟩ => ⟨S4x1024, .f32⟩
  | .hbm, ⟨46, _⟩ => ⟨S4352x4x1024, .bf16⟩
  | .hbm, ⟨47, _⟩ => ⟨S1x4096, .f32⟩
  | .hbm, ⟨48, _⟩ => ⟨S4352x4x1024, .bf16⟩
  | .hbm, ⟨49, _⟩ => ⟨S4352x4096, .bf16⟩
  | .hbm, ⟨50, _⟩ => ⟨S4352x1x1024, .bf16⟩
  | .hbm, ⟨51, _⟩ => ⟨S4352x1024, .bf16⟩
  | .hbm, ⟨52, _⟩ => ⟨S4352x1x1024, .bf16⟩
  | .hbm, ⟨53, _⟩ => ⟨S4352x1024, .bf16⟩
  | .hbm, ⟨54, _⟩ => ⟨S4352x1x1024, .bf16⟩
  | .hbm, ⟨55, _⟩ => ⟨S4352x1024, .bf16⟩
  | .hbm, ⟨56, _⟩ => ⟨S4352x1x1024, .bf16⟩
  | .hbm, ⟨57, _⟩ => ⟨S4352x1024, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== InDa.lean ====
abbrev S4352x1024 : Shape := ⟨2, ![4352, 1024]⟩
abbrev S4352x512 : Shape := ⟨2, ![4352, 512]⟩
abbrev S4352x768 : Shape := ⟨2, ![4352, 768]⟩
abbrev S4352x128 : Shape := ⟨2, ![4352, 128]⟩
abbrev S1024x1024 : Shape := ⟨2, ![1024, 1024]⟩
abbrev S1024x512 : Shape := ⟨2, ![1024, 512]⟩
abbrev S1024x768 : Shape := ⟨2, ![1024, 768]⟩
abbrev S1024x128 : Shape := ⟨2, ![1024, 128]⟩
abbrev S256x1024 : Shape := ⟨2, ![256, 1024]⟩
abbrev S256x512 : Shape := ⟨2, ![256, 512]⟩
abbrev S256x768 : Shape := ⟨2, ![256, 768]⟩
abbrev S256x128 : Shape := ⟨2, ![256, 128]⟩

abbrev nBuf : Space → Nat
  | .hbm => 23
  | .vmem => 35
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x512, .f32⟩
  | .hbm, ⟨5, _⟩ => ⟨S4352x512, .f32⟩
  | .hbm, ⟨6, _⟩ => ⟨S4352x512, .f32⟩
  | .hbm, ⟨7, _⟩ => ⟨S4352x512, .f32⟩
  | .hbm, ⟨8, _⟩ => ⟨S4352x768, .f32⟩
  | .hbm, ⟨9, _⟩ => ⟨S4352x128, .f32⟩
  | .hbm, ⟨10, _⟩ => ⟨S4352x512, .f32⟩
  | .hbm, ⟨11, _⟩ => ⟨S1024x1024, .bf16⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1024x512, .bf16⟩
  | .hbm, ⟨19, _⟩ => ⟨S1024x768, .bf16⟩
  | .hbm, ⟨20, _⟩ => ⟨S1024x128, .bf16⟩
  | .hbm, ⟨21, _⟩ => ⟨S1024x512, .bf16⟩
  | .hbm, ⟨22, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x768, .f32⟩
  | .local _ .vmem, ⟨17, _⟩ => ⟨S256x768, .f32⟩
  | .local _ .vmem, ⟨18, _⟩ => ⟨S256x128, .f32⟩
  | .local _ .vmem, ⟨19, _⟩ => ⟨S256x128, .f32⟩
  | .local _ .vmem, ⟨20, _⟩ => ⟨S256x512, .f32⟩
  | .local _ .vmem, ⟨21, _⟩ => ⟨S256x512, .f32⟩
  | .local _ .vmem, ⟨22, _⟩ => ⟨S1024x1024, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x768, .bf16⟩
  | .local _ .vmem, ⟨31, _⟩ => ⟨S1024x128, .bf16⟩
  | .local _ .vmem, ⟨32, _⟩ => ⟨S1024x512, .bf16⟩
  | .local _ .vmem, ⟨33, _⟩ => ⟨S256x1024, .bf16⟩
  | .local _ .vmem, ⟨34, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x768 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InDaRefIdeal.lean ====
abbrev S4352x1024 : Shape := ⟨2, ![4352, 1024]⟩
abbrev S4352x512 : Shape := ⟨2, ![4352, 512]⟩
abbrev S4352x768 : Shape := ⟨2, ![4352, 768]⟩
abbrev S4352x128 : Shape := ⟨2, ![4352, 128]⟩
abbrev S1024x1024 : Shape := ⟨2, ![1024, 1024]⟩
abbrev S1024x512 : Shape := ⟨2, ![1024, 512]⟩
abbrev S1024x768 : Shape := ⟨2, ![1024, 768]⟩
abbrev S1024x128 : Shape := ⟨2, ![1024, 128]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x512, .f32⟩
  | .hbm, ⟨5, _⟩ => ⟨S4352x512, .f32⟩
  | .hbm, ⟨6, _⟩ => ⟨S4352x512, .f32⟩
  | .hbm, ⟨7, _⟩ => ⟨S4352x512, .f32⟩
  | .hbm, ⟨8, _⟩ => ⟨S4352x768, .f32⟩
  | .hbm, ⟨9, _⟩ => ⟨S4352x128, .f32⟩
  | .hbm, ⟨10, _⟩ => ⟨S4352x512, .f32⟩
  | .hbm, ⟨11, _⟩ => ⟨S1024x1024, .bf16⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1024x512, .bf16⟩
  | .hbm, ⟨19, _⟩ => ⟨S1024x768, .bf16⟩
  | .hbm, ⟨20, _⟩ => ⟨S1024x128, .bf16⟩
  | .hbm, ⟨21, _⟩ => ⟨S1024x512, .bf16⟩
  | .hbm, ⟨22, _⟩ => ⟨S_, .f32⟩
  | .hbm, ⟨23, _⟩ => ⟨S4352x1024, .f32⟩
  | .hbm, ⟨24, _⟩ => ⟨S1024x1024, .f32⟩
  | .hbm, ⟨25, _⟩ => ⟨S4352x1024, .f32⟩
  | .hbm, ⟨26, _⟩ => ⟨S1024x512, .f32⟩
  | .hbm, ⟨27, _⟩ => ⟨S4352x512, .f32⟩
  | .hbm, ⟨28, _⟩ => ⟨S1024x512, .f32⟩
  | .hbm, ⟨29, _⟩ => ⟨S4352x512, .f32⟩
  | .hbm, ⟨30, _⟩ => ⟨S1024x512, .f32⟩
  | .hbm, ⟨31, _⟩ => ⟨S4352x512, .f32⟩
  | .hbm, ⟨32, _⟩ => ⟨S1024x512, .f32⟩
  | .hbm, ⟨33, _⟩ => ⟨S4352x512, .f32⟩
  | .hbm, ⟨34, _⟩ => ⟨S1024x512, .f32⟩
  | .hbm, ⟨35, _⟩ => ⟨S4352x512, .f32⟩
  | .hbm, ⟨36, _⟩ => ⟨S1024x512, .f32⟩
  | .hbm, ⟨37, _⟩ => ⟨S4352x512, .f32⟩
  | .hbm, ⟨38, _⟩ => ⟨S1024x512, .f32⟩
  | .hbm, ⟨39, _⟩ => ⟨S4352x512, .f32⟩
  | .hbm, ⟨40, _⟩ => ⟨S1024x768, .f32⟩
  | .hbm, ⟨41, _⟩ => ⟨S4352x768, .f32⟩
  | .hbm, ⟨42, _⟩ => ⟨S1024x128, .f32⟩
  | .hbm, ⟨43, _⟩ => ⟨S4352x128, .f32⟩
  | .hbm, ⟨44, _⟩ => ⟨S1024x512, .f32⟩
  | .hbm, ⟨45, _⟩ => ⟨S4352x512, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S4352x1024, .f32⟩
  | .hbm, ⟨60, _⟩ => ⟨S4352x1024, .f32⟩
  | .hbm, ⟨61, _⟩ => ⟨S4352x1024, .f32⟩
  | .hbm, ⟨62, _⟩ => ⟨S4352x1024, .f32⟩
  | .hbm, ⟨63, _⟩ => ⟨S4352x1024, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== In512.lean ====
abbrev S4352x1024 : Shape := ⟨2, ![4352, 1024]⟩
abbrev S1024x512 : Shape := ⟨2, ![1024, 512]⟩
abbrev S4352x512 : Shape := ⟨2, ![4352, 512]⟩
abbrev S2176x1024 : Shape := ⟨2, ![2176, 1024]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x512, .bf16⟩
  | .hbm, ⟨2, _⟩ => ⟨S4352x512, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In512Ideal.lean ====
abbrev S4352x1024 : Shape := ⟨2, ![4352, 1024]⟩
abbrev S1024x512 : Shape := ⟨2, ![1024, 512]⟩
abbrev S4352x512 : Shape := ⟨2, ![4352, 512]⟩
abbrev S2176x1024 : Shape := ⟨2, ![2176, 1024]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x512, .bf16⟩
  | .hbm, ⟨2, _⟩ => ⟨S4352x512, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In512RefIdeal.lean ====
abbrev S4352x1024 : Shape := ⟨2, ![4352, 1024]⟩
abbrev S1024x512 : Shape := ⟨2, ![1024, 512]⟩
abbrev S4352x512 : Shape := ⟨2, ![4352, 512]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x512, .bf16⟩
  | .hbm, ⟨2, _⟩ => ⟨S4352x1024, .f32⟩
  | .hbm, ⟨3, _⟩ => ⟨S1024x512, .f32⟩
  | .hbm, ⟨4, _⟩ => ⟨S4352x512, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In1024.lean ====
abbrev S4352x1024 : Shape := ⟨2, ![4352, 1024]⟩
abbrev S1024x1024 : Shape := ⟨2, ![1024, 1024]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S2176x1024, .f32⟩
  | .local _ .vmem, ⟨4, _⟩ => ⟨S2176x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In1024Ideal.lean ====
abbrev S4352x1024 : Shape := ⟨2, ![4352, 1024]⟩
abbrev S1024x1024 : Shape := ⟨2, ![1024, 1024]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S2176x1024, .f32⟩
  | .local _ .vmem, ⟨4, _⟩ => ⟨S2176x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In1024RefIdeal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In768.lean ====
abbrev S4352x1024 : Shape := ⟨2, ![4352, 1024]⟩
abbrev S1024x768 : Shape := ⟨2, ![1024, 768]⟩
abbrev S4352x768 : Shape := ⟨2, ![4352, 768]⟩
abbrev S2176x1024 : Shape := ⟨2, ![2176, 1024]⟩
abbrev S2176x768 : Shape := ⟨2, ![2176, 768]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x768, .bf16⟩
  | .hbm, ⟨2, _⟩ => ⟨S4352x768, .f32⟩
  | .local _ .vmem, ⟨0, _⟩ => ⟨S2176x1024, .bf16⟩
  | .local _ .vmem, ⟨1, _⟩ => ⟨S2176x1024, .bf16⟩
  | .local _ .vmem, ⟨2, _⟩ => ⟨S1024x768, .bf16⟩
  | .local _ .vmem, ⟨3, _⟩ => ⟨S2176x768, .f32⟩
  | .local _ .vmem, ⟨4, _⟩ => ⟨S2176x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In768Ideal.lean ====
abbrev S4352x1024 : Shape := ⟨2, ![4352, 1024]⟩
abbrev S1024x768 : Shape := ⟨2, ![1024, 768]⟩
abbrev S4352x768 : Shape := ⟨2, ![4352, 768]⟩
abbrev S2176x1024 : Shape := ⟨2, ![2176, 1024]⟩
abbrev S2176x768 : Shape := ⟨2, ![2176, 768]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x768, .bf16⟩
  | .hbm, ⟨2, _⟩ => ⟨S4352x768, .f32⟩
  | .local _ .vmem, ⟨0, _⟩ => ⟨S2176x1024, .bf16⟩
  | .local _ .vmem, ⟨1, _⟩ => ⟨S2176x1024, .bf16⟩
  | .local _ .vmem, ⟨2, _⟩ => ⟨S1024x768, .bf16⟩
  | .local _ .vmem, ⟨3, _⟩ => ⟨S2176x768, .f32⟩
  | .local _ .vmem, ⟨4, _⟩ => ⟨S2176x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In768RefIdeal.lean ====
abbrev S4352x1024 : Shape := ⟨2, ![4352, 1024]⟩
abbrev S1024x768 : Shape := ⟨2, ![1024, 768]⟩
abbrev S4352x768 : Shape := ⟨2, ![4352, 768]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x768, .bf16⟩
  | .hbm, ⟨2, _⟩ => ⟨S4352x1024, .f32⟩
  | .hbm, ⟨3, _⟩ => ⟨S1024x768, .f32⟩
  | .hbm, ⟨4, _⟩ => ⟨S4352x768, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In128.lean ====
abbrev S4352x1024 : Shape := ⟨2, ![4352, 1024]⟩
abbrev S1024x128 : Shape := ⟨2, ![1024, 128]⟩
abbrev S4352x128 : Shape := ⟨2, ![4352, 128]⟩
abbrev S2176x1024 : Shape := ⟨2, ![2176, 1024]⟩
abbrev S2176x128 : Shape := ⟨2, ![2176, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x128, .f32⟩
  | .local _ .vmem, ⟨0, _⟩ => ⟨S2176x1024, .bf16⟩
  | .local _ .vmem, ⟨1, _⟩ => ⟨S2176x1024, .bf16⟩
  | .local _ .vmem, ⟨2, _⟩ => ⟨S1024x128, .bf16⟩
  | .local _ .vmem, ⟨3, _⟩ => ⟨S2176x128, .f32⟩
  | .local _ .vmem, ⟨4, _⟩ => ⟨S2176x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In128Ideal.lean ====
abbrev S4352x1024 : Shape := ⟨2, ![4352, 1024]⟩
abbrev S1024x128 : Shape := ⟨2, ![1024, 128]⟩
abbrev S4352x128 : Shape := ⟨2, ![4352, 128]⟩
abbrev S2176x1024 : Shape := ⟨2, ![2176, 1024]⟩
abbrev S2176x128 : Shape := ⟨2, ![2176, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x128, .f32⟩
  | .local _ .vmem, ⟨0, _⟩ => ⟨S2176x1024, .bf16⟩
  | .local _ .vmem, ⟨1, _⟩ => ⟨S2176x1024, .bf16⟩
  | .local _ .vmem, ⟨2, _⟩ => ⟨S1024x128, .bf16⟩
  | .local _ .vmem, ⟨3, _⟩ => ⟨S2176x128, .f32⟩
  | .local _ .vmem, ⟨4, _⟩ => ⟨S2176x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In128RefIdeal.lean ====
abbrev S4352x1024 : Shape := ⟨2, ![4352, 1024]⟩
abbrev S1024x128 : Shape := ⟨2, ![1024, 128]⟩
abbrev S4352x128 : Shape := ⟨2, ![4352, 128]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x1024, .f32⟩
  | .hbm, ⟨3, _⟩ => ⟨S1024x128, .f32⟩
  | .hbm, ⟨4, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDb512.lean ====
abbrev S4352x1024 : Shape := ⟨2, ![4352, 1024]⟩
abbrev S4352x512 : Shape := ⟨2, ![4352, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x512, .f32⟩
  | .hbm, ⟨2, _⟩ => ⟨S1024x512, .f32⟩
  | .local _ .vmem, ⟨0, _⟩ => ⟨S4352x1024, .bf16⟩
  | .local _ .vmem, ⟨1, _⟩ => ⟨S4352x512, .f32⟩
  | .local _ .vmem, ⟨2, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4352x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InDb512Ideal.lean ====
abbrev S4352x1024 : Shape := ⟨2, ![4352, 1024]⟩
abbrev S4352x512 : Shape := ⟨2, ![4352, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x512, .f32⟩
  | .hbm, ⟨2, _⟩ => ⟨S1024x512, .f32⟩
  | .local _ .vmem, ⟨0, _⟩ => ⟨S4352x1024, .bf16⟩
  | .local _ .vmem, ⟨1, _⟩ => ⟨S4352x512, .f32⟩
  | .local _ .vmem, ⟨2, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4352x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InDb512RefIdeal.lean ====
abbrev S4352x1024 : Shape := ⟨2, ![4352, 1024]⟩
abbrev S4352x512 : Shape := ⟨2, ![4352, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x512, .f32⟩
  | .hbm, ⟨2, _⟩ => ⟨S_, .f32⟩
  | .hbm, ⟨3, _⟩ => ⟨S1024x512, .f32⟩
  | .hbm, ⟨4, _⟩ => ⟨S4352x1024, .f32⟩
  | .hbm, ⟨5, _⟩ => ⟨S4352x512, .f32⟩
  | .hbm, ⟨6, _⟩ => ⟨S512x1024, .f32⟩
  | .hbm, ⟨7, _⟩ => ⟨S1024x512, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDb1024.lean ====
abbrev S4352x1024 : Shape := ⟨2, ![4352, 1024]⟩
abbrev S1024x1024 : Shape := ⟨2, ![1024, 1024]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1024x1024, .f32⟩
  | .local _ .vmem, ⟨0, _⟩ => ⟨S4352x1024, .bf16⟩
  | .local _ .vmem, ⟨1, _⟩ => ⟨S4352x512, .f32⟩
  | .local _ .vmem, ⟨2, _⟩ => ⟨S4352x512, .f32⟩
  | .local _ .vmem, ⟨3, _⟩ => ⟨S1024x512, .f32⟩
  | .local _ .vmem, ⟨4, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDb1024Ideal.lean ====
abbrev S4352x1024 : Shape := ⟨2, ![4352, 1024]⟩
abbrev S1024x1024 : Shape := ⟨2, ![1024, 1024]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1024x1024, .f32⟩
  | .local _ .vmem, ⟨0, _⟩ => ⟨S4352x1024, .bf16⟩
  | .local _ .vmem, ⟨1, _⟩ => ⟨S4352x512, .f32⟩
  | .local _ .vmem, ⟨2, _⟩ => ⟨S4352x512, .f32⟩
  | .local _ .vmem, ⟨3, _⟩ => ⟨S1024x512, .f32⟩
  | .local _ .vmem, ⟨4, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDb1024RefIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S1024x1024, .f32⟩
  | .hbm, ⟨7, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDb768.lean ====
abbrev S4352x1024 : Shape := ⟨2, ![4352, 1024]⟩
abbrev S4352x768 : Shape := ⟨2, ![4352, 768]⟩
abbrev S1024x768 : Shape := ⟨2, ![1024, 768]⟩
abbrev S4352x384 : Shape := ⟨2, ![4352, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x768, .f32⟩
  | .hbm, ⟨2, _⟩ => ⟨S1024x768, .f32⟩
  | .local _ .vmem, ⟨0, _⟩ => ⟨S4352x1024, .bf16⟩
  | .local _ .vmem, ⟨1, _⟩ => ⟨S4352x384, .f32⟩
  | .local _ .vmem, ⟨2, _⟩ => ⟨S4352x384, .f32⟩
  | .local _ .vmem, ⟨3, _⟩ => ⟨S1024x384, .f32⟩
  | .local _ .vmem, ⟨4, _⟩ => ⟨S1024x384, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDb768Ideal.lean ====
abbrev S4352x1024 : Shape := ⟨2, ![4352, 1024]⟩
abbrev S4352x768 : Shape := ⟨2, ![4352, 768]⟩
abbrev S1024x768 : Shape := ⟨2, ![1024, 768]⟩
abbrev S4352x384 : Shape := ⟨2, ![4352, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x768, .f32⟩
  | .hbm, ⟨2, _⟩ => ⟨S1024x768, .f32⟩
  | .local _ .vmem, ⟨0, _⟩ => ⟨S4352x1024, .bf16⟩
  | .local _ .vmem, ⟨1, _⟩ => ⟨S4352x384, .f32⟩
  | .local _ .vmem, ⟨2, _⟩ => ⟨S4352x384, .f32⟩
  | .local _ .vmem, ⟨3, _⟩ => ⟨S1024x384, .f32⟩
  | .local _ .vmem, ⟨4, _⟩ => ⟨S1024x384, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDb768RefIdeal.lean ====
abbrev S4352x1024 : Shape := ⟨2, ![4352, 1024]⟩
abbrev S4352x768 : Shape := ⟨2, ![4352, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x768, .f32⟩
  | .hbm, ⟨2, _⟩ => ⟨S_, .f32⟩
  | .hbm, ⟨3, _⟩ => ⟨S1024x768, .f32⟩
  | .hbm, ⟨4, _⟩ => ⟨S4352x1024, .f32⟩
  | .hbm, ⟨5, _⟩ => ⟨S4352x768, .f32⟩
  | .hbm, ⟨6, _⟩ => ⟨S768x1024, .f32⟩
  | .hbm, ⟨7, _⟩ => ⟨S1024x768, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDb128.lean ====
abbrev S4352x1024 : Shape := ⟨2, ![4352, 1024]⟩
abbrev S4352x128 : Shape := ⟨2, ![4352, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x128, .f32⟩
  | .hbm, ⟨2, _⟩ => ⟨S1024x128, .f32⟩
  | .local _ .vmem, ⟨0, _⟩ => ⟨S4352x1024, .bf16⟩
  | .local _ .vmem, ⟨1, _⟩ => ⟨S4352x128, .f32⟩
  | .local _ .vmem, ⟨2, _⟩ => ⟨S1024x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4352x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InDb128Ideal.lean ====
abbrev S4352x1024 : Shape := ⟨2, ![4352, 1024]⟩
abbrev S4352x128 : Shape := ⟨2, ![4352, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x128, .f32⟩
  | .hbm, ⟨2, _⟩ => ⟨S1024x128, .f32⟩
  | .local _ .vmem, ⟨0, _⟩ => ⟨S4352x1024, .bf16⟩
  | .local _ .vmem, ⟨1, _⟩ => ⟨S4352x128, .f32⟩
  | .local _ .vmem, ⟨2, _⟩ => ⟨S1024x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4352x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InDb128RefIdeal.lean ====
abbrev S4352x1024 : Shape := ⟨2, ![4352, 1024]⟩
abbrev S4352x128 : Shape := ⟨2, ![4352, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x128, .f32⟩
  | .hbm, ⟨2, _⟩ => ⟨S_, .f32⟩
  | .hbm, ⟨3, _⟩ => ⟨S1024x128, .f32⟩
  | .hbm, ⟨4, _⟩ => ⟨S4352x1024, .f32⟩
  | .hbm, ⟨5, _⟩ => ⟨S4352x128, .f32⟩
  | .hbm, ⟨6, _⟩ => ⟨S128x1024, .f32⟩
  | .hbm, ⟨7, _⟩ => ⟨S1024x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gate.lean ====
abbrev S4352x1024 : Shape := ⟨2, ![4352, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4352x4096 : Shape := ⟨2, ![4352, 4096]⟩
abbrev S1088x1024 : Shape := ⟨2, ![1088, 1024]⟩
abbrev S1088x4096 : Shape := ⟨2, ![1088, 4096]⟩

abbrev nBuf : Space → Nat
  | .hbm => 5
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S4352x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1024x4096, .bf16⟩
  | .local _ .vmem, ⟨3, _⟩ => ⟨S1088x4096, .bf16⟩
  | .local _ .vmem, ⟨4, _⟩ => ⟨S1088x4096, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S4352x1024 : Shape := ⟨2, ![4352, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S4352x1x1024 : Shape := ⟨3, ![4352, 1, 1024]⟩
abbrev S4352x4x1024 : Shape := ⟨3, ![4352, 4, 1024]⟩
abbrev S4352x4096 : Shape := ⟨2, ![4352, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4x1024x1024, .bf16⟩
  | .hbm, ⟨2, _⟩ => ⟨S4352x1024, .f32⟩
  | .hbm, ⟨3, _⟩ => ⟨S4x1024x1024, .f32⟩
  | .hbm, ⟨4, _⟩ => ⟨S1x1024x1024, .f32⟩
  | .hbm, ⟨5, _⟩ => ⟨S1024x1024, .f32⟩
  | .hbm, ⟨6, _⟩ => ⟨S4352x1024, .f32⟩
  | .hbm, ⟨7, _⟩ => ⟨S1x1024x1024, .f32⟩
  | .hbm, ⟨8, _⟩ => ⟨S1024x1024, .f32⟩
  | .hbm, ⟨9, _⟩ => ⟨S4352x1024, .f32⟩
  | .hbm, ⟨10, _⟩ => ⟨S1x1024x1024, .f32⟩
  | .hbm, ⟨11, _⟩ => ⟨S1024x1024, .f32⟩
  | .hbm, ⟨12, _⟩ => ⟨S4352x1024, .f32⟩
  | .hbm, ⟨13, _⟩ => ⟨S1x1024x1024, .f32⟩
  | .hbm, ⟨14, _⟩ => ⟨S1024x1024, .f32⟩
  | .hbm, ⟨15, _⟩ => ⟨S4352x1024, .f32⟩
  | .hbm, ⟨16, _⟩ => ⟨S4352x1x1024, .f32⟩
  | .hbm, ⟨17, _⟩ => ⟨S4352x1x1024, .f32⟩
  | .hbm, ⟨18, _⟩ => ⟨S4352x1x1024, .f32⟩
  | .hbm, ⟨19, _⟩ => ⟨S4352x1x1024, .f32⟩
  | .hbm, ⟨20, _⟩ => ⟨S4352x4x1024, .f32⟩
  | .hbm, ⟨21, _⟩ => ⟨S4352x4x1024, .bf16⟩
  | .hbm, ⟨22, _⟩ => ⟨S4352x4096, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== GateDa.lean ====
abbrev S4352x4096 : Shape := ⟨2, ![4352, 4096]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4352x1024 : Shape := ⟨2, ![4352, 1024]⟩
abbrev S544x4096 : Shape := ⟨2, ![544, 4096]⟩
abbrev S544x1024 : Shape := ⟨2, ![544, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x4096, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S4352x1024, .bf16⟩
  | .local _ .vmem, ⟨0, _⟩ => ⟨S544x4096, .bf16⟩
  | .local _ .vmem, ⟨1, _⟩ => ⟨S544x4096, .bf16⟩
  | .local _ .vmem, ⟨2, _⟩ => ⟨S1024x4096, .bf16⟩
  | .local _ .vmem, ⟨3, _⟩ => ⟨S544x1024, .bf16⟩
  | .local _ .vmem, ⟨4, _⟩ => ⟨S544x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDaRefIdeal.lean ====
abbrev S4352x4096 : Shape := ⟨2, ![4352, 4096]⟩
abbrev S4x1024x1024 : Shape := ⟨3, ![4, 1024, 1024]⟩
abbrev S_ : Shape := ⟨0, ![]⟩
abbrev S4352x1024 : Shape := ⟨2, ![4352, 1024]⟩
abbrev S4352x4x1024 : Shape := ⟨3, ![4352, 4, 1024]⟩
abbrev S1x1024x1024 : Shape := ⟨3, ![1, 1024, 1024]⟩
abbrev S1024x1024 : Shape := ⟨2, ![1024, 1024]⟩
abbrev S4352x1x1024 : Shape := ⟨3, ![4352, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4x1024x1024, .bf16⟩
  | .hbm, ⟨2, _⟩ => ⟨S_, .f32⟩
  | .hbm, ⟨3, _⟩ => ⟨S4352x1024, .f32⟩
  | .hbm, ⟨4, _⟩ => ⟨S4352x4096, .f32⟩
  | .hbm, ⟨5, _⟩ => ⟨S4352x4x1024, .f32⟩
  | .hbm, ⟨6, _⟩ => ⟨S4x1024x1024, .f32⟩
  | .hbm, ⟨7, _⟩ => ⟨S1x1024x1024, .f32⟩
  | .hbm, ⟨8, _⟩ => ⟨S1024x1024, .f32⟩
  | .hbm, ⟨9, _⟩ => ⟨S4352x1024, .f32⟩
  | .hbm, ⟨10, _⟩ => ⟨S1x1024x1024, .f32⟩
  | .hbm, ⟨11, _⟩ => ⟨S1024x1024, .f32⟩
  | .hbm, ⟨12, _⟩ => ⟨S4352x1024, .f32⟩
  | .hbm, ⟨13, _⟩ => ⟨S1x1024x1024, .f32⟩
  | .hbm, ⟨14, _⟩ => ⟨S1024x1024, .f32⟩
  | .hbm, ⟨15, _⟩ => ⟨S4352x1024, .f32⟩
  | .hbm, ⟨16, _⟩ => ⟨S1x1024x1024, .f32⟩
  | .hbm, ⟨17, _⟩ => ⟨S1024x1024, .f32⟩
  | .hbm, ⟨18, _⟩ => ⟨S4352x1024, .f32⟩
  | .hbm, ⟨19, _⟩ => ⟨S4352x1x1024, .f32⟩
  | .hbm, ⟨20, _⟩ => ⟨S4352x1x1024, .f32⟩
  | .hbm, ⟨21, _⟩ => ⟨S4352x1x1024, .f32⟩
  | .hbm, ⟨22, _⟩ => ⟨S4352x1x1024, .f32⟩
  | .hbm, ⟨23, _⟩ => ⟨S4352x4x1024, .f32⟩
  | .hbm, ⟨24, _⟩ => ⟨S4352x1x1024, .f32⟩
  | .hbm, ⟨25, _⟩ => ⟨S4352x1024, .f32⟩
  | .hbm, ⟨26, _⟩ => ⟨S4352x1x1024, .f32⟩
  | .hbm, ⟨27, _⟩ => ⟨S4352x1024, .f32⟩
  | .hbm, ⟨28, _⟩ => ⟨S4352x1x1024, .f32⟩
  | .hbm, ⟨29, _⟩ => ⟨S4352x1024, .f32⟩
  | .hbm, ⟨30, _⟩ => ⟨S4352x1x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩

abbrev nD : Nat := 1
abbrev τ : Topo := Topo.v7x

variable {F : FTy → Type} [FloatOps F]
-- ==== GateDb.lean ====
abbrev S4352x1024 : Shape := ⟨2, ![4352, 1024]⟩
abbrev S4352x4096 : Shape := ⟨2, ![4352, 4096]⟩
abbrev S1024x4096 : Shape := ⟨2, ![1024, 4096]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S1024x4096, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .f32⟩
  | .local _ .vmem, ⟨4, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDbRefIdeal.lean ====
abbrev S4352x1024 : Shape := ⟨2, ![4352, 1024]⟩
abbrev S4352x4096 : Shape := ⟨2, ![4352, 4096]⟩
abbrev S_ : Shape := ⟨0, ![]⟩
abbrev S1024x1024 : Shape := ⟨2, ![1024, 1024]⟩
abbrev S1024x4096 : Shape := ⟨2, ![1024, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x4096, .f32⟩
  | .hbm, ⟨13, _⟩ => ⟨S4352x4096, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x4096, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Br.lean ====
abbrev S4352x512 : Shape := ⟨2, ![4352, 512]⟩
abbrev S512x1024 : Shape := ⟨2, ![512, 1024]⟩
abbrev S4352x1024 : Shape := ⟨2, ![4352, 1024]⟩
abbrev S2176x512 : Shape := ⟨2, ![2176, 512]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x1024, .bf16⟩
  | .local _ .vmem, ⟨0, _⟩ => ⟨S2176x512, .bf16⟩
  | .local _ .vmem, ⟨1, _⟩ => ⟨S2176x512, .bf16⟩
  | .local _ .vmem, ⟨2, _⟩ => ⟨S512x1024, .bf16⟩
  | .local _ .vmem, ⟨3, _⟩ => ⟨S2176x1024, .bf16⟩
  | .local _ .vmem, ⟨4, _⟩ => ⟨S2176x1024, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BrIdeal.lean ====
abbrev S4352x512 : Shape := ⟨2, ![4352, 512]⟩
abbrev S512x1024 : Shape := ⟨2, ![512, 1024]⟩
abbrev S4352x1024 : Shape := ⟨2, ![4352, 1024]⟩
abbrev S2176x512 : Shape := ⟨2, ![2176, 512]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x1024, .bf16⟩
  | .local _ .vmem, ⟨0, _⟩ => ⟨S2176x512, .bf16⟩
  | .local _ .vmem, ⟨1, _⟩ => ⟨S2176x512, .bf16⟩
  | .local _ .vmem, ⟨2, _⟩ => ⟨S512x1024, .bf16⟩
  | .local _ .vmem, ⟨3, _⟩ => ⟨S2176x1024, .bf16⟩
  | .local _ .vmem, ⟨4, _⟩ => ⟨S2176x1024, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BrRefIdeal.lean ====
abbrev S4352x512 : Shape := ⟨2, ![4352, 512]⟩
abbrev S512x1024 : Shape := ⟨2, ![512, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x512, .f32⟩
  | .hbm, ⟨3, _⟩ => ⟨S512x1024, .f32⟩
  | .hbm, ⟨4, _⟩ => ⟨S4352x1024, .f32⟩
  | .hbm, ⟨5, _⟩ => ⟨S4352x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrDa.lean ====
abbrev S4352x1024 : Shape := ⟨2, ![4352, 1024]⟩
abbrev S512x1024 : Shape := ⟨2, ![512, 1024]⟩
abbrev S4352x512 : Shape := ⟨2, ![4352, 512]⟩
abbrev S2176x1024 : Shape := ⟨2, ![2176, 1024]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S512x1024, .bf16⟩
  | .hbm, ⟨2, _⟩ => ⟨S4352x512, .bf16⟩
  | .local _ .vmem, ⟨0, _⟩ => ⟨S2176x1024, .bf16⟩
  | .local _ .vmem, ⟨1, _⟩ => ⟨S2176x1024, .bf16⟩
  | .local _ .vmem, ⟨2, _⟩ => ⟨S512x1024, .bf16⟩
  | .local _ .vmem, ⟨3, _⟩ => ⟨S2176x512, .bf16⟩
  | .local _ .vmem, ⟨4, _⟩ => ⟨S2176x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BrDaIdeal.lean ====
abbrev S4352x1024 : Shape := ⟨2, ![4352, 1024]⟩
abbrev S512x1024 : Shape := ⟨2, ![512, 1024]⟩
abbrev S4352x512 : Shape := ⟨2, ![4352, 512]⟩
abbrev S2176x1024 : Shape := ⟨2, ![2176, 1024]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S512x1024, .bf16⟩
  | .hbm, ⟨2, _⟩ => ⟨S4352x512, .bf16⟩
  | .local _ .vmem, ⟨0, _⟩ => ⟨S2176x1024, .bf16⟩
  | .local _ .vmem, ⟨1, _⟩ => ⟨S2176x1024, .bf16⟩
  | .local _ .vmem, ⟨2, _⟩ => ⟨S512x1024, .bf16⟩
  | .local _ .vmem, ⟨3, _⟩ => ⟨S2176x512, .bf16⟩
  | .local _ .vmem, ⟨4, _⟩ => ⟨S2176x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BrDaRefIdeal.lean ====
abbrev S4352x1024 : Shape := ⟨2, ![4352, 1024]⟩
abbrev S512x1024 : Shape := ⟨2, ![512, 1024]⟩
abbrev S_ : Shape := ⟨0, ![]⟩
abbrev S4352x512 : Shape := ⟨2, ![4352, 512]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S512x1024, .bf16⟩
  | .hbm, ⟨2, _⟩ => ⟨S_, .f32⟩
  | .hbm, ⟨3, _⟩ => ⟨S4352x512, .f32⟩
  | .hbm, ⟨4, _⟩ => ⟨S512x1024, .f32⟩
  | .hbm, ⟨5, _⟩ => ⟨S4352x1024, .f32⟩
  | .hbm, ⟨6, _⟩ => ⟨S4352x1024, .f32⟩
  | .hbm, ⟨7, _⟩ => ⟨S4352x512, .f32⟩
  | .hbm, ⟨8, _⟩ => ⟨S4352x512, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrDb.lean ====
abbrev S4352x512 : Shape := ⟨2, ![4352, 512]⟩
abbrev S4352x1024 : Shape := ⟨2, ![4352, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S512x1024, .f32⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S512x512, .f32⟩
  | .local _ .vmem, ⟨4, _⟩ => ⟨S512x512, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BrDbIdeal.lean ====
abbrev S4352x512 : Shape := ⟨2, ![4352, 512]⟩
abbrev S4352x1024 : Shape := ⟨2, ![4352, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S512x1024, .f32⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S512x512, .f32⟩
  | .local _ .vmem, ⟨4, _⟩ => ⟨S512x512, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BrDbRefIdeal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S_, .f32⟩
  | .hbm, ⟨3, _⟩ => ⟨S512x1024, .f32⟩
  | .hbm, ⟨4, _⟩ => ⟨S4352x512, .f32⟩
  | .hbm, ⟨5, _⟩ => ⟨S4352x1024, .f32⟩
  | .hbm, ⟨6, _⟩ => ⟨S4352x1024, .f32⟩
  | .hbm, ⟨7, _⟩ => ⟨S1024x512, .f32⟩
  | .hbm, ⟨8, _⟩ => ⟨S512x1024, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDa.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDaIdeal.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDaRefIdeal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamWMod.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWModIdeal.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWModRefIdeal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWIn.lean ====
abbrev S2x1024x1476 : Shape := ⟨3, ![2, 1024, 1476]⟩
abbrev S2048x1476 : Shape := ⟨2, ![2048, 1476]⟩
abbrev S256x1476 : Shape := ⟨2, ![256, 1476]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1476, .f32⟩
  | .hbm, ⟨1, _⟩ => ⟨S2x1024x1476, .f32⟩
  | .hbm, ⟨2, _⟩ => ⟨S2x1024x1476, .f32⟩
  | .hbm, ⟨3, _⟩ => ⟨S2x1024x1476, .f32⟩
  | .hbm, ⟨4, _⟩ => ⟨S2048x1476, .f32⟩
  | .hbm, ⟨5, _⟩ => ⟨S2048x1476, .f32⟩
  | .hbm, ⟨6, _⟩ => ⟨S2048x1476, .f32⟩
  | .hbm, ⟨7, _⟩ => ⟨S2048x1476, .f32⟩
  | .hbm, ⟨8, _⟩ => ⟨S2048x1476, .f32⟩
  | .hbm, ⟨9, _⟩ => ⟨S2048x1476, .f32⟩
  | .hbm, ⟨10, _⟩ => ⟨S2048x1476, .f32⟩
  | .local _ .vmem, ⟨0, _⟩ => ⟨S256x1476, .f32⟩
  | .local _ .vmem, ⟨1, _⟩ => ⟨S256x1476, .f32⟩
  | .local _ .vmem, ⟨2, _⟩ => ⟨S256x1476, .f32⟩
  | .local _ .vmem, ⟨3, _⟩ => ⟨S256x1476, .f32⟩
  | .local _ .vmem, ⟨4, _⟩ => ⟨S256x1476, .f32⟩
  | .local _ .vmem, ⟨5, _⟩ => ⟨S256x1476, .f32⟩
  | .local _ .vmem, ⟨6, _⟩ => ⟨S256x1476, .f32⟩
  | .local _ .vmem, ⟨7, _⟩ => ⟨S256x1476, .f32⟩
  | .local _ .vmem, ⟨8, _⟩ => ⟨S256x1476, .f32⟩
  | .local _ .vmem, ⟨9, _⟩ => ⟨S256x1476, .f32⟩
  | .local _ .vmem, ⟨10, _⟩ => ⟨S256x1476, .f32⟩
  | .local _ .vmem, ⟨11, _⟩ => ⟨S256x1476, .f32⟩
  | .local _ .vmem, ⟨12, _⟩ => ⟨S256x1476, .f32⟩
  | .local _ .vmem, ⟨13, _⟩ => ⟨S256x1476, .f32⟩
  | _, _ => ⟨S2x1024x1476, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1476 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S2x1024x1476 : Shape := ⟨3, ![2, 1024, 1476]⟩
abbrev S2048x1476 : Shape := ⟨2, ![2048, 1476]⟩
abbrev S256x1476 : Shape := ⟨2, ![256, 1476]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1476, .f32⟩
  | .hbm, ⟨1, _⟩ => ⟨S2x1024x1476, .f32⟩
  | .hbm, ⟨2, _⟩ => ⟨S2x1024x1476, .f32⟩
  | .hbm, ⟨3, _⟩ => ⟨S2x1024x1476, .f32⟩
  | .hbm, ⟨4, _⟩ => ⟨S2048x1476, .f32⟩
  | .hbm, ⟨5, _⟩ => ⟨S2048x1476, .f32⟩
  | .hbm, ⟨6, _⟩ => ⟨S2048x1476, .f32⟩
  | .hbm, ⟨7, _⟩ => ⟨S2048x1476, .f32⟩
  | .hbm, ⟨8, _⟩ => ⟨S2048x1476, .f32⟩
  | .hbm, ⟨9, _⟩ => ⟨S2048x1476, .f32⟩
  | .hbm, ⟨10, _⟩ => ⟨S2048x1476, .f32⟩
  | .local _ .vmem, ⟨0, _⟩ => ⟨S256x1476, .f32⟩
  | .local _ .vmem, ⟨1, _⟩ => ⟨S256x1476, .f32⟩
  | .local _ .vmem, ⟨2, _⟩ => ⟨S256x1476, .f32⟩
  | .local _ .vmem, ⟨3, _⟩ => ⟨S256x1476, .f32⟩
  | .local _ .vmem, ⟨4, _⟩ => ⟨S256x1476, .f32⟩
  | .local _ .vmem, ⟨5, _⟩ => ⟨S256x1476, .f32⟩
  | .local _ .vmem, ⟨6, _⟩ => ⟨S256x1476, .f32⟩
  | .local _ .vmem, ⟨7, _⟩ => ⟨S256x1476, .f32⟩
  | .local _ .vmem, ⟨8, _⟩ => ⟨S256x1476, .f32⟩
  | .local _ .vmem, ⟨9, _⟩ => ⟨S256x1476, .f32⟩
  | .local _ .vmem, ⟨10, _⟩ => ⟨S256x1476, .f32⟩
  | .local _ .vmem, ⟨11, _⟩ => ⟨S256x1476, .f32⟩
  | .local _ .vmem, ⟨12, _⟩ => ⟨S256x1476, .f32⟩
  | .local _ .vmem, ⟨13, _⟩ => ⟨S256x1476, .f32⟩
  | _, _ => ⟨S2x1024x1476, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1476 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S2x1024x1476 : Shape := ⟨3, ![2, 1024, 1476]⟩
abbrev S_ : Shape := ⟨0, ![]⟩
abbrev S2048x1476 : Shape := ⟨2, ![2048, 1476]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1476, .f32⟩
  | .hbm, ⟨1, _⟩ => ⟨S2x1024x1476, .f32⟩
  | .hbm, ⟨2, _⟩ => ⟨S2x1024x1476, .f32⟩
  | .hbm, ⟨3, _⟩ => ⟨S2x1024x1476, .f32⟩
  | .hbm, ⟨4, _⟩ => ⟨S_, .f32⟩
  | .hbm, ⟨5, _⟩ => ⟨S2x1024x1476, .f32⟩
  | .hbm, ⟨6, _⟩ => ⟨S2x1024x1476, .f32⟩
  | .hbm, ⟨7, _⟩ => ⟨S_, .f32⟩
  | .hbm, ⟨8, _⟩ => ⟨S2x1024x1476, .f32⟩
  | .hbm, ⟨9, _⟩ => ⟨S2x1024x1476, .f32⟩
  | .hbm, ⟨10, _⟩ => ⟨S2x1024x1476, .f32⟩
  | .hbm, ⟨11, _⟩ => ⟨S_, .f32⟩
  | .hbm, ⟨12, _⟩ => ⟨S2x1024x1476, .f32⟩
  | .hbm, ⟨13, _⟩ => ⟨S2x1024x1476, .f32⟩
  | .hbm, ⟨14, _⟩ => ⟨S2x1024x1476, .f32⟩
  | .hbm, ⟨15, _⟩ => ⟨S_, .f32⟩
  | .hbm, ⟨16, _⟩ => ⟨S2x1024x1476, .f32⟩
  | .hbm, ⟨17, _⟩ => ⟨S2x1024x1476, .f32⟩
  | .hbm, ⟨18, _⟩ => ⟨S2x1024x1476, .f32⟩
  | .hbm, ⟨19, _⟩ => ⟨S_, .f32⟩
  | .hbm, ⟨20, _⟩ => ⟨S2x1024x1476, .f32⟩
  | .hbm, ⟨21, _⟩ => ⟨S2x1024x1476, .f32⟩
  | .hbm, ⟨22, _⟩ => ⟨S_, .f32⟩
  | .hbm, ⟨23, _⟩ => ⟨S2x1024x1476, .f32⟩
  | .hbm, ⟨24, _⟩ => ⟨S2x1024x1476, .f32⟩
  | .hbm, ⟨25, _⟩ => ⟨S2x1024x1476, .f32⟩
  | .hbm, ⟨26, _⟩ => ⟨S_, .f32⟩
  | .hbm, ⟨27, _⟩ => ⟨S2x1024x1476, .f32⟩
  | .hbm, ⟨28, _⟩ => ⟨S2x1024x1476, .f32⟩
  | .hbm, ⟨29, _⟩ => ⟨S2x1024x1476, .f32⟩
  | .hbm, ⟨30, _⟩ => ⟨S_, .f32⟩
  | .hbm, ⟨31, _⟩ => ⟨S2x1024x1476, .f32⟩
  | .hbm, ⟨32, _⟩ => ⟨S2x1024x1476, .f32⟩
  | .hbm, ⟨33, _⟩ => ⟨S2x1024x1476, .f32⟩
  | .hbm, ⟨34, _⟩ => ⟨S_, .f32⟩
  | .hbm, ⟨35, _⟩ => ⟨S2x1024x1476, .f32⟩
  | .hbm, ⟨36, _⟩ => ⟨S2x1024x1476, .f32⟩
  | .hbm, ⟨37, _⟩ => ⟨S2048x1476, .f32⟩
  | .hbm, ⟨38, _⟩ => ⟨S2048x1476, .f32⟩
  | .hbm, ⟨39, _⟩ => ⟨S2048x1476, .f32⟩
  | _, _ => ⟨S2x1024x1476, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5WGlu.lean ====
abbrev S2x128x512 : Shape := ⟨3, ![2, 128, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5WGluIdeal.lean ====
abbrev S2x128x512 : Shape := ⟨3, ![2, 128, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5WGluRefIdeal.lean ====
abbrev S2x128x512 : Shape := ⟨3, ![2, 128, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWBranch.lean ====
abbrev S2x4x512x256 : Shape := ⟨4, ![2, 4, 512, 256]⟩
abbrev S4096x256 : Shape := ⟨2, ![4096, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4x512x256, .f32⟩
  | .hbm, ⟨1, _⟩ => ⟨S2x4x512x256, .f32⟩
  | .hbm, ⟨2, _⟩ => ⟨S2x4x512x256, .f32⟩
  | .hbm, ⟨3, _⟩ => ⟨S2x4x512x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWBranchIdeal.lean ====
abbrev S2x4x512x256 : Shape := ⟨4, ![2, 4, 512, 256]⟩
abbrev S4096x256 : Shape := ⟨2, ![4096, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4x512x256, .f32⟩
  | .hbm, ⟨1, _⟩ => ⟨S2x4x512x256, .f32⟩
  | .hbm, ⟨2, _⟩ => ⟨S2x4x512x256, .f32⟩
  | .hbm, ⟨3, _⟩ => ⟨S2x4x512x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWBranchRefIdeal.lean ====
abbrev S2x4x512x256 : Shape := ⟨4, ![2, 4, 512, 256]⟩
abbrev S_ : Shape := ⟨0, ![]⟩
abbrev S4096x256 : Shape := ⟨2, ![4096, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x4x512x256, .f32⟩
  | .hbm, ⟨1, _⟩ => ⟨S2x4x512x256, .f32⟩
  | .hbm, ⟨2, _⟩ => ⟨S2x4x512x256, .f32⟩
  | .hbm, ⟨3, _⟩ => ⟨S2x4x512x256, .f32⟩
  | .hbm, ⟨4, _⟩ => ⟨S_, .f32⟩
  | .hbm, ⟨5, _⟩ => ⟨S2x4x512x256, .f32⟩
  | .hbm, ⟨6, _⟩ => ⟨S2x4x512x256, .f32⟩
  | .hbm, ⟨7, _⟩ => ⟨S_, .f32⟩
  | .hbm, ⟨8, _⟩ => ⟨S2x4x512x256, .f32⟩
  | .hbm, ⟨9, _⟩ => ⟨S2x4x512x256, .f32⟩
  | .hbm, ⟨10, _⟩ => ⟨S2x4x512x256, .f32⟩
  | .hbm, ⟨11, _⟩ => ⟨S_, .f32⟩
  | .hbm, ⟨12, _⟩ => ⟨S2x4x512x256, .f32⟩
  | .hbm, ⟨13, _⟩ => ⟨S2x4x512x256, .f32⟩
  | .hbm, ⟨14, _⟩ => ⟨S2x4x512x256, .f32⟩
  | .hbm, ⟨15, _⟩ => ⟨S_, .f32⟩
  | .hbm, ⟨16, _⟩ => ⟨S2x4x512x256, .f32⟩
  | .hbm, ⟨17, _⟩ => ⟨S2x4x512x256, .f32⟩
  | .hbm, ⟨18, _⟩ => ⟨S2x4x512x256, .f32⟩
  | .hbm, ⟨19, _⟩ => ⟨S_, .f32⟩
  | .hbm, ⟨20, _⟩ => ⟨S2x4x512x256, .f32⟩
  | .hbm, ⟨21, _⟩ => ⟨S2x4x512x256, .f32⟩
  | .hbm, ⟨22, _⟩ => ⟨S_, .f32⟩
  | .hbm, ⟨23, _⟩ => ⟨S2x4x512x256, .f32⟩
  | .hbm, ⟨24, _⟩ => ⟨S2x4x512x256, .f32⟩
  | .hbm, ⟨25, _⟩ => ⟨S2x4x512x256, .f32⟩
  | .hbm, ⟨26, _⟩ => ⟨S_, .f32⟩
  | .hbm, ⟨27, _⟩ => ⟨S2x4x512x256, .f32⟩
  | .hbm, ⟨28, _⟩ => ⟨S2x4x512x256, .f32⟩
  | .hbm, ⟨29, _⟩ => ⟨S2x4x512x256, .f32⟩
  | .hbm, ⟨30, _⟩ => ⟨S_, .f32⟩
  | .hbm, ⟨31, _⟩ => ⟨S2x4x512x256, .f32⟩
  | .hbm, ⟨32, _⟩ => ⟨S2x4x512x256, .f32⟩
  | .hbm, ⟨33, _⟩ => ⟨S2x4x512x256, .f32⟩
  | .hbm, ⟨34, _⟩ => ⟨S_, .f32⟩
  | .hbm, ⟨35, _⟩ => ⟨S2x4x512x256, .f32⟩
  | .hbm, ⟨36, _⟩ => ⟨S2x4x512x256, .f32⟩
  | .hbm, ⟨37, _⟩ => ⟨S4096x256, .f32⟩
  | .hbm, ⟨38, _⟩ => ⟨S4096x256, .f32⟩
  | .hbm, ⟨39, _⟩ => ⟨S4096x256, .f32⟩
  | _, _ => ⟨S2x4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWGate.lean ====
abbrev S2x4x256x1024 : Shape := ⟨4, ![2, 4, 256, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x4x256x1024, .f32⟩
  | .hbm, ⟨1, _⟩ => ⟨S2x4x256x1024, .f32⟩
  | .hbm, ⟨2, _⟩ => ⟨S2x4x256x1024, .f32⟩
  | .hbm, ⟨3, _⟩ => ⟨S2x4x256x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGateIdeal.lean ====
abbrev S2x4x256x1024 : Shape := ⟨4, ![2, 4, 256, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x4x256x1024, .f32⟩
  | .hbm, ⟨1, _⟩ => ⟨S2x4x256x1024, .f32⟩
  | .hbm, ⟨2, _⟩ => ⟨S2x4x256x1024, .f32⟩
  | .hbm, ⟨3, _⟩ => ⟨S2x4x256x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGateRefIdeal.lean ====
abbrev S2x4x256x1024 : Shape := ⟨4, ![2, 4, 256, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x4x256x1024, .f32⟩
  | .hbm, ⟨1, _⟩ => ⟨S2x4x256x1024, .f32⟩
  | .hbm, ⟨2, _⟩ => ⟨S2x4x256x1024, .f32⟩
  | .hbm, ⟨3, _⟩ => ⟨S2x4x256x1024, .f32⟩
  | .hbm, ⟨4, _⟩ => ⟨S_, .f32⟩
  | .hbm, ⟨5, _⟩ => ⟨S2x4x256x1024, .f32⟩
  | .hbm, ⟨6, _⟩ => ⟨S2x4x256x1024, .f32⟩
  | .hbm, ⟨7, _⟩ => ⟨S_, .f32⟩
  | .hbm, ⟨8, _⟩ => ⟨S2x4x256x1024, .f32⟩
  | .hbm, ⟨9, _⟩ => ⟨S2x4x256x1024, .f32⟩
  | .hbm, ⟨10, _⟩ => ⟨S2x4x256x1024, .f32⟩
  | .hbm, ⟨11, _⟩ => ⟨S_, .f32⟩
  | .hbm, ⟨12, _⟩ => ⟨S2x4x256x1024, .f32⟩
  | .hbm, ⟨13, _⟩ => ⟨S2x4x256x1024, .f32⟩
  | .hbm, ⟨14, _⟩ => ⟨S2x4x256x1024, .f32⟩
  | .hbm, ⟨15, _⟩ => ⟨S_, .f32⟩
  | .hbm, ⟨16, _⟩ => ⟨S2x4x256x1024, .f32⟩
  | .hbm, ⟨17, _⟩ => ⟨S2x4x256x1024, .f32⟩
  | .hbm, ⟨18, _⟩ => ⟨S2x4x256x1024, .f32⟩
  | .hbm, ⟨19, _⟩ => ⟨S_, .f32⟩
  | .hbm, ⟨20, _⟩ => ⟨S2x4x256x1024, .f32⟩
  | .hbm, ⟨21, _⟩ => ⟨S2x4x256x1024, .f32⟩
  | .hbm, ⟨22, _⟩ => ⟨S_, .f32⟩
  | .hbm, ⟨23, _⟩ => ⟨S2x4x256x1024, .f32⟩
  | .hbm, ⟨24, _⟩ => ⟨S2x4x256x1024, .f32⟩
  | .hbm, ⟨25, _⟩ => ⟨S2x4x256x1024, .f32⟩
  | .hbm, ⟨26, _⟩ => ⟨S_, .f32⟩
  | .hbm, ⟨27, _⟩ => ⟨S2x4x256x1024, .f32⟩
  | .hbm, ⟨28, _⟩ => ⟨S2x4x256x1024, .f32⟩
  | .hbm, ⟨29, _⟩ => ⟨S2x4x256x1024, .f32⟩
  | .hbm, ⟨30, _⟩ => ⟨S_, .f32⟩
  | .hbm, ⟨31, _⟩ => ⟨S2x4x256x1024, .f32⟩
  | .hbm, ⟨32, _⟩ => ⟨S2x4x256x1024, .f32⟩
  | .hbm, ⟨33, _⟩ => ⟨S2x4x256x1024, .f32⟩
  | .hbm, ⟨34, _⟩ => ⟨S_, .f32⟩
  | .hbm, ⟨35, _⟩ => ⟨S2x4x256x1024, .f32⟩
  | .hbm, ⟨36, _⟩ => ⟨S2x4x256x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S2x4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== ScanBwd.lean ====
abbrev S4352x512 : Shape := ⟨2, ![4352, 512]⟩
abbrev S256x512 : Shape := ⟨2, ![256, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_2 : BitVec 32 := 0#32
  let c128_i32 : BitVec 32 := 128#32
  let v4 : BitVec 32 := Scalar.addi c0_i32_2 c128_i32
  let c1_i32 : BitVec 32 := 1#32
  ⟨c0_i32_2, v4, c1_i32⟩
def k0_off1 (k0_t1 : Fin k0_t1_loop.trips) : Fin 2 → Nat :=
  let c255_i32 : BitVec 32 := 255#32
  let c2_i32 : BitVec 32 := 2#32
  let c0_i32_2 : BitVec 32 := 0#32
  let c1_i32 : BitVec 32 := 1#32
  let arg7 : BitVec 32 := Scf.iv c0_i32_2 c1_i32 k0_t1
  let v9 : BitVec 32 := Scalar.muli c2_i32 arg7
  let v10 : BitVec 32 := Scalar.subi c255_i32 v9
  let v14 : Index := Scalar.indexCast v10
  let c0_9 : Index := 0#32
  ![v14.toNat, 0]
def k0_off2 (k0_t1 : Fin k0_t1_loop.trips) : Fin 2 → Nat :=
  let c255_i32_8 : BitVec 32 := 255#32
  let c2_i32_6 : BitVec 32 := 2#32
  let c0_i32_2 : BitVec 32 := 0#32
  let c1_i32 : BitVec 32 := 1#32
  let arg7 : BitVec 32 := Scf.iv c0_i32_2 c1_i32 k0_t1
  let v11 : BitVec 32 := Scalar.muli c2_i32_6 arg7
  let c1_i32_7 : BitVec 32 := 1#32
  let v12 : BitVec 32 := Scalar.addi v11 c1_i32_7
  let v13 : BitVec 32 := Scalar.subi c255_i32_8 v12
  let v16 : Index := Scalar.indexCast v13
  let c0_10 : Index := 0#32
  ![v16.toNat, 0]
def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScanBwdRefIdeal.lean ====
abbrev S4352x512 : Shape := ⟨2, ![4352, 512]⟩
abbrev S_ : Shape := ⟨0, ![]⟩
abbrev S512 : Shape := ⟨1, ![512]⟩
abbrev S1x512 : Shape := ⟨2, ![1, 512]⟩

abbrev nBuf : Space → Nat
  | .hbm => 47
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S_, .f32⟩
  | .hbm, ⟨4, _⟩ => ⟨S4352x512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S4352x512, .f32⟩
  | .hbm, ⟨11, _⟩ => ⟨S_, .f32⟩
  | .hbm, ⟨12, _⟩ => ⟨S4352x512, .f32⟩
  | .hbm, ⟨13, _⟩ => ⟨S_, .i32⟩
  | .hbm, ⟨14, _⟩ => ⟨S4352x512, .f32⟩
  | .hbm, ⟨15, _⟩ => ⟨S4352x512, .f32⟩
  | .hbm, ⟨16, _⟩ => ⟨S4352x512, .f32⟩
  | .hbm, ⟨17, _⟩ => ⟨S_, .i32⟩
  | .hbm, ⟨18, _⟩ => ⟨S512, .f32⟩
  | .hbm, ⟨19, _⟩ => ⟨S4352x512, .f32⟩
  | .hbm, ⟨20, _⟩ => ⟨S4352x512, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x512, .f32⟩
  | .hbm, ⟨29, _⟩ => ⟨S512, .f32⟩
  | .hbm, ⟨30, _⟩ => ⟨S_, .i32⟩
  | .hbm, ⟨31, _⟩ => ⟨S1x512, .f32⟩
  | .hbm, ⟨32, _⟩ => ⟨S512, .f32⟩
  | .hbm, ⟨33, _⟩ => ⟨S_, .i32⟩
  | .hbm, ⟨34, _⟩ => ⟨S1x512, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S_, .i32⟩
  | .hbm, ⟨41, _⟩ => ⟨S4352x512, .f32⟩
  | .hbm, ⟨42, _⟩ => ⟨S1x512, .f32⟩
  | .hbm, ⟨43, _⟩ => ⟨S_, .i32⟩
  | .hbm, ⟨44, _⟩ => ⟨S4352x512, .f32⟩
  | .hbm, ⟨45, _⟩ => ⟨S_, .i32⟩
  | .hbm, ⟨46, _⟩ => ⟨S_, .i32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_while0c_c_10 : Ref sig .tc := ⟨.hbm, 21, rfl⟩
abbrev main_while0c_v6 : Ref sig .tc := ⟨.hbm, 22, rfl⟩
abbrev main_while0b_c_10 : Ref sig .tc := ⟨.hbm, 23, rfl⟩
abbrev main_while0b_v6 : Ref sig .tc := ⟨.hbm, 24, rfl⟩
abbrev main_while0b_c_11 : Ref sig .tc := ⟨.hbm, 25, rfl⟩
abbrev main_while0b_v7 : Ref sig .tc := ⟨.hbm, 26, rfl⟩
abbrev main_while0b_call0_c : Ref sig .tc := ⟨.hbm, 27, rfl⟩
abbrev main_while0b_call0_v0 : Ref sig .tc := ⟨.hbm, 28, rfl⟩
abbrev main_while0b_v8 : Ref sig .tc := ⟨.hbm, 29, rfl⟩
abbrev main_while0b_call1_c : Ref sig .tc := ⟨.hbm, 30, rfl⟩
abbrev main_while0b_call1_v0 : Ref sig .tc := ⟨.hbm, 31, rfl⟩
abbrev main_while0b_v9 : Ref sig .tc := ⟨.hbm, 32, rfl⟩
abbrev main_while0b_call2_c : Ref sig .tc := ⟨.hbm, 33, rfl⟩
abbrev main_while0b_call2_v0 : Ref sig .tc := ⟨.hbm, 34, rfl⟩
abbrev main_while0b_v10 : Ref sig .tc := ⟨.hbm, 35, rfl⟩
abbrev main_while0b_v11 : Ref sig .tc := ⟨.hbm, 36, rfl⟩
abbrev main_while0b_v12 : Ref sig .tc := ⟨.hbm, 37, rfl⟩
abbrev main_while0b_v13 : Ref sig .tc := ⟨.hbm, 38, rfl⟩
abbrev main_while0b_call3_v0 : Ref sig .tc := ⟨.hbm, 39, rfl⟩
abbrev main_while0b_call3_c : Ref sig .tc := ⟨.hbm, 40, rfl⟩
abbrev main_while0b_v14 : Ref sig .tc := ⟨.hbm, 41, rfl⟩
abbrev main_while0b_call4_v0 : Ref sig .tc := ⟨.hbm, 42, rfl⟩
abbrev main_while0b_call4_c : Ref sig .tc := ⟨.hbm, 43, rfl⟩
abbrev main_while0b_v15 : Ref sig .tc := ⟨.hbm, 44, rfl⟩
abbrev main_while0b_c_12 : Ref sig .tc := ⟨.hbm, 45, rfl⟩
abbrev main_while0b_v16 : Ref sig .tc := ⟨.hbm, 46, rfl⟩

abbrev nD : Nat := 1
abbrev τ : Topo := Topo.v7x

variable {F : FTy → Type} [FloatOps F]

abbrev main_while0_count : Scf.Loop 32 := ⟨0#32, 4352#32, 1#32⟩
-- ==== AdamSmall.lean ====
abbrev S640x1024 : Shape := ⟨2, ![640, 1024]⟩
abbrev S160x1024 : Shape := ⟨2, ![160, 1024]⟩
abbrev S1x1024 : Shape := ⟨2, ![1, 1024]⟩
abbrev S1024 : Shape := ⟨1, ![1024]⟩
abbrev S768 : Shape := ⟨1, ![768]⟩
abbrev S3x2x128 : Shape := ⟨3, ![3, 2, 128]⟩
abbrev S2x4x128 : Shape := ⟨3, ![2, 4, 128]⟩
abbrev S512 : Shape := ⟨1, ![512]⟩
abbrev S2x2x128 : Shape := ⟨3, ![2, 2, 128]⟩
abbrev S2x1024 : Shape := ⟨2, ![2, 1024]⟩
abbrev S2048 : Shape := ⟨1, ![2048]⟩
abbrev S1536 : Shape := ⟨1, ![1536]⟩
abbrev S2x4x192 : Shape := ⟨3, ![2, 4, 192]⟩
abbrev S2x4x256 : Shape := ⟨3, ![2, 4, 256]⟩
abbrev S6x1024 : Shape := ⟨2, ![6, 1024]⟩
abbrev S6144 : Shape := ⟨1, ![6144]⟩
abbrev S2x3072 : Shape := ⟨2, ![2, 3072]⟩
abbrev S2x512 : Shape := ⟨2, ![2, 512]⟩
abbrev S8x1024 : Shape := ⟨2, ![8, 1024]⟩
abbrev S8192 : Shape := ⟨1, ![8192]⟩
abbrev S2x2x32x64 : Shape := ⟨4, ![2, 2, 32, 64]⟩
abbrev S128 : Shape := ⟨1, ![128]⟩
abbrev S2x2x32 : Shape := ⟨3, ![2, 2, 32]⟩
abbrev S64x1024 : Shape := ⟨2, ![64, 1024]⟩
abbrev S65536 : Shape := ⟨1, ![65536]⟩
abbrev S2x32x64x16 : Shape := ⟨4, ![2, 32, 64, 16]⟩
abbrev S2x32x16x64 : Shape := ⟨4, ![2, 32, 16, 64]⟩
abbrev S256x1024 : Shape := ⟨2, ![256, 1024]⟩
abbrev S262144 : Shape := ⟨1, ![262144]⟩
abbrev S2x2x2x8x64x64 : Shape := ⟨6, ![2, 2, 2, 8, 64, 64]⟩
abbrev S4x1024 : Shape := ⟨2, ![4, 1024]⟩
abbrev S4096 : Shape := ⟨1, ![4096]⟩
abbrev S2x2x2x8x64 : Shape := ⟨5, ![2, 2, 2, 8, 64]⟩
abbrev S2x768 : Shape := ⟨2, ![2, 768]⟩
abbrev S32 : Shape := ⟨1, ![32]⟩
abbrev S2x2x8 : Shape := ⟨3, ![2, 2, 8]⟩
abbrev S16 : Shape := ⟨1, ![16]⟩
abbrev S2x8 : Shape := ⟨2, ![2, 8]⟩

abbrev nBuf : Space → Nat
  | .hbm => 349
  | .vmem => 14
  | .smem => 0
  | _ => 0

abbrev hbmTy0_0 (i : Nat) : BufTy := match i % 128 with
  | 0 => ⟨S640x1024, .f32⟩
  | 1 => ⟨S640x1024, .f32⟩
  | 2 => ⟨S640x1024, .f32⟩
  | 3 => ⟨S640x1024, .f32⟩
  | 4 => ⟨S640x1024, .f32⟩
  | 5 => ⟨S640x1024, .f32⟩
  | 6 => ⟨S640x1024, .f32⟩
  | 7 => ⟨S1x1024, .f32⟩
  | 8 => ⟨S1x1024, .f32⟩
  | 9 => ⟨S1024, .f32⟩
  | 10 => ⟨S768, .f32⟩
  | 11 => ⟨S3x2x128, .f32⟩
  | 12 => ⟨S1x1024, .f32⟩
  | 13 => ⟨S1x1024, .f32⟩
  | 14 => ⟨S1024, .f32⟩
  | 15 => ⟨S2x4x128, .f32⟩
  | 16 => ⟨S1x1024, .f32⟩
  | 17 => ⟨S1x1024, .f32⟩
  | 18 => ⟨S1024, .f32⟩
  | 19 => ⟨S512, .f32⟩
  | 20 => ⟨S2x2x128, .f32⟩
  | 21 => ⟨S2x1024, .f32⟩
  | 22 => ⟨S2x1024, .f32⟩
  | 23 => ⟨S2048, .f32⟩
  | 24 => ⟨S1536, .f32⟩
  | 25 => ⟨S2x4x192, .f32⟩
  | 26 => ⟨S2x1024, .f32⟩
  | 27 => ⟨S2x1024, .f32⟩
  | 28 => ⟨S2048, .f32⟩
  | 29 => ⟨S2x4x256, .f32⟩
  | 30 => ⟨S1x1024, .f32⟩
  | 31 => ⟨S1x1024, .f32⟩
  | 32 => ⟨S1024, .f32⟩
  | 33 => ⟨S2x1024, .f32⟩
  | 34 => ⟨S2x1024, .f32⟩
  | 35 => ⟨S2048, .f32⟩
  | 36 => ⟨S2x1024, .f32⟩
  | 37 => ⟨S6x1024, .f32⟩
  | 38 => ⟨S6x1024, .f32⟩
  | 39 => ⟨S6144, .f32⟩
  | 40 => ⟨S2x3072, .f32⟩
  | 41 => ⟨S1x1024, .f32⟩
  | 42 => ⟨S1x1024, .f32⟩
  | 43 => ⟨S1024, .f32⟩
  | 44 => ⟨S2x512, .f32⟩
  | 45 => ⟨S8x1024, .f32⟩
  | 46 => ⟨S8x1024, .f32⟩
  | 47 => ⟨S8192, .f32⟩
  | 48 => ⟨S2x2x32x64, .f32⟩
  | 49 => ⟨S8x1024, .f32⟩
  | 50 => ⟨S8x1024, .f32⟩
  | 51 => ⟨S8192, .f32⟩
  | 52 => ⟨S2x2x32x64, .f32⟩
  | 53 => ⟨S1x1024, .f32⟩
  | 54 => ⟨S1x1024, .f32⟩
  | 55 => ⟨S1024, .f32⟩
  | 56 => ⟨S128, .f32⟩
  | 57 => ⟨S2x2x32, .f32⟩
  | 58 => ⟨S64x1024, .f32⟩
  | 59 => ⟨S64x1024, .f32⟩
  | 60 => ⟨S65536, .f32⟩
  | 61 => ⟨S2x32x64x16, .f32⟩
  | 62 => ⟨S64x1024, .f32⟩
  | 63 => ⟨S64x1024, .f32⟩
  | 64 => ⟨S65536, .f32⟩
  | 65 => ⟨S2x32x64x16, .f32⟩
  | 66 => ⟨S64x1024, .f32⟩
  | 67 => ⟨S64x1024, .f32⟩
  | 68 => ⟨S65536, .f32⟩
  | 69 => ⟨S2x32x16x64, .f32⟩
  | 70 => ⟨S64x1024, .f32⟩
  | 71 => ⟨S64x1024, .f32⟩
  | 72 => ⟨S65536, .f32⟩
  | 73 => ⟨S2x32x16x64, .f32⟩
  | 74 => ⟨S1x1024, .f32⟩
  | 75 => ⟨S1x1024, .f32⟩
  | 76 => ⟨S1024, .f32⟩
  | 77 => ⟨S2x512, .f32⟩
  | 78 => ⟨S1x1024, .f32⟩
  | 79 => ⟨S1x1024, .f32⟩
  | 80 => ⟨S1024, .f32⟩
  | 81 => ⟨S2x512, .f32⟩
  | 82 => ⟨S1x1024, .f32⟩
  | 83 => ⟨S1x1024, .f32⟩
  | 84 => ⟨S1024, .f32⟩
  | 85 => ⟨S2x512, .f32⟩
  | 86 => ⟨S256x1024, .f32⟩
  | 87 => ⟨S256x1024, .f32⟩
  | 88 => ⟨S262144, .f32⟩
  | 89 => ⟨S2x2x2x8x64x64, .f32⟩
  | 90 => ⟨S4x1024, .f32⟩
  | 91 => ⟨S4x1024, .f32⟩
  | 92 => ⟨S4096, .f32⟩
  | 93 => ⟨S2x2x2x8x64, .f32⟩
  | 94 => ⟨S2x1024, .f32⟩
  | 95 => ⟨S2x1024, .f32⟩
  | 96 => ⟨S2048, .f32⟩
  | 97 => ⟨S1536, .f32⟩
  | 98 => ⟨S2x768, .f32⟩
  | 99 => ⟨S1x1024, .f32⟩
  | 100 => ⟨S1x1024, .f32⟩
  | 101 => ⟨S1024, .f32⟩
  | 102 => ⟨S32, .f32⟩
  | 103 => ⟨S2x2x8, .f32⟩
  | 104 => ⟨S1x1024, .f32⟩
  | 105 => ⟨S1x1024, .f32⟩
  | 106 => ⟨S1024, .f32⟩
  | 107 => ⟨S32, .f32⟩
  | 108 => ⟨S2x2x8, .f32⟩
  | 109 => ⟨S1x1024, .f32⟩
  | 110 => ⟨S1x1024, .f32⟩
  | 111 => ⟨S1024, .f32⟩
  | 112 => ⟨S16, .f32⟩
  | 113 => ⟨S2x8, .f32⟩
  | 114 => ⟨S1x1024, .f32⟩
  | 115 => ⟨S1x1024, .f32⟩
  | 116 => ⟨S1024, .f32⟩
  | 117 => ⟨S2x512, .f32⟩
  | 118 => ⟨S1x1024, .f32⟩
  | 119 => ⟨S1x1024, .f32⟩
  | 120 => ⟨S1024, .f32⟩
  | 121 => ⟨S1x1024, .f32⟩
  | 122 => ⟨S1x1024, .f32⟩
  | 123 => ⟨S1024, .f32⟩
  | 124 => ⟨S768, .f32⟩
  | 125 => ⟨S3x2x128, .f32⟩
  | 126 => ⟨S1x1024, .f32⟩
  | 127 => ⟨S1x1024, .f32⟩
  | _ => ⟨S640x1024, .f32⟩

abbrev hbmTy0_1 (i : Nat) : BufTy := match i % 128 with
  | 0 => ⟨S1024, .f32⟩
  | 1 => ⟨S2x4x128, .f32⟩
  | 2 => ⟨S1x1024, .f32⟩
  | 3 => ⟨S1x1024, .f32⟩
  | 4 => ⟨S1024, .f32⟩
  | 5 => ⟨S512, .f32⟩
  | 6 => ⟨S2x2x128, .f32⟩
  | 7 => ⟨S2x1024, .f32⟩
  | 8 => ⟨S2x1024, .f32⟩
  | 9 => ⟨S2048, .f32⟩
  | 10 => ⟨S1536, .f32⟩
  | 11 => ⟨S2x4x192, .f32⟩
  | 12 => ⟨S2x1024, .f32⟩
  | 13 => ⟨S2x1024, .f32⟩
  | 14 => ⟨S2048, .f32⟩
  | 15 => ⟨S2x4x256, .f32⟩
  | 16 => ⟨S1x1024, .f32⟩
  | 17 => ⟨S1x1024, .f32⟩
  | 18 => ⟨S1024, .f32⟩
  | 19 => ⟨S2x1024, .f32⟩
  | 20 => ⟨S2x1024, .f32⟩
  | 21 => ⟨S2048, .f32⟩
  | 22 => ⟨S2x1024, .f32⟩
  | 23 => ⟨S6x1024, .f32⟩
  | 24 => ⟨S6x1024, .f32⟩
  | 25 => ⟨S6144, .f32⟩
  | 26 => ⟨S2x3072, .f32⟩
  | 27 => ⟨S1x1024, .f32⟩
  | 28 => ⟨S1x1024, .f32⟩
  | 29 => ⟨S1024, .f32⟩
  | 30 => ⟨S2x512, .f32⟩
  | 31 => ⟨S8x1024, .f32⟩
  | 32 => ⟨S8x1024, .f32⟩
  | 33 => ⟨S8192, .f32⟩
  | 34 => ⟨S2x2x32x64, .f32⟩
  | 35 => ⟨S8x1024, .f32⟩
  | 36 => ⟨S8x1024, .f32⟩
  | 37 => ⟨S8192, .f32⟩
  | 38 => ⟨S2x2x32x64, .f32⟩
  | 39 => ⟨S1x1024, .f32⟩
  | 40 => ⟨S1x1024, .f32⟩
  | 41 => ⟨S1024, .f32⟩
  | 42 => ⟨S128, .f32⟩
  | 43 => ⟨S2x2x32, .f32⟩
  | 44 => ⟨S64x1024, .f32⟩
  | 45 => ⟨S64x1024, .f32⟩
  | 46 => ⟨S65536, .f32⟩
  | 47 => ⟨S2x32x64x16, .f32⟩
  | 48 => ⟨S64x1024, .f32⟩
  | 49 => ⟨S64x1024, .f32⟩
  | 50 => ⟨S65536, .f32⟩
  | 51 => ⟨S2x32x64x16, .f32⟩
  | 52 => ⟨S64x1024, .f32⟩
  | 53 => ⟨S64x1024, .f32⟩
  | 54 => ⟨S65536, .f32⟩
  | 55 => ⟨S2x32x16x64, .f32⟩
  | 56 => ⟨S64x1024, .f32⟩
  | 57 => ⟨S64x1024, .f32⟩
  | 58 => ⟨S65536, .f32⟩
  | 59 => ⟨S2x32x16x64, .f32⟩
  | 60 => ⟨S1x1024, .f32⟩
  | 61 => ⟨S1x1024, .f32⟩
  | 62 => ⟨S1024, .f32⟩
  | 63 => ⟨S2x512, .f32⟩
  | 64 => ⟨S1x1024, .f32⟩
  | 65 => ⟨S1x1024, .f32⟩
  | 66 => ⟨S1024, .f32⟩
  | 67 => ⟨S2x512, .f32⟩
  | 68 => ⟨S1x1024, .f32⟩
  | 69 => ⟨S1x1024, .f32⟩
  | 70 => ⟨S1024, .f32⟩
  | 71 => ⟨S2x512, .f32⟩
  | 72 => ⟨S256x1024, .f32⟩
  | 73 => ⟨S256x1024, .f32⟩
  | 74 => ⟨S262144, .f32⟩
  | 75 => ⟨S2x2x2x8x64x64, .f32⟩
  | 76 => ⟨S4x1024, .f32⟩
  | 77 => ⟨S4x1024, .f32⟩
  | 78 => ⟨S4096, .f32⟩
  | 79 => ⟨S2x2x2x8x64, .f32⟩
  | 80 => ⟨S2x1024, .f32⟩
  | 81 => ⟨S2x1024, .f32⟩
  | 82 => ⟨S2048, .f32⟩
  | 83 => ⟨S1536, .f32⟩
  | 84 => ⟨S2x768, .f32⟩
  | 85 => ⟨S1x1024, .f32⟩
  | 86 => ⟨S1x1024, .f32⟩
  | 87 => ⟨S1024, .f32⟩
  | 88 => ⟨S32, .f32⟩
  | 89 => ⟨S2x2x8, .f32⟩
  | 90 => ⟨S1x1024, .f32⟩
  | 91 => ⟨S1x1024, .f32⟩
  | 92 => ⟨S1024, .f32⟩
  | 93 => ⟨S32, .f32⟩
  | 94 => ⟨S2x2x8, .f32⟩
  | 95 => ⟨S1x1024, .f32⟩
  | 96 => ⟨S1x1024, .f32⟩
  | 97 => ⟨S1024, .f32⟩
  | 98 => ⟨S16, .f32⟩
  | 99 => ⟨S2x8, .f32⟩
  | 100 => ⟨S1x1024, .f32⟩
  | 101 => ⟨S1x1024, .f32⟩
  | 102 => ⟨S1024, .f32⟩
  | 103 => ⟨S2x512, .f32⟩
  | 104 => ⟨S1x1024, .f32⟩
  | 105 => ⟨S1x1024, .f32⟩
  | 106 => ⟨S1024, .f32⟩
  | 107 => ⟨S1x1024, .f32⟩
  | 108 => ⟨S1x1024, .f32⟩
  | 109 => ⟨S1024, .f32⟩
  | 110 => ⟨S768, .f32⟩
  | 111 => ⟨S3x2x128, .f32⟩
  | 112 => ⟨S1x1024, .f32⟩
  | 113 => ⟨S1x1024, .f32⟩
  | 114 => ⟨S1024, .f32⟩
  | 115 => ⟨S2x4x128, .f32⟩
  | 116 => ⟨S1x1024, .f32⟩
  | 117 => ⟨S1x1024, .f32⟩
  | 118 => ⟨S1024, .f32⟩
  | 119 => ⟨S512, .f32⟩
  | 120 => ⟨S2x2x128, .f32⟩
  | 121 => ⟨S2x1024, .f32⟩
  | 122 => ⟨S2x1024, .f32⟩
  | 123 => ⟨S2048, .f32⟩
  | 124 => ⟨S1536, .f32⟩
  | 125 => ⟨S2x4x192, .f32⟩
  | 126 => ⟨S2x1024, .f32⟩
  | 127 => ⟨S2x1024, .f32⟩
  | _ => ⟨S640x1024, .f32⟩

abbrev hbmTy0_2 (i : Nat) : BufTy := match i % 128 with
  | 0 => ⟨S2048, .f32⟩
  | 1 => ⟨S2x4x256, .f32⟩
  | 2 => ⟨S1x1024, .f32⟩
  | 3 => ⟨S1x1024, .f32⟩
  | 4 => ⟨S1024, .f32⟩
  | 5 => ⟨S2x1024, .f32⟩
  | 6 => ⟨S2x1024, .f32⟩
  | 7 => ⟨S2048, .f32⟩
  | 8 => ⟨S2x1024, .f32⟩
  | 9 => ⟨S6x1024, .f32⟩
  | 10 => ⟨S6x1024, .f32⟩
  | 11 => ⟨S6144, .f32⟩
  | 12 => ⟨S2x3072, .f32⟩
  | 13 => ⟨S1x1024, .f32⟩
  | 14 => ⟨S1x1024, .f32⟩
  | 15 => ⟨S1024, .f32⟩
  | 16 => ⟨S2x512, .f32⟩
  | 17 => ⟨S8x1024, .f32⟩
  | 18 => ⟨S8x1024, .f32⟩
  | 19 => ⟨S8192, .f32⟩
  | 20 => ⟨S2x2x32x64, .f32⟩
  | 21 => ⟨S8x1024, .f32⟩
  | 22 => ⟨S8x1024, .f32⟩
  | 23 => ⟨S8192, .f32⟩
  | 24 => ⟨S2x2x32x64, .f32⟩
  | 25 => ⟨S1x1024, .f32⟩
  | 26 => ⟨S1x1024, .f32⟩
  | 27 => ⟨S1024, .f32⟩
  | 28 => ⟨S128, .f32⟩
  | 29 => ⟨S2x2x32, .f32⟩
  | 30 => ⟨S64x1024, .f32⟩
  | 31 => ⟨S64x1024, .f32⟩
  | 32 => ⟨S65536, .f32⟩
  | 33 => ⟨S2x32x64x16, .f32⟩
  | 34 => ⟨S64x1024, .f32⟩
  | 35 => ⟨S64x1024, .f32⟩
  | 36 => ⟨S65536, .f32⟩
  | 37 => ⟨S2x32x64x16, .f32⟩
  | 38 => ⟨S64x1024, .f32⟩
  | 39 => ⟨S64x1024, .f32⟩
  | 40 => ⟨S65536, .f32⟩
  | 41 => ⟨S2x32x16x64, .f32⟩
  | 42 => ⟨S64x1024, .f32⟩
  | 43 => ⟨S64x1024, .f32⟩
  | 44 => ⟨S65536, .f32⟩
  | 45 => ⟨S2x32x16x64, .f32⟩
  | 46 => ⟨S1x1024, .f32⟩
  | 47 => ⟨S1x1024, .f32⟩
  | 48 => ⟨S1024, .f32⟩
  | 49 => ⟨S2x512, .f32⟩
  | 50 => ⟨S1x1024, .f32⟩
  | 51 => ⟨S1x1024, .f32⟩
  | 52 => ⟨S1024, .f32⟩
  | 53 => ⟨S2x512, .f32⟩
  | 54 => ⟨S1x1024, .f32⟩
  | 55 => ⟨S1x1024, .f32⟩
  | 56 => ⟨S1024, .f32⟩
  | 57 => ⟨S2x512, .f32⟩
  | 58 => ⟨S256x1024, .f32⟩
  | 59 => ⟨S256x1024, .f32⟩
  | 60 => ⟨S262144, .f32⟩
  | 61 => ⟨S2x2x2x8x64x64, .f32⟩
  | 62 => ⟨S4x1024, .f32⟩
  | 63 => ⟨S4x1024, .f32⟩
  | 64 => ⟨S4096, .f32⟩
  | 65 => ⟨S2x2x2x8x64, .f32⟩
  | 66 => ⟨S2x1024, .f32⟩
  | 67 => ⟨S2x1024, .f32⟩
  | 68 => ⟨S2048, .f32⟩
  | 69 => ⟨S1536, .f32⟩
  | 70 => ⟨S2x768, .f32⟩
  | 71 => ⟨S1x1024, .f32⟩
  | 72 => ⟨S1x1024, .f32⟩
  | 73 => ⟨S1024, .f32⟩
  | 74 => ⟨S32, .f32⟩
  | 75 => ⟨S2x2x8, .f32⟩
  | 76 => ⟨S1x1024, .f32⟩
  | 77 => ⟨S1x1024, .f32⟩
  | 78 => ⟨S1024, .f32⟩
  | 79 => ⟨S32, .f32⟩
  | 80 => ⟨S2x2x8, .f32⟩
  | 81 => ⟨S1x1024, .f32⟩
  | 82 => ⟨S1x1024, .f32⟩
  | 83 => ⟨S1024, .f32⟩
  | 84 => ⟨S16, .f32⟩
  | 85 => ⟨S2x8, .f32⟩
  | 86 => ⟨S1x1024, .f32⟩
  | 87 => ⟨S1x1024, .f32⟩
  | 88 => ⟨S1024, .f32⟩
  | 89 => ⟨S2x512, .f32⟩
  | 90 => ⟨S1x1024, .f32⟩
  | 91 => ⟨S1x1024, .f32⟩
  | 92 => ⟨S1024, .f32⟩
  | _ => ⟨S640x1024, .f32⟩

abbrev hbmTy (i : Nat) : BufTy := match i / 128 with
  | 0 => hbmTy0_0 i
  | 1 => hbmTy0_1 i
  | 2 => hbmTy0_2 i
  | _ => ⟨S640x1024, .f32⟩

abbrev bufTy : (tb : Table) → Fin (tcTables nBuf tb) → BufTy
  | .hbm, ⟨i, _⟩ => hbmTy i
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278 : Ref sig .tc := ⟨.hbm, 284, rfl⟩
abbrev main_v279 : Ref sig .tc := ⟨.hbm, 285, rfl⟩
abbrev main_v280 : Ref sig .tc := ⟨.hbm, 286, rfl⟩
abbrev main_v281 : Ref sig .tc := ⟨.hbm, 287, rfl⟩
abbrev main_v282 : Ref sig .tc := ⟨.hbm, 288, rfl⟩
abbrev main_v283 : Ref sig .tc := ⟨.hbm, 289, rfl⟩
abbrev main_v284 : Ref sig .tc := ⟨.hbm, 290, rfl⟩
abbrev main_v285 : Ref sig .tc := ⟨.hbm, 291, rfl⟩
abbrev main_v286 : Ref sig .tc := ⟨.hbm, 292, rfl⟩
abbrev main_v287 : Ref sig .tc := ⟨.hbm, 293, rfl⟩
abbrev main_v288 : Ref sig .tc := ⟨.hbm, 294, rfl⟩
abbrev main_v289 : Ref sig .tc := ⟨.hbm, 295, rfl⟩
abbrev main_v290 : Ref sig .tc := ⟨.hbm, 296, rfl⟩
abbrev main_v291 : Ref sig .tc := ⟨.hbm, 297, rfl⟩
abbrev main_v292 : Ref sig .tc := ⟨.hbm, 298, rfl⟩
abbrev main_v293 : Ref sig .tc := ⟨.hbm, 299, rfl⟩
abbrev main_v294 : Ref sig .tc := ⟨.hbm, 300, rfl⟩
abbrev main_v295 : Ref sig .tc := ⟨.hbm, 301, rfl⟩
abbrev main_v296 : Ref sig .tc := ⟨.hbm, 302, rfl⟩
abbrev main_v297 : Ref sig .tc := ⟨.hbm, 303, rfl⟩
abbrev main_v298 : Ref sig .tc := ⟨.hbm, 304, rfl⟩
abbrev main_v299 : Ref sig .tc := ⟨.hbm, 305, rfl⟩
abbrev main_v300 : Ref sig .tc := ⟨.hbm, 306, rfl⟩
abbrev main_v301 : Ref sig .tc := ⟨.hbm, 307, rfl⟩
abbrev main_v302 : Ref sig .tc := ⟨.hbm, 308, rfl⟩
abbrev main_v303 : Ref sig .tc := ⟨.hbm, 309, rfl⟩
abbrev main_v304 : Ref sig .tc := ⟨.hbm, 310, rfl⟩
abbrev main_v305 : Ref sig .tc := ⟨.hbm, 311, rfl⟩
abbrev main_v306 : Ref sig .tc := ⟨.hbm, 312, rfl⟩
abbrev main_v307 : Ref sig .tc := ⟨.hbm, 313, rfl⟩
abbrev main_v308 : Ref sig .tc := ⟨.hbm, 314, rfl⟩
abbrev main_v309 : Ref sig .tc := ⟨.hbm, 315, rfl⟩
abbrev main_v310 : Ref sig .tc := ⟨.hbm, 316, rfl⟩
abbrev main_v311 : Ref sig .tc := ⟨.hbm, 317, rfl⟩
abbrev main_v312 : Ref sig .tc := ⟨.hbm, 318, rfl⟩
abbrev main_v313 : Ref sig .tc := ⟨.hbm, 319, rfl⟩
abbrev main_v314 : Ref sig .tc := ⟨.hbm, 320, rfl⟩
abbrev main_v315 : Ref sig .tc := ⟨.hbm, 321, rfl⟩
abbrev main_v316 : Ref sig .tc := ⟨.hbm, 322, rfl⟩
abbrev main_v317 : Ref sig .tc := ⟨.hbm, 323, rfl⟩
abbrev main_v318 : Ref sig .tc := ⟨.hbm, 324, rfl⟩
abbrev main_v319 : Ref sig .tc := ⟨.hbm, 325, rfl⟩
abbrev main_v320 : Ref sig .tc := ⟨.hbm, 326, rfl⟩
abbrev main_v321 : Ref sig .tc := ⟨.hbm, 327, rfl⟩
abbrev main_v322 : Ref sig .tc := ⟨.hbm, 328, rfl⟩
abbrev main_v323 : Ref sig .tc := ⟨.hbm, 329, rfl⟩
abbrev main_v324 : Ref sig .tc := ⟨.hbm, 330, rfl⟩
abbrev main_v325 : Ref sig .tc := ⟨.hbm, 331, rfl⟩
abbrev main_v326 : Ref sig .tc := ⟨.hbm, 332, rfl⟩
abbrev main_v327 : Ref sig .tc := ⟨.hbm, 333, rfl⟩
abbrev main_v328 : Ref sig .tc := ⟨.hbm, 334, rfl⟩
abbrev main_v329 : Ref sig .tc := ⟨.hbm, 335, rfl⟩
abbrev main_v330 : Ref sig .tc := ⟨.hbm, 336, rfl⟩
abbrev main_v331 : Ref sig .tc := ⟨.hbm, 337, rfl⟩
abbrev main_v332 : Ref sig .tc := ⟨.hbm, 338, rfl⟩
abbrev main_v333 : Ref sig .tc := ⟨.hbm, 339, rfl⟩
abbrev main_v334 : Ref sig .tc := ⟨.hbm, 340, rfl⟩
abbrev main_v335 : Ref sig .tc := ⟨.hbm, 341, rfl⟩
abbrev main_v336 : Ref sig .tc := ⟨.hbm, 342, rfl⟩
abbrev main_v337 : Ref sig .tc := ⟨.hbm, 343, rfl⟩
abbrev main_v338 : Ref sig .tc := ⟨.hbm, 344, rfl⟩
abbrev main_v339 : Ref sig .tc := ⟨.hbm, 345, rfl⟩
abbrev main_v340 : Ref sig .tc := ⟨.hbm, 346, rfl⟩
abbrev main_v341 : Ref sig .tc := ⟨.hbm, 347, rfl⟩
abbrev main_v342 : Ref sig .tc := ⟨.hbm, 348, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S640x1024 : Shape := ⟨2, ![640, 1024]⟩
abbrev S_ : Shape := ⟨0, ![]⟩
abbrev S655360 : Shape := ⟨1, ![655360]⟩
abbrev S768 : Shape := ⟨1, ![768]⟩
abbrev S3x2x128 : Shape := ⟨3, ![3, 2, 128]⟩
abbrev S1024 : Shape := ⟨1, ![1024]⟩
abbrev S2x4x128 : Shape := ⟨3, ![2, 4, 128]⟩
abbrev S512 : Shape := ⟨1, ![512]⟩
abbrev S2x2x128 : Shape := ⟨3, ![2, 2, 128]⟩
abbrev S1536 : Shape := ⟨1, ![1536]⟩
abbrev S2x4x192 : Shape := ⟨3, ![2, 4, 192]⟩
abbrev S2048 : Shape := ⟨1, ![2048]⟩
abbrev S2x4x256 : Shape := ⟨3, ![2, 4, 256]⟩
abbrev S2x1024 : Shape := ⟨2, ![2, 1024]⟩
abbrev S6144 : Shape := ⟨1, ![6144]⟩
abbrev S2x3072 : Shape := ⟨2, ![2, 3072]⟩
abbrev S2x512 : Shape := ⟨2, ![2, 512]⟩
abbrev S8192 : Shape := ⟨1, ![8192]⟩
abbrev S2x2x32x64 : Shape := ⟨4, ![2, 2, 32, 64]⟩
abbrev S128 : Shape := ⟨1, ![128]⟩
abbrev S2x2x32 : Shape := ⟨3, ![2, 2, 32]⟩
abbrev S65536 : Shape := ⟨1, ![65536]⟩
abbrev S2x32x64x16 : Shape := ⟨4, ![2, 32, 64, 16]⟩
abbrev S2x32x16x64 : Shape := ⟨4, ![2, 32, 16, 64]⟩
abbrev S262144 : Shape := ⟨1, ![262144]⟩
abbrev S2x2x2x8x64x64 : Shape := ⟨6, ![2, 2, 2, 8, 64, 64]⟩
abbrev S4096 : Shape := ⟨1, ![4096]⟩
abbrev S2x2x2x8x64 : Shape := ⟨5, ![2, 2, 2, 8, 64]⟩
abbrev S2x768 : Shape := ⟨2, ![2, 768]⟩
abbrev S32 : Shape := ⟨1, ![32]⟩
abbrev S2x2x8 : Shape := ⟨3, ![2, 2, 8]⟩
abbrev S16 : Shape := ⟨1, ![16]⟩
abbrev S2x8 : Shape := ⟨2, ![2, 8]⟩

abbrev nBuf : Space → Nat
  | .hbm => 196
  | .vmem => 0
  | .smem => 0
  | _ => 0

abbrev hbmTy0_0 (i : Nat) : BufTy := match i % 128 with
  | 0 => ⟨S640x1024, .f32⟩
  | 1 => ⟨S640x1024, .f32⟩
  | 2 => ⟨S640x1024, .f32⟩
  | 3 => ⟨S640x1024, .f32⟩
  | 4 => ⟨S_, .f32⟩
  | 5 => ⟨S640x1024, .f32⟩
  | 6 => ⟨S640x1024, .f32⟩
  | 7 => ⟨S_, .f32⟩
  | 8 => ⟨S640x1024, .f32⟩
  | 9 => ⟨S640x1024, .f32⟩
  | 10 => ⟨S640x1024, .f32⟩
  | 11 => ⟨S_, .f32⟩
  | 12 => ⟨S640x1024, .f32⟩
  | 13 => ⟨S640x1024, .f32⟩
  | 14 => ⟨S640x1024, .f32⟩
  | 15 => ⟨S_, .f32⟩
  | 16 => ⟨S640x1024, .f32⟩
  | 17 => ⟨S640x1024, .f32⟩
  | 18 => ⟨S640x1024, .f32⟩
  | 19 => ⟨S_, .f32⟩
  | 20 => ⟨S640x1024, .f32⟩
  | 21 => ⟨S640x1024, .f32⟩
  | 22 => ⟨S_, .f32⟩
  | 23 => ⟨S640x1024, .f32⟩
  | 24 => ⟨S640x1024, .f32⟩
  | 25 => ⟨S640x1024, .f32⟩
  | 26 => ⟨S_, .f32⟩
  | 27 => ⟨S640x1024, .f32⟩
  | 28 => ⟨S640x1024, .f32⟩
  | 29 => ⟨S640x1024, .f32⟩
  | 30 => ⟨S_, .f32⟩
  | 31 => ⟨S640x1024, .f32⟩
  | 32 => ⟨S640x1024, .f32⟩
  | 33 => ⟨S640x1024, .f32⟩
  | 34 => ⟨S_, .f32⟩
  | 35 => ⟨S640x1024, .f32⟩
  | 36 => ⟨S640x1024, .f32⟩
  | 37 => ⟨S655360, .f32⟩
  | 38 => ⟨S655360, .f32⟩
  | 39 => ⟨S655360, .f32⟩
  | 40 => ⟨S768, .f32⟩
  | 41 => ⟨S3x2x128, .f32⟩
  | 42 => ⟨S1024, .f32⟩
  | 43 => ⟨S2x4x128, .f32⟩
  | 44 => ⟨S512, .f32⟩
  | 45 => ⟨S2x2x128, .f32⟩
  | 46 => ⟨S1536, .f32⟩
  | 47 => ⟨S2x4x192, .f32⟩
  | 48 => ⟨S2048, .f32⟩
  | 49 => ⟨S2x4x256, .f32⟩
  | 50 => ⟨S1024, .f32⟩
  | 51 => ⟨S2048, .f32⟩
  | 52 => ⟨S2x1024, .f32⟩
  | 53 => ⟨S6144, .f32⟩
  | 54 => ⟨S2x3072, .f32⟩
  | 55 => ⟨S1024, .f32⟩
  | 56 => ⟨S2x512, .f32⟩
  | 57 => ⟨S8192, .f32⟩
  | 58 => ⟨S2x2x32x64, .f32⟩
  | 59 => ⟨S8192, .f32⟩
  | 60 => ⟨S2x2x32x64, .f32⟩
  | 61 => ⟨S128, .f32⟩
  | 62 => ⟨S2x2x32, .f32⟩
  | 63 => ⟨S65536, .f32⟩
  | 64 => ⟨S2x32x64x16, .f32⟩
  | 65 => ⟨S65536, .f32⟩
  | 66 => ⟨S2x32x64x16, .f32⟩
  | 67 => ⟨S65536, .f32⟩
  | 68 => ⟨S2x32x16x64, .f32⟩
  | 69 => ⟨S65536, .f32⟩
  | 70 => ⟨S2x32x16x64, .f32⟩
  | 71 => ⟨S1024, .f32⟩
  | 72 => ⟨S2x512, .f32⟩
  | 73 => ⟨S1024, .f32⟩
  | 74 => ⟨S2x512, .f32⟩
  | 75 => ⟨S1024, .f32⟩
  | 76 => ⟨S2x512, .f32⟩
  | 77 => ⟨S262144, .f32⟩
  | 78 => ⟨S2x2x2x8x64x64, .f32⟩
  | 79 => ⟨S4096, .f32⟩
  | 80 => ⟨S2x2x2x8x64, .f32⟩
  | 81 => ⟨S1536, .f32⟩
  | 82 => ⟨S2x768, .f32⟩
  | 83 => ⟨S32, .f32⟩
  | 84 => ⟨S2x2x8, .f32⟩
  | 85 => ⟨S32, .f32⟩
  | 86 => ⟨S2x2x8, .f32⟩
  | 87 => ⟨S16, .f32⟩
  | 88 => ⟨S2x8, .f32⟩
  | 89 => ⟨S1024, .f32⟩
  | 90 => ⟨S2x512, .f32⟩
  | 91 => ⟨S1024, .f32⟩
  | 92 => ⟨S768, .f32⟩
  | 93 => ⟨S3x2x128, .f32⟩
  | 94 => ⟨S1024, .f32⟩
  | 95 => ⟨S2x4x128, .f32⟩
  | 96 => ⟨S512, .f32⟩
  | 97 => ⟨S2x2x128, .f32⟩
  | 98 => ⟨S1536, .f32⟩
  | 99 => ⟨S2x4x192, .f32⟩
  | 100 => ⟨S2048, .f32⟩
  | 101 => ⟨S2x4x256, .f32⟩
  | 102 => ⟨S1024, .f32⟩
  | 103 => ⟨S2048, .f32⟩
  | 104 => ⟨S2x1024, .f32⟩
  | 105 => ⟨S6144, .f32⟩
  | 106 => ⟨S2x3072, .f32⟩
  | 107 => ⟨S1024, .f32⟩
  | 108 => ⟨S2x512, .f32⟩
  | 109 => ⟨S8192, .f32⟩
  | 110 => ⟨S2x2x32x64, .f32⟩
  | 111 => ⟨S8192, .f32⟩
  | 112 => ⟨S2x2x32x64, .f32⟩
  | 113 => ⟨S128, .f32⟩
  | 114 => ⟨S2x2x32, .f32⟩
  | 115 => ⟨S65536, .f32⟩
  | 116 => ⟨S2x32x64x16, .f32⟩
  | 117 => ⟨S65536, .f32⟩
  | 118 => ⟨S2x32x64x16, .f32⟩
  | 119 => ⟨S65536, .f32⟩
  | 120 => ⟨S2x32x16x64, .f32⟩
  | 121 => ⟨S65536, .f32⟩
  | 122 => ⟨S2x32x16x64, .f32⟩
  | 123 => ⟨S1024, .f32⟩
  | 124 => ⟨S2x512, .f32⟩
  | 125 => ⟨S1024, .f32⟩
  | 126 => ⟨S2x512, .f32⟩
  | 127 => ⟨S1024, .f32⟩
  | _ => ⟨S640x1024, .f32⟩

abbrev hbmTy0_1 (i : Nat) : BufTy := match i % 128 with
  | 0 => ⟨S2x512, .f32⟩
  | 1 => ⟨S262144, .f32⟩
  | 2 => ⟨S2x2x2x8x64x64, .f32⟩
  | 3 => ⟨S4096, .f32⟩
  | 4 => ⟨S2x2x2x8x64, .f32⟩
  | 5 => ⟨S1536, .f32⟩
  | 6 => ⟨S2x768, .f32⟩
  | 7 => ⟨S32, .f32⟩
  | 8 => ⟨S2x2x8, .f32⟩
  | 9 => ⟨S32, .f32⟩
  | 10 => ⟨S2x2x8, .f32⟩
  | 11 => ⟨S16, .f32⟩
  | 12 => ⟨S2x8, .f32⟩
  | 13 => ⟨S1024, .f32⟩
  | 14 => ⟨S2x512, .f32⟩
  | 15 => ⟨S1024, .f32⟩
  | 16 => ⟨S768, .f32⟩
  | 17 => ⟨S3x2x128, .f32⟩
  | 18 => ⟨S1024, .f32⟩
  | 19 => ⟨S2x4x128, .f32⟩
  | 20 => ⟨S512, .f32⟩
  | 21 => ⟨S2x2x128, .f32⟩
  | 22 => ⟨S1536, .f32⟩
  | 23 => ⟨S2x4x192, .f32⟩
  | 24 => ⟨S2048, .f32⟩
  | 25 => ⟨S2x4x256, .f32⟩
  | 26 => ⟨S1024, .f32⟩
  | 27 => ⟨S2048, .f32⟩
  | 28 => ⟨S2x1024, .f32⟩
  | 29 => ⟨S6144, .f32⟩
  | 30 => ⟨S2x3072, .f32⟩
  | 31 => ⟨S1024, .f32⟩
  | 32 => ⟨S2x512, .f32⟩
  | 33 => ⟨S8192, .f32⟩
  | 34 => ⟨S2x2x32x64, .f32⟩
  | 35 => ⟨S8192, .f32⟩
  | 36 => ⟨S2x2x32x64, .f32⟩
  | 37 => ⟨S128, .f32⟩
  | 38 => ⟨S2x2x32, .f32⟩
  | 39 => ⟨S65536, .f32⟩
  | 40 => ⟨S2x32x64x16, .f32⟩
  | 41 => ⟨S65536, .f32⟩
  | 42 => ⟨S2x32x64x16, .f32⟩
  | 43 => ⟨S65536, .f32⟩
  | 44 => ⟨S2x32x16x64, .f32⟩
  | 45 => ⟨S65536, .f32⟩
  | 46 => ⟨S2x32x16x64, .f32⟩
  | 47 => ⟨S1024, .f32⟩
  | 48 => ⟨S2x512, .f32⟩
  | 49 => ⟨S1024, .f32⟩
  | 50 => ⟨S2x512, .f32⟩
  | 51 => ⟨S1024, .f32⟩
  | 52 => ⟨S2x512, .f32⟩
  | 53 => ⟨S262144, .f32⟩
  | 54 => ⟨S2x2x2x8x64x64, .f32⟩
  | 55 => ⟨S4096, .f32⟩
  | 56 => ⟨S2x2x2x8x64, .f32⟩
  | 57 => ⟨S1536, .f32⟩
  | 58 => ⟨S2x768, .f32⟩
  | 59 => ⟨S32, .f32⟩
  | 60 => ⟨S2x2x8, .f32⟩
  | 61 => ⟨S32, .f32⟩
  | 62 => ⟨S2x2x8, .f32⟩
  | 63 => ⟨S16, .f32⟩
  | 64 => ⟨S2x8, .f32⟩
  | 65 => ⟨S1024, .f32⟩
  | 66 => ⟨S2x512, .f32⟩
  | 67 => ⟨S1024, .f32⟩
  | _ => ⟨S640x1024, .f32⟩

abbrev hbmTy (i : Nat) : BufTy := match i / 128 with
  | 0 => hbmTy0_0 i
  | 1 => hbmTy0_1 i
  | _ => ⟨S640x1024, .f32⟩

abbrev bufTy : (tb : Table) → Fin (tcTables nBuf tb) → BufTy
  | .hbm, ⟨i, _⟩ => hbmTy i
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩

abbrev nD : Nat := 1
abbrev τ : Topo := Topo.v7x

variable {F : FTy → Type} [FloatOps F]
-- ==== Proof.MixTerms.lean ====
/-  What the backward kernel of the gated merge computes at one grid point, read at an index. A block holds 256 rows; the
    pre-activations of the four gates lie side by side, gate `k` in columns `1024 k … 1024 k + 1023`. -/
module

public import proofs.«01_k».proof.Proof.Gen.MixIdeal.Value
public import Idealize.ShloMosaic.Lib.Pointwise

@[expose] public section

set_option maxRecDepth 16384

noncomputable section

namespace Cert.Proof.Mix

open Cert.MixIdeal Cert.MixIdeal.Gen Idealize.ShloMosaic Idealize.ShloMosaic.TcCoe Idealize.SL.Sem
open scoped BigOperators

section Payloads
variable {F : FTy → Type} [FloatOps F]
variable (b : Vec F S1x4096 .f32) (g : Vec F S256x4096 .bf16) (y0 y1 y2 y3 dy : Vec F S256x1024 .bf16)

/-- The block written back to the gradient of the pre-activations. -/
def preT : Vec F S256x4096 .bf16 :=
  k0_pay4 (k0_pay8 b g) (k0_pay9 y0) (k0_pay19 dy)
    (k0_pay24 y3 dy (k0_pay14 b g) (k0_pay15 y2) (k0_pay16 g) (k0_pay17 b))
    (k0_pay28 dy (k0_pay11 b g) (k0_pay12 y1)) k0_pay29

/-- The blocks written back to the gradients of the four branches. -/
def br0T : Vec F S256x1024 .bf16 := k0_pay1 (k0_pay7 b g) (k0_pay19 dy)
def br1T : Vec F S256x1024 .bf16 := k0_pay25 dy (k0_pay10 b g)
def br2T : Vec F S256x1024 .bf16 := k0_pay22 dy (k0_pay13 b g)
def br3T : Vec F S256x1024 .bf16 := k0_pay20 dy (k0_pay16 g) (k0_pay17 b)

/-- One block's share of the gradient of the biases: the sum of its rows. -/
def biasT : Vec F S1x4096 .f32 :=
  k0_pay3 (k0_pay8 b g) (k0_pay9 y0) (k0_pay19 dy)
    (k0_pay27 y3 dy (k0_pay11 b g) (k0_pay12 y1) (k0_pay14 b g) (k0_pay15 y2) (k0_pay16 g) (k0_pay17 b))

/-- The sum so far with one block's share added. -/
def biasAddT (acc : Vec F S1x4096 .f32) : Vec F S1x4096 .f32 :=
  k0_pay5 (k0_pay8 b g) (k0_pay9 y0) (k0_pay19 dy)
    (k0_pay27 y3 dy (k0_pay11 b g) (k0_pay12 y1) (k0_pay14 b g) (k0_pay15 y2) (k0_pay16 g) (k0_pay17 b)) acc

end Payloads

section Cells
variable (b : Vec Ideal S1x4096 .f32) (g : Vec Ideal S256x4096 .bf16) (y0 y1 y2 y3 dy : Vec Ideal S256x1024 .bf16)

/-- The gate of row `p`, column `q`. -/
def sg (p : Fin 256) (q : Fin 4096) : EReal := Ideal.logistic (g (ix2 p q) + b (ix2 0 q))

/-- The gradient of a pre-activation: the cotangent times the branch's entry times the logistic's derivative. -/
def cell (s d y : EReal) : EReal := d * y * (s * (1 - s))

theorem br0T_apply (p : Fin 256) (r : Fin 1024) :
    br0T b g dy (ix2 p r) = sg b g p ⟨r.val, by omega⟩ * dy (ix2 p r) := by
  unfold br0T sg; unfold_payloads; pointwise!

theorem br1T_apply (p : Fin 256) (r : Fin 1024) :
    br1T b g dy (ix2 p r) = sg b g p ⟨1024 + r.val, by omega⟩ * dy (ix2 p r) := by
  unfold br1T sg; unfold_payloads; pointwise!

theorem br2T_apply (p : Fin 256) (r : Fin 1024) :
    br2T b g dy (ix2 p r) = sg b g p ⟨2048 + r.val, by omega⟩ * dy (ix2 p r) := by
  unfold br2T sg; unfold_payloads; pointwise!

theorem br3T_apply (p : Fin 256) (r : Fin 1024) :
    br3T b g dy (ix2 p r) = sg b g p ⟨3072 + r.val, by omega⟩ * dy (ix2 p r) := by
  unfold br3T sg; unfold_payloads; pointwise!

/-- The entry of the branch whose gate lies in column block `k`. -/
def pick {α : Type} (k : Nat) (a0 a1 a2 a3 : α) : α := if k = 0 then a0 else if k = 1 then a1 else if k = 2 then a2 else a3

/-- The column within its column block. -/
abbrev col (q : Fin 4096) : Fin 1024 := ⟨q.val % 1024, Nat.mod_lt _ (by decide)⟩

/-- A column is its block's first column plus its place within the block. -/
theorem col_cases (q : Fin 4096) : ∃ r : Fin 1024, col q = r ∧
    ((q = ⟨r.val, by omega⟩ ∧ q.val / 1024 = 0) ∨ (q = ⟨1024 + r.val, by omega⟩ ∧ q.val / 1024 = 1)
      ∨ (q = ⟨2048 + r.val, by omega⟩ ∧ q.val / 1024 = 2) ∨ (q = ⟨3072 + r.val, by omega⟩ ∧ q.val / 1024 = 3)) := by
  refine ⟨col q, rfl, ?_⟩
  have hq := q.isLt
  simp only [Fin.ext_iff]
  omega

/-- The gradient of the pre-activation of row `p`, column `q`. -/
def pcell (p : Fin 256) (q : Fin 4096) : EReal :=
  cell (sg b g p q) (dy (ix2 p (col q))) (pick (q.val / 1024) (y0 (ix2 p (col q))) (y1 (ix2 p (col q))) (y2 (ix2 p (col q))) (y3 (ix2 p (col q))))

theorem preT_apply (p : Fin 256) (q : Fin 4096) : preT b g y0 y1 y2 y3 dy (ix2 p q) = pcell b g y0 y1 y2 y3 dy p q := by
  obtain ⟨r, hr, h⟩ := col_cases q
  unfold pcell; rw [hr]; clear hr
  have h4 := r.isLt
  rcases h with ⟨rfl, e⟩ | ⟨rfl, e⟩ | ⟨rfl, e⟩ | ⟨rfl, e⟩ <;> rw [e] <;> clear e <;>
    unfold preT sg cell pick <;> unfold_payloads <;> pointwise <;>
    split_ifs <;> first | omega | simp [Nat.add_sub_cancel_left]

theorem biasT_apply (q : Fin 4096) :
    biasT b g y0 y1 y2 y3 dy (ix2 0 q) = ∑ p : Fin 256, pcell b g y0 y1 y2 y3 dy p q := by
  obtain ⟨r, hr, h⟩ := col_cases q
  unfold pcell; rw [hr]; clear hr
  have h4 := r.isLt
  rcases h with ⟨rfl, e⟩ | ⟨rfl, e⟩ | ⟨rfl, e⟩ | ⟨rfl, e⟩ <;> rw [e] <;> clear e <;>
    unfold biasT sg cell pick <;> unfold_payloads <;> pointwise <;>
    split_ifs <;> first | omega | simp [Nat.add_sub_cancel_left]

theorem biasAddT_apply (acc : Vec Ideal S1x4096 .f32) (q : Fin 4096) :
    biasAddT b g y0 y1 y2 y3 dy acc (ix2 0 q) = acc (ix2 0 q) + biasT b g y0 y1 y2 y3 dy (ix2 0 q) := by
  unfold biasAddT biasT k0_pay5
  rw [addf_apply, shapeCast_self]
  rfl

end Cells

end Cert.Proof.Mix

end
-- ==== Proof.MixOpen.lean ====
/-  What each grid point's body leaves in its output blocks, as the named terms of `MixTerms`. The first point stores its share of the
    bias gradient; the later points add theirs to what the point before left. -/
module

public import proofs.«01_k».proof.Proof.MixTerms

@[expose] public section

set_option maxRecDepth 16384

noncomputable section

namespace Cert.Proof.Mix

open Cert.MixIdeal Cert.MixIdeal.Gen Idealize.ShloMosaic Idealize.ShloMosaic.TcCoe Idealize.SL.Sem

theorem hz : (![0, 0] : Fin 2 → Nat) = fun _ => 0 := funext fun a => by fin_cases a <;> rfl

variable {F : FTy → Type} [FloatOps F]
variable (c : Dev nD) (i : grid0.Coords)
    (a1 : Memref sig .tc .vmem S1x4096 .f32) (h1 : a1.IsWhole)
    (a2 : Memref sig .tc .vmem S256x4096 .bf16) (h2 : a2.IsWhole)
    (a3 : Memref sig .tc .vmem S256x1024 .bf16) (h3 : a3.IsWhole)
    (a4 : Memref sig .tc .vmem S256x1024 .bf16) (h4 : a4.IsWhole)
    (a5 : Memref sig .tc .vmem S256x1024 .bf16) (h5 : a5.IsWhole)
    (a6 : Memref sig .tc .vmem S256x1024 .bf16) (h6 : a6.IsWhole)
    (a7 : Memref sig .tc .vmem S256x1024 .bf16) (h7 : a7.IsWhole)
    (a8 : Memref sig .tc .vmem S1x4096 .f32) (h8 : a8.IsWhole)
    (a9 : Memref sig .tc .vmem S256x4096 .bf16) (h9 : a9.IsWhole)
    (a10 : Memref sig .tc .vmem S256x1024 .bf16) (h10 : a10.IsWhole)
    (a11 : Memref sig .tc .vmem S256x1024 .bf16) (h11 : a11.IsWhole)
    (a12 : Memref sig .tc .vmem S256x1024 .bf16) (h12 : a12.IsWhole)
    (a13 : Memref sig .tc .vmem S256x1024 .bf16) (h13 : a13.IsWhole)
    (b : Vec F S1x4096 .f32) (g : Vec F S256x4096 .bf16) (y0 y1 y2 y3 dy : Vec F S256x1024 .bf16) (acc : Vec F S1x4096 .f32)

theorem outA_7 (hc0 : cond0_0 i) (hc1 : ¬cond0_1 i) :
    out0_A_7 c i a1 h1 a2 h2 a3 h3 a4 h4 a5 h5 a6 h6 a7 h7 a8 h8 a9 h9 a10 h10 a11 h11 a12 h12 a13 h13 hc0 hc1 b g y0 y1 y2 y3 dy = biasT b g y0 y1 y2 y3 dy := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc0 hc1 b g y0 y1 y2 y3 dy)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outA_8 (hc0 : cond0_0 i) (hc1 : ¬cond0_1 i) :
    out0_A_8 c i a1 h1 a2 h2 a3 h3 a4 h4 a5 h5 a6 h6 a7 h7 a8 h8 a9 h9 a10 h10 a11 h11 a12 h12 a13 h13 hc0 hc1 b g y0 y1 y2 y3 dy = preT b g y0 y1 y2 y3 dy := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 hc1 b g y0 y1 y2 y3 dy)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outA_9 (hc0 : cond0_0 i) (hc1 : ¬cond0_1 i) :
    out0_A_9 c i a1 h1 a2 h2 a3 h3 a4 h4 a5 h5 a6 h6 a7 h7 a8 h8 a9 h9 a10 h10 a11 h11 a12 h12 a13 h13 hc0 hc1 b g y0 y1 y2 y3 dy = br0T b g dy := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 hc1 b g y0 y1 y2 y3 dy)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outA_10 (hc0 : cond0_0 i) (hc1 : ¬cond0_1 i) :
    out0_A_10 c i a1 h1 a2 h2 a3 h3 a4 h4 a5 h5 a6 h6 a7 h7 a8 h8 a9 h9 a10 h10 a11 h11 a12 h12 a13 h13 hc0 hc1 b g y0 y1 y2 y3 dy = br1T b g dy := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 hc1 b g y0 y1 y2 y3 dy)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outA_11 (hc0 : cond0_0 i) (hc1 : ¬cond0_1 i) :
    out0_A_11 c i a1 h1 a2 h2 a3 h3 a4 h4 a5 h5 a6 h6 a7 h7 a8 h8 a9 h9 a10 h10 a11 h11 a12 h12 a13 h13 hc0 hc1 b g y0 y1 y2 y3 dy = br2T b g dy := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 hc1 b g y0 y1 y2 y3 dy)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outA_12 (hc0 : cond0_0 i) (hc1 : ¬cond0_1 i) :
    out0_A_12 c i a1 h1 a2 h2 a3 h3 a4 h4 a5 h5 a6 h6 a7 h7 a8 h8 a9 h9 a10 h10 a11 h11 a12 h12 a13 h13 hc0 hc1 b g y0 y1 y2 y3 dy = br3T b g dy := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 hc1 b g y0 y1 y2 y3 dy)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outB_7 (hc0 : ¬cond0_0 i) (hc1 : cond0_1 i) :
    out0_B_7 c i a1 h1 a2 h2 a3 h3 a4 h4 a5 h5 a6 h6 a7 h7 a8 h8 a9 h9 a10 h10 a11 h11 a12 h12 a13 h13 hc0 hc1 b g y0 y1 y2 y3 dy acc = biasAddT b g y0 y1 y2 y3 dy acc := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc0 hc1 b g y0 y1 y2 y3 dy acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outB_8 (hc0 : ¬cond0_0 i) (hc1 : cond0_1 i) :
    out0_B_8 c i a1 h1 a2 h2 a3 h3 a4 h4 a5 h5 a6 h6 a7 h7 a8 h8 a9 h9 a10 h10 a11 h11 a12 h12 a13 h13 hc0 hc1 b g y0 y1 y2 y3 dy acc = preT b g y0 y1 y2 y3 dy := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 hc1 b g y0 y1 y2 y3 dy acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outB_9 (hc0 : ¬cond0_0 i) (hc1 : cond0_1 i) :
    out0_B_9 c i a1 h1 a2 h2 a3 h3 a4 h4 a5 h5 a6 h6 a7 h7 a8 h8 a9 h9 a10 h10 a11 h11 a12 h12 a13 h13 hc0 hc1 b g y0 y1 y2 y3 dy acc = br0T b g dy := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 hc1 b g y0 y1 y2 y3 dy acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outB_10 (hc0 : ¬cond0_0 i) (hc1 : cond0_1 i) :
    out0_B_10 c i a1 h1 a2 h2 a3 h3 a4 h4 a5 h5 a6 h6 a7 h7 a8 h8 a9 h9 a10 h10 a11 h11 a12 h12 a13 h13 hc0 hc1 b g y0 y1 y2 y3 dy acc = br1T b g dy := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 hc1 b g y0 y1 y2 y3 dy acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outB_11 (hc0 : ¬cond0_0 i) (hc1 : cond0_1 i) :
    out0_B_11 c i a1 h1 a2 h2 a3 h3 a4 h4 a5 h5 a6 h6 a7 h7 a8 h8 a9 h9 a10 h10 a11 h11 a12 h12 a13 h13 hc0 hc1 b g y0 y1 y2 y3 dy acc = br2T b g dy := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 hc1 b g y0 y1 y2 y3 dy acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

theorem outB_12 (hc0 : ¬cond0_0 i) (hc1 : cond0_1 i) :
    out0_B_12 c i a1 h1 a2 h2 a3 h3 a4 h4 a5 h5 a6 h6 a7 h7 a8 h8 a9 h9 a10 h10 a11 h11 a12 h12 a13 h13 hc0 hc1 b g y0 y1 y2 y3 dy acc = br3T b g dy := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 hc1 b g y0 y1 y2 y3 dy acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S1x4096) hz, View.ld_unit_zero (S := S256x4096) hz,
    View.ld_unit_zero (S := S256x1024) hz]
  rfl

end Cert.Proof.Mix

end
-- ==== Proof.MixGoal.lean ====
/-  What the two programs compute, as functions of the arguments over the extended reals: the gradients of
    `∑ₖ σ(gₖ + bₖ) · yₖ` against the cotangent `dy`. -/
module

public import proofs.«01_k».proof.Proof.MixTerms

@[expose] public section

noncomputable section

namespace Cert.Proof.Mix

open Cert.MixIdeal Idealize.ShloMosaic

section Goal

variable (g : Vec Ideal S4352x4096 .bf16) (y0 y1 y2 y3 : Vec Ideal S4352x1024 .bf16) (b : Vec Ideal S4x1024 .f32) (dy : Vec Ideal S4352x1024 .bf16)

/-- The gate of row `p`, column `q` (column `q` belongs to branch `q / 1024`). -/
def gate (p : Fin 4352) (q : Fin 4096) : EReal :=
  Ideal.logistic (g (ix2 p q) + b (ix2 (⟨q.val / 1024, by omega⟩ : Fin 4) (col q)))

/-- The gradient of the pre-activation of row `p`, column `q`. -/
def gpre (p : Fin 4352) (q : Fin 4096) : EReal :=
  cell (gate g b p q) (dy (ix2 p (col q))) (pick (q.val / 1024) (y0 (ix2 p (col q))) (y1 (ix2 p (col q))) (y2 (ix2 p (col q))) (y3 (ix2 p (col q))))

/-- The bias gradient: the pre-activation's gradient summed over the rows. -/
def goalDb : Vec Ideal S1x4096 .f32 := fun i => ∑ p : Fin 4352, gpre g y0 y1 y2 y3 b dy p (i 1)

/-- The pre-activation's gradient. -/
def goalDpre : Vec Ideal S4352x4096 .bf16 := fun i => gpre g y0 y1 y2 y3 b dy (i 0) (i 1)

/-- The gradient of branch `k`. -/
def goalDy (k : Fin 4) : Vec Ideal S4352x1024 .bf16 := fun i =>
  gate g b (i 0) (⟨k.val * 1024 + (i 1).val, by have : (i 1).val < 1024 := (i 1).isLt; omega⟩ : Fin 4096) * dy i

end Goal

end Cert.Proof.Mix

end
-- ==== Proof.MixFinal.lean ====
/-  From the blocks each grid point leaves to the six result arrays as functions of the arguments: the grid goes from the last
    block of 256 rows to the first, so point `t` works on rows `256 (16 - t) …`, and the bias gradient is the running sum over the points. -/
module

public import proofs.«01_k».proof.Proof.MixOpen
public import proofs.«01_k».proof.Proof.MixGoal
public import proofs.«01_k».proof.Proof.Gen.MixIdeal.Value

@[expose] public section

set_option maxRecDepth 16384

noncomputable section

namespace Cert.Proof.Mix

open Cert.MixIdeal Cert.MixIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The blocks read -/

/-- Row `p` of point `t`'s block. -/
abbrev row (t : Fin cfg0.N) (p : Fin 256) : Fin 4352 := ⟨(16 - t.val) * 256 + p.val, by omega⟩

theorem idx1 : ∀ t : Fin cfg0.N, win0_1.index t (0 : Fin 2) = 16 - t.val ∧ win0_1.index t (1 : Fin 2) = 0 :=
  (by decide +kernel : ∀ t : Fin grid0.N, win0_1.index t (0 : Fin 2) = 16 - t.val ∧ win0_1.index t (1 : Fin 2) = 0)

theorem read1 (c : Dev nD) (t : Fin cfg0.N) (p : Fin 256) (q : Fin 4096) :
    (iblk m c 1 t : Vec Ideal S256x4096 .bf16) (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_1.index t (0 : Fin 2) * 256 + 1 * p.val = (16 - t.val) * 256 + p.val; rw [(idx1 t).1]; omega
  | ⟨1, _⟩ => show win0_1.index t (1 : Fin 2) * 4096 + 1 * q.val = q.val; rw [(idx1 t).2]; omega

theorem idx2 : ∀ t : Fin cfg0.N, win0_2.index t (0 : Fin 2) = 16 - t.val ∧ win0_2.index t (1 : Fin 2) = 0 :=
  (by decide +kernel : ∀ t : Fin grid0.N, win0_2.index t (0 : Fin 2) = 16 - t.val ∧ win0_2.index t (1 : Fin 2) = 0)

theorem read2 (c : Dev nD) (t : Fin cfg0.N) (p : Fin 256) (q : Fin 1024) :
    (iblk m c 2 t : Vec Ideal S256x1024 .bf16) (ix2 p q) = m ((c : Thread nD τ).loc main_arg1) (ix2 (row t p) q) := by
  unfold iblk
  rw [View.read_apply]
  show V m c main_arg1 _ = _
  rw [V_main_arg1]
  congr 1
  funext a
  apply Fin.ext
  match a with
  | ⟨0, _⟩ => show win0_2.index t (0 : Fin 2) * 256 + 1 * p.val = (16 - t.val) * 256 + p.val; rw [(idx2 t).1]; omega
  | ⟨1, _⟩ => show win0_2.index t (1 : Fin 2) * 1024 + 1 * q.val = q.val; rw [(idx2 t).2]; omega

theorem idx3 : ∀ t : Fin cfg0.N, win0_3.index t (0 : Fin 2) = 16 - t.val ∧ win0_3.index t (1 : Fin 2) = 0 :=
  (by decide +kernel : ∀ t : Fin grid0.N, win0_3.index t (0 : Fin 2) = 16 - t.val ∧ win0_3.index t (1 : Fin 2) = 0)

theorem read3 (c : Dev nD) (t : Fin cfg0.N) (p : Fin 256) (q : Fin 1024) :
    (iblk m c 3 t : Vec Ideal S256x1024 .bf16) (ix2 p q) = m ((c : Thread nD τ).loc main_arg2) (ix2 (row t p) q) := by
  unfold iblk
  rw [View.read_apply]
  show V m c main_arg2 _ = _
  rw [V_main_arg2]
  congr 1
  funext a
  apply Fin.ext
  match a with
  | ⟨0, _⟩ => show win0_3.index t (0 : Fin 2) * 256 + 1 * p.val = (16 - t.val) * 256 + p.val; rw [(idx3 t).1]; omega
  | ⟨1, _⟩ => show win0_3.index t (1 : Fin 2) * 1024 + 1 * q.val = q.val; rw [(idx3 t).2]; omega

theorem idx4 : ∀ t : Fin cfg0.N, win0_4.index t (0 : Fin 2) = 16 - t.val ∧ win0_4.index t (1 : Fin 2) = 0 :=
  (by decide +kernel : ∀ t : Fin grid0.N, win0_4.index t (0 : Fin 2) = 16 - t.val ∧ win0_4.index t (1 : Fin 2) = 0)

theorem read4 (c : Dev nD) (t : Fin cfg0.N) (p : Fin 256) (q : Fin 1024) :
    (iblk m c 4 t : Vec Ideal S256x1024 .bf16) (ix2 p q) = m ((c : Thread nD τ).loc main_arg3) (ix2 (row t p) q) := by
  unfold iblk
  rw [View.read_apply]
  show V m c main_arg3 _ = _
  rw [V_main_arg3]
  congr 1
  funext a
  apply Fin.ext
  match a with
  | ⟨0, _⟩ => show win0_4.index t (0 : Fin 2) * 256 + 1 * p.val = (16 - t.val) * 256 + p.val; rw [(idx4 t).1]; omega
  | ⟨1, _⟩ => show win0_4.index t (1 : Fin 2) * 1024 + 1 * q.val = q.val; rw [(idx4 t).2]; omega

theorem idx5 : ∀ t : Fin cfg0.N, win0_5.index t (0 : Fin 2) = 16 - t.val ∧ win0_5.index t (1 : Fin 2) = 0 :=
  (by decide +kernel : ∀ t : Fin grid0.N, win0_5.index t (0 : Fin 2) = 16 - t.val ∧ win0_5.index t (1 : Fin 2) = 0)

theorem read5 (c : Dev nD) (t : Fin cfg0.N) (p : Fin 256) (q : Fin 1024) :
    (iblk m c 5 t : Vec Ideal S256x1024 .bf16) (ix2 p q) = m ((c : Thread nD τ).loc main_arg4) (ix2 (row t p) q) := by
  unfold iblk
  rw [View.read_apply]
  show V m c main_arg4 _ = _
  rw [V_main_arg4]
  congr 1
  funext a
  apply Fin.ext
  match a with
  | ⟨0, _⟩ => show win0_5.index t (0 : Fin 2) * 256 + 1 * p.val = (16 - t.val) * 256 + p.val; rw [(idx5 t).1]; omega
  | ⟨1, _⟩ => show win0_5.index t (1 : Fin 2) * 1024 + 1 * q.val = q.val; rw [(idx5 t).2]; omega

theorem idx6 : ∀ t : Fin cfg0.N, win0_6.index t (0 : Fin 2) = 16 - t.val ∧ win0_6.index t (1 : Fin 2) = 0 :=
  (by decide +kernel : ∀ t : Fin grid0.N, win0_6.index t (0 : Fin 2) = 16 - t.val ∧ win0_6.index t (1 : Fin 2) = 0)

theorem read6 (c : Dev nD) (t : Fin cfg0.N) (p : Fin 256) (q : Fin 1024) :
    (iblk m c 6 t : Vec Ideal S256x1024 .bf16) (ix2 p q) = m ((c : Thread nD τ).loc main_arg6) (ix2 (row t p) q) := by
  unfold iblk
  rw [View.read_apply]
  show V m c main_arg6 _ = _
  rw [V_main_arg6]
  congr 1
  funext a
  apply Fin.ext
  match a with
  | ⟨0, _⟩ => show win0_6.index t (0 : Fin 2) * 256 + 1 * p.val = (16 - t.val) * 256 + p.val; rw [(idx6 t).1]; omega
  | ⟨1, _⟩ => show win0_6.index t (1 : Fin 2) * 1024 + 1 * q.val = q.val; rw [(idx6 t).2]; omega

/-- The bias the region reads is the bias argument, its four rows laid end to end. -/
theorem V_bias (c : Dev nD) : V m c main_v0
    = (shapeCast S1x4096 (m ((c : Thread nD τ).loc main_arg5) : Vec Ideal S4x1024 .f32) shapeCasts_S4x1024_S1x4096 : Vec Ideal S1x4096 .f32) := by
  show StableHlo.after hostOps0 (fun b => m (c, b)) (Proc.devRef .tc main_v0) = _
  unfold hostOps0
  after_results
  rfl

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem read0 (c : Dev nD) (t : Fin cfg0.N) (q : Fin 4096) :
    (iblk m c 0 t : Vec Ideal S1x4096 .f32) (ix2 0 q)
      = (m ((c : Thread nD τ).loc main_arg5) : Vec Ideal S4x1024 .f32) (ix2 (⟨q.val / 1024, by omega⟩ : Fin 4) (col q)) := by
  have e : ((cfg0.win 0).blk t).view.emb (ix2 (0 : Fin 1) q) = (ix2 (0 : Fin 1) q : S1x4096.Idx) := by
    funext a
    apply Fin.ext
    match a with
    | ⟨0, _⟩ => show win0_0.index t (0 : Fin 2) * 1 + 1 * 0 = 0; rw [(idx0 t).1]
    | ⟨1, _⟩ => show win0_0.index t (1 : Fin 2) * 4096 + 1 * q.val = q.val; rw [(idx0 t).2]; omega
  unfold iblk
  rw [View.read_apply]
  show V m c main_v0 _ = _
  rw [V_bias]
  refine (congrArg _ e).trans ?_
  refine shapeCast_apply (s := S4x1024) (t := S1x4096) _ _ _ _ ?_
  rw [Shape.rowMajor_val_two, Shape.rowMajor_val_two]
  show q.val / 1024 * 1024 + q.val % 1024 = 0 * 4096 + q.val
  omega

section Blocks

variable (c : Dev nD)

abbrev A0 : Vec Ideal S4352x4096 .bf16 := m ((c : Thread nD τ).loc main_arg0)
abbrev A1 : Vec Ideal S4352x1024 .bf16 := m ((c : Thread nD τ).loc main_arg1)
abbrev A2 : Vec Ideal S4352x1024 .bf16 := m ((c : Thread nD τ).loc main_arg2)
abbrev A3 : Vec Ideal S4352x1024 .bf16 := m ((c : Thread nD τ).loc main_arg3)
abbrev A4 : Vec Ideal S4352x1024 .bf16 := m ((c : Thread nD τ).loc main_arg4)
abbrev A5 : Vec Ideal S4x1024 .f32 := m ((c : Thread nD τ).loc main_arg5)
abbrev A6 : Vec Ideal S4352x1024 .bf16 := m ((c : Thread nD τ).loc main_arg6)

theorem sg_block (t : Fin cfg0.N) (p : Fin 256) (q : Fin 4096) :
    sg (iblk m c 0 t) (iblk m c 1 t) p q = gate (A0 m c) (A5 m c) (row t p) q := by
  unfold sg gate
  rw [read0, read1]

theorem pcell_block (t : Fin cfg0.N) (p : Fin 256) (q : Fin 4096) :
    pcell (iblk m c 0 t) (iblk m c 1 t) (iblk m c 2 t) (iblk m c 3 t) (iblk m c 4 t) (iblk m c 5 t) (iblk m c 6 t) p q
      = gpre (A0 m c) (A1 m c) (A2 m c) (A3 m c) (A4 m c) (A5 m c) (A6 m c) (row t p) q := by
  unfold pcell gpre
  rw [sg_block, read2, read3, read4, read5, read6]

/-! ## What each point leaves -/

/-- The five row-blocked outputs, at every point. -/
theorem rest_eq (t : Fin cfg0.N) : (outsAt0 m c t.val t.isLt).2 =
    (preT (iblk m c 0 t) (iblk m c 1 t) (iblk m c 2 t) (iblk m c 3 t) (iblk m c 4 t) (iblk m c 5 t) (iblk m c 6 t),
      br0T (iblk m c 0 t) (iblk m c 1 t) (iblk m c 6 t), br1T (iblk m c 0 t) (iblk m c 1 t) (iblk m c 6 t),
      br2T (iblk m c 0 t) (iblk m c 1 t) (iblk m c 6 t), br3T (iblk m c 0 t) (iblk m c 1 t) (iblk m c 6 t)) := by
  have hN : cfg0.N = 17 := N_0
  have := t.isLt
  by_cases h : t.val = 0
  · rw [outsAt0_A m c t (by omega) (by omega), outA_8, outA_9, outA_10, outA_11, outA_12]
  · rw [outsAt0_B m c t (by omega) (by omega), outB_8, outB_9, outB_10, outB_11, outB_12]

/-- The share of the bias gradient from row block `t`. -/
def part (t : ℕ) (q : Fin 4096) : EReal :=
  ∑ p : Fin 256, gpre (A0 m c) (A1 m c) (A2 m c) (A3 m c) (A4 m c) (A5 m c) (A6 m c) ⟨(t * 256 + p.val) % 4352, Nat.mod_lt _ (by decide)⟩ q

theorem biasT_part (t : Fin cfg0.N) (q : Fin 4096) :
    biasT (iblk m c 0 t) (iblk m c 1 t) (iblk m c 2 t) (iblk m c 3 t) (iblk m c 4 t) (iblk m c 5 t) (iblk m c 6 t) (ix2 0 q) = part m c (16 - t.val) q := by
  have hN : cfg0.N = 17 := N_0
  rw [biasT_apply]
  unfold part
  refine Finset.sum_congr rfl fun p _ => ?_
  rw [pcell_block]
  congr 1
  apply Fin.ext
  show (16 - t.val) * 256 + p.val = ((16 - t.val) * 256 + p.val) % 4352
  have := t.isLt
  omega

/-- The running sum after point `n`. -/
theorem acc_eq : ∀ (n : ℕ) (h : n < cfg0.N) (q : Fin 4096),
    (outsAt0 m c n h).1 (ix2 0 q) = ∑ t ∈ Finset.range (n + 1), part m c (16 - t) q
  | 0, h, q => by
    rw [outsAt0_A m c ⟨0, h⟩ rfl (fun h => absurd h (by dsimp only; omega)), outA_7]
    show biasT _ _ _ _ _ _ _ _ = _
    rw [biasT_part, Finset.sum_range_one]
  | n + 1, h, q => by
    have hN : cfg0.N = 17 := N_0
    rw [outsAt0_B m c ⟨n + 1, h⟩ (by dsimp only; omega) (by dsimp only; omega), outB_7]
    show biasAddT _ _ _ _ _ _ _ _ _ = _
    rw [biasAddT_apply, biasT_part, Finset.sum_range_succ]
    congr 1
    exact acc_eq n _ q

theorem parts_sum (q : Fin 4096) : ∑ t ∈ Finset.range 17, part m c (16 - t) q
    = ∑ p : Fin 4352, gpre (A0 m c) (A1 m c) (A2 m c) (A3 m c) (A4 m c) (A5 m c) (A6 m c) p q := by
  rw [Fin.sum_univ_tiles 17 256 (by decide), Finset.sum_range_reflect (fun t => part m c t q) 17, ← Fin.sum_univ_eq_sum_range]
  refine Finset.sum_congr rfl fun t _ => Finset.sum_congr rfl fun p _ => ?_
  congr 1
  apply Fin.ext
  show (t.val * 256 + p.val) % 4352 = t.val * 256 + p.val
  omega

/-! ## The result arrays -/

abbrev last : Fin cfg0.N := ⟨16, by rw [show cfg0.N = 17 from N_0]; decide⟩

theorem idx7 : win0_7.index last (0 : Fin 2) = 0 ∧ win0_7.index last (1 : Fin 2) = 0 := by decide +kernel

theorem final7 : (dats m 0 c).arrAt 7 cfg0.N = goalDb (A0 m c) (A1 m c) (A2 m c) (A3 m c) (A4 m c) (A5 m c) (A6 m c) := by
  have hN : cfg0.N = 17 := N_0
  refine (dats m 0 c).arrAt_eq_of_cover 7 _ (fun t hf => ?_) fun i => ⟨last, (flush0_7 last).mpr rfl, ?_⟩
  · obtain rfl : t = last := Fin.ext (by have := (flush0_7 t).mp hf; have := t.isLt; show t.val = 16; omega)
    rw [Value.flushed7]
    funext j
    rw [View.read_apply]
    obtain ⟨q, rfl⟩ : ∃ q : Fin 4096, j = (ix2 (0 : Fin 1) q : S1x4096.Idx) :=
      ⟨j 1, funext fun a => Fin.ext (by match a with | ⟨0, _⟩ => exact Nat.lt_one_iff.mp (j 0).isLt | ⟨1, _⟩ => rfl)⟩
    show (outsAt0 m c 16 _).1 (ix2 0 q) = goalDb _ _ _ _ _ _ _ _
    rw [acc_eq, parts_sum]
    unfold goalDb
    refine Finset.sum_congr rfl fun p _ => ?_
    congr 1
    apply Fin.ext
    show q.val = win0_7.index last (1 : Fin 2) * 4096 + 1 * q.val
    rw [idx7.2]; omega
  · show i ∈ ((View.whole main_v1_0).slice (win0_7.rect last)).set
    rw [View.set_slice_whole, Rect.mem_set_unit]
    intro a
    have h0 : (i 0 : Nat) < 1 := (i 0).isLt
    have h1 : (i 1 : Nat) < 4096 := (i 1).isLt
    match a with
    | ⟨0, _⟩ => show win0_7.index last (0 : Fin 2) * 1 ≤ (i 0 : Nat) ∧ (i 0 : Nat) < win0_7.index last (0 : Fin 2) * 1 + 1
                rw [idx7.1]; omega
    | ⟨1, _⟩ => show win0_7.index last (1 : Fin 2) * 4096 ≤ (i 1 : Nat) ∧ (i 1 : Nat) < win0_7.index last (1 : Fin 2) * 4096 + 4096
                rw [idx7.2]; omega

theorem idx8 : ∀ t : Fin cfg0.N, win0_8.index t (0 : Fin 2) = 16 - t.val ∧ win0_8.index t (1 : Fin 2) = 0 :=
  (by decide +kernel : ∀ t : Fin grid0.N, win0_8.index t (0 : Fin 2) = 16 - t.val ∧ win0_8.index t (1 : Fin 2) = 0)

theorem final8 : (dats m 0 c).arrAt 8 cfg0.N = goalDpre (A0 m c) (A1 m c) (A2 m c) (A3 m c) (A4 m c) (A5 m c) (A6 m c) := by
  have hN : cfg0.N = 17 := N_0
  refine (dats m 0 c).arrAt_eq_of_cover 8 _ (fun t hf => ?_) fun i => ?_
  · rw [Value.flushed8, rest_eq]
    funext j
    rw [View.read_apply]
    obtain ⟨p, q, rfl⟩ : ∃ (p : Fin 256) (q : Fin 4096), j = (ix2 p q : S256x4096.Idx) := ⟨j 0, j 1, eq_ix2 _⟩
    have e : ((cfg0.win 8).blk t).view.emb (ix2 p q) = (ix2 (row t p) q : S4352x4096.Idx) := by
      funext a
      apply Fin.ext
      match a with
      | ⟨0, _⟩ => show win0_8.index t (0 : Fin 2) * 256 + 1 * p.val = (16 - t.val) * 256 + p.val; rw [(idx8 t).1]; omega
      | ⟨1, _⟩ => show win0_8.index t (1 : Fin 2) * 4096 + 1 * q.val = q.val; rw [(idx8 t).2]; omega
    refine Eq.trans ?_ (congrArg (goalDpre (A0 m c) (A1 m c) (A2 m c) (A3 m c) (A4 m c) (A5 m c) (A6 m c)) e).symm
    show preT _ _ _ _ _ _ _ (ix2 p q) = _
    rw [preT_apply, pcell_block]
    unfold goalDpre
    rfl
  · have h0 : (i 0 : Nat) < 4352 := (i 0).isLt
    have h1 : (i 1 : Nat) < 4096 := (i 1).isLt
    have hb : 16 - (i 0 : Nat) / 256 < cfg0.N := by omega
    refine ⟨⟨16 - (i 0 : Nat) / 256, hb⟩, flush0_8 _, ?_⟩
    show i ∈ ((View.whole main_v1_1).slice (win0_8.rect ⟨16 - (i 0 : Nat) / 256, hb⟩)).set
    rw [View.set_slice_whole, Rect.mem_set_unit]
    intro a
    match a with
    | ⟨0, _⟩ => show win0_8.index ⟨16 - (i 0 : Nat) / 256, hb⟩ (0 : Fin 2) * 256 ≤ (i 0 : Nat) ∧ (i 0 : Nat) < win0_8.index ⟨16 - (i 0 : Nat) / 256, hb⟩ (0 : Fin 2) * 256 + 256
                rw [(idx8 ⟨16 - (i 0 : Nat) / 256, hb⟩).1]; dsimp only; omega
    | ⟨1, _⟩ => show win0_8.index ⟨16 - (i 0 : Nat) / 256, hb⟩ (1 : Fin 2) * 4096 ≤ (i 1 : Nat) ∧ (i 1 : Nat) < win0_8.index ⟨16 - (i 0 : Nat) / 256, hb⟩ (1 : Fin 2) * 4096 + 4096
                rw [(idx8 ⟨16 - (i 0 : Nat) / 256, hb⟩).2]; omega

theorem idx9 : ∀ t : Fin cfg0.N, win0_9.index t (0 : Fin 2) = 16 - t.val ∧ win0_9.index t (1 : Fin 2) = 0 :=
  (by decide +kernel : ∀ t : Fin grid0.N, win0_9.index t (0 : Fin 2) = 16 - t.val ∧ win0_9.index t (1 : Fin 2) = 0)

theorem final9 : (dats m 0 c).arrAt 9 cfg0.N = goalDy (A0 m c) (A5 m c) (A6 m c) 0 := by
  have hN : cfg0.N = 17 := N_0
  refine (dats m 0 c).arrAt_eq_of_cover 9 _ (fun t hf => ?_) fun i => ?_
  · rw [Value.flushed9, rest_eq]
    funext j
    rw [View.read_apply]
    obtain ⟨p, q, rfl⟩ : ∃ (p : Fin 256) (q : Fin 1024), j = (ix2 p q : S256x1024.Idx) := ⟨j 0, j 1, eq_ix2 _⟩
    have e : ((cfg0.win 9).blk t).view.emb (ix2 p q) = (ix2 (row t p) q : S4352x1024.Idx) := by
      funext a
      apply Fin.ext
      match a with
      | ⟨0, _⟩ => show win0_9.index t (0 : Fin 2) * 256 + 1 * p.val = (16 - t.val) * 256 + p.val; rw [(idx9 t).1]; omega
      | ⟨1, _⟩ => show win0_9.index t (1 : Fin 2) * 1024 + 1 * q.val = q.val; rw [(idx9 t).2]; omega
    refine Eq.trans ?_ (congrArg (goalDy (A0 m c) (A5 m c) (A6 m c) 0) e).symm
    show br0T _ _ _ (ix2 p q) = _
    rw [br0T_apply, sg_block, read6]
    unfold goalDy
    refine congrArg (· * _) (congrArg (gate _ _ _) (Fin.ext ?_))
    first | rfl | exact (by show q.val = 0 * 1024 + q.val; omega)
  · have h0 : (i 0 : Nat) < 4352 := (i 0).isLt
    have h1 : (i 1 : Nat) < 1024 := (i 1).isLt
    have hb : 16 - (i 0 : Nat) / 256 < cfg0.N := by omega
    refine ⟨⟨16 - (i 0 : Nat) / 256, hb⟩, flush0_9 _, ?_⟩
    show i ∈ ((View.whole main_v1_2).slice (win0_9.rect ⟨16 - (i 0 : Nat) / 256, hb⟩)).set
    rw [View.set_slice_whole, Rect.mem_set_unit]
    intro a
    match a with
    | ⟨0, _⟩ => show win0_9.index ⟨16 - (i 0 : Nat) / 256, hb⟩ (0 : Fin 2) * 256 ≤ (i 0 : Nat) ∧ (i 0 : Nat) < win0_9.index ⟨16 - (i 0 : Nat) / 256, hb⟩ (0 : Fin 2) * 256 + 256
                rw [(idx9 ⟨16 - (i 0 : Nat) / 256, hb⟩).1]; dsimp only; omega
    | ⟨1, _⟩ => show win0_9.index ⟨16 - (i 0 : Nat) / 256, hb⟩ (1 : Fin 2) * 1024 ≤ (i 1 : Nat) ∧ (i 1 : Nat) < win0_9.index ⟨16 - (i 0 : Nat) / 256, hb⟩ (1 : Fin 2) * 1024 + 1024
                rw [(idx9 ⟨16 - (i 0 : Nat) / 256, hb⟩).2]; omega

theorem idx10 : ∀ t : Fin cfg0.N, win0_10.index t (0 : Fin 2) = 16 - t.val ∧ win0_10.index t (1 : Fin 2) = 0 :=
  (by decide +kernel : ∀ t : Fin grid0.N, win0_10.index t (0 : Fin 2) = 16 - t.val ∧ win0_10.index t (1 : Fin 2) = 0)

theorem final10 : (dats m 0 c).arrAt 10 cfg0.N = goalDy (A0 m c) (A5 m c) (A6 m c) 1 := by
  have hN : cfg0.N = 17 := N_0
  refine (dats m 0 c).arrAt_eq_of_cover 10 _ (fun t hf => ?_) fun i => ?_
  · rw [Value.flushed10, rest_eq]
    funext j
    rw [View.read_apply]
    obtain ⟨p, q, rfl⟩ : ∃ (p : Fin 256) (q : Fin 1024), j = (ix2 p q : S256x1024.Idx) := ⟨j 0, j 1, eq_ix2 _⟩
    have e : ((cfg0.win 10).blk t).view.emb (ix2 p q) = (ix2 (row t p) q : S4352x1024.Idx) := by
      funext a
      apply Fin.ext
      match a with
      | ⟨0, _⟩ => show win0_10.index t (0 : Fin 2) * 256 + 1 * p.val = (16 - t.val) * 256 + p.val; rw [(idx10 t).1]; omega
      | ⟨1, _⟩ => show win0_10.index t (1 : Fin 2) * 1024 + 1 * q.val = q.val; rw [(idx10 t).2]; omega
    refine Eq.trans ?_ (congrArg (goalDy (A0 m c) (A5 m c) (A6 m c) 1) e).symm
    show br1T _ _ _ (ix2 p q) = _
    rw [br1T_apply, sg_block, read6]
    unfold goalDy
    refine congrArg (· * _) (congrArg (gate _ _ _) (Fin.ext ?_))
    first | rfl | exact (by show q.val = 0 * 1024 + q.val; omega)
  · have h0 : (i 0 : Nat) < 4352 := (i 0).isLt
    have h1 : (i 1 : Nat) < 1024 := (i 1).isLt
    have hb : 16 - (i 0 : Nat) / 256 < cfg0.N := by omega
    refine ⟨⟨16 - (i 0 : Nat) / 256, hb⟩, flush0_10 _, ?_⟩
    show i ∈ ((View.whole main_v1_3).slice (win0_10.rect ⟨16 - (i 0 : Nat) / 256, hb⟩)).set
    rw [View.set_slice_whole, Rect.mem_set_unit]
    intro a
    match a with
    | ⟨0, _⟩ => show win0_10.index ⟨16 - (i 0 : Nat) / 256, hb⟩ (0 : Fin 2) * 256 ≤ (i 0 : Nat) ∧ (i 0 : Nat) < win0_10.index ⟨16 - (i 0 : Nat) / 256, hb⟩ (0 : Fin 2) * 256 + 256
                rw [(idx10 ⟨16 - (i 0 : Nat) / 256, hb⟩).1]; dsimp only; omega
    | ⟨1, _⟩ => show win0_10.index ⟨16 - (i 0 : Nat) / 256, hb⟩ (1 : Fin 2) * 1024 ≤ (i 1 : Nat) ∧ (i 1 : Nat) < win0_10.index ⟨16 - (i 0 : Nat) / 256, hb⟩ (1 : Fin 2) * 1024 + 1024
                rw [(idx10 ⟨16 - (i 0 : Nat) / 256, hb⟩).2]; omega

theorem idx11 : ∀ t : Fin cfg0.N, win0_11.index t (0 : Fin 2) = 16 - t.val ∧ win0_11.index t (1 : Fin 2) = 0 :=
  (by decide +kernel : ∀ t : Fin grid0.N, win0_11.index t (0 : Fin 2) = 16 - t.val ∧ win0_11.index t (1 : Fin 2) = 0)

theorem final11 : (dats m 0 c).arrAt 11 cfg0.N = goalDy (A0 m c) (A5 m c) (A6 m c) 2 := by
  have hN : cfg0.N = 17 := N_0
  refine (dats m 0 c).arrAt_eq_of_cover 11 _ (fun t hf => ?_) fun i => ?_
  · rw [Value.flushed11, rest_eq]
    funext j
    rw [View.read_apply]
    obtain ⟨p, q, rfl⟩ : ∃ (p : Fin 256) (q : Fin 1024), j = (ix2 p q : S256x1024.Idx) := ⟨j 0, j 1, eq_ix2 _⟩
    have e : ((cfg0.win 11).blk t).view.emb (ix2 p q) = (ix2 (row t p) q : S4352x1024.Idx) := by
      funext a
      apply Fin.ext
      match a with
      | ⟨0, _⟩ => show win0_11.index t (0 : Fin 2) * 256 + 1 * p.val = (16 - t.val) * 256 + p.val; rw [(idx11 t).1]; omega
      | ⟨1, _⟩ => show win0_11.index t (1 : Fin 2) * 1024 + 1 * q.val = q.val; rw [(idx11 t).2]; omega
    refine Eq.trans ?_ (congrArg (goalDy (A0 m c) (A5 m c) (A6 m c) 2) e).symm
    show br2T _ _ _ (ix2 p q) = _
    rw [br2T_apply, sg_block, read6]
    unfold goalDy
    refine congrArg (· * _) (congrArg (gate _ _ _) (Fin.ext ?_))
    first | rfl | exact (by show q.val = 0 * 1024 + q.val; omega)
  · have h0 : (i 0 : Nat) < 4352 := (i 0).isLt
    have h1 : (i 1 : Nat) < 1024 := (i 1).isLt
    have hb : 16 - (i 0 : Nat) / 256 < cfg0.N := by omega
    refine ⟨⟨16 - (i 0 : Nat) / 256, hb⟩, flush0_11 _, ?_⟩
    show i ∈ ((View.whole main_v1_4).slice (win0_11.rect ⟨16 - (i 0 : Nat) / 256, hb⟩)).set
    rw [View.set_slice_whole, Rect.mem_set_unit]
    intro a
    match a with
    | ⟨0, _⟩ => show win0_11.index ⟨16 - (i 0 : Nat) / 256, hb⟩ (0 : Fin 2) * 256 ≤ (i 0 : Nat) ∧ (i 0 : Nat) < win0_11.index ⟨16 - (i 0 : Nat) / 256, hb⟩ (0 : Fin 2) * 256 + 256
                rw [(idx11 ⟨16 - (i 0 : Nat) / 256, hb⟩).1]; dsimp only; omega
    | ⟨1, _⟩ => show win0_11.index ⟨16 - (i 0 : Nat) / 256, hb⟩ (1 : Fin 2) * 1024 ≤ (i 1 : Nat) ∧ (i 1 : Nat) < win0_11.index ⟨16 - (i 0 : Nat) / 256, hb⟩ (1 : Fin 2) * 1024 + 1024
                rw [(idx11 ⟨16 - (i 0 : Nat) / 256, hb⟩).2]; omega

theorem idx12 : ∀ t : Fin cfg0.N, win0_12.index t (0 : Fin 2) = 16 - t.val ∧ win0_12.index t (1 : Fin 2) = 0 :=
  (by decide +kernel : ∀ t : Fin grid0.N, win0_12.index t (0 : Fin 2) = 16 - t.val ∧ win0_12.index t (1 : Fin 2) = 0)

theorem final12 : (dats m 0 c).arrAt 12 cfg0.N = goalDy (A0 m c) (A5 m c) (A6 m c) 3 := by
  have hN : cfg0.N = 17 := N_0
  refine (dats m 0 c).arrAt_eq_of_cover 12 _ (fun t hf => ?_) fun i => ?_
  · rw [Value.flushed12, rest_eq]
    funext j
    rw [View.read_apply]
    obtain ⟨p, q, rfl⟩ : ∃ (p : Fin 256) (q : Fin 1024), j = (ix2 p q : S256x1024.Idx) := ⟨j 0, j 1, eq_ix2 _⟩
    have e : ((cfg0.win 12).blk t).view.emb (ix2 p q) = (ix2 (row t p) q : S4352x1024.Idx) := by
      funext a
      apply Fin.ext
      match a with
      | ⟨0, _⟩ => show win0_12.index t (0 : Fin 2) * 256 + 1 * p.val = (16 - t.val) * 256 + p.val; rw [(idx12 t).1]; omega
      | ⟨1, _⟩ => show win0_12.index t (1 : Fin 2) * 1024 + 1 * q.val = q.val; rw [(idx12 t).2]; omega
    refine Eq.trans ?_ (congrArg (goalDy (A0 m c) (A5 m c) (A6 m c) 3) e).symm
    show br3T _ _ _ (ix2 p q) = _
    rw [br3T_apply, sg_block, read6]
    unfold goalDy
    refine congrArg (· * _) (congrArg (gate _ _ _) (Fin.ext ?_))
    first | rfl | exact (by show q.val = 0 * 1024 + q.val; omega)
  · have h0 : (i 0 : Nat) < 4352 := (i 0).isLt
    have h1 : (i 1 : Nat) < 1024 := (i 1).isLt
    have hb : 16 - (i 0 : Nat) / 256 < cfg0.N := by omega
    refine ⟨⟨16 - (i 0 : Nat) / 256, hb⟩, flush0_12 _, ?_⟩
    show i ∈ ((View.whole main_v1_5).slice (win0_12.rect ⟨16 - (i 0 : Nat) / 256, hb⟩)).set
    rw [View.set_slice_whole, Rect.mem_set_unit]
    intro a
    match a with
    | ⟨0, _⟩ => show win0_12.index ⟨16 - (i 0 : Nat) / 256, hb⟩ (0 : Fin 2) * 256 ≤ (i 0 : Nat) ∧ (i 0 : Nat) < win0_12.index ⟨16 - (i 0 : Nat) / 256, hb⟩ (0 : Fin 2) * 256 + 256
                rw [(idx12 ⟨16 - (i 0 : Nat) / 256, hb⟩).1]; dsimp only; omega
    | ⟨1, _⟩ => show win0_12.index ⟨16 - (i 0 : Nat) / 256, hb⟩ (1 : Fin 2) * 1024 ≤ (i 1 : Nat) ∧ (i 1 : Nat) < win0_12.index ⟨16 - (i 0 : Nat) / 256, hb⟩ (1 : Fin 2) * 1024 + 1024
                rw [(idx12 ⟨16 - (i 0 : Nat) / 256, hb⟩).2]; omega

end Blocks

end Cert.Proof.Mix

end
-- ==== Proof.MixRef.lean ====
/-  The reference's six results, read index by index: the same functions of the arguments. -/
module

public import proofs.«01_k».proof.Proof.MixGoal
public import proofs.«01_k».proof.Proof.Gen.MixRefIdeal.Read
public import Idealize.ShloMosaic.Lib.Pointwise

@[expose] public section

set_option maxRecDepth 16384

noncomputable section

namespace Cert.Proof.Mix.Ref

open Cert.MixRefIdeal Cert.MixRefIdeal.Gen Cert.MixRefIdeal.Read Idealize.ShloMosaic Cert.Proof.Mix

variable (g : Vec Ideal S4352x4096 .bf16) (y0 y1 y2 y3 : Vec Ideal S4352x1024 .bf16) (b : Vec Ideal S4x1024 .f32) (dy : Vec Ideal S4352x1024 .bf16)

/-- Column `r` of branch `k`. -/
abbrev cat (k : Fin 4) (r : Fin 1024) : Fin 4096 := ⟨k.val * 1024 + r.val, by omega⟩

theorem cat_div (k : Fin 4) (r : Fin 1024) : (⟨(cat k r).val / 1024, by omega⟩ : Fin 4) = k := Fin.ext (by show (k.val * 1024 + r.val) / 1024 = k.val; omega)
theorem cat_col (k : Fin 4) (r : Fin 1024) : col (cat k r) = r := Fin.ext (by show (k.val * 1024 + r.val) % 1024 = r.val; omega)

theorem gate_apply (p : Fin 4352) (k : Fin 4) (r : Fin 1024) :
    val_main_v19 (F := Ideal) g b (ix3 p k r) = gate g b p (cat k r) := by
  unfold gate
  rw [cat_div, cat_col]
  rw [val_main_v19_apply, val_main_v18_apply, val_main_cst_0_apply, val_main_v17_apply, val_main_v16_apply, val_main_cst_apply,
    val_main_v15_apply, val_main_v14_apply, val_main_v13_apply, val_main_v12_apply, val_main_v11_apply, val_main_v10_apply, val_main_v9_apply]
  have e : idx_main_v10 (ix3 p k r) = (ix2 p (cat k r) : S4352x4096.Idx) := by
    funext a
    apply Fin.ext
    match a with
    | ⟨0, _⟩ => show ((p.val * 4 + k.val) * 1024 + r.val) / 4096 = p.val; omega
    | ⟨1, _⟩ => show ((p.val * 4 + k.val) * 1024 + r.val) % 4096 = k.val * 1024 + r.val; omega
  have e' : idx_main_v11 (idx_main_v12 (ix3 p k r)) = (ix2 k r : S4x1024.Idx) := by
    funext a
    match a with
    | ⟨0, _⟩ => rfl
    | ⟨1, _⟩ => rfl
  rw [e, e']
  pointwise
  rfl

theorem ys_apply (p : Fin 4352) (k : Fin 4) (r : Fin 1024) :
    val_main_v8 (F := Ideal) y0 y1 y2 y3 (ix3 p k r) = pick k.val (y0 (ix2 p r)) (y1 (ix2 p r)) (y2 (ix2 p r)) (y3 (ix2 p r)) := by
  unfold pick val_main_v8 val_main_v4 val_main_v5 val_main_v6 val_main_v7 val_main_v0 val_main_v1 val_main_v2 val_main_v3
  pointwise
  have := k.isLt
  split_ifs <;> first | rfl | omega

theorem dy_apply (p : Fin 4352) (k : Fin 4) (r : Fin 1024) : val_main_v26 (F := Ideal) dy (ix3 p k r) = dy (ix2 p r) := by
  unfold val_main_v26 val_main_v25
  pointwise

/-- The pre-activation's gradient. -/
theorem pre_apply (p : Fin 4352) (k : Fin 4) (r : Fin 1024) :
    val_main_v29 (F := Ideal) g y0 y1 y2 y3 b dy (ix3 p k r) = gpre g y0 y1 y2 y3 b dy p (cat k r) := by
  unfold gpre cell
  rw [show (cat k r).val / 1024 = k.val by show (k.val * 1024 + r.val) / 1024 = k.val; omega, cat_col]
  rw [val_main_v29_apply, val_main_v28_apply, val_main_v22_apply, val_main_v21_apply, val_main_v20_apply, val_main_cst_1_apply,
    gate_apply, ys_apply, dy_apply]
  pointwise

/-- The gradient of branch `k`. -/
theorem br_apply (p : Fin 4352) (k : Fin 4) (r : Fin 1024) :
    val_main_v33 (F := Ideal) g b dy (ix3 p k r) = goalDy g b dy k (ix2 p r) := by
  unfold goalDy
  rw [val_main_v33_apply, val_main_v27_apply, gate_apply, dy_apply]
  rfl

/-- A column is column `q % 1024` of branch `q / 1024`. -/
theorem cat_eq (q : Fin 4096) : cat (⟨q.val / 1024, by omega⟩ : Fin 4) (col q) = q :=
  Fin.ext (by show q.val / 1024 * 1024 + q.val % 1024 = q.val; omega)

theorem dpre_eq : val_main_v36 (F := Ideal) g y0 y1 y2 y3 b dy = goalDpre g y0 y1 y2 y3 b dy := by
  funext i
  obtain ⟨p, q, rfl⟩ : ∃ (p : Fin 4352) (q : Fin 4096), i = (ix2 p q : S4352x4096.Idx) := ⟨i 0, i 1, eq_ix2 _⟩
  have e : idx_main_v36 (ix2 p q) = (ix3 p (⟨q.val / 1024, by omega⟩ : Fin 4) (col q) : S4352x4x1024.Idx) := by
    funext a
    apply Fin.ext
    match a with
    | ⟨0, _⟩ => show (p.val * 4096 + q.val) / 4096 = p.val; omega
    | ⟨1, _⟩ => show (p.val * 4096 + q.val) / 1024 % 4 = q.val / 1024; omega
    | ⟨2, _⟩ => show (p.val * 4096 + q.val) % 1024 = q.val % 1024; omega
  rw [val_main_v36_apply, e, val_main_v35_apply, pre_apply, cat_eq]
  rfl

/-- The rows summed away. -/
theorem sum_apply (k : Fin 4) (r : Fin 1024) :
    val_main_v32 (F := Ideal) g y0 y1 y2 y3 b dy (ix2 k r) = ∑ p : Fin 4352, gpre g y0 y1 y2 y3 b dy p (cat k r) := by
  have e2 : idx_main_v31 (idx_main_v32 (ix2 k r) 0) = (ix2 k r : S4x1024.Idx) := by
    funext a
    apply Fin.ext
    match a with
    | ⟨0, _⟩ => show ((0 * 4 + k.val) * 1024 + r.val) / 1024 = k.val; omega
    | ⟨1, _⟩ => show ((0 * 4 + k.val) * 1024 + r.val) % 1024 = r.val; omega
  have e3 (p : Fin 4352) : idx_main_v30 (ix2 k r) p = (ix3 p k r : S4352x4x1024.Idx) := by
    funext a
    match a with
    | ⟨0, _⟩ => rfl
    | ⟨1, _⟩ => rfl
    | ⟨2, _⟩ => rfl
  rw [val_main_v32_apply, Fin.sum_univ_one, val_main_v31_apply, e2, val_main_v30_apply, val_main_cst_3_apply, val_main_cst_4_apply]
  simp only [e3, pre_apply]
  pointwise

theorem db_eq : val_main_v34 (F := Ideal) g y0 y1 y2 y3 b dy = goalDb g y0 y1 y2 y3 b dy := by
  funext i
  obtain ⟨q, rfl⟩ : ∃ q : Fin 4096, i = (ix2 (0 : Fin 1) q : S1x4096.Idx) :=
    ⟨i 1, funext fun a => Fin.ext (by match a with | ⟨0, _⟩ => exact Nat.lt_one_iff.mp (i 0).isLt | ⟨1, _⟩ => rfl)⟩
  have e1 : idx_main_v34 (ix2 (0 : Fin 1) q) = (ix2 (⟨q.val / 1024, by omega⟩ : Fin 4) (col q) : S4x1024.Idx) := by
    funext a
    apply Fin.ext
    match a with
    | ⟨0, _⟩ => show (0 * 4096 + q.val) / 1024 = q.val / 1024; omega
    | ⟨1, _⟩ => show (0 * 4096 + q.val) % 1024 = q.val % 1024; omega
  rw [val_main_v34_apply, e1, sum_apply, cat_eq]
  rfl

theorem dy0_eq : val_main_v38 (F := Ideal) g b dy = goalDy g b dy 0 := by
  funext i
  obtain ⟨p, r, rfl⟩ : ∃ (p : Fin 4352) (r : Fin 1024), i = (ix2 p r : S4352x1024.Idx) := ⟨i 0, i 1, eq_ix2 _⟩
  rw [← br_apply]
  unfold val_main_v38 val_main_v37
  pointwise

theorem dy1_eq : val_main_v40 (F := Ideal) g b dy = goalDy g b dy 1 := by
  funext i
  obtain ⟨p, r, rfl⟩ : ∃ (p : Fin 4352) (r : Fin 1024), i = (ix2 p r : S4352x1024.Idx) := ⟨i 0, i 1, eq_ix2 _⟩
  rw [← br_apply]
  unfold val_main_v40 val_main_v39
  pointwise

theorem dy2_eq : val_main_v42 (F := Ideal) g b dy = goalDy g b dy 2 := by
  funext i
  obtain ⟨p, r, rfl⟩ : ∃ (p : Fin 4352) (r : Fin 1024), i = (ix2 p r : S4352x1024.Idx) := ⟨i 0, i 1, eq_ix2 _⟩
  rw [← br_apply]
  unfold val_main_v42 val_main_v41
  pointwise

theorem dy3_eq : val_main_v44 (F := Ideal) g b dy = goalDy g b dy 3 := by
  funext i
  obtain ⟨p, r, rfl⟩ : ∃ (p : Fin 4352) (r : Fin 1024), i = (ix2 p r : S4352x1024.Idx) := ⟨i 0, i 1, eq_ix2 _⟩
  rw [← br_apply]
  unfold val_main_v44 val_main_v43
  pointwise

end Cert.Proof.Mix.Ref

end
-- ==== Proof.MixClaim.lean ====
/-  The claims about the gradient of the gated merge of the four branches. -/
module

public import proofs.«01_k».proof.Defs
public import proofs.«01_k».proof.Proof.MixFinal
public import proofs.«01_k».proof.Proof.MixRef
public import proofs.«01_k».proof.Proof.Gen.MixRefIdeal.Run

@[expose] public section

set_option maxRecDepth 16384

noncomputable section

namespace Cert.Proof.Mix

open Idealize.ShloMosaic Idealize.SL.Sem

theorem frame_ref : Cert.quiescent_MixRefIdeal := fun m ρ _ =>
  (θ_run Cert.MixRefIdeal.defs _ _).mono (fun r h => ⟨fun c => (h c).2.2.2.2.2.2,
    sem_eq_zero_of_no_sems (by decide) r.2⟩) (Cert.MixRefIdeal.Value.run (F := Ideal) m ρ)

/-- The kernel's six arrays and the reference's are the same functions of the arguments. -/
theorem algebraic : Cert.algebraic_MixIdeal_MixRefIdeal := by
  intro m ρ m' ρ' _ hag
  refine ⟨fun c => goalDb (A0 m c) (A1 m c) (A2 m c) (A3 m c) (A4 m c) (A5 m c) (A6 m c),
    fun c => goalDpre (A0 m c) (A1 m c) (A2 m c) (A3 m c) (A4 m c) (A5 m c) (A6 m c),
    fun c => goalDy (A0 m c) (A5 m c) (A6 m c) 0, fun c => goalDy (A0 m c) (A5 m c) (A6 m c) 1,
    fun c => goalDy (A0 m c) (A5 m c) (A6 m c) 2, fun c => goalDy (A0 m c) (A5 m c) (A6 m c) 3, ?_, ?_⟩
  · refine (θ_run Cert.MixIdeal.defs _ _).mono (fun r h c => ?_) (Cert.MixIdeal.Value.run_blocks m ρ)
    obtain ⟨h7, h8, h9, h10, h11, h12, hk⟩ := h c
    exact ⟨h7.trans (final7 m c), h8.trans (final8 m c), h9.trans (final9 m c), h10.trans (final10 m c),
      h11.trans (final11 m c), h12.trans (final12 m c), hk⟩
  · refine (θ_run Cert.MixRefIdeal.defs _ _).mono (fun r h c => ?_) (Cert.MixRefIdeal.Value.run (F := Ideal) m' ρ')
    obtain ⟨e0, e1, e2, e3, e4, e5, e6⟩ := hag c
    obtain ⟨h1, h2, h3, h4, h5, h6, hk⟩ := h c
    refine ⟨h1.trans ?_, h2.trans ?_, h3.trans ?_, h4.trans ?_, h5.trans ?_, h6.trans ?_, hk⟩
    · rw [Cert.MixRefIdeal.Read.val_main_v34_eq, e0, e1, e2, e3, e4, e5, e6]; exact Ref.db_eq ..
    · rw [Cert.MixRefIdeal.Read.val_main_v36_eq, e0, e1, e2, e3, e4, e5, e6]; exact Ref.dpre_eq ..
    · rw [Cert.MixRefIdeal.Read.val_main_v38_eq, e0, e5, e6]; exact Ref.dy0_eq ..
    · rw [Cert.MixRefIdeal.Read.val_main_v40_eq, e0, e5, e6]; exact Ref.dy1_eq ..
    · rw [Cert.MixRefIdeal.Read.val_main_v42_eq, e0, e5, e6]; exact Ref.dy2_eq ..
    · rw [Cert.MixRefIdeal.Read.val_main_v44_eq, e0, e5, e6]; exact Ref.dy3_eq ..

end Cert.Proof.Mix

end
-- ==== Proof.InDaProd.lean ====
/-  The gradient of the input projection's operand: the sum over the eleven pieces of the projection of the piece's cotangent times
    its weights transposed, over row blocks of 256. -/
module

public import proofs.«01_k».proof.Defs
public import proofs.«01_k».proof.Proof.Gen.InDaIdeal.Value
public import proofs.«01_k».proof.Proof.Gen.InDaRefIdeal.Run
public import proofs.«01_k».proof.Proof.Gen.InDaRefIdeal.Read
public import Idealize.ShloMosaic.Lib.Pointwise

@[expose] public section

set_option maxRecDepth 16384

noncomputable section

namespace Cert.Proof.InDa

open Cert.InDaIdeal Cert.InDaIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The gradient of the projection's operand, cell by cell. -/
def goal (g0 : Vec Ideal S4352x1024 .f32) (g1 : Vec Ideal S4352x512 .f32) (g2 : Vec Ideal S4352x512 .f32) (g3 : Vec Ideal S4352x512 .f32) (g4 : Vec Ideal S4352x512 .f32) (g5 : Vec Ideal S4352x512 .f32) (g6 : Vec Ideal S4352x512 .f32) (g7 : Vec Ideal S4352x512 .f32) (g8 : Vec Ideal S4352x768 .f32) (g9 : Vec Ideal S4352x128 .f32) (g10 : Vec Ideal S4352x512 .f32) (w0 : Vec Ideal S1024x1024 .bf16) (w1 : Vec Ideal S1024x512 .bf16) (w2 : Vec Ideal S1024x512 .bf16) (w3 : Vec Ideal S1024x512 .bf16) (w4 : Vec Ideal S1024x512 .bf16) (w5 : Vec Ideal S1024x512 .bf16) (w6 : Vec Ideal S1024x512 .bf16) (w7 : Vec Ideal S1024x512 .bf16) (w8 : Vec Ideal S1024x768 .bf16) (w9 : Vec Ideal S1024x128 .bf16) (w10 : Vec Ideal S1024x512 .bf16) :
    Vec Ideal S4352x1024 .bf16 :=
  fun i => (∑ k : Fin 1024, (g0 (ix2 (i 0) k) : EReal) * (w0 (ix2 (i 1) k) : EReal)) + (∑ k : Fin 512, (g1 (ix2 (i 0) k) : EReal) * (w1 (ix2 (i 1) k) : EReal)) + (∑ k : Fin 512, (g2 (ix2 (i 0) k) : EReal) * (w2 (ix2 (i 1) k) : EReal)) + (∑ k : Fin 512, (g3 (ix2 (i 0) k) : EReal) * (w3 (ix2 (i 1) k) : EReal)) + (∑ k : Fin 512, (g4 (ix2 (i 0) k) : EReal) * (w4 (ix2 (i 1) k) : EReal)) + (∑ k : Fin 512, (g5 (ix2 (i 0) k) : EReal) * (w5 (ix2 (i 1) k) : EReal)) + (∑ k : Fin 512, (g6 (ix2 (i 0) k) : EReal) * (w6 (ix2 (i 1) k) : EReal)) + (∑ k : Fin 512, (g7 (ix2 (i 0) k) : EReal) * (w7 (ix2 (i 1) k) : EReal)) + (∑ k : Fin 768, (g8 (ix2 (i 0) k) : EReal) * (w8 (ix2 (i 1) k) : EReal)) + (∑ k : Fin 128, (g9 (ix2 (i 0) k) : EReal) * (w9 (ix2 (i 1) k) : EReal)) + (∑ k : Fin 512, (g10 (ix2 (i 0) k) : EReal) * (w10 (ix2 (i 1) k) : EReal))

theorem hz : (![0, 0] : Fin 2 → Nat) = fun _ => 0 := funext fun a => by fin_cases a <;> rfl

/-- The first six pieces of a block. -/
theorem first_apply (x0 : Vec Ideal S256x1024 .f32) (x11 : Vec Ideal S1024x1024 .bf16) (x1 : Vec Ideal S256x512 .f32) (x12 : Vec Ideal S1024x512 .bf16) (x2 : Vec Ideal S256x512 .f32) (x13 : Vec Ideal S1024x512 .bf16) (x3 : Vec Ideal S256x512 .f32) (x14 : Vec Ideal S1024x512 .bf16) (x4 : Vec Ideal S256x512 .f32) (x15 : Vec Ideal S1024x512 .bf16) (x5 : Vec Ideal S256x512 .f32) (x16 : Vec Ideal S1024x512 .bf16) (p : Fin 256) (q : Fin 1024) :
    (k0_pay2 x0 x11 x1 x12 x2 x13 x3 x14 x4 x15 x5 x16) (ix2 p q)
      = (∑ k : Fin 1024, (x0 (ix2 p k) : EReal) * (x11 (ix2 q k) : EReal)) + (∑ k : Fin 512, (x1 (ix2 p k) : EReal) * (x12 (ix2 q k) : EReal)) + (∑ k : Fin 512, (x2 (ix2 p k) : EReal) * (x13 (ix2 q k) : EReal)) + (∑ k : Fin 512, (x3 (ix2 p k) : EReal) * (x14 (ix2 q k) : EReal)) + (∑ k : Fin 512, (x4 (ix2 p k) : EReal) * (x15 (ix2 q k) : EReal)) + (∑ k : Fin 512, (x5 (ix2 p k) : EReal) * (x16 (ix2 q k) : EReal)) := by
  unfold k0_pay2
  pointwise

/-- What a grid point stores, cell by cell. -/
theorem out_apply (x0 : Vec Ideal S256x1024 .f32) (x1 : Vec Ideal S256x512 .f32) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S256x768 .f32) (x9 : Vec Ideal S256x128 .f32) (x10 : Vec Ideal S256x512 .f32) (x11 : Vec Ideal S1024x1024 .bf16) (x12 : Vec Ideal S1024x512 .bf16) (x13 : Vec Ideal S1024x512 .bf16) (x14 : Vec Ideal S1024x512 .bf16) (x15 : Vec Ideal S1024x512 .bf16) (x16 : Vec Ideal S1024x512 .bf16) (x17 : Vec Ideal S1024x512 .bf16) (x18 : Vec Ideal S1024x512 .bf16) (x19 : Vec Ideal S1024x768 .bf16) (x20 : Vec Ideal S1024x128 .bf16) (x21 : Vec Ideal S1024x512 .bf16) (p : Fin 256) (q : Fin 1024) :
    (out0_22 x0 x1 x2 x3 x4 x5 x6 x7 x8 x9 x10 x11 x12 x13 x14 x15 x16 x17 x18 x19 x20 x21) (ix2 p q) = (∑ k : Fin 1024, (x0 (ix2 p k) : EReal) * (x11 (ix2 q k) : EReal)) + (∑ k : Fin 512, (x1 (ix2 p k) : EReal) * (x12 (ix2 q k) : EReal)) + (∑ k : Fin 512, (x2 (ix2 p k) : EReal) * (x13 (ix2 q k) : EReal)) + (∑ k : Fin 512, (x3 (ix2 p k) : EReal) * (x14 (ix2 q k) : EReal)) + (∑ k : Fin 512, (x4 (ix2 p k) : EReal) * (x15 (ix2 q k) : EReal)) + (∑ k : Fin 512, (x5 (ix2 p k) : EReal) * (x16 (ix2 q k) : EReal)) + (∑ k : Fin 512, (x6 (ix2 p k) : EReal) * (x17 (ix2 q k) : EReal)) + (∑ k : Fin 512, (x7 (ix2 p k) : EReal) * (x18 (ix2 q k) : EReal)) + (∑ k : Fin 768, (x8 (ix2 p k) : EReal) * (x19 (ix2 q k) : EReal)) + (∑ k : Fin 128, (x9 (ix2 p k) : EReal) * (x20 (ix2 q k) : EReal)) + (∑ k : Fin 512, (x10 (ix2 p k) : EReal) * (x21 (ix2 q k) : EReal)) := by
  have e : out0_22 x0 x1 x2 x3 x4 x5 x6 x7 x8 x9 x10 x11 x12 x13 x14 x15 x16 x17 x18 x19 x20 x21 = k0_pay1 (k0_pay2 x0 x11 x1 x12 x2 x13 x3 x14 x4 x15 x5 x16) x6 x17 x7 x18 x8 x19 x9 x20 x10 x21 := by
    unfold out0_22
    rw [View.canon_unit_zero hz]
    simp only [View.ld_unit_zero (S := S1024x1024) hz, View.ld_unit_zero (S := S1024x128) hz, View.ld_unit_zero (S := S1024x512) hz, View.ld_unit_zero (S := S1024x768) hz, View.ld_unit_zero (S := S256x1024) hz, View.ld_unit_zero (S := S256x128) hz, View.ld_unit_zero (S := S256x512) hz, View.ld_unit_zero (S := S256x768) hz]
  rw [e]
  have h := first_apply x0 x11 x1 x12 x2 x13 x3 x14 x4 x15 x5 x16 p q
  rw [← h]
  generalize k0_pay2 x0 x11 x1 x12 x2 x13 x3 x14 x4 x15 x5 x16 = y
  unfold k0_pay1
  pointwise

abbrev row (t : Fin cfg0.N) (p : Fin 256) : Fin 4352 := ⟨t.val * 256 + p.val, by have := t.isLt; have : cfg0.N = 17 := N_0; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (k : Fin 1024) :
    (iblk m c 0 t : Vec Ideal S256x1024 .f32) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (k : Fin 512) :
    (iblk m c 1 t : Vec Ideal S256x512 .f32) (ix2 p k) = m ((c : Thread nD τ).loc main_arg1) (ix2 (row t p) k) := by
  unfold iblk
  rw [View.read_apply]
  show V m c main_arg1 _ = _
  rw [V_main_arg1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 512 + 1 * k.val = k.val; rw [(idx1 t).2]; omega

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (k : Fin 512) :
    (iblk m c 2 t : Vec Ideal S256x512 .f32) (ix2 p k) = m ((c : Thread nD τ).loc main_arg2) (ix2 (row t p) k) := by
  unfold iblk
  rw [View.read_apply]
  show V m c main_arg2 _ = _
  rw [V_main_arg2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 512 + 1 * k.val = k.val; rw [(idx2 t).2]; omega

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (k : Fin 512) :
    (iblk m c 3 t : Vec Ideal S256x512 .f32) (ix2 p k) = m ((c : Thread nD τ).loc main_arg3) (ix2 (row t p) k) := by
  unfold iblk
  rw [View.read_apply]
  show V m c main_arg3 _ = _
  rw [V_main_arg3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 512 + 1 * k.val = k.val; rw [(idx3 t).2]; omega

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem read4 (c : Dev nD) (t : Fin cfg0.N) (p : Fin 256) (k : Fin 512) :
    (iblk m c 4 t : Vec Ideal S256x512 .f32) (ix2 p k) = m ((c : Thread nD τ).loc main_arg4) (ix2 (row t p) k) := by
  unfold iblk
  rw [View.read_apply]
  show V m c main_arg4 _ = _
  rw [V_main_arg4]
  congr 1
  funext x
  apply Fin.ext
  match x with
  | ⟨0, _⟩ => show win0_4.index t (0 : Fin 2) * 256 + 1 * p.val = t.val * 256 + p.val; rw [(idx4 t).1]; omega
  | ⟨1, _⟩ => show win0_4.index t (1 : Fin 2) * 512 + 1 * k.val = k.val; rw [(idx4 t).2]; omega

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem read5 (c : Dev nD) (t : Fin cfg0.N) (p : Fin 256) (k : Fin 512) :
    (iblk m c 5 t : Vec Ideal S256x512 .f32) (ix2 p k) = m ((c : Thread nD τ).loc main_arg5) (ix2 (row t p) k) := by
  unfold iblk
  rw [View.read_apply]
  show V m c main_arg5 _ = _
  rw [V_main_arg5]
  congr 1
  funext x
  apply Fin.ext
  match x with
  | ⟨0, _⟩ => show win0_5.index t (0 : Fin 2) * 256 + 1 * p.val = t.val * 256 + p.val; rw [(idx5 t).1]; omega
  | ⟨1, _⟩ => show win0_5.index t (1 : Fin 2) * 512 + 1 * k.val = k.val; rw [(idx5 t).2]; omega

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem read6 (c : Dev nD) (t : Fin cfg0.N) (p : Fin 256) (k : Fin 512) :
    (iblk m c 6 t : Vec Ideal S256x512 .f32) (ix2 p k) = m ((c : Thread nD τ).loc main_arg6) (ix2 (row t p) k) := by
  unfold iblk
  rw [View.read_apply]
  show V m c main_arg6 _ = _
  rw [V_main_arg6]
  congr 1
  funext x
  apply Fin.ext
  match x with
  | ⟨0, _⟩ => show win0_6.index t (0 : Fin 2) * 256 + 1 * p.val = t.val * 256 + p.val; rw [(idx6 t).1]; omega
  | ⟨1, _⟩ => show win0_6.index t (1 : Fin 2) * 512 + 1 * k.val = k.val; rw [(idx6 t).2]; omega

theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem read7 (c : Dev nD) (t : Fin cfg0.N) (p : Fin 256) (k : Fin 512) :
    (iblk m c 7 t : Vec Ideal S256x512 .f32) (ix2 p k) = m ((c : Thread nD τ).loc main_arg7) (ix2 (row t p) k) := by
  unfold iblk
  rw [View.read_apply]
  show V m c main_arg7 _ = _
  rw [V_main_arg7]
  congr 1
  funext x
  apply Fin.ext
  match x with
  | ⟨0, _⟩ => show win0_7.index t (0 : Fin 2) * 256 + 1 * p.val = t.val * 256 + p.val; rw [(idx7 t).1]; omega
  | ⟨1, _⟩ => show win0_7.index t (1 : Fin 2) * 512 + 1 * k.val = k.val; rw [(idx7 t).2]; omega

theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem read8 (c : Dev nD) (t : Fin cfg0.N) (p : Fin 256) (k : Fin 768) :
    (iblk m c 8 t : Vec Ideal S256x768 .f32) (ix2 p k) = m ((c : Thread nD τ).loc main_arg8) (ix2 (row t p) k) := by
  unfold iblk
  rw [View.read_apply]
  show V m c main_arg8 _ = _
  rw [V_main_arg8]
  congr 1
  funext x
  apply Fin.ext
  match x with
  | ⟨0, _⟩ => show win0_8.index t (0 : Fin 2) * 256 + 1 * p.val = t.val * 256 + p.val; rw [(idx8 t).1]; omega
  | ⟨1, _⟩ => show win0_8.index t (1 : Fin 2) * 768 + 1 * k.val = k.val; rw [(idx8 t).2]; omega

theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem read9 (c : Dev nD) (t : Fin cfg0.N) (p : Fin 256) (k : Fin 128) :
    (iblk m c 9 t : Vec Ideal S256x128 .f32) (ix2 p k) = m ((c : Thread nD τ).loc main_arg9) (ix2 (row t p) k) := by
  unfold iblk
  rw [View.read_apply]
  show V m c main_arg9 _ = _
  rw [V_main_arg9]
  congr 1
  funext x
  apply Fin.ext
  match x with
  | ⟨0, _⟩ => show win0_9.index t (0 : Fin 2) * 256 + 1 * p.val = t.val * 256 + p.val; rw [(idx9 t).1]; omega
  | ⟨1, _⟩ => show win0_9.index t (1 : Fin 2) * 128 + 1 * k.val = k.val; rw [(idx9 t).2]; omega

theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

theorem read10 (c : Dev nD) (t : Fin cfg0.N) (p : Fin 256) (k : Fin 512) :
    (iblk m c 10 t : Vec Ideal S256x512 .f32) (ix2 p k) = m ((c : Thread nD τ).loc main_arg10) (ix2 (row t p) k) := by
  unfold iblk
  rw [View.read_apply]
  show V m c main_arg10 _ = _
  rw [V_main_arg10]
  congr 1
  funext x
  apply Fin.ext
  match x with
  | ⟨0, _⟩ => show win0_10.index t (0 : Fin 2) * 256 + 1 * p.val = t.val * 256 + p.val; rw [(idx10 t).1]; omega
  | ⟨1, _⟩ => show win0_10.index t (1 : Fin 2) * 512 + 1 * k.val = k.val; rw [(idx10 t).2]; omega

theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

theorem read11 (c : Dev nD) (t : Fin cfg0.N) (q : Fin 1024) (k : Fin 1024) :
    (iblk m c 11 t : Vec Ideal S1024x1024 .bf16) (ix2 q k) = m ((c : Thread nD τ).loc main_arg11) (ix2 q k) := by
  unfold iblk
  rw [View.read_apply]
  show V m c main_arg11 _ = _
  rw [V_main_arg11]
  congr 1
  funext x
  apply Fin.ext
  match x with
  | ⟨0, _⟩ => show win0_11.index t (0 : Fin 2) * 1024 + 1 * q.val = q.val; rw [(idx11 t).1]; omega
  | ⟨1, _⟩ => show win0_11.index t (1 : Fin 2) * 1024 + 1 * k.val = k.val; rw [(idx11 t).2]; omega

theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

theorem read12 (c : Dev nD) (t : Fin cfg0.N) (q : Fin 1024) (k : Fin 512) :
    (iblk m c 12 t : Vec Ideal S1024x512 .bf16) (ix2 q k) = m ((c : Thread nD τ).loc main_arg12) (ix2 q k) := by
  unfold iblk
  rw [View.read_apply]
  show V m c main_arg12 _ = _
  rw [V_main_arg12]
  congr 1
  funext x
  apply Fin.ext
  match x with
  | ⟨0, _⟩ => show win0_12.index t (0 : Fin 2) * 1024 + 1 * q.val = q.val; rw [(idx12 t).1]; omega
  | ⟨1, _⟩ => show win0_12.index t (1 : Fin 2) * 512 + 1 * k.val = k.val; rw [(idx12 t).2]; omega

theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem read13 (c : Dev nD) (t : Fin cfg0.N) (q : Fin 1024) (k : Fin 512) :
    (iblk m c 13 t : Vec Ideal S1024x512 .bf16) (ix2 q k) = m ((c : Thread nD τ).loc main_arg13) (ix2 q k) := by
  unfold iblk
  rw [View.read_apply]
  show V m c main_arg13 _ = _
  rw [V_main_arg13]
  congr 1
  funext x
  apply Fin.ext
  match x with
  | ⟨0, _⟩ => show win0_13.index t (0 : Fin 2) * 1024 + 1 * q.val = q.val; rw [(idx13 t).1]; omega
  | ⟨1, _⟩ => show win0_13.index t (1 : Fin 2) * 512 + 1 * k.val = k.val; rw [(idx13 t).2]; omega

theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

theorem read14 (c : Dev nD) (t : Fin cfg0.N) (q : Fin 1024) (k : Fin 512) :
    (iblk m c 14 t : Vec Ideal S1024x512 .bf16) (ix2 q k) = m ((c : Thread nD τ).loc main_arg14) (ix2 q k) := by
  unfold iblk
  rw [View.read_apply]
  show V m c main_arg14 _ = _
  rw [V_main_arg14]
  congr 1
  funext x
  apply Fin.ext
  match x with
  | ⟨0, _⟩ => show win0_14.index t (0 : Fin 2) * 1024 + 1 * q.val = q.val; rw [(idx14 t).1]; omega
  | ⟨1, _⟩ => show win0_14.index t (1 : Fin 2) * 512 + 1 * k.val = k.val; rw [(idx14 t).2]; omega

theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

theorem read15 (c : Dev nD) (t : Fin cfg0.N) (q : Fin 1024) (k : Fin 512) :
    (iblk m c 15 t : Vec Ideal S1024x512 .bf16) (ix2 q k) = m ((c : Thread nD τ).loc main_arg15) (ix2 q k) := by
  unfold iblk
  rw [View.read_apply]
  show V m c main_arg15 _ = _
  rw [V_main_arg15]
  congr 1
  funext x
  apply Fin.ext
  match x with
  | ⟨0, _⟩ => show win0_15.index t (0 : Fin 2) * 1024 + 1 * q.val = q.val; rw [(idx15 t).1]; omega
  | ⟨1, _⟩ => show win0_15.index t (1 : Fin 2) * 512 + 1 * k.val = k.val; rw [(idx15 t).2]; omega

theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem read16 (c : Dev nD) (t : Fin cfg0.N) (q : Fin 1024) (k : Fin 512) :
    (iblk m c 16 t : Vec Ideal S1024x512 .bf16) (ix2 q k) = m ((c : Thread nD τ).loc main_arg16) (ix2 q k) := by
  unfold iblk
  rw [View.read_apply]
  show V m c main_arg16 _ = _
  rw [V_main_arg16]
  congr 1
  funext x
  apply Fin.ext
  match x with
  | ⟨0, _⟩ => show win0_16.index t (0 : Fin 2) * 1024 + 1 * q.val = q.val; rw [(idx16 t).1]; omega
  | ⟨1, _⟩ => show win0_16.index t (1 : Fin 2) * 512 + 1 * k.val = k.val; rw [(idx16 t).2]; omega

theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem read17 (c : Dev nD) (t : Fin cfg0.N) (q : Fin 1024) (k : Fin 512) :
    (iblk m c 17 t : Vec Ideal S1024x512 .bf16) (ix2 q k) = m ((c : Thread nD τ).loc main_arg17) (ix2 q k) := by
  unfold iblk
  rw [View.read_apply]
  show V m c main_arg17 _ = _
  rw [V_main_arg17]
  congr 1
  funext x
  apply Fin.ext
  match x with
  | ⟨0, _⟩ => show win0_17.index t (0 : Fin 2) * 1024 + 1 * q.val = q.val; rw [(idx17 t).1]; omega
  | ⟨1, _⟩ => show win0_17.index t (1 : Fin 2) * 512 + 1 * k.val = k.val; rw [(idx17 t).2]; omega

theorem idx18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)

theorem read18 (c : Dev nD) (t : Fin cfg0.N) (q : Fin 1024) (k : Fin 512) :
    (iblk m c 18 t : Vec Ideal S1024x512 .bf16) (ix2 q k) = m ((c : Thread nD τ).loc main_arg18) (ix2 q k) := by
  unfold iblk
  rw [View.read_apply]
  show V m c main_arg18 _ = _
  rw [V_main_arg18]
  congr 1
  funext x
  apply Fin.ext
  match x with
  | ⟨0, _⟩ => show win0_18.index t (0 : Fin 2) * 1024 + 1 * q.val = q.val; rw [(idx18 t).1]; omega
  | ⟨1, _⟩ => show win0_18.index t (1 : Fin 2) * 512 + 1 * k.val = k.val; rw [(idx18 t).2]; omega

theorem idx19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)

theorem read19 (c : Dev nD) (t : Fin cfg0.N) (q : Fin 1024) (k : Fin 768) :
    (iblk m c 19 t : Vec Ideal S1024x768 .bf16) (ix2 q k) = m ((c : Thread nD τ).loc main_arg19) (ix2 q k) := by
  unfold iblk
  rw [View.read_apply]
  show V m c main_arg19 _ = _
  rw [V_main_arg19]
  congr 1
  funext x
  apply Fin.ext
  match x with
  | ⟨0, _⟩ => show win0_19.index t (0 : Fin 2) * 1024 + 1 * q.val = q.val; rw [(idx19 t).1]; omega
  | ⟨1, _⟩ => show win0_19.index t (1 : Fin 2) * 768 + 1 * k.val = k.val; rw [(idx19 t).2]; omega

theorem idx20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)

theorem read20 (c : Dev nD) (t : Fin cfg0.N) (q : Fin 1024) (k : Fin 128) :
    (iblk m c 20 t : Vec Ideal S1024x128 .bf16) (ix2 q k) = m ((c : Thread nD τ).loc main_arg20) (ix2 q k) := by
  unfold iblk
  rw [View.read_apply]
  show V m c main_arg20 _ = _
  rw [V_main_arg20]
  congr 1
  funext x
  apply Fin.ext
  match x with
  | ⟨0, _⟩ => show win0_20.index t (0 : Fin 2) * 1024 + 1 * q.val = q.val; rw [(idx20 t).1]; omega
  | ⟨1, _⟩ => show win0_20.index t (1 : Fin 2) * 128 + 1 * k.val = k.val; rw [(idx20 t).2]; omega

theorem idx21 : ∀ t : Fin cfg0.N, win0_21.index t (0 : Fin 2) = 0 ∧ win0_21.index t (1 : Fin 2) = 0 :=
  (by decide +kernel : ∀ t : Fin grid0.N, win0_21.index t (0 : Fin 2) = 0 ∧ win0_21.index t (1 : Fin 2) = 0)

theorem read21 (c : Dev nD) (t : Fin cfg0.N) (q : Fin 1024) (k : Fin 512) :
    (iblk m c 21 t : Vec Ideal S1024x512 .bf16) (ix2 q k) = m ((c : Thread nD τ).loc main_arg21) (ix2 q k) := by
  unfold iblk
  rw [View.read_apply]
  show V m c main_arg21 _ = _
  rw [V_main_arg21]
  congr 1
  funext x
  apply Fin.ext
  match x with
  | ⟨0, _⟩ => show win0_21.index t (0 : Fin 2) * 1024 + 1 * q.val = q.val; rw [(idx21 t).1]; omega
  | ⟨1, _⟩ => show win0_21.index t (1 : Fin 2) * 512 + 1 * k.val = k.val; rw [(idx21 t).2]; omega

theorem idx22 : ∀ t : Fin cfg0.N, win0_22.index t (0 : Fin 2) = t.val ∧ win0_22.index t (1 : Fin 2) = 0 :=
  (by decide +kernel : ∀ t : Fin grid0.N, win0_22.index t (0 : Fin 2) = t.val ∧ win0_22.index t (1 : Fin 2) = 0)

theorem final (c : Dev nD) : (dats m 0 c).arrAt 22 cfg0.N
    = goal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have hN : cfg0.N = 17 := N_0
  refine (dats m 0 c).arrAt_eq_of_cover 22 _ (fun t hf => ?_) fun i => ?_
  · rw [Value.flushed22]
    funext j
    rw [View.read_apply]
    obtain ⟨p, q, rfl⟩ : ∃ (p : Fin 256) (q : Fin 1024), j = (ix2 p q : S256x1024.Idx) := ⟨j 0, j 1, eq_ix2 _⟩
    have e : ((cfg0.win 22).blk t).view.emb (ix2 p q) = (ix2 (row t p) q : S4352x1024.Idx) := by
      funext x
      apply Fin.ext
      match x with
      | ⟨0, _⟩ => show win0_22.index t (0 : Fin 2) * 256 + 1 * p.val = t.val * 256 + p.val; rw [(idx22 t).1]; omega
      | ⟨1, _⟩ => show win0_22.index t (1 : Fin 2) * 1024 + 1 * q.val = q.val; rw [(idx22 t).2]; omega
    refine Eq.trans ?_ (congrArg (goal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) e).symm
    show out0_22 _ _ _ _ _ _ _ _ _ _ _ _ _ _ _ _ _ _ _ _ _ _ (ix2 p q) = _
    rw [out_apply]
    unfold goal
    simp only [read0, read1, read2, read3, read4, read5, read6, read7, read8, read9, read10, read11, read12, read13, read14, read15, read16, read17, read18, read19, read20, read21]
    rfl
  · have h0 : (i 0 : Nat) < 4352 := (i 0).isLt
    have h1 : (i 1 : Nat) < 1024 := (i 1).isLt
    have hb : (i 0 : Nat) / 256 < cfg0.N := by omega
    refine ⟨⟨(i 0 : Nat) / 256, hb⟩, flush0_22 _, ?_⟩
    show i ∈ ((View.whole main_v0).slice (win0_22.rect ⟨(i 0 : Nat) / 256, hb⟩)).set
    rw [View.set_slice_whole, Rect.mem_set_unit]
    intro x
    match x with
    | ⟨0, _⟩ => show win0_22.index ⟨(i 0 : Nat) / 256, hb⟩ (0 : Fin 2) * 256 ≤ (i 0 : Nat) ∧ (i 0 : Nat) < win0_22.index ⟨(i 0 : Nat) / 256, hb⟩ (0 : Fin 2) * 256 + 256
                rw [(idx22 ⟨(i 0 : Nat) / 256, hb⟩).1]; dsimp only; omega
    | ⟨1, _⟩ => show win0_22.index ⟨(i 0 : Nat) / 256, hb⟩ (1 : Fin 2) * 1024 ≤ (i 1 : Nat) ∧ (i 1 : Nat) < win0_22.index ⟨(i 0 : Nat) / 256, hb⟩ (1 : Fin 2) * 1024 + 1024
                rw [(idx22 ⟨(i 0 : Nat) / 256, hb⟩).2]; omega

/-! ## The reference: the same eleven products, added from the last to the first -/

theorem ref_piece0 (g : Vec Ideal S4352x1024 .f32) (w : Vec Ideal S1024x1024 .bf16) (i : S4352x1024.Idx) :
    Cert.InDaRefIdeal.Read.val_main_v42 (F := Ideal) g w i = ∑ k : Fin 1024, (g (ix2 (i 0) k) : EReal) * (w (ix2 (i 1) k) : EReal) := by
  rw [Cert.InDaRefIdeal.Read.val_main_v42_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece1 (g : Vec Ideal S4352x512 .f32) (w : Vec Ideal S1024x512 .bf16) (i : S4352x1024.Idx) :
    Cert.InDaRefIdeal.Read.val_main_v40 (F := Ideal) g w i = ∑ k : Fin 512, (g (ix2 (i 0) k) : EReal) * (w (ix2 (i 1) k) : EReal) := by
  rw [Cert.InDaRefIdeal.Read.val_main_v40_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece2 (g : Vec Ideal S4352x512 .f32) (w : Vec Ideal S1024x512 .bf16) (i : S4352x1024.Idx) :
    Cert.InDaRefIdeal.Read.val_main_v38 (F := Ideal) g w i = ∑ k : Fin 512, (g (ix2 (i 0) k) : EReal) * (w (ix2 (i 1) k) : EReal) := by
  rw [Cert.InDaRefIdeal.Read.val_main_v38_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece3 (g : Vec Ideal S4352x512 .f32) (w : Vec Ideal S1024x512 .bf16) (i : S4352x1024.Idx) :
    Cert.InDaRefIdeal.Read.val_main_v36 (F := Ideal) g w i = ∑ k : Fin 512, (g (ix2 (i 0) k) : EReal) * (w (ix2 (i 1) k) : EReal) := by
  rw [Cert.InDaRefIdeal.Read.val_main_v36_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece4 (g : Vec Ideal S4352x512 .f32) (w : Vec Ideal S1024x512 .bf16) (i : S4352x1024.Idx) :
    Cert.InDaRefIdeal.Read.val_main_v34 (F := Ideal) g w i = ∑ k : Fin 512, (g (ix2 (i 0) k) : EReal) * (w (ix2 (i 1) k) : EReal) := by
  rw [Cert.InDaRefIdeal.Read.val_main_v34_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece5 (g : Vec Ideal S4352x512 .f32) (w : Vec Ideal S1024x512 .bf16) (i : S4352x1024.Idx) :
    Cert.InDaRefIdeal.Read.val_main_v32 (F := Ideal) g w i = ∑ k : Fin 512, (g (ix2 (i 0) k) : EReal) * (w (ix2 (i 1) k) : EReal) := by
  rw [Cert.InDaRefIdeal.Read.val_main_v32_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece6 (g : Vec Ideal S4352x512 .f32) (w : Vec Ideal S1024x512 .bf16) (i : S4352x1024.Idx) :
    Cert.InDaRefIdeal.Read.val_main_v30 (F := Ideal) g w i = ∑ k : Fin 512, (g (ix2 (i 0) k) : EReal) * (w (ix2 (i 1) k) : EReal) := by
  rw [Cert.InDaRefIdeal.Read.val_main_v30_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece7 (g : Vec Ideal S4352x512 .f32) (w : Vec Ideal S1024x512 .bf16) (i : S4352x1024.Idx) :
    Cert.InDaRefIdeal.Read.val_main_v28 (F := Ideal) g w i = ∑ k : Fin 512, (g (ix2 (i 0) k) : EReal) * (w (ix2 (i 1) k) : EReal) := by
  rw [Cert.InDaRefIdeal.Read.val_main_v28_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece8 (g : Vec Ideal S4352x768 .f32) (w : Vec Ideal S1024x768 .bf16) (i : S4352x1024.Idx) :
    Cert.InDaRefIdeal.Read.val_main_v26 (F := Ideal) g w i = ∑ k : Fin 768, (g (ix2 (i 0) k) : EReal) * (w (ix2 (i 1) k) : EReal) := by
  rw [Cert.InDaRefIdeal.Read.val_main_v26_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece9 (g : Vec Ideal S4352x128 .f32) (w : Vec Ideal S1024x128 .bf16) (i : S4352x1024.Idx) :
    Cert.InDaRefIdeal.Read.val_main_v24 (F := Ideal) g w i = ∑ k : Fin 128, (g (ix2 (i 0) k) : EReal) * (w (ix2 (i 1) k) : EReal) := by
  rw [Cert.InDaRefIdeal.Read.val_main_v24_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem ref_piece10 (g : Vec Ideal S4352x512 .f32) (w : Vec Ideal S1024x512 .bf16) (i : S4352x1024.Idx) :
    Cert.InDaRefIdeal.Read.val_main_v23 (F := Ideal) g w i = ∑ k : Fin 512, (g (ix2 (i 0) k) : EReal) * (w (ix2 (i 1) k) : EReal) := by
  rw [Cert.InDaRefIdeal.Read.val_main_v23_apply]
  refine Finset.sum_congr rfl fun k _ => ?_
  exact congrArg₂ (fun x y : EReal => x * y) (congrArg g (funext fun x => by match x with | ⟨0, _⟩ => rfl | ⟨1, _⟩ => rfl))
    (congrArg w (funext fun x => by match x with | ⟨0, _⟩ => rfl | ⟨1, _⟩ => rfl))

theorem reversed (s0 s1 s2 s3 s4 s5 s6 s7 s8 s9 s10 : EReal) : s10 + s9 + s8 + s7 + s6 + s5 + s4 + s3 + s2 + s1 + s0 = s0 + s1 + s2 + s3 + s4 + s5 + s6 + s7 + s8 + s9 + s10 := by
  simp only [add_assoc, add_comm, add_left_comm]

theorem ref_eq (g0 : Vec Ideal S4352x1024 .f32) (g1 : Vec Ideal S4352x512 .f32) (g2 : Vec Ideal S4352x512 .f32) (g3 : Vec Ideal S4352x512 .f32) (g4 : Vec Ideal S4352x512 .f32) (g5 : Vec Ideal S4352x512 .f32) (g6 : Vec Ideal S4352x512 .f32) (g7 : Vec Ideal S4352x512 .f32) (g8 : Vec Ideal S4352x768 .f32) (g9 : Vec Ideal S4352x128 .f32) (g10 : Vec Ideal S4352x512 .f32) (w0 : Vec Ideal S1024x1024 .bf16) (w1 : Vec Ideal S1024x512 .bf16) (w2 : Vec Ideal S1024x512 .bf16) (w3 : Vec Ideal S1024x512 .bf16) (w4 : Vec Ideal S1024x512 .bf16) (w5 : Vec Ideal S1024x512 .bf16) (w6 : Vec Ideal S1024x512 .bf16) (w7 : Vec Ideal S1024x512 .bf16) (w8 : Vec Ideal S1024x768 .bf16) (w9 : Vec Ideal S1024x128 .bf16) (w10 : Vec Ideal S1024x512 .bf16) :
    Cert.InDaRefIdeal.Read.val_main_v44 (F := Ideal) g0 g1 g2 g3 g4 g5 g6 g7 g8 g9 g10 w0 w1 w2 w3 w4 w5 w6 w7 w8 w9 w10 = goal g0 g1 g2 g3 g4 g5 g6 g7 g8 g9 g10 w0 w1 w2 w3 w4 w5 w6 w7 w8 w9 w10 := by
  funext i
  rw [Cert.InDaRefIdeal.Read.val_main_v44_apply, Cert.InDaRefIdeal.Read.val_main_v43_apply, Cert.InDaRefIdeal.Read.val_main_v41_apply, Cert.InDaRefIdeal.Read.val_main_v39_apply, Cert.InDaRefIdeal.Read.val_main_v37_apply, Cert.InDaRefIdeal.Read.val_main_v35_apply, Cert.InDaRefIdeal.Read.val_main_v33_apply, Cert.InDaRefIdeal.Read.val_main_v31_apply, Cert.InDaRefIdeal.Read.val_main_v29_apply, Cert.InDaRefIdeal.Read.val_main_v27_apply, Cert.InDaRefIdeal.Read.val_main_v25_apply, ref_piece0, ref_piece1, ref_piece2, ref_piece3, ref_piece4, ref_piece5, ref_piece6, ref_piece7, ref_piece8, ref_piece9, ref_piece10]
  exact reversed _ _ _ _ _ _ _ _ _ _ _

/-- The same where the arguments are given through equalities. -/
theorem ref_at {g0 : Vec Ideal S4352x1024 .f32} {g1 : Vec Ideal S4352x512 .f32} {g2 : Vec Ideal S4352x512 .f32} {g3 : Vec Ideal S4352x512 .f32} {g4 : Vec Ideal S4352x512 .f32} {g5 : Vec Ideal S4352x512 .f32} {g6 : Vec Ideal S4352x512 .f32} {g7 : Vec Ideal S4352x512 .f32} {g8 : Vec Ideal S4352x768 .f32} {g9 : Vec Ideal S4352x128 .f32} {g10 : Vec Ideal S4352x512 .f32} {w0 : Vec Ideal S1024x1024 .bf16} {w1 : Vec Ideal S1024x512 .bf16} {w2 : Vec Ideal S1024x512 .bf16} {w3 : Vec Ideal S1024x512 .bf16} {w4 : Vec Ideal S1024x512 .bf16} {w5 : Vec Ideal S1024x512 .bf16} {w6 : Vec Ideal S1024x512 .bf16} {w7 : Vec Ideal S1024x512 .bf16} {w8 : Vec Ideal S1024x768 .bf16} {w9 : Vec Ideal S1024x128 .bf16} {w10 : Vec Ideal S1024x512 .bf16} {g0' : Vec Ideal S4352x1024 .f32} {g1' : Vec Ideal S4352x512 .f32} {g2' : Vec Ideal S4352x512 .f32} {g3' : Vec Ideal S4352x512 .f32} {g4' : Vec Ideal S4352x512 .f32} {g5' : Vec Ideal S4352x512 .f32} {g6' : Vec Ideal S4352x512 .f32} {g7' : Vec Ideal S4352x512 .f32} {g8' : Vec Ideal S4352x768 .f32} {g9' : Vec Ideal S4352x128 .f32} {g10' : Vec Ideal S4352x512 .f32} {w0' : Vec Ideal S1024x1024 .bf16} {w1' : Vec Ideal S1024x512 .bf16} {w2' : Vec Ideal S1024x512 .bf16} {w3' : Vec Ideal S1024x512 .bf16} {w4' : Vec Ideal S1024x512 .bf16} {w5' : Vec Ideal S1024x512 .bf16} {w6' : Vec Ideal S1024x512 .bf16} {w7' : Vec Ideal S1024x512 .bf16} {w8' : Vec Ideal S1024x768 .bf16} {w9' : Vec Ideal S1024x128 .bf16} {w10' : Vec Ideal S1024x512 .bf16}
    (hg0 : g0' = g0) (hg1 : g1' = g1) (hg2 : g2' = g2) (hg3 : g3' = g3) (hg4 : g4' = g4) (hg5 : g5' = g5) (hg6 : g6' = g6) (hg7 : g7' = g7) (hg8 : g8' = g8) (hg9 : g9' = g9) (hg10 : g10' = g10) (hw0 : w0' = w0) (hw1 : w1' = w1) (hw2 : w2' = w2) (hw3 : w3' = w3) (hw4 : w4' = w4) (hw5 : w5' = w5) (hw6 : w6' = w6) (hw7 : w7' = w7) (hw8 : w8' = w8) (hw9 : w9' = w9) (hw10 : w10' = w10) :
    Cert.InDaRefIdeal.Read.val_main_v44 (F := Ideal) g0' g1' g2' g3' g4' g5' g6' g7' g8' g9' g10' w0' w1' w2' w3' w4' w5' w6' w7' w8' w9' w10' = goal g0 g1 g2 g3 g4 g5 g6 g7 g8 g9 g10 w0 w1 w2 w3 w4 w5 w6 w7 w8 w9 w10 := by
  subst hg0 hg1 hg2 hg3 hg4 hg5 hg6 hg7 hg8 hg9 hg10 hw0 hw1 hw2 hw3 hw4 hw5 hw6 hw7 hw8 hw9 hw10
  exact ref_eq ..

theorem frame_ref : Cert.quiescent_InDaRefIdeal := fun m ρ _ =>
  (θ_run Cert.InDaRefIdeal.defs _ _).mono (fun r h => ⟨fun c => (h c).2, sem_eq_zero_of_no_sems (by decide) r.2⟩)
    (Cert.InDaRefIdeal.Value.run (F := Ideal) m ρ)

theorem algebraic : Cert.algebraic_InDaIdeal_InDaRefIdeal := by
  intro m ρ m' ρ' _ hag
  refine ⟨fun c => goal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)), ?_, ?_⟩
  · refine (θ_run Cert.InDaIdeal.defs _ _).mono (fun r h c => ?_) (Cert.InDaIdeal.Value.run_blocks m ρ)
    exact ⟨(h c).1.trans (final m c), (h c).2⟩
  · refine (θ_run Cert.InDaRefIdeal.defs _ _).mono (fun r h c => ?_) (Cert.InDaRefIdeal.Value.run (F := Ideal) m' ρ')
    refine ⟨(h c).1.trans ?_, (h c).2⟩
    obtain ⟨e0, e1, e2, e3, e4, e5, e6, e7, e8, e9, e10, e11, e12, e13, e14, e15, e16, e17, e18, e19, e20, e21⟩ := hag c
    rw [Cert.InDaRefIdeal.Read.val_main_v44_eq]
    exact ref_at e0 e1 e2 e3 e4 e5 e6 e7 e8 e9 e10 e11 e12 e13 e14 e15 e16 e17 e18 e19 e20 e21

end Cert.Proof.InDa

end
-- ==== Proof.In512Prod.lean ====
/-  A 512-column piece of the input projection: the product of the operand's rows with the piece's weights, over row blocks. -/
module

public import proofs.«01_k».proof.Defs
public import proofs.«01_k».proof.Proof.Gen.In512Ideal.Value
public import proofs.«01_k».proof.Proof.Gen.In512RefIdeal.Run
public import proofs.«01_k».proof.Proof.Gen.In512RefIdeal.Read
public import Idealize.ShloMosaic.Lib.Pointwise

@[expose] public section

set_option maxRecDepth 16384

noncomputable section

namespace Cert.Proof.In512

open Cert.In512Ideal Cert.In512Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S1024x512 .bf16) : Vec Ideal S4352x512 .f32 :=
  fun i => ∑ k : Fin 1024, (a (ix2 (i 0) k) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S2176x1024 .bf16) (x1 : Vec Ideal S1024x512 .bf16) (p : Fin 2176) (q : Fin 512) :
    (out0_2 x0 x1) (ix2 p q) = ∑ k : Fin 1024, (x0 (ix2 p k) : EReal) * (x1 (ix2 k q) : EReal) := by
  have e : out0_2 x0 x1 = k0_pay1 x0 x1 := by
    unfold out0_2
    rw [View.canon_unit_zero hz]
    rw [View.ld_unit_zero (S := S2176x1024) hz, View.ld_unit_zero (S := S1024x512) hz]
  rw [e]
  unfold k0_pay1
  pointwise

abbrev row (t : Fin cfg0.N) (p : Fin 2176) : Fin 4352 := ⟨(t.val / 1) * 2176 + p.val, by have := t.isLt; have : cfg0.N = 2 := N_0; omega⟩
abbrev col (t : Fin cfg0.N) (q : Fin 512) : Fin 512 := ⟨(t.val % 1) * 512 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 2176) (k : Fin 1024) :
    (iblk m c 0 t : Vec Ideal S2176x1024 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 2176 + 1 * p.val = (t.val / 1) * 2176 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 1024) (q : Fin 512) :
    (iblk m c 1 t : Vec Ideal S1024x512 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 1024 + 1 * k.val = k.val; rw [(idx1 t).1]; omega
  | ⟨1, _⟩ => show win0_1.index t (1 : Fin 2) * 512 + 1 * q.val = (t.val % 1) * 512 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 2176) (q : Fin 512), j = (ix2 p q : S2176x512.Idx) := ⟨j 0, j 1, eq_ix2 _⟩
    have e : ((cfg0.win 2).blk t).view.emb (ix2 p q) = (ix2 (row t p) (col t q) : S4352x512.Idx) := by
      funext x
      apply Fin.ext
      match x with
      | ⟨0, _⟩ => show win0_2.index t (0 : Fin 2) * 2176 + 1 * p.val = (t.val / 1) * 2176 + p.val; rw [(idx2 t).1]; omega
      | ⟨1, _⟩ => show win0_2.index t (1 : Fin 2) * 512 + 1 * q.val = (t.val % 1) * 512 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 512 := (i 1).isLt
    have hb : (i 0 : Nat) / 2176 * 1 + (i 1 : Nat) / 512 < cfg0.N := by omega
    refine ⟨⟨(i 0 : Nat) / 2176 * 1 + (i 1 : Nat) / 512, hb⟩, flush0_2 _, ?_⟩
    show i ∈ ((View.whole main_v0).slice (win0_2.rect ⟨(i 0 : Nat) / 2176 * 1 + (i 1 : Nat) / 512, hb⟩)).set
    rw [View.set_slice_whole, Rect.mem_set_unit]
    intro x
    match x with
    | ⟨0, _⟩ => show win0_2.index ⟨(i 0 : Nat) / 2176 * 1 + (i 1 : Nat) / 512, hb⟩ (0 : Fin 2) * 2176 ≤ (i 0 : Nat) ∧ (i 0 : Nat) < win0_2.index ⟨(i 0 : Nat) / 2176 * 1 + (i 1 : Nat) / 512, hb⟩ (0 : Fin 2) * 2176 + 2176
                rw [(idx2 ⟨(i 0 : Nat) / 2176 * 1 + (i 1 : Nat) / 512, hb⟩).1]; dsimp only; omega
    | ⟨1, _⟩ => show win0_2.index ⟨(i 0 : Nat) / 2176 * 1 + (i 1 : Nat) / 512, hb⟩ (1 : Fin 2) * 512 ≤ (i 1 : Nat) ∧ (i 1 : Nat) < win0_2.index ⟨(i 0 : Nat) / 2176 * 1 + (i 1 : Nat) / 512, hb⟩ (1 : Fin 2) * 512 + 512
                rw [(idx2 ⟨(i 0 : Nat) / 2176 * 1 + (i 1 : Nat) / 512, hb⟩).2]; dsimp only; omega

/-! ## The reference -/

theorem ref_eq (a : Vec Ideal S4352x1024 .bf16) (b : Vec Ideal S1024x512 .bf16) :
    Cert.In512RefIdeal.Read.val_main_v2 (F := Ideal) a b = goal a b := by
  funext i
  unfold goal
  rw [Cert.In512RefIdeal.Read.val_main_v2_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_In512RefIdeal := fun m ρ _ =>
  (θ_run Cert.In512RefIdeal.defs _ _).mono (fun r h => ⟨fun c => (h c).2, sem_eq_zero_of_no_sems (by decide) r.2⟩)
    (Cert.In512RefIdeal.Value.run (F := Ideal) m ρ)

theorem algebraic : Cert.algebraic_In512Ideal_In512RefIdeal := by
  intro m ρ m' ρ' _ hag
  refine ⟨fun c => goal (m ((c : Thread nD τ).loc main_arg0)) (m ((c : Thread nD τ).loc main_arg1)), ?_, ?_⟩
  · refine (θ_run Cert.In512Ideal.defs _ _).mono (fun r h c => ?_) (Cert.In512Ideal.Value.run_blocks m ρ)
    exact ⟨(h c).1.trans (final m c), (h c).2⟩
  · refine (θ_run Cert.In512RefIdeal.defs _ _).mono (fun r h c => ?_) (Cert.In512RefIdeal.Value.run (F := Ideal) m' ρ')
    refine ⟨(h c).1.trans ?_, (h c).2⟩
    rw [Cert.In512RefIdeal.Read.val_main_v2_eq, (hag c).1, (hag c).2]
    exact ref_eq ..

end Cert.Proof.In512

end
-- ==== Proof.In1024Prod.lean ====
/-  A 1024-column product of the layer: the first piece of the input projection, and the output projection, which has the same shapes. -/
module

public import proofs.«01_k».proof.Defs
public import proofs.«01_k».proof.Proof.Gen.In1024Ideal.Value
public import proofs.«01_k».proof.Proof.Gen.In1024RefIdeal.Run
public import proofs.«01_k».proof.Proof.Gen.In1024RefIdeal.Read
public import Idealize.ShloMosaic.Lib.Pointwise

@[expose] public section

set_option maxRecDepth 16384

noncomputable section

namespace Cert.Proof.In1024

open Cert.In1024Ideal Cert.In1024Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S1024x1024 .bf16) : Vec Ideal S4352x1024 .f32 :=
  fun i => ∑ k : Fin 1024, (a (ix2 (i 0) k) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S2176x1024 .bf16) (x1 : Vec Ideal S1024x1024 .bf16) (p : Fin 2176) (q : Fin 1024) :
    (out0_2 x0 x1) (ix2 p q) = ∑ k : Fin 1024, (x0 (ix2 p k) : EReal) * (x1 (ix2 k q) : EReal) := by
  have e : out0_2 x0 x1 = k0_pay1 x0 x1 := by
    unfold out0_2
    rw [View.canon_unit_zero hz]
    rw [View.ld_unit_zero (S := S2176x1024) hz, View.ld_unit_zero (S := S1024x1024) hz]
  rw [e]
  unfold k0_pay1
  pointwise

abbrev row (t : Fin cfg0.N) (p : Fin 2176) : Fin 4352 := ⟨(t.val / 1) * 2176 + p.val, by have := t.isLt; have : cfg0.N = 2 := N_0; omega⟩
abbrev col (t : Fin cfg0.N) (q : Fin 1024) : Fin 1024 := ⟨(t.val % 1) * 1024 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 2176) (k : Fin 1024) :
    (iblk m c 0 t : Vec Ideal S2176x1024 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 2176 + 1 * p.val = (t.val / 1) * 2176 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 1024) (q : Fin 1024) :
    (iblk m c 1 t : Vec Ideal S1024x1024 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 1024 + 1 * k.val = k.val; rw [(idx1 t).1]; omega
  | ⟨1, _⟩ => show win0_1.index t (1 : Fin 2) * 1024 + 1 * q.val = (t.val % 1) * 1024 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 2176) (q : Fin 1024), j = (ix2 p q : S2176x1024.Idx) := ⟨j 0, j 1, eq_ix2 _⟩
    have e : ((cfg0.win 2).blk t).view.emb (ix2 p q) = (ix2 (row t p) (col t q) : S4352x1024.Idx) := by
      funext x
      apply Fin.ext
      match x with
      | ⟨0, _⟩ => show win0_2.index t (0 : Fin 2) * 2176 + 1 * p.val = (t.val / 1) * 2176 + p.val; rw [(idx2 t).1]; omega
      | ⟨1, _⟩ => show win0_2.index t (1 : Fin 2) * 1024 + 1 * q.val = (t.val % 1) * 1024 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 1024 := (i 1).isLt
    have hb : (i 0 : Nat) / 2176 * 1 + (i 1 : Nat) / 1024 < cfg0.N := by omega
    refine ⟨⟨(i 0 : Nat) / 2176 * 1 + (i 1 : Nat) / 1024, hb⟩, flush0_2 _, ?_⟩
    show i ∈ ((View.whole main_v0).slice (win0_2.rect ⟨(i 0 : Nat) / 2176 * 1 + (i 1 : Nat) / 1024, hb⟩)).set
    rw [View.set_slice_whole, Rect.mem_set_unit]
    intro x
    match x with
    | ⟨0, _⟩ => show win0_2.index ⟨(i 0 : Nat) / 2176 * 1 + (i 1 : Nat) / 1024, hb⟩ (0 : Fin 2) * 2176 ≤ (i 0 : Nat) ∧ (i 0 : Nat) < win0_2.index ⟨(i 0 : Nat) / 2176 * 1 + (i 1 : Nat) / 1024, hb⟩ (0 : Fin 2) * 2176 + 2176
                rw [(idx2 ⟨(i 0 : Nat) / 2176 * 1 + (i 1 : Nat) / 1024, hb⟩).1]; dsimp only; omega
    | ⟨1, _⟩ => show win0_2.index ⟨(i 0 : Nat) / 2176 * 1 + (i 1 : Nat) / 1024, hb⟩ (1 : Fin 2) * 1024 ≤ (i 1 : Nat) ∧ (i 1 : Nat) < win0_2.index ⟨(i 0 : Nat) / 2176 * 1 + (i 1 : Nat) / 1024, hb⟩ (1 : Fin 2) * 1024 + 1024
                rw [(idx2 ⟨(i 0 : Nat) / 2176 * 1 + (i 1 : Nat) / 1024, hb⟩).2]; dsimp only; omega

/-! ## The reference -/

theorem ref_eq (a : Vec Ideal S4352x1024 .bf16) (b : Vec Ideal S1024x1024 .bf16) :
    Cert.In1024RefIdeal.Read.val_main_v2 (F := Ideal) a b = goal a b := by
  funext i
  unfold goal
  rw [Cert.In1024RefIdeal.Read.val_main_v2_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_In1024RefIdeal := fun m ρ _ =>
  (θ_run Cert.In1024RefIdeal.defs _ _).mono (fun r h => ⟨fun c => (h c).2, sem_eq_zero_of_no_sems (by decide) r.2⟩)
    (Cert.In1024RefIdeal.Value.run (F := Ideal) m ρ)

theorem algebraic : Cert.algebraic_In1024Ideal_In1024RefIdeal := by
  intro m ρ m' ρ' _ hag
  refine ⟨fun c => goal (m ((c : Thread nD τ).loc main_arg0)) (m ((c : Thread nD τ).loc main_arg1)), ?_, ?_⟩
  · refine (θ_run Cert.In1024Ideal.defs _ _).mono (fun r h c => ?_) (Cert.In1024Ideal.Value.run_blocks m ρ)
    exact ⟨(h c).1.trans (final m c), (h c).2⟩
  · refine (θ_run Cert.In1024RefIdeal.defs _ _).mono (fun r h c => ?_) (Cert.In1024RefIdeal.Value.run (F := Ideal) m' ρ')
    refine ⟨(h c).1.trans ?_, (h c).2⟩
    rw [Cert.In1024RefIdeal.Read.val_main_v2_eq, (hag c).1, (hag c).2]
    exact ref_eq ..

end Cert.Proof.In1024

end
-- ==== Proof.In768Prod.lean ====
/-  The 768-column piece of the input projection. -/
module

public import proofs.«01_k».proof.Defs
public import proofs.«01_k».proof.Proof.Gen.In768Ideal.Value
public import proofs.«01_k».proof.Proof.Gen.In768RefIdeal.Run
public import proofs.«01_k».proof.Proof.Gen.In768RefIdeal.Read
public import Idealize.ShloMosaic.Lib.Pointwise

@[expose] public section

set_option maxRecDepth 16384

noncomputable section

namespace Cert.Proof.In768

open Cert.In768Ideal Cert.In768Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S1024x768 .bf16) : Vec Ideal S4352x768 .f32 :=
  fun i => ∑ k : Fin 1024, (a (ix2 (i 0) k) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S2176x1024 .bf16) (x1 : Vec Ideal S1024x768 .bf16) (p : Fin 2176) (q : Fin 768) :
    (out0_2 x0 x1) (ix2 p q) = ∑ k : Fin 1024, (x0 (ix2 p k) : EReal) * (x1 (ix2 k q) : EReal) := by
  have e : out0_2 x0 x1 = k0_pay1 x0 x1 := by
    unfold out0_2
    rw [View.canon_unit_zero hz]
    rw [View.ld_unit_zero (S := S2176x1024) hz, View.ld_unit_zero (S := S1024x768) hz]
  rw [e]
  unfold k0_pay1
  pointwise

abbrev row (t : Fin cfg0.N) (p : Fin 2176) : Fin 4352 := ⟨(t.val / 1) * 2176 + p.val, by have := t.isLt; have : cfg0.N = 2 := N_0; omega⟩
abbrev col (t : Fin cfg0.N) (q : Fin 768) : Fin 768 := ⟨(t.val % 1) * 768 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 2176) (k : Fin 1024) :
    (iblk m c 0 t : Vec Ideal S2176x1024 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 2176 + 1 * p.val = (t.val / 1) * 2176 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 1024) (q : Fin 768) :
    (iblk m c 1 t : Vec Ideal S1024x768 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 1024 + 1 * k.val = k.val; rw [(idx1 t).1]; omega
  | ⟨1, _⟩ => show win0_1.index t (1 : Fin 2) * 768 + 1 * q.val = (t.val % 1) * 768 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 2176) (q : Fin 768), j = (ix2 p q : S2176x768.Idx) := ⟨j 0, j 1, eq_ix2 _⟩
    have e : ((cfg0.win 2).blk t).view.emb (ix2 p q) = (ix2 (row t p) (col t q) : S4352x768.Idx) := by
      funext x
      apply Fin.ext
      match x with
      | ⟨0, _⟩ => show win0_2.index t (0 : Fin 2) * 2176 + 1 * p.val = (t.val / 1) * 2176 + p.val; rw [(idx2 t).1]; omega
      | ⟨1, _⟩ => show win0_2.index t (1 : Fin 2) * 768 + 1 * q.val = (t.val % 1) * 768 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 768 := (i 1).isLt
    have hb : (i 0 : Nat) / 2176 * 1 + (i 1 : Nat) / 768 < cfg0.N := by omega
    refine ⟨⟨(i 0 : Nat) / 2176 * 1 + (i 1 : Nat) / 768, hb⟩, flush0_2 _, ?_⟩
    show i ∈ ((View.whole main_v0).slice (win0_2.rect ⟨(i 0 : Nat) / 2176 * 1 + (i 1 : Nat) / 768, hb⟩)).set
    rw [View.set_slice_whole, Rect.mem_set_unit]
    intro x
    match x with
    | ⟨0, _⟩ => show win0_2.index ⟨(i 0 : Nat) / 2176 * 1 + (i 1 : Nat) / 768, hb⟩ (0 : Fin 2) * 2176 ≤ (i 0 : Nat) ∧ (i 0 : Nat) < win0_2.index ⟨(i 0 : Nat) / 2176 * 1 + (i 1 : Nat) / 768, hb⟩ (0 : Fin 2) * 2176 + 2176
                rw [(idx2 ⟨(i 0 : Nat) / 2176 * 1 + (i 1 : Nat) / 768, hb⟩).1]; dsimp only; omega
    | ⟨1, _⟩ => show win0_2.index ⟨(i 0 : Nat) / 2176 * 1 + (i 1 : Nat) / 768, hb⟩ (1 : Fin 2) * 768 ≤ (i 1 : Nat) ∧ (i 1 : Nat) < win0_2.index ⟨(i 0 : Nat) / 2176 * 1 + (i 1 : Nat) / 768, hb⟩ (1 : Fin 2) * 768 + 768
                rw [(idx2 ⟨(i 0 : Nat) / 2176 * 1 + (i 1 : Nat) / 768, hb⟩).2]; dsimp only; omega

/-! ## The reference -/

theorem ref_eq (a : Vec Ideal S4352x1024 .bf16) (b : Vec Ideal S1024x768 .bf16) :
    Cert.In768RefIdeal.Read.val_main_v2 (F := Ideal) a b = goal a b := by
  funext i
  unfold goal
  rw [Cert.In768RefIdeal.Read.val_main_v2_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_In768RefIdeal := fun m ρ _ =>
  (θ_run Cert.In768RefIdeal.defs _ _).mono (fun r h => ⟨fun c => (h c).2, sem_eq_zero_of_no_sems (by decide) r.2⟩)
    (Cert.In768RefIdeal.Value.run (F := Ideal) m ρ)

theorem algebraic : Cert.algebraic_In768Ideal_In768RefIdeal := by
  intro m ρ m' ρ' _ hag
  refine ⟨fun c => goal (m ((c : Thread nD τ).loc main_arg0)) (m ((c : Thread nD τ).loc main_arg1)), ?_, ?_⟩
  · refine (θ_run Cert.In768Ideal.defs _ _).mono (fun r h c => ?_) (Cert.In768Ideal.Value.run_blocks m ρ)
    exact ⟨(h c).1.trans (final m c), (h c).2⟩
  · refine (θ_run Cert.In768RefIdeal.defs _ _).mono (fun r h c => ?_) (Cert.In768RefIdeal.Value.run (F := Ideal) m' ρ')
    refine ⟨(h c).1.trans ?_, (h c).2⟩
    rw [Cert.In768RefIdeal.Read.val_main_v2_eq, (hag c).1, (hag c).2]
    exact ref_eq ..

end Cert.Proof.In768

end
-- ==== Proof.In128Prod.lean ====
/-  The 128-column piece of the input projection. -/
module

public import proofs.«01_k».proof.Defs
public import proofs.«01_k».proof.Proof.Gen.In128Ideal.Value
public import proofs.«01_k».proof.Proof.Gen.In128RefIdeal.Run
public import proofs.«01_k».proof.Proof.Gen.In128RefIdeal.Read
public import Idealize.ShloMosaic.Lib.Pointwise

@[expose] public section

set_option maxRecDepth 16384

noncomputable section

namespace Cert.Proof.In128

open Cert.In128Ideal Cert.In128Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S1024x128 .bf16) : Vec Ideal S4352x128 .f32 :=
  fun i => ∑ k : Fin 1024, (a (ix2 (i 0) k) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S2176x1024 .bf16) (x1 : Vec Ideal S1024x128 .bf16) (p : Fin 2176) (q : Fin 128) :
    (out0_2 x0 x1) (ix2 p q) = ∑ k : Fin 1024, (x0 (ix2 p k) : EReal) * (x1 (ix2 k q) : EReal) := by
  have e : out0_2 x0 x1 = k0_pay1 x0 x1 := by
    unfold out0_2
    rw [View.canon_unit_zero hz]
    rw [View.ld_unit_zero (S := S2176x1024) hz, View.ld_unit_zero (S := S1024x128) hz]
  rw [e]
  unfold k0_pay1
  pointwise

abbrev row (t : Fin cfg0.N) (p : Fin 2176) : Fin 4352 := ⟨(t.val / 1) * 2176 + p.val, by have := t.isLt; have : cfg0.N = 2 := N_0; omega⟩
abbrev col (t : Fin cfg0.N) (q : Fin 128) : Fin 128 := ⟨(t.val % 1) * 128 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 2176) (k : Fin 1024) :
    (iblk m c 0 t : Vec Ideal S2176x1024 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 2176 + 1 * p.val = (t.val / 1) * 2176 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 1024) (q : Fin 128) :
    (iblk m c 1 t : Vec Ideal S1024x128 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 1024 + 1 * k.val = k.val; rw [(idx1 t).1]; omega
  | ⟨1, _⟩ => show win0_1.index t (1 : Fin 2) * 128 + 1 * q.val = (t.val % 1) * 128 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 2176) (q : Fin 128), j = (ix2 p q : S2176x128.Idx) := ⟨j 0, j 1, eq_ix2 _⟩
    have e : ((cfg0.win 2).blk t).view.emb (ix2 p q) = (ix2 (row t p) (col t q) : S4352x128.Idx) := by
      funext x
      apply Fin.ext
      match x with
      | ⟨0, _⟩ => show win0_2.index t (0 : Fin 2) * 2176 + 1 * p.val = (t.val / 1) * 2176 + p.val; rw [(idx2 t).1]; omega
      | ⟨1, _⟩ => show win0_2.index t (1 : Fin 2) * 128 + 1 * q.val = (t.val % 1) * 128 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 128 := (i 1).isLt
    have hb : (i 0 : Nat) / 2176 * 1 + (i 1 : Nat) / 128 < cfg0.N := by omega
    refine ⟨⟨(i 0 : Nat) / 2176 * 1 + (i 1 : Nat) / 128, hb⟩, flush0_2 _, ?_⟩
    show i ∈ ((View.whole main_v0).slice (win0_2.rect ⟨(i 0 : Nat) / 2176 * 1 + (i 1 : Nat) / 128, hb⟩)).set
    rw [View.set_slice_whole, Rect.mem_set_unit]
    intro x
    match x with
    | ⟨0, _⟩ => show win0_2.index ⟨(i 0 : Nat) / 2176 * 1 + (i 1 : Nat) / 128, hb⟩ (0 : Fin 2) * 2176 ≤ (i 0 : Nat) ∧ (i 0 : Nat) < win0_2.index ⟨(i 0 : Nat) / 2176 * 1 + (i 1 : Nat) / 128, hb⟩ (0 : Fin 2) * 2176 + 2176
                rw [(idx2 ⟨(i 0 : Nat) / 2176 * 1 + (i 1 : Nat) / 128, hb⟩).1]; dsimp only; omega
    | ⟨1, _⟩ => show win0_2.index ⟨(i 0 : Nat) / 2176 * 1 + (i 1 : Nat) / 128, hb⟩ (1 : Fin 2) * 128 ≤ (i 1 : Nat) ∧ (i 1 : Nat) < win0_2.index ⟨(i 0 : Nat) / 2176 * 1 + (i 1 : Nat) / 128, hb⟩ (1 : Fin 2) * 128 + 128
                rw [(idx2 ⟨(i 0 : Nat) / 2176 * 1 + (i 1 : Nat) / 128, hb⟩).2]; dsimp only; omega

/-! ## The reference -/

theorem ref_eq (a : Vec Ideal S4352x1024 .bf16) (b : Vec Ideal S1024x128 .bf16) :
    Cert.In128RefIdeal.Read.val_main_v2 (F := Ideal) a b = goal a b := by
  funext i
  unfold goal
  rw [Cert.In128RefIdeal.Read.val_main_v2_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_In128RefIdeal := fun m ρ _ =>
  (θ_run Cert.In128RefIdeal.defs _ _).mono (fun r h => ⟨fun c => (h c).2, sem_eq_zero_of_no_sems (by decide) r.2⟩)
    (Cert.In128RefIdeal.Value.run (F := Ideal) m ρ)

theorem algebraic : Cert.algebraic_In128Ideal_In128RefIdeal := by
  intro m ρ m' ρ' _ hag
  refine ⟨fun c => goal (m ((c : Thread nD τ).loc main_arg0)) (m ((c : Thread nD τ).loc main_arg1)), ?_, ?_⟩
  · refine (θ_run Cert.In128Ideal.defs _ _).mono (fun r h c => ?_) (Cert.In128Ideal.Value.run_blocks m ρ)
    exact ⟨(h c).1.trans (final m c), (h c).2⟩
  · refine (θ_run Cert.In128RefIdeal.defs _ _).mono (fun r h c => ?_) (Cert.In128RefIdeal.Value.run (F := Ideal) m' ρ')
    refine ⟨(h c).1.trans ?_, (h c).2⟩
    rw [Cert.In128RefIdeal.Read.val_main_v2_eq, (hag c).1, (hag c).2]
    exact ref_eq ..

end Cert.Proof.In128

end
-- ==== Proof.InDb512Prod.lean ====
/-  The gradient of the weights of a 512-column piece of the input projection: the operand transposed times the piece's cotangent. -/
module

public import proofs.«01_k».proof.Defs
public import proofs.«01_k».proof.Proof.Gen.InDb512Ideal.Value
public import proofs.«01_k».proof.Proof.Gen.InDb512RefIdeal.Run
public import proofs.«01_k».proof.Proof.Gen.InDb512RefIdeal.Read
public import Idealize.ShloMosaic.Lib.Pointwise

@[expose] public section

set_option maxRecDepth 16384

noncomputable section

namespace Cert.Proof.InDb512

open Cert.InDb512Ideal Cert.InDb512Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S4352x512 .f32) : Vec Ideal S1024x512 .f32 :=
  fun i => ∑ k : Fin 4352, (a (ix2 k (i 0)) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S4352x1024 .bf16) (x1 : Vec Ideal S4352x512 .f32) (p : Fin 1024) (q : Fin 512) :
    (out0_2 x0 x1) (ix2 p q) = ∑ k : Fin 4352, (x0 (ix2 k p) : EReal) * (x1 (ix2 k q) : EReal) := by
  have e : out0_2 x0 x1 = k0_pay1 x0 x1 := by
    unfold out0_2
    rw [View.canon_unit_zero hz]
    rw [View.ld_unit_zero (S := S4352x1024) hz, View.ld_unit_zero (S := S4352x512) hz]
  rw [e]
  unfold k0_pay1
  pointwise

abbrev row (t : Fin cfg0.N) (p : Fin 1024) : Fin 1024 := ⟨(t.val / 1) * 1024 + p.val, by have := t.isLt; have : cfg0.N = 1 := N_0; omega⟩
abbrev col (t : Fin cfg0.N) (q : Fin 512) : Fin 512 := ⟨(t.val % 1) * 512 + q.val, by omega⟩

theorem idx0 : ∀ t : Fin cfg0.N, win0_0.index t (0 : Fin 2) = 0 ∧ win0_0.index t (1 : Fin 2) = (t.val / 1) :=
  (by decide +kernel : ∀ t : Fin grid0.N, win0_0.index t (0 : Fin 2) = 0 ∧ win0_0.index t (1 : Fin 2) = (t.val / 1))

theorem read0 (c : Dev nD) (t : Fin cfg0.N) (k : Fin 4352) (p : Fin 1024) :
    (iblk m c 0 t : Vec Ideal S4352x1024 .bf16) (ix2 k p) = m ((c : Thread nD τ).loc main_arg0) (ix2 k (row t p)) := by
  unfold iblk
  rw [View.read_apply]
  show V m c main_arg0 _ = _
  rw [V_main_arg0]
  congr 1
  funext x
  apply Fin.ext
  match x with
  | ⟨0, _⟩ => show win0_0.index t (0 : Fin 2) * 4352 + 1 * k.val = k.val; rw [(idx0 t).1]; omega
  | ⟨1, _⟩ => show win0_0.index t (1 : Fin 2) * 1024 + 1 * p.val = (t.val / 1) * 1024 + p.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 4352) (q : Fin 512) :
    (iblk m c 1 t : Vec Ideal S4352x512 .f32) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 4352 + 1 * k.val = k.val; rw [(idx1 t).1]; omega
  | ⟨1, _⟩ => show win0_1.index t (1 : Fin 2) * 512 + 1 * q.val = (t.val % 1) * 512 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 1 := N_0
  refine (dats m 0 c).arrAt_eq_of_cover 2 _ (fun t hf => ?_) fun i => ?_
  · rw [Value.flushed2]
    funext j
    rw [View.read_apply]
    obtain ⟨p, q, rfl⟩ : ∃ (p : Fin 1024) (q : Fin 512), j = (ix2 p q : S1024x512.Idx) := ⟨j 0, j 1, eq_ix2 _⟩
    have e : ((cfg0.win 2).blk t).view.emb (ix2 p q) = (ix2 (row t p) (col t q) : S1024x512.Idx) := by
      funext x
      apply Fin.ext
      match x with
      | ⟨0, _⟩ => show win0_2.index t (0 : Fin 2) * 1024 + 1 * p.val = (t.val / 1) * 1024 + p.val; rw [(idx2 t).1]; omega
      | ⟨1, _⟩ => show win0_2.index t (1 : Fin 2) * 512 + 1 * q.val = (t.val % 1) * 512 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 1024 := (i 0).isLt
    have h1 : (i 1 : Nat) < 512 := (i 1).isLt
    have hb : (i 0 : Nat) / 1024 * 1 + (i 1 : Nat) / 512 < cfg0.N := by omega
    refine ⟨⟨(i 0 : Nat) / 1024 * 1 + (i 1 : Nat) / 512, hb⟩, flush0_2 _, ?_⟩
    show i ∈ ((View.whole main_v0).slice (win0_2.rect ⟨(i 0 : Nat) / 1024 * 1 + (i 1 : Nat) / 512, hb⟩)).set
    rw [View.set_slice_whole, Rect.mem_set_unit]
    intro x
    match x with
    | ⟨0, _⟩ => show win0_2.index ⟨(i 0 : Nat) / 1024 * 1 + (i 1 : Nat) / 512, hb⟩ (0 : Fin 2) * 1024 ≤ (i 0 : Nat) ∧ (i 0 : Nat) < win0_2.index ⟨(i 0 : Nat) / 1024 * 1 + (i 1 : Nat) / 512, hb⟩ (0 : Fin 2) * 1024 + 1024
                rw [(idx2 ⟨(i 0 : Nat) / 1024 * 1 + (i 1 : Nat) / 512, hb⟩).1]; dsimp only; omega
    | ⟨1, _⟩ => show win0_2.index ⟨(i 0 : Nat) / 1024 * 1 + (i 1 : Nat) / 512, hb⟩ (1 : Fin 2) * 512 ≤ (i 1 : Nat) ∧ (i 1 : Nat) < win0_2.index ⟨(i 0 : Nat) / 1024 * 1 + (i 1 : Nat) / 512, hb⟩ (1 : Fin 2) * 512 + 512
                rw [(idx2 ⟨(i 0 : Nat) / 1024 * 1 + (i 1 : Nat) / 512, hb⟩).2]; dsimp only; omega

/-! ## The reference -/

theorem ref_eq (a : Vec Ideal S4352x1024 .bf16) (b : Vec Ideal S4352x512 .f32) :
    Cert.InDb512RefIdeal.Read.val_main_v4 (F := Ideal) a b = goal a b := by
  funext i
  unfold goal
  rw [Cert.InDb512RefIdeal.Read.val_main_v4_apply]
  rw [Cert.InDb512RefIdeal.Read.val_main_v3_apply]
  refine Finset.sum_congr rfl fun k _ => ?_
  refine (mul_comm _ _).trans ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_InDb512RefIdeal := fun m ρ _ =>
  (θ_run Cert.InDb512RefIdeal.defs _ _).mono (fun r h => ⟨fun c => (h c).2, sem_eq_zero_of_no_sems (by decide) r.2⟩)
    (Cert.InDb512RefIdeal.Value.run (F := Ideal) m ρ)

theorem algebraic : Cert.algebraic_InDb512Ideal_InDb512RefIdeal := by
  intro m ρ m' ρ' _ hag
  refine ⟨fun c => goal (m ((c : Thread nD τ).loc main_arg0)) (m ((c : Thread nD τ).loc main_arg1)), ?_, ?_⟩
  · refine (θ_run Cert.InDb512Ideal.defs _ _).mono (fun r h c => ?_) (Cert.InDb512Ideal.Value.run_blocks m ρ)
    exact ⟨(h c).1.trans (final m c), (h c).2⟩
  · refine (θ_run Cert.InDb512RefIdeal.defs _ _).mono (fun r h c => ?_) (Cert.InDb512RefIdeal.Value.run (F := Ideal) m' ρ')
    refine ⟨(h c).1.trans ?_, (h c).2⟩
    rw [Cert.InDb512RefIdeal.Read.val_main_v4_eq, (hag c).1, (hag c).2]
    exact ref_eq ..

end Cert.Proof.InDb512

end
-- ==== Proof.InDb1024Prod.lean ====
/-  The gradient of the weights of the first piece of the input projection, and of the output projection, which has the same shapes. -/
module

public import proofs.«01_k».proof.Defs
public import proofs.«01_k».proof.Proof.Gen.InDb1024Ideal.Value
public import proofs.«01_k».proof.Proof.Gen.InDb1024RefIdeal.Run
public import proofs.«01_k».proof.Proof.Gen.InDb1024RefIdeal.Read
public import Idealize.ShloMosaic.Lib.Pointwise

@[expose] public section

set_option maxRecDepth 16384

noncomputable section

namespace Cert.Proof.InDb1024

open Cert.InDb1024Ideal Cert.InDb1024Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S4352x1024 .f32) : Vec Ideal S1024x1024 .f32 :=
  fun i => ∑ k : Fin 4352, (a (ix2 k (i 0)) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S4352x1024 .bf16) (x1 : Vec Ideal S4352x512 .f32) (p : Fin 1024) (q : Fin 512) :
    (out0_2 x0 x1) (ix2 p q) = ∑ k : Fin 4352, (x0 (ix2 k p) : EReal) * (x1 (ix2 k q) : EReal) := by
  have e : out0_2 x0 x1 = k0_pay1 x0 x1 := by
    unfold out0_2
    rw [View.canon_unit_zero hz]
    rw [View.ld_unit_zero (S := S4352x1024) hz, View.ld_unit_zero (S := S4352x512) hz]
  rw [e]
  unfold k0_pay1
  pointwise

abbrev row (t : Fin cfg0.N) (p : Fin 1024) : Fin 1024 := ⟨(t.val / 2) * 1024 + p.val, by have := t.isLt; have : cfg0.N = 2 := N_0; omega⟩
abbrev col (t : Fin cfg0.N) (q : Fin 512) : Fin 1024 := ⟨(t.val % 2) * 512 + q.val, by omega⟩

theorem idx0 : ∀ t : Fin cfg0.N, win0_0.index t (0 : Fin 2) = 0 ∧ win0_0.index t (1 : Fin 2) = (t.val / 2) :=
  (by decide +kernel : ∀ t : Fin grid0.N, win0_0.index t (0 : Fin 2) = 0 ∧ win0_0.index t (1 : Fin 2) = (t.val / 2))

theorem read0 (c : Dev nD) (t : Fin cfg0.N) (k : Fin 4352) (p : Fin 1024) :
    (iblk m c 0 t : Vec Ideal S4352x1024 .bf16) (ix2 k p) = m ((c : Thread nD τ).loc main_arg0) (ix2 k (row t p)) := by
  unfold iblk
  rw [View.read_apply]
  show V m c main_arg0 _ = _
  rw [V_main_arg0]
  congr 1
  funext x
  apply Fin.ext
  match x with
  | ⟨0, _⟩ => show win0_0.index t (0 : Fin 2) * 4352 + 1 * k.val = k.val; rw [(idx0 t).1]; omega
  | ⟨1, _⟩ => show win0_0.index t (1 : Fin 2) * 1024 + 1 * p.val = (t.val / 2) * 1024 + p.val; rw [(idx0 t).2]; omega

theorem idx1 : ∀ t : Fin cfg0.N, win0_1.index t (0 : Fin 2) = 0 ∧ win0_1.index t (1 : Fin 2) = (t.val % 2) :=
  (by decide +kernel : ∀ t : Fin grid0.N, win0_1.index t (0 : Fin 2) = 0 ∧ win0_1.index t (1 : Fin 2) = (t.val % 2))

theorem read1 (c : Dev nD) (t : Fin cfg0.N) (k : Fin 4352) (q : Fin 512) :
    (iblk m c 1 t : Vec Ideal S4352x512 .f32) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 4352 + 1 * k.val = k.val; rw [(idx1 t).1]; omega
  | ⟨1, _⟩ => show win0_1.index t (1 : Fin 2) * 512 + 1 * q.val = (t.val % 2) * 512 + q.val; rw [(idx1 t).2]; omega

theorem idx2 : ∀ t : Fin cfg0.N, win0_2.index t (0 : Fin 2) = (t.val / 2) ∧ win0_2.index t (1 : Fin 2) = (t.val % 2) :=
  (by decide +kernel : ∀ t : Fin grid0.N, win0_2.index t (0 : Fin 2) = (t.val / 2) ∧ win0_2.index t (1 : Fin 2) = (t.val % 2))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 1024) (q : Fin 512), j = (ix2 p q : S1024x512.Idx) := ⟨j 0, j 1, eq_ix2 _⟩
    have e : ((cfg0.win 2).blk t).view.emb (ix2 p q) = (ix2 (row t p) (col t q) : S1024x1024.Idx) := by
      funext x
      apply Fin.ext
      match x with
      | ⟨0, _⟩ => show win0_2.index t (0 : Fin 2) * 1024 + 1 * p.val = (t.val / 2) * 1024 + p.val; rw [(idx2 t).1]; omega
      | ⟨1, _⟩ => show win0_2.index t (1 : Fin 2) * 512 + 1 * q.val = (t.val % 2) * 512 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 1024 := (i 0).isLt
    have h1 : (i 1 : Nat) < 1024 := (i 1).isLt
    have hb : (i 0 : Nat) / 1024 * 2 + (i 1 : Nat) / 512 < cfg0.N := by omega
    refine ⟨⟨(i 0 : Nat) / 1024 * 2 + (i 1 : Nat) / 512, hb⟩, flush0_2 _, ?_⟩
    show i ∈ ((View.whole main_v0).slice (win0_2.rect ⟨(i 0 : Nat) / 1024 * 2 + (i 1 : Nat) / 512, hb⟩)).set
    rw [View.set_slice_whole, Rect.mem_set_unit]
    intro x
    match x with
    | ⟨0, _⟩ => show win0_2.index ⟨(i 0 : Nat) / 1024 * 2 + (i 1 : Nat) / 512, hb⟩ (0 : Fin 2) * 1024 ≤ (i 0 : Nat) ∧ (i 0 : Nat) < win0_2.index ⟨(i 0 : Nat) / 1024 * 2 + (i 1 : Nat) / 512, hb⟩ (0 : Fin 2) * 1024 + 1024
                rw [(idx2 ⟨(i 0 : Nat) / 1024 * 2 + (i 1 : Nat) / 512, hb⟩).1]; dsimp only; omega
    | ⟨1, _⟩ => show win0_2.index ⟨(i 0 : Nat) / 1024 * 2 + (i 1 : Nat) / 512, hb⟩ (1 : Fin 2) * 512 ≤ (i 1 : Nat) ∧ (i 1 : Nat) < win0_2.index ⟨(i 0 : Nat) / 1024 * 2 + (i 1 : Nat) / 512, hb⟩ (1 : Fin 2) * 512 + 512
                rw [(idx2 ⟨(i 0 : Nat) / 1024 * 2 + (i 1 : Nat) / 512, hb⟩).2]; dsimp only; omega

/-! ## The reference -/

theorem ref_eq (a : Vec Ideal S4352x1024 .bf16) (b : Vec Ideal S4352x1024 .f32) :
    Cert.InDb1024RefIdeal.Read.val_main_v4 (F := Ideal) a b = goal a b := by
  funext i
  unfold goal
  rw [Cert.InDb1024RefIdeal.Read.val_main_v4_apply]
  rw [Cert.InDb1024RefIdeal.Read.val_main_v3_apply]
  refine Finset.sum_congr rfl fun k _ => ?_
  refine (mul_comm _ _).trans ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_InDb1024RefIdeal := fun m ρ _ =>
  (θ_run Cert.InDb1024RefIdeal.defs _ _).mono (fun r h => ⟨fun c => (h c).2, sem_eq_zero_of_no_sems (by decide) r.2⟩)
    (Cert.InDb1024RefIdeal.Value.run (F := Ideal) m ρ)

theorem algebraic : Cert.algebraic_InDb1024Ideal_InDb1024RefIdeal := by
  intro m ρ m' ρ' _ hag
  refine ⟨fun c => goal (m ((c : Thread nD τ).loc main_arg0)) (m ((c : Thread nD τ).loc main_arg1)), ?_, ?_⟩
  · refine (θ_run Cert.InDb1024Ideal.defs _ _).mono (fun r h c => ?_) (Cert.InDb1024Ideal.Value.run_blocks m ρ)
    exact ⟨(h c).1.trans (final m c), (h c).2⟩
  · refine (θ_run Cert.InDb1024RefIdeal.defs _ _).mono (fun r h c => ?_) (Cert.InDb1024RefIdeal.Value.run (F := Ideal) m' ρ')
    refine ⟨(h c).1.trans ?_, (h c).2⟩
    rw [Cert.InDb1024RefIdeal.Read.val_main_v4_eq, (hag c).1, (hag c).2]
    exact ref_eq ..

end Cert.Proof.InDb1024

end
-- ==== Proof.InDb768Prod.lean ====
/-  The gradient of the weights of the 768-column piece of the input projection. -/
module

public import proofs.«01_k».proof.Defs
public import proofs.«01_k».proof.Proof.Gen.InDb768Ideal.Value
public import proofs.«01_k».proof.Proof.Gen.InDb768RefIdeal.Run
public import proofs.«01_k».proof.Proof.Gen.InDb768RefIdeal.Read
public import Idealize.ShloMosaic.Lib.Pointwise

@[expose] public section

set_option maxRecDepth 16384

noncomputable section

namespace Cert.Proof.InDb768

open Cert.InDb768Ideal Cert.InDb768Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S4352x768 .f32) : Vec Ideal S1024x768 .f32 :=
  fun i => ∑ k : Fin 4352, (a (ix2 k (i 0)) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S4352x1024 .bf16) (x1 : Vec Ideal S4352x384 .f32) (p : Fin 1024) (q : Fin 384) :
    (out0_2 x0 x1) (ix2 p q) = ∑ k : Fin 4352, (x0 (ix2 k p) : EReal) * (x1 (ix2 k q) : EReal) := by
  have e : out0_2 x0 x1 = k0_pay1 x0 x1 := by
    unfold out0_2
    rw [View.canon_unit_zero hz]
    rw [View.ld_unit_zero (S := S4352x1024) hz, View.ld_unit_zero (S := S4352x384) hz]
  rw [e]
  unfold k0_pay1
  pointwise

abbrev row (t : Fin cfg0.N) (p : Fin 1024) : Fin 1024 := ⟨(t.val / 2) * 1024 + p.val, by have := t.isLt; have : cfg0.N = 2 := N_0; omega⟩
abbrev col (t : Fin cfg0.N) (q : Fin 384) : Fin 768 := ⟨(t.val % 2) * 384 + q.val, by omega⟩

theorem idx0 : ∀ t : Fin cfg0.N, win0_0.index t (0 : Fin 2) = 0 ∧ win0_0.index t (1 : Fin 2) = (t.val / 2) :=
  (by decide +kernel : ∀ t : Fin grid0.N, win0_0.index t (0 : Fin 2) = 0 ∧ win0_0.index t (1 : Fin 2) = (t.val / 2))

theorem read0 (c : Dev nD) (t : Fin cfg0.N) (k : Fin 4352) (p : Fin 1024) :
    (iblk m c 0 t : Vec Ideal S4352x1024 .bf16) (ix2 k p) = m ((c : Thread nD τ).loc main_arg0) (ix2 k (row t p)) := by
  unfold iblk
  rw [View.read_apply]
  show V m c main_arg0 _ = _
  rw [V_main_arg0]
  congr 1
  funext x
  apply Fin.ext
  match x with
  | ⟨0, _⟩ => show win0_0.index t (0 : Fin 2) * 4352 + 1 * k.val = k.val; rw [(idx0 t).1]; omega
  | ⟨1, _⟩ => show win0_0.index t (1 : Fin 2) * 1024 + 1 * p.val = (t.val / 2) * 1024 + p.val; rw [(idx0 t).2]; omega

theorem idx1 : ∀ t : Fin cfg0.N, win0_1.index t (0 : Fin 2) = 0 ∧ win0_1.index t (1 : Fin 2) = (t.val % 2) :=
  (by decide +kernel : ∀ t : Fin grid0.N, win0_1.index t (0 : Fin 2) = 0 ∧ win0_1.index t (1 : Fin 2) = (t.val % 2))

theorem read1 (c : Dev nD) (t : Fin cfg0.N) (k : Fin 4352) (q : Fin 384) :
    (iblk m c 1 t : Vec Ideal S4352x384 .f32) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 4352 + 1 * k.val = k.val; rw [(idx1 t).1]; omega
  | ⟨1, _⟩ => show win0_1.index t (1 : Fin 2) * 384 + 1 * q.val = (t.val % 2) * 384 + q.val; rw [(idx1 t).2]; omega

theorem idx2 : ∀ t : Fin cfg0.N, win0_2.index t (0 : Fin 2) = (t.val / 2) ∧ win0_2.index t (1 : Fin 2) = (t.val % 2) :=
  (by decide +kernel : ∀ t : Fin grid0.N, win0_2.index t (0 : Fin 2) = (t.val / 2) ∧ win0_2.index t (1 : Fin 2) = (t.val % 2))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 1024) (q : Fin 384), j = (ix2 p q : S1024x384.Idx) := ⟨j 0, j 1, eq_ix2 _⟩
    have e : ((cfg0.win 2).blk t).view.emb (ix2 p q) = (ix2 (row t p) (col t q) : S1024x768.Idx) := by
      funext x
      apply Fin.ext
      match x with
      | ⟨0, _⟩ => show win0_2.index t (0 : Fin 2) * 1024 + 1 * p.val = (t.val / 2) * 1024 + p.val; rw [(idx2 t).1]; omega
      | ⟨1, _⟩ => show win0_2.index t (1 : Fin 2) * 384 + 1 * q.val = (t.val % 2) * 384 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 1024 := (i 0).isLt
    have h1 : (i 1 : Nat) < 768 := (i 1).isLt
    have hb : (i 0 : Nat) / 1024 * 2 + (i 1 : Nat) / 384 < cfg0.N := by omega
    refine ⟨⟨(i 0 : Nat) / 1024 * 2 + (i 1 : Nat) / 384, hb⟩, flush0_2 _, ?_⟩
    show i ∈ ((View.whole main_v0).slice (win0_2.rect ⟨(i 0 : Nat) / 1024 * 2 + (i 1 : Nat) / 384, hb⟩)).set
    rw [View.set_slice_whole, Rect.mem_set_unit]
    intro x
    match x with
    | ⟨0, _⟩ => show win0_2.index ⟨(i 0 : Nat) / 1024 * 2 + (i 1 : Nat) / 384, hb⟩ (0 : Fin 2) * 1024 ≤ (i 0 : Nat) ∧ (i 0 : Nat) < win0_2.index ⟨(i 0 : Nat) / 1024 * 2 + (i 1 : Nat) / 384, hb⟩ (0 : Fin 2) * 1024 + 1024
                rw [(idx2 ⟨(i 0 : Nat) / 1024 * 2 + (i 1 : Nat) / 384, hb⟩).1]; dsimp only; omega
    | ⟨1, _⟩ => show win0_2.index ⟨(i 0 : Nat) / 1024 * 2 + (i 1 : Nat) / 384, hb⟩ (1 : Fin 2) * 384 ≤ (i 1 : Nat) ∧ (i 1 : Nat) < win0_2.index ⟨(i 0 : Nat) / 1024 * 2 + (i 1 : Nat) / 384, hb⟩ (1 : Fin 2) * 384 + 384
                rw [(idx2 ⟨(i 0 : Nat) / 1024 * 2 + (i 1 : Nat) / 384, hb⟩).2]; dsimp only; omega

/-! ## The reference -/

theorem ref_eq (a : Vec Ideal S4352x1024 .bf16) (b : Vec Ideal S4352x768 .f32) :
    Cert.InDb768RefIdeal.Read.val_main_v4 (F := Ideal) a b = goal a b := by
  funext i
  unfold goal
  rw [Cert.InDb768RefIdeal.Read.val_main_v4_apply]
  rw [Cert.InDb768RefIdeal.Read.val_main_v3_apply]
  refine Finset.sum_congr rfl fun k _ => ?_
  refine (mul_comm _ _).trans ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_InDb768RefIdeal := fun m ρ _ =>
  (θ_run Cert.InDb768RefIdeal.defs _ _).mono (fun r h => ⟨fun c => (h c).2, sem_eq_zero_of_no_sems (by decide) r.2⟩)
    (Cert.InDb768RefIdeal.Value.run (F := Ideal) m ρ)

theorem algebraic : Cert.algebraic_InDb768Ideal_InDb768RefIdeal := by
  intro m ρ m' ρ' _ hag
  refine ⟨fun c => goal (m ((c : Thread nD τ).loc main_arg0)) (m ((c : Thread nD τ).loc main_arg1)), ?_, ?_⟩
  · refine (θ_run Cert.InDb768Ideal.defs _ _).mono (fun r h c => ?_) (Cert.InDb768Ideal.Value.run_blocks m ρ)
    exact ⟨(h c).1.trans (final m c), (h c).2⟩
  · refine (θ_run Cert.InDb768RefIdeal.defs _ _).mono (fun r h c => ?_) (Cert.InDb768RefIdeal.Value.run (F := Ideal) m' ρ')
    refine ⟨(h c).1.trans ?_, (h c).2⟩
    rw [Cert.InDb768RefIdeal.Read.val_main_v4_eq, (hag c).1, (hag c).2]
    exact ref_eq ..

end Cert.Proof.InDb768

end
-- ==== Proof.InDb128Prod.lean ====
/-  The gradient of the weights of the 128-column piece of the input projection. -/
module

public import proofs.«01_k».proof.Defs
public import proofs.«01_k».proof.Proof.Gen.InDb128Ideal.Value
public import proofs.«01_k».proof.Proof.Gen.InDb128RefIdeal.Run
public import proofs.«01_k».proof.Proof.Gen.InDb128RefIdeal.Read
public import Idealize.ShloMosaic.Lib.Pointwise

@[expose] public section

set_option maxRecDepth 16384

noncomputable section

namespace Cert.Proof.InDb128

open Cert.InDb128Ideal Cert.InDb128Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S4352x128 .f32) : Vec Ideal S1024x128 .f32 :=
  fun i => ∑ k : Fin 4352, (a (ix2 k (i 0)) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S4352x1024 .bf16) (x1 : Vec Ideal S4352x128 .f32) (p : Fin 1024) (q : Fin 128) :
    (out0_2 x0 x1) (ix2 p q) = ∑ k : Fin 4352, (x0 (ix2 k p) : EReal) * (x1 (ix2 k q) : EReal) := by
  have e : out0_2 x0 x1 = k0_pay1 x0 x1 := by
    unfold out0_2
    rw [View.canon_unit_zero hz]
    rw [View.ld_unit_zero (S := S4352x1024) hz, View.ld_unit_zero (S := S4352x128) hz]
  rw [e]
  unfold k0_pay1
  pointwise

abbrev row (t : Fin cfg0.N) (p : Fin 1024) : Fin 1024 := ⟨(t.val / 1) * 1024 + p.val, by have := t.isLt; have : cfg0.N = 1 := N_0; omega⟩
abbrev col (t : Fin cfg0.N) (q : Fin 128) : Fin 128 := ⟨(t.val % 1) * 128 + q.val, by omega⟩

theorem idx0 : ∀ t : Fin cfg0.N, win0_0.index t (0 : Fin 2) = 0 ∧ win0_0.index t (1 : Fin 2) = (t.val / 1) :=
  (by decide +kernel : ∀ t : Fin grid0.N, win0_0.index t (0 : Fin 2) = 0 ∧ win0_0.index t (1 : Fin 2) = (t.val / 1))

theorem read0 (c : Dev nD) (t : Fin cfg0.N) (k : Fin 4352) (p : Fin 1024) :
    (iblk m c 0 t : Vec Ideal S4352x1024 .bf16) (ix2 k p) = m ((c : Thread nD τ).loc main_arg0) (ix2 k (row t p)) := by
  unfold iblk
  rw [View.read_apply]
  show V m c main_arg0 _ = _
  rw [V_main_arg0]
  congr 1
  funext x
  apply Fin.ext
  match x with
  | ⟨0, _⟩ => show win0_0.index t (0 : Fin 2) * 4352 + 1 * k.val = k.val; rw [(idx0 t).1]; omega
  | ⟨1, _⟩ => show win0_0.index t (1 : Fin 2) * 1024 + 1 * p.val = (t.val / 1) * 1024 + p.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 4352) (q : Fin 128) :
    (iblk m c 1 t : Vec Ideal S4352x128 .f32) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 4352 + 1 * k.val = k.val; rw [(idx1 t).1]; omega
  | ⟨1, _⟩ => show win0_1.index t (1 : Fin 2) * 128 + 1 * q.val = (t.val % 1) * 128 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 1 := N_0
  refine (dats m 0 c).arrAt_eq_of_cover 2 _ (fun t hf => ?_) fun i => ?_
  · rw [Value.flushed2]
    funext j
    rw [View.read_apply]
    obtain ⟨p, q, rfl⟩ : ∃ (p : Fin 1024) (q : Fin 128), j = (ix2 p q : S1024x128.Idx) := ⟨j 0, j 1, eq_ix2 _⟩
    have e : ((cfg0.win 2).blk t).view.emb (ix2 p q) = (ix2 (row t p) (col t q) : S1024x128.Idx) := by
      funext x
      apply Fin.ext
      match x with
      | ⟨0, _⟩ => show win0_2.index t (0 : Fin 2) * 1024 + 1 * p.val = (t.val / 1) * 1024 + p.val; rw [(idx2 t).1]; omega
      | ⟨1, _⟩ => show win0_2.index t (1 : Fin 2) * 128 + 1 * q.val = (t.val % 1) * 128 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 1024 := (i 0).isLt
    have h1 : (i 1 : Nat) < 128 := (i 1).isLt
    have hb : (i 0 : Nat) / 1024 * 1 + (i 1 : Nat) / 128 < cfg0.N := by omega
    refine ⟨⟨(i 0 : Nat) / 1024 * 1 + (i 1 : Nat) / 128, hb⟩, flush0_2 _, ?_⟩
    show i ∈ ((View.whole main_v0).slice (win0_2.rect ⟨(i 0 : Nat) / 1024 * 1 + (i 1 : Nat) / 128, hb⟩)).set
    rw [View.set_slice_whole, Rect.mem_set_unit]
    intro x
    match x with
    | ⟨0, _⟩ => show win0_2.index ⟨(i 0 : Nat) / 1024 * 1 + (i 1 : Nat) / 128, hb⟩ (0 : Fin 2) * 1024 ≤ (i 0 : Nat) ∧ (i 0 : Nat) < win0_2.index ⟨(i 0 : Nat) / 1024 * 1 + (i 1 : Nat) / 128, hb⟩ (0 : Fin 2) * 1024 + 1024
                rw [(idx2 ⟨(i 0 : Nat) / 1024 * 1 + (i 1 : Nat) / 128, hb⟩).1]; dsimp only; omega
    | ⟨1, _⟩ => show win0_2.index ⟨(i 0 : Nat) / 1024 * 1 + (i 1 : Nat) / 128, hb⟩ (1 : Fin 2) * 128 ≤ (i 1 : Nat) ∧ (i 1 : Nat) < win0_2.index ⟨(i 0 : Nat) / 1024 * 1 + (i 1 : Nat) / 128, hb⟩ (1 : Fin 2) * 128 + 128
                rw [(idx2 ⟨(i 0 : Nat) / 1024 * 1 + (i 1 : Nat) / 128, hb⟩).2]; dsimp only; omega

/-! ## The reference -/

theorem ref_eq (a : Vec Ideal S4352x1024 .bf16) (b : Vec Ideal S4352x128 .f32) :
    Cert.InDb128RefIdeal.Read.val_main_v4 (F := Ideal) a b = goal a b := by
  funext i
  unfold goal
  rw [Cert.InDb128RefIdeal.Read.val_main_v4_apply]
  rw [Cert.InDb128RefIdeal.Read.val_main_v3_apply]
  refine Finset.sum_congr rfl fun k _ => ?_
  refine (mul_comm _ _).trans ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_InDb128RefIdeal := fun m ρ _ =>
  (θ_run Cert.InDb128RefIdeal.defs _ _).mono (fun r h => ⟨fun c => (h c).2, sem_eq_zero_of_no_sems (by decide) r.2⟩)
    (Cert.InDb128RefIdeal.Value.run (F := Ideal) m ρ)

theorem algebraic : Cert.algebraic_InDb128Ideal_InDb128RefIdeal := by
  intro m ρ m' ρ' _ hag
  refine ⟨fun c => goal (m ((c : Thread nD τ).loc main_arg0)) (m ((c : Thread nD τ).loc main_arg1)), ?_, ?_⟩
  · refine (θ_run Cert.InDb128Ideal.defs _ _).mono (fun r h c => ?_) (Cert.InDb128Ideal.Value.run_blocks m ρ)
    exact ⟨(h c).1.trans (final m c), (h c).2⟩
  · refine (θ_run Cert.InDb128RefIdeal.defs _ _).mono (fun r h c => ?_) (Cert.InDb128RefIdeal.Value.run (F := Ideal) m' ρ')
    refine ⟨(h c).1.trans ?_, (h c).2⟩
    rw [Cert.InDb128RefIdeal.Read.val_main_v4_eq, (hag c).1, (hag c).2]
    exact ref_eq ..

end Cert.Proof.InDb128

end
-- ==== Proof.GateProd.lean ====
/-  The pre-activations of the four gates: one product with the four weight matrices joined side by side. -/
module

public import proofs.«01_k».proof.Defs
public import proofs.«01_k».proof.Proof.Gen.GateIdeal.Value
public import proofs.«01_k».proof.Proof.Gen.GateRefIdeal.Run
public import proofs.«01_k».proof.Proof.Gen.GateRefIdeal.Read
public import Idealize.ShloMosaic.Lib.Pointwise

@[expose] public section

set_option maxRecDepth 16384

noncomputable section

namespace Cert.Proof.Gate

open Cert.GateIdeal Cert.GateIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Which gate a joined column belongs to, and where in it. -/
abbrev slab (b : Fin 4096) : Fin 4 := ⟨b.val / 1024, by omega⟩
abbrev cell (b : Fin 4096) : Fin 1024 := ⟨b.val % 1024, by omega⟩

/-- The product, cell by cell. -/
def goal (a : Vec Ideal S4352x1024 .bf16) (b : Vec Ideal S4x1024x1024 .bf16) : Vec Ideal S4352x4096 .bf16 :=
  fun i => ∑ k : Fin 1024, (a (ix2 (i 0) k) : EReal) * (b (ix3 (slab (i 1)) k (cell (i 1))) : EReal)

theorem hz : (![0, 0] : Fin 2 → Nat) = fun _ => 0 := funext fun a => by fin_cases a <;> rfl

/-- What a grid point stores is the product of its two blocks. -/
theorem out_apply (x0 : Vec Ideal S1088x1024 .bf16) (x1 : Vec Ideal S1024x4096 .bf16) (p : Fin 1088) (q : Fin 4096) :
    (out0_2 x0 x1) (ix2 p q) = ∑ k : Fin 1024, (x0 (ix2 p k) : EReal) * (x1 (ix2 k q) : EReal) := by
  have e : out0_2 x0 x1 = k0_pay1 x0 x1 := by
    unfold out0_2
    rw [View.canon_unit_zero hz]
    rw [View.ld_unit_zero (S := S1088x1024) hz, View.ld_unit_zero (S := S1024x4096) hz]
  rw [e]
  unfold k0_pay1
  pointwise

abbrev row (t : Fin cfg0.N) (p : Fin 1088) : Fin 4352 := ⟨(t.val / 1) * 1088 + p.val, by have := t.isLt; have : cfg0.N = 4 := N_0; omega⟩
abbrev col (t : Fin cfg0.N) (q : Fin 4096) : Fin 4096 := ⟨(t.val % 1) * 4096 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 1088) (k : Fin 1024) :
    (iblk m c 0 t : Vec Ideal S1088x1024 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 1088 + 1 * p.val = (t.val / 1) * 1088 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The four gate weights side by side: the row of the joined matrix is the row of each, its columns the four column ranges in turn. -/
theorem V_joined (c : Dev nD) : V m c main_v1
    = (shapeCast S1024x4096 (transpose S1024x4x1024 [1, 0, 2] (m ((c : Thread nD τ).loc main_arg1) : Vec Ideal S4x1024x1024 .bf16)
        transposes_S4x1024x1024_S1024x4x1024_1_0_2) shapeCasts_S1024x4x1024_S1024x4096 : Vec Ideal S1024x4096 .bf16) := by
  show StableHlo.after hostOps0 (fun b => m (c, b)) (Proc.devRef .tc main_v1) = _
  unfold hostOps0
  after_results
  rfl

theorem joined_apply (w : Vec Ideal S4x1024x1024 .bf16) (a : Fin 1024) (b : Fin 4096) :
    (shapeCast S1024x4096 (transpose S1024x4x1024 [1, 0, 2] w transposes_S4x1024x1024_S1024x4x1024_1_0_2)
      shapeCasts_S1024x4x1024_S1024x4096 : Vec Ideal S1024x4096 .bf16) (ix2 a b) = w (ix3 (slab b) a (cell b)) := by
  refine (shapeCast_apply (s := S1024x4x1024) (t := S1024x4096) _ _ _ (ix3 a (slab b) (cell b)) ?_).trans ?_
  · rw [Shape.rowMajor_val_two, Shape.rowMajor_val_three]
    show (a.val * 4 + b.val / 1024) * 1024 + b.val % 1024 = a.val * 4096 + b.val
    omega
  · refine transpose_apply (s := S4x1024x1024) (t := S1024x4x1024) _ _ _ _ (ix3 (slab b) a (cell b)) fun x => ?_
    match x with
    | ⟨0, _⟩ => rfl
    | ⟨1, _⟩ => rfl
    | ⟨2, _⟩ => rfl

theorem read1 (c : Dev nD) (t : Fin cfg0.N) (k : Fin 1024) (q : Fin 4096) :
    (iblk m c 1 t : Vec Ideal S1024x4096 .bf16) (ix2 k q) = (m ((c : Thread nD τ).loc main_arg1) : Vec Ideal S4x1024x1024 .bf16) (ix3 (slab q) k (cell q)) := by
  have e : ((cfg0.win 1).blk t).view.emb (ix2 k q) = (ix2 k q : S1024x4096.Idx) := by
    funext x
    apply Fin.ext
    match x with
    | ⟨0, _⟩ => show win0_1.index t (0 : Fin 2) * 1024 + 1 * k.val = k.val; rw [(idx1 t).1]; omega
    | ⟨1, _⟩ => show win0_1.index t (1 : Fin 2) * 4096 + 1 * q.val = q.val; rw [(idx1 t).2]; omega
  unfold iblk
  rw [View.read_apply]
  show V m c main_v1 _ = _
  rw [V_joined]
  exact (congrArg _ e).trans (joined_apply _ _ _)

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 4 := N_0
  refine (dats m 0 c).arrAt_eq_of_cover 2 _ (fun t hf => ?_) fun i => ?_
  · rw [Value.flushed2]
    funext j
    rw [View.read_apply]
    obtain ⟨p, q, rfl⟩ : ∃ (p : Fin 1088) (q : Fin 4096), j = (ix2 p q : S1088x4096.Idx) := ⟨j 0, j 1, eq_ix2 _⟩
    have e : ((cfg0.win 2).blk t).view.emb (ix2 p q) = (ix2 (row t p) (col t q) : S4352x4096.Idx) := by
      funext x
      apply Fin.ext
      match x with
      | ⟨0, _⟩ => show win0_2.index t (0 : Fin 2) * 1088 + 1 * p.val = (t.val / 1) * 1088 + p.val; rw [(idx2 t).1]; omega
      | ⟨1, _⟩ => show win0_2.index t (1 : Fin 2) * 4096 + 1 * q.val = (t.val % 1) * 4096 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    refine congrArg₂ (fun x y : EReal => x * y) rfl (congrArg (m ((c : Thread nD τ).loc main_arg1)) ?_)
    funext x
    apply Fin.ext
    match x with
    | ⟨0, _⟩ => show _ = _; first | rfl | (show q.val / 1024 = ((t.val % 1) * 4096 + q.val) / 1024; omega)
    | ⟨1, _⟩ => show _ = _; first | rfl | (show q.val = (t.val % 1) * 1024 + q.val; omega)
    | ⟨2, _⟩ => show _ = _; first | rfl | (show q.val % 1024 = ((t.val % 1) * 4096 + q.val) % 1024; omega)
  · have h0 : (i 0 : Nat) < 4352 := (i 0).isLt
    have h1 : (i 1 : Nat) < 4096 := (i 1).isLt
    have hb : (i 0 : Nat) / 1088 * 1 + (i 1 : Nat) / 4096 < cfg0.N := by omega
    refine ⟨⟨(i 0 : Nat) / 1088 * 1 + (i 1 : Nat) / 4096, hb⟩, flush0_2 _, ?_⟩
    show i ∈ ((View.whole main_v2).slice (win0_2.rect ⟨(i 0 : Nat) / 1088 * 1 + (i 1 : Nat) / 4096, hb⟩)).set
    rw [View.set_slice_whole, Rect.mem_set_unit]
    intro x
    match x with
    | ⟨0, _⟩ => show win0_2.index ⟨(i 0 : Nat) / 1088 * 1 + (i 1 : Nat) / 4096, hb⟩ (0 : Fin 2) * 1088 ≤ (i 0 : Nat) ∧ (i 0 : Nat) < win0_2.index ⟨(i 0 : Nat) / 1088 * 1 + (i 1 : Nat) / 4096, hb⟩ (0 : Fin 2) * 1088 + 1088
                rw [(idx2 ⟨(i 0 : Nat) / 1088 * 1 + (i 1 : Nat) / 4096, hb⟩).1]; dsimp only; omega
    | ⟨1, _⟩ => show win0_2.index ⟨(i 0 : Nat) / 1088 * 1 + (i 1 : Nat) / 4096, hb⟩ (1 : Fin 2) * 4096 ≤ (i 1 : Nat) ∧ (i 1 : Nat) < win0_2.index ⟨(i 0 : Nat) / 1088 * 1 + (i 1 : Nat) / 4096, hb⟩ (1 : Fin 2) * 4096 + 4096
                rw [(idx2 ⟨(i 0 : Nat) / 1088 * 1 + (i 1 : Nat) / 4096, hb⟩).2]; dsimp only; omega

/-! ## The reference -/

theorem ref_w0 (b : Vec Ideal S4x1024x1024 .bf16) (e d : Fin 1024) :
    Cert.GateRefIdeal.Read.val_main_v3 (F := Ideal) b (ix2 e d) = b (ix3 (0 : Fin 4) e d) := by
  rw [Cert.GateRefIdeal.Read.val_main_v3_apply, Cert.GateRefIdeal.Read.val_main_v2_apply, Cert.GateRefIdeal.Read.val_main_v1_apply]
  show b _ = _
  refine congrArg b (funext fun x => Fin.ext ?_)
  match x with
  | ⟨0, _⟩ => show 0 = 0; rfl
  | ⟨1, _⟩ => show (e.val * 1024 + d.val) / 1024 % 1024 = e.val; omega
  | ⟨2, _⟩ => show (e.val * 1024 + d.val) % 1024 = d.val; omega

theorem ref_w1 (b : Vec Ideal S4x1024x1024 .bf16) (e d : Fin 1024) :
    Cert.GateRefIdeal.Read.val_main_v6 (F := Ideal) b (ix2 e d) = b (ix3 (1 : Fin 4) e d) := by
  rw [Cert.GateRefIdeal.Read.val_main_v6_apply, Cert.GateRefIdeal.Read.val_main_v5_apply, Cert.GateRefIdeal.Read.val_main_v1_apply]
  show b _ = _
  refine congrArg b (funext fun x => Fin.ext ?_)
  match x with
  | ⟨0, _⟩ => show 1 + 0 = 1; rfl
  | ⟨1, _⟩ => show (e.val * 1024 + d.val) / 1024 % 1024 = e.val; omega
  | ⟨2, _⟩ => show (e.val * 1024 + d.val) % 1024 = d.val; omega

theorem ref_w2 (b : Vec Ideal S4x1024x1024 .bf16) (e d : Fin 1024) :
    Cert.GateRefIdeal.Read.val_main_v9 (F := Ideal) b (ix2 e d) = b (ix3 (2 : Fin 4) e d) := by
  rw [Cert.GateRefIdeal.Read.val_main_v9_apply, Cert.GateRefIdeal.Read.val_main_v8_apply, Cert.GateRefIdeal.Read.val_main_v1_apply]
  show b _ = _
  refine congrArg b (funext fun x => Fin.ext ?_)
  match x with
  | ⟨0, _⟩ => show 2 + 0 = 2; rfl
  | ⟨1, _⟩ => show (e.val * 1024 + d.val) / 1024 % 1024 = e.val; omega
  | ⟨2, _⟩ => show (e.val * 1024 + d.val) % 1024 = d.val; omega

theorem ref_w3 (b : Vec Ideal S4x1024x1024 .bf16) (e d : Fin 1024) :
    Cert.GateRefIdeal.Read.val_main_v12 (F := Ideal) b (ix2 e d) = b (ix3 (3 : Fin 4) e d) := by
  rw [Cert.GateRefIdeal.Read.val_main_v12_apply, Cert.GateRefIdeal.Read.val_main_v11_apply, Cert.GateRefIdeal.Read.val_main_v1_apply]
  show b _ = _
  refine congrArg b (funext fun x => Fin.ext ?_)
  match x with
  | ⟨0, _⟩ => show 3 + 0 = 3; rfl
  | ⟨1, _⟩ => show (e.val * 1024 + d.val) / 1024 % 1024 = e.val; omega
  | ⟨2, _⟩ => show (e.val * 1024 + d.val) % 1024 = d.val; omega

theorem ref_piece0 (a : Vec Ideal S4352x1024 .bf16) (b : Vec Ideal S4x1024x1024 .bf16) (p : Fin 4352) (d : Fin 1024) :
    Cert.GateRefIdeal.Read.val_main_v14 (F := Ideal) a b (ix3 p (0 : Fin 1) d) = ∑ k : Fin 1024, (a (ix2 p k) : EReal) * (b (ix3 (0 : Fin 4) k d) : EReal) := by
  rw [Cert.GateRefIdeal.Read.val_main_v14_apply, Cert.GateRefIdeal.Read.val_main_v4_apply]
  refine Finset.sum_congr rfl fun k _ => ?_
  refine congrArg₂ (fun x y : EReal => x * y) (congrArg a (funext fun x => by match x with | ⟨0, _⟩ => rfl | ⟨1, _⟩ => rfl)) (Eq.trans (congrArg _ ?_) (ref_w0 b k d))
  exact funext fun x => by match x with | ⟨0, _⟩ => rfl | ⟨1, _⟩ => rfl

theorem ref_piece1 (a : Vec Ideal S4352x1024 .bf16) (b : Vec Ideal S4x1024x1024 .bf16) (p : Fin 4352) (d : Fin 1024) :
    Cert.GateRefIdeal.Read.val_main_v15 (F := Ideal) a b (ix3 p (0 : Fin 1) d) = ∑ k : Fin 1024, (a (ix2 p k) : EReal) * (b (ix3 (1 : Fin 4) k d) : EReal) := by
  rw [Cert.GateRefIdeal.Read.val_main_v15_apply, Cert.GateRefIdeal.Read.val_main_v7_apply]
  refine Finset.sum_congr rfl fun k _ => ?_
  refine congrArg₂ (fun x y : EReal => x * y) (congrArg a (funext fun x => by match x with | ⟨0, _⟩ => rfl | ⟨1, _⟩ => rfl)) (Eq.trans (congrArg _ ?_) (ref_w1 b k d))
  exact funext fun x => by match x with | ⟨0, _⟩ => rfl | ⟨1, _⟩ => rfl

theorem ref_piece2 (a : Vec Ideal S4352x1024 .bf16) (b : Vec Ideal S4x1024x1024 .bf16) (p : Fin 4352) (d : Fin 1024) :
    Cert.GateRefIdeal.Read.val_main_v16 (F := Ideal) a b (ix3 p (0 : Fin 1) d) = ∑ k : Fin 1024, (a (ix2 p k) : EReal) * (b (ix3 (2 : Fin 4) k d) : EReal) := by
  rw [Cert.GateRefIdeal.Read.val_main_v16_apply, Cert.GateRefIdeal.Read.val_main_v10_apply]
  refine Finset.sum_congr rfl fun k _ => ?_
  refine congrArg₂ (fun x y : EReal => x * y) (congrArg a (funext fun x => by match x with | ⟨0, _⟩ => rfl | ⟨1, _⟩ => rfl)) (Eq.trans (congrArg _ ?_) (ref_w2 b k d))
  exact funext fun x => by match x with | ⟨0, _⟩ => rfl | ⟨1, _⟩ => rfl

theorem ref_piece3 (a : Vec Ideal S4352x1024 .bf16) (b : Vec Ideal S4x1024x1024 .bf16) (p : Fin 4352) (d : Fin 1024) :
    Cert.GateRefIdeal.Read.val_main_v17 (F := Ideal) a b (ix3 p (0 : Fin 1) d) = ∑ k : Fin 1024, (a (ix2 p k) : EReal) * (b (ix3 (3 : Fin 4) k d) : EReal) := by
  rw [Cert.GateRefIdeal.Read.val_main_v17_apply, Cert.GateRefIdeal.Read.val_main_v13_apply]
  refine Finset.sum_congr rfl fun k _ => ?_
  refine congrArg₂ (fun x y : EReal => x * y) (congrArg a (funext fun x => by match x with | ⟨0, _⟩ => rfl | ⟨1, _⟩ => rfl)) (Eq.trans (congrArg _ ?_) (ref_w3 b k d))
  exact funext fun x => by match x with | ⟨0, _⟩ => rfl | ⟨1, _⟩ => rfl

theorem ref_eq (a : Vec Ideal S4352x1024 .bf16) (b : Vec Ideal S4x1024x1024 .bf16) :
    Cert.GateRefIdeal.Read.val_main_v20 (F := Ideal) a b = goal a b := by
  funext i
  unfold goal
  obtain ⟨p, q, rfl⟩ : ∃ (p : Fin 4352) (q : Fin 4096), i = ix2 p q := ⟨i 0, i 1, eq_ix2 _⟩
  have e : Cert.GateRefIdeal.Read.idx_main_v20 (ix2 p q) = ix3 p (slab q) (cell q) := by
    funext x
    apply Fin.ext
    match x with
    | ⟨0, _⟩ => show (p.val * 4096 + q.val) / 4096 = p.val; omega
    | ⟨1, _⟩ => show (p.val * 4096 + q.val) / 1024 % 4 = q.val / 1024; omega
    | ⟨2, _⟩ => show (p.val * 4096 + q.val) % 1024 = q.val % 1024; omega
  rw [Cert.GateRefIdeal.Read.val_main_v20_apply, Cert.GateRefIdeal.Read.val_main_v19_apply, e]
  show Cert.GateRefIdeal.Read.val_main_v18 (F := Ideal) a b (ix3 p (slab q) (cell q)) = _
  unfold Cert.GateRefIdeal.Read.val_main_v18
  refine (concatenate_ofFn_unit_apply (t := Cert.GateRefIdeal.S4352x4x1024) (s₁ := Cert.GateRefIdeal.S4352x1x1024) 1
    ![Cert.GateRefIdeal.Read.val_main_v14 (F := Ideal) a b, Cert.GateRefIdeal.Read.val_main_v15 (F := Ideal) a b, Cert.GateRefIdeal.Read.val_main_v16 (F := Ideal) a b, Cert.GateRefIdeal.Read.val_main_v17 (F := Ideal) a b]
    _ rfl rfl (ix3 p (slab q) (cell q)) (slab q) rfl (ix3 p (0 : Fin 1) (cell q)) ?_).trans ?_
  · intro x hx
    match x with
    | ⟨0, _⟩ => rfl
    | ⟨1, _⟩ => exact absurd rfl hx
    | ⟨2, _⟩ => rfl
  · show _ = ∑ k : Fin 1024, (a (ix2 p k) : EReal) * (b (ix3 (slab q) k (cell q)) : EReal)
    generalize slab q = s
    match s with
    | ⟨0, _⟩ => exact ref_piece0 a b p (cell q)
    | ⟨1, _⟩ => exact ref_piece1 a b p (cell q)
    | ⟨2, _⟩ => exact ref_piece2 a b p (cell q)
    | ⟨3, _⟩ => exact ref_piece3 a b p (cell q)

theorem frame_ref : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

theorem algebraic : Cert.algebraic_GateIdeal_GateRefIdeal := by
  intro m ρ m' ρ' _ hag
  refine ⟨fun c => goal (m ((c : Thread nD τ).loc main_arg0)) (m ((c : Thread nD τ).loc main_arg1)), ?_, ?_⟩
  · refine (θ_run Cert.GateIdeal.defs _ _).mono (fun r h c => ?_) (Cert.GateIdeal.Value.run_blocks m ρ)
    exact ⟨(h c).1.trans (final m c), (h c).2⟩
  · refine (θ_run Cert.GateRefIdeal.defs _ _).mono (fun r h c => ?_) (Cert.GateRefIdeal.Value.run (F := Ideal) m' ρ')
    refine ⟨(h c).1.trans ?_, (h c).2⟩
    rw [Cert.GateRefIdeal.Read.val_main_v20_eq, (hag c).1, (hag c).2]
    exact ref_eq ..

end Cert.Proof.Gate

end
-- ==== Proof.GateDaProd.lean ====
/-  The gradient of the gates' operand: the cotangent times the joined weights transposed, against four products summed. -/
module

public import proofs.«01_k».proof.Defs
public import proofs.«01_k».proof.Proof.Gen.GateDaIdeal.Value
public import proofs.«01_k».proof.Proof.Gen.GateDaRefIdeal.Run
public import proofs.«01_k».proof.Proof.Gen.GateDaRefIdeal.Read
public import Idealize.ShloMosaic.Lib.Pointwise

@[expose] public section

set_option maxRecDepth 16384

noncomputable section

namespace Cert.Proof.GateDa

open Cert.GateDaIdeal Cert.GateDaIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Which gate a joined column belongs to, and where in it. -/
abbrev slab (b : Fin 4096) : Fin 4 := ⟨b.val / 1024, by omega⟩
abbrev cell (b : Fin 4096) : Fin 1024 := ⟨b.val % 1024, by omega⟩

/-- The product, cell by cell. -/
def goal (a : Vec Ideal S4352x4096 .bf16) (b : Vec Ideal S4x1024x1024 .bf16) : Vec Ideal S4352x1024 .bf16 :=
  fun i => ∑ k : Fin 4096, (a (ix2 (i 0) k) : EReal) * (b (ix3 (slab k) (i 1) (cell k)) : EReal)

theorem hz : (![0, 0] : Fin 2 → Nat) = fun _ => 0 := funext fun a => by fin_cases a <;> rfl

/-- What a grid point stores is the product of its two blocks. -/
theorem out_apply (x0 : Vec Ideal S544x4096 .bf16) (x1 : Vec Ideal S1024x4096 .bf16) (p : Fin 544) (q : Fin 1024) :
    (out0_2 x0 x1) (ix2 p q) = ∑ k : Fin 4096, (x0 (ix2 p k) : EReal) * (x1 (ix2 q k) : EReal) := by
  have e : out0_2 x0 x1 = k0_pay1 x0 x1 := by
    unfold out0_2
    rw [View.canon_unit_zero hz]
    rw [View.ld_unit_zero (S := S544x4096) hz, View.ld_unit_zero (S := S1024x4096) hz]
  rw [e]
  unfold k0_pay1
  pointwise

abbrev row (t : Fin cfg0.N) (p : Fin 544) : Fin 4352 := ⟨(t.val / 1) * 544 + p.val, by have := t.isLt; have : cfg0.N = 8 := N_0; omega⟩
abbrev col (t : Fin cfg0.N) (q : Fin 1024) : Fin 1024 := ⟨(t.val % 1) * 1024 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 544) (k : Fin 4096) :
    (iblk m c 0 t : Vec Ideal S544x4096 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 544 + 1 * p.val = (t.val / 1) * 544 + p.val; rw [(idx0 t).1]; omega
  | ⟨1, _⟩ => show win0_0.index t (1 : Fin 2) * 4096 + 1 * k.val = k.val; rw [(idx0 t).2]; omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The four gate weights side by side: the row of the joined matrix is the row of each, its columns the four column ranges in turn. -/
theorem V_joined (c : Dev nD) : V m c main_v1
    = (shapeCast S1024x4096 (transpose S1024x4x1024 [1, 0, 2] (m ((c : Thread nD τ).loc main_arg1) : Vec Ideal S4x1024x1024 .bf16)
        transposes_S4x1024x1024_S1024x4x1024_1_0_2) shapeCasts_S1024x4x1024_S1024x4096 : Vec Ideal S1024x4096 .bf16) := by
  show StableHlo.after hostOps0 (fun b => m (c, b)) (Proc.devRef .tc main_v1) = _
  unfold hostOps0
  after_results
  rfl

theorem joined_apply (w : Vec Ideal S4x1024x1024 .bf16) (a : Fin 1024) (b : Fin 4096) :
    (shapeCast S1024x4096 (transpose S1024x4x1024 [1, 0, 2] w transposes_S4x1024x1024_S1024x4x1024_1_0_2)
      shapeCasts_S1024x4x1024_S1024x4096 : Vec Ideal S1024x4096 .bf16) (ix2 a b) = w (ix3 (slab b) a (cell b)) := by
  refine (shapeCast_apply (s := S1024x4x1024) (t := S1024x4096) _ _ _ (ix3 a (slab b) (cell b)) ?_).trans ?_
  · rw [Shape.rowMajor_val_two, Shape.rowMajor_val_three]
    show (a.val * 4 + b.val / 1024) * 1024 + b.val % 1024 = a.val * 4096 + b.val
    omega
  · refine transpose_apply (s := S4x1024x1024) (t := S1024x4x1024) _ _ _ _ (ix3 (slab b) a (cell b)) fun x => ?_
    match x with
    | ⟨0, _⟩ => rfl
    | ⟨1, _⟩ => rfl
    | ⟨2, _⟩ => rfl

theorem read1 (c : Dev nD) (t : Fin cfg0.N) (q : Fin 1024) (k : Fin 4096) :
    (iblk m c 1 t : Vec Ideal S1024x4096 .bf16) (ix2 q k) = (m ((c : Thread nD τ).loc main_arg1) : Vec Ideal S4x1024x1024 .bf16) (ix3 (slab k) q (cell k)) := by
  have e : ((cfg0.win 1).blk t).view.emb (ix2 q k) = (ix2 q k : S1024x4096.Idx) := by
    funext x
    apply Fin.ext
    match x with
    | ⟨0, _⟩ => show win0_1.index t (0 : Fin 2) * 1024 + 1 * q.val = q.val; rw [(idx1 t).1]; omega
    | ⟨1, _⟩ => show win0_1.index t (1 : Fin 2) * 4096 + 1 * k.val = k.val; rw [(idx1 t).2]; omega
  unfold iblk
  rw [View.read_apply]
  show V m c main_v1 _ = _
  rw [V_joined]
  exact (congrArg _ e).trans (joined_apply _ _ _)

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 8 := N_0
  refine (dats m 0 c).arrAt_eq_of_cover 2 _ (fun t hf => ?_) fun i => ?_
  · rw [Value.flushed2]
    funext j
    rw [View.read_apply]
    obtain ⟨p, q, rfl⟩ : ∃ (p : Fin 544) (q : Fin 1024), j = (ix2 p q : S544x1024.Idx) := ⟨j 0, j 1, eq_ix2 _⟩
    have e : ((cfg0.win 2).blk t).view.emb (ix2 p q) = (ix2 (row t p) (col t q) : S4352x1024.Idx) := by
      funext x
      apply Fin.ext
      match x with
      | ⟨0, _⟩ => show win0_2.index t (0 : Fin 2) * 544 + 1 * p.val = (t.val / 1) * 544 + p.val; rw [(idx2 t).1]; omega
      | ⟨1, _⟩ => show win0_2.index t (1 : Fin 2) * 1024 + 1 * q.val = (t.val % 1) * 1024 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    refine congrArg₂ (fun x y : EReal => x * y) rfl (congrArg (m ((c : Thread nD τ).loc main_arg1)) ?_)
    funext x
    apply Fin.ext
    match x with
    | ⟨0, _⟩ => show _ = _; first | rfl | (show q.val / 1024 = ((t.val % 1) * 4096 + q.val) / 1024; omega)
    | ⟨1, _⟩ => show _ = _; first | rfl | (show q.val = (t.val % 1) * 1024 + q.val; omega)
    | ⟨2, _⟩ => show _ = _; first | rfl | (show q.val % 1024 = ((t.val % 1) * 4096 + q.val) % 1024; omega)
  · have h0 : (i 0 : Nat) < 4352 := (i 0).isLt
    have h1 : (i 1 : Nat) < 1024 := (i 1).isLt
    have hb : (i 0 : Nat) / 544 * 1 + (i 1 : Nat) / 1024 < cfg0.N := by omega
    refine ⟨⟨(i 0 : Nat) / 544 * 1 + (i 1 : Nat) / 1024, hb⟩, flush0_2 _, ?_⟩
    show i ∈ ((View.whole main_v2).slice (win0_2.rect ⟨(i 0 : Nat) / 544 * 1 + (i 1 : Nat) / 1024, hb⟩)).set
    rw [View.set_slice_whole, Rect.mem_set_unit]
    intro x
    match x with
    | ⟨0, _⟩ => show win0_2.index ⟨(i 0 : Nat) / 544 * 1 + (i 1 : Nat) / 1024, hb⟩ (0 : Fin 2) * 544 ≤ (i 0 : Nat) ∧ (i 0 : Nat) < win0_2.index ⟨(i 0 : Nat) / 544 * 1 + (i 1 : Nat) / 1024, hb⟩ (0 : Fin 2) * 544 + 544
                rw [(idx2 ⟨(i 0 : Nat) / 544 * 1 + (i 1 : Nat) / 1024, hb⟩).1]; dsimp only; omega
    | ⟨1, _⟩ => show win0_2.index ⟨(i 0 : Nat) / 544 * 1 + (i 1 : Nat) / 1024, hb⟩ (1 : Fin 2) * 1024 ≤ (i 1 : Nat) ∧ (i 1 : Nat) < win0_2.index ⟨(i 0 : Nat) / 544 * 1 + (i 1 : Nat) / 1024, hb⟩ (1 : Fin 2) * 1024 + 1024
                rw [(idx2 ⟨(i 0 : Nat) / 544 * 1 + (i 1 : Nat) / 1024, hb⟩).2]; dsimp only; omega

/-! ## The reference -/

theorem ref_w0 (b : Vec Ideal S4x1024x1024 .bf16) (e d : Fin 1024) :
    Cert.GateDaRefIdeal.Read.val_main_v5 (F := Ideal) b (ix2 e d) = b (ix3 (0 : Fin 4) e d) := by
  rw [Cert.GateDaRefIdeal.Read.val_main_v5_apply, Cert.GateDaRefIdeal.Read.val_main_v4_apply, Cert.GateDaRefIdeal.Read.val_main_v3_apply]
  show b _ = _
  refine congrArg b (funext fun x => Fin.ext ?_)
  match x with
  | ⟨0, _⟩ => show 0 = 0; rfl
  | ⟨1, _⟩ => show (e.val * 1024 + d.val) / 1024 % 1024 = e.val; omega
  | ⟨2, _⟩ => show (e.val * 1024 + d.val) % 1024 = d.val; omega

theorem ref_w1 (b : Vec Ideal S4x1024x1024 .bf16) (e d : Fin 1024) :
    Cert.GateDaRefIdeal.Read.val_main_v8 (F := Ideal) b (ix2 e d) = b (ix3 (1 : Fin 4) e d) := by
  rw [Cert.GateDaRefIdeal.Read.val_main_v8_apply, Cert.GateDaRefIdeal.Read.val_main_v7_apply, Cert.GateDaRefIdeal.Read.val_main_v3_apply]
  show b _ = _
  refine congrArg b (funext fun x => Fin.ext ?_)
  match x with
  | ⟨0, _⟩ => show 1 + 0 = 1; rfl
  | ⟨1, _⟩ => show (e.val * 1024 + d.val) / 1024 % 1024 = e.val; omega
  | ⟨2, _⟩ => show (e.val * 1024 + d.val) % 1024 = d.val; omega

theorem ref_w2 (b : Vec Ideal S4x1024x1024 .bf16) (e d : Fin 1024) :
    Cert.GateDaRefIdeal.Read.val_main_v11 (F := Ideal) b (ix2 e d) = b (ix3 (2 : Fin 4) e d) := by
  rw [Cert.GateDaRefIdeal.Read.val_main_v11_apply, Cert.GateDaRefIdeal.Read.val_main_v10_apply, Cert.GateDaRefIdeal.Read.val_main_v3_apply]
  show b _ = _
  refine congrArg b (funext fun x => Fin.ext ?_)
  match x with
  | ⟨0, _⟩ => show 2 + 0 = 2; rfl
  | ⟨1, _⟩ => show (e.val * 1024 + d.val) / 1024 % 1024 = e.val; omega
  | ⟨2, _⟩ => show (e.val * 1024 + d.val) % 1024 = d.val; omega

theorem ref_w3 (b : Vec Ideal S4x1024x1024 .bf16) (e d : Fin 1024) :
    Cert.GateDaRefIdeal.Read.val_main_v14 (F := Ideal) b (ix2 e d) = b (ix3 (3 : Fin 4) e d) := by
  rw [Cert.GateDaRefIdeal.Read.val_main_v14_apply, Cert.GateDaRefIdeal.Read.val_main_v13_apply, Cert.GateDaRefIdeal.Read.val_main_v3_apply]
  show b _ = _
  refine congrArg b (funext fun x => Fin.ext ?_)
  match x with
  | ⟨0, _⟩ => show 3 + 0 = 3; rfl
  | ⟨1, _⟩ => show (e.val * 1024 + d.val) / 1024 % 1024 = e.val; omega
  | ⟨2, _⟩ => show (e.val * 1024 + d.val) % 1024 = d.val; omega

theorem ref_g0 (a : Vec Ideal S4352x4096 .bf16) (p : Fin 4352) (d : Fin 1024) :
    Cert.GateDaRefIdeal.Read.val_main_v22 (F := Ideal) a (ix2 p d) = a (ix2 p (⟨0 * 1024 + d.val, by omega⟩ : Fin 4096)) := by
  rw [Cert.GateDaRefIdeal.Read.val_main_v22_apply, Cert.GateDaRefIdeal.Read.val_main_v21_apply, Cert.GateDaRefIdeal.Read.val_main_v2_apply, Cert.GateDaRefIdeal.Read.val_main_v1_apply]
  show a _ = _
  refine congrArg a (funext fun x => Fin.ext ?_)
  match x with
  | ⟨0, _⟩ => show (((p.val * 1024 + d.val) / 1024 * 4 + 0) * 1024 + (p.val * 1024 + d.val) % 1024) / 4096 = p.val; omega
  | ⟨1, _⟩ => show (((p.val * 1024 + d.val) / 1024 * 4 + 0) * 1024 + (p.val * 1024 + d.val) % 1024) % 4096 = 0 * 1024 + d.val; omega

theorem ref_g1 (a : Vec Ideal S4352x4096 .bf16) (p : Fin 4352) (d : Fin 1024) :
    Cert.GateDaRefIdeal.Read.val_main_v24 (F := Ideal) a (ix2 p d) = a (ix2 p (⟨1 * 1024 + d.val, by omega⟩ : Fin 4096)) := by
  rw [Cert.GateDaRefIdeal.Read.val_main_v24_apply, Cert.GateDaRefIdeal.Read.val_main_v23_apply, Cert.GateDaRefIdeal.Read.val_main_v2_apply, Cert.GateDaRefIdeal.Read.val_main_v1_apply]
  show a _ = _
  refine congrArg a (funext fun x => Fin.ext ?_)
  match x with
  | ⟨0, _⟩ => show (((p.val * 1024 + d.val) / 1024 * 4 + (1 + 0)) * 1024 + (p.val * 1024 + d.val) % 1024) / 4096 = p.val; omega
  | ⟨1, _⟩ => show (((p.val * 1024 + d.val) / 1024 * 4 + (1 + 0)) * 1024 + (p.val * 1024 + d.val) % 1024) % 4096 = 1 * 1024 + d.val; omega

theorem ref_g2 (a : Vec Ideal S4352x4096 .bf16) (p : Fin 4352) (d : Fin 1024) :
    Cert.GateDaRefIdeal.Read.val_main_v26 (F := Ideal) a (ix2 p d) = a (ix2 p (⟨2 * 1024 + d.val, by omega⟩ : Fin 4096)) := by
  rw [Cert.GateDaRefIdeal.Read.val_main_v26_apply, Cert.GateDaRefIdeal.Read.val_main_v25_apply, Cert.GateDaRefIdeal.Read.val_main_v2_apply, Cert.GateDaRefIdeal.Read.val_main_v1_apply]
  show a _ = _
  refine congrArg a (funext fun x => Fin.ext ?_)
  match x with
  | ⟨0, _⟩ => show (((p.val * 1024 + d.val) / 1024 * 4 + (2 + 0)) * 1024 + (p.val * 1024 + d.val) % 1024) / 4096 = p.val; omega
  | ⟨1, _⟩ => show (((p.val * 1024 + d.val) / 1024 * 4 + (2 + 0)) * 1024 + (p.val * 1024 + d.val) % 1024) % 4096 = 2 * 1024 + d.val; omega

theorem ref_g3 (a : Vec Ideal S4352x4096 .bf16) (p : Fin 4352) (d : Fin 1024) :
    Cert.GateDaRefIdeal.Read.val_main_v28 (F := Ideal) a (ix2 p d) = a (ix2 p (⟨3 * 1024 + d.val, by omega⟩ : Fin 4096)) := by
  rw [Cert.GateDaRefIdeal.Read.val_main_v28_apply, Cert.GateDaRefIdeal.Read.val_main_v27_apply, Cert.GateDaRefIdeal.Read.val_main_v2_apply, Cert.GateDaRefIdeal.Read.val_main_v1_apply]
  show a _ = _
  refine congrArg a (funext fun x => Fin.ext ?_)
  match x with
  | ⟨0, _⟩ => show (((p.val * 1024 + d.val) / 1024 * 4 + (3 + 0)) * 1024 + (p.val * 1024 + d.val) % 1024) / 4096 = p.val; omega
  | ⟨1, _⟩ => show (((p.val * 1024 + d.val) / 1024 * 4 + (3 + 0)) * 1024 + (p.val * 1024 + d.val) % 1024) % 4096 = 3 * 1024 + d.val; omega

theorem ref_piece0 (a : Vec Ideal S4352x4096 .bf16) (b : Vec Ideal S4x1024x1024 .bf16) (p : Fin 4352) (e : Fin 1024) :
    Cert.GateDaRefIdeal.Read.val_main_v34 (F := Ideal) a b (ix2 p e)
      = ∑ k : Fin 1024, (a (ix2 p (⟨0 * 1024 + k.val, by omega⟩ : Fin 4096)) : EReal) * (b (ix3 (0 : Fin 4) e k) : EReal) := by
  rw [Cert.GateDaRefIdeal.Read.val_main_v34_apply]
  refine Finset.sum_congr rfl fun k _ => ?_
  refine congrArg₂ (fun x y : EReal => x * y) (Eq.trans (congrArg _ ?_) (ref_g0 a p k)) (Eq.trans (congrArg _ ?_) (ref_w0 b e k))
  · exact funext fun x => by match x with | ⟨0, _⟩ => rfl | ⟨1, _⟩ => rfl
  · exact funext fun x => by match x with | ⟨0, _⟩ => rfl | ⟨1, _⟩ => rfl

theorem ref_piece1 (a : Vec Ideal S4352x4096 .bf16) (b : Vec Ideal S4x1024x1024 .bf16) (p : Fin 4352) (e : Fin 1024) :
    Cert.GateDaRefIdeal.Read.val_main_v32 (F := Ideal) a b (ix2 p e)
      = ∑ k : Fin 1024, (a (ix2 p (⟨1 * 1024 + k.val, by omega⟩ : Fin 4096)) : EReal) * (b (ix3 (1 : Fin 4) e k) : EReal) := by
  rw [Cert.GateDaRefIdeal.Read.val_main_v32_apply]
  refine Finset.sum_congr rfl fun k _ => ?_
  refine congrArg₂ (fun x y : EReal => x * y) (Eq.trans (congrArg _ ?_) (ref_g1 a p k)) (Eq.trans (congrArg _ ?_) (ref_w1 b e k))
  · exact funext fun x => by match x with | ⟨0, _⟩ => rfl | ⟨1, _⟩ => rfl
  · exact funext fun x => by match x with | ⟨0, _⟩ => rfl | ⟨1, _⟩ => rfl

theorem ref_piece2 (a : Vec Ideal S4352x4096 .bf16) (b : Vec Ideal S4x1024x1024 .bf16) (p : Fin 4352) (e : Fin 1024) :
    Cert.GateDaRefIdeal.Read.val_main_v30 (F := Ideal) a b (ix2 p e)
      = ∑ k : Fin 1024, (a (ix2 p (⟨2 * 1024 + k.val, by omega⟩ : Fin 4096)) : EReal) * (b (ix3 (2 : Fin 4) e k) : EReal) := by
  rw [Cert.GateDaRefIdeal.Read.val_main_v30_apply]
  refine Finset.sum_congr rfl fun k _ => ?_
  refine congrArg₂ (fun x y : EReal => x * y) (Eq.trans (congrArg _ ?_) (ref_g2 a p k)) (Eq.trans (congrArg _ ?_) (ref_w2 b e k))
  · exact funext fun x => by match x with | ⟨0, _⟩ => rfl | ⟨1, _⟩ => rfl
  · exact funext fun x => by match x with | ⟨0, _⟩ => rfl | ⟨1, _⟩ => rfl

theorem ref_piece3 (a : Vec Ideal S4352x4096 .bf16) (b : Vec Ideal S4x1024x1024 .bf16) (p : Fin 4352) (e : Fin 1024) :
    Cert.GateDaRefIdeal.Read.val_main_v29 (F := Ideal) a b (ix2 p e)
      = ∑ k : Fin 1024, (a (ix2 p (⟨3 * 1024 + k.val, by omega⟩ : Fin 4096)) : EReal) * (b (ix3 (3 : Fin 4) e k) : EReal) := by
  rw [Cert.GateDaRefIdeal.Read.val_main_v29_apply]
  refine Finset.sum_congr rfl fun k _ => ?_
  refine congrArg₂ (fun x y : EReal => x * y) (Eq.trans (congrArg _ ?_) (ref_g3 a p k)) (Eq.trans (congrArg _ ?_) (ref_w3 b e k))
  · exact funext fun x => by match x with | ⟨0, _⟩ => rfl | ⟨1, _⟩ => rfl
  · exact funext fun x => by match x with | ⟨0, _⟩ => rfl | ⟨1, _⟩ => rfl

theorem reversed (a b c d : EReal) : d + c + b + a = a + b + c + d := by
  ac_rfl

/-- The four slabs of the sum over the joined columns. -/
theorem slabs (a : Vec Ideal S4352x4096 .bf16) (b : Vec Ideal S4x1024x1024 .bf16) (p : Fin 4352) (e : Fin 1024) (s : Fin 4) :
    (∑ k : Fin 1024, (a (ix2 p (⟨s.val * 1024 + k.val, by omega⟩ : Fin 4096)) : EReal)
        * (b (ix3 (slab ⟨s.val * 1024 + k.val, by omega⟩) e (cell ⟨s.val * 1024 + k.val, by omega⟩)) : EReal))
      = ∑ k : Fin 1024, (a (ix2 p (⟨s.val * 1024 + k.val, by omega⟩ : Fin 4096)) : EReal) * (b (ix3 s e k) : EReal) := by
  refine Finset.sum_congr rfl fun k _ => ?_
  refine congrArg₂ (fun x y : EReal => x * y) rfl (congrArg b (funext fun x => Fin.ext ?_))
  match x with
  | ⟨0, _⟩ => show (s.val * 1024 + k.val) / 1024 = s.val; omega
  | ⟨1, _⟩ => rfl
  | ⟨2, _⟩ => show (s.val * 1024 + k.val) % 1024 = k.val; omega

theorem ref_eq (a : Vec Ideal S4352x4096 .bf16) (b : Vec Ideal S4x1024x1024 .bf16) :
    Cert.GateDaRefIdeal.Read.val_main_v36 (F := Ideal) a b = goal a b := by
  funext i
  unfold goal
  obtain ⟨p, e, rfl⟩ : ∃ (p : Fin 4352) (e : Fin 1024), i = ix2 p e := ⟨i 0, i 1, eq_ix2 _⟩
  rw [Cert.GateDaRefIdeal.Read.val_main_v36_apply, Cert.GateDaRefIdeal.Read.val_main_v35_apply, Cert.GateDaRefIdeal.Read.val_main_v33_apply, Cert.GateDaRefIdeal.Read.val_main_v31_apply, ref_piece0, ref_piece1, ref_piece2, ref_piece3]
  refine (reversed _ _ _ _).trans ?_
  rw [Fin.sum_univ_tiles (N := 4096) 4 1024 (by decide), Fin.sum_univ_four]
  exact (congrArg₂ (fun x y : EReal => x + y) (congrArg₂ (fun x y : EReal => x + y) (congrArg₂ (fun x y : EReal => x + y)
    (slabs a b p e 0) (slabs a b p e 1)) (slabs a b p e 2)) (slabs a b p e 3)).symm

theorem frame_ref : Cert.quiescent_GateDaRefIdeal := fun m ρ _ =>
  (θ_run Cert.GateDaRefIdeal.defs _ _).mono (fun r h => ⟨fun c => (h c).2, sem_eq_zero_of_no_sems (by decide) r.2⟩)
    (Cert.GateDaRefIdeal.Value.run (F := Ideal) m ρ)

theorem algebraic : Cert.algebraic_GateDaIdeal_GateDaRefIdeal := by
  intro m ρ m' ρ' _ hag
  refine ⟨fun c => goal (m ((c : Thread nD τ).loc main_arg0)) (m ((c : Thread nD τ).loc main_arg1)), ?_, ?_⟩
  · refine (θ_run Cert.GateDaIdeal.defs _ _).mono (fun r h c => ?_) (Cert.GateDaIdeal.Value.run_blocks m ρ)
    exact ⟨(h c).1.trans (final m c), (h c).2⟩
  · refine (θ_run Cert.GateDaRefIdeal.defs _ _).mono (fun r h c => ?_) (Cert.GateDaRefIdeal.Value.run (F := Ideal) m' ρ')
    refine ⟨(h c).1.trans ?_, (h c).2⟩
    rw [Cert.GateDaRefIdeal.Read.val_main_v36_eq, (hag c).1, (hag c).2]
    exact ref_eq ..

end Cert.Proof.GateDa

end
-- ==== Proof.GateDbProd.lean ====
/-  The gradient of the four gates' weights, side by side. -/
module

public import proofs.«01_k».proof.Defs
public import proofs.«01_k».proof.Proof.Gen.GateDbIdeal.Value
public import proofs.«01_k».proof.Proof.Gen.GateDbRefIdeal.Run
public import proofs.«01_k».proof.Proof.Gen.GateDbRefIdeal.Read
public import Idealize.ShloMosaic.Lib.Pointwise

@[expose] public section

set_option maxRecDepth 16384

noncomputable section

namespace Cert.Proof.GateDb

open Cert.GateDbIdeal Cert.GateDbIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S4352x4096 .bf16) : Vec Ideal S1024x4096 .f32 :=
  fun i => ∑ k : Fin 4352, (a (ix2 k (i 0)) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S4352x1024 .bf16) (x1 : Vec Ideal S4352x512 .bf16) (p : Fin 1024) (q : Fin 512) :
    (out0_2 x0 x1) (ix2 p q) = ∑ k : Fin 4352, (x0 (ix2 k p) : EReal) * (x1 (ix2 k q) : EReal) := by
  have e : out0_2 x0 x1 = k0_pay1 x0 x1 := by
    unfold out0_2
    rw [View.canon_unit_zero hz]
    rw [View.ld_unit_zero (S := S4352x1024) hz, View.ld_unit_zero (S := S4352x512) hz]
  rw [e]
  unfold k0_pay1
  pointwise

abbrev row (t : Fin cfg0.N) (p : Fin 1024) : Fin 1024 := ⟨(t.val / 8) * 1024 + p.val, by have := t.isLt; have : cfg0.N = 8 := N_0; omega⟩
abbrev col (t : Fin cfg0.N) (q : Fin 512) : Fin 4096 := ⟨(t.val % 8) * 512 + q.val, by omega⟩

theorem idx0 : ∀ t : Fin cfg0.N, win0_0.index t (0 : Fin 2) = 0 ∧ win0_0.index t (1 : Fin 2) = (t.val / 8) :=
  (by decide +kernel : ∀ t : Fin grid0.N, win0_0.index t (0 : Fin 2) = 0 ∧ win0_0.index t (1 : Fin 2) = (t.val / 8))

theorem read0 (c : Dev nD) (t : Fin cfg0.N) (k : Fin 4352) (p : Fin 1024) :
    (iblk m c 0 t : Vec Ideal S4352x1024 .bf16) (ix2 k p) = m ((c : Thread nD τ).loc main_arg0) (ix2 k (row t p)) := by
  unfold iblk
  rw [View.read_apply]
  show V m c main_arg0 _ = _
  rw [V_main_arg0]
  congr 1
  funext x
  apply Fin.ext
  match x with
  | ⟨0, _⟩ => show win0_0.index t (0 : Fin 2) * 4352 + 1 * k.val = k.val; rw [(idx0 t).1]; omega
  | ⟨1, _⟩ => show win0_0.index t (1 : Fin 2) * 1024 + 1 * p.val = (t.val / 8) * 1024 + p.val; rw [(idx0 t).2]; omega

theorem idx1 : ∀ t : Fin cfg0.N, win0_1.index t (0 : Fin 2) = 0 ∧ win0_1.index t (1 : Fin 2) = (t.val % 8) :=
  (by decide +kernel : ∀ t : Fin grid0.N, win0_1.index t (0 : Fin 2) = 0 ∧ win0_1.index t (1 : Fin 2) = (t.val % 8))

theorem read1 (c : Dev nD) (t : Fin cfg0.N) (k : Fin 4352) (q : Fin 512) :
    (iblk m c 1 t : Vec Ideal S4352x512 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 4352 + 1 * k.val = k.val; rw [(idx1 t).1]; omega
  | ⟨1, _⟩ => show win0_1.index t (1 : Fin 2) * 512 + 1 * q.val = (t.val % 8) * 512 + q.val; rw [(idx1 t).2]; omega

theorem idx2 : ∀ t : Fin cfg0.N, win0_2.index t (0 : Fin 2) = (t.val / 8) ∧ win0_2.index t (1 : Fin 2) = (t.val % 8) :=
  (by decide +kernel : ∀ t : Fin grid0.N, win0_2.index t (0 : Fin 2) = (t.val / 8) ∧ win0_2.index t (1 : Fin 2) = (t.val % 8))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 8 := N_0
  refine (dats m 0 c).arrAt_eq_of_cover 2 _ (fun t hf => ?_) fun i => ?_
  · rw [Value.flushed2]
    funext j
    rw [View.read_apply]
    obtain ⟨p, q, rfl⟩ : ∃ (p : Fin 1024) (q : Fin 512), j = (ix2 p q : S1024x512.Idx) := ⟨j 0, j 1, eq_ix2 _⟩
    have e : ((cfg0.win 2).blk t).view.emb (ix2 p q) = (ix2 (row t p) (col t q) : S1024x4096.Idx) := by
      funext x
      apply Fin.ext
      match x with
      | ⟨0, _⟩ => show win0_2.index t (0 : Fin 2) * 1024 + 1 * p.val = (t.val / 8) * 1024 + p.val; rw [(idx2 t).1]; omega
      | ⟨1, _⟩ => show win0_2.index t (1 : Fin 2) * 512 + 1 * q.val = (t.val % 8) * 512 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 1024 := (i 0).isLt
    have h1 : (i 1 : Nat) < 4096 := (i 1).isLt
    have hb : (i 0 : Nat) / 1024 * 8 + (i 1 : Nat) / 512 < cfg0.N := by omega
    refine ⟨⟨(i 0 : Nat) / 1024 * 8 + (i 1 : Nat) / 512, hb⟩, flush0_2 _, ?_⟩
    show i ∈ ((View.whole main_v0).slice (win0_2.rect ⟨(i 0 : Nat) / 1024 * 8 + (i 1 : Nat) / 512, hb⟩)).set
    rw [View.set_slice_whole, Rect.mem_set_unit]
    intro x
    match x with
    | ⟨0, _⟩ => show win0_2.index ⟨(i 0 : Nat) / 1024 * 8 + (i 1 : Nat) / 512, hb⟩ (0 : Fin 2) * 1024 ≤ (i 0 : Nat) ∧ (i 0 : Nat) < win0_2.index ⟨(i 0 : Nat) / 1024 * 8 + (i 1 : Nat) / 512, hb⟩ (0 : Fin 2) * 1024 + 1024
                rw [(idx2 ⟨(i 0 : Nat) / 1024 * 8 + (i 1 : Nat) / 512, hb⟩).1]; dsimp only; omega
    | ⟨1, _⟩ => show win0_2.index ⟨(i 0 : Nat) / 1024 * 8 + (i 1 : Nat) / 512, hb⟩ (1 : Fin 2) * 512 ≤ (i 1 : Nat) ∧ (i 1 : Nat) < win0_2.index ⟨(i 0 : Nat) / 1024 * 8 + (i 1 : Nat) / 512, hb⟩ (1 : Fin 2) * 512 + 512
                rw [(idx2 ⟨(i 0 : Nat) / 1024 * 8 + (i 1 : Nat) / 512, hb⟩).2]; dsimp only; omega

/-! ## The reference -/

theorem ref_piece0 (a : Vec Ideal S4352x1024 .bf16) (b : Vec Ideal S4352x4096 .bf16) (p d : Fin 1024) :
    Cert.GateDbRefIdeal.Read.val_main_v22 (F := Ideal) a b (ix2 p d)
      = ∑ k : Fin 4352, (a (ix2 k p) : EReal) * (b (ix2 k (⟨0 * 1024 + d.val, by omega⟩ : Fin 4096)) : EReal) := by
  rw [Cert.GateDbRefIdeal.Read.val_main_v22_apply, Cert.GateDbRefIdeal.Read.val_main_v21_apply]
  refine Finset.sum_congr rfl fun k _ => ?_
  rw [Cert.GateDbRefIdeal.Read.val_main_v11_apply]
  refine (mul_comm _ _).trans (congrArg₂ (fun x y : EReal => x * y) (congrArg a (funext fun x => by match x with | ⟨0, _⟩ => rfl | ⟨1, _⟩ => rfl)) (congrArg b (funext fun x => Fin.ext ?_)))
  match x with
  | ⟨0, _⟩ => rfl
  | ⟨1, _⟩ => show d.val = 0 * 1024 + d.val; omega

theorem ref_piece1 (a : Vec Ideal S4352x1024 .bf16) (b : Vec Ideal S4352x4096 .bf16) (p d : Fin 1024) :
    Cert.GateDbRefIdeal.Read.val_main_v20 (F := Ideal) a b (ix2 p d)
      = ∑ k : Fin 4352, (a (ix2 k p) : EReal) * (b (ix2 k (⟨1 * 1024 + d.val, by omega⟩ : Fin 4096)) : EReal) := by
  rw [Cert.GateDbRefIdeal.Read.val_main_v20_apply, Cert.GateDbRefIdeal.Read.val_main_v19_apply]
  refine Finset.sum_congr rfl fun k _ => ?_
  rw [Cert.GateDbRefIdeal.Read.val_main_v12_apply]
  refine (mul_comm _ _).trans (congrArg₂ (fun x y : EReal => x * y) (congrArg a (funext fun x => by match x with | ⟨0, _⟩ => rfl | ⟨1, _⟩ => rfl)) (congrArg b (funext fun x => Fin.ext ?_)))
  match x with
  | ⟨0, _⟩ => rfl
  | ⟨1, _⟩ => show 1024 + d.val = 1 * 1024 + d.val; omega

theorem ref_piece2 (a : Vec Ideal S4352x1024 .bf16) (b : Vec Ideal S4352x4096 .bf16) (p d : Fin 1024) :
    Cert.GateDbRefIdeal.Read.val_main_v18 (F := Ideal) a b (ix2 p d)
      = ∑ k : Fin 4352, (a (ix2 k p) : EReal) * (b (ix2 k (⟨2 * 1024 + d.val, by omega⟩ : Fin 4096)) : EReal) := by
  rw [Cert.GateDbRefIdeal.Read.val_main_v18_apply, Cert.GateDbRefIdeal.Read.val_main_v17_apply]
  refine Finset.sum_congr rfl fun k _ => ?_
  rw [Cert.GateDbRefIdeal.Read.val_main_v13_apply]
  refine (mul_comm _ _).trans (congrArg₂ (fun x y : EReal => x * y) (congrArg a (funext fun x => by match x with | ⟨0, _⟩ => rfl | ⟨1, _⟩ => rfl)) (congrArg b (funext fun x => Fin.ext ?_)))
  match x with
  | ⟨0, _⟩ => rfl
  | ⟨1, _⟩ => show 2048 + d.val = 2 * 1024 + d.val; omega

theorem ref_piece3 (a : Vec Ideal S4352x1024 .bf16) (b : Vec Ideal S4352x4096 .bf16) (p d : Fin 1024) :
    Cert.GateDbRefIdeal.Read.val_main_v16 (F := Ideal) a b (ix2 p d)
      = ∑ k : Fin 4352, (a (ix2 k p) : EReal) * (b (ix2 k (⟨3 * 1024 + d.val, by omega⟩ : Fin 4096)) : EReal) := by
  rw [Cert.GateDbRefIdeal.Read.val_main_v16_apply, Cert.GateDbRefIdeal.Read.val_main_v15_apply]
  refine Finset.sum_congr rfl fun k _ => ?_
  rw [Cert.GateDbRefIdeal.Read.val_main_v14_apply]
  refine (mul_comm _ _).trans (congrArg₂ (fun x y : EReal => x * y) (congrArg a (funext fun x => by match x with | ⟨0, _⟩ => rfl | ⟨1, _⟩ => rfl)) (congrArg b (funext fun x => Fin.ext ?_)))
  match x with
  | ⟨0, _⟩ => rfl
  | ⟨1, _⟩ => show 3072 + d.val = 3 * 1024 + d.val; omega

theorem ref_eq (a : Vec Ideal S4352x1024 .bf16) (b : Vec Ideal S4352x4096 .bf16) :
    Cert.GateDbRefIdeal.Read.val_main_v23 (F := Ideal) a b = goal a b := by
  funext i
  unfold goal
  obtain ⟨p, q, rfl⟩ : ∃ (p : Fin 1024) (q : Fin 4096), i = ix2 p q := ⟨i 0, i 1, eq_ix2 _⟩
  unfold Cert.GateDbRefIdeal.Read.val_main_v23
  refine (concatenate_ofFn_apply (t := Cert.GateDbRefIdeal.S1024x4096) (s₁ := Cert.GateDbRefIdeal.S1024x1024) 1
    ![Cert.GateDbRefIdeal.Read.val_main_v22 (F := Ideal) a b, Cert.GateDbRefIdeal.Read.val_main_v20 (F := Ideal) a b, Cert.GateDbRefIdeal.Read.val_main_v18 (F := Ideal) a b, Cert.GateDbRefIdeal.Read.val_main_v16 (F := Ideal) a b]
    _ rfl 1024 rfl (ix2 p q) (⟨q.val / 1024, by omega⟩ : Fin 4) rfl (ix2 p (⟨q.val % 1024, by omega⟩ : Fin 1024)) rfl ?_).trans ?_
  · intro x hx
    match x with
    | ⟨0, _⟩ => rfl
    | ⟨1, _⟩ => exact absurd rfl hx
  · have key : ∀ (s : Fin 4) (d : Fin 1024),
        (![Cert.GateDbRefIdeal.Read.val_main_v22 (F := Ideal) a b, Cert.GateDbRefIdeal.Read.val_main_v20 (F := Ideal) a b, Cert.GateDbRefIdeal.Read.val_main_v18 (F := Ideal) a b, Cert.GateDbRefIdeal.Read.val_main_v16 (F := Ideal) a b] s) (ix2 p d)
          = ∑ k : Fin 4352, (a (ix2 k p) : EReal) * (b (ix2 k (⟨s.val * 1024 + d.val, by omega⟩ : Fin 4096)) : EReal) := by
      intro s d
      match s with
      | ⟨0, _⟩ => exact ref_piece0 a b p d
      | ⟨1, _⟩ => exact ref_piece1 a b p d
      | ⟨2, _⟩ => exact ref_piece2 a b p d
      | ⟨3, _⟩ => exact ref_piece3 a b p d
    refine (key _ _).trans (Finset.sum_congr rfl fun k _ => ?_)
    refine congrArg₂ (fun x y : EReal => x * y) rfl (congrArg b (funext fun x => Fin.ext ?_))
    match x with
    | ⟨0, _⟩ => rfl
    | ⟨1, _⟩ => show q.val / 1024 * 1024 + q.val % 1024 = q.val; omega

theorem frame_ref : Cert.quiescent_GateDbRefIdeal := fun m ρ _ =>
  (θ_run Cert.GateDbRefIdeal.defs _ _).mono (fun r h => ⟨fun c => (h c).2, sem_eq_zero_of_no_sems (by decide) r.2⟩)
    (Cert.GateDbRefIdeal.Value.run (F := Ideal) m ρ)

theorem algebraic : Cert.algebraic_GateDbIdeal_GateDbRefIdeal := by
  intro m ρ m' ρ' _ hag
  refine ⟨fun c => goal (m ((c : Thread nD τ).loc main_arg0)) (m ((c : Thread nD τ).loc main_arg1)), ?_, ?_⟩
  · refine (θ_run Cert.GateDbIdeal.defs _ _).mono (fun r h c => ?_) (Cert.GateDbIdeal.Value.run_blocks m ρ)
    exact ⟨(h c).1.trans (final m c), (h c).2⟩
  · refine (θ_run Cert.GateDbRefIdeal.defs _ _).mono (fun r h c => ?_) (Cert.GateDbRefIdeal.Value.run (F := Ideal) m' ρ')
    refine ⟨(h c).1.trans ?_, (h c).2⟩
    rw [Cert.GateDbRefIdeal.Read.val_main_v23_eq, (hag c).1, (hag c).2]
    exact ref_eq ..

end Cert.Proof.GateDb

end
-- ==== Proof.BrProd.lean ====
/-  A branch's output product. -/
module

public import proofs.«01_k».proof.Defs
public import proofs.«01_k».proof.Proof.Gen.BrIdeal.Value
public import proofs.«01_k».proof.Proof.Gen.BrRefIdeal.Run
public import proofs.«01_k».proof.Proof.Gen.BrRefIdeal.Read
public import Idealize.ShloMosaic.Lib.Pointwise

@[expose] public section

set_option maxRecDepth 16384

noncomputable section

namespace Cert.Proof.Br

open Cert.BrIdeal Cert.BrIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x512 .bf16) (b : Vec Ideal S512x1024 .bf16) : Vec Ideal S4352x1024 .bf16 :=
  fun i => ∑ k : Fin 512, (a (ix2 (i 0) k) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S2176x512 .bf16) (x1 : Vec Ideal S512x1024 .bf16) (p : Fin 2176) (q : Fin 1024) :
    (out0_2 x0 x1) (ix2 p q) = ∑ k : Fin 512, (x0 (ix2 p k) : EReal) * (x1 (ix2 k q) : EReal) := by
  have e : out0_2 x0 x1 = k0_pay1 x0 x1 := by
    unfold out0_2
    rw [View.canon_unit_zero hz]
    rw [View.ld_unit_zero (S := S2176x512) hz, View.ld_unit_zero (S := S512x1024) hz]
  rw [e]
  unfold k0_pay1
  pointwise

abbrev row (t : Fin cfg0.N) (p : Fin 2176) : Fin 4352 := ⟨(t.val / 1) * 2176 + p.val, by have := t.isLt; have : cfg0.N = 2 := N_0; omega⟩
abbrev col (t : Fin cfg0.N) (q : Fin 1024) : Fin 1024 := ⟨(t.val % 1) * 1024 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 2176) (k : Fin 512) :
    (iblk m c 0 t : Vec Ideal S2176x512 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 2176 + 1 * p.val = (t.val / 1) * 2176 + p.val; rw [(idx0 t).1]; omega
  | ⟨1, _⟩ => show win0_0.index t (1 : Fin 2) * 512 + 1 * k.val = k.val; rw [(idx0 t).2]; omega

theorem idx1 : ∀ t : Fin cfg0.N, win0_1.index t (0 : Fin 2) = 0 ∧ win0_1.index t (1 : Fin 2) = (t.val % 1) :=
  (by decide +kernel : ∀ t : Fin grid0.N, win0_1.index t (0 : Fin 2) = 0 ∧ win0_1.index t (1 : Fin 2) = (t.val % 1))

theorem read1 (c : Dev nD) (t : Fin cfg0.N) (k : Fin 512) (q : Fin 1024) :
    (iblk m c 1 t : Vec Ideal S512x1024 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 512 + 1 * k.val = k.val; rw [(idx1 t).1]; omega
  | ⟨1, _⟩ => show win0_1.index t (1 : Fin 2) * 1024 + 1 * q.val = (t.val % 1) * 1024 + q.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 2176) (q : Fin 1024), j = (ix2 p q : S2176x1024.Idx) := ⟨j 0, j 1, eq_ix2 _⟩
    have e : ((cfg0.win 2).blk t).view.emb (ix2 p q) = (ix2 (row t p) (col t q) : S4352x1024.Idx) := by
      funext x
      apply Fin.ext
      match x with
      | ⟨0, _⟩ => show win0_2.index t (0 : Fin 2) * 2176 + 1 * p.val = (t.val / 1) * 2176 + p.val; rw [(idx2 t).1]; omega
      | ⟨1, _⟩ => show win0_2.index t (1 : Fin 2) * 1024 + 1 * q.val = (t.val % 1) * 1024 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 1024 := (i 1).isLt
    have hb : (i 0 : Nat) / 2176 * 1 + (i 1 : Nat) / 1024 < cfg0.N := by omega
    refine ⟨⟨(i 0 : Nat) / 2176 * 1 + (i 1 : Nat) / 1024, hb⟩, flush0_2 _, ?_⟩
    show i ∈ ((View.whole main_v0).slice (win0_2.rect ⟨(i 0 : Nat) / 2176 * 1 + (i 1 : Nat) / 1024, hb⟩)).set
    rw [View.set_slice_whole, Rect.mem_set_unit]
    intro x
    match x with
    | ⟨0, _⟩ => show win0_2.index ⟨(i 0 : Nat) / 2176 * 1 + (i 1 : Nat) / 1024, hb⟩ (0 : Fin 2) * 2176 ≤ (i 0 : Nat) ∧ (i 0 : Nat) < win0_2.index ⟨(i 0 : Nat) / 2176 * 1 + (i 1 : Nat) / 1024, hb⟩ (0 : Fin 2) * 2176 + 2176
                rw [(idx2 ⟨(i 0 : Nat) / 2176 * 1 + (i 1 : Nat) / 1024, hb⟩).1]; dsimp only; omega
    | ⟨1, _⟩ => show win0_2.index ⟨(i 0 : Nat) / 2176 * 1 + (i 1 : Nat) / 1024, hb⟩ (1 : Fin 2) * 1024 ≤ (i 1 : Nat) ∧ (i 1 : Nat) < win0_2.index ⟨(i 0 : Nat) / 2176 * 1 + (i 1 : Nat) / 1024, hb⟩ (1 : Fin 2) * 1024 + 1024
                rw [(idx2 ⟨(i 0 : Nat) / 2176 * 1 + (i 1 : Nat) / 1024, hb⟩).2]; dsimp only; omega

/-! ## The reference -/

theorem ref_eq (a : Vec Ideal S4352x512 .bf16) (b : Vec Ideal S512x1024 .bf16) :
    Cert.BrRefIdeal.Read.val_main_v3 (F := Ideal) a b = goal a b := by
  funext i
  unfold goal
  rw [Cert.BrRefIdeal.Read.val_main_v3_apply]
  show Cert.BrRefIdeal.Read.val_main_v2 (F := Ideal) a b i = _
  rw [Cert.BrRefIdeal.Read.val_main_v2_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_BrRefIdeal := fun m ρ _ =>
  (θ_run Cert.BrRefIdeal.defs _ _).mono (fun r h => ⟨fun c => (h c).2, sem_eq_zero_of_no_sems (by decide) r.2⟩)
    (Cert.BrRefIdeal.Value.run (F := Ideal) m ρ)

theorem algebraic : Cert.algebraic_BrIdeal_BrRefIdeal := by
  intro m ρ m' ρ' _ hag
  refine ⟨fun c => goal (m ((c : Thread nD τ).loc main_arg0)) (m ((c : Thread nD τ).loc main_arg1)), ?_, ?_⟩
  · refine (θ_run Cert.BrIdeal.defs _ _).mono (fun r h c => ?_) (Cert.BrIdeal.Value.run_blocks m ρ)
    exact ⟨(h c).1.trans (final m c), (h c).2⟩
  · refine (θ_run Cert.BrRefIdeal.defs _ _).mono (fun r h c => ?_) (Cert.BrRefIdeal.Value.run (F := Ideal) m' ρ')
    refine ⟨(h c).1.trans ?_, (h c).2⟩
    rw [Cert.BrRefIdeal.Read.val_main_v3_eq, (hag c).1, (hag c).2]
    exact ref_eq ..

end Cert.Proof.Br

end
-- ==== Proof.BrDaProd.lean ====
/-  The gradient of a branch's operand through its output product. -/
module

public import proofs.«01_k».proof.Defs
public import proofs.«01_k».proof.Proof.Gen.BrDaIdeal.Value
public import proofs.«01_k».proof.Proof.Gen.BrDaRefIdeal.Run
public import proofs.«01_k».proof.Proof.Gen.BrDaRefIdeal.Read
public import Idealize.ShloMosaic.Lib.Pointwise

@[expose] public section

set_option maxRecDepth 16384

noncomputable section

namespace Cert.Proof.BrDa

open Cert.BrDaIdeal Cert.BrDaIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .bf16) (b : Vec Ideal S512x1024 .bf16) : Vec Ideal S4352x512 .bf16 :=
  fun i => ∑ k : Fin 1024, (a (ix2 (i 0) k) : EReal) * (b (ix2 (i 1) k) : EReal)

theorem hz : (![0, 0] : Fin 2 → Nat) = fun _ => 0 := funext fun a => by fin_cases a <;> rfl

/-- What a grid point stores is the product of its two blocks. -/
theorem out_apply (x0 : Vec Ideal S2176x1024 .bf16) (x1 : Vec Ideal S512x1024 .bf16) (p : Fin 2176) (q : Fin 512) :
    (out0_2 x0 x1) (ix2 p q) = ∑ k : Fin 1024, (x0 (ix2 p k) : EReal) * (x1 (ix2 q k) : EReal) := by
  have e : out0_2 x0 x1 = k0_pay1 x0 x1 := by
    unfold out0_2
    rw [View.canon_unit_zero hz]
    rw [View.ld_unit_zero (S := S2176x1024) hz, View.ld_unit_zero (S := S512x1024) hz]
  rw [e]
  unfold k0_pay1
  pointwise

abbrev row (t : Fin cfg0.N) (p : Fin 2176) : Fin 4352 := ⟨(t.val / 1) * 2176 + p.val, by have := t.isLt; have : cfg0.N = 2 := N_0; omega⟩
abbrev col (t : Fin cfg0.N) (q : Fin 512) : Fin 512 := ⟨(t.val % 1) * 512 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 2176) (k : Fin 1024) :
    (iblk m c 0 t : Vec Ideal S2176x1024 .bf16) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 2176 + 1 * p.val = (t.val / 1) * 2176 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = (t.val % 1) ∧ win0_1.index t (1 : Fin 2) = 0 :=
  (by decide +kernel : ∀ t : Fin grid0.N, win0_1.index t (0 : Fin 2) = (t.val % 1) ∧ win0_1.index t (1 : Fin 2) = 0)

theorem read1 (c : Dev nD) (t : Fin cfg0.N) (q : Fin 512) (k : Fin 1024) :
    (iblk m c 1 t : Vec Ideal S512x1024 .bf16) (ix2 q k) = m ((c : Thread nD τ).loc main_arg1) (ix2 (col t q) k) := by
  unfold iblk
  rw [View.read_apply]
  show V m c main_arg1 _ = _
  rw [V_main_arg1]
  congr 1
  funext x
  apply Fin.ext
  match x with
  | ⟨0, _⟩ => show win0_1.index t (0 : Fin 2) * 512 + 1 * q.val = (t.val % 1) * 512 + q.val; rw [(idx1 t).1]; omega
  | ⟨1, _⟩ => show win0_1.index t (1 : Fin 2) * 1024 + 1 * k.val = k.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 2176) (q : Fin 512), j = (ix2 p q : S2176x512.Idx) := ⟨j 0, j 1, eq_ix2 _⟩
    have e : ((cfg0.win 2).blk t).view.emb (ix2 p q) = (ix2 (row t p) (col t q) : S4352x512.Idx) := by
      funext x
      apply Fin.ext
      match x with
      | ⟨0, _⟩ => show win0_2.index t (0 : Fin 2) * 2176 + 1 * p.val = (t.val / 1) * 2176 + p.val; rw [(idx2 t).1]; omega
      | ⟨1, _⟩ => show win0_2.index t (1 : Fin 2) * 512 + 1 * q.val = (t.val % 1) * 512 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 512 := (i 1).isLt
    have hb : (i 0 : Nat) / 2176 * 1 + (i 1 : Nat) / 512 < cfg0.N := by omega
    refine ⟨⟨(i 0 : Nat) / 2176 * 1 + (i 1 : Nat) / 512, hb⟩, flush0_2 _, ?_⟩
    show i ∈ ((View.whole main_v0).slice (win0_2.rect ⟨(i 0 : Nat) / 2176 * 1 + (i 1 : Nat) / 512, hb⟩)).set
    rw [View.set_slice_whole, Rect.mem_set_unit]
    intro x
    match x with
    | ⟨0, _⟩ => show win0_2.index ⟨(i 0 : Nat) / 2176 * 1 + (i 1 : Nat) / 512, hb⟩ (0 : Fin 2) * 2176 ≤ (i 0 : Nat) ∧ (i 0 : Nat) < win0_2.index ⟨(i 0 : Nat) / 2176 * 1 + (i 1 : Nat) / 512, hb⟩ (0 : Fin 2) * 2176 + 2176
                rw [(idx2 ⟨(i 0 : Nat) / 2176 * 1 + (i 1 : Nat) / 512, hb⟩).1]; dsimp only; omega
    | ⟨1, _⟩ => show win0_2.index ⟨(i 0 : Nat) / 2176 * 1 + (i 1 : Nat) / 512, hb⟩ (1 : Fin 2) * 512 ≤ (i 1 : Nat) ∧ (i 1 : Nat) < win0_2.index ⟨(i 0 : Nat) / 2176 * 1 + (i 1 : Nat) / 512, hb⟩ (1 : Fin 2) * 512 + 512
                rw [(idx2 ⟨(i 0 : Nat) / 2176 * 1 + (i 1 : Nat) / 512, hb⟩).2]; dsimp only; omega

/-! ## The reference -/

theorem ref_eq (a : Vec Ideal S4352x1024 .bf16) (b : Vec Ideal S512x1024 .bf16) :
    Cert.BrDaRefIdeal.Read.val_main_v5 (F := Ideal) a b = goal a b := by
  funext i
  unfold goal
  rw [Cert.BrDaRefIdeal.Read.val_main_v5_apply]
  show Cert.BrDaRefIdeal.Read.val_main_v4 (F := Ideal) a b i = _
  rw [Cert.BrDaRefIdeal.Read.val_main_v4_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_BrDaRefIdeal := fun m ρ _ =>
  (θ_run Cert.BrDaRefIdeal.defs _ _).mono (fun r h => ⟨fun c => (h c).2, sem_eq_zero_of_no_sems (by decide) r.2⟩)
    (Cert.BrDaRefIdeal.Value.run (F := Ideal) m ρ)

theorem algebraic : Cert.algebraic_BrDaIdeal_BrDaRefIdeal := by
  intro m ρ m' ρ' _ hag
  refine ⟨fun c => goal (m ((c : Thread nD τ).loc main_arg0)) (m ((c : Thread nD τ).loc main_arg1)), ?_, ?_⟩
  · refine (θ_run Cert.BrDaIdeal.defs _ _).mono (fun r h c => ?_) (Cert.BrDaIdeal.Value.run_blocks m ρ)
    exact ⟨(h c).1.trans (final m c), (h c).2⟩
  · refine (θ_run Cert.BrDaRefIdeal.defs _ _).mono (fun r h c => ?_) (Cert.BrDaRefIdeal.Value.run (F := Ideal) m' ρ')
    refine ⟨(h c).1.trans ?_, (h c).2⟩
    rw [Cert.BrDaRefIdeal.Read.val_main_v5_eq, (hag c).1, (hag c).2]
    exact ref_eq ..

end Cert.Proof.BrDa

end
-- ==== Proof.BrDbProd.lean ====
/-  The gradient of a branch's output weights. -/
module

public import proofs.«01_k».proof.Defs
public import proofs.«01_k».proof.Proof.Gen.BrDbIdeal.Value
public import proofs.«01_k».proof.Proof.Gen.BrDbRefIdeal.Run
public import proofs.«01_k».proof.Proof.Gen.BrDbRefIdeal.Read
public import Idealize.ShloMosaic.Lib.Pointwise

@[expose] public section

set_option maxRecDepth 16384

noncomputable section

namespace Cert.Proof.BrDb

open Cert.BrDbIdeal Cert.BrDbIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x512 .bf16) (b : Vec Ideal S4352x1024 .bf16) : Vec Ideal S512x1024 .f32 :=
  fun i => ∑ k : Fin 4352, (a (ix2 k (i 0)) : EReal) * (b (ix2 k (i 1)) : EReal)

theorem hz : (![0, 0] : Fin 2 → Nat) = fun _ => 0 := funext fun a => by fin_cases a <;> rfl

/-- What a grid point stores is the product of its two blocks. -/
theorem out_apply (x0 : Vec Ideal S4352x512 .bf16) (x1 : Vec Ideal S4352x512 .bf16) (p : Fin 512) (q : Fin 512) :
    (out0_2 x0 x1) (ix2 p q) = ∑ k : Fin 4352, (x0 (ix2 k p) : EReal) * (x1 (ix2 k q) : EReal) := by
  have e : out0_2 x0 x1 = k0_pay1 x0 x1 := by
    unfold out0_2
    rw [View.canon_unit_zero hz]
    rw [View.ld_unit_zero (S := S4352x512) hz, View.ld_unit_zero (S := S4352x512) hz]
  rw [e]
  unfold k0_pay1
  pointwise

abbrev row (t : Fin cfg0.N) (p : Fin 512) : Fin 512 := ⟨(t.val / 2) * 512 + p.val, by have := t.isLt; have : cfg0.N = 2 := N_0; omega⟩
abbrev col (t : Fin cfg0.N) (q : Fin 512) : Fin 1024 := ⟨(t.val % 2) * 512 + q.val, by omega⟩

theorem idx0 : ∀ t : Fin cfg0.N, win0_0.index t (0 : Fin 2) = 0 ∧ win0_0.index t (1 : Fin 2) = (t.val / 2) :=
  (by decide +kernel : ∀ t : Fin grid0.N, win0_0.index t (0 : Fin 2) = 0 ∧ win0_0.index t (1 : Fin 2) = (t.val / 2))

theorem read0 (c : Dev nD) (t : Fin cfg0.N) (k : Fin 4352) (p : Fin 512) :
    (iblk m c 0 t : Vec Ideal S4352x512 .bf16) (ix2 k p) = m ((c : Thread nD τ).loc main_arg0) (ix2 k (row t p)) := by
  unfold iblk
  rw [View.read_apply]
  show V m c main_arg0 _ = _
  rw [V_main_arg0]
  congr 1
  funext x
  apply Fin.ext
  match x with
  | ⟨0, _⟩ => show win0_0.index t (0 : Fin 2) * 4352 + 1 * k.val = k.val; rw [(idx0 t).1]; omega
  | ⟨1, _⟩ => show win0_0.index t (1 : Fin 2) * 512 + 1 * p.val = (t.val / 2) * 512 + p.val; rw [(idx0 t).2]; omega

theorem idx1 : ∀ t : Fin cfg0.N, win0_1.index t (0 : Fin 2) = 0 ∧ win0_1.index t (1 : Fin 2) = (t.val % 2) :=
  (by decide +kernel : ∀ t : Fin grid0.N, win0_1.index t (0 : Fin 2) = 0 ∧ win0_1.index t (1 : Fin 2) = (t.val % 2))

theorem read1 (c : Dev nD) (t : Fin cfg0.N) (k : Fin 4352) (q : Fin 512) :
    (iblk m c 1 t : Vec Ideal S4352x512 .bf16) (ix2 k q) = m ((c : Thread nD τ).loc main_arg1) (ix2 k (col t q)) := by
  unfold iblk
  rw [View.read_apply]
  show V m c main_arg1 _ = _
  rw [V_main_arg1]
  congr 1
  funext x
  apply Fin.ext
  match x with
  | ⟨0, _⟩ => show win0_1.index t (0 : Fin 2) * 4352 + 1 * k.val = k.val; rw [(idx1 t).1]; omega
  | ⟨1, _⟩ => show win0_1.index t (1 : Fin 2) * 512 + 1 * q.val = (t.val % 2) * 512 + q.val; rw [(idx1 t).2]; omega

theorem idx2 : ∀ t : Fin cfg0.N, win0_2.index t (0 : Fin 2) = (t.val / 2) ∧ win0_2.index t (1 : Fin 2) = (t.val % 2) :=
  (by decide +kernel : ∀ t : Fin grid0.N, win0_2.index t (0 : Fin 2) = (t.val / 2) ∧ win0_2.index t (1 : Fin 2) = (t.val % 2))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 2 := N_0
  refine (dats m 0 c).arrAt_eq_of_cover 2 _ (fun t hf => ?_) fun i => ?_
  · rw [Value.flushed2]
    funext j
    rw [View.read_apply]
    obtain ⟨p, q, rfl⟩ : ∃ (p : Fin 512) (q : Fin 512), j = (ix2 p q : S512x512.Idx) := ⟨j 0, j 1, eq_ix2 _⟩
    have e : ((cfg0.win 2).blk t).view.emb (ix2 p q) = (ix2 (row t p) (col t q) : S512x1024.Idx) := by
      funext x
      apply Fin.ext
      match x with
      | ⟨0, _⟩ => show win0_2.index t (0 : Fin 2) * 512 + 1 * p.val = (t.val / 2) * 512 + p.val; rw [(idx2 t).1]; omega
      | ⟨1, _⟩ => show win0_2.index t (1 : Fin 2) * 512 + 1 * q.val = (t.val % 2) * 512 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 512 := (i 0).isLt
    have h1 : (i 1 : Nat) < 1024 := (i 1).isLt
    have hb : (i 0 : Nat) / 512 * 2 + (i 1 : Nat) / 512 < cfg0.N := by omega
    refine ⟨⟨(i 0 : Nat) / 512 * 2 + (i 1 : Nat) / 512, hb⟩, flush0_2 _, ?_⟩
    show i ∈ ((View.whole main_v0).slice (win0_2.rect ⟨(i 0 : Nat) / 512 * 2 + (i 1 : Nat) / 512, hb⟩)).set
    rw [View.set_slice_whole, Rect.mem_set_unit]
    intro x
    match x with
    | ⟨0, _⟩ => show win0_2.index ⟨(i 0 : Nat) / 512 * 2 + (i 1 : Nat) / 512, hb⟩ (0 : Fin 2) * 512 ≤ (i 0 : Nat) ∧ (i 0 : Nat) < win0_2.index ⟨(i 0 : Nat) / 512 * 2 + (i 1 : Nat) / 512, hb⟩ (0 : Fin 2) * 512 + 512
                rw [(idx2 ⟨(i 0 : Nat) / 512 * 2 + (i 1 : Nat) / 512, hb⟩).1]; dsimp only; omega
    | ⟨1, _⟩ => show win0_2.index ⟨(i 0 : Nat) / 512 * 2 + (i 1 : Nat) / 512, hb⟩ (1 : Fin 2) * 512 ≤ (i 1 : Nat) ∧ (i 1 : Nat) < win0_2.index ⟨(i 0 : Nat) / 512 * 2 + (i 1 : Nat) / 512, hb⟩ (1 : Fin 2) * 512 + 512
                rw [(idx2 ⟨(i 0 : Nat) / 512 * 2 + (i 1 : Nat) / 512, hb⟩).2]; dsimp only; omega

/-! ## The reference -/

theorem ref_eq (a : Vec Ideal S4352x512 .bf16) (b : Vec Ideal S4352x1024 .bf16) :
    Cert.BrDbRefIdeal.Read.val_main_v5 (F := Ideal) a b = goal a b := by
  funext i
  unfold goal
  rw [Cert.BrDbRefIdeal.Read.val_main_v5_apply]
  rw [Cert.BrDbRefIdeal.Read.val_main_v4_apply]
  refine Finset.sum_congr rfl fun k _ => ?_
  refine (mul_comm _ _).trans ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_BrDbRefIdeal := fun m ρ _ =>
  (θ_run Cert.BrDbRefIdeal.defs _ _).mono (fun r h => ⟨fun c => (h c).2, sem_eq_zero_of_no_sems (by decide) r.2⟩)
    (Cert.BrDbRefIdeal.Value.run (F := Ideal) m ρ)

theorem algebraic : Cert.algebraic_BrDbIdeal_BrDbRefIdeal := by
  intro m ρ m' ρ' _ hag
  refine ⟨fun c => goal (m ((c : Thread nD τ).loc main_arg0)) (m ((c : Thread nD τ).loc main_arg1)), ?_, ?_⟩
  · refine (θ_run Cert.BrDbIdeal.defs _ _).mono (fun r h c => ?_) (Cert.BrDbIdeal.Value.run_blocks m ρ)
    exact ⟨(h c).1.trans (final m c), (h c).2⟩
  · refine (θ_run Cert.BrDbRefIdeal.defs _ _).mono (fun r h c => ?_) (Cert.BrDbRefIdeal.Value.run (F := Ideal) m' ρ')
    refine ⟨(h c).1.trans ?_, (h c).2⟩
    rw [Cert.BrDbRefIdeal.Read.val_main_v5_eq, (hag c).1, (hag c).2]
    exact ref_eq ..

end Cert.Proof.BrDb

end
-- ==== Proof.OutDaProd.lean ====
/-  The gradient of the output projection's operand. -/
module

public import proofs.«01_k».proof.Defs
public import proofs.«01_k».proof.Proof.Gen.OutDaIdeal.Value
public import proofs.«01_k».proof.Proof.Gen.OutDaRefIdeal.Run
public import proofs.«01_k».proof.Proof.Gen.OutDaRefIdeal.Read
public import Idealize.ShloMosaic.Lib.Pointwise

@[expose] public section

set_option maxRecDepth 16384

noncomputable section

namespace Cert.Proof.OutDa

open Cert.OutDaIdeal Cert.OutDaIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The product, cell by cell. -/
def goal (a : Vec Ideal S4352x1024 .f32) (b : Vec Ideal S1024x1024 .bf16) : Vec Ideal S4352x1024 .bf16 :=
  fun i => ∑ k : Fin 1024, (a (ix2 (i 0) k) : EReal) * (b (ix2 (i 1) k) : EReal)

theorem hz : (![0, 0] : Fin 2 → Nat) = fun _ => 0 := funext fun a => by fin_cases a <;> rfl

/-- What a grid point stores is the product of its two blocks. -/
theorem out_apply (x0 : Vec Ideal S1088x1024 .f32) (x1 : Vec Ideal S1024x1024 .bf16) (p : Fin 1088) (q : Fin 1024) :
    (out0_2 x0 x1) (ix2 p q) = ∑ k : Fin 1024, (x0 (ix2 p k) : EReal) * (x1 (ix2 q k) : EReal) := by
  have e : out0_2 x0 x1 = k0_pay1 x0 x1 := by
    unfold out0_2
    rw [View.canon_unit_zero hz]
    rw [View.ld_unit_zero (S := S1088x1024) hz, View.ld_unit_zero (S := S1024x1024) hz]
  rw [e]
  unfold k0_pay1
  pointwise

abbrev row (t : Fin cfg0.N) (p : Fin 1088) : Fin 4352 := ⟨(t.val / 1) * 1088 + p.val, by have := t.isLt; have : cfg0.N = 4 := N_0; omega⟩
abbrev col (t : Fin cfg0.N) (q : Fin 1024) : Fin 1024 := ⟨(t.val % 1) * 1024 + q.val, by omega⟩

theorem idx0 : ∀ t : Fin cfg0.N, win0_0.index t (0 : Fin 2) = (t.val / 1) ∧ win0_0.index t (1 : Fin 2) = 0 :=
  (by decide +kernel : ∀ t : Fin grid0.N, win0_0.index t (0 : Fin 2) = (t.val / 1) ∧ win0_0.index t (1 : Fin 2) = 0)

theorem read0 (c : Dev nD) (t : Fin cfg0.N) (p : Fin 1088) (k : Fin 1024) :
    (iblk m c 0 t : Vec Ideal S1088x1024 .f32) (ix2 p k) = m ((c : Thread nD τ).loc main_arg0) (ix2 (row t p) k) := by
  unfold iblk
  rw [View.read_apply]
  show V m c main_arg0 _ = _
  rw [V_main_arg0]
  congr 1
  funext x
  apply Fin.ext
  match x with
  | ⟨0, _⟩ => show win0_0.index t (0 : Fin 2) * 1088 + 1 * p.val = (t.val / 1) * 1088 + p.val; rw [(idx0 t).1]; omega
  | ⟨1, _⟩ => show win0_0.index t (1 : Fin 2) * 1024 + 1 * k.val = k.val; rw [(idx0 t).2]; omega

theorem idx1 : ∀ t : Fin cfg0.N, win0_1.index t (0 : Fin 2) = (t.val % 1) ∧ win0_1.index t (1 : Fin 2) = 0 :=
  (by decide +kernel : ∀ t : Fin grid0.N, win0_1.index t (0 : Fin 2) = (t.val % 1) ∧ win0_1.index t (1 : Fin 2) = 0)

theorem read1 (c : Dev nD) (t : Fin cfg0.N) (q : Fin 1024) (k : Fin 1024) :
    (iblk m c 1 t : Vec Ideal S1024x1024 .bf16) (ix2 q k) = m ((c : Thread nD τ).loc main_arg1) (ix2 (col t q) k) := by
  unfold iblk
  rw [View.read_apply]
  show V m c main_arg1 _ = _
  rw [V_main_arg1]
  congr 1
  funext x
  apply Fin.ext
  match x with
  | ⟨0, _⟩ => show win0_1.index t (0 : Fin 2) * 1024 + 1 * q.val = (t.val % 1) * 1024 + q.val; rw [(idx1 t).1]; omega
  | ⟨1, _⟩ => show win0_1.index t (1 : Fin 2) * 1024 + 1 * k.val = k.val; rw [(idx1 t).2]; omega

theorem idx2 : ∀ t : Fin cfg0.N, win0_2.index t (0 : Fin 2) = (t.val / 1) ∧ win0_2.index t (1 : Fin 2) = (t.val % 1) :=
  (by decide +kernel : ∀ t : Fin grid0.N, win0_2.index t (0 : Fin 2) = (t.val / 1) ∧ win0_2.index t (1 : Fin 2) = (t.val % 1))

/-- The result array is the product: every cell lies in the block of exactly one grid point. -/
theorem final (c : Dev nD) : (dats m 0 c).arrAt 2 cfg0.N
    = goal (m ((c : Thread nD τ).loc main_arg0)) (m ((c : Thread nD τ).loc main_arg1)) := by
  have hN : cfg0.N = 4 := N_0
  refine (dats m 0 c).arrAt_eq_of_cover 2 _ (fun t hf => ?_) fun i => ?_
  · rw [Value.flushed2]
    funext j
    rw [View.read_apply]
    obtain ⟨p, q, rfl⟩ : ∃ (p : Fin 1088) (q : Fin 1024), j = (ix2 p q : S1088x1024.Idx) := ⟨j 0, j 1, eq_ix2 _⟩
    have e : ((cfg0.win 2).blk t).view.emb (ix2 p q) = (ix2 (row t p) (col t q) : S4352x1024.Idx) := by
      funext x
      apply Fin.ext
      match x with
      | ⟨0, _⟩ => show win0_2.index t (0 : Fin 2) * 1088 + 1 * p.val = (t.val / 1) * 1088 + p.val; rw [(idx2 t).1]; omega
      | ⟨1, _⟩ => show win0_2.index t (1 : Fin 2) * 1024 + 1 * q.val = (t.val % 1) * 1024 + q.val; rw [(idx2 t).2]; omega
    refine Eq.trans ?_ (congrArg (goal (m ((c : Thread nD τ).loc main_arg0)) (m ((c : Thread nD τ).loc main_arg1))) e).symm
    show out0_2 _ _ (ix2 p q) = _
    rw [out_apply]
    unfold goal
    refine Finset.sum_congr rfl fun k _ => ?_
    rw [read0, read1]
    rfl
  · have h0 : (i 0 : Nat) < 4352 := (i 0).isLt
    have h1 : (i 1 : Nat) < 1024 := (i 1).isLt
    have hb : (i 0 : Nat) / 1088 * 1 + (i 1 : Nat) / 1024 < cfg0.N := by omega
    refine ⟨⟨(i 0 : Nat) / 1088 * 1 + (i 1 : Nat) / 1024, hb⟩, flush0_2 _, ?_⟩
    show i ∈ ((View.whole main_v0).slice (win0_2.rect ⟨(i 0 : Nat) / 1088 * 1 + (i 1 : Nat) / 1024, hb⟩)).set
    rw [View.set_slice_whole, Rect.mem_set_unit]
    intro x
    match x with
    | ⟨0, _⟩ => show win0_2.index ⟨(i 0 : Nat) / 1088 * 1 + (i 1 : Nat) / 1024, hb⟩ (0 : Fin 2) * 1088 ≤ (i 0 : Nat) ∧ (i 0 : Nat) < win0_2.index ⟨(i 0 : Nat) / 1088 * 1 + (i 1 : Nat) / 1024, hb⟩ (0 : Fin 2) * 1088 + 1088
                rw [(idx2 ⟨(i 0 : Nat) / 1088 * 1 + (i 1 : Nat) / 1024, hb⟩).1]; dsimp only; omega
    | ⟨1, _⟩ => show win0_2.index ⟨(i 0 : Nat) / 1088 * 1 + (i 1 : Nat) / 1024, hb⟩ (1 : Fin 2) * 1024 ≤ (i 1 : Nat) ∧ (i 1 : Nat) < win0_2.index ⟨(i 0 : Nat) / 1088 * 1 + (i 1 : Nat) / 1024, hb⟩ (1 : Fin 2) * 1024 + 1024
                rw [(idx2 ⟨(i 0 : Nat) / 1088 * 1 + (i 1 : Nat) / 1024, hb⟩).2]; dsimp only; omega

/-! ## The reference -/

theorem ref_eq (a : Vec Ideal S4352x1024 .f32) (b : Vec Ideal S1024x1024 .bf16) :
    Cert.OutDaRefIdeal.Read.val_main_v4 (F := Ideal) a b = goal a b := by
  funext i
  unfold goal
  rw [Cert.OutDaRefIdeal.Read.val_main_v4_apply]
  show Cert.OutDaRefIdeal.Read.val_main_v3 (F := Ideal) a b i = _
  rw [Cert.OutDaRefIdeal.Read.val_main_v3_apply]
  refine Finset.sum_congr rfl fun k _ => ?_
  exact congrArg₂ (fun x y : EReal => x * y) (congrArg a (funext fun x => by match x with | ⟨0, _⟩ => rfl | ⟨1, _⟩ => rfl)) (congrArg b (funext fun x => by match x with | ⟨0, _⟩ => rfl | ⟨1, _⟩ => rfl))

theorem frame_ref : Cert.quiescent_OutDaRefIdeal := fun m ρ _ =>
  (θ_run Cert.OutDaRefIdeal.defs _ _).mono (fun r h => ⟨fun c => (h c).2, sem_eq_zero_of_no_sems (by decide) r.2⟩)
    (Cert.OutDaRefIdeal.Value.run (F := Ideal) m ρ)

theorem algebraic : Cert.algebraic_OutDaIdeal_OutDaRefIdeal := by
  intro m ρ m' ρ' _ hag
  refine ⟨fun c => goal (m ((c : Thread nD τ).loc main_arg0)) (m ((c : Thread nD τ).loc main_arg1)), ?_, ?_⟩
  · refine (θ_run Cert.OutDaIdeal.defs _ _).mono (fun r h c => ?_) (Cert.OutDaIdeal.Value.run_blocks m ρ)
    exact ⟨(h c).1.trans (final m c), (h c).2⟩
  · refine (θ_run Cert.OutDaRefIdeal.defs _ _).mono (fun r h c => ?_) (Cert.OutDaRefIdeal.Value.run (F := Ideal) m' ρ')
    refine ⟨(h c).1.trans ?_, (h c).2⟩
    rw [Cert.OutDaRefIdeal.Read.val_main_v4_eq, (hag c).1, (hag c).2]
    exact ref_eq ..

end Cert.Proof.OutDa

end
-- ==== Proof.AdamStep.lean ====
/-  One step of the optimiser at one weight, in the extended reals: the two new moments and the change of the weight, with the
    rounded constants both programs print. -/
module

public import Idealize.ShloMosaic.Lib.Pointwise

@[expose] public section

noncomputable section

namespace Cert.Proof.Adam

open Idealize.ShloMosaic

/-- The new first moment from the gradient `g` and the old moment `m`. -/
def newM (g m : Ideal FTy.f32) : Ideal FTy.f32 :=
  FloatOps.addf (FloatOps.mulf (Scalar.ofBits .f32 0x3F666666#32) m) (FloatOps.mulf (Scalar.ofBits .f32 0x3DCCCCCD#32) g)

/-- The new second moment from the gradient `g` and the old moment `v`. -/
def newV (g v : Ideal FTy.f32) : Ideal FTy.f32 :=
  FloatOps.addf (FloatOps.mulf (Scalar.ofBits .f32 0x3F7FBE77#32) v)
    (FloatOps.mulf (Scalar.ofBits .f32 0x3A83126F#32) (FloatOps.mulf g g))

/-- The change of the weight `w`. -/
def delta (w g m v : Ideal FTy.f32) : Ideal FTy.f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

end Cert.Proof.Adam

end
-- ==== Proof.AdamWModStep.lean ====
/-  The optimiser's step over the modulation weights: what the kernel leaves in each of its three results, and the reference. -/
module

public import proofs.«01_k».proof.Defs
public import proofs.«01_k».proof.Proof.Gen.AdamWModIdeal.Value
public import proofs.«01_k».proof.Proof.Gen.AdamWModRefIdeal.Run
public import proofs.«01_k».proof.Proof.Gen.AdamWModRefIdeal.Read
public import proofs.«01_k».proof.Proof.AdamStep

@[expose] public section

set_option maxRecDepth 16384

noncomputable section

namespace Cert.Proof.AdamWMod

open Cert.AdamWModIdeal Cert.AdamWModIdeal.Gen Idealize.ShloMosaic Idealize.ShloMosaic.TcCoe Idealize.SL.Sem
open Idealize.ShloMosaic.Pipeline (Dat)
open Cert.Proof.Adam

variable (m : (ℓ : Loc nD τ sig) → Buf (Elt Ideal) ℓ) (ρ : Dev nD → PrngReg)

/-- The rows of an array, the leading axes joined. -/
def flat (x : Vec Ideal S2x1024x768 .f32) : Vec Ideal S2048x768 .f32 := shapeCast S2048x768 x shapeCasts_S2x1024x768_S2048x768

def goalD (w g m v : Vec Ideal S2x1024x768 .f32) : Vec Ideal S2048x768 .f32 := fun i => delta (flat w i) (flat g i) (flat m i) (flat v i)
def goalM (g m : Vec Ideal S2x1024x768 .f32) : Vec Ideal S2048x768 .f32 := fun i => newM (flat g i) (flat m i)
def goalV (g v : Vec Ideal S2x1024x768 .f32) : Vec Ideal S2048x768 .f32 := fun i => newV (flat g i) (flat v i)

theorem hz : (![0, 0] : Fin 2 → Nat) = fun _ => 0 := funext fun a => by fin_cases a <;> rfl

abbrev row (t : Fin cfg0.N) (p : Fin 256) : Fin 2048 := ⟨t.val * 256 + p.val, by have := t.isLt; have : cfg0.N = 8 := N_0; omega⟩

theorem V_flat0 (c : Dev nD) : V m c main_v0 = flat (m ((c : Thread nD τ).loc main_arg1)) := by
  show StableHlo.after hostOps0 (fun b => m (c, b)) (Proc.devRef .tc main_v0) = _
  unfold hostOps0
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (q : Fin 768) :
    (iblk m c 0 t : Vec Ideal S256x768 .f32) (ix2 p q) = flat (m ((c : Thread nD τ).loc main_arg1)) (ix2 (row t p) q) := by
  unfold iblk
  rw [View.read_apply]
  show V m c main_v0 _ = _
  rw [V_flat0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 768 + 1 * q.val = q.val; rw [(idx0 t).2]; omega

theorem V_flat1 (c : Dev nD) : V m c main_v1 = flat (m ((c : Thread nD τ).loc main_arg0)) := by
  show StableHlo.after hostOps0 (fun b => m (c, b)) (Proc.devRef .tc main_v1) = _
  unfold hostOps0
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (q : Fin 768) :
    (iblk m c 1 t : Vec Ideal S256x768 .f32) (ix2 p q) = flat (m ((c : Thread nD τ).loc main_arg0)) (ix2 (row t p) q) := by
  unfold iblk
  rw [View.read_apply]
  show V m c main_v1 _ = _
  rw [V_flat1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 768 + 1 * q.val = q.val; rw [(idx1 t).2]; omega

theorem V_flat2 (c : Dev nD) : V m c main_v2 = flat (m ((c : Thread nD τ).loc main_arg2)) := by
  show StableHlo.after hostOps0 (fun b => m (c, b)) (Proc.devRef .tc main_v2) = _
  unfold hostOps0
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (q : Fin 768) :
    (iblk m c 2 t : Vec Ideal S256x768 .f32) (ix2 p q) = flat (m ((c : Thread nD τ).loc main_arg2)) (ix2 (row t p) q) := by
  unfold iblk
  rw [View.read_apply]
  show V m c main_v2 _ = _
  rw [V_flat2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 768 + 1 * q.val = q.val; rw [(idx2 t).2]; omega

theorem V_flat3 (c : Dev nD) : V m c main_v3 = flat (m ((c : Thread nD τ).loc main_arg3)) := by
  show StableHlo.after hostOps0 (fun b => m (c, b)) (Proc.devRef .tc main_v3) = _
  unfold hostOps0
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (q : Fin 768) :
    (iblk m c 3 t : Vec Ideal S256x768 .f32) (ix2 p q) = flat (m ((c : Thread nD τ).loc main_arg3)) (ix2 (row t p) q) := by
  unfold iblk
  rw [View.read_apply]
  show V m c main_v3 _ = _
  rw [V_flat3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 768 + 1 * q.val = q.val; rw [(idx3 t).2]; omega

theorem out4_apply (x0 : Vec Ideal S256x768 .f32) (x1 : Vec Ideal S256x768 .f32) (x2 : Vec Ideal S256x768 .f32) (x3 : Vec Ideal S256x768 .f32) (p : Fin 256) (q : Fin 768) :
    (out0_4 x0 x1 x2 x3) (ix2 p q) = delta (x1 (ix2 p q)) (x0 (ix2 p q)) (x2 (ix2 p q)) (x3 (ix2 p q)) := by
  unfold out0_4
  simp only [View.ld_unit_zero (S := S256x768) hz]
  exact (Value.canon4_eq x2 x0 x3 x1 (ix2 p q)).trans (by
    have e : (fun a => match a with | ⟨0, _⟩ => ⟨p.val, p.isLt⟩ | ⟨1, _⟩ => ⟨q.val, q.isLt⟩ : S256x768.Idx) = ix2 p q :=
      funext fun a => by match a with | ⟨0, _⟩ => rfl | ⟨1, _⟩ => rfl
    rw [← e]
    rfl)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem final4 (c : Dev nD) : (dats m 0 c).arrAt 4 cfg0.N = goalD (m ((c : Thread nD τ).loc main_arg0)) (m ((c : Thread nD τ).loc main_arg1)) (m ((c : Thread nD τ).loc main_arg2)) (m ((c : Thread nD τ).loc main_arg3)) := by
  have hN : cfg0.N = 8 := N_0
  refine (dats m 0 c).arrAt_eq_of_cover 4 _ (fun t hf => ?_) fun i => ?_
  · rw [Value.flushed4]
    funext j
    rw [View.read_apply]
    obtain ⟨p, q, rfl⟩ : ∃ (p : Fin 256) (q : Fin 768), j = (ix2 p q : S256x768.Idx) := ⟨j 0, j 1, eq_ix2 _⟩
    have e : ((cfg0.win 4).blk t).view.emb (ix2 p q) = (ix2 (row t p) q : S2048x768.Idx) := by
      funext x
      apply Fin.ext
      match x with
      | ⟨0, _⟩ => show win0_4.index t (0 : Fin 2) * 256 + 1 * p.val = t.val * 256 + p.val; rw [(idx4 t).1]; omega
      | ⟨1, _⟩ => show win0_4.index t (1 : Fin 2) * 768 + 1 * q.val = q.val; rw [(idx4 t).2]; omega
    refine Eq.trans ?_ (congrArg (goalD (m ((c : Thread nD τ).loc main_arg0)) (m ((c : Thread nD τ).loc main_arg1)) (m ((c : Thread nD τ).loc main_arg2)) (m ((c : Thread nD τ).loc main_arg3))) e).symm
    refine (out4_apply _ _ _ _ p q).trans ?_
    unfold goalD
    rw [read1, read0, read2, read3]
  · have h0 : (i 0 : Nat) < 2048 := (i 0).isLt
    have h1 : (i 1 : Nat) < 768 := (i 1).isLt
    have hb : (i 0 : Nat) / 256 < cfg0.N := by omega
    refine ⟨⟨(i 0 : Nat) / 256, hb⟩, flush0_4 _, ?_⟩
    show i ∈ ((View.whole main_v4_0).slice (win0_4.rect ⟨(i 0 : Nat) / 256, hb⟩)).set
    rw [View.set_slice_whole, Rect.mem_set_unit]
    intro x
    match x with
    | ⟨0, _⟩ => show win0_4.index ⟨(i 0 : Nat) / 256, hb⟩ (0 : Fin 2) * 256 ≤ (i 0 : Nat) ∧ (i 0 : Nat) < win0_4.index ⟨(i 0 : Nat) / 256, hb⟩ (0 : Fin 2) * 256 + 256
                rw [(idx4 ⟨(i 0 : Nat) / 256, hb⟩).1]; dsimp only; omega
    | ⟨1, _⟩ => show win0_4.index ⟨(i 0 : Nat) / 256, hb⟩ (1 : Fin 2) * 768 ≤ (i 1 : Nat) ∧ (i 1 : Nat) < win0_4.index ⟨(i 0 : Nat) / 256, hb⟩ (1 : Fin 2) * 768 + 768
                rw [(idx4 ⟨(i 0 : Nat) / 256, hb⟩).2]; omega

theorem out5_apply (x0 : Vec Ideal S256x768 .f32) (x1 : Vec Ideal S256x768 .f32) (x2 : Vec Ideal S256x768 .f32) (x3 : Vec Ideal S256x768 .f32) (p : Fin 256) (q : Fin 768) :
    (out0_5 x0 x1 x2 x3) (ix2 p q) = newM (x0 (ix2 p q)) (x2 (ix2 p q)) := by
  unfold out0_5
  simp only [View.ld_unit_zero (S := S256x768) hz]
  exact (Value.canon5_eq x2 x0 (ix2 p q)).trans (by
    have e : (fun a => match a with | ⟨0, _⟩ => ⟨p.val, p.isLt⟩ | ⟨1, _⟩ => ⟨q.val, q.isLt⟩ : S256x768.Idx) = ix2 p q :=
      funext fun a => by match a with | ⟨0, _⟩ => rfl | ⟨1, _⟩ => rfl
    rw [← e]
    rfl)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem final5 (c : Dev nD) : (dats m 0 c).arrAt 5 cfg0.N = goalM (m ((c : Thread nD τ).loc main_arg1)) (m ((c : Thread nD τ).loc main_arg2)) := by
  have hN : cfg0.N = 8 := N_0
  refine (dats m 0 c).arrAt_eq_of_cover 5 _ (fun t hf => ?_) fun i => ?_
  · rw [Value.flushed5]
    funext j
    rw [View.read_apply]
    obtain ⟨p, q, rfl⟩ : ∃ (p : Fin 256) (q : Fin 768), j = (ix2 p q : S256x768.Idx) := ⟨j 0, j 1, eq_ix2 _⟩
    have e : ((cfg0.win 5).blk t).view.emb (ix2 p q) = (ix2 (row t p) q : S2048x768.Idx) := by
      funext x
      apply Fin.ext
      match x with
      | ⟨0, _⟩ => show win0_5.index t (0 : Fin 2) * 256 + 1 * p.val = t.val * 256 + p.val; rw [(idx5 t).1]; omega
      | ⟨1, _⟩ => show win0_5.index t (1 : Fin 2) * 768 + 1 * q.val = q.val; rw [(idx5 t).2]; omega
    refine Eq.trans ?_ (congrArg (goalM (m ((c : Thread nD τ).loc main_arg1)) (m ((c : Thread nD τ).loc main_arg2))) e).symm
    refine (out5_apply _ _ _ _ p q).trans ?_
    unfold goalM
    rw [read0, read2]
  · have h0 : (i 0 : Nat) < 2048 := (i 0).isLt
    have h1 : (i 1 : Nat) < 768 := (i 1).isLt
    have hb : (i 0 : Nat) / 256 < cfg0.N := by omega
    refine ⟨⟨(i 0 : Nat) / 256, hb⟩, flush0_5 _, ?_⟩
    show i ∈ ((View.whole main_v4_1).slice (win0_5.rect ⟨(i 0 : Nat) / 256, hb⟩)).set
    rw [View.set_slice_whole, Rect.mem_set_unit]
    intro x
    match x with
    | ⟨0, _⟩ => show win0_5.index ⟨(i 0 : Nat) / 256, hb⟩ (0 : Fin 2) * 256 ≤ (i 0 : Nat) ∧ (i 0 : Nat) < win0_5.index ⟨(i 0 : Nat) / 256, hb⟩ (0 : Fin 2) * 256 + 256
                rw [(idx5 ⟨(i 0 : Nat) / 256, hb⟩).1]; dsimp only; omega
    | ⟨1, _⟩ => show win0_5.index ⟨(i 0 : Nat) / 256, hb⟩ (1 : Fin 2) * 768 ≤ (i 1 : Nat) ∧ (i 1 : Nat) < win0_5.index ⟨(i 0 : Nat) / 256, hb⟩ (1 : Fin 2) * 768 + 768
                rw [(idx5 ⟨(i 0 : Nat) / 256, hb⟩).2]; omega

theorem out6_apply (x0 : Vec Ideal S256x768 .f32) (x1 : Vec Ideal S256x768 .f32) (x2 : Vec Ideal S256x768 .f32) (x3 : Vec Ideal S256x768 .f32) (p : Fin 256) (q : Fin 768) :
    (out0_6 x0 x1 x2 x3) (ix2 p q) = newV (x0 (ix2 p q)) (x3 (ix2 p q)) := by
  unfold out0_6
  simp only [View.ld_unit_zero (S := S256x768) hz]
  exact (Value.canon6_eq x3 x0 (ix2 p q)).trans (by
    have e : (fun a => match a with | ⟨0, _⟩ => ⟨p.val, p.isLt⟩ | ⟨1, _⟩ => ⟨q.val, q.isLt⟩ : S256x768.Idx) = ix2 p q :=
      funext fun a => by match a with | ⟨0, _⟩ => rfl | ⟨1, _⟩ => rfl
    rw [← e]
    rfl)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem final6 (c : Dev nD) : (dats m 0 c).arrAt 6 cfg0.N = goalV (m ((c : Thread nD τ).loc main_arg1)) (m ((c : Thread nD τ).loc main_arg3)) := by
  have hN : cfg0.N = 8 := N_0
  refine (dats m 0 c).arrAt_eq_of_cover 6 _ (fun t hf => ?_) fun i => ?_
  · rw [Value.flushed6]
    funext j
    rw [View.read_apply]
    obtain ⟨p, q, rfl⟩ : ∃ (p : Fin 256) (q : Fin 768), j = (ix2 p q : S256x768.Idx) := ⟨j 0, j 1, eq_ix2 _⟩
    have e : ((cfg0.win 6).blk t).view.emb (ix2 p q) = (ix2 (row t p) q : S2048x768.Idx) := by
      funext x
      apply Fin.ext
      match x with
      | ⟨0, _⟩ => show win0_6.index t (0 : Fin 2) * 256 + 1 * p.val = t.val * 256 + p.val; rw [(idx6 t).1]; omega
      | ⟨1, _⟩ => show win0_6.index t (1 : Fin 2) * 768 + 1 * q.val = q.val; rw [(idx6 t).2]; omega
    refine Eq.trans ?_ (congrArg (goalV (m ((c : Thread nD τ).loc main_arg1)) (m ((c : Thread nD τ).loc main_arg3))) e).symm
    refine (out6_apply _ _ _ _ p q).trans ?_
    unfold goalV
    rw [read0, read3]
  · have h0 : (i 0 : Nat) < 2048 := (i 0).isLt
    have h1 : (i 1 : Nat) < 768 := (i 1).isLt
    have hb : (i 0 : Nat) / 256 < cfg0.N := by omega
    refine ⟨⟨(i 0 : Nat) / 256, hb⟩, flush0_6 _, ?_⟩
    show i ∈ ((View.whole main_v4_2).slice (win0_6.rect ⟨(i 0 : Nat) / 256, hb⟩)).set
    rw [View.set_slice_whole, Rect.mem_set_unit]
    intro x
    match x with
    | ⟨0, _⟩ => show win0_6.index ⟨(i 0 : Nat) / 256, hb⟩ (0 : Fin 2) * 256 ≤ (i 0 : Nat) ∧ (i 0 : Nat) < win0_6.index ⟨(i 0 : Nat) / 256, hb⟩ (0 : Fin 2) * 256 + 256
                rw [(idx6 ⟨(i 0 : Nat) / 256, hb⟩).1]; dsimp only; omega
    | ⟨1, _⟩ => show win0_6.index ⟨(i 0 : Nat) / 256, hb⟩ (1 : Fin 2) * 768 ≤ (i 1 : Nat) ∧ (i 1 : Nat) < win0_6.index ⟨(i 0 : Nat) / 256, hb⟩ (1 : Fin 2) * 768 + 768
                rw [(idx6 ⟨(i 0 : Nat) / 256, hb⟩).2]; omega

/-! ## The reference -/

theorem ref_delta (w g m v : Vec Ideal S2x1024x768 .f32) : Cert.AdamWModRefIdeal.Read.val_main_v24 (F := Ideal) w g m v = goalD w g m v := by
  funext i
  rfl

theorem ref_m (g m : Vec Ideal S2x1024x768 .f32) : Cert.AdamWModRefIdeal.Read.val_main_v25 (F := Ideal) g m = goalM g m := by
  funext i
  rfl

theorem ref_v (g v : Vec Ideal S2x1024x768 .f32) : Cert.AdamWModRefIdeal.Read.val_main_v26 (F := Ideal) g v = goalV g v := by
  funext i
  rfl

theorem frame_ref : Cert.quiescent_AdamWModRefIdeal := fun m ρ _ =>
  (θ_run Cert.AdamWModRefIdeal.defs _ _).mono (fun r h => ⟨fun c => (h c).2.2.2, sem_eq_zero_of_no_sems (by decide) r.2⟩)
    (Cert.AdamWModRefIdeal.Value.run (F := Ideal) m ρ)

theorem algebraic : Cert.algebraic_AdamWModIdeal_AdamWModRefIdeal := by
  intro m ρ m' ρ' _ hag
  refine ⟨fun c => goalD (m ((c : Thread nD τ).loc main_arg0)) (m ((c : Thread nD τ).loc main_arg1)) (m ((c : Thread nD τ).loc main_arg2)) (m ((c : Thread nD τ).loc main_arg3)),
    fun c => goalM (m ((c : Thread nD τ).loc main_arg1)) (m ((c : Thread nD τ).loc main_arg2)),
    fun c => goalV (m ((c : Thread nD τ).loc main_arg1)) (m ((c : Thread nD τ).loc main_arg3)), ?_, ?_⟩
  · refine (θ_run Cert.AdamWModIdeal.defs _ _).mono (fun r h c => ?_) (Cert.AdamWModIdeal.Value.run_blocks m ρ)
    obtain ⟨h4, h5, h6, hk⟩ := h c
    exact ⟨h4.trans (final4 m c), h5.trans (final5 m c), h6.trans (final6 m c), hk⟩
  · refine (θ_run Cert.AdamWModRefIdeal.defs _ _).mono (fun r h c => ?_) (Cert.AdamWModRefIdeal.Value.run (F := Ideal) m' ρ')
    obtain ⟨h4, h5, h6, hk⟩ := h c
    obtain ⟨e0, e1, e2, e3⟩ := hag c
    refine ⟨h4.trans ?_, h5.trans ?_, h6.trans ?_, hk⟩
    · rw [Cert.AdamWModRefIdeal.Read.val_main_v24_eq, e0, e1, e2, e3]
      exact ref_delta ..
    · rw [Cert.AdamWModRefIdeal.Read.val_main_v25_eq, e1, e2]
      exact ref_m ..
    · rw [Cert.AdamWModRefIdeal.Read.val_main_v26_eq, e1, e3]
      exact ref_v ..

end Cert.Proof.AdamWMod

end
-- ==== Proof.AdamWInStep.lean ====
/-  The optimiser's step over the input projection's weights: what the kernel leaves in each of its three results, and the reference. -/
module

public import proofs.«01_k».proof.Defs
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.AdamStep

@[expose] public section

set_option maxRecDepth 16384

noncomputable section

namespace Cert.Proof.AdamWIn

open Cert.AdamWInIdeal Cert.AdamWInIdeal.Gen Idealize.ShloMosaic Idealize.ShloMosaic.TcCoe Idealize.SL.Sem
open Idealize.ShloMosaic.Pipeline (Dat)
open Cert.Proof.Adam

variable (m : (ℓ : Loc nD τ sig) → Buf (Elt Ideal) ℓ) (ρ : Dev nD → PrngReg)

/-- The rows of an array, the leading axes joined. -/
def flat (x : Vec Ideal S2x1024x1476 .f32) : Vec Ideal S2048x1476 .f32 := shapeCast S2048x1476 x shapeCasts_S2x1024x1476_S2048x1476

def goalD (w g m v : Vec Ideal S2x1024x1476 .f32) : Vec Ideal S2048x1476 .f32 := fun i => delta (flat w i) (flat g i) (flat m i) (flat v i)
def goalM (g m : Vec Ideal S2x1024x1476 .f32) : Vec Ideal S2048x1476 .f32 := fun i => newM (flat g i) (flat m i)
def goalV (g v : Vec Ideal S2x1024x1476 .f32) : Vec Ideal S2048x1476 .f32 := fun i => newV (flat g i) (flat v i)

theorem hz : (![0, 0] : Fin 2 → Nat) = fun _ => 0 := funext fun a => by fin_cases a <;> rfl

abbrev row (t : Fin cfg0.N) (p : Fin 256) : Fin 2048 := ⟨t.val * 256 + p.val, by have := t.isLt; have : cfg0.N = 8 := N_0; omega⟩

theorem V_flat0 (c : Dev nD) : V m c main_v0 = flat (m ((c : Thread nD τ).loc main_arg1)) := by
  show StableHlo.after hostOps0 (fun b => m (c, b)) (Proc.devRef .tc main_v0) = _
  unfold hostOps0
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (q : Fin 1476) :
    (iblk m c 0 t : Vec Ideal S256x1476 .f32) (ix2 p q) = flat (m ((c : Thread nD τ).loc main_arg1)) (ix2 (row t p) q) := by
  unfold iblk
  rw [View.read_apply]
  show V m c main_v0 _ = _
  rw [V_flat0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 1476 + 1 * q.val = q.val; rw [(idx0 t).2]; omega

theorem V_flat1 (c : Dev nD) : V m c main_v1 = flat (m ((c : Thread nD τ).loc main_arg0)) := by
  show StableHlo.after hostOps0 (fun b => m (c, b)) (Proc.devRef .tc main_v1) = _
  unfold hostOps0
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (q : Fin 1476) :
    (iblk m c 1 t : Vec Ideal S256x1476 .f32) (ix2 p q) = flat (m ((c : Thread nD τ).loc main_arg0)) (ix2 (row t p) q) := by
  unfold iblk
  rw [View.read_apply]
  show V m c main_v1 _ = _
  rw [V_flat1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 1476 + 1 * q.val = q.val; rw [(idx1 t).2]; omega

theorem V_flat2 (c : Dev nD) : V m c main_v2 = flat (m ((c : Thread nD τ).loc main_arg2)) := by
  show StableHlo.after hostOps0 (fun b => m (c, b)) (Proc.devRef .tc main_v2) = _
  unfold hostOps0
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (q : Fin 1476) :
    (iblk m c 2 t : Vec Ideal S256x1476 .f32) (ix2 p q) = flat (m ((c : Thread nD τ).loc main_arg2)) (ix2 (row t p) q) := by
  unfold iblk
  rw [View.read_apply]
  show V m c main_v2 _ = _
  rw [V_flat2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 1476 + 1 * q.val = q.val; rw [(idx2 t).2]; omega

theorem V_flat3 (c : Dev nD) : V m c main_v3 = flat (m ((c : Thread nD τ).loc main_arg3)) := by
  show StableHlo.after hostOps0 (fun b => m (c, b)) (Proc.devRef .tc main_v3) = _
  unfold hostOps0
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (q : Fin 1476) :
    (iblk m c 3 t : Vec Ideal S256x1476 .f32) (ix2 p q) = flat (m ((c : Thread nD τ).loc main_arg3)) (ix2 (row t p) q) := by
  unfold iblk
  rw [View.read_apply]
  show V m c main_v3 _ = _
  rw [V_flat3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 1476 + 1 * q.val = q.val; rw [(idx3 t).2]; omega

theorem out4_apply (x0 : Vec Ideal S256x1476 .f32) (x1 : Vec Ideal S256x1476 .f32) (x2 : Vec Ideal S256x1476 .f32) (x3 : Vec Ideal S256x1476 .f32) (p : Fin 256) (q : Fin 1476) :
    (out0_4 x0 x1 x2 x3) (ix2 p q) = delta (x1 (ix2 p q)) (x0 (ix2 p q)) (x2 (ix2 p q)) (x3 (ix2 p q)) := by
  unfold out0_4
  simp only [View.ld_unit_zero (S := S256x1476) hz]
  exact (Value.canon4_eq x2 x0 x3 x1 (ix2 p q)).trans (by
    have e : (fun a => match a with | ⟨0, _⟩ => ⟨p.val, p.isLt⟩ | ⟨1, _⟩ => ⟨q.val, q.isLt⟩ : S256x1476.Idx) = ix2 p q :=
      funext fun a => by match a with | ⟨0, _⟩ => rfl | ⟨1, _⟩ => rfl
    rw [← e]
    rfl)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem final4 (c : Dev nD) : (dats m 0 c).arrAt 4 cfg0.N = goalD (m ((c : Thread nD τ).loc main_arg0)) (m ((c : Thread nD τ).loc main_arg1)) (m ((c : Thread nD τ).loc main_arg2)) (m ((c : Thread nD τ).loc main_arg3)) := by
  have hN : cfg0.N = 8 := N_0
  refine (dats m 0 c).arrAt_eq_of_cover 4 _ (fun t hf => ?_) fun i => ?_
  · rw [Value.flushed4]
    funext j
    rw [View.read_apply]
    obtain ⟨p, q, rfl⟩ : ∃ (p : Fin 256) (q : Fin 1476), j = (ix2 p q : S256x1476.Idx) := ⟨j 0, j 1, eq_ix2 _⟩
    have e : ((cfg0.win 4).blk t).view.emb (ix2 p q) = (ix2 (row t p) q : S2048x1476.Idx) := by
      funext x
      apply Fin.ext
      match x with
      | ⟨0, _⟩ => show win0_4.index t (0 : Fin 2) * 256 + 1 * p.val = t.val * 256 + p.val; rw [(idx4 t).1]; omega
      | ⟨1, _⟩ => show win0_4.index t (1 : Fin 2) * 1476 + 1 * q.val = q.val; rw [(idx4 t).2]; omega
    refine Eq.trans ?_ (congrArg (goalD (m ((c : Thread nD τ).loc main_arg0)) (m ((c : Thread nD τ).loc main_arg1)) (m ((c : Thread nD τ).loc main_arg2)) (m ((c : Thread nD τ).loc main_arg3))) e).symm
    refine (out4_apply _ _ _ _ p q).trans ?_
    unfold goalD
    rw [read1, read0, read2, read3]
  · have h0 : (i 0 : Nat) < 2048 := (i 0).isLt
    have h1 : (i 1 : Nat) < 1476 := (i 1).isLt
    have hb : (i 0 : Nat) / 256 < cfg0.N := by omega
    refine ⟨⟨(i 0 : Nat) / 256, hb⟩, flush0_4 _, ?_⟩
    show i ∈ ((View.whole main_v4_0).slice (win0_4.rect ⟨(i 0 : Nat) / 256, hb⟩)).set
    rw [View.set_slice_whole, Rect.mem_set_unit]
    intro x
    match x with
    | ⟨0, _⟩ => show win0_4.index ⟨(i 0 : Nat) / 256, hb⟩ (0 : Fin 2) * 256 ≤ (i 0 : Nat) ∧ (i 0 : Nat) < win0_4.index ⟨(i 0 : Nat) / 256, hb⟩ (0 : Fin 2) * 256 + 256
                rw [(idx4 ⟨(i 0 : Nat) / 256, hb⟩).1]; dsimp only; omega
    | ⟨1, _⟩ => show win0_4.index ⟨(i 0 : Nat) / 256, hb⟩ (1 : Fin 2) * 1476 ≤ (i 1 : Nat) ∧ (i 1 : Nat) < win0_4.index ⟨(i 0 : Nat) / 256, hb⟩ (1 : Fin 2) * 1476 + 1476
                rw [(idx4 ⟨(i 0 : Nat) / 256, hb⟩).2]; omega

theorem out5_apply (x0 : Vec Ideal S256x1476 .f32) (x1 : Vec Ideal S256x1476 .f32) (x2 : Vec Ideal S256x1476 .f32) (x3 : Vec Ideal S256x1476 .f32) (p : Fin 256) (q : Fin 1476) :
    (out0_5 x0 x1 x2 x3) (ix2 p q) = newM (x0 (ix2 p q)) (x2 (ix2 p q)) := by
  unfold out0_5
  simp only [View.ld_unit_zero (S := S256x1476) hz]
  exact (Value.canon5_eq x2 x0 (ix2 p q)).trans (by
    have e : (fun a => match a with | ⟨0, _⟩ => ⟨p.val, p.isLt⟩ | ⟨1, _⟩ => ⟨q.val, q.isLt⟩ : S256x1476.Idx) = ix2 p q :=
      funext fun a => by match a with | ⟨0, _⟩ => rfl | ⟨1, _⟩ => rfl
    rw [← e]
    rfl)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem final5 (c : Dev nD) : (dats m 0 c).arrAt 5 cfg0.N = goalM (m ((c : Thread nD τ).loc main_arg1)) (m ((c : Thread nD τ).loc main_arg2)) := by
  have hN : cfg0.N = 8 := N_0
  refine (dats m 0 c).arrAt_eq_of_cover 5 _ (fun t hf => ?_) fun i => ?_
  · rw [Value.flushed5]
    funext j
    rw [View.read_apply]
    obtain ⟨p, q, rfl⟩ : ∃ (p : Fin 256) (q : Fin 1476), j = (ix2 p q : S256x1476.Idx) := ⟨j 0, j 1, eq_ix2 _⟩
    have e : ((cfg0.win 5).blk t).view.emb (ix2 p q) = (ix2 (row t p) q : S2048x1476.Idx) := by
      funext x
      apply Fin.ext
      match x with
      | ⟨0, _⟩ => show win0_5.index t (0 : Fin 2) * 256 + 1 * p.val = t.val * 256 + p.val; rw [(idx5 t).1]; omega
      | ⟨1, _⟩ => show win0_5.index t (1 : Fin 2) * 1476 + 1 * q.val = q.val; rw [(idx5 t).2]; omega
    refine Eq.trans ?_ (congrArg (goalM (m ((c : Thread nD τ).loc main_arg1)) (m ((c : Thread nD τ).loc main_arg2))) e).symm
    refine (out5_apply _ _ _ _ p q).trans ?_
    unfold goalM
    rw [read0, read2]
  · have h0 : (i 0 : Nat) < 2048 := (i 0).isLt
    have h1 : (i 1 : Nat) < 1476 := (i 1).isLt
    have hb : (i 0 : Nat) / 256 < cfg0.N := by omega
    refine ⟨⟨(i 0 : Nat) / 256, hb⟩, flush0_5 _, ?_⟩
    show i ∈ ((View.whole main_v4_1).slice (win0_5.rect ⟨(i 0 : Nat) / 256, hb⟩)).set
    rw [View.set_slice_whole, Rect.mem_set_unit]
    intro x
    match x with
    | ⟨0, _⟩ => show win0_5.index ⟨(i 0 : Nat) / 256, hb⟩ (0 : Fin 2) * 256 ≤ (i 0 : Nat) ∧ (i 0 : Nat) < win0_5.index ⟨(i 0 : Nat) / 256, hb⟩ (0 : Fin 2) * 256 + 256
                rw [(idx5 ⟨(i 0 : Nat) / 256, hb⟩).1]; dsimp only; omega
    | ⟨1, _⟩ => show win0_5.index ⟨(i 0 : Nat) / 256, hb⟩ (1 : Fin 2) * 1476 ≤ (i 1 : Nat) ∧ (i 1 : Nat) < win0_5.index ⟨(i 0 : Nat) / 256, hb⟩ (1 : Fin 2) * 1476 + 1476
                rw [(idx5 ⟨(i 0 : Nat) / 256, hb⟩).2]; omega

theorem out6_apply (x0 : Vec Ideal S256x1476 .f32) (x1 : Vec Ideal S256x1476 .f32) (x2 : Vec Ideal S256x1476 .f32) (x3 : Vec Ideal S256x1476 .f32) (p : Fin 256) (q : Fin 1476) :
    (out0_6 x0 x1 x2 x3) (ix2 p q) = newV (x0 (ix2 p q)) (x3 (ix2 p q)) := by
  unfold out0_6
  simp only [View.ld_unit_zero (S := S256x1476) hz]
  exact (Value.canon6_eq x3 x0 (ix2 p q)).trans (by
    have e : (fun a => match a with | ⟨0, _⟩ => ⟨p.val, p.isLt⟩ | ⟨1, _⟩ => ⟨q.val, q.isLt⟩ : S256x1476.Idx) = ix2 p q :=
      funext fun a => by match a with | ⟨0, _⟩ => rfl | ⟨1, _⟩ => rfl
    rw [← e]
    rfl)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem final6 (c : Dev nD) : (dats m 0 c).arrAt 6 cfg0.N = goalV (m ((c : Thread nD τ).loc main_arg1)) (m ((c : Thread nD τ).loc main_arg3)) := by
  have hN : cfg0.N = 8 := N_0
  refine (dats m 0 c).arrAt_eq_of_cover 6 _ (fun t hf => ?_) fun i => ?_
  · rw [Value.flushed6]
    funext j
    rw [View.read_apply]
    obtain ⟨p, q, rfl⟩ : ∃ (p : Fin 256) (q : Fin 1476), j = (ix2 p q : S256x1476.Idx) := ⟨j 0, j 1, eq_ix2 _⟩
    have e : ((cfg0.win 6).blk t).view.emb (ix2 p q) = (ix2 (row t p) q : S2048x1476.Idx) := by
      funext x
      apply Fin.ext
      match x with
      | ⟨0, _⟩ => show win0_6.index t (0 : Fin 2) * 256 + 1 * p.val = t.val * 256 + p.val; rw [(idx6 t).1]; omega
      | ⟨1, _⟩ => show win0_6.index t (1 : Fin 2) * 1476 + 1 * q.val = q.val; rw [(idx6 t).2]; omega
    refine Eq.trans ?_ (congrArg (goalV (m ((c : Thread nD τ).loc main_arg1)) (m ((c : Thread nD τ).loc main_arg3))) e).symm
    refine (out6_apply _ _ _ _ p q).trans ?_
    unfold goalV
    rw [read0, read3]
  · have h0 : (i 0 : Nat) < 2048 := (i 0).isLt
    have h1 : (i 1 : Nat) < 1476 := (i 1).isLt
    have hb : (i 0 : Nat) / 256 < cfg0.N := by omega
    refine ⟨⟨(i 0 : Nat) / 256, hb⟩, flush0_6 _, ?_⟩
    show i ∈ ((View.whole main_v4_2).slice (win0_6.rect ⟨(i 0 : Nat) / 256, hb⟩)).set
    rw [View.set_slice_whole, Rect.mem_set_unit]
    intro x
    match x with
    | ⟨0, _⟩ => show win0_6.index ⟨(i 0 : Nat) / 256, hb⟩ (0 : Fin 2) * 256 ≤ (i 0 : Nat) ∧ (i 0 : Nat) < win0_6.index ⟨(i 0 : Nat) / 256, hb⟩ (0 : Fin 2) * 256 + 256
                rw [(idx6 ⟨(i 0 : Nat) / 256, hb⟩).1]; dsimp only; omega
    | ⟨1, _⟩ => show win0_6.index ⟨(i 0 : Nat) / 256, hb⟩ (1 : Fin 2) * 1476 ≤ (i 1 : Nat) ∧ (i 1 : Nat) < win0_6.index ⟨(i 0 : Nat) / 256, hb⟩ (1 : Fin 2) * 1476 + 1476
                rw [(idx6 ⟨(i 0 : Nat) / 256, hb⟩).2]; omega

/-! ## The reference -/

theorem ref_delta (w g m v : Vec Ideal S2x1024x1476 .f32) : Cert.AdamWInRefIdeal.Read.val_main_v24 (F := Ideal) w g m v = goalD w g m v := by
  funext i
  rfl

theorem ref_m (g m : Vec Ideal S2x1024x1476 .f32) : Cert.AdamWInRefIdeal.Read.val_main_v25 (F := Ideal) g m = goalM g m := by
  funext i
  rfl

theorem ref_v (g v : Vec Ideal S2x1024x1476 .f32) : Cert.AdamWInRefIdeal.Read.val_main_v26 (F := Ideal) g v = goalV g v := by
  funext i
  rfl

theorem frame_ref : Cert.quiescent_AdamWInRefIdeal := fun m ρ _ =>
  (θ_run Cert.AdamWInRefIdeal.defs _ _).mono (fun r h => ⟨fun c => (h c).2.2.2, sem_eq_zero_of_no_sems (by decide) r.2⟩)
    (Cert.AdamWInRefIdeal.Value.run (F := Ideal) m ρ)

theorem algebraic : Cert.algebraic_AdamWInIdeal_AdamWInRefIdeal := by
  intro m ρ m' ρ' _ hag
  refine ⟨fun c => goalD (m ((c : Thread nD τ).loc main_arg0)) (m ((c : Thread nD τ).loc main_arg1)) (m ((c : Thread nD τ).loc main_arg2)) (m ((c : Thread nD τ).loc main_arg3)),
    fun c => goalM (m ((c : Thread nD τ).loc main_arg1)) (m ((c : Thread nD τ).loc main_arg2)),
    fun c => goalV (m ((c : Thread nD τ).loc main_arg1)) (m ((c : Thread nD τ).loc main_arg3)), ?_, ?_⟩
  · refine (θ_run Cert.AdamWInIdeal.defs _ _).mono (fun r h c => ?_) (Cert.AdamWInIdeal.Value.run_blocks m ρ)
    obtain ⟨h4, h5, h6, hk⟩ := h c
    exact ⟨h4.trans (final4 m c), h5.trans (final5 m c), h6.trans (final6 m c), hk⟩
  · refine (θ_run Cert.AdamWInRefIdeal.defs _ _).mono (fun r h c => ?_) (Cert.AdamWInRefIdeal.Value.run (F := Ideal) m' ρ')
    obtain ⟨h4, h5, h6, hk⟩ := h c
    obtain ⟨e0, e1, e2, e3⟩ := hag c
    refine ⟨h4.trans ?_, h5.trans ?_, h6.trans ?_, hk⟩
    · rw [Cert.AdamWInRefIdeal.Read.val_main_v24_eq, e0, e1, e2, e3]
      exact ref_delta ..
    · rw [Cert.AdamWInRefIdeal.Read.val_main_v25_eq, e1, e2]
      exact ref_m ..
    · rw [Cert.AdamWInRefIdeal.Read.val_main_v26_eq, e1, e3]
      exact ref_v ..

end Cert.Proof.AdamWIn

end
-- ==== Proof.AdamS5WGluStep.lean ====
/-  The optimiser's step over the S5 branch's output gate's weights: what the kernel leaves in each of its three results, and the reference. -/
module

public import proofs.«01_k».proof.Defs
public import proofs.«01_k».proof.Proof.Gen.AdamS5WGluIdeal.Value
public import proofs.«01_k».proof.Proof.Gen.AdamS5WGluRefIdeal.Run
public import proofs.«01_k».proof.Proof.Gen.AdamS5WGluRefIdeal.Read
public import proofs.«01_k».proof.Proof.AdamStep

@[expose] public section

set_option maxRecDepth 16384

noncomputable section

namespace Cert.Proof.AdamS5WGlu

open Cert.AdamS5WGluIdeal Cert.AdamS5WGluIdeal.Gen Idealize.ShloMosaic Idealize.ShloMosaic.TcCoe Idealize.SL.Sem
open Idealize.ShloMosaic.Pipeline (Dat)
open Cert.Proof.Adam

variable (m : (ℓ : Loc nD τ sig) → Buf (Elt Ideal) ℓ) (ρ : Dev nD → PrngReg)

/-- The rows of an array, the leading axes joined. -/
def flat (x : Vec Ideal S2x128x512 .f32) : Vec Ideal S256x512 .f32 := shapeCast S256x512 x shapeCasts_S2x128x512_S256x512

def goalD (w g m v : Vec Ideal S2x128x512 .f32) : Vec Ideal S256x512 .f32 := fun i => delta (flat w i) (flat g i) (flat m i) (flat v i)
def goalM (g m : Vec Ideal S2x128x512 .f32) : Vec Ideal S256x512 .f32 := fun i => newM (flat g i) (flat m i)
def goalV (g v : Vec Ideal S2x128x512 .f32) : Vec Ideal S256x512 .f32 := fun i => newV (flat g i) (flat v i)

theorem hz : (![0, 0] : Fin 2 → Nat) = fun _ => 0 := funext fun a => by fin_cases a <;> rfl

abbrev row (t : Fin cfg0.N) (p : Fin 256) : Fin 256 := ⟨t.val * 256 + p.val, by have := t.isLt; have : cfg0.N = 1 := N_0; omega⟩

theorem V_flat0 (c : Dev nD) : V m c main_v0 = flat (m ((c : Thread nD τ).loc main_arg1)) := by
  show StableHlo.after hostOps0 (fun b => m (c, b)) (Proc.devRef .tc main_v0) = _
  unfold hostOps0
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (q : Fin 512) :
    (iblk m c 0 t : Vec Ideal S256x512 .f32) (ix2 p q) = flat (m ((c : Thread nD τ).loc main_arg1)) (ix2 (row t p) q) := by
  unfold iblk
  rw [View.read_apply]
  show V m c main_v0 _ = _
  rw [V_flat0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 512 + 1 * q.val = q.val; rw [(idx0 t).2]; omega

theorem V_flat1 (c : Dev nD) : V m c main_v1 = flat (m ((c : Thread nD τ).loc main_arg0)) := by
  show StableHlo.after hostOps0 (fun b => m (c, b)) (Proc.devRef .tc main_v1) = _
  unfold hostOps0
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (q : Fin 512) :
    (iblk m c 1 t : Vec Ideal S256x512 .f32) (ix2 p q) = flat (m ((c : Thread nD τ).loc main_arg0)) (ix2 (row t p) q) := by
  unfold iblk
  rw [View.read_apply]
  show V m c main_v1 _ = _
  rw [V_flat1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 512 + 1 * q.val = q.val; rw [(idx1 t).2]; omega

theorem V_flat2 (c : Dev nD) : V m c main_v2 = flat (m ((c : Thread nD τ).loc main_arg2)) := by
  show StableHlo.after hostOps0 (fun b => m (c, b)) (Proc.devRef .tc main_v2) = _
  unfold hostOps0
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (q : Fin 512) :
    (iblk m c 2 t : Vec Ideal S256x512 .f32) (ix2 p q) = flat (m ((c : Thread nD τ).loc main_arg2)) (ix2 (row t p) q) := by
  unfold iblk
  rw [View.read_apply]
  show V m c main_v2 _ = _
  rw [V_flat2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 512 + 1 * q.val = q.val; rw [(idx2 t).2]; omega

theorem V_flat3 (c : Dev nD) : V m c main_v3 = flat (m ((c : Thread nD τ).loc main_arg3)) := by
  show StableHlo.after hostOps0 (fun b => m (c, b)) (Proc.devRef .tc main_v3) = _
  unfold hostOps0
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (q : Fin 512) :
    (iblk m c 3 t : Vec Ideal S256x512 .f32) (ix2 p q) = flat (m ((c : Thread nD τ).loc main_arg3)) (ix2 (row t p) q) := by
  unfold iblk
  rw [View.read_apply]
  show V m c main_v3 _ = _
  rw [V_flat3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 512 + 1 * q.val = q.val; rw [(idx3 t).2]; omega

theorem out4_apply (x0 : Vec Ideal S256x512 .f32) (x1 : Vec Ideal S256x512 .f32) (x2 : Vec Ideal S256x512 .f32) (x3 : Vec Ideal S256x512 .f32) (p : Fin 256) (q : Fin 512) :
    (out0_4 x0 x1 x2 x3) (ix2 p q) = delta (x1 (ix2 p q)) (x0 (ix2 p q)) (x2 (ix2 p q)) (x3 (ix2 p q)) := by
  unfold out0_4
  simp only [View.ld_unit_zero (S := S256x512) hz]
  exact (Value.canon4_eq x2 x0 x3 x1 (ix2 p q)).trans (by
    have e : (fun a => match a with | ⟨0, _⟩ => ⟨p.val, p.isLt⟩ | ⟨1, _⟩ => ⟨q.val, q.isLt⟩ : S256x512.Idx) = ix2 p q :=
      funext fun a => by match a with | ⟨0, _⟩ => rfl | ⟨1, _⟩ => rfl
    rw [← e]
    rfl)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem final4 (c : Dev nD) : (dats m 0 c).arrAt 4 cfg0.N = goalD (m ((c : Thread nD τ).loc main_arg0)) (m ((c : Thread nD τ).loc main_arg1)) (m ((c : Thread nD τ).loc main_arg2)) (m ((c : Thread nD τ).loc main_arg3)) := by
  have hN : cfg0.N = 1 := N_0
  refine (dats m 0 c).arrAt_eq_of_cover 4 _ (fun t hf => ?_) fun i => ?_
  · rw [Value.flushed4]
    funext j
    rw [View.read_apply]
    obtain ⟨p, q, rfl⟩ : ∃ (p : Fin 256) (q : Fin 512), j = (ix2 p q : S256x512.Idx) := ⟨j 0, j 1, eq_ix2 _⟩
    have e : ((cfg0.win 4).blk t).view.emb (ix2 p q) = (ix2 (row t p) q : S256x512.Idx) := by
      funext x
      apply Fin.ext
      match x with
      | ⟨0, _⟩ => show win0_4.index t (0 : Fin 2) * 256 + 1 * p.val = t.val * 256 + p.val; rw [(idx4 t).1]; omega
      | ⟨1, _⟩ => show win0_4.index t (1 : Fin 2) * 512 + 1 * q.val = q.val; rw [(idx4 t).2]; omega
    refine Eq.trans ?_ (congrArg (goalD (m ((c : Thread nD τ).loc main_arg0)) (m ((c : Thread nD τ).loc main_arg1)) (m ((c : Thread nD τ).loc main_arg2)) (m ((c : Thread nD τ).loc main_arg3))) e).symm
    refine (out4_apply _ _ _ _ p q).trans ?_
    unfold goalD
    rw [read1, read0, read2, read3]
  · have h0 : (i 0 : Nat) < 256 := (i 0).isLt
    have h1 : (i 1 : Nat) < 512 := (i 1).isLt
    have hb : (i 0 : Nat) / 256 < cfg0.N := by omega
    refine ⟨⟨(i 0 : Nat) / 256, hb⟩, flush0_4 _, ?_⟩
    show i ∈ ((View.whole main_v4_0).slice (win0_4.rect ⟨(i 0 : Nat) / 256, hb⟩)).set
    rw [View.set_slice_whole, Rect.mem_set_unit]
    intro x
    match x with
    | ⟨0, _⟩ => show win0_4.index ⟨(i 0 : Nat) / 256, hb⟩ (0 : Fin 2) * 256 ≤ (i 0 : Nat) ∧ (i 0 : Nat) < win0_4.index ⟨(i 0 : Nat) / 256, hb⟩ (0 : Fin 2) * 256 + 256
                rw [(idx4 ⟨(i 0 : Nat) / 256, hb⟩).1]; dsimp only; omega
    | ⟨1, _⟩ => show win0_4.index ⟨(i 0 : Nat) / 256, hb⟩ (1 : Fin 2) * 512 ≤ (i 1 : Nat) ∧ (i 1 : Nat) < win0_4.index ⟨(i 0 : Nat) / 256, hb⟩ (1 : Fin 2) * 512 + 512
                rw [(idx4 ⟨(i 0 : Nat) / 256, hb⟩).2]; omega

theorem out5_apply (x0 : Vec Ideal S256x512 .f32) (x1 : Vec Ideal S256x512 .f32) (x2 : Vec Ideal S256x512 .f32) (x3 : Vec Ideal S256x512 .f32) (p : Fin 256) (q : Fin 512) :
    (out0_5 x0 x1 x2 x3) (ix2 p q) = newM (x0 (ix2 p q)) (x2 (ix2 p q)) := by
  unfold out0_5
  simp only [View.ld_unit_zero (S := S256x512) hz]
  exact (Value.canon5_eq x2 x0 (ix2 p q)).trans (by
    have e : (fun a => match a with | ⟨0, _⟩ => ⟨p.val, p.isLt⟩ | ⟨1, _⟩ => ⟨q.val, q.isLt⟩ : S256x512.Idx) = ix2 p q :=
      funext fun a => by match a with | ⟨0, _⟩ => rfl | ⟨1, _⟩ => rfl
    rw [← e]
    rfl)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem final5 (c : Dev nD) : (dats m 0 c).arrAt 5 cfg0.N = goalM (m ((c : Thread nD τ).loc main_arg1)) (m ((c : Thread nD τ).loc main_arg2)) := by
  have hN : cfg0.N = 1 := N_0
  refine (dats m 0 c).arrAt_eq_of_cover 5 _ (fun t hf => ?_) fun i => ?_
  · rw [Value.flushed5]
    funext j
    rw [View.read_apply]
    obtain ⟨p, q, rfl⟩ : ∃ (p : Fin 256) (q : Fin 512), j = (ix2 p q : S256x512.Idx) := ⟨j 0, j 1, eq_ix2 _⟩
    have e : ((cfg0.win 5).blk t).view.emb (ix2 p q) = (ix2 (row t p) q : S256x512.Idx) := by
      funext x
      apply Fin.ext
      match x with
      | ⟨0, _⟩ => show win0_5.index t (0 : Fin 2) * 256 + 1 * p.val = t.val * 256 + p.val; rw [(idx5 t).1]; omega
      | ⟨1, _⟩ => show win0_5.index t (1 : Fin 2) * 512 + 1 * q.val = q.val; rw [(idx5 t).2]; omega
    refine Eq.trans ?_ (congrArg (goalM (m ((c : Thread nD τ).loc main_arg1)) (m ((c : Thread nD τ).loc main_arg2))) e).symm
    refine (out5_apply _ _ _ _ p q).trans ?_
    unfold goalM
    rw [read0, read2]
  · have h0 : (i 0 : Nat) < 256 := (i 0).isLt
    have h1 : (i 1 : Nat) < 512 := (i 1).isLt
    have hb : (i 0 : Nat) / 256 < cfg0.N := by omega
    refine ⟨⟨(i 0 : Nat) / 256, hb⟩, flush0_5 _, ?_⟩
    show i ∈ ((View.whole main_v4_1).slice (win0_5.rect ⟨(i 0 : Nat) / 256, hb⟩)).set
    rw [View.set_slice_whole, Rect.mem_set_unit]
    intro x
    match x with
    | ⟨0, _⟩ => show win0_5.index ⟨(i 0 : Nat) / 256, hb⟩ (0 : Fin 2) * 256 ≤ (i 0 : Nat) ∧ (i 0 : Nat) < win0_5.index ⟨(i 0 : Nat) / 256, hb⟩ (0 : Fin 2) * 256 + 256
                rw [(idx5 ⟨(i 0 : Nat) / 256, hb⟩).1]; dsimp only; omega
    | ⟨1, _⟩ => show win0_5.index ⟨(i 0 : Nat) / 256, hb⟩ (1 : Fin 2) * 512 ≤ (i 1 : Nat) ∧ (i 1 : Nat) < win0_5.index ⟨(i 0 : Nat) / 256, hb⟩ (1 : Fin 2) * 512 + 512
                rw [(idx5 ⟨(i 0 : Nat) / 256, hb⟩).2]; omega

theorem out6_apply (x0 : Vec Ideal S256x512 .f32) (x1 : Vec Ideal S256x512 .f32) (x2 : Vec Ideal S256x512 .f32) (x3 : Vec Ideal S256x512 .f32) (p : Fin 256) (q : Fin 512) :
    (out0_6 x0 x1 x2 x3) (ix2 p q) = newV (x0 (ix2 p q)) (x3 (ix2 p q)) := by
  unfold out0_6
  simp only [View.ld_unit_zero (S := S256x512) hz]
  exact (Value.canon6_eq x3 x0 (ix2 p q)).trans (by
    have e : (fun a => match a with | ⟨0, _⟩ => ⟨p.val, p.isLt⟩ | ⟨1, _⟩ => ⟨q.val, q.isLt⟩ : S256x512.Idx) = ix2 p q :=
      funext fun a => by match a with | ⟨0, _⟩ => rfl | ⟨1, _⟩ => rfl
    rw [← e]
    rfl)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem final6 (c : Dev nD) : (dats m 0 c).arrAt 6 cfg0.N = goalV (m ((c : Thread nD τ).loc main_arg1)) (m ((c : Thread nD τ).loc main_arg3)) := by
  have hN : cfg0.N = 1 := N_0
  refine (dats m 0 c).arrAt_eq_of_cover 6 _ (fun t hf => ?_) fun i => ?_
  · rw [Value.flushed6]
    funext j
    rw [View.read_apply]
    obtain ⟨p, q, rfl⟩ : ∃ (p : Fin 256) (q : Fin 512), j = (ix2 p q : S256x512.Idx) := ⟨j 0, j 1, eq_ix2 _⟩
    have e : ((cfg0.win 6).blk t).view.emb (ix2 p q) = (ix2 (row t p) q : S256x512.Idx) := by
      funext x
      apply Fin.ext
      match x with
      | ⟨0, _⟩ => show win0_6.index t (0 : Fin 2) * 256 + 1 * p.val = t.val * 256 + p.val; rw [(idx6 t).1]; omega
      | ⟨1, _⟩ => show win0_6.index t (1 : Fin 2) * 512 + 1 * q.val = q.val; rw [(idx6 t).2]; omega
    refine Eq.trans ?_ (congrArg (goalV (m ((c : Thread nD τ).loc main_arg1)) (m ((c : Thread nD τ).loc main_arg3))) e).symm
    refine (out6_apply _ _ _ _ p q).trans ?_
    unfold goalV
    rw [read0, read3]
  · have h0 : (i 0 : Nat) < 256 := (i 0).isLt
    have h1 : (i 1 : Nat) < 512 := (i 1).isLt
    have hb : (i 0 : Nat) / 256 < cfg0.N := by omega
    refine ⟨⟨(i 0 : Nat) / 256, hb⟩, flush0_6 _, ?_⟩
    show i ∈ ((View.whole main_v4_2).slice (win0_6.rect ⟨(i 0 : Nat) / 256, hb⟩)).set
    rw [View.set_slice_whole, Rect.mem_set_unit]
    intro x
    match x with
    | ⟨0, _⟩ => show win0_6.index ⟨(i 0 : Nat) / 256, hb⟩ (0 : Fin 2) * 256 ≤ (i 0 : Nat) ∧ (i 0 : Nat) < win0_6.index ⟨(i 0 : Nat) / 256, hb⟩ (0 : Fin 2) * 256 + 256
                rw [(idx6 ⟨(i 0 : Nat) / 256, hb⟩).1]; dsimp only; omega
    | ⟨1, _⟩ => show win0_6.index ⟨(i 0 : Nat) / 256, hb⟩ (1 : Fin 2) * 512 ≤ (i 1 : Nat) ∧ (i 1 : Nat) < win0_6.index ⟨(i 0 : Nat) / 256, hb⟩ (1 : Fin 2) * 512 + 512
                rw [(idx6 ⟨(i 0 : Nat) / 256, hb⟩).2]; omega

/-! ## The reference -/

theorem ref_delta (w g m v : Vec Ideal S2x128x512 .f32) : Cert.AdamS5WGluRefIdeal.Read.val_main_v24 (F := Ideal) w g m v = goalD w g m v := by
  funext i
  rfl

theorem ref_m (g m : Vec Ideal S2x128x512 .f32) : Cert.AdamS5WGluRefIdeal.Read.val_main_v25 (F := Ideal) g m = goalM g m := by
  funext i
  rfl

theorem ref_v (g v : Vec Ideal S2x128x512 .f32) : Cert.AdamS5WGluRefIdeal.Read.val_main_v26 (F := Ideal) g v = goalV g v := by
  funext i
  rfl

theorem frame_ref : Cert.quiescent_AdamS5WGluRefIdeal := fun m ρ _ =>
  (θ_run Cert.AdamS5WGluRefIdeal.defs _ _).mono (fun r h => ⟨fun c => (h c).2.2.2, sem_eq_zero_of_no_sems (by decide) r.2⟩)
    (Cert.AdamS5WGluRefIdeal.Value.run (F := Ideal) m ρ)

theorem algebraic : Cert.algebraic_AdamS5WGluIdeal_AdamS5WGluRefIdeal := by
  intro m ρ m' ρ' _ hag
  refine ⟨fun c => goalD (m ((c : Thread nD τ).loc main_arg0)) (m ((c : Thread nD τ).loc main_arg1)) (m ((c : Thread nD τ).loc main_arg2)) (m ((c : Thread nD τ).loc main_arg3)),
    fun c => goalM (m ((c : Thread nD τ).loc main_arg1)) (m ((c : Thread nD τ).loc main_arg2)),
    fun c => goalV (m ((c : Thread nD τ).loc main_arg1)) (m ((c : Thread nD τ).loc main_arg3)), ?_, ?_⟩
  · refine (θ_run Cert.AdamS5WGluIdeal.defs _ _).mono (fun r h c => ?_) (Cert.AdamS5WGluIdeal.Value.run_blocks m ρ)
    obtain ⟨h4, h5, h6, hk⟩ := h c
    exact ⟨h4.trans (final4 m c), h5.trans (final5 m c), h6.trans (final6 m c), hk⟩
  · refine (θ_run Cert.AdamS5WGluRefIdeal.defs _ _).mono (fun r h c => ?_) (Cert.AdamS5WGluRefIdeal.Value.run (F := Ideal) m' ρ')
    obtain ⟨h4, h5, h6, hk⟩ := h c
    obtain ⟨e0, e1, e2, e3⟩ := hag c
    refine ⟨h4.trans ?_, h5.trans ?_, h6.trans ?_, hk⟩
    · rw [Cert.AdamS5WGluRefIdeal.Read.val_main_v24_eq, e0, e1, e2, e3]
      exact ref_delta ..
    · rw [Cert.AdamS5WGluRefIdeal.Read.val_main_v25_eq, e1, e2]
      exact ref_m ..
    · rw [Cert.AdamS5WGluRefIdeal.Read.val_main_v26_eq, e1, e3]
      exact ref_v ..

end Cert.Proof.AdamS5WGlu

end
-- ==== Proof.AdamWBranchStep.lean ====
/-  The optimiser's step over the branches' output weights: what the kernel leaves in each of its three results, and the reference. -/
module

public import proofs.«01_k».proof.Defs
public import proofs.«01_k».proof.Proof.Gen.AdamWBranchIdeal.Value
public import proofs.«01_k».proof.Proof.Gen.AdamWBranchRefIdeal.Run
public import proofs.«01_k».proof.Proof.Gen.AdamWBranchRefIdeal.Read
public import proofs.«01_k».proof.Proof.AdamStep

@[expose] public section

set_option maxRecDepth 16384

noncomputable section

namespace Cert.Proof.AdamWBranch

open Cert.AdamWBranchIdeal Cert.AdamWBranchIdeal.Gen Idealize.ShloMosaic Idealize.ShloMosaic.TcCoe Idealize.SL.Sem
open Idealize.ShloMosaic.Pipeline (Dat)
open Cert.Proof.Adam

variable (m : (ℓ : Loc nD τ sig) → Buf (Elt Ideal) ℓ) (ρ : Dev nD → PrngReg)

/-- The rows of an array, the leading axes joined. -/
def flat (x : Vec Ideal S2x4x512x256 .f32) : Vec Ideal S4096x256 .f32 := shapeCast S4096x256 x shapeCasts_S2x4x512x256_S4096x256

def goalD (w g m v : Vec Ideal S2x4x512x256 .f32) : Vec Ideal S4096x256 .f32 := fun i => delta (flat w i) (flat g i) (flat m i) (flat v i)
def goalM (g m : Vec Ideal S2x4x512x256 .f32) : Vec Ideal S4096x256 .f32 := fun i => newM (flat g i) (flat m i)
def goalV (g v : Vec Ideal S2x4x512x256 .f32) : Vec Ideal S4096x256 .f32 := fun i => newV (flat g i) (flat v i)

theorem hz : (![0, 0] : Fin 2 → Nat) = fun _ => 0 := funext fun a => by fin_cases a <;> rfl

abbrev row (t : Fin cfg0.N) (p : Fin 256) : Fin 4096 := ⟨t.val * 256 + p.val, by have := t.isLt; have : cfg0.N = 16 := N_0; omega⟩

theorem V_flat0 (c : Dev nD) : V m c main_v0 = flat (m ((c : Thread nD τ).loc main_arg1)) := by
  show StableHlo.after hostOps0 (fun b => m (c, b)) (Proc.devRef .tc main_v0) = _
  unfold hostOps0
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (q : Fin 256) :
    (iblk m c 0 t : Vec Ideal S256x256 .f32) (ix2 p q) = flat (m ((c : Thread nD τ).loc main_arg1)) (ix2 (row t p) q) := by
  unfold iblk
  rw [View.read_apply]
  show V m c main_v0 _ = _
  rw [V_flat0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 256 + 1 * q.val = q.val; rw [(idx0 t).2]; omega

theorem V_flat1 (c : Dev nD) : V m c main_v1 = flat (m ((c : Thread nD τ).loc main_arg0)) := by
  show StableHlo.after hostOps0 (fun b => m (c, b)) (Proc.devRef .tc main_v1) = _
  unfold hostOps0
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (q : Fin 256) :
    (iblk m c 1 t : Vec Ideal S256x256 .f32) (ix2 p q) = flat (m ((c : Thread nD τ).loc main_arg0)) (ix2 (row t p) q) := by
  unfold iblk
  rw [View.read_apply]
  show V m c main_v1 _ = _
  rw [V_flat1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 256 + 1 * q.val = q.val; rw [(idx1 t).2]; omega

theorem V_flat2 (c : Dev nD) : V m c main_v2 = flat (m ((c : Thread nD τ).loc main_arg2)) := by
  show StableHlo.after hostOps0 (fun b => m (c, b)) (Proc.devRef .tc main_v2) = _
  unfold hostOps0
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (q : Fin 256) :
    (iblk m c 2 t : Vec Ideal S256x256 .f32) (ix2 p q) = flat (m ((c : Thread nD τ).loc main_arg2)) (ix2 (row t p) q) := by
  unfold iblk
  rw [View.read_apply]
  show V m c main_v2 _ = _
  rw [V_flat2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 256 + 1 * q.val = q.val; rw [(idx2 t).2]; omega

theorem V_flat3 (c : Dev nD) : V m c main_v3 = flat (m ((c : Thread nD τ).loc main_arg3)) := by
  show StableHlo.after hostOps0 (fun b => m (c, b)) (Proc.devRef .tc main_v3) = _
  unfold hostOps0
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (q : Fin 256) :
    (iblk m c 3 t : Vec Ideal S256x256 .f32) (ix2 p q) = flat (m ((c : Thread nD τ).loc main_arg3)) (ix2 (row t p) q) := by
  unfold iblk
  rw [View.read_apply]
  show V m c main_v3 _ = _
  rw [V_flat3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 256 + 1 * q.val = q.val; rw [(idx3 t).2]; omega

theorem out4_apply (x0 : Vec Ideal S256x256 .f32) (x1 : Vec Ideal S256x256 .f32) (x2 : Vec Ideal S256x256 .f32) (x3 : Vec Ideal S256x256 .f32) (p : Fin 256) (q : Fin 256) :
    (out0_4 x0 x1 x2 x3) (ix2 p q) = delta (x1 (ix2 p q)) (x0 (ix2 p q)) (x2 (ix2 p q)) (x3 (ix2 p q)) := by
  unfold out0_4
  simp only [View.ld_unit_zero (S := S256x256) hz]
  exact (Value.canon4_eq x2 x0 x3 x1 (ix2 p q)).trans (by
    have e : (fun a => match a with | ⟨0, _⟩ => ⟨p.val, p.isLt⟩ | ⟨1, _⟩ => ⟨q.val, q.isLt⟩ : S256x256.Idx) = ix2 p q :=
      funext fun a => by match a with | ⟨0, _⟩ => rfl | ⟨1, _⟩ => rfl
    rw [← e]
    rfl)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem final4 (c : Dev nD) : (dats m 0 c).arrAt 4 cfg0.N = goalD (m ((c : Thread nD τ).loc main_arg0)) (m ((c : Thread nD τ).loc main_arg1)) (m ((c : Thread nD τ).loc main_arg2)) (m ((c : Thread nD τ).loc main_arg3)) := by
  have hN : cfg0.N = 16 := N_0
  refine (dats m 0 c).arrAt_eq_of_cover 4 _ (fun t hf => ?_) fun i => ?_
  · rw [Value.flushed4]
    funext j
    rw [View.read_apply]
    obtain ⟨p, q, rfl⟩ : ∃ (p : Fin 256) (q : Fin 256), j = (ix2 p q : S256x256.Idx) := ⟨j 0, j 1, eq_ix2 _⟩
    have e : ((cfg0.win 4).blk t).view.emb (ix2 p q) = (ix2 (row t p) q : S4096x256.Idx) := by
      funext x
      apply Fin.ext
      match x with
      | ⟨0, _⟩ => show win0_4.index t (0 : Fin 2) * 256 + 1 * p.val = t.val * 256 + p.val; rw [(idx4 t).1]; omega
      | ⟨1, _⟩ => show win0_4.index t (1 : Fin 2) * 256 + 1 * q.val = q.val; rw [(idx4 t).2]; omega
    refine Eq.trans ?_ (congrArg (goalD (m ((c : Thread nD τ).loc main_arg0)) (m ((c : Thread nD τ).loc main_arg1)) (m ((c : Thread nD τ).loc main_arg2)) (m ((c : Thread nD τ).loc main_arg3))) e).symm
    refine (out4_apply _ _ _ _ p q).trans ?_
    unfold goalD
    rw [read1, read0, read2, read3]
  · have h0 : (i 0 : Nat) < 4096 := (i 0).isLt
    have h1 : (i 1 : Nat) < 256 := (i 1).isLt
    have hb : (i 0 : Nat) / 256 < cfg0.N := by omega
    refine ⟨⟨(i 0 : Nat) / 256, hb⟩, flush0_4 _, ?_⟩
    show i ∈ ((View.whole main_v4_0).slice (win0_4.rect ⟨(i 0 : Nat) / 256, hb⟩)).set
    rw [View.set_slice_whole, Rect.mem_set_unit]
    intro x
    match x with
    | ⟨0, _⟩ => show win0_4.index ⟨(i 0 : Nat) / 256, hb⟩ (0 : Fin 2) * 256 ≤ (i 0 : Nat) ∧ (i 0 : Nat) < win0_4.index ⟨(i 0 : Nat) / 256, hb⟩ (0 : Fin 2) * 256 + 256
                rw [(idx4 ⟨(i 0 : Nat) / 256, hb⟩).1]; dsimp only; omega
    | ⟨1, _⟩ => show win0_4.index ⟨(i 0 : Nat) / 256, hb⟩ (1 : Fin 2) * 256 ≤ (i 1 : Nat) ∧ (i 1 : Nat) < win0_4.index ⟨(i 0 : Nat) / 256, hb⟩ (1 : Fin 2) * 256 + 256
                rw [(idx4 ⟨(i 0 : Nat) / 256, hb⟩).2]; omega

theorem out5_apply (x0 : Vec Ideal S256x256 .f32) (x1 : Vec Ideal S256x256 .f32) (x2 : Vec Ideal S256x256 .f32) (x3 : Vec Ideal S256x256 .f32) (p : Fin 256) (q : Fin 256) :
    (out0_5 x0 x1 x2 x3) (ix2 p q) = newM (x0 (ix2 p q)) (x2 (ix2 p q)) := by
  unfold out0_5
  simp only [View.ld_unit_zero (S := S256x256) hz]
  exact (Value.canon5_eq x2 x0 (ix2 p q)).trans (by
    have e : (fun a => match a with | ⟨0, _⟩ => ⟨p.val, p.isLt⟩ | ⟨1, _⟩ => ⟨q.val, q.isLt⟩ : S256x256.Idx) = ix2 p q :=
      funext fun a => by match a with | ⟨0, _⟩ => rfl | ⟨1, _⟩ => rfl
    rw [← e]
    rfl)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem final5 (c : Dev nD) : (dats m 0 c).arrAt 5 cfg0.N = goalM (m ((c : Thread nD τ).loc main_arg1)) (m ((c : Thread nD τ).loc main_arg2)) := by
  have hN : cfg0.N = 16 := N_0
  refine (dats m 0 c).arrAt_eq_of_cover 5 _ (fun t hf => ?_) fun i => ?_
  · rw [Value.flushed5]
    funext j
    rw [View.read_apply]
    obtain ⟨p, q, rfl⟩ : ∃ (p : Fin 256) (q : Fin 256), j = (ix2 p q : S256x256.Idx) := ⟨j 0, j 1, eq_ix2 _⟩
    have e : ((cfg0.win 5).blk t).view.emb (ix2 p q) = (ix2 (row t p) q : S4096x256.Idx) := by
      funext x
      apply Fin.ext
      match x with
      | ⟨0, _⟩ => show win0_5.index t (0 : Fin 2) * 256 + 1 * p.val = t.val * 256 + p.val; rw [(idx5 t).1]; omega
      | ⟨1, _⟩ => show win0_5.index t (1 : Fin 2) * 256 + 1 * q.val = q.val; rw [(idx5 t).2]; omega
    refine Eq.trans ?_ (congrArg (goalM (m ((c : Thread nD τ).loc main_arg1)) (m ((c : Thread nD τ).loc main_arg2))) e).symm
    refine (out5_apply _ _ _ _ p q).trans ?_
    unfold goalM
    rw [read0, read2]
  · have h0 : (i 0 : Nat) < 4096 := (i 0).isLt
    have h1 : (i 1 : Nat) < 256 := (i 1).isLt
    have hb : (i 0 : Nat) / 256 < cfg0.N := by omega
    refine ⟨⟨(i 0 : Nat) / 256, hb⟩, flush0_5 _, ?_⟩
    show i ∈ ((View.whole main_v4_1).slice (win0_5.rect ⟨(i 0 : Nat) / 256, hb⟩)).set
    rw [View.set_slice_whole, Rect.mem_set_unit]
    intro x
    match x with
    | ⟨0, _⟩ => show win0_5.index ⟨(i 0 : Nat) / 256, hb⟩ (0 : Fin 2) * 256 ≤ (i 0 : Nat) ∧ (i 0 : Nat) < win0_5.index ⟨(i 0 : Nat) / 256, hb⟩ (0 : Fin 2) * 256 + 256
                rw [(idx5 ⟨(i 0 : Nat) / 256, hb⟩).1]; dsimp only; omega
    | ⟨1, _⟩ => show win0_5.index ⟨(i 0 : Nat) / 256, hb⟩ (1 : Fin 2) * 256 ≤ (i 1 : Nat) ∧ (i 1 : Nat) < win0_5.index ⟨(i 0 : Nat) / 256, hb⟩ (1 : Fin 2) * 256 + 256
                rw [(idx5 ⟨(i 0 : Nat) / 256, hb⟩).2]; omega

theorem out6_apply (x0 : Vec Ideal S256x256 .f32) (x1 : Vec Ideal S256x256 .f32) (x2 : Vec Ideal S256x256 .f32) (x3 : Vec Ideal S256x256 .f32) (p : Fin 256) (q : Fin 256) :
    (out0_6 x0 x1 x2 x3) (ix2 p q) = newV (x0 (ix2 p q)) (x3 (ix2 p q)) := by
  unfold out0_6
  simp only [View.ld_unit_zero (S := S256x256) hz]
  exact (Value.canon6_eq x3 x0 (ix2 p q)).trans (by
    have e : (fun a => match a with | ⟨0, _⟩ => ⟨p.val, p.isLt⟩ | ⟨1, _⟩ => ⟨q.val, q.isLt⟩ : S256x256.Idx) = ix2 p q :=
      funext fun a => by match a with | ⟨0, _⟩ => rfl | ⟨1, _⟩ => rfl
    rw [← e]
    rfl)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem final6 (c : Dev nD) : (dats m 0 c).arrAt 6 cfg0.N = goalV (m ((c : Thread nD τ).loc main_arg1)) (m ((c : Thread nD τ).loc main_arg3)) := by
  have hN : cfg0.N = 16 := N_0
  refine (dats m 0 c).arrAt_eq_of_cover 6 _ (fun t hf => ?_) fun i => ?_
  · rw [Value.flushed6]
    funext j
    rw [View.read_apply]
    obtain ⟨p, q, rfl⟩ : ∃ (p : Fin 256) (q : Fin 256), j = (ix2 p q : S256x256.Idx) := ⟨j 0, j 1, eq_ix2 _⟩
    have e : ((cfg0.win 6).blk t).view.emb (ix2 p q) = (ix2 (row t p) q : S4096x256.Idx) := by
      funext x
      apply Fin.ext
      match x with
      | ⟨0, _⟩ => show win0_6.index t (0 : Fin 2) * 256 + 1 * p.val = t.val * 256 + p.val; rw [(idx6 t).1]; omega
      | ⟨1, _⟩ => show win0_6.index t (1 : Fin 2) * 256 + 1 * q.val = q.val; rw [(idx6 t).2]; omega
    refine Eq.trans ?_ (congrArg (goalV (m ((c : Thread nD τ).loc main_arg1)) (m ((c : Thread nD τ).loc main_arg3))) e).symm
    refine (out6_apply _ _ _ _ p q).trans ?_
    unfold goalV
    rw [read0, read3]
  · have h0 : (i 0 : Nat) < 4096 := (i 0).isLt
    have h1 : (i 1 : Nat) < 256 := (i 1).isLt
    have hb : (i 0 : Nat) / 256 < cfg0.N := by omega
    refine ⟨⟨(i 0 : Nat) / 256, hb⟩, flush0_6 _, ?_⟩
    show i ∈ ((View.whole main_v4_2).slice (win0_6.rect ⟨(i 0 : Nat) / 256, hb⟩)).set
    rw [View.set_slice_whole, Rect.mem_set_unit]
    intro x
    match x with
    | ⟨0, _⟩ => show win0_6.index ⟨(i 0 : Nat) / 256, hb⟩ (0 : Fin 2) * 256 ≤ (i 0 : Nat) ∧ (i 0 : Nat) < win0_6.index ⟨(i 0 : Nat) / 256, hb⟩ (0 : Fin 2) * 256 + 256
                rw [(idx6 ⟨(i 0 : Nat) / 256, hb⟩).1]; dsimp only; omega
    | ⟨1, _⟩ => show win0_6.index ⟨(i 0 : Nat) / 256, hb⟩ (1 : Fin 2) * 256 ≤ (i 1 : Nat) ∧ (i 1 : Nat) < win0_6.index ⟨(i 0 : Nat) / 256, hb⟩ (1 : Fin 2) * 256 + 256
                rw [(idx6 ⟨(i 0 : Nat) / 256, hb⟩).2]; omega

/-! ## The reference -/

theorem ref_delta (w g m v : Vec Ideal S2x4x512x256 .f32) : Cert.AdamWBranchRefIdeal.Read.val_main_v24 (F := Ideal) w g m v = goalD w g m v := by
  funext i
  rfl

theorem ref_m (g m : Vec Ideal S2x4x512x256 .f32) : Cert.AdamWBranchRefIdeal.Read.val_main_v25 (F := Ideal) g m = goalM g m := by
  funext i
  rfl

theorem ref_v (g v : Vec Ideal S2x4x512x256 .f32) : Cert.AdamWBranchRefIdeal.Read.val_main_v26 (F := Ideal) g v = goalV g v := by
  funext i
  rfl

theorem frame_ref : Cert.quiescent_AdamWBranchRefIdeal := fun m ρ _ =>
  (θ_run Cert.AdamWBranchRefIdeal.defs _ _).mono (fun r h => ⟨fun c => (h c).2.2.2, sem_eq_zero_of_no_sems (by decide) r.2⟩)
    (Cert.AdamWBranchRefIdeal.Value.run (F := Ideal) m ρ)

theorem algebraic : Cert.algebraic_AdamWBranchIdeal_AdamWBranchRefIdeal := by
  intro m ρ m' ρ' _ hag
  refine ⟨fun c => goalD (m ((c : Thread nD τ).loc main_arg0)) (m ((c : Thread nD τ).loc main_arg1)) (m ((c : Thread nD τ).loc main_arg2)) (m ((c : Thread nD τ).loc main_arg3)),
    fun c => goalM (m ((c : Thread nD τ).loc main_arg1)) (m ((c : Thread nD τ).loc main_arg2)),
    fun c => goalV (m ((c : Thread nD τ).loc main_arg1)) (m ((c : Thread nD τ).loc main_arg3)), ?_, ?_⟩
  · refine (θ_run Cert.AdamWBranchIdeal.defs _ _).mono (fun r h c => ?_) (Cert.AdamWBranchIdeal.Value.run_blocks m ρ)
    obtain ⟨h4, h5, h6, hk⟩ := h c
    exact ⟨h4.trans (final4 m c), h5.trans (final5 m c), h6.trans (final6 m c), hk⟩
  · refine (θ_run Cert.AdamWBranchRefIdeal.defs _ _).mono (fun r h c => ?_) (Cert.AdamWBranchRefIdeal.Value.run (F := Ideal) m' ρ')
    obtain ⟨h4, h5, h6, hk⟩ := h c
    obtain ⟨e0, e1, e2, e3⟩ := hag c
    refine ⟨h4.trans ?_, h5.trans ?_, h6.trans ?_, hk⟩
    · rw [Cert.AdamWBranchRefIdeal.Read.val_main_v24_eq, e0, e1, e2, e3]
      exact ref_delta ..
    · rw [Cert.AdamWBranchRefIdeal.Read.val_main_v25_eq, e1, e2]
      exact ref_m ..
    · rw [Cert.AdamWBranchRefIdeal.Read.val_main_v26_eq, e1, e3]
      exact ref_v ..

end Cert.Proof.AdamWBranch

end
-- ==== Proof.AdamWGateStep.lean ====
/-  The optimiser's step over the gates' weights: what the kernel leaves in each of its three results, and the reference. -/
module

public import proofs.«01_k».proof.Defs
public import proofs.«01_k».proof.Proof.Gen.AdamWGateIdeal.Value
public import proofs.«01_k».proof.Proof.Gen.AdamWGateRefIdeal.Run
public import proofs.«01_k».proof.Proof.Gen.AdamWGateRefIdeal.Read
public import proofs.«01_k».proof.Proof.AdamStep

@[expose] public section

set_option maxRecDepth 16384

noncomputable section

namespace Cert.Proof.AdamWGate

open Cert.AdamWGateIdeal Cert.AdamWGateIdeal.Gen Idealize.ShloMosaic Idealize.ShloMosaic.TcCoe Idealize.SL.Sem
open Idealize.ShloMosaic.Pipeline (Dat)
open Cert.Proof.Adam

variable (m : (ℓ : Loc nD τ sig) → Buf (Elt Ideal) ℓ) (ρ : Dev nD → PrngReg)

/-- The rows of an array, the leading axes joined. -/
def flat (x : Vec Ideal S2x4x256x1024 .f32) : Vec Ideal S2048x1024 .f32 := shapeCast S2048x1024 x shapeCasts_S2x4x256x1024_S2048x1024

def goalD (w g m v : Vec Ideal S2x4x256x1024 .f32) : Vec Ideal S2048x1024 .f32 := fun i => delta (flat w i) (flat g i) (flat m i) (flat v i)
def goalM (g m : Vec Ideal S2x4x256x1024 .f32) : Vec Ideal S2048x1024 .f32 := fun i => newM (flat g i) (flat m i)
def goalV (g v : Vec Ideal S2x4x256x1024 .f32) : Vec Ideal S2048x1024 .f32 := fun i => newV (flat g i) (flat v i)

theorem hz : (![0, 0] : Fin 2 → Nat) = fun _ => 0 := funext fun a => by fin_cases a <;> rfl

abbrev row (t : Fin cfg0.N) (p : Fin 256) : Fin 2048 := ⟨t.val * 256 + p.val, by have := t.isLt; have : cfg0.N = 8 := N_0; omega⟩

theorem V_flat0 (c : Dev nD) : V m c main_v0 = flat (m ((c : Thread nD τ).loc main_arg1)) := by
  show StableHlo.after hostOps0 (fun b => m (c, b)) (Proc.devRef .tc main_v0) = _
  unfold hostOps0
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (q : Fin 1024) :
    (iblk m c 0 t : Vec Ideal S256x1024 .f32) (ix2 p q) = flat (m ((c : Thread nD τ).loc main_arg1)) (ix2 (row t p) q) := by
  unfold iblk
  rw [View.read_apply]
  show V m c main_v0 _ = _
  rw [V_flat0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 1024 + 1 * q.val = q.val; rw [(idx0 t).2]; omega

theorem V_flat1 (c : Dev nD) : V m c main_v1 = flat (m ((c : Thread nD τ).loc main_arg0)) := by
  show StableHlo.after hostOps0 (fun b => m (c, b)) (Proc.devRef .tc main_v1) = _
  unfold hostOps0
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (q : Fin 1024) :
    (iblk m c 1 t : Vec Ideal S256x1024 .f32) (ix2 p q) = flat (m ((c : Thread nD τ).loc main_arg0)) (ix2 (row t p) q) := by
  unfold iblk
  rw [View.read_apply]
  show V m c main_v1 _ = _
  rw [V_flat1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 1024 + 1 * q.val = q.val; rw [(idx1 t).2]; omega

theorem V_flat2 (c : Dev nD) : V m c main_v2 = flat (m ((c : Thread nD τ).loc main_arg2)) := by
  show StableHlo.after hostOps0 (fun b => m (c, b)) (Proc.devRef .tc main_v2) = _
  unfold hostOps0
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (q : Fin 1024) :
    (iblk m c 2 t : Vec Ideal S256x1024 .f32) (ix2 p q) = flat (m ((c : Thread nD τ).loc main_arg2)) (ix2 (row t p) q) := by
  unfold iblk
  rw [View.read_apply]
  show V m c main_v2 _ = _
  rw [V_flat2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 1024 + 1 * q.val = q.val; rw [(idx2 t).2]; omega

theorem V_flat3 (c : Dev nD) : V m c main_v3 = flat (m ((c : Thread nD τ).loc main_arg3)) := by
  show StableHlo.after hostOps0 (fun b => m (c, b)) (Proc.devRef .tc main_v3) = _
  unfold hostOps0
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (q : Fin 1024) :
    (iblk m c 3 t : Vec Ideal S256x1024 .f32) (ix2 p q) = flat (m ((c : Thread nD τ).loc main_arg3)) (ix2 (row t p) q) := by
  unfold iblk
  rw [View.read_apply]
  show V m c main_v3 _ = _
  rw [V_flat3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 1024 + 1 * q.val = q.val; rw [(idx3 t).2]; omega

theorem out4_apply (x0 : Vec Ideal S256x1024 .f32) (x1 : Vec Ideal S256x1024 .f32) (x2 : Vec Ideal S256x1024 .f32) (x3 : Vec Ideal S256x1024 .f32) (p : Fin 256) (q : Fin 1024) :
    (out0_4 x0 x1 x2 x3) (ix2 p q) = delta (x1 (ix2 p q)) (x0 (ix2 p q)) (x2 (ix2 p q)) (x3 (ix2 p q)) := by
  unfold out0_4
  simp only [View.ld_unit_zero (S := S256x1024) hz]
  exact (Value.canon4_eq x2 x0 x3 x1 (ix2 p q)).trans (by
    have e : (fun a => match a with | ⟨0, _⟩ => ⟨p.val, p.isLt⟩ | ⟨1, _⟩ => ⟨q.val, q.isLt⟩ : S256x1024.Idx) = ix2 p q :=
      funext fun a => by match a with | ⟨0, _⟩ => rfl | ⟨1, _⟩ => rfl
    rw [← e]
    rfl)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem final4 (c : Dev nD) : (dats m 0 c).arrAt 4 cfg0.N = goalD (m ((c : Thread nD τ).loc main_arg0)) (m ((c : Thread nD τ).loc main_arg1)) (m ((c : Thread nD τ).loc main_arg2)) (m ((c : Thread nD τ).loc main_arg3)) := by
  have hN : cfg0.N = 8 := N_0
  refine (dats m 0 c).arrAt_eq_of_cover 4 _ (fun t hf => ?_) fun i => ?_
  · rw [Value.flushed4]
    funext j
    rw [View.read_apply]
    obtain ⟨p, q, rfl⟩ : ∃ (p : Fin 256) (q : Fin 1024), j = (ix2 p q : S256x1024.Idx) := ⟨j 0, j 1, eq_ix2 _⟩
    have e : ((cfg0.win 4).blk t).view.emb (ix2 p q) = (ix2 (row t p) q : S2048x1024.Idx) := by
      funext x
      apply Fin.ext
      match x with
      | ⟨0, _⟩ => show win0_4.index t (0 : Fin 2) * 256 + 1 * p.val = t.val * 256 + p.val; rw [(idx4 t).1]; omega
      | ⟨1, _⟩ => show win0_4.index t (1 : Fin 2) * 1024 + 1 * q.val = q.val; rw [(idx4 t).2]; omega
    refine Eq.trans ?_ (congrArg (goalD (m ((c : Thread nD τ).loc main_arg0)) (m ((c : Thread nD τ).loc main_arg1)) (m ((c : Thread nD τ).loc main_arg2)) (m ((c : Thread nD τ).loc main_arg3))) e).symm
    refine (out4_apply _ _ _ _ p q).trans ?_
    unfold goalD
    rw [read1, read0, read2, read3]
  · have h0 : (i 0 : Nat) < 2048 := (i 0).isLt
    have h1 : (i 1 : Nat) < 1024 := (i 1).isLt
    have hb : (i 0 : Nat) / 256 < cfg0.N := by omega
    refine ⟨⟨(i 0 : Nat) / 256, hb⟩, flush0_4 _, ?_⟩
    show i ∈ ((View.whole main_v4_0).slice (win0_4.rect ⟨(i 0 : Nat) / 256, hb⟩)).set
    rw [View.set_slice_whole, Rect.mem_set_unit]
    intro x
    match x with
    | ⟨0, _⟩ => show win0_4.index ⟨(i 0 : Nat) / 256, hb⟩ (0 : Fin 2) * 256 ≤ (i 0 : Nat) ∧ (i 0 : Nat) < win0_4.index ⟨(i 0 : Nat) / 256, hb⟩ (0 : Fin 2) * 256 + 256
                rw [(idx4 ⟨(i 0 : Nat) / 256, hb⟩).1]; dsimp only; omega
    | ⟨1, _⟩ => show win0_4.index ⟨(i 0 : Nat) / 256, hb⟩ (1 : Fin 2) * 1024 ≤ (i 1 : Nat) ∧ (i 1 : Nat) < win0_4.index ⟨(i 0 : Nat) / 256, hb⟩ (1 : Fin 2) * 1024 + 1024
                rw [(idx4 ⟨(i 0 : Nat) / 256, hb⟩).2]; omega

theorem out5_apply (x0 : Vec Ideal S256x1024 .f32) (x1 : Vec Ideal S256x1024 .f32) (x2 : Vec Ideal S256x1024 .f32) (x3 : Vec Ideal S256x1024 .f32) (p : Fin 256) (q : Fin 1024) :
    (out0_5 x0 x1 x2 x3) (ix2 p q) = newM (x0 (ix2 p q)) (x2 (ix2 p q)) := by
  unfold out0_5
  simp only [View.ld_unit_zero (S := S256x1024) hz]
  exact (Value.canon5_eq x2 x0 (ix2 p q)).trans (by
    have e : (fun a => match a with | ⟨0, _⟩ => ⟨p.val, p.isLt⟩ | ⟨1, _⟩ => ⟨q.val, q.isLt⟩ : S256x1024.Idx) = ix2 p q :=
      funext fun a => by match a with | ⟨0, _⟩ => rfl | ⟨1, _⟩ => rfl
    rw [← e]
    rfl)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem final5 (c : Dev nD) : (dats m 0 c).arrAt 5 cfg0.N = goalM (m ((c : Thread nD τ).loc main_arg1)) (m ((c : Thread nD τ).loc main_arg2)) := by
  have hN : cfg0.N = 8 := N_0
  refine (dats m 0 c).arrAt_eq_of_cover 5 _ (fun t hf => ?_) fun i => ?_
  · rw [Value.flushed5]
    funext j
    rw [View.read_apply]
    obtain ⟨p, q, rfl⟩ : ∃ (p : Fin 256) (q : Fin 1024), j = (ix2 p q : S256x1024.Idx) := ⟨j 0, j 1, eq_ix2 _⟩
    have e : ((cfg0.win 5).blk t).view.emb (ix2 p q) = (ix2 (row t p) q : S2048x1024.Idx) := by
      funext x
      apply Fin.ext
      match x with
      | ⟨0, _⟩ => show win0_5.index t (0 : Fin 2) * 256 + 1 * p.val = t.val * 256 + p.val; rw [(idx5 t).1]; omega
      | ⟨1, _⟩ => show win0_5.index t (1 : Fin 2) * 1024 + 1 * q.val = q.val; rw [(idx5 t).2]; omega
    refine Eq.trans ?_ (congrArg (goalM (m ((c : Thread nD τ).loc main_arg1)) (m ((c : Thread nD τ).loc main_arg2))) e).symm
    refine (out5_apply _ _ _ _ p q).trans ?_
    unfold goalM
    rw [read0, read2]
  · have h0 : (i 0 : Nat) < 2048 := (i 0).isLt
    have h1 : (i 1 : Nat) < 1024 := (i 1).isLt
    have hb : (i 0 : Nat) / 256 < cfg0.N := by omega
    refine ⟨⟨(i 0 : Nat) / 256, hb⟩, flush0_5 _, ?_⟩
    show i ∈ ((View.whole main_v4_1).slice (win0_5.rect ⟨(i 0 : Nat) / 256, hb⟩)).set
    rw [View.set_slice_whole, Rect.mem_set_unit]
    intro x
    match x with
    | ⟨0, _⟩ => show win0_5.index ⟨(i 0 : Nat) / 256, hb⟩ (0 : Fin 2) * 256 ≤ (i 0 : Nat) ∧ (i 0 : Nat) < win0_5.index ⟨(i 0 : Nat) / 256, hb⟩ (0 : Fin 2) * 256 + 256
                rw [(idx5 ⟨(i 0 : Nat) / 256, hb⟩).1]; dsimp only; omega
    | ⟨1, _⟩ => show win0_5.index ⟨(i 0 : Nat) / 256, hb⟩ (1 : Fin 2) * 1024 ≤ (i 1 : Nat) ∧ (i 1 : Nat) < win0_5.index ⟨(i 0 : Nat) / 256, hb⟩ (1 : Fin 2) * 1024 + 1024
                rw [(idx5 ⟨(i 0 : Nat) / 256, hb⟩).2]; omega

theorem out6_apply (x0 : Vec Ideal S256x1024 .f32) (x1 : Vec Ideal S256x1024 .f32) (x2 : Vec Ideal S256x1024 .f32) (x3 : Vec Ideal S256x1024 .f32) (p : Fin 256) (q : Fin 1024) :
    (out0_6 x0 x1 x2 x3) (ix2 p q) = newV (x0 (ix2 p q)) (x3 (ix2 p q)) := by
  unfold out0_6
  simp only [View.ld_unit_zero (S := S256x1024) hz]
  exact (Value.canon6_eq x3 x0 (ix2 p q)).trans (by
    have e : (fun a => match a with | ⟨0, _⟩ => ⟨p.val, p.isLt⟩ | ⟨1, _⟩ => ⟨q.val, q.isLt⟩ : S256x1024.Idx) = ix2 p q :=
      funext fun a => by match a with | ⟨0, _⟩ => rfl | ⟨1, _⟩ => rfl
    rw [← e]
    rfl)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem final6 (c : Dev nD) : (dats m 0 c).arrAt 6 cfg0.N = goalV (m ((c : Thread nD τ).loc main_arg1)) (m ((c : Thread nD τ).loc main_arg3)) := by
  have hN : cfg0.N = 8 := N_0
  refine (dats m 0 c).arrAt_eq_of_cover 6 _ (fun t hf => ?_) fun i => ?_
  · rw [Value.flushed6]
    funext j
    rw [View.read_apply]
    obtain ⟨p, q, rfl⟩ : ∃ (p : Fin 256) (q : Fin 1024), j = (ix2 p q : S256x1024.Idx) := ⟨j 0, j 1, eq_ix2 _⟩
    have e : ((cfg0.win 6).blk t).view.emb (ix2 p q) = (ix2 (row t p) q : S2048x1024.Idx) := by
      funext x
      apply Fin.ext
      match x with
      | ⟨0, _⟩ => show win0_6.index t (0 : Fin 2) * 256 + 1 * p.val = t.val * 256 + p.val; rw [(idx6 t).1]; omega
      | ⟨1, _⟩ => show win0_6.index t (1 : Fin 2) * 1024 + 1 * q.val = q.val; rw [(idx6 t).2]; omega
    refine Eq.trans ?_ (congrArg (goalV (m ((c : Thread nD τ).loc main_arg1)) (m ((c : Thread nD τ).loc main_arg3))) e).symm
    refine (out6_apply _ _ _ _ p q).trans ?_
    unfold goalV
    rw [read0, read3]
  · have h0 : (i 0 : Nat) < 2048 := (i 0).isLt
    have h1 : (i 1 : Nat) < 1024 := (i 1).isLt
    have hb : (i 0 : Nat) / 256 < cfg0.N := by omega
    refine ⟨⟨(i 0 : Nat) / 256, hb⟩, flush0_6 _, ?_⟩
    show i ∈ ((View.whole main_v4_2).slice (win0_6.rect ⟨(i 0 : Nat) / 256, hb⟩)).set
    rw [View.set_slice_whole, Rect.mem_set_unit]
    intro x
    match x with
    | ⟨0, _⟩ => show win0_6.index ⟨(i 0 : Nat) / 256, hb⟩ (0 : Fin 2) * 256 ≤ (i 0 : Nat) ∧ (i 0 : Nat) < win0_6.index ⟨(i 0 : Nat) / 256, hb⟩ (0 : Fin 2) * 256 + 256
                rw [(idx6 ⟨(i 0 : Nat) / 256, hb⟩).1]; dsimp only; omega
    | ⟨1, _⟩ => show win0_6.index ⟨(i 0 : Nat) / 256, hb⟩ (1 : Fin 2) * 1024 ≤ (i 1 : Nat) ∧ (i 1 : Nat) < win0_6.index ⟨(i 0 : Nat) / 256, hb⟩ (1 : Fin 2) * 1024 + 1024
                rw [(idx6 ⟨(i 0 : Nat) / 256, hb⟩).2]; omega

/-! ## The reference -/

theorem ref_delta (w g m v : Vec Ideal S2x4x256x1024 .f32) : Cert.AdamWGateRefIdeal.Read.val_main_v24 (F := Ideal) w g m v = goalD w g m v := by
  funext i
  rfl

theorem ref_m (g m : Vec Ideal S2x4x256x1024 .f32) : Cert.AdamWGateRefIdeal.Read.val_main_v25 (F := Ideal) g m = goalM g m := by
  funext i
  rfl

theorem ref_v (g v : Vec Ideal S2x4x256x1024 .f32) : Cert.AdamWGateRefIdeal.Read.val_main_v26 (F := Ideal) g v = goalV g v := by
  funext i
  rfl

theorem frame_ref : Cert.quiescent_AdamWGateRefIdeal := fun m ρ _ =>
  (θ_run Cert.AdamWGateRefIdeal.defs _ _).mono (fun r h => ⟨fun c => (h c).2.2.2, sem_eq_zero_of_no_sems (by decide) r.2⟩)
    (Cert.AdamWGateRefIdeal.Value.run (F := Ideal) m ρ)

theorem algebraic : Cert.algebraic_AdamWGateIdeal_AdamWGateRefIdeal := by
  intro m ρ m' ρ' _ hag
  refine ⟨fun c => goalD (m ((c : Thread nD τ).loc main_arg0)) (m ((c : Thread nD τ).loc main_arg1)) (m ((c : Thread nD τ).loc main_arg2)) (m ((c : Thread nD τ).loc main_arg3)),
    fun c => goalM (m ((c : Thread nD τ).loc main_arg1)) (m ((c : Thread nD τ).loc main_arg2)),
    fun c => goalV (m ((c : Thread nD τ).loc main_arg1)) (m ((c : Thread nD τ).loc main_arg3)), ?_, ?_⟩
  · refine (θ_run Cert.AdamWGateIdeal.defs _ _).mono (fun r h c => ?_) (Cert.AdamWGateIdeal.Value.run_blocks m ρ)
    obtain ⟨h4, h5, h6, hk⟩ := h c
    exact ⟨h4.trans (final4 m c), h5.trans (final5 m c), h6.trans (final6 m c), hk⟩
  · refine (θ_run Cert.AdamWGateRefIdeal.defs _ _).mono (fun r h c => ?_) (Cert.AdamWGateRefIdeal.Value.run (F := Ideal) m' ρ')
    obtain ⟨h4, h5, h6, hk⟩ := h c
    obtain ⟨e0, e1, e2, e3⟩ := hag c
    refine ⟨h4.trans ?_, h5.trans ?_, h6.trans ?_, hk⟩
    · rw [Cert.AdamWGateRefIdeal.Read.val_main_v24_eq, e0, e1, e2, e3]
      exact ref_delta ..
    · rw [Cert.AdamWGateRefIdeal.Read.val_main_v25_eq, e1, e2]
      exact ref_m ..
    · rw [Cert.AdamWGateRefIdeal.Read.val_main_v26_eq, e1, e3]
      exact ref_v ..

end Cert.Proof.AdamWGate

end
-- ==== Proof.AdamWOutStep.lean ====
/-  The optimiser's step over the output projection's weights: what the kernel leaves in each of its three results, and the reference. -/
module

public import proofs.«01_k».proof.Defs
public import proofs.«01_k».proof.Proof.Gen.AdamWOutIdeal.Value
public import proofs.«01_k».proof.Proof.Gen.AdamWOutRefIdeal.Run
public import proofs.«01_k».proof.Proof.Gen.AdamWOutRefIdeal.Read
public import proofs.«01_k».proof.Proof.AdamStep

@[expose] public section

set_option maxRecDepth 16384

noncomputable section

namespace Cert.Proof.AdamWOut

open Cert.AdamWOutIdeal Cert.AdamWOutIdeal.Gen Idealize.ShloMosaic Idealize.ShloMosaic.TcCoe Idealize.SL.Sem
open Idealize.ShloMosaic.Pipeline (Dat)
open Cert.Proof.Adam

variable (m : (ℓ : Loc nD τ sig) → Buf (Elt Ideal) ℓ) (ρ : Dev nD → PrngReg)

/-- The rows of an array, the leading axes joined. -/
def flat (x : Vec Ideal S2x256x1024 .f32) : Vec Ideal S512x1024 .f32 := shapeCast S512x1024 x shapeCasts_S2x256x1024_S512x1024

def goalD (w g m v : Vec Ideal S2x256x1024 .f32) : Vec Ideal S512x1024 .f32 := fun i => delta (flat w i) (flat g i) (flat m i) (flat v i)
def goalM (g m : Vec Ideal S2x256x1024 .f32) : Vec Ideal S512x1024 .f32 := fun i => newM (flat g i) (flat m i)
def goalV (g v : Vec Ideal S2x256x1024 .f32) : Vec Ideal S512x1024 .f32 := fun i => newV (flat g i) (flat v i)

theorem hz : (![0, 0] : Fin 2 → Nat) = fun _ => 0 := funext fun a => by fin_cases a <;> rfl

abbrev row (t : Fin cfg0.N) (p : Fin 256) : Fin 512 := ⟨t.val * 256 + p.val, by have := t.isLt; have : cfg0.N = 2 := N_0; omega⟩

theorem V_flat0 (c : Dev nD) : V m c main_v0 = flat (m ((c : Thread nD τ).loc main_arg1)) := by
  show StableHlo.after hostOps0 (fun b => m (c, b)) (Proc.devRef .tc main_v0) = _
  unfold hostOps0
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem read0 (c : Dev nD) (t : Fin cfg0.N) (p : Fin 256) (q : Fin 1024) :
    (iblk m c 0 t : Vec Ideal S256x1024 .f32) (ix2 p q) = flat (m ((c : Thread nD τ).loc main_arg1)) (ix2 (row t p) q) := by
  unfold iblk
  rw [View.read_apply]
  show V m c main_v0 _ = _
  rw [V_flat0]
  congr 1
  funext x
  apply Fin.ext
  match x with
  | ⟨0, _⟩ => show win0_0.index t (0 : Fin 2) * 256 + 1 * p.val = t.val * 256 + p.val; rw [(idx0 t).1]; omega
  | ⟨1, _⟩ => show win0_0.index t (1 : Fin 2) * 1024 + 1 * q.val = q.val; rw [(idx0 t).2]; omega

theorem V_flat1 (c : Dev nD) : V m c main_v1 = flat (m ((c : Thread nD τ).loc main_arg0)) := by
  show StableHlo.after hostOps0 (fun b => m (c, b)) (Proc.devRef .tc main_v1) = _
  unfold hostOps0
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem read1 (c : Dev nD) (t : Fin cfg0.N) (p : Fin 256) (q : Fin 1024) :
    (iblk m c 1 t : Vec Ideal S256x1024 .f32) (ix2 p q) = flat (m ((c : Thread nD τ).loc main_arg0)) (ix2 (row t p) q) := by
  unfold iblk
  rw [View.read_apply]
  show V m c main_v1 _ = _
  rw [V_flat1]
  congr 1
  funext x
  apply Fin.ext
  match x with
  | ⟨0, _⟩ => show win0_1.index t (0 : Fin 2) * 256 + 1 * p.val = t.val * 256 + p.val; rw [(idx1 t).1]; omega
  | ⟨1, _⟩ => show win0_1.index t (1 : Fin 2) * 1024 + 1 * q.val = q.val; rw [(idx1 t).2]; omega

theorem V_flat2 (c : Dev nD) : V m c main_v2 = flat (m ((c : Thread nD τ).loc main_arg2)) := by
  show StableHlo.after hostOps0 (fun b => m (c, b)) (Proc.devRef .tc main_v2) = _
  unfold hostOps0
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem read2 (c : Dev nD) (t : Fin cfg0.N) (p : Fin 256) (q : Fin 1024) :
    (iblk m c 2 t : Vec Ideal S256x1024 .f32) (ix2 p q) = flat (m ((c : Thread nD τ).loc main_arg2)) (ix2 (row t p) q) := by
  unfold iblk
  rw [View.read_apply]
  show V m c main_v2 _ = _
  rw [V_flat2]
  congr 1
  funext x
  apply Fin.ext
  match x with
  | ⟨0, _⟩ => show win0_2.index t (0 : Fin 2) * 256 + 1 * p.val = t.val * 256 + p.val; rw [(idx2 t).1]; omega
  | ⟨1, _⟩ => show win0_2.index t (1 : Fin 2) * 1024 + 1 * q.val = q.val; rw [(idx2 t).2]; omega

theorem V_flat3 (c : Dev nD) : V m c main_v3 = flat (m ((c : Thread nD τ).loc main_arg3)) := by
  show StableHlo.after hostOps0 (fun b => m (c, b)) (Proc.devRef .tc main_v3) = _
  unfold hostOps0
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem read3 (c : Dev nD) (t : Fin cfg0.N) (p : Fin 256) (q : Fin 1024) :
    (iblk m c 3 t : Vec Ideal S256x1024 .f32) (ix2 p q) = flat (m ((c : Thread nD τ).loc main_arg3)) (ix2 (row t p) q) := by
  unfold iblk
  rw [View.read_apply]
  show V m c main_v3 _ = _
  rw [V_flat3]
  congr 1
  funext x
  apply Fin.ext
  match x with
  | ⟨0, _⟩ => show win0_3.index t (0 : Fin 2) * 256 + 1 * p.val = t.val * 256 + p.val; rw [(idx3 t).1]; omega
  | ⟨1, _⟩ => show win0_3.index t (1 : Fin 2) * 1024 + 1 * q.val = q.val; rw [(idx3 t).2]; omega

theorem out4_apply (x0 : Vec Ideal S256x1024 .f32) (x1 : Vec Ideal S256x1024 .f32) (x2 : Vec Ideal S256x1024 .f32) (x3 : Vec Ideal S256x1024 .f32) (p : Fin 256) (q : Fin 1024) :
    (out0_4 x0 x1 x2 x3) (ix2 p q) = delta (x1 (ix2 p q)) (x0 (ix2 p q)) (x2 (ix2 p q)) (x3 (ix2 p q)) := by
  unfold out0_4
  simp only [View.ld_unit_zero (S := S256x1024) hz]
  exact (Value.canon4_eq x2 x0 x3 x1 (ix2 p q)).trans (by
    have e : (fun a => match a with | ⟨0, _⟩ => ⟨p.val, p.isLt⟩ | ⟨1, _⟩ => ⟨q.val, q.isLt⟩ : S256x1024.Idx) = ix2 p q :=
      funext fun a => by match a with | ⟨0, _⟩ => rfl | ⟨1, _⟩ => rfl
    rw [← e]
    rfl)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem final4 (c : Dev nD) : (dats m 0 c).arrAt 4 cfg0.N = goalD (m ((c : Thread nD τ).loc main_arg0)) (m ((c : Thread nD τ).loc main_arg1)) (m ((c : Thread nD τ).loc main_arg2)) (m ((c : Thread nD τ).loc main_arg3)) := by
  have hN : cfg0.N = 2 := N_0
  refine (dats m 0 c).arrAt_eq_of_cover 4 _ (fun t hf => ?_) fun i => ?_
  · rw [Value.flushed4]
    funext j
    rw [View.read_apply]
    obtain ⟨p, q, rfl⟩ : ∃ (p : Fin 256) (q : Fin 1024), j = (ix2 p q : S256x1024.Idx) := ⟨j 0, j 1, eq_ix2 _⟩
    have e : ((cfg0.win 4).blk t).view.emb (ix2 p q) = (ix2 (row t p) q : S512x1024.Idx) := by
      funext x
      apply Fin.ext
      match x with
      | ⟨0, _⟩ => show win0_4.index t (0 : Fin 2) * 256 + 1 * p.val = t.val * 256 + p.val; rw [(idx4 t).1]; omega
      | ⟨1, _⟩ => show win0_4.index t (1 : Fin 2) * 1024 + 1 * q.val = q.val; rw [(idx4 t).2]; omega
    refine Eq.trans ?_ (congrArg (goalD (m ((c : Thread nD τ).loc main_arg0)) (m ((c : Thread nD τ).loc main_arg1)) (m ((c : Thread nD τ).loc main_arg2)) (m ((c : Thread nD τ).loc main_arg3))) e).symm
    refine (out4_apply _ _ _ _ p q).trans ?_
    unfold goalD
    rw [read1, read0, read2, read3]
  · have h0 : (i 0 : Nat) < 512 := (i 0).isLt
    have h1 : (i 1 : Nat) < 1024 := (i 1).isLt
    have hb : (i 0 : Nat) / 256 < cfg0.N := by omega
    refine ⟨⟨(i 0 : Nat) / 256, hb⟩, flush0_4 _, ?_⟩
    show i ∈ ((View.whole main_v4_0).slice (win0_4.rect ⟨(i 0 : Nat) / 256, hb⟩)).set
    rw [View.set_slice_whole, Rect.mem_set_unit]
    intro x
    match x with
    | ⟨0, _⟩ => show win0_4.index ⟨(i 0 : Nat) / 256, hb⟩ (0 : Fin 2) * 256 ≤ (i 0 : Nat) ∧ (i 0 : Nat) < win0_4.index ⟨(i 0 : Nat) / 256, hb⟩ (0 : Fin 2) * 256 + 256
                rw [(idx4 ⟨(i 0 : Nat) / 256, hb⟩).1]; dsimp only; omega
    | ⟨1, _⟩ => show win0_4.index ⟨(i 0 : Nat) / 256, hb⟩ (1 : Fin 2) * 1024 ≤ (i 1 : Nat) ∧ (i 1 : Nat) < win0_4.index ⟨(i 0 : Nat) / 256, hb⟩ (1 : Fin 2) * 1024 + 1024
                rw [(idx4 ⟨(i 0 : Nat) / 256, hb⟩).2]; omega

theorem out5_apply (x0 : Vec Ideal S256x1024 .f32) (x1 : Vec Ideal S256x1024 .f32) (x2 : Vec Ideal S256x1024 .f32) (x3 : Vec Ideal S256x1024 .f32) (p : Fin 256) (q : Fin 1024) :
    (out0_5 x0 x1 x2 x3) (ix2 p q) = newM (x0 (ix2 p q)) (x2 (ix2 p q)) := by
  unfold out0_5
  simp only [View.ld_unit_zero (S := S256x1024) hz]
  exact (Value.canon5_eq x2 x0 (ix2 p q)).trans (by
    have e : (fun a => match a with | ⟨0, _⟩ => ⟨p.val, p.isLt⟩ | ⟨1, _⟩ => ⟨q.val, q.isLt⟩ : S256x1024.Idx) = ix2 p q :=
      funext fun a => by match a with | ⟨0, _⟩ => rfl | ⟨1, _⟩ => rfl
    rw [← e]
    rfl)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem final5 (c : Dev nD) : (dats m 0 c).arrAt 5 cfg0.N = goalM (m ((c : Thread nD τ).loc main_arg1)) (m ((c : Thread nD τ).loc main_arg2)) := by
  have hN : cfg0.N = 2 := N_0
  refine (dats m 0 c).arrAt_eq_of_cover 5 _ (fun t hf => ?_) fun i => ?_
  · rw [Value.flushed5]
    funext j
    rw [View.read_apply]
    obtain ⟨p, q, rfl⟩ : ∃ (p : Fin 256) (q : Fin 1024), j = (ix2 p q : S256x1024.Idx) := ⟨j 0, j 1, eq_ix2 _⟩
    have e : ((cfg0.win 5).blk t).view.emb (ix2 p q) = (ix2 (row t p) q : S512x1024.Idx) := by
      funext x
      apply Fin.ext
      match x with
      | ⟨0, _⟩ => show win0_5.index t (0 : Fin 2) * 256 + 1 * p.val = t.val * 256 + p.val; rw [(idx5 t).1]; omega
      | ⟨1, _⟩ => show win0_5.index t (1 : Fin 2) * 1024 + 1 * q.val = q.val; rw [(idx5 t).2]; omega
    refine Eq.trans ?_ (congrArg (goalM (m ((c : Thread nD τ).loc main_arg1)) (m ((c : Thread nD τ).loc main_arg2))) e).symm
    refine (out5_apply _ _ _ _ p q).trans ?_
    unfold goalM
    rw [read0, read2]
  · have h0 : (i 0 : Nat) < 512 := (i 0).isLt
    have h1 : (i 1 : Nat) < 1024 := (i 1).isLt
    have hb : (i 0 : Nat) / 256 < cfg0.N := by omega
    refine ⟨⟨(i 0 : Nat) / 256, hb⟩, flush0_5 _, ?_⟩
    show i ∈ ((View.whole main_v4_1).slice (win0_5.rect ⟨(i 0 : Nat) / 256, hb⟩)).set
    rw [View.set_slice_whole, Rect.mem_set_unit]
    intro x
    match x with
    | ⟨0, _⟩ => show win0_5.index ⟨(i 0 : Nat) / 256, hb⟩ (0 : Fin 2) * 256 ≤ (i 0 : Nat) ∧ (i 0 : Nat) < win0_5.index ⟨(i 0 : Nat) / 256, hb⟩ (0 : Fin 2) * 256 + 256
                rw [(idx5 ⟨(i 0 : Nat) / 256, hb⟩).1]; dsimp only; omega
    | ⟨1, _⟩ => show win0_5.index ⟨(i 0 : Nat) / 256, hb⟩ (1 : Fin 2) * 1024 ≤ (i 1 : Nat) ∧ (i 1 : Nat) < win0_5.index ⟨(i 0 : Nat) / 256, hb⟩ (1 : Fin 2) * 1024 + 1024
                rw [(idx5 ⟨(i 0 : Nat) / 256, hb⟩).2]; omega

theorem out6_apply (x0 : Vec Ideal S256x1024 .f32) (x1 : Vec Ideal S256x1024 .f32) (x2 : Vec Ideal S256x1024 .f32) (x3 : Vec Ideal S256x1024 .f32) (p : Fin 256) (q : Fin 1024) :
    (out0_6 x0 x1 x2 x3) (ix2 p q) = newV (x0 (ix2 p q)) (x3 (ix2 p q)) := by
  unfold out0_6
  simp only [View.ld_unit_zero (S := S256x1024) hz]
  exact (Value.canon6_eq x3 x0 (ix2 p q)).trans (by
    have e : (fun a => match a with | ⟨0, _⟩ => ⟨p.val, p.isLt⟩ | ⟨1, _⟩ => ⟨q.val, q.isLt⟩ : S256x1024.Idx) = ix2 p q :=
      funext fun a => by match a with | ⟨0, _⟩ => rfl | ⟨1, _⟩ => rfl
    rw [← e]
    rfl)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem final6 (c : Dev nD) : (dats m 0 c).arrAt 6 cfg0.N = goalV (m ((c : Thread nD τ).loc main_arg1)) (m ((c : Thread nD τ).loc main_arg3)) := by
  have hN : cfg0.N = 2 := N_0
  refine (dats m 0 c).arrAt_eq_of_cover 6 _ (fun t hf => ?_) fun i => ?_
  · rw [Value.flushed6]
    funext j
    rw [View.read_apply]
    obtain ⟨p, q, rfl⟩ : ∃ (p : Fin 256) (q : Fin 1024), j = (ix2 p q : S256x1024.Idx) := ⟨j 0, j 1, eq_ix2 _⟩
    have e : ((cfg0.win 6).blk t).view.emb (ix2 p q) = (ix2 (row t p) q : S512x1024.Idx) := by
      funext x
      apply Fin.ext
      match x with
      | ⟨0, _⟩ => show win0_6.index t (0 : Fin 2) * 256 + 1 * p.val = t.val * 256 + p.val; rw [(idx6 t).1]; omega
      | ⟨1, _⟩ => show win0_6.index t (1 : Fin 2) * 1024 + 1 * q.val = q.val; rw [(idx6 t).2]; omega
    refine Eq.trans ?_ (congrArg (goalV (m ((c : Thread nD τ).loc main_arg1)) (m ((c : Thread nD τ).loc main_arg3))) e).symm
    refine (out6_apply _ _ _ _ p q).trans ?_
    unfold goalV
    rw [read0, read3]
  · have h0 : (i 0 : Nat) < 512 := (i 0).isLt
    have h1 : (i 1 : Nat) < 1024 := (i 1).isLt
    have hb : (i 0 : Nat) / 256 < cfg0.N := by omega
    refine ⟨⟨(i 0 : Nat) / 256, hb⟩, flush0_6 _, ?_⟩
    show i ∈ ((View.whole main_v4_2).slice (win0_6.rect ⟨(i 0 : Nat) / 256, hb⟩)).set
    rw [View.set_slice_whole, Rect.mem_set_unit]
    intro x
    match x with
    | ⟨0, _⟩ => show win0_6.index ⟨(i 0 : Nat) / 256, hb⟩ (0 : Fin 2) * 256 ≤ (i 0 : Nat) ∧ (i 0 : Nat) < win0_6.index ⟨(i 0 : Nat) / 256, hb⟩ (0 : Fin 2) * 256 + 256
                rw [(idx6 ⟨(i 0 : Nat) / 256, hb⟩).1]; dsimp only; omega
    | ⟨1, _⟩ => show win0_6.index ⟨(i 0 : Nat) / 256, hb⟩ (1 : Fin 2) * 1024 ≤ (i 1 : Nat) ∧ (i 1 : Nat) < win0_6.index ⟨(i 0 : Nat) / 256, hb⟩ (1 : Fin 2) * 1024 + 1024
                rw [(idx6 ⟨(i 0 : Nat) / 256, hb⟩).2]; omega

/-! ## The reference -/

theorem ref_delta (w g m v : Vec Ideal S2x256x1024 .f32) : Cert.AdamWOutRefIdeal.Read.val_main_v24 (F := Ideal) w g m v = goalD w g m v := by
  funext i
  rfl

theorem ref_m (g m : Vec Ideal S2x256x1024 .f32) : Cert.AdamWOutRefIdeal.Read.val_main_v25 (F := Ideal) g m = goalM g m := by
  funext i
  rfl

theorem ref_v (g v : Vec Ideal S2x256x1024 .f32) : Cert.AdamWOutRefIdeal.Read.val_main_v26 (F := Ideal) g v = goalV g v := by
  funext i
  rfl

theorem frame_ref : Cert.quiescent_AdamWOutRefIdeal := fun m ρ _ =>
  (θ_run Cert.AdamWOutRefIdeal.defs _ _).mono (fun r h => ⟨fun c => (h c).2.2.2, sem_eq_zero_of_no_sems (by decide) r.2⟩)
    (Cert.AdamWOutRefIdeal.Value.run (F := Ideal) m ρ)

theorem algebraic : Cert.algebraic_AdamWOutIdeal_AdamWOutRefIdeal := by
  intro m ρ m' ρ' _ hag
  refine ⟨fun c => goalD (m ((c : Thread nD τ).loc main_arg0)) (m ((c : Thread nD τ).loc main_arg1)) (m ((c : Thread nD τ).loc main_arg2)) (m ((c : Thread nD τ).loc main_arg3)),
    fun c => goalM (m ((c : Thread nD τ).loc main_arg1)) (m ((c : Thread nD τ).loc main_arg2)),
    fun c => goalV (m ((c : Thread nD τ).loc main_arg1)) (m ((c : Thread nD τ).loc main_arg3)), ?_, ?_⟩
  · refine (θ_run Cert.AdamWOutIdeal.defs _ _).mono (fun r h c => ?_) (Cert.AdamWOutIdeal.Value.run_blocks m ρ)
    obtain ⟨h4, h5, h6, hk⟩ := h c
    exact ⟨h4.trans (final4 m c), h5.trans (final5 m c), h6.trans (final6 m c), hk⟩
  · refine (θ_run Cert.AdamWOutRefIdeal.defs _ _).mono (fun r h c => ?_) (Cert.AdamWOutRefIdeal.Value.run (F := Ideal) m' ρ')
    obtain ⟨h4, h5, h6, hk⟩ := h c
    obtain ⟨e0, e1, e2, e3⟩ := hag c
    refine ⟨h4.trans ?_, h5.trans ?_, h6.trans ?_, hk⟩
    · rw [Cert.AdamWOutRefIdeal.Read.val_main_v24_eq, e0, e1, e2, e3]
      exact ref_delta ..
    · rw [Cert.AdamWOutRefIdeal.Read.val_main_v25_eq, e1, e2]
      exact ref_m ..
    · rw [Cert.AdamWOutRefIdeal.Read.val_main_v26_eq, e1, e3]
      exact ref_v ..

end Cert.Proof.AdamWOut

end
-- ==== Proof.ScanTrip.lean ====
/-
  One trip of the backward recurrence's loop, and the loop's state after any number of trips, as plain functions of the
  three input blocks (the decay, the gradient of the states, the states before) and of what is carried in.
-/
module

public import proofs.«01_k».proof.Proof.Gen.ScanBwdIdeal.Frame
public import proofs.«01_k».proof.Proof.Gen.ScanBwdIdeal.Skeleton
public import proofs.«01_k».proof.Proof.Gen.ScanBwdIdeal.Loops
public import proofs.«01_k».proof.Proof.Gen.ScanBwdIdeal.Points
public import Idealize.ShloMosaic.Lib.Pipeline.Value
public import Idealize.ShloMosaic.Lib.Tactic

@[expose] public section

set_option maxRecDepth 16384

noncomputable section

namespace Cert.Proof.Scan

open Cert.ScanBwdIdeal Cert.ScanBwdIdeal.Gen
open Idealize.ShloMosaic Idealize.ShloMosaic.TcCoe Idealize.ShloMosaic.Tactic
open Idealize.SL.Sem

variable {F : FTy → Type} [FloatOps F]

theorem off1_eq : ∀ k : Fin k0_t1_loop.trips, k0_off1 k = ![255 - 2 * k.val, 0] := by decide +kernel
theorem off2_eq : ∀ k : Fin k0_t1_loop.trips, k0_off2 k = ![254 - 2 * k.val, 0] := by decide +kernel
theorem trips_eq : k0_t1_loop.trips = 128 := by decide +kernel

/-- The row of a block that a trip reads first, and the row it reads second. -/
abbrev row1 (k : Fin k0_t1_loop.trips) (x : Vec F S256x512 .f32) : Vec F S1x512 .f32 :=
  View.ld x (Rect.unit (s := S256x512) (k0_off1 k) S1x512.size (k0_off1_inb k))
abbrev row2 (k : Fin k0_t1_loop.trips) (x : Vec F S256x512 .f32) : Vec F S1x512 .f32 :=
  View.ld x (Rect.unit (s := S256x512) (k0_off2 k) S1x512.size (k0_off2_inb k))

section Trip
variable (c : Dev nD) (i : grid0.Coords)
  (arg1 : Memref sig .tc .vmem S256x512 .f32) (harg1 : arg1.IsWhole) (arg2 : Memref sig .tc .vmem S256x512 .f32) (harg2 : arg2.IsWhole)
  (arg3 : Memref sig .tc .vmem S256x512 .f32) (harg3 : arg3.IsWhole) (arg4 : Memref sig .tc .vmem S256x512 .f32) (harg4 : arg4.IsWhole)
  (arg5 : Memref sig .tc .vmem S256x512 .f32) (harg5 : arg5.IsWhole) (arg6 : Memref sig .tc .vmem S1x512 .f32) (harg6 : arg6.IsWhole)
  (x1 x2 x3 : Vec F S256x512 .f32) (k : Fin k0_t1_loop.trips) (acc : Vec F S1x512 .f32)

/-- What a trip hands the next. -/
theorem trip_result :
    tripR_k0_t1 (F := F) Variants.none c none i arg1 harg1 arg2 harg2 arg3 harg3 arg4 harg4 arg5 harg5 arg6 harg6
        (harg1.unread x1) (harg2.unread x2) (harg3.unread x3) k acc
      = k0_pay7 acc (row1 k x1) (row2 k x1) (row1 k x2) (row2 k x2) := by
  unfold tripR_k0_t1 trip_k0_t1
  dsimp only
  simp only [View.readAt_eq_ld, harg1.read_unread, harg2.read_unread, harg3.read_unread]

/-- What a trip stores: two rows of the decay's gradient and two rows of the drive's. -/
theorem trip_pieces :
    tripL_k0_t1 (F := F) Variants.none c none i arg1 harg1 arg2 harg2 arg3 harg3 arg4 harg4 arg5 harg5 arg6 harg6
        (harg1.unread x1) (harg2.unread x2) (harg3.unread x3) k acc
      = ([⟨Rect.unit (s := S256x512) (k0_off2 k) S1x512.size (k0_off2_inb k), k0_pay6 acc (row1 k x1) (row1 k x2) (row2 k x2) (row2 k x3)⟩,
          ⟨Rect.unit (s := S256x512) (k0_off1 k) S1x512.size (k0_off1_inb k), k0_pay5 acc (row1 k x2) (row1 k x3)⟩],
         [⟨Rect.unit (s := S256x512) (k0_off2 k) S1x512.size (k0_off2_inb k), k0_pay4 acc (row1 k x1) (row1 k x2) (row2 k x2)⟩,
          ⟨Rect.unit (s := S256x512) (k0_off1 k) S1x512.size (k0_off1_inb k), k0_pay2 acc (row1 k x2)⟩]) := by
  unfold tripL_k0_t1 trip_k0_t1
  dsimp only
  simp only [View.readAt_eq_ld, harg1.read_unread, harg2.read_unread, harg3.read_unread]

end Trip

/-! ## The rows of a block, by trip -/

/-- The trip that reaches a place of the block, and the place inside the row. -/
def tripOf (y : S256x512.Idx) : Fin k0_t1_loop.trips := ⟨(255 - (y 0).val) / 2, by rw [trips_eq]; omega⟩
def colOf (y : S256x512.Idx) : S1x512.Idx := fun a => match a with
  | ⟨0, _⟩ => ⟨0, Nat.zero_lt_one⟩
  | ⟨1, _⟩ => y 1

/-- A block put together from the rows the trips store first, `f`, and second, `g`. -/
def rowsOf (f g : Fin k0_t1_loop.trips → S1x512.Idx → Elt F .f32) (y : S256x512.Idx) : Elt F .f32 :=
  if (255 - (y 0).val) % 2 = 0 then f (tripOf y) (colOf y) else g (tripOf y) (colOf y)

theorem emb1_val (k : Fin k0_t1_loop.trips) (inb) (x : S1x512.Idx) :
    (((Rect.unit (s := S256x512) (k0_off1 k) S1x512.size inb).emb x) 0).val = 255 - 2 * k.val := by
  show (k0_off1 k) 0 + 1 * (x 0).val = _
  have : (x 0).val < 1 := (x 0).isLt
  rw [off1_eq]; show 255 - 2 * k.val + 1 * (x 0).val = _; omega
theorem emb2_val (k : Fin k0_t1_loop.trips) (inb) (x : S1x512.Idx) :
    (((Rect.unit (s := S256x512) (k0_off2 k) S1x512.size inb).emb x) 0).val = 254 - 2 * k.val := by
  show (k0_off2 k) 0 + 1 * (x 0).val = _
  have : (x 0).val < 1 := (x 0).isLt
  rw [off2_eq]; show 254 - 2 * k.val + 1 * (x 0).val = _; omega
theorem col1 (k : Fin k0_t1_loop.trips) (inb) (x : S1x512.Idx) :
    colOf ((Rect.unit (s := S256x512) (k0_off1 k) S1x512.size inb).emb x) = x := by
  funext a
  match a with
  | ⟨0, _⟩ => exact Fin.ext (show 0 = (x 0).val from (Nat.lt_one_iff.mp (x 0).isLt).symm)
  | ⟨1, _⟩ => exact Fin.ext (by show (k0_off1 k) 1 + 1 * (x 1).val = (x 1).val; rw [off1_eq]; show 0 + 1 * (x 1).val = _; omega)
theorem col2 (k : Fin k0_t1_loop.trips) (inb) (x : S1x512.Idx) :
    colOf ((Rect.unit (s := S256x512) (k0_off2 k) S1x512.size inb).emb x) = x := by
  funext a
  match a with
  | ⟨0, _⟩ => exact Fin.ext (show 0 = (x 0).val from (Nat.lt_one_iff.mp (x 0).isLt).symm)
  | ⟨1, _⟩ => exact Fin.ext (by show (k0_off2 k) 1 + 1 * (x 1).val = (x 1).val; rw [off2_eq]; show 0 + 1 * (x 1).val = _; omega)

theorem rowsOf_emb1 (f g : Fin k0_t1_loop.trips → S1x512.Idx → Elt F .f32) (k : Fin k0_t1_loop.trips) (inb) (x : S1x512.Idx) :
    rowsOf f g ((Rect.unit (s := S256x512) (k0_off1 k) S1x512.size inb).emb x) = f k x := by
  have hk : k.val < 128 := lt_of_lt_of_eq k.isLt trips_eq
  have ht : tripOf ((Rect.unit (s := S256x512) (k0_off1 k) S1x512.size inb).emb x) = k :=
    Fin.ext (by
      show (255 - (((Rect.unit (s := S256x512) (k0_off1 k) S1x512.size inb).emb x) 0).val) / 2 = k.val
      rw [emb1_val]; omega)
  unfold rowsOf
  rw [if_pos (by rw [emb1_val]; omega), ht, col1]
theorem rowsOf_emb2 (f g : Fin k0_t1_loop.trips → S1x512.Idx → Elt F .f32) (k : Fin k0_t1_loop.trips) (inb) (x : S1x512.Idx) :
    rowsOf f g ((Rect.unit (s := S256x512) (k0_off2 k) S1x512.size inb).emb x) = g k x := by
  have hk : k.val < 128 := lt_of_lt_of_eq k.isLt trips_eq
  have ht : tripOf ((Rect.unit (s := S256x512) (k0_off2 k) S1x512.size inb).emb x) = k :=
    Fin.ext (by
      show (255 - (((Rect.unit (s := S256x512) (k0_off2 k) S1x512.size inb).emb x) 0).val) / 2 = k.val
      rw [emb2_val]; omega)
  unfold rowsOf
  rw [if_neg (by rw [emb2_val]; omega), ht, col2]

theorem mem1 (y : S256x512.Idx) (k : Fin k0_t1_loop.trips) (inb) (h : (y 0).val = 255 - 2 * k.val) :
    y ∈ (Rect.unit (s := S256x512) (k0_off1 k) S1x512.size inb).set := by
  rw [Rect.mem_set_unit]
  have h1 : (y 1).val < 512 := (y 1).isLt
  intro a
  rw [off1_eq]
  match a with
  | ⟨0, _⟩ => show 255 - 2 * k.val ≤ (y 0).val ∧ (y 0).val < 255 - 2 * k.val + 1; omega
  | ⟨1, _⟩ => show 0 ≤ (y 1).val ∧ (y 1).val < 0 + 512; omega
theorem mem2 (y : S256x512.Idx) (k : Fin k0_t1_loop.trips) (inb) (h : (y 0).val = 254 - 2 * k.val) :
    y ∈ (Rect.unit (s := S256x512) (k0_off2 k) S1x512.size inb).set := by
  rw [Rect.mem_set_unit]
  have h1 : (y 1).val < 512 := (y 1).isLt
  intro a
  rw [off2_eq]
  match a with
  | ⟨0, _⟩ => show 254 - 2 * k.val ≤ (y 0).val ∧ (y 0).val < 254 - 2 * k.val + 1; omega
  | ⟨1, _⟩ => show 0 ≤ (y 1).val ∧ (y 1).val < 0 + 512; omega

/-! ## The loop's state -/

/-- What the trips before `n` hand the next one, from `init`. -/
def carryAt (x1 x2 : Vec F S256x512 .f32) (init : Vec F S1x512 .f32) : ℕ → Vec F S1x512 .f32
  | 0 => init
  | n + 1 => if h : n < k0_t1_loop.trips then
      k0_pay7 (carryAt x1 x2 init n) (row1 ⟨n, h⟩ x1) (row2 ⟨n, h⟩ x1) (row1 ⟨n, h⟩ x2) (row2 ⟨n, h⟩ x2)
    else carryAt x1 x2 init n

theorem carryAt_succ (x1 x2 : Vec F S256x512 .f32) (init : Vec F S1x512 .f32) (k : Fin k0_t1_loop.trips) :
    carryAt x1 x2 init (k.val + 1)
      = k0_pay7 (carryAt x1 x2 init k.val) (row1 k x1) (row2 k x1) (row1 k x2) (row2 k x2) := dif_pos k.isLt

/-- The block of the drive's gradient, and the block of the decay's. -/
def driveBlock (x1 x2 : Vec F S256x512 .f32) (init : Vec F S1x512 .f32) : Vec F S256x512 .f32 :=
  rowsOf (fun k => k0_pay2 (carryAt x1 x2 init k.val) (row1 k x2))
    (fun k => k0_pay4 (carryAt x1 x2 init k.val) (row1 k x1) (row1 k x2) (row2 k x2))
def decayBlock (x1 x2 x3 : Vec F S256x512 .f32) (init : Vec F S1x512 .f32) : Vec F S256x512 .f32 :=
  rowsOf (fun k => k0_pay5 (carryAt x1 x2 init k.val) (row1 k x2) (row1 k x3))
    (fun k => k0_pay6 (carryAt x1 x2 init k.val) (row1 k x1) (row1 k x2) (row2 k x2) (row2 k x3))

theorem decay_first (x1 x2 x3 : Vec F S256x512 .f32) (init : Vec F S1x512 .f32) (k : Fin k0_t1_loop.trips) (inb) (x : S1x512.Idx) :
    k0_pay5 (carryAt x1 x2 init k.val) (row1 k x2) (row1 k x3) x
      = decayBlock x1 x2 x3 init ((Rect.unit (s := S256x512) (k0_off1 k) S1x512.size inb).emb x) :=
  (rowsOf_emb1 (fun k => k0_pay5 (carryAt x1 x2 init k.val) (row1 k x2) (row1 k x3)) _ k inb x).symm
theorem decay_second (x1 x2 x3 : Vec F S256x512 .f32) (init : Vec F S1x512 .f32) (k : Fin k0_t1_loop.trips) (inb) (x : S1x512.Idx) :
    k0_pay6 (carryAt x1 x2 init k.val) (row1 k x1) (row1 k x2) (row2 k x2) (row2 k x3) x
      = decayBlock x1 x2 x3 init ((Rect.unit (s := S256x512) (k0_off2 k) S1x512.size inb).emb x) :=
  (rowsOf_emb2 _ (fun k => k0_pay6 (carryAt x1 x2 init k.val) (row1 k x1) (row1 k x2) (row2 k x2) (row2 k x3)) k inb x).symm
theorem drive_first (x1 x2 : Vec F S256x512 .f32) (init : Vec F S1x512 .f32) (k : Fin k0_t1_loop.trips) (inb) (x : S1x512.Idx) :
    k0_pay2 (carryAt x1 x2 init k.val) (row1 k x2) x
      = driveBlock x1 x2 init ((Rect.unit (s := S256x512) (k0_off1 k) S1x512.size inb).emb x) :=
  (rowsOf_emb1 (fun k => k0_pay2 (carryAt x1 x2 init k.val) (row1 k x2)) _ k inb x).symm
theorem drive_second (x1 x2 : Vec F S256x512 .f32) (init : Vec F S1x512 .f32) (k : Fin k0_t1_loop.trips) (inb) (x : S1x512.Idx) :
    k0_pay4 (carryAt x1 x2 init k.val) (row1 k x1) (row1 k x2) (row2 k x2) x
      = driveBlock x1 x2 init ((Rect.unit (s := S256x512) (k0_off2 k) S1x512.size inb).emb x) :=
  (rowsOf_emb2 _ (fun k => k0_pay4 (carryAt x1 x2 init k.val) (row1 k x1) (row1 k x2) (row2 k x2)) k inb x).symm

section State
variable (c : Dev nD) (i : grid0.Coords)
  (arg1 : Memref sig .tc .vmem S256x512 .f32) (harg1 : arg1.IsWhole) (arg2 : Memref sig .tc .vmem S256x512 .f32) (harg2 : arg2.IsWhole)
  (arg3 : Memref sig .tc .vmem S256x512 .f32) (harg3 : arg3.IsWhole) (arg4 : Memref sig .tc .vmem S256x512 .f32) (harg4 : arg4.IsWhole)
  (arg5 : Memref sig .tc .vmem S256x512 .f32) (harg5 : arg5.IsWhole) (arg6 : Memref sig .tc .vmem S1x512 .f32) (harg6 : arg6.IsWhole)
  (x1 x2 x3 : Vec F S256x512 .f32) (init : Vec F S1x512 .f32)

/-- The state before trip `n`: what is carried; the pieces of the two outputs, each a part of its block; and the rows they fill. -/
theorem state_before : ∀ n : ℕ, n ≤ k0_t1_loop.trips →
    (st_k0_t1 (F := F) Variants.none c none i arg1 harg1 arg2 harg2 arg3 harg3 arg4 harg4 arg5 harg5 arg6 harg6
        (harg1.unread x1) (harg2.unread x2) (harg3.unread x3) init n).1 = carryAt x1 x2 init n
    ∧ (∀ p ∈ (st_k0_t1 (F := F) Variants.none c none i arg1 harg1 arg2 harg2 arg3 harg3 arg4 harg4 arg5 harg5 arg6 harg6
        (harg1.unread x1) (harg2.unread x2) (harg3.unread x3) init n).2.1,
        ∀ x : p.1.shape.Idx, p.2 x = decayBlock x1 x2 x3 init (p.1.emb x))
    ∧ (∀ p ∈ (st_k0_t1 (F := F) Variants.none c none i arg1 harg1 arg2 harg2 arg3 harg3 arg4 harg4 arg5 harg5 arg6 harg6
        (harg1.unread x1) (harg2.unread x2) (harg3.unread x3) init n).2.2,
        ∀ x : p.1.shape.Idx, p.2 x = driveBlock x1 x2 init (p.1.emb x))
    ∧ (∀ y : S256x512.Idx, 256 - 2 * n ≤ (y 0).val →
        (∃ p ∈ (st_k0_t1 (F := F) Variants.none c none i arg1 harg1 arg2 harg2 arg3 harg3 arg4 harg4 arg5 harg5 arg6 harg6
          (harg1.unread x1) (harg2.unread x2) (harg3.unread x3) init n).2.1, y ∈ p.1.set)
        ∧ (∃ p ∈ (st_k0_t1 (F := F) Variants.none c none i arg1 harg1 arg2 harg2 arg3 harg3 arg4 harg4 arg5 harg5 arg6 harg6
          (harg1.unread x1) (harg2.unread x2) (harg3.unread x3) init n).2.2, y ∈ p.1.set))
  | 0, _ => ⟨rfl, fun p hp => absurd hp List.not_mem_nil, fun p hp => absurd hp List.not_mem_nil,
      fun y hy => absurd hy (by have : (y 0).val < 256 := (y 0).isLt; omega)⟩
  | n + 1, hn => by
    obtain ⟨h1, h2, h3, h4⟩ := state_before n (Nat.le_of_succ_le hn)
    have hs := st_k0_t1_succ (F := F) Variants.none c none i arg1 harg1 arg2 harg2 arg3 harg3 arg4 harg4 arg5 harg5 arg6 harg6
      (harg1.unread x1) (harg2.unread x2) (harg3.unread x3) init ⟨n, hn⟩
    have hlt : n < 128 := lt_of_lt_of_eq hn trips_eq
    rw [trip_result, trip_pieces] at hs
    dsimp only at hs
    rw [h1] at hs
    rw [hs]
    refine ⟨?_, ?_, ?_, ?_⟩
    · show _ = carryAt x1 x2 init (n + 1)
      exact (carryAt_succ x1 x2 init ⟨n, hn⟩).symm
    · intro p hp
      rcases List.mem_append.mp hp with hp | hp
      · rcases List.mem_cons.mp hp with rfl | hp
        · intro x; exact decay_second x1 x2 x3 init ⟨n, hn⟩ (k0_off2_inb ⟨n, hn⟩) x
        · rcases List.mem_cons.mp hp with rfl | hp
          · intro x; exact decay_first x1 x2 x3 init ⟨n, hn⟩ (k0_off1_inb ⟨n, hn⟩) x
          · exact absurd hp List.not_mem_nil
      · exact h2 p hp
    · intro p hp
      rcases List.mem_append.mp hp with hp | hp
      · rcases List.mem_cons.mp hp with rfl | hp
        · intro x; exact drive_second x1 x2 init ⟨n, hn⟩ (k0_off2_inb ⟨n, hn⟩) x
        · rcases List.mem_cons.mp hp with rfl | hp
          · intro x; exact drive_first x1 x2 init ⟨n, hn⟩ (k0_off1_inb ⟨n, hn⟩) x
          · exact absurd hp List.not_mem_nil
      · exact h3 p hp
    · intro y hy
      by_cases hb : 256 - 2 * n ≤ (y 0).val
      · obtain ⟨⟨p, hp, hy1⟩, ⟨q, hq, hy2⟩⟩ := h4 y hb
        exact ⟨⟨p, List.mem_append_right _ hp, hy1⟩, ⟨q, List.mem_append_right _ hq, hy2⟩⟩
      · by_cases h255 : (y 0).val = 255 - 2 * n
        · exact ⟨⟨_, List.mem_append_left _ (List.mem_cons_of_mem _ List.mem_cons_self), mem1 y ⟨n, hn⟩ (k0_off1_inb ⟨n, hn⟩) h255⟩,
            ⟨_, List.mem_append_left _ (List.mem_cons_of_mem _ List.mem_cons_self), mem1 y ⟨n, hn⟩ (k0_off1_inb ⟨n, hn⟩) h255⟩⟩
        · have h254 : (y 0).val = 254 - 2 * n := by omega
          exact ⟨⟨_, List.mem_append_left _ List.mem_cons_self, mem2 y ⟨n, hn⟩ (k0_off2_inb ⟨n, hn⟩) h254⟩,
            ⟨_, List.mem_append_left _ List.mem_cons_self, mem2 y ⟨n, hn⟩ (k0_off2_inb ⟨n, hn⟩) h254⟩⟩

/-- After the last trip the decay's gradient fills its block, -/
theorem decay_read (f : BufTy.Contents (Elt F) arg4.view.ty) :
    arg4.view.read (Elt F) (arg4.view.writes (Elt F) f (st_k0_t1 (F := F) Variants.none c none i arg1 harg1 arg2 harg2 arg3 harg3 arg4 harg4
        arg5 harg5 arg6 harg6 (harg1.unread x1) (harg2.unread x2) (harg3.unread x3) init k0_t1_loop.trips).2.1)
      = decayBlock x1 x2 x3 init := by
  obtain ⟨-, h2, -, h4⟩ := state_before c i arg1 harg1 arg2 harg2 arg3 harg3 arg4 harg4 arg5 harg5 arg6 harg6 x1 x2 x3 init _ le_rfl
  funext y
  exact View.read_writes_apply_of_pieces _ _ _ _ h2 y (h4 y (by rw [trips_eq]; omega)).1

/-- and the drive's gradient its own; -/
theorem drive_read (f : BufTy.Contents (Elt F) arg5.view.ty) :
    arg5.view.read (Elt F) (arg5.view.writes (Elt F) f (st_k0_t1 (F := F) Variants.none c none i arg1 harg1 arg2 harg2 arg3 harg3 arg4 harg4
        arg5 harg5 arg6 harg6 (harg1.unread x1) (harg2.unread x2) (harg3.unread x3) init k0_t1_loop.trips).2.2)
      = driveBlock x1 x2 init := by
  obtain ⟨-, -, h3, h4⟩ := state_before c i arg1 harg1 arg2 harg2 arg3 harg3 arg4 harg4 arg5 harg5 arg6 harg6 x1 x2 x3 init _ le_rfl
  funext y
  exact View.read_writes_apply_of_pieces _ _ _ _ h3 y (h4 y (by rw [trips_eq]; omega)).2

/-- the carried row is the one after 128 trips. -/
theorem carry_last :
    (st_k0_t1 (F := F) Variants.none c none i arg1 harg1 arg2 harg2 arg3 harg3 arg4 harg4
        arg5 harg5 arg6 harg6 (harg1.unread x1) (harg2.unread x2) (harg3.unread x3) init k0_t1_loop.trips).1
      = carryAt x1 x2 init 128 := by
  have h := (state_before c i arg1 harg1 arg2 harg2 arg3 harg3 arg4 harg4 arg5 harg5 arg6 harg6 x1 x2 x3 init _ le_rfl).1
  rw [h, trips_eq]

end State
end Cert.Proof.Scan
end
-- ==== Proof.ScanRun.lean ====
/- One grid point of the backward recurrence's kernel on any staging buffers: what it leaves in the two outputs and in the carried row. -/
module

public import proofs.«01_k».proof.Proof.ScanTrip
public import proofs.«01_k».proof.Proof.Gen.ScanBwdIdeal.Frame
public import Idealize.ShloMosaic.Lib.WritesUnit
public import Idealize.ShloMosaic.Lib.Claim

@[expose] public section

set_option maxRecDepth 16384

noncomputable section

namespace Cert.Proof.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanBwdIdeal Cert.ScanBwdIdeal.Gen

variable {F : FTy → Type} [FloatOps F]

local notation "𝕄" => MT nD τ sig Unit (Elt F) ℕ (UR sig nD τ) ℕ

/-- The first point, and no other, starts the carried row at zero. -/
abbrev starts (i : grid0.Coords) : Prop := (Scalar.cmpi .ne (Scalar.extui (Scalar.cmpi .eq (BitVec.ofNat 32 (i 0).val) 0#32)) 0#32) = 1#1
theorem starts_iff : ∀ t : Fin cfg0.N, starts (grid0.coords t) ↔ t.val = 0 :=
  (fun t => by
    have ht : t.val < 17 := Nat.lt_of_lt_of_eq t.isLt N_0
    have e0 : (grid0.coords t 0).val = t.val / 1 % 17 := Pipeline.Grid.coords_val t 0 (by decide) rfl
    simp only [starts, e0]
    word_cmp
   : ∀ t : Fin grid0.N, starts (grid0.coords t) ↔ t.val = 0)

theorem off_zero : (![0, 0] : Fin 2 → Nat) = fun _ => 0 := funext fun a => by fin_cases a <;> rfl

/-- A store of the whole row, last, is what the row holds. -/
theorem row_stored (arg6 : Memref sig .tc .vmem S1x512 .f32) (f : BufTy.Contents (Elt F) arg6.view.ty) (w : Vec F S1x512 .f32)
    (L : List (View.Piece (Elt F) S1x512 .f32)) :
    arg6.view.read (Elt F) (arg6.view.writes (Elt F) f
      (⟨Rect.unit (s := S1x512) ![0, 0] S1x512.size inb_S1x512_S1x512_0_0, w⟩ :: L)) = w :=
  funext fun y => View.read_writes_cons_unit_of_mem (off' := fun _ => 0) arg6.view f inb_S1x512_S1x512_0_0 w L y y off_zero fun a =>
    (Nat.zero_add _).symm
/-- A load of the whole row reads what it holds. -/
theorem row_loaded (arg6 : Memref sig .tc .vmem S1x512 .f32) (harg6 : arg6.IsWhole) (xs : Vec F S1x512 .f32) :
    View.readAt (Elt F) arg6.view (Rect.unit (s := S1x512) ![0, 0] S1x512.size inb_S1x512_S1x512_0_0).toLoadRect (harg6.unread xs) = xs := by
  rw [View.readAt_eq_ld, harg6.read_unread, View.ld_unit_zero (S := S1x512) off_zero]
/-- Storing the carried row stores it as it is. -/
theorem pay8_eq (v : Vec F S1x512 .f32) : k0_pay8 v = v := by
  unfold k0_pay8
  exact shapeCast_self _ _

section Point
variable (c : Dev nD) (i : grid0.Coords)
  (arg1 : Memref sig .tc .vmem S256x512 .f32) (harg1 : arg1.IsWhole) (arg2 : Memref sig .tc .vmem S256x512 .f32) (harg2 : arg2.IsWhole)
  (arg3 : Memref sig .tc .vmem S256x512 .f32) (harg3 : arg3.IsWhole) (arg4 : Memref sig .tc .vmem S256x512 .f32) (harg4 : arg4.IsWhole)
  (arg5 : Memref sig .tc .vmem S256x512 .f32) (harg5 : arg5.IsWhole) (arg6 : Memref sig .tc .vmem S1x512 .f32) (harg6 : arg6.IsWhole)
  (x1 x2 x3 : Vec F S256x512 .f32) (xs : Vec F S1x512 .f32)

set_option maxHeartbeats 1000000 in
/-- The first point: the row starts at zero. -/
theorem point_first (hc0 : starts i) (E : Set ℕ) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (decayBlock x1 x2 x3 k0_pay1) ∗ owns (c : Thread nD τ) arg5 fullShare (driveBlock x1 x2 k0_pay1)
            ∗ owns (c : Thread nD τ) arg6 fullShare (carryAt x1 x2 k0_pay1 128)) -∗ K ⟨⟩))
      ⊢ wp frame (wpE (defs₀ (F := F)) Variants.none c none) E
          (cc0_lru_scan0_bwd i arg1 harg1 arg2 harg2 arg3 harg3 arg4 harg4 arg5 harg5 arg6 harg6) K := by
  simp only [cc0_lru_scan0_bwd_eq_skeleton]; unfold cc0_lru_scan0_bwd_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.readCov_unit_zero (S := S1x512) _ off_zero]
    exact decay_read c i arg1 harg1 arg2 harg2 arg3 harg3 arg4 harg4 arg5 harg5 arg6 harg6 x1 x2 x3 _ _
  isplitl [H4]
  · iexists _; isplitr
    swap; · iexact H4
    ipureintro
    sl_unfold_words
    rw [View.readCov_unit_zero (S := S1x512) _ off_zero]
    exact drive_read c i arg1 harg1 arg2 harg2 arg3 harg3 arg4 harg4 arg5 harg5 arg6 harg6 x1 x2 x3 _ _
  iexists _; isplitr
  swap; · iexact HS0
  ipureintro
  sl_unfold_words
  rw [View.readCov_unit_zero (S := S1x512) _ off_zero, row_stored, pay8_eq]
  exact carry_last c i arg1 harg1 arg2 harg2 arg3 harg3 arg4 harg4 arg5 harg5 arg6 harg6 x1 x2 x3 _

set_option maxHeartbeats 1000000 in
/-- Any other point: the row is what the point before left. -/
theorem point_next (hc0 : ¬starts i) (E : Set ℕ) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare (decayBlock x1 x2 x3 xs) ∗ owns (c : Thread nD τ) arg5 fullShare (driveBlock x1 x2 xs)
            ∗ owns (c : Thread nD τ) arg6 fullShare (carryAt x1 x2 xs 128)) -∗ K ⟨⟩))
      ⊢ wp frame (wpE (defs₀ (F := F)) Variants.none c none) E
          (cc0_lru_scan0_bwd i arg1 harg1 arg2 harg2 arg3 harg3 arg4 harg4 arg5 harg5 arg6 harg6) K := by
  simp only [cc0_lru_scan0_bwd_eq_skeleton]; unfold cc0_lru_scan0_bwd_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
  obtain rfl := harg1.eq_unread hf0; obtain rfl := harg2.eq_unread hf1; obtain rfl := harg3.eq_unread hf2; obtain rfl := harg6.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [row_loaded]
    exact decay_read c i arg1 harg1 arg2 harg2 arg3 harg3 arg4 harg4 arg5 harg5 arg6 harg6 x1 x2 x3 _ _
  isplitl [H4]
  · iexists _; isplitr
    swap; · iexact H4
    ipureintro
    rw [row_loaded]
    exact drive_read c i arg1 harg1 arg2 harg2 arg3 harg3 arg4 harg4 arg5 harg5 arg6 harg6 x1 x2 x3 _ _
  iexists _; isplitr
  swap; · iexact HS0
  ipureintro
  rw [row_loaded, row_stored, pay8_eq]
  exact carry_last c i arg1 harg1 arg2 harg2 arg3 harg3 arg4 harg4 arg5 harg5 arg6 harg6 x1 x2 x3 _

end Point
end Cert.Proof.Scan
end
-- ==== Proof.ScanGrid.lean ====
/- The backward recurrence's kernel over its grid: the carried row from point to point, the run, and its frame. -/
module

public import proofs.«01_k».proof.Proof.ScanRun
public import Idealize.ShloMosaic.Lib.Claim

@[expose] public section

set_option maxRecDepth 16384

noncomputable section

namespace Cert.Proof.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanBwdIdeal Cert.ScanBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried row after the first `n` points. -/
def rowAfter (c : Dev nD) : ℕ → Vec F S1x512 .f32
  | 0 => k0_pay1
  | n + 1 => if h : n < cfg0.N then carryAt (iblk m c 0 ⟨n, h⟩) (iblk m c 1 ⟨n, h⟩) (rowAfter c n) 128 else rowAfter c n
theorem rowAfter_succ (c : Dev nD) (t : Fin cfg0.N) :
    rowAfter m c (t.val + 1) = carryAt (iblk m c 0 t) (iblk m c 1 t) (rowAfter m c t.val) 128 := dif_pos t.isLt

/-- The staging buffers at a point, and the carried row's buffer. -/
abbrev st0 (t : Fin cfg0.N) : Memref sig .tc .vmem S256x512 .f32 := win0_0.stage (cfg0.slots t 0)
abbrev st1 (t : Fin cfg0.N) : Memref sig .tc .vmem S256x512 .f32 := win0_1.stage (cfg0.slots t 1)
abbrev st2 (t : Fin cfg0.N) : Memref sig .tc .vmem S256x512 .f32 := win0_2.stage (cfg0.slots t 2)
abbrev st3 (t : Fin cfg0.N) : Memref sig .tc .vmem S256x512 .f32 := win0_3.stage (cfg0.slots t 3)
abbrev st4 (t : Fin cfg0.N) : Memref sig .tc .vmem S256x512 .f32 := win0_4.stage (cfg0.slots t 4)
abbrev rowRef : Memref sig .tc .vmem S1x512 .f32 := Memref.whole cc0_scratch0

theorem entry_eq (c : Dev nD) :
    (Pipeline.ΦA spec0 c : sProp 𝕄)
      = iprop(iprop((∃ d, owns (c : Thread nD τ) rowRef fullShare d)) ∗ (∃ r, prngReg c r)) := by
  unfold Pipeline.ΦA; rw [scopedRest0_eq]; simp only [rowRef, owns_whole]; try rfl

/-- What the kernel owns between points: the carried row at its value. -/
def between (c : Dev nD) : ℕ → sProp 𝕄
  | 0 => Pipeline.ΦA spec0 c
  | n + 1 => iprop(iprop(owns (c : Thread nD τ) rowRef fullShare (rowAfter m c (n + 1))) ∗ (∃ r, prngReg c r))
theorem between_pos (c : Dev nD) (n : ℕ) (h : n ≠ 0) :
    between m c n = iprop(iprop(owns (c : Thread nD τ) rowRef fullShare (rowAfter m c n)) ∗ (∃ r, prngReg c r)) := by
  cases n with
  | zero => exact absurd rfl h
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => decayBlock (iblk m c 0 t) (iblk m c 1 t) (iblk m c 2 t) (rowAfter m c t.val)
    | ⟨4, _⟩ => driveBlock (iblk m c 0 t) (iblk m c 1 t) (rowAfter m c t.val)
  Φ t := between m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = between m c t.val := by
  dsimp only [dats]; rfl
theorem Phi_succ (c : Dev nD) (t : Fin cfg0.N) : (dats m 0 c).Φ t.succ = between m c (t.val + 1) := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = decayBlock (iblk m c 0 t) (iblk m c 1 t) (iblk m c 2 t) (rowAfter m c t.val) := by dsimp only [dats]
theorem after_4 (c : Dev nD) (t : Fin cfg0.N) :
    (dats m 0 c).after 4 t = driveBlock (iblk m c 0 t) (iblk m c 1 t) (rowAfter m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What a point is called with, and what it returns. -/
def pointPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))
def pointPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

set_option maxHeartbeats 3200000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2]
  rw [show (dats m 0 c).owesAt () t.succ = (dats m 0 c).owesAt () t.castSucc from rfl, after_0, after_1, after_2, after_3, after_4,
    Phi_castSucc, Phi_succ, between_pos m c (t.val + 1) (Nat.succ_ne_zero _), rowAfter_succ]
  by_cases h0 : t.val = 0
  · rw [h0]
    show iprop(Pipeline.ΦA spec0 c ∗ _) ⊢ _
    rw [entry_eq]
    iintro ⟨⟨HS0, Hg⟩, Ho, ⟨%d0, H0⟩, ⟨%d1, H1⟩, ⟨%d2, H2⟩, ⟨%d3, H3⟩, ⟨%d4, H4⟩⟩
    iapply (point_first c (grid0.coords t) _ _ _ _ _ _ _ _ _ _ _ _ (iblk m c 0 t) (iblk m c 1 t) (iblk m c 2 t) ((starts_iff t).mpr h0) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [between_pos m c t.val h0]
    iintro ⟨⟨HS0, Hg⟩, Ho, ⟨%d0, H0⟩, ⟨%d1, H1⟩, ⟨%d2, H2⟩, ⟨%d3, H3⟩, ⟨%d4, H4⟩⟩
    iapply (point_next c (grid0.coords t) _ _ _ _ _ _ _ _ _ _ _ _ (iblk m c 0 t) (iblk m c 1 t) (iblk m c 2 t) (rowAfter m c t.val)
      (fun h => h0 ((starts_iff t).mp h)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, body_row]
  exact triple_restated (point_sound m c t) rfl .rfl fun _ => .rfl
theorem enter (c : Dev nD) : Pipeline.ΦA spec0 c ⊢ (dats m 0 c).Φ 0 := by
  rw [show (dats m 0 c).Φ 0 = between m c 0 from rfl]
  exact Idealize.SL.BI.Entails.refl _
theorem leave (c : Dev nD) : (dats m 0 c).Φ (Fin.last cfg0.N) ⊢ Pipeline.ΦA spec0 c := by
  rw [show (dats m 0 c).Φ (Fin.last cfg0.N) = between m c cfg0.N from rfl,
    between_pos m c _ (by have : cfg0.N = 17 := N_0; omega), entry_eq]
  iintro ⟨HS0, Hg⟩
  isplitl [HS0]
  · iexists _; iexact HS0
  iexact Hg

set_option backward.isDefEq.respectTransparency.types false in
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)
theorem run_post : θ_run defs (onTc (τ := τ) (main (F := F))) (s₀ m ρ) (Pipeline.FramePost cfgs (dats m) 0 (V m)) :=
  (θ_run defs _ _).mono (fun _ h => h.1) (run_all m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)
theorem frame_scan : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_all m ρ))

end Cert.Proof.Scan
end
-- ==== Proof.ScanValue.lean ====
/- The values of the backward recurrence's kernel: two rows a trip, and the result is the recurrence taken one row at a time. -/
module

public import proofs.«01_k».proof.Proof.ScanGrid
public import Idealize.ShloMosaic.Lib.Pipeline.Value
public import Idealize.ShloMosaic.Lib.Pointwise

@[expose] public section

set_option maxRecDepth 16384

noncomputable section

namespace Cert.Proof.Scan

open Cert.ScanBwdIdeal Cert.ScanBwdIdeal.Gen Idealize.ShloMosaic Idealize.ShloMosaic.TcCoe Idealize.SL.Sem
open Idealize.ShloMosaic.Pipeline (Dat)

/-! ## The recurrence, one row at a time from the last row down -/

/-- The row that step `n` takes. -/
def rowNo (n : ℕ) : Fin 4352 := ⟨4351 - n, by omega⟩

/-- What the steps before `n` hand the next, in column `q`. -/
def carry (a dh : Vec Ideal S4352x512 .f32) (q : Fin 512) : ℕ → Ideal FTy.f32
  | 0 => FloatOps.ofBits .f32 0x00000000#32
  | n + 1 => (a (ix2 (rowNo n) q) : EReal) * ((carry a dh q n : EReal) + (dh (ix2 (rowNo n) q) : EReal))

def goalDrive (a dh : Vec Ideal S4352x512 .f32) : Vec Ideal S4352x512 .f32 :=
  fun i => (carry a dh (i 1) (4351 - (i 0).val) : EReal) + (dh i : EReal)
def goalDecay (a dh hp : Vec Ideal S4352x512 .f32) : Vec Ideal S4352x512 .f32 :=
  fun i => (goalDrive a dh i : EReal) * (hp i : EReal)

/-- The decay is a number that is not negative: over such a factor a product distributes over a sum. -/
def InRange (a : Vec Ideal S4352x512 .f32) : Prop := ∀ i, 0 ≤ (a i : EReal) ∧ (a i : EReal) ≠ ⊤

/-- Two rows at once: the sums the kernel forms first are the recurrence's two steps. -/
theorem second_row (a1 x1 x2 c : EReal) (h : 0 ≤ a1) (h' : a1 ≠ ⊤) : x2 + a1 * x1 + a1 * c = a1 * (c + x1) + x2 := by
  rw [EReal.left_distrib_of_nonneg_of_ne_top h h', add_assoc, add_comm (a1 * x1), add_comm]
theorem two_rows (a1 a2 x1 x2 c : EReal) (h : 0 ≤ a1) (h' : a1 ≠ ⊤) (k : 0 ≤ a2) (k' : a2 ≠ ⊤) :
    a2 * (x2 + a1 * x1) + a2 * a1 * c = a2 * (a1 * (c + x1) + x2) := by
  rw [← second_row a1 x1 x2 c h h', EReal.left_distrib_of_nonneg_of_ne_top k k' (x2 + a1 * x1) (a1 * c), mul_assoc]

/-! ## The blocks -/

section Blocks
variable (m : (ℓ : Loc nD τ sig) → Buf (Elt Ideal) ℓ) (c : Dev nD)

abbrev A0 : Vec Ideal S4352x512 .f32 := m ((c : Thread nD τ).loc main_arg0)
abbrev A1 : Vec Ideal S4352x512 .f32 := m ((c : Thread nD τ).loc main_arg1)
abbrev A2 : Vec Ideal S4352x512 .f32 := m ((c : Thread nD τ).loc main_arg2)

abbrev blockRow (t : Fin cfg0.N) (p : Fin 256) : Fin 4352 :=
  ⟨(16 - t.val) * 256 + p.val, by have := t.isLt; have : cfg0.N = 17 := N_0; omega⟩

theorem idx0 : ∀ t : Fin cfg0.N, win0_0.index t (0 : Fin 2) = 16 - t.val ∧ win0_0.index t (1 : Fin 2) = 0 :=
  (by decide +kernel : ∀ t : Fin grid0.N, win0_0.index t (0 : Fin 2) = 16 - t.val ∧ win0_0.index t (1 : Fin 2) = 0)
theorem read0 (t : Fin cfg0.N) (p : Fin 256) (q : Fin 512) :
    (iblk m c 0 t : Vec Ideal S256x512 .f32) (ix2 p q) = A0 m c (ix2 (blockRow t p) q) := by
  unfold iblk
  rw [View.read_apply]
  show V m c main_arg0 _ = _
  rw [V_main_arg0]
  congr 1
  funext x
  apply Fin.ext
  match x with
  | ⟨0, _⟩ => show win0_0.index t (0 : Fin 2) * 256 + 1 * p.val = (16 - t.val) * 256 + p.val; rw [(idx0 t).1]; omega
  | ⟨1, _⟩ => show win0_0.index t (1 : Fin 2) * 512 + 1 * q.val = q.val; rw [(idx0 t).2]; omega

theorem idx1 : ∀ t : Fin cfg0.N, win0_1.index t (0 : Fin 2) = 16 - t.val ∧ win0_1.index t (1 : Fin 2) = 0 :=
  (by decide +kernel : ∀ t : Fin grid0.N, win0_1.index t (0 : Fin 2) = 16 - t.val ∧ win0_1.index t (1 : Fin 2) = 0)
theorem read1 (t : Fin cfg0.N) (p : Fin 256) (q : Fin 512) :
    (iblk m c 1 t : Vec Ideal S256x512 .f32) (ix2 p q) = A1 m c (ix2 (blockRow t p) q) := by
  unfold iblk
  rw [View.read_apply]
  show V m c main_arg1 _ = _
  rw [V_main_arg1]
  congr 1
  funext x
  apply Fin.ext
  match x with
  | ⟨0, _⟩ => show win0_1.index t (0 : Fin 2) * 256 + 1 * p.val = (16 - t.val) * 256 + p.val; rw [(idx1 t).1]; omega
  | ⟨1, _⟩ => show win0_1.index t (1 : Fin 2) * 512 + 1 * q.val = q.val; rw [(idx1 t).2]; omega

theorem idx2 : ∀ t : Fin cfg0.N, win0_2.index t (0 : Fin 2) = 16 - t.val ∧ win0_2.index t (1 : Fin 2) = 0 :=
  (by decide +kernel : ∀ t : Fin grid0.N, win0_2.index t (0 : Fin 2) = 16 - t.val ∧ win0_2.index t (1 : Fin 2) = 0)
theorem read2 (t : Fin cfg0.N) (p : Fin 256) (q : Fin 512) :
    (iblk m c 2 t : Vec Ideal S256x512 .f32) (ix2 p q) = A2 m c (ix2 (blockRow t p) q) := by
  unfold iblk
  rw [View.read_apply]
  show V m c main_arg2 _ = _
  rw [V_main_arg2]
  congr 1
  funext x
  apply Fin.ext
  match x with
  | ⟨0, _⟩ => show win0_2.index t (0 : Fin 2) * 256 + 1 * p.val = (16 - t.val) * 256 + p.val; rw [(idx2 t).1]; omega
  | ⟨1, _⟩ => show win0_2.index t (1 : Fin 2) * 512 + 1 * q.val = q.val; rw [(idx2 t).2]; omega

/-- The rows a trip reads. -/
abbrev lower (k : Fin k0_t1_loop.trips) : Fin 256 := ⟨255 - 2 * k.val, by omega⟩
abbrev upper (k : Fin k0_t1_loop.trips) : Fin 256 := ⟨254 - 2 * k.val, by omega⟩
theorem row1_apply (k : Fin k0_t1_loop.trips) (x : Vec Ideal S256x512 .f32) (q : Fin 512) :
    row1 k x (ix2 0 q) = x (ix2 (lower k) q) := by
  show x ((Rect.unit (s := S256x512) (k0_off1 k) S1x512.size (k0_off1_inb k)).emb (ix2 0 q)) = _
  congr 1
  funext a
  apply Fin.ext
  match a with
  | ⟨0, _⟩ => exact emb1_val k _ _
  | ⟨1, _⟩ => show (k0_off1 k) 1 + 1 * q.val = q.val; rw [off1_eq]; show 0 + 1 * q.val = q.val; omega
theorem row2_apply (k : Fin k0_t1_loop.trips) (x : Vec Ideal S256x512 .f32) (q : Fin 512) :
    row2 k x (ix2 0 q) = x (ix2 (upper k) q) := by
  show x ((Rect.unit (s := S256x512) (k0_off2 k) S1x512.size (k0_off2_inb k)).emb (ix2 0 q)) = _
  congr 1
  funext a
  apply Fin.ext
  match a with
  | ⟨0, _⟩ => exact emb2_val k _ _
  | ⟨1, _⟩ => show (k0_off2 k) 1 + 1 * q.val = q.val; rw [off2_eq]; show 0 + 1 * q.val = q.val; omega

theorem lower_row (t : Fin cfg0.N) (k : Fin k0_t1_loop.trips) : blockRow t (lower k) = rowNo (256 * t.val + 2 * k.val) := by
  have hk : k.val < 128 := lt_of_lt_of_eq k.isLt trips_eq
  have ht : t.val < 17 := lt_of_lt_of_eq t.isLt N_0
  exact Fin.ext (by show (16 - t.val) * 256 + (255 - 2 * k.val) = 4351 - (256 * t.val + 2 * k.val); omega)
theorem upper_row (t : Fin cfg0.N) (k : Fin k0_t1_loop.trips) : blockRow t (upper k) = rowNo (256 * t.val + 2 * k.val + 1) := by
  have hk : k.val < 128 := lt_of_lt_of_eq k.isLt trips_eq
  have ht : t.val < 17 := lt_of_lt_of_eq t.isLt N_0
  exact Fin.ext (by show (16 - t.val) * 256 + (254 - 2 * k.val) = 4351 - (256 * t.val + 2 * k.val + 1); omega)

/-- The carried row inside a block is the recurrence's, two steps a trip. -/
theorem carryAt_apply (h : InRange (A0 m c)) (t : Fin cfg0.N) (init : Vec Ideal S1x512 .f32) (q : Fin 512)
    (hi : init (ix2 0 q) = carry (A0 m c) (A1 m c) q (256 * t.val)) :
    ∀ n : ℕ, n ≤ 128 → carryAt (iblk m c 0 t) (iblk m c 1 t) init n (ix2 0 q) = carry (A0 m c) (A1 m c) q (256 * t.val + 2 * n)
  | 0, _ => hi
  | n + 1, hn => by
    have hk : n < k0_t1_loop.trips := by rw [trips_eq]; omega
    rw [carryAt_succ (iblk m c 0 t) (iblk m c 1 t) init ⟨n, hk⟩]
    show (row2 ⟨n, hk⟩ (iblk m c 0 t) (ix2 0 q) : EReal) * ((row2 ⟨n, hk⟩ (iblk m c 1 t) (ix2 0 q) : EReal)
        + (row1 ⟨n, hk⟩ (iblk m c 0 t) (ix2 0 q) : EReal) * (row1 ⟨n, hk⟩ (iblk m c 1 t) (ix2 0 q) : EReal))
      + (row2 ⟨n, hk⟩ (iblk m c 0 t) (ix2 0 q) : EReal) * (row1 ⟨n, hk⟩ (iblk m c 0 t) (ix2 0 q) : EReal)
        * (carryAt (iblk m c 0 t) (iblk m c 1 t) init n (ix2 0 q) : EReal) = _
    rw [row1_apply, row1_apply, row2_apply, row2_apply, read0, read0, read1, read1, lower_row, upper_row,
      carryAt_apply h t init q hi n (by omega)]
    exact two_rows _ _ _ _ _ (h _).1 (h _).2 (h _).1 (h _).2

/-- From block to block too. -/
theorem rowAfter_apply (h : InRange (A0 m c)) (q : Fin 512) :
    ∀ n : ℕ, n ≤ 17 → rowAfter m c n (ix2 0 q) = carry (A0 m c) (A1 m c) q (256 * n)
  | 0, _ => rfl
  | n + 1, hn => by
    have ht : n < cfg0.N := by have : cfg0.N = 17 := N_0; omega
    rw [rowAfter_succ m c ⟨n, ht⟩]
    exact carryAt_apply m c h ⟨n, ht⟩ _ q (rowAfter_apply h q n (by omega)) 128 le_rfl

theorem colOf_ix (p : Fin 256) (q : Fin 512) : colOf (ix2 p q) = (ix2 0 q : S1x512.Idx) := by
  funext a
  match a with
  | ⟨0, _⟩ => rfl
  | ⟨1, _⟩ => rfl

theorem drive_block (h : InRange (A0 m c)) (t : Fin cfg0.N) (p : Fin 256) (q : Fin 512) :
    driveBlock (iblk m c 0 t) (iblk m c 1 t) (rowAfter m c t.val) (ix2 p q)
      = goalDrive (A0 m c) (A1 m c) (ix2 (blockRow t p) q) := by
  have ht : t.val < 17 := lt_of_lt_of_eq t.isLt N_0
  unfold driveBlock rowsOf goalDrive
  rw [colOf_ix]
  have hc := carryAt_apply m c h t (rowAfter m c t.val) q (rowAfter_apply m c h q _ (by omega)) (tripOf (ix2 p q)).val
    (by have := lt_of_lt_of_eq (tripOf (ix2 p q)).isLt trips_eq; omega)
  have hv : (tripOf (ix2 p q)).val = (255 - p.val) / 2 := rfl
  split
  · rename_i he
    have he : (255 - p.val) % 2 = 0 := he
    have hp : lower (tripOf (ix2 p q)) = p := Fin.ext (by show 255 - 2 * (tripOf (ix2 p q)).val = p.val; omega)
    show (row1 (tripOf (ix2 p q)) (iblk m c 1 t) (ix2 0 q) : EReal)
      + (carryAt (iblk m c 0 t) (iblk m c 1 t) (rowAfter m c t.val) (tripOf (ix2 p q)).val (ix2 0 q) : EReal) = _
    rw [row1_apply, hc, hp, read1, add_comm]
    show _ = (carry (A0 m c) (A1 m c) q (4351 - ((16 - t.val) * 256 + p.val)) : EReal) + _
    rw [show 4351 - ((16 - t.val) * 256 + p.val) = 256 * t.val + 2 * (tripOf (ix2 p q)).val by omega]
  · rename_i he
    have he : ¬(255 - p.val) % 2 = 0 := he
    have hp : upper (tripOf (ix2 p q)) = p := Fin.ext (by show 254 - 2 * (tripOf (ix2 p q)).val = p.val; omega)
    show (row2 (tripOf (ix2 p q)) (iblk m c 1 t) (ix2 0 q) : EReal)
      + (row1 (tripOf (ix2 p q)) (iblk m c 0 t) (ix2 0 q) : EReal) * (row1 (tripOf (ix2 p q)) (iblk m c 1 t) (ix2 0 q) : EReal)
      + (row1 (tripOf (ix2 p q)) (iblk m c 0 t) (ix2 0 q) : EReal)
        * (carryAt (iblk m c 0 t) (iblk m c 1 t) (rowAfter m c t.val) (tripOf (ix2 p q)).val (ix2 0 q) : EReal) = _
    rw [row1_apply, row1_apply, row2_apply, hc, hp, read0, read1, read1, lower_row, second_row _ _ _ _ (h _).1 (h _).2]
    show _ = (carry (A0 m c) (A1 m c) q (4351 - ((16 - t.val) * 256 + p.val)) : EReal) + _
    rw [show 4351 - ((16 - t.val) * 256 + p.val) = 256 * t.val + 2 * (tripOf (ix2 p q)).val + 1 by omega]
    rfl

/-- The decay's gradient is the drive's times the state before. -/
theorem decay_block (h : InRange (A0 m c)) (t : Fin cfg0.N) (p : Fin 256) (q : Fin 512) :
    decayBlock (iblk m c 0 t) (iblk m c 1 t) (iblk m c 2 t) (rowAfter m c t.val) (ix2 p q)
      = goalDecay (A0 m c) (A1 m c) (A2 m c) (ix2 (blockRow t p) q) := by
  have ht : t.val < 17 := lt_of_lt_of_eq t.isLt N_0
  unfold goalDecay
  rw [← drive_block m c h t p q, ← read2 m c t p q]
  unfold decayBlock driveBlock rowsOf
  rw [colOf_ix]
  have hv : (tripOf (ix2 p q)).val = (255 - p.val) / 2 := rfl
  by_cases he : (255 - ((ix2 p q : S256x512.Idx) 0).val) % 2 = 0
  · have he' : (255 - p.val) % 2 = 0 := he
    have hp : lower (tripOf (ix2 p q)) = p := Fin.ext (by show 255 - 2 * (tripOf (ix2 p q)).val = p.val; omega)
    rw [if_pos he, if_pos he]
    show (k0_pay2 (F := Ideal) _ _ (ix2 0 q) : EReal) * (row1 (tripOf (ix2 p q)) (iblk m c 2 t) (ix2 0 q) : EReal) = _
    rw [row1_apply, hp]
  · have he' : ¬(255 - p.val) % 2 = 0 := he
    have hp : upper (tripOf (ix2 p q)) = p := Fin.ext (by show 254 - 2 * (tripOf (ix2 p q)).val = p.val; omega)
    rw [if_neg he, if_neg he]
    show (k0_pay4 (F := Ideal) _ _ _ _ (ix2 0 q) : EReal) * (row2 (tripOf (ix2 p q)) (iblk m c 2 t) (ix2 0 q) : EReal) = _
    rw [row2_apply, hp]

/-! ## The result arrays -/

theorem idx3 : ∀ t : Fin cfg0.N, win0_3.index t (0 : Fin 2) = 16 - t.val ∧ win0_3.index t (1 : Fin 2) = 0 :=
  (by decide +kernel : ∀ t : Fin grid0.N, win0_3.index t (0 : Fin 2) = 16 - t.val ∧ win0_3.index t (1 : Fin 2) = 0)
theorem final3 (h : InRange (A0 m c)) : (dats m 0 c).arrAt 3 cfg0.N = goalDecay (A0 m c) (A1 m c) (A2 m c) := by
  have hN : cfg0.N = 17 := N_0
  refine (dats m 0 c).arrAt_eq_of_cover 3 _ (fun t hf => ?_) fun i => ?_
  · show (cfg0.win 3).cut (grid0.coords t) ((dats m 0 c).after 3 t) = _
    rw [after_3]
    funext j
    rw [View.read_apply]
    obtain ⟨p, q, rfl⟩ : ∃ (p : Fin 256) (q : Fin 512), j = (ix2 p q : S256x512.Idx) := ⟨j 0, j 1, eq_ix2 _⟩
    have e : ((cfg0.win 3).blk t).view.emb (ix2 p q) = (ix2 (blockRow t p) q : S4352x512.Idx) := by
      funext a
      apply Fin.ext
      match a with
      | ⟨0, _⟩ => show win0_3.index t (0 : Fin 2) * 256 + 1 * p.val = (16 - t.val) * 256 + p.val; rw [(idx3 t).1]; omega
      | ⟨1, _⟩ => show win0_3.index t (1 : Fin 2) * 512 + 1 * q.val = q.val; rw [(idx3 t).2]; omega
    refine Eq.trans ?_ (congrArg (goalDecay (A0 m c) (A1 m c) (A2 m c)) e).symm
    exact decay_block m c h t p q
  · have h0 : (i 0 : Nat) < 4352 := (i 0).isLt
    have h1 : (i 1 : Nat) < 512 := (i 1).isLt
    have hb : 16 - (i 0 : Nat) / 256 < cfg0.N := by omega
    refine ⟨⟨16 - (i 0 : Nat) / 256, hb⟩, flush0_3 _, ?_⟩
    show i ∈ ((View.whole main_v0_0).slice (win0_3.rect ⟨16 - (i 0 : Nat) / 256, hb⟩)).set
    rw [View.set_slice_whole, Rect.mem_set_unit]
    intro a
    match a with
    | ⟨0, _⟩ => show win0_3.index ⟨16 - (i 0 : Nat) / 256, hb⟩ (0 : Fin 2) * 256 ≤ (i 0 : Nat) ∧ (i 0 : Nat) < win0_3.index ⟨16 - (i 0 : Nat) / 256, hb⟩ (0 : Fin 2) * 256 + 256
                rw [(idx3 ⟨16 - (i 0 : Nat) / 256, hb⟩).1]; dsimp only; omega
    | ⟨1, _⟩ => show win0_3.index ⟨16 - (i 0 : Nat) / 256, hb⟩ (1 : Fin 2) * 512 ≤ (i 1 : Nat) ∧ (i 1 : Nat) < win0_3.index ⟨16 - (i 0 : Nat) / 256, hb⟩ (1 : Fin 2) * 512 + 512
                rw [(idx3 ⟨16 - (i 0 : Nat) / 256, hb⟩).2]; omega

theorem idx4 : ∀ t : Fin cfg0.N, win0_4.index t (0 : Fin 2) = 16 - t.val ∧ win0_4.index t (1 : Fin 2) = 0 :=
  (by decide +kernel : ∀ t : Fin grid0.N, win0_4.index t (0 : Fin 2) = 16 - t.val ∧ win0_4.index t (1 : Fin 2) = 0)
theorem final4 (h : InRange (A0 m c)) : (dats m 0 c).arrAt 4 cfg0.N = goalDrive (A0 m c) (A1 m c) := by
  have hN : cfg0.N = 17 := N_0
  refine (dats m 0 c).arrAt_eq_of_cover 4 _ (fun t hf => ?_) fun i => ?_
  · show (cfg0.win 4).cut (grid0.coords t) ((dats m 0 c).after 4 t) = _
    rw [after_4]
    funext j
    rw [View.read_apply]
    obtain ⟨p, q, rfl⟩ : ∃ (p : Fin 256) (q : Fin 512), j = (ix2 p q : S256x512.Idx) := ⟨j 0, j 1, eq_ix2 _⟩
    have e : ((cfg0.win 4).blk t).view.emb (ix2 p q) = (ix2 (blockRow t p) q : S4352x512.Idx) := by
      funext a
      apply Fin.ext
      match a with
      | ⟨0, _⟩ => show win0_4.index t (0 : Fin 2) * 256 + 1 * p.val = (16 - t.val) * 256 + p.val; rw [(idx4 t).1]; omega
      | ⟨1, _⟩ => show win0_4.index t (1 : Fin 2) * 512 + 1 * q.val = q.val; rw [(idx4 t).2]; omega
    refine Eq.trans ?_ (congrArg (goalDrive (A0 m c) (A1 m c)) e).symm
    exact drive_block m c h t p q
  · have h0 : (i 0 : Nat) < 4352 := (i 0).isLt
    have h1 : (i 1 : Nat) < 512 := (i 1).isLt
    have hb : 16 - (i 0 : Nat) / 256 < cfg0.N := by omega
    refine ⟨⟨16 - (i 0 : Nat) / 256, hb⟩, flush0_4 _, ?_⟩
    show i ∈ ((View.whole main_v0_1).slice (win0_4.rect ⟨16 - (i 0 : Nat) / 256, hb⟩)).set
    rw [View.set_slice_whole, Rect.mem_set_unit]
    intro a
    match a with
    | ⟨0, _⟩ => show win0_4.index ⟨16 - (i 0 : Nat) / 256, hb⟩ (0 : Fin 2) * 256 ≤ (i 0 : Nat) ∧ (i 0 : Nat) < win0_4.index ⟨16 - (i 0 : Nat) / 256, hb⟩ (0 : Fin 2) * 256 + 256
                rw [(idx4 ⟨16 - (i 0 : Nat) / 256, hb⟩).1]; dsimp only; omega
    | ⟨1, _⟩ => show win0_4.index ⟨16 - (i 0 : Nat) / 256, hb⟩ (1 : Fin 2) * 512 ≤ (i 1 : Nat) ∧ (i 1 : Nat) < win0_4.index ⟨16 - (i 0 : Nat) / 256, hb⟩ (1 : Fin 2) * 512 + 512
                rw [(idx4 ⟨16 - (i 0 : Nat) / 256, hb⟩).2]; omega

end Blocks
end Cert.Proof.Scan
end
-- ==== Proof.ScanRef.lean ====
/- The backward recurrence's reference: what its loop's buffers hold before every trip. -/
module

public import proofs.«01_k».proof.Proof.ScanValue
public import proofs.«01_k».proof.Proof.Gen.ScanBwdRefIdeal.Run
public import Idealize.ShloMosaic.Lib.Quiescent
public import Idealize.ShloMosaic.Lib.Pointwise
public import Idealize.ShloMosaic.Lib.ValueLayout

@[expose] public section

set_option maxRecDepth 16384

noncomputable section

namespace Cert.Proof.Scan

open Cert.ScanBwdRefIdeal Cert.ScanBwdRefIdeal.Gen Cert.ScanBwdRefIdeal.Value Idealize.ShloMosaic Idealize.ShloMosaic.TcCoe Idealize.SL.Sem
open Idealize.ShloMosaic.StableHlo

/-! ## One row: read, flattened, written -/

theorem row_slice (x : Vec Ideal S4352x512 .f32) (st : Fin 2 → Int) (n : ℕ) (hn : n < 4352) (h0 : st 0 = ((4351 - n : ℕ) : Int)) (h1 : st 1 = 0)
    (q : Fin 512) : Host.dynamicSlice S1x512 x st sliceFits_S4352x512_S1x512 (ix2 0 q) = x (ix2 (rowNo n) q) := by
  have e0 : Host.clampedStart S4352x512 S1x512 rfl st (0 : Fin 2) = 4351 - n :=
    Host.clampedStart_of_le (s := S4352x512) (t := S1x512) rfl st (0 : Fin 2) (4351 - n) h0 (by show 4351 - n + 1 ≤ 4352; omega)
  have e1 : Host.clampedStart S4352x512 S1x512 rfl st (1 : Fin 2) = 0 :=
    Host.clampedStart_of_le (s := S4352x512) (t := S1x512) rfl st (1 : Fin 2) 0 h1 (by decide)
  rw [Host.dynamicSlice_apply]
  congr 1
  funext k
  apply Fin.ext
  match k with
  | ⟨0, _⟩ =>
    show Host.clampedStart S4352x512 S1x512 rfl st (0 : Fin 2) + 0 = 4351 - n
    rw [e0]; rfl
  | ⟨1, _⟩ =>
    show Host.clampedStart S4352x512 S1x512 rfl st (1 : Fin 2) + q.val = q.val
    rw [e1]; omega

theorem row_flat (y : Vec Ideal S1x512 .f32) (q : Fin 512) : shapeCast S512 y shapeCasts_S1x512_S512 (ix1 q) = y (ix2 0 q) :=
  ValueIdx.shapeCast_1a_a_apply y shapeCasts_S1x512_S512 q

theorem row_read (x : Vec Ideal S4352x512 .f32) (st : Fin 2 → Int) (n : ℕ) (hn : n < 4352) (h0 : st 0 = ((4351 - n : ℕ) : Int)) (h1 : st 1 = 0)
    (q : Fin 512) : shapeCast S512 (Host.dynamicSlice S1x512 x st sliceFits_S4352x512_S1x512) shapeCasts_S1x512_S512 (ix1 q) = x (ix2 (rowNo n) q) :=
  (row_flat _ q).trans (row_slice x st n hn h0 h1 q)

theorem row_update (x : Vec Ideal S4352x512 .f32) (u : Vec Ideal S512 .f32) (st : Fin 2 → Int) (n : ℕ) (hn : n < 4352)
    (h0 : st 0 = ((4351 - n : ℕ) : Int)) (h1 : st 1 = 0) (r : Fin 4352) (q : Fin 512) :
    Host.dynamicUpdateSlice x (broadcastInDim S1x512 ![1] bcast_S512_S1x512_1 u) st updateFits_S4352x512_S1x512 (ix2 r q)
      = if r.val = 4351 - n then u (ix1 q) else x (ix2 r q) := by
  have e0 : Host.clampedStart S4352x512 S1x512 rfl st (0 : Fin 2) = 4351 - n :=
    Host.clampedStart_of_le (s := S4352x512) (t := S1x512) rfl st (0 : Fin 2) (4351 - n) h0 (by show 4351 - n + 1 ≤ 4352; omega)
  have e1 : Host.clampedStart S4352x512 S1x512 rfl st (1 : Fin 2) = 0 :=
    Host.clampedStart_of_le (s := S4352x512) (t := S1x512) rfl st (1 : Fin 2) 0 h1 (by decide)
  rw [Host.dynamicUpdateSlice_apply]
  by_cases hr : r.val = 4351 - n
  · rw [if_pos hr, dif_pos]
    · refine broadcastInDim_apply _ _ _ _ (ix1 q) fun k => ?_
      match k with
      | ⟨0, _⟩ =>
        show q.val = if (512 : ℕ) = 1 then 0 else q.val - Host.clampedStart S4352x512 S1x512 rfl st (1 : Fin 2)
        rw [e1, if_neg (by decide)]; omega
    · intro k
      match k with
      | ⟨0, _⟩ =>
        show Host.clampedStart S4352x512 S1x512 rfl st (0 : Fin 2) ≤ r.val ∧ r.val < Host.clampedStart S4352x512 S1x512 rfl st (0 : Fin 2) + 1
        rw [e0]; omega
      | ⟨1, _⟩ =>
        show Host.clampedStart S4352x512 S1x512 rfl st (1 : Fin 2) ≤ q.val ∧ q.val < Host.clampedStart S4352x512 S1x512 rfl st (1 : Fin 2) + 512
        rw [e1]; exact ⟨Nat.zero_le _, by have := q.isLt; omega⟩
  · rw [if_neg hr, dif_neg]
    intro h
    have h' : Host.clampedStart S4352x512 S1x512 rfl st (0 : Fin 2) ≤ r.val ∧ r.val < Host.clampedStart S4352x512 S1x512 rfl st (0 : Fin 2) + 1 := h (0 : Fin 2)
    rw [e0] at h'
    omega

/-- The row number as the body computes it. -/
theorem row_number (n : ℕ) (hn : n < 4352) : ((4352#32 - BitVec.ofNat 32 n) - 1#32).toInt = ((4351 - n : ℕ) : Int) := by
  have e : (4352#32 - BitVec.ofNat 32 n) - 1#32 = BitVec.ofNat 32 (4351 - n) := by
    apply BitVec.eq_of_toNat_eq
    simp only [BitVec.toNat_sub, BitVec.toNat_ofNat]
    omega
  have e' : (4351 - n) % 2 ^ 32 = 4351 - n := Nat.mod_eq_of_lt (by omega)
  rw [e, BitVec.toInt_eq_toNat_cond, BitVec.toNat_ofNat, e', if_pos (by omega)]

attribute [local irreducible] Host.dynamicSlice Host.dynamicUpdateSlice

/-! ## Trip by trip -/

section
variable (V : Valuation τ sig (Elt Ideal))
abbrev carriedRow : Vec Ideal S512 .f32 := V (Proc.devRef .tc main_v5_4)
abbrev decayOut : Vec Ideal S4352x512 .f32 := V (Proc.devRef .tc main_v5_5)
abbrev driveOut : Vec Ideal S4352x512 .f32 := V (Proc.devRef .tc main_v5_6)
abbrev driveIn : Vec Ideal S4352x512 .f32 := V (Proc.devRef .tc main_v5_0)
abbrev decayIn : Vec Ideal S4352x512 .f32 := V (Proc.devRef .tc main_v5_1)
abbrev stateIn : Vec Ideal S4352x512 .f32 := V (Proc.devRef .tc main_v5_2)
abbrev sumRow : Vec Ideal S512 .f32 := res_main_while0b_v11 V
end

/-- Before trip `n`: the counter, the three constant arrays, the carried row, and the rows already written. -/
structure At (a dh hp : Vec Ideal S4352x512 .f32) (V : Valuation τ sig (Elt Ideal)) (n : ℕ) : Prop where
  counter : V (Proc.devRef .tc main_v5_3) = constantI S_ 32 (BitVec.ofNat 32 n)
  decay : decayIn V = a
  drive : driveIn V = dh
  before : stateIn V = hp
  carried : ∀ q : Fin 512, carriedRow V (ix1 q) = carry a dh q n
  driveRows : ∀ (r : Fin 4352) (q : Fin 512), 4352 - n ≤ r.val → driveOut V (ix2 r q) = goalDrive a dh (ix2 r q)
  decayRows : ∀ (r : Fin 4352) (q : Fin 512), 4352 - n ≤ r.val → decayOut V (ix2 r q) = goalDecay a dh hp (ix2 r q)

/-- The trip's row, as the body computes it from the counter. -/
abbrev startOf (V : Valuation τ sig (Elt Ideal)) : Fin 2 → Int := fun k =>
  (((![res_main_while0b_v7 V, constantI S_ 32 0#32] : Fin 2 → (⟨S_, .i32⟩ : BufTy).Contents (Elt Ideal))) k (Shape.Idx.first h_S_)).toInt

variable {a dh hp : Vec Ideal S4352x512 .f32} {V : Valuation τ sig (Elt Ideal)} {n : ℕ}

theorem start_row (h : At a dh hp V n) (hn : n < 4352) : startOf V 0 = ((4351 - n : ℕ) : Int) := by
  show (res_main_while0b_v7 V (Shape.Idx.first h_S_) : BitVec 32).toInt = _
  unfold res_main_while0b_v7
  rw [h.counter]
  exact row_number n hn
theorem start_column : startOf V 1 = 0 := rfl

/-- The row of the drive's gradient that a trip computes. -/
theorem sum_row (h : At a dh hp V n) (hn : n < 4352) (q : Fin 512) :
    sumRow V (ix1 q) = ((carry a dh q n : EReal) + (dh (ix2 (rowNo n) q) : EReal) : EReal) := by
  have e := row_read (driveIn V) (startOf V) n hn (start_row h hn) start_column q
  unfold sumRow res_main_while0b_v11
  refine Eq.trans ?_ (congrArg₂ (fun x y : EReal => x + y) (h.carried q) (e.trans (congrFun h.drive _)))
  rfl

theorem rowNo_eq (r : Fin 4352) (h : r.val = 4351 - n) (hn : n < 4352) : rowNo n = r ∧ n = 4351 - r.val :=
  ⟨Fin.ext h.symm, by omega⟩

theorem next_carried (h : At a dh hp V n) (hn : n < 4352) (q : Fin 512) : carriedRow (STEP V) (ix1 q) = carry a dh q (n + 1) := by
  have e := row_read (decayIn V) (startOf V) n hn (start_row h hn) start_column q
  unfold carriedRow
  rw [STEP_main_v5_4]
  unfold step_main_v5_4
  refine Eq.trans ?_ (congrArg₂ (fun x y : EReal => x * y) (e.trans (congrFun h.decay _)) (sum_row h hn q))
  rfl

theorem next_drive (h : At a dh hp V n) (hn : n < 4352) (r : Fin 4352) (q : Fin 512) (hr : 4352 - (n + 1) ≤ r.val) :
    driveOut (STEP V) (ix2 r q) = goalDrive a dh (ix2 r q) := by
  have e := row_update (driveOut V) (sumRow V) (startOf V) n hn (start_row h hn) start_column r q
  unfold driveOut
  rw [STEP_main_v5_6]
  unfold step_main_v5_6
  rw [id]
  refine Eq.trans e ?_
  by_cases hw : r.val = 4351 - n
  · obtain ⟨e, e'⟩ := rowNo_eq r hw hn
    rw [if_pos hw, sum_row h hn, e]
    show _ = (carry a dh q (4351 - r.val) : EReal) + (dh (ix2 r q) : EReal)
    rw [← e']
  · rw [if_neg hw]
    exact h.driveRows r q (by omega)

theorem next_decay (h : At a dh hp V n) (hn : n < 4352) (r : Fin 4352) (q : Fin 512) (hr : 4352 - (n + 1) ≤ r.val) :
    decayOut (STEP V) (ix2 r q) = goalDecay a dh hp (ix2 r q) := by
  have e := row_update (decayOut V) (mulf (F := Ideal) (φ := .f32) (sumRow V)
    (shapeCast S512 (Host.dynamicSlice S1x512 (stateIn V) (startOf V) sliceFits_S4352x512_S1x512) shapeCasts_S1x512_S512))
    (startOf V) n hn (start_row h hn) start_column r q
  have e2 := row_read (stateIn V) (startOf V) n hn (start_row h hn) start_column q
  unfold decayOut
  rw [STEP_main_v5_5]
  unfold step_main_v5_5
  rw [id]
  refine Eq.trans e ?_
  by_cases hw : r.val = 4351 - n
  · obtain ⟨e, e'⟩ := rowNo_eq r hw hn
    rw [if_pos hw]
    refine Eq.trans (congrArg₂ (fun x y : EReal => x * y) (sum_row h hn q) (e2.trans (congrFun h.before _))) ?_
    rw [e]
    show _ = ((carry a dh q (4351 - r.val) : EReal) + (dh (ix2 r q) : EReal)) * (hp (ix2 r q) : EReal)
    rw [← e']
  · rw [if_neg hw]
    exact h.decayRows r q (by omega)

theorem next_counter (h : At a dh hp V n) : STEP V (Proc.devRef .tc main_v5_3) = constantI S_ 32 (BitVec.ofNat 32 (n + 1)) := by
  rw [STEP_main_v5_3]
  unfold step_main_v5_3
  rw [h.counter]
  funext i
  show BitVec.ofNat 32 n + 1#32 = BitVec.ofNat 32 (n + 1)
  rw [BitVec.ofNat_add]

theorem next (h : At a dh hp V n) (hn : n < 4352) : At a dh hp (STEP V) (n + 1) :=
  ⟨next_counter h, (STEP_main_v5_1 V).trans h.decay, (STEP_main_v5_0 V).trans h.drive, (STEP_main_v5_2 V).trans h.before,
    next_carried h hn, next_drive h hn, next_decay h hn⟩

variable (m : (ℓ : Loc nD τ sig) → Buf (Elt Ideal) ℓ) (c : Dev nD)

abbrev B0 : Vec Ideal S4352x512 .f32 := m ((c.tc : Thread nD τ).loc main_arg0)
abbrev B1 : Vec Ideal S4352x512 .f32 := m ((c.tc : Thread nD τ).loc main_arg1)
abbrev B2 : Vec Ideal S4352x512 .f32 := m ((c.tc : Thread nD τ).loc main_arg2)

set_option maxRecDepth 65536 in
theorem at_entry : At (B0 m c) (B1 m c) (B2 m c) (entryContents preI m c) 0 := by
  have e : ∀ r : Fin 4352, ¬ 4352 - 0 ≤ r.val := fun r => by have := r.isLt; omega
  refine ⟨?_, ?_, ?_, ?_, ?_, fun r q h => absurd h (e r), fun r q h => absurd h (e r)⟩ <;>
    (simp only [entryContents, afterL_cons, afterL_nil]; after_reads_simp)
  · rfl
  · rfl
  · rfl
  · rfl
  · intro q; rfl

theorem at_trip : ∀ k, k ≤ 4352 → At (B0 m c) (B1 m c) (B2 m c) (STEP^[k] (entryContents preI m c)) k
  | 0, _ => at_entry m c
  | k + 1, hk => by
    rw [Function.iterate_succ_apply']
    exact next (at_trip k (by omega)) (by omega)

theorem ref_drive : (STEP^[4352] (entryContents preI m c) (Proc.devRef .tc main_v5_6) : Vec Ideal S4352x512 .f32) = goalDrive (B0 m c) (B1 m c) := by
  funext i
  obtain ⟨r, q, rfl⟩ : ∃ (r : Fin 4352) (q : Fin 512), i = (ix2 r q : S4352x512.Idx) := ⟨i 0, i 1, eq_ix2 _⟩
  exact (at_trip m c 4352 le_rfl).driveRows r q (Nat.zero_le _)
theorem ref_decay : (STEP^[4352] (entryContents preI m c) (Proc.devRef .tc main_v5_5) : Vec Ideal S4352x512 .f32)
    = goalDecay (B0 m c) (B1 m c) (B2 m c) := by
  funext i
  obtain ⟨r, q, rfl⟩ : ∃ (r : Fin 4352) (q : Fin 512), i = (ix2 r q : S4352x512.Idx) := ⟨i 0, i 1, eq_ix2 _⟩
  exact (at_trip m c 4352 le_rfl).decayRows r q (Nat.zero_le _)

end Cert.Proof.Scan
end
-- ==== Proof.ScanClaim.lean ====
/- The backward recurrence: its frames and its value claim. -/
module

public import proofs.«01_k».proof.Proof.ScanRef
public import proofs.«01_k».proof.Defs
public import Idealize.ShloMosaic.Lib.IdealHost

@[expose] public section

set_option maxRecDepth 16384

noncomputable section

namespace Cert.Proof.Scan

open Idealize.ShloMosaic Idealize.ShloMosaic.TcCoe Idealize.SL.Sem

/-- What the precondition says of the decay. -/
theorem in_range [Cert.Pre_decay_in_range.Facts] (a dh hp : Vec Ideal Cert.ScanBwdIdeal.S4352x512 .f32)
    (h : Cert.Pre_decay_in_range.fn (F := Ideal) a dh hp = fun _ => 1#1) : InRange a := by
  intro i
  have hi : IntOp.andi (Ideal.cmp .oge (a i) (Ideal.ofBits .f32 0x00000000#32)) (Ideal.cmp .olt (a i) (Ideal.ofBits .f32 0x7F800000#32)) = 1#1 :=
    congrFun h i
  have ht : Ideal.ofBits .f32 0x7F800000#32 = ⊤ := by simp [Ideal.ofBits, Ideal.ieee]
  rw [Ideal.ofBits_zero_f32, ht] at hi
  constructor
  · by_contra hn
    rw [show Ideal.cmp .oge (a i) 0 = 0#1 by show BitVec.ofBool (decide _) = _; rw [decide_eq_false hn]; rfl] at hi
    revert hi
    generalize Ideal.cmp .olt (a i) ⊤ = z
    revert z
    decide
  · intro hn
    have e : Ideal.cmp .olt (a i) ⊤ = 0#1 := by show BitVec.ofBool (decide _) = _; rw [decide_eq_false (by rw [hn]; exact lt_irrefl _)]; rfl
    rw [e] at hi
    revert hi
    generalize Ideal.cmp .oge (a i) 0 = z
    revert z
    decide

theorem frame_ref : Cert.quiescent_ScanBwdRefIdeal := fun m ρ _ =>
  (θ_run Cert.ScanBwdRefIdeal.defs _ _).mono (fun r h => ⟨fun c => (h c).2.2, sem_eq_zero_of_no_sems (by decide) r.2⟩)
    (Cert.ScanBwdRefIdeal.Value.run (F := Ideal) m ρ)
theorem frame_ref_pre [Cert.Pre_decay_in_range.Facts] : Cert.quiescent_ScanBwdRefIdeal_pre_decay_in_range := fun m ρ _ => frame_ref m ρ trivial
theorem frame_ideal : Cert.quiescent_ScanBwdIdeal := fun m ρ _ => frame_scan m ρ
theorem frame_ideal_pre [Cert.Pre_decay_in_range.Facts] : Cert.quiescent_ScanBwdIdeal_pre_decay_in_range := fun m ρ _ => frame_scan m ρ

theorem algebraic [Cert.Pre_decay_in_range.Facts] : Cert.algebraic_ScanBwdIdeal_ScanBwdRefIdeal_pre_decay_in_range := by
  intro m ρ m' ρ' hpre hag
  refine ⟨fun c => goalDecay (A0 m c) (A1 m c) (A2 m c), fun c => goalDrive (A0 m c) (A1 m c), ?_, ?_⟩
  · refine (θ_run Cert.ScanBwdIdeal.defs _ _).mono (fun r h c => ?_) (θ_run_and (run_post m ρ) (unchanged m ρ))
    have hr := in_range _ _ _ (hpre c)
    exact ⟨((h.1 c).1 3).trans (final3 m c hr), ((h.1 c).1 4).trans (final4 m c hr), h.2 c⟩
  · refine (θ_run Cert.ScanBwdRefIdeal.defs _ _).mono (fun r h c => ?_)
      (Cert.ScanBwdRefIdeal.Value.run (F := Ideal) m' ρ')
    refine ⟨(h c).1.trans ?_, (h c).2.1.trans ?_, (h c).2.2⟩
    · rw [ref_decay]; unfold B0 B1 B2; rw [(hag c).1, (hag c).2.1, (hag c).2.2]
    · rw [ref_drive]; unfold B0 B1; rw [(hag c).1, (hag c).2.1]

end Cert.Proof.Scan
end
-- ==== Proof.Rows.lean ====
/-  Reading an array at a row-major position: what reshapes, slices of a row or of whole rows, padding at the end and
    joining pieces end to end leave there. The optimiser's small weights are packed into rows and taken out of them by these. -/
module

public import Idealize.ShloMosaic.Lib.Pointwise
public import Idealize.ShloMosaic.Lib.Pipeline.Value

@[expose] public section

noncomputable section

namespace Cert.Proof.Rows

open Idealize.ShloMosaic

variable {α : Type} {k : Nat} {v : α}

/-- The array `x` holds `v` at row-major position `k`. -/
def At {s : Shape} (x : s.Idx → α) (k : Nat) (v : α) : Prop := ∀ i : s.Idx, (s.rowMajor i).val = k → x i = v

theorem at_self {s : Shape} (x : s.Idx → α) (i : s.Idx) : At x (s.rowMajor i).val (x i) := fun j h => by
  rw [s.rowMajor.injective (Fin.ext h)]

/-- A shape of as many elements as a row of `n` has its positions below `n`. -/
theorem pos_lt {s : Shape} {n : Nat} (h : s.ShapeCasts ⟨1, ![n]⟩) (j : s.Idx) : (s.rowMajor j).val < n := by
  have e := Shape.rowMajor_reshapeEquiv (s := ⟨1, ![n]⟩) (s' := s) (Eq.symm h) j
  rw [Shape.rowMajor_val_one] at e
  rw [← e]
  exact (Shape.reshapeEquiv (s := ⟨1, ![n]⟩) (s' := s) (Eq.symm h) j 0).isLt

theorem pos_lt_row {n : Nat} (j : (⟨1, ![n]⟩ : Shape).Idx) : ((⟨1, ![n]⟩ : Shape).rowMajor j).val < n := by
  rw [Shape.rowMajor_val_one]
  exact (j 0).isLt

theorem at_cast {s t : Shape} {x : s.Idx → α} (h : s.ShapeCasts t) (H : At x k v) : At (shapeCast t x h) k v := fun i hi =>
  H _ ((Shape.rowMajor_reshapeEquiv _ i).trans hi)

theorem at_slice {n n' o : Nat} {x : (⟨1, ![n]⟩ : Shape).Idx → α} (h : (⟨1, ![n]⟩ : Shape).Slices ![o] ⟨1, ![n']⟩) (H : At x (o + k) v) :
    At (extractStridedSlice ⟨1, ![n']⟩ ![o] x h) k v := fun i hi => by
  refine H _ ?_
  rw [Shape.rowMajor_val_one] at hi ⊢
  show o + (i 0).val = _
  rw [hi]

theorem at_rows {a b c r : Nat} {x : (⟨2, ![a, c]⟩ : Shape).Idx → α} (h : (⟨2, ![a, c]⟩ : Shape).Slices ![r, 0] ⟨2, ![b, c]⟩)
    (H : At x (r * c + k) v) : At (extractStridedSlice ⟨2, ![b, c]⟩ ![r, 0] x h) k v := fun i hi => by
  refine H _ ?_
  rw [Shape.rowMajor_val_two] at hi ⊢
  have hi' : (i 0).val * c + (i 1).val = k := hi
  show (r + (i 0).val) * c + (0 + (i 1).val) = _
  rw [← hi', Nat.add_mul]
  omega

/-- Every position below the number of elements is held. -/
theorem at_some {s : Shape} (x : s.Idx → α) (hk : k < s.numel) : At x k (x (s.rowMajor.symm ⟨k, hk⟩)) := fun i hi => by
  refine congrArg x (s.rowMajor.injective ?_)
  rw [Equiv.apply_symm_apply]
  exact Fin.ext hi

end Cert.Proof.Rows

end
-- ==== Proof.AdamSmallArr.lean ====
/-  The optimiser's step over the packed small weights: what the kernel leaves in each of its three packed arrays. -/
module

public import proofs.«01_k».proof.Proof.Gen.AdamSmallIdeal.Frame
public import proofs.«01_k».proof.Proof.AdamStep
public import proofs.«01_k».proof.Proof.Rows
public import Idealize.ShloMosaic.Lib.Pipeline.Value

@[expose] public section

set_option maxRecDepth 16384

noncomputable section

namespace Cert.Proof.AdamSmall

open Cert.AdamSmallIdeal Cert.AdamSmallIdeal.Gen Idealize.ShloMosaic Idealize.ShloMosaic.TcCoe Idealize.SL.Sem
open Idealize.ShloMosaic.Pipeline (Dat)
open Cert.Proof.Adam Cert.Proof.Rows

variable (m : (ℓ : Loc nD τ sig) → Buf (Elt Ideal) ℓ)

/-- The changes of an array of weights. -/
def deltas {s : Shape} (w g m v : Vec Ideal s .f32) : Vec Ideal s .f32 := fun i => delta (w i) (g i) (m i) (v i)
/-- The new first moments of an array of weights. -/
def firsts {s : Shape} (g m : Vec Ideal s .f32) : Vec Ideal s .f32 := fun i => newM (g i) (m i)
/-- The new second moments of an array of weights. -/
def seconds {s : Shape} (g v : Vec Ideal s .f32) : Vec Ideal s .f32 := fun i => newV (g i) (v i)

theorem hz : (![0, 0] : Fin 2 → Nat) = fun _ => 0 := funext fun a => by fin_cases a <;> rfl

abbrev row (t : Fin cfg0.N) (p : Fin 160) : Fin 640 :=
  ⟨t.val * 160 + p.val, by have := t.isLt; have : cfg0.N = 4 := N_0; have := p.isLt; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem read0 (c : Dev nD) (t : Fin cfg0.N) (p : Fin 160) (q : Fin 1024) :
    (iblk m c 0 t : Vec Ideal S160x1024 .f32) (ix2 p q) = (m ((c : Thread nD τ).loc main_arg0) : Vec Ideal S640x1024 .f32) (ix2 (row t p) q) := by
  unfold iblk
  rw [View.read_apply]
  show (m ((c : Thread nD τ).loc main_arg0) : Vec Ideal S640x1024 .f32) _ = _
  congr 1
  funext x
  apply Fin.ext
  match x with
  | ⟨0, _⟩ => show win0_0.index t (0 : Fin 2) * 160 + 1 * p.val = t.val * 160 + p.val; rw [(idx0 t).1]; omega
  | ⟨1, _⟩ => show win0_0.index t (1 : Fin 2) * 1024 + 1 * q.val = q.val; rw [(idx0 t).2]; omega

theorem read1 (c : Dev nD) (t : Fin cfg0.N) (p : Fin 160) (q : Fin 1024) :
    (iblk m c 1 t : Vec Ideal S160x1024 .f32) (ix2 p q) = (m ((c : Thread nD τ).loc main_arg1) : Vec Ideal S640x1024 .f32) (ix2 (row t p) q) := by
  unfold iblk
  rw [View.read_apply]
  show (m ((c : Thread nD τ).loc main_arg1) : Vec Ideal S640x1024 .f32) _ = _
  congr 1
  funext x
  apply Fin.ext
  match x with
  | ⟨0, _⟩ => show win0_1.index t (0 : Fin 2) * 160 + 1 * p.val = t.val * 160 + p.val; rw [(idx1 t).1]; omega
  | ⟨1, _⟩ => show win0_1.index t (1 : Fin 2) * 1024 + 1 * q.val = q.val; rw [(idx1 t).2]; omega

theorem read2 (c : Dev nD) (t : Fin cfg0.N) (p : Fin 160) (q : Fin 1024) :
    (iblk m c 2 t : Vec Ideal S160x1024 .f32) (ix2 p q) = (m ((c : Thread nD τ).loc main_arg2) : Vec Ideal S640x1024 .f32) (ix2 (row t p) q) := by
  unfold iblk
  rw [View.read_apply]
  show (m ((c : Thread nD τ).loc main_arg2) : Vec Ideal S640x1024 .f32) _ = _
  congr 1
  funext x
  apply Fin.ext
  match x with
  | ⟨0, _⟩ => show win0_2.index t (0 : Fin 2) * 160 + 1 * p.val = t.val * 160 + p.val; rw [(idx2 t).1]; omega
  | ⟨1, _⟩ => show win0_2.index t (1 : Fin 2) * 1024 + 1 * q.val = q.val; rw [(idx2 t).2]; omega

theorem read3 (c : Dev nD) (t : Fin cfg0.N) (p : Fin 160) (q : Fin 1024) :
    (iblk m c 3 t : Vec Ideal S160x1024 .f32) (ix2 p q) = (m ((c : Thread nD τ).loc main_arg3) : Vec Ideal S640x1024 .f32) (ix2 (row t p) q) := by
  unfold iblk
  rw [View.read_apply]
  show (m ((c : Thread nD τ).loc main_arg3) : Vec Ideal S640x1024 .f32) _ = _
  congr 1
  funext x
  apply Fin.ext
  match x with
  | ⟨0, _⟩ => show win0_3.index t (0 : Fin 2) * 160 + 1 * p.val = t.val * 160 + p.val; rw [(idx3 t).1]; omega
  | ⟨1, _⟩ => show win0_3.index t (1 : Fin 2) * 1024 + 1 * q.val = q.val; rw [(idx3 t).2]; omega

theorem whole_idx (x : r0_0.shape.Idx) : r0_0.idx x = x := by
  funext a
  apply Fin.ext
  match a with
  | ⟨0, _⟩ => show 0 + 1 * (x 0).val = (x 0).val; omega
  | ⟨1, _⟩ => show 0 + 1 * (x 1).val = (x 1).val; omega

theorem one_piece (p : Vec Ideal S160x1024 .f32) : View.canon [⟨r0_0, p⟩] = p := by
  funext y
  refine View.canon_apply_of_pieces p _ ?_ y (cover0_4 _ y)
  intro pc hpc
  rcases List.mem_cons.mp hpc with rfl | hpc
  · exact fun x => congrArg p (whole_idx x).symm
  nomatch hpc

theorem out4_apply (x0 x1 x2 x3 : Vec Ideal S160x1024 .f32) (y : S160x1024.Idx) :
    out0_4 x0 x1 x2 x3 y = delta (x1 y) (x0 y) (x2 y) (x3 y) := by
  unfold out0_4
  rw [one_piece]
  simp only [View.ld_unit_zero (S := S160x1024) hz]
  rfl

theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

theorem final4 (c : Dev nD) : (dats m 0 c).arrAt 4 cfg0.N = deltas (s := S640x1024) (m ((c : Thread nD τ).loc main_arg1)) (m ((c : Thread nD τ).loc main_arg0)) (m ((c : Thread nD τ).loc main_arg2)) (m ((c : Thread nD τ).loc main_arg3)) := by
  have hN : cfg0.N = 4 := N_0
  refine (dats m 0 c).arrAt_eq_of_cover 4 _ (fun t hf => ?_) fun i => ?_
  · rw [flushed4]
    funext j
    rw [View.read_apply]
    obtain ⟨p, q, rfl⟩ : ∃ (p : Fin 160) (q : Fin 1024), j = (ix2 p q : S160x1024.Idx) := ⟨j 0, j 1, eq_ix2 _⟩
    have e : ((cfg0.win 4).blk t).view.emb (ix2 p q) = (ix2 (row t p) q : S640x1024.Idx) := by
      funext x
      apply Fin.ext
      match x with
      | ⟨0, _⟩ => show win0_4.index t (0 : Fin 2) * 160 + 1 * p.val = t.val * 160 + p.val; rw [(idx4 t).1]; omega
      | ⟨1, _⟩ => show win0_4.index t (1 : Fin 2) * 1024 + 1 * q.val = q.val; rw [(idx4 t).2]; omega
    refine Eq.trans ?_ (congrArg (deltas (s := S640x1024) (m ((c : Thread nD τ).loc main_arg1)) (m ((c : Thread nD τ).loc main_arg0)) (m ((c : Thread nD τ).loc main_arg2)) (m ((c : Thread nD τ).loc main_arg3))) e).symm
    refine (out4_apply _ _ _ _ (ix2 p q)).trans ?_
    unfold deltas
    rw [read1, read0, read2, read3]
  · have h0 : (i 0 : Nat) < 640 := (i 0).isLt
    have h1 : (i 1 : Nat) < 1024 := (i 1).isLt
    have hb : (i 0 : Nat) / 160 < cfg0.N := by omega
    refine ⟨⟨(i 0 : Nat) / 160, hb⟩, flush0_4 _, ?_⟩
    show i ∈ ((View.whole main_v0_0).slice (win0_4.rect ⟨(i 0 : Nat) / 160, hb⟩)).set
    rw [View.set_slice_whole, Rect.mem_set_unit]
    intro x
    match x with
    | ⟨0, _⟩ => show win0_4.index ⟨(i 0 : Nat) / 160, hb⟩ (0 : Fin 2) * 160 ≤ (i 0 : Nat) ∧ (i 0 : Nat) < win0_4.index ⟨(i 0 : Nat) / 160, hb⟩ (0 : Fin 2) * 160 + 160
                rw [(idx4 ⟨(i 0 : Nat) / 160, hb⟩).1]; dsimp only; omega
    | ⟨1, _⟩ => show win0_4.index ⟨(i 0 : Nat) / 160, hb⟩ (1 : Fin 2) * 1024 ≤ (i 1 : Nat) ∧ (i 1 : Nat) < win0_4.index ⟨(i 0 : Nat) / 160, hb⟩ (1 : Fin 2) * 1024 + 1024
                rw [(idx4 ⟨(i 0 : Nat) / 160, hb⟩).2]; omega

theorem out5_apply (x0 x1 x2 x3 : Vec Ideal S160x1024 .f32) (y : S160x1024.Idx) :
    out0_5 x0 x1 x2 x3 y = newM (x0 y) (x2 y) := by
  unfold out0_5
  rw [one_piece]
  simp only [View.ld_unit_zero (S := S160x1024) hz]
  rfl

theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

theorem final5 (c : Dev nD) : (dats m 0 c).arrAt 5 cfg0.N = firsts (s := S640x1024) (m ((c : Thread nD τ).loc main_arg0)) (m ((c : Thread nD τ).loc main_arg2)) := by
  have hN : cfg0.N = 4 := N_0
  refine (dats m 0 c).arrAt_eq_of_cover 5 _ (fun t hf => ?_) fun i => ?_
  · rw [flushed5]
    funext j
    rw [View.read_apply]
    obtain ⟨p, q, rfl⟩ : ∃ (p : Fin 160) (q : Fin 1024), j = (ix2 p q : S160x1024.Idx) := ⟨j 0, j 1, eq_ix2 _⟩
    have e : ((cfg0.win 5).blk t).view.emb (ix2 p q) = (ix2 (row t p) q : S640x1024.Idx) := by
      funext x
      apply Fin.ext
      match x with
      | ⟨0, _⟩ => show win0_5.index t (0 : Fin 2) * 160 + 1 * p.val = t.val * 160 + p.val; rw [(idx5 t).1]; omega
      | ⟨1, _⟩ => show win0_5.index t (1 : Fin 2) * 1024 + 1 * q.val = q.val; rw [(idx5 t).2]; omega
    refine Eq.trans ?_ (congrArg (firsts (s := S640x1024) (m ((c : Thread nD τ).loc main_arg0)) (m ((c : Thread nD τ).loc main_arg2))) e).symm
    refine (out5_apply _ _ _ _ (ix2 p q)).trans ?_
    unfold firsts
    rw [read0, read2]
  · have h0 : (i 0 : Nat) < 640 := (i 0).isLt
    have h1 : (i 1 : Nat) < 1024 := (i 1).isLt
    have hb : (i 0 : Nat) / 160 < cfg0.N := by omega
    refine ⟨⟨(i 0 : Nat) / 160, hb⟩, flush0_5 _, ?_⟩
    show i ∈ ((View.whole main_v0_1).slice (win0_5.rect ⟨(i 0 : Nat) / 160, hb⟩)).set
    rw [View.set_slice_whole, Rect.mem_set_unit]
    intro x
    match x with
    | ⟨0, _⟩ => show win0_5.index ⟨(i 0 : Nat) / 160, hb⟩ (0 : Fin 2) * 160 ≤ (i 0 : Nat) ∧ (i 0 : Nat) < win0_5.index ⟨(i 0 : Nat) / 160, hb⟩ (0 : Fin 2) * 160 + 160
                rw [(idx5 ⟨(i 0 : Nat) / 160, hb⟩).1]; dsimp only; omega
    | ⟨1, _⟩ => show win0_5.index ⟨(i 0 : Nat) / 160, hb⟩ (1 : Fin 2) * 1024 ≤ (i 1 : Nat) ∧ (i 1 : Nat) < win0_5.index ⟨(i 0 : Nat) / 160, hb⟩ (1 : Fin 2) * 1024 + 1024
                rw [(idx5 ⟨(i 0 : Nat) / 160, hb⟩).2]; omega

theorem out6_apply (x0 x1 x2 x3 : Vec Ideal S160x1024 .f32) (y : S160x1024.Idx) :
    out0_6 x0 x1 x2 x3 y = newV (x0 y) (x3 y) := by
  unfold out0_6
  rw [one_piece]
  simp only [View.ld_unit_zero (S := S160x1024) hz]
  rfl

theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

theorem final6 (c : Dev nD) : (dats m 0 c).arrAt 6 cfg0.N = seconds (s := S640x1024) (m ((c : Thread nD τ).loc main_arg0)) (m ((c : Thread nD τ).loc main_arg3)) := by
  have hN : cfg0.N = 4 := N_0
  refine (dats m 0 c).arrAt_eq_of_cover 6 _ (fun t hf => ?_) fun i => ?_
  · rw [flushed6]
    funext j
    rw [View.read_apply]
    obtain ⟨p, q, rfl⟩ : ∃ (p : Fin 160) (q : Fin 1024), j = (ix2 p q : S160x1024.Idx) := ⟨j 0, j 1, eq_ix2 _⟩
    have e : ((cfg0.win 6).blk t).view.emb (ix2 p q) = (ix2 (row t p) q : S640x1024.Idx) := by
      funext x
      apply Fin.ext
      match x with
      | ⟨0, _⟩ => show win0_6.index t (0 : Fin 2) * 160 + 1 * p.val = t.val * 160 + p.val; rw [(idx6 t).1]; omega
      | ⟨1, _⟩ => show win0_6.index t (1 : Fin 2) * 1024 + 1 * q.val = q.val; rw [(idx6 t).2]; omega
    refine Eq.trans ?_ (congrArg (seconds (s := S640x1024) (m ((c : Thread nD τ).loc main_arg0)) (m ((c : Thread nD τ).loc main_arg3))) e).symm
    refine (out6_apply _ _ _ _ (ix2 p q)).trans ?_
    unfold seconds
    rw [read0, read3]
  · have h0 : (i 0 : Nat) < 640 := (i 0).isLt
    have h1 : (i 1 : Nat) < 1024 := (i 1).isLt
    have hb : (i 0 : Nat) / 160 < cfg0.N := by omega
    refine ⟨⟨(i 0 : Nat) / 160, hb⟩, flush0_6 _, ?_⟩
    show i ∈ ((View.whole main_v0_2).slice (win0_6.rect ⟨(i 0 : Nat) / 160, hb⟩)).set
    rw [View.set_slice_whole, Rect.mem_set_unit]
    intro x
    match x with
    | ⟨0, _⟩ => show win0_6.index ⟨(i 0 : Nat) / 160, hb⟩ (0 : Fin 2) * 160 ≤ (i 0 : Nat) ∧ (i 0 : Nat) < win0_6.index ⟨(i 0 : Nat) / 160, hb⟩ (0 : Fin 2) * 160 + 160
                rw [(idx6 ⟨(i 0 : Nat) / 160, hb⟩).1]; dsimp only; omega
    | ⟨1, _⟩ => show win0_6.index ⟨(i 0 : Nat) / 160, hb⟩ (1 : Fin 2) * 1024 ≤ (i 1 : Nat) ∧ (i 1 : Nat) < win0_6.index ⟨(i 0 : Nat) / 160, hb⟩ (1 : Fin 2) * 1024 + 1024
                rw [(idx6 ⟨(i 0 : Nat) / 160, hb⟩).2]; omega

/-- What the buffers hold when the kernel's call has returned. -/
def rest (c : Dev nD) : Valuation τ sig (Elt Ideal) :=
  Pipeline.withArrays (cfgs 0).spec c (V0 m c) fun w => (dats m 0 c).arrAt w (cfgs 0).N

theorem tail_eq (c : Dev nD) (b : Ref sig .tc) :
    Pipeline.afterTail₀ cfgs (dats m) 0 (V0 m) [hostOps1] c b = StableHlo.after hostOps1 (rest m c) (Proc.devRef .tc b) := by
  unfold Pipeline.afterTail₀ rest
  rw [List.flatten_cons, List.flatten_nil, List.append_nil]

theorem arrays_differ : Function.Injective (Pipeline.arrRef spec0) := by decide

theorem rest4 (c : Dev nD) : rest m c (Proc.devRef .tc main_v0_0) = deltas (s := S640x1024) (m ((c : Thread nD τ).loc main_arg1)) (m ((c : Thread nD τ).loc main_arg0)) (m ((c : Thread nD τ).loc main_arg2)) (m ((c : Thread nD τ).loc main_arg3)) :=
  (Pipeline.withArrays_arr spec0 arrays_differ c (V0 m c) (fun w => (dats m 0 c).arrAt w (cfgs 0).N) 4).trans (final4 m c)

theorem rest5 (c : Dev nD) : rest m c (Proc.devRef .tc main_v0_1) = firsts (s := S640x1024) (m ((c : Thread nD τ).loc main_arg0)) (m ((c : Thread nD τ).loc main_arg2)) :=
  (Pipeline.withArrays_arr spec0 arrays_differ c (V0 m c) (fun w => (dats m 0 c).arrAt w (cfgs 0).N) 5).trans (final5 m c)

theorem rest6 (c : Dev nD) : rest m c (Proc.devRef .tc main_v0_2) = seconds (s := S640x1024) (m ((c : Thread nD τ).loc main_arg0)) (m ((c : Thread nD τ).loc main_arg3)) :=
  (Pipeline.withArrays_arr spec0 arrays_differ c (V0 m c) (fun w => (dats m 0 c).arrAt w (cfgs 0).N) 6).trans (final6 m c)

/-- The changes of the packed weights, of the launch's arguments. -/
abbrev deltaOf (c : Dev nD) : Vec Ideal S640x1024 .f32 := deltas (m ((c : Thread nD τ).loc main_arg1)) (m ((c : Thread nD τ).loc main_arg0)) (m ((c : Thread nD τ).loc main_arg2)) (m ((c : Thread nD τ).loc main_arg3))
/-- Their new first moments. -/
abbrev firstOf (c : Dev nD) : Vec Ideal S640x1024 .f32 := firsts (m ((c : Thread nD τ).loc main_arg0)) (m ((c : Thread nD τ).loc main_arg2))
/-- Their new second moments. -/
abbrev secondOf (c : Dev nD) : Vec Ideal S640x1024 .f32 := seconds (m ((c : Thread nD τ).loc main_arg0)) (m ((c : Thread nD τ).loc main_arg3))

end Cert.Proof.AdamSmall

end
-- ==== Proof.AdamSmallRows.lean ====
/-  Where the packed rows hold each small weight's array: the way the kernel takes it out, and the way the reference does. -/
module

public import proofs.«01_k».proof.Proof.Gen.AdamSmallIdeal
public import proofs.«01_k».proof.Proof.Gen.AdamSmallRefIdeal
public import proofs.«01_k».proof.Proof.Rows
public import proofs.«01_k».proof.Proof.AdamStep

@[expose] public section

set_option maxRecDepth 16384

noncomputable section

namespace Cert.Proof.AdamSmall

open Cert.AdamSmallIdeal Cert.AdamSmallIdeal.Gen Idealize.ShloMosaic Idealize.ShloMosaic.TcCoe Idealize.SL.Sem
open Idealize.ShloMosaic.Pipeline (Dat)
open Cert.Proof.Adam Cert.Proof.Rows

/-- A position counted from zero. -/
theorem zero_add_at {α : Type} {s : Shape} {x : s.Idx → α} {k : Nat} {v : α} (H : At x k v) : At x (0 + k) v := by
  rw [Nat.zero_add]
  exact H

/-- `hg_lb_logits` taken out of the rows. -/
def unpack0 (y : Vec Ideal S640x1024 .f32) : Vec Ideal S3x2x128 .f32 :=
  shapeCast S3x2x128 (extractStridedSlice S768 ![0] (shapeCast S1024 (extractStridedSlice S1x1024 ![0, 0] y slices_S640x1024_S1x1024_0_0) shapeCasts_S1x1024_S1024) slices_S1024_S768_0) shapeCasts_S768_S3x2x128

/-- The same out of the rows laid end to end. -/
def cut0 (y : Vec Ideal S640x1024 .f32) : Vec Ideal S3x2x128 .f32 :=
  shapeCast S3x2x128 (extractStridedSlice AdamSmallRefIdeal.S768 ![0] (shapeCast AdamSmallRefIdeal.S655360 y AdamSmallRefIdeal.Gen.shapeCasts_S640x1024_S655360) AdamSmallRefIdeal.Gen.slices_S655360_S768_0) AdamSmallRefIdeal.Gen.shapeCasts_S768_S3x2x128

theorem same0 (y : Vec Ideal S640x1024 .f32) : cut0 y = unpack0 y := by
  funext j
  have hn : (S3x2x128.rowMajor j).val < 768 := pos_lt (n := 768) (Eq.symm AdamSmallRefIdeal.Gen.shapeCasts_S768_S3x2x128) j
  have e : S640x1024.numel = 655360 := by decide
  have hy := at_some y (k := 0 * 1024 + (S3x2x128.rowMajor j).val) (by rw [e]; omega)
  have h1 : At (unpack0 y) (S3x2x128.rowMajor j).val _ := at_cast _ (at_slice (n := 1024) (n' := 768) (o := 0) _ (zero_add_at (at_cast _ (at_rows (a := 640) (b := 1) (c := 1024) (r := 0) _ hy))))
  have h2 : At (cut0 y) (S3x2x128.rowMajor j).val _ := at_cast _ (at_slice (n := 655360) (n' := 768) (o := 0) _ (at_cast _ hy))
  exact (h2 j rfl).trans (h1 j rfl).symm

/-- `lru_conv_w` taken out of the rows. -/
def unpack1 (y : Vec Ideal S640x1024 .f32) : Vec Ideal S2x4x128 .f32 :=
  shapeCast S2x4x128 (shapeCast S1024 (extractStridedSlice S1x1024 ![1, 0] y slices_S640x1024_S1x1024_1_0) shapeCasts_S1x1024_S1024) shapeCasts_S1024_S2x4x128

/-- The same out of the rows laid end to end. -/
def cut1 (y : Vec Ideal S640x1024 .f32) : Vec Ideal S2x4x128 .f32 :=
  shapeCast S2x4x128 (extractStridedSlice AdamSmallRefIdeal.S1024 ![1024] (shapeCast AdamSmallRefIdeal.S655360 y AdamSmallRefIdeal.Gen.shapeCasts_S640x1024_S655360) AdamSmallRefIdeal.Gen.slices_S655360_S1024_1024) AdamSmallRefIdeal.Gen.shapeCasts_S1024_S2x4x128

theorem same1 (y : Vec Ideal S640x1024 .f32) : cut1 y = unpack1 y := by
  funext j
  have hn : (S2x4x128.rowMajor j).val < 1024 := pos_lt (n := 1024) (Eq.symm AdamSmallRefIdeal.Gen.shapeCasts_S1024_S2x4x128) j
  have e : S640x1024.numel = 655360 := by decide
  have hy := at_some y (k := 1 * 1024 + (S2x4x128.rowMajor j).val) (by rw [e]; omega)
  have h1 : At (unpack1 y) (S2x4x128.rowMajor j).val _ := at_cast _ (at_cast _ (at_rows (a := 640) (b := 1) (c := 1024) (r := 1) _ hy))
  have h2 : At (cut1 y) (S2x4x128.rowMajor j).val _ := at_cast _ (at_slice (n := 655360) (n' := 1024) (o := 1024) _ (at_cast _ hy))
  exact (h2 j rfl).trans (h1 j rfl).symm

/-- `lru_lam` taken out of the rows. -/
def unpack2 (y : Vec Ideal S640x1024 .f32) : Vec Ideal S2x2x128 .f32 :=
  shapeCast S2x2x128 (extractStridedSlice S512 ![0] (shapeCast S1024 (extractStridedSlice S1x1024 ![2, 0] y slices_S640x1024_S1x1024_2_0) shapeCasts_S1x1024_S1024) slices_S1024_S512_0) shapeCasts_S512_S2x2x128

/-- The same out of the rows laid end to end. -/
def cut2 (y : Vec Ideal S640x1024 .f32) : Vec Ideal S2x2x128 .f32 :=
  shapeCast S2x2x128 (extractStridedSlice AdamSmallRefIdeal.S512 ![2048] (shapeCast AdamSmallRefIdeal.S655360 y AdamSmallRefIdeal.Gen.shapeCasts_S640x1024_S655360) AdamSmallRefIdeal.Gen.slices_S655360_S512_2048) AdamSmallRefIdeal.Gen.shapeCasts_S512_S2x2x128

theorem same2 (y : Vec Ideal S640x1024 .f32) : cut2 y = unpack2 y := by
  funext j
  have hn : (S2x2x128.rowMajor j).val < 512 := pos_lt (n := 512) (Eq.symm AdamSmallRefIdeal.Gen.shapeCasts_S512_S2x2x128) j
  have e : S640x1024.numel = 655360 := by decide
  have hy := at_some y (k := 2 * 1024 + (S2x2x128.rowMajor j).val) (by rw [e]; omega)
  have h1 : At (unpack2 y) (S2x2x128.rowMajor j).val _ := at_cast _ (at_slice (n := 1024) (n' := 512) (o := 0) _ (zero_add_at (at_cast _ (at_rows (a := 640) (b := 1) (c := 1024) (r := 2) _ hy))))
  have h2 : At (cut2 y) (S2x2x128.rowMajor j).val _ := at_cast _ (at_slice (n := 655360) (n' := 512) (o := 2048) _ (at_cast _ hy))
  exact (h2 j rfl).trans (h1 j rfl).symm

/-- `m2_conv_w` taken out of the rows. -/
def unpack3 (y : Vec Ideal S640x1024 .f32) : Vec Ideal S2x4x192 .f32 :=
  shapeCast S2x4x192 (extractStridedSlice S1536 ![0] (shapeCast S2048 (extractStridedSlice S2x1024 ![3, 0] y slices_S640x1024_S2x1024_3_0) shapeCasts_S2x1024_S2048) slices_S2048_S1536_0) shapeCasts_S1536_S2x4x192

/-- The same out of the rows laid end to end. -/
def cut3 (y : Vec Ideal S640x1024 .f32) : Vec Ideal S2x4x192 .f32 :=
  shapeCast S2x4x192 (extractStridedSlice AdamSmallRefIdeal.S1536 ![3072] (shapeCast AdamSmallRefIdeal.S655360 y AdamSmallRefIdeal.Gen.shapeCasts_S640x1024_S655360) AdamSmallRefIdeal.Gen.slices_S655360_S1536_3072) AdamSmallRefIdeal.Gen.shapeCasts_S1536_S2x4x192

theorem same3 (y : Vec Ideal S640x1024 .f32) : cut3 y = unpack3 y := by
  funext j
  have hn : (S2x4x192.rowMajor j).val < 1536 := pos_lt (n := 1536) (Eq.symm AdamSmallRefIdeal.Gen.shapeCasts_S1536_S2x4x192) j
  have e : S640x1024.numel = 655360 := by decide
  have hy := at_some y (k := 3 * 1024 + (S2x4x192.rowMajor j).val) (by rw [e]; omega)
  have h1 : At (unpack3 y) (S2x4x192.rowMajor j).val _ := at_cast _ (at_slice (n := 2048) (n' := 1536) (o := 0) _ (zero_add_at (at_cast _ (at_rows (a := 640) (b := 2) (c := 1024) (r := 3) _ hy))))
  have h2 : At (cut3 y) (S2x4x192.rowMajor j).val _ := at_cast _ (at_slice (n := 655360) (n' := 1536) (o := 3072) _ (at_cast _ hy))
  exact (h2 j rfl).trans (h1 j rfl).symm

/-- `b_gate` taken out of the rows. -/
def unpack4 (y : Vec Ideal S640x1024 .f32) : Vec Ideal S2x4x256 .f32 :=
  shapeCast S2x4x256 (shapeCast S2048 (extractStridedSlice S2x1024 ![5, 0] y slices_S640x1024_S2x1024_5_0) shapeCasts_S2x1024_S2048) shapeCasts_S2048_S2x4x256

/-- The same out of the rows laid end to end. -/
def cut4 (y : Vec Ideal S640x1024 .f32) : Vec Ideal S2x4x256 .f32 :=
  shapeCast S2x4x256 (extractStridedSlice AdamSmallRefIdeal.S2048 ![5120] (shapeCast AdamSmallRefIdeal.S655360 y AdamSmallRefIdeal.Gen.shapeCasts_S640x1024_S655360) AdamSmallRefIdeal.Gen.slices_S655360_S2048_5120) AdamSmallRefIdeal.Gen.shapeCasts_S2048_S2x4x256

theorem same4 (y : Vec Ideal S640x1024 .f32) : cut4 y = unpack4 y := by
  funext j
  have hn : (S2x4x256.rowMajor j).val < 2048 := pos_lt (n := 2048) (Eq.symm AdamSmallRefIdeal.Gen.shapeCasts_S2048_S2x4x256) j
  have e : S640x1024.numel = 655360 := by decide
  have hy := at_some y (k := 5 * 1024 + (S2x4x256.rowMajor j).val) (by rw [e]; omega)
  have h1 : At (unpack4 y) (S2x4x256.rowMajor j).val _ := at_cast _ (at_cast _ (at_rows (a := 640) (b := 2) (c := 1024) (r := 5) _ hy))
  have h2 : At (cut4 y) (S2x4x256.rowMajor j).val _ := at_cast _ (at_slice (n := 655360) (n' := 2048) (o := 5120) _ (at_cast _ hy))
  exact (h2 j rfl).trans (h1 j rfl).symm

/-- `c_ctx` taken out of the rows. -/
def unpack5 (y : Vec Ideal S640x1024 .f32) : Vec Ideal S1024 .f32 :=
  shapeCast S1024 (extractStridedSlice S1x1024 ![7, 0] y slices_S640x1024_S1x1024_7_0) shapeCasts_S1x1024_S1024

/-- The same out of the rows laid end to end. -/
def cut5 (y : Vec Ideal S640x1024 .f32) : Vec Ideal S1024 .f32 :=
  extractStridedSlice AdamSmallRefIdeal.S1024 ![7168] (shapeCast AdamSmallRefIdeal.S655360 y AdamSmallRefIdeal.Gen.shapeCasts_S640x1024_S655360) AdamSmallRefIdeal.Gen.slices_S655360_S1024_7168

theorem same5 (y : Vec Ideal S640x1024 .f32) : cut5 y = unpack5 y := by
  funext j
  have hn : (S1024.rowMajor j).val < 1024 := pos_lt_row j
  have e : S640x1024.numel = 655360 := by decide
  have hy := at_some y (k := 7 * 1024 + (S1024.rowMajor j).val) (by rw [e]; omega)
  have h1 : At (unpack5 y) (S1024.rowMajor j).val _ := at_cast _ (at_rows (a := 640) (b := 1) (c := 1024) (r := 7) _ hy)
  have h2 : At (cut5 y) (S1024.rowMajor j).val _ := at_slice (n := 655360) (n' := 1024) (o := 7168) _ (at_cast _ hy)
  exact (h2 j rfl).trans (h1 j rfl).symm

/-- `norm_w` taken out of the rows. -/
def unpack6 (y : Vec Ideal S640x1024 .f32) : Vec Ideal S2x1024 .f32 :=
  shapeCast S2x1024 (shapeCast S2048 (extractStridedSlice S2x1024 ![8, 0] y slices_S640x1024_S2x1024_8_0) shapeCasts_S2x1024_S2048) shapeCasts_S2048_S2x1024

/-- The same out of the rows laid end to end. -/
def cut6 (y : Vec Ideal S640x1024 .f32) : Vec Ideal S2x1024 .f32 :=
  shapeCast S2x1024 (extractStridedSlice AdamSmallRefIdeal.S2048 ![8192] (shapeCast AdamSmallRefIdeal.S655360 y AdamSmallRefIdeal.Gen.shapeCasts_S640x1024_S655360) AdamSmallRefIdeal.Gen.slices_S655360_S2048_8192) AdamSmallRefIdeal.Gen.shapeCasts_S2048_S2x1024

theorem same6 (y : Vec Ideal S640x1024 .f32) : cut6 y = unpack6 y := by
  funext j
  have hn : (S2x1024.rowMajor j).val < 2048 := pos_lt (n := 2048) (Eq.symm AdamSmallRefIdeal.Gen.shapeCasts_S2048_S2x1024) j
  have e : S640x1024.numel = 655360 := by decide
  have hy := at_some y (k := 8 * 1024 + (S2x1024.rowMajor j).val) (by rw [e]; omega)
  have h1 : At (unpack6 y) (S2x1024.rowMajor j).val _ := at_cast _ (at_cast _ (at_rows (a := 640) (b := 2) (c := 1024) (r := 8) _ hy))
  have h2 : At (cut6 y) (S2x1024.rowMajor j).val _ := at_cast _ (at_slice (n := 655360) (n' := 2048) (o := 8192) _ (at_cast _ hy))
  exact (h2 j rfl).trans (h1 j rfl).symm

/-- `b_mod` taken out of the rows. -/
def unpack7 (y : Vec Ideal S640x1024 .f32) : Vec Ideal S2x3072 .f32 :=
  shapeCast S2x3072 (shapeCast S6144 (extractStridedSlice S6x1024 ![10, 0] y slices_S640x1024_S6x1024_10_0) shapeCasts_S6x1024_S6144) shapeCasts_S6144_S2x3072

/-- The same out of the rows laid end to end. -/
def cut7 (y : Vec Ideal S640x1024 .f32) : Vec Ideal S2x3072 .f32 :=
  shapeCast S2x3072 (extractStridedSlice AdamSmallRefIdeal.S6144 ![10240] (shapeCast AdamSmallRefIdeal.S655360 y AdamSmallRefIdeal.Gen.shapeCasts_S640x1024_S655360) AdamSmallRefIdeal.Gen.slices_S655360_S6144_10240) AdamSmallRefIdeal.Gen.shapeCasts_S6144_S2x3072

theorem same7 (y : Vec Ideal S640x1024 .f32) : cut7 y = unpack7 y := by
  funext j
  have hn : (S2x3072.rowMajor j).val < 6144 := pos_lt (n := 6144) (Eq.symm AdamSmallRefIdeal.Gen.shapeCasts_S6144_S2x3072) j
  have e : S640x1024.numel = 655360 := by decide
  have hy := at_some y (k := 10 * 1024 + (S2x3072.rowMajor j).val) (by rw [e]; omega)
  have h1 : At (unpack7 y) (S2x3072.rowMajor j).val _ := at_cast _ (at_cast _ (at_rows (a := 640) (b := 6) (c := 1024) (r := 10) _ hy))
  have h2 : At (cut7 y) (S2x3072.rowMajor j).val _ := at_cast _ (at_slice (n := 655360) (n' := 6144) (o := 10240) _ (at_cast _ hy))
  exact (h2 j rfl).trans (h1 j rfl).symm

/-- `hg_norm` taken out of the rows. -/
def unpack8 (y : Vec Ideal S640x1024 .f32) : Vec Ideal S2x512 .f32 :=
  shapeCast S2x512 (shapeCast S1024 (extractStridedSlice S1x1024 ![16, 0] y slices_S640x1024_S1x1024_16_0) shapeCasts_S1x1024_S1024) shapeCasts_S1024_S2x512

/-- The same out of the rows laid end to end. -/
def cut8 (y : Vec Ideal S640x1024 .f32) : Vec Ideal S2x512 .f32 :=
  shapeCast S2x512 (extractStridedSlice AdamSmallRefIdeal.S1024 ![16384] (shapeCast AdamSmallRefIdeal.S655360 y AdamSmallRefIdeal.Gen.shapeCasts_S640x1024_S655360) AdamSmallRefIdeal.Gen.slices_S655360_S1024_16384) AdamSmallRefIdeal.Gen.shapeCasts_S1024_S2x512

theorem same8 (y : Vec Ideal S640x1024 .f32) : cut8 y = unpack8 y := by
  funext j
  have hn : (S2x512.rowMajor j).val < 1024 := pos_lt (n := 1024) (Eq.symm AdamSmallRefIdeal.Gen.shapeCasts_S1024_S2x512) j
  have e : S640x1024.numel = 655360 := by decide
  have hy := at_some y (k := 16 * 1024 + (S2x512.rowMajor j).val) (by rw [e]; omega)
  have h1 : At (unpack8 y) (S2x512.rowMajor j).val _ := at_cast _ (at_cast _ (at_rows (a := 640) (b := 1) (c := 1024) (r := 16) _ hy))
  have h2 : At (cut8 y) (S2x512.rowMajor j).val _ := at_cast _ (at_slice (n := 655360) (n' := 1024) (o := 16384) _ (at_cast _ hy))
  exact (h2 j rfl).trans (h1 j rfl).symm

/-- `s5_a_re` taken out of the rows. -/
def unpack9 (y : Vec Ideal S640x1024 .f32) : Vec Ideal S2x2x32x64 .f32 :=
  shapeCast S2x2x32x64 (shapeCast S8192 (extractStridedSlice S8x1024 ![17, 0] y slices_S640x1024_S8x1024_17_0) shapeCasts_S8x1024_S8192) shapeCasts_S8192_S2x2x32x64

/-- The same out of the rows laid end to end. -/
def cut9 (y : Vec Ideal S640x1024 .f32) : Vec Ideal S2x2x32x64 .f32 :=
  shapeCast S2x2x32x64 (extractStridedSlice AdamSmallRefIdeal.S8192 ![17408] (shapeCast AdamSmallRefIdeal.S655360 y AdamSmallRefIdeal.Gen.shapeCasts_S640x1024_S655360) AdamSmallRefIdeal.Gen.slices_S655360_S8192_17408) AdamSmallRefIdeal.Gen.shapeCasts_S8192_S2x2x32x64

theorem same9 (y : Vec Ideal S640x1024 .f32) : cut9 y = unpack9 y := by
  funext j
  have hn : (S2x2x32x64.rowMajor j).val < 8192 := pos_lt (n := 8192) (Eq.symm AdamSmallRefIdeal.Gen.shapeCasts_S8192_S2x2x32x64) j
  have e : S640x1024.numel = 655360 := by decide
  have hy := at_some y (k := 17 * 1024 + (S2x2x32x64.rowMajor j).val) (by rw [e]; omega)
  have h1 : At (unpack9 y) (S2x2x32x64.rowMajor j).val _ := at_cast _ (at_cast _ (at_rows (a := 640) (b := 8) (c := 1024) (r := 17) _ hy))
  have h2 : At (cut9 y) (S2x2x32x64.rowMajor j).val _ := at_cast _ (at_slice (n := 655360) (n' := 8192) (o := 17408) _ (at_cast _ hy))
  exact (h2 j rfl).trans (h1 j rfl).symm

/-- `s5_a_im` taken out of the rows. -/
def unpack10 (y : Vec Ideal S640x1024 .f32) : Vec Ideal S2x2x32x64 .f32 :=
  shapeCast S2x2x32x64 (shapeCast S8192 (extractStridedSlice S8x1024 ![25, 0] y slices_S640x1024_S8x1024_25_0) shapeCasts_S8x1024_S8192) shapeCasts_S8192_S2x2x32x64

/-- The same out of the rows laid end to end. -/
def cut10 (y : Vec Ideal S640x1024 .f32) : Vec Ideal S2x2x32x64 .f32 :=
  shapeCast S2x2x32x64 (extractStridedSlice AdamSmallRefIdeal.S8192 ![25600] (shapeCast AdamSmallRefIdeal.S655360 y AdamSmallRefIdeal.Gen.shapeCasts_S640x1024_S655360) AdamSmallRefIdeal.Gen.slices_S655360_S8192_25600) AdamSmallRefIdeal.Gen.shapeCasts_S8192_S2x2x32x64

theorem same10 (y : Vec Ideal S640x1024 .f32) : cut10 y = unpack10 y := by
  funext j
  have hn : (S2x2x32x64.rowMajor j).val < 8192 := pos_lt (n := 8192) (Eq.symm AdamSmallRefIdeal.Gen.shapeCasts_S8192_S2x2x32x64) j
  have e : S640x1024.numel = 655360 := by decide
  have hy := at_some y (k := 25 * 1024 + (S2x2x32x64.rowMajor j).val) (by rw [e]; omega)
  have h1 : At (unpack10 y) (S2x2x32x64.rowMajor j).val _ := at_cast _ (at_cast _ (at_rows (a := 640) (b := 8) (c := 1024) (r := 25) _ hy))
  have h2 : At (cut10 y) (S2x2x32x64.rowMajor j).val _ := at_cast _ (at_slice (n := 655360) (n' := 8192) (o := 25600) _ (at_cast _ hy))
  exact (h2 j rfl).trans (h1 j rfl).symm

/-- `s5_log_step` taken out of the rows. -/
def unpack11 (y : Vec Ideal S640x1024 .f32) : Vec Ideal S2x2x32 .f32 :=
  shapeCast S2x2x32 (extractStridedSlice S128 ![0] (shapeCast S1024 (extractStridedSlice S1x1024 ![33, 0] y slices_S640x1024_S1x1024_33_0) shapeCasts_S1x1024_S1024) slices_S1024_S128_0) shapeCasts_S128_S2x2x32

/-- The same out of the rows laid end to end. -/
def cut11 (y : Vec Ideal S640x1024 .f32) : Vec Ideal S2x2x32 .f32 :=
  shapeCast S2x2x32 (extractStridedSlice AdamSmallRefIdeal.S128 ![33792] (shapeCast AdamSmallRefIdeal.S655360 y AdamSmallRefIdeal.Gen.shapeCasts_S640x1024_S655360) AdamSmallRefIdeal.Gen.slices_S655360_S128_33792) AdamSmallRefIdeal.Gen.shapeCasts_S128_S2x2x32

theorem same11 (y : Vec Ideal S640x1024 .f32) : cut11 y = unpack11 y := by
  funext j
  have hn : (S2x2x32.rowMajor j).val < 128 := pos_lt (n := 128) (Eq.symm AdamSmallRefIdeal.Gen.shapeCasts_S128_S2x2x32) j
  have e : S640x1024.numel = 655360 := by decide
  have hy := at_some y (k := 33 * 1024 + (S2x2x32.rowMajor j).val) (by rw [e]; omega)
  have h1 : At (unpack11 y) (S2x2x32.rowMajor j).val _ := at_cast _ (at_slice (n := 1024) (n' := 128) (o := 0) _ (zero_add_at (at_cast _ (at_rows (a := 640) (b := 1) (c := 1024) (r := 33) _ hy))))
  have h2 : At (cut11 y) (S2x2x32.rowMajor j).val _ := at_cast _ (at_slice (n := 655360) (n' := 128) (o := 33792) _ (at_cast _ hy))
  exact (h2 j rfl).trans (h1 j rfl).symm

/-- `s5_b_re` taken out of the rows. -/
def unpack12 (y : Vec Ideal S640x1024 .f32) : Vec Ideal S2x32x64x16 .f32 :=
  shapeCast S2x32x64x16 (shapeCast S65536 (extractStridedSlice S64x1024 ![34, 0] y slices_S640x1024_S64x1024_34_0) shapeCasts_S64x1024_S65536) shapeCasts_S65536_S2x32x64x16

/-- The same out of the rows laid end to end. -/
def cut12 (y : Vec Ideal S640x1024 .f32) : Vec Ideal S2x32x64x16 .f32 :=
  shapeCast S2x32x64x16 (extractStridedSlice AdamSmallRefIdeal.S65536 ![34816] (shapeCast AdamSmallRefIdeal.S655360 y AdamSmallRefIdeal.Gen.shapeCasts_S640x1024_S655360) AdamSmallRefIdeal.Gen.slices_S655360_S65536_34816) AdamSmallRefIdeal.Gen.shapeCasts_S65536_S2x32x64x16

theorem same12 (y : Vec Ideal S640x1024 .f32) : cut12 y = unpack12 y := by
  funext j
  have hn : (S2x32x64x16.rowMajor j).val < 65536 := pos_lt (n := 65536) (Eq.symm AdamSmallRefIdeal.Gen.shapeCasts_S65536_S2x32x64x16) j
  have e : S640x1024.numel = 655360 := by decide
  have hy := at_some y (k := 34 * 1024 + (S2x32x64x16.rowMajor j).val) (by rw [e]; omega)
  have h1 : At (unpack12 y) (S2x32x64x16.rowMajor j).val _ := at_cast _ (at_cast _ (at_rows (a := 640) (b := 64) (c := 1024) (r := 34) _ hy))
  have h2 : At (cut12 y) (S2x32x64x16.rowMajor j).val _ := at_cast _ (at_slice (n := 655360) (n' := 65536) (o := 34816) _ (at_cast _ hy))
  exact (h2 j rfl).trans (h1 j rfl).symm

/-- `s5_b_im` taken out of the rows. -/
def unpack13 (y : Vec Ideal S640x1024 .f32) : Vec Ideal S2x32x64x16 .f32 :=
  shapeCast S2x32x64x16 (shapeCast S65536 (extractStridedSlice S64x1024 ![98, 0] y slices_S640x1024_S64x1024_98_0) shapeCasts_S64x1024_S65536) shapeCasts_S65536_S2x32x64x16

/-- The same out of the rows laid end to end. -/
def cut13 (y : Vec Ideal S640x1024 .f32) : Vec Ideal S2x32x64x16 .f32 :=
  shapeCast S2x32x64x16 (extractStridedSlice AdamSmallRefIdeal.S65536 ![100352] (shapeCast AdamSmallRefIdeal.S655360 y AdamSmallRefIdeal.Gen.shapeCasts_S640x1024_S655360) AdamSmallRefIdeal.Gen.slices_S655360_S65536_100352) AdamSmallRefIdeal.Gen.shapeCasts_S65536_S2x32x64x16

theorem same13 (y : Vec Ideal S640x1024 .f32) : cut13 y = unpack13 y := by
  funext j
  have hn : (S2x32x64x16.rowMajor j).val < 65536 := pos_lt (n := 65536) (Eq.symm AdamSmallRefIdeal.Gen.shapeCasts_S65536_S2x32x64x16) j
  have e : S640x1024.numel = 655360 := by decide
  have hy := at_some y (k := 98 * 1024 + (S2x32x64x16.rowMajor j).val) (by rw [e]; omega)
  have h1 : At (unpack13 y) (S2x32x64x16.rowMajor j).val _ := at_cast _ (at_cast _ (at_rows (a := 640) (b := 64) (c := 1024) (r := 98) _ hy))
  have h2 : At (cut13 y) (S2x32x64x16.rowMajor j).val _ := at_cast _ (at_slice (n := 655360) (n' := 65536) (o := 100352) _ (at_cast _ hy))
  exact (h2 j rfl).trans (h1 j rfl).symm

/-- `s5_c_re` taken out of the rows. -/
def unpack14 (y : Vec Ideal S640x1024 .f32) : Vec Ideal S2x32x16x64 .f32 :=
  shapeCast S2x32x16x64 (shapeCast S65536 (extractStridedSlice S64x1024 ![162, 0] y slices_S640x1024_S64x1024_162_0) shapeCasts_S64x1024_S65536) shapeCasts_S65536_S2x32x16x64

/-- The same out of the rows laid end to end. -/
def cut14 (y : Vec Ideal S640x1024 .f32) : Vec Ideal S2x32x16x64 .f32 :=
  shapeCast S2x32x16x64 (extractStridedSlice AdamSmallRefIdeal.S65536 ![165888] (shapeCast AdamSmallRefIdeal.S655360 y AdamSmallRefIdeal.Gen.shapeCasts_S640x1024_S655360) AdamSmallRefIdeal.Gen.slices_S655360_S65536_165888) AdamSmallRefIdeal.Gen.shapeCasts_S65536_S2x32x16x64

theorem same14 (y : Vec Ideal S640x1024 .f32) : cut14 y = unpack14 y := by
  funext j
  have hn : (S2x32x16x64.rowMajor j).val < 65536 := pos_lt (n := 65536) (Eq.symm AdamSmallRefIdeal.Gen.shapeCasts_S65536_S2x32x16x64) j
  have e : S640x1024.numel = 655360 := by decide
  have hy := at_some y (k := 162 * 1024 + (S2x32x16x64.rowMajor j).val) (by rw [e]; omega)
  have h1 : At (unpack14 y) (S2x32x16x64.rowMajor j).val _ := at_cast _ (at_cast _ (at_rows (a := 640) (b := 64) (c := 1024) (r := 162) _ hy))
  have h2 : At (cut14 y) (S2x32x16x64.rowMajor j).val _ := at_cast _ (at_slice (n := 655360) (n' := 65536) (o := 165888) _ (at_cast _ hy))
  exact (h2 j rfl).trans (h1 j rfl).symm

/-- `s5_c_im` taken out of the rows. -/
def unpack15 (y : Vec Ideal S640x1024 .f32) : Vec Ideal S2x32x16x64 .f32 :=
  shapeCast S2x32x16x64 (shapeCast S65536 (extractStridedSlice S64x1024 ![226, 0] y slices_S640x1024_S64x1024_226_0) shapeCasts_S64x1024_S65536) shapeCasts_S65536_S2x32x16x64

/-- The same out of the rows laid end to end. -/
def cut15 (y : Vec Ideal S640x1024 .f32) : Vec Ideal S2x32x16x64 .f32 :=
  shapeCast S2x32x16x64 (extractStridedSlice AdamSmallRefIdeal.S65536 ![231424] (shapeCast AdamSmallRefIdeal.S655360 y AdamSmallRefIdeal.Gen.shapeCasts_S640x1024_S655360) AdamSmallRefIdeal.Gen.slices_S655360_S65536_231424) AdamSmallRefIdeal.Gen.shapeCasts_S65536_S2x32x16x64

theorem same15 (y : Vec Ideal S640x1024 .f32) : cut15 y = unpack15 y := by
  funext j
  have hn : (S2x32x16x64.rowMajor j).val < 65536 := pos_lt (n := 65536) (Eq.symm AdamSmallRefIdeal.Gen.shapeCasts_S65536_S2x32x16x64) j
  have e : S640x1024.numel = 655360 := by decide
  have hy := at_some y (k := 226 * 1024 + (S2x32x16x64.rowMajor j).val) (by rw [e]; omega)
  have h1 : At (unpack15 y) (S2x32x16x64.rowMajor j).val _ := at_cast _ (at_cast _ (at_rows (a := 640) (b := 64) (c := 1024) (r := 226) _ hy))
  have h2 : At (cut15 y) (S2x32x16x64.rowMajor j).val _ := at_cast _ (at_slice (n := 655360) (n' := 65536) (o := 231424) _ (at_cast _ hy))
  exact (h2 j rfl).trans (h1 j rfl).symm

/-- `s5_d` taken out of the rows. -/
def unpack16 (y : Vec Ideal S640x1024 .f32) : Vec Ideal S2x512 .f32 :=
  shapeCast S2x512 (shapeCast S1024 (extractStridedSlice S1x1024 ![290, 0] y slices_S640x1024_S1x1024_290_0) shapeCasts_S1x1024_S1024) shapeCasts_S1024_S2x512

/-- The same out of the rows laid end to end. -/
def cut16 (y : Vec Ideal S640x1024 .f32) : Vec Ideal S2x512 .f32 :=
  shapeCast S2x512 (extractStridedSlice AdamSmallRefIdeal.S1024 ![296960] (shapeCast AdamSmallRefIdeal.S655360 y AdamSmallRefIdeal.Gen.shapeCasts_S640x1024_S655360) AdamSmallRefIdeal.Gen.slices_S655360_S1024_296960) AdamSmallRefIdeal.Gen.shapeCasts_S1024_S2x512

theorem same16 (y : Vec Ideal S640x1024 .f32) : cut16 y = unpack16 y := by
  funext j
  have hn : (S2x512.rowMajor j).val < 1024 := pos_lt (n := 1024) (Eq.symm AdamSmallRefIdeal.Gen.shapeCasts_S1024_S2x512) j
  have e : S640x1024.numel = 655360 := by decide
  have hy := at_some y (k := 290 * 1024 + (S2x512.rowMajor j).val) (by rw [e]; omega)
  have h1 : At (unpack16 y) (S2x512.rowMajor j).val _ := at_cast _ (at_cast _ (at_rows (a := 640) (b := 1) (c := 1024) (r := 290) _ hy))
  have h2 : At (cut16 y) (S2x512.rowMajor j).val _ := at_cast _ (at_slice (n := 655360) (n' := 1024) (o := 296960) _ (at_cast _ hy))
  exact (h2 j rfl).trans (h1 j rfl).symm

/-- `s5_b_glu` taken out of the rows. -/
def unpack17 (y : Vec Ideal S640x1024 .f32) : Vec Ideal S2x512 .f32 :=
  shapeCast S2x512 (shapeCast S1024 (extractStridedSlice S1x1024 ![291, 0] y slices_S640x1024_S1x1024_291_0) shapeCasts_S1x1024_S1024) shapeCasts_S1024_S2x512

/-- The same out of the rows laid end to end. -/
def cut17 (y : Vec Ideal S640x1024 .f32) : Vec Ideal S2x512 .f32 :=
  shapeCast S2x512 (extractStridedSlice AdamSmallRefIdeal.S1024 ![297984] (shapeCast AdamSmallRefIdeal.S655360 y AdamSmallRefIdeal.Gen.shapeCasts_S640x1024_S655360) AdamSmallRefIdeal.Gen.slices_S655360_S1024_297984) AdamSmallRefIdeal.Gen.shapeCasts_S1024_S2x512

theorem same17 (y : Vec Ideal S640x1024 .f32) : cut17 y = unpack17 y := by
  funext j
  have hn : (S2x512.rowMajor j).val < 1024 := pos_lt (n := 1024) (Eq.symm AdamSmallRefIdeal.Gen.shapeCasts_S1024_S2x512) j
  have e : S640x1024.numel = 655360 := by decide
  have hy := at_some y (k := 291 * 1024 + (S2x512.rowMajor j).val) (by rw [e]; omega)
  have h1 : At (unpack17 y) (S2x512.rowMajor j).val _ := at_cast _ (at_cast _ (at_rows (a := 640) (b := 1) (c := 1024) (r := 291) _ hy))
  have h2 : At (cut17 y) (S2x512.rowMajor j).val _ := at_cast _ (at_slice (n := 655360) (n' := 1024) (o := 297984) _ (at_cast _ hy))
  exact (h2 j rfl).trans (h1 j rfl).symm

/-- `lru_conv_b` taken out of the rows. -/
def unpack18 (y : Vec Ideal S640x1024 .f32) : Vec Ideal S2x512 .f32 :=
  shapeCast S2x512 (shapeCast S1024 (extractStridedSlice S1x1024 ![292, 0] y slices_S640x1024_S1x1024_292_0) shapeCasts_S1x1024_S1024) shapeCasts_S1024_S2x512

/-- The same out of the rows laid end to end. -/
def cut18 (y : Vec Ideal S640x1024 .f32) : Vec Ideal S2x512 .f32 :=
  shapeCast S2x512 (extractStridedSlice AdamSmallRefIdeal.S1024 ![299008] (shapeCast AdamSmallRefIdeal.S655360 y AdamSmallRefIdeal.Gen.shapeCasts_S640x1024_S655360) AdamSmallRefIdeal.Gen.slices_S655360_S1024_299008) AdamSmallRefIdeal.Gen.shapeCasts_S1024_S2x512

theorem same18 (y : Vec Ideal S640x1024 .f32) : cut18 y = unpack18 y := by
  funext j
  have hn : (S2x512.rowMajor j).val < 1024 := pos_lt (n := 1024) (Eq.symm AdamSmallRefIdeal.Gen.shapeCasts_S1024_S2x512) j
  have e : S640x1024.numel = 655360 := by decide
  have hy := at_some y (k := 292 * 1024 + (S2x512.rowMajor j).val) (by rw [e]; omega)
  have h1 : At (unpack18 y) (S2x512.rowMajor j).val _ := at_cast _ (at_cast _ (at_rows (a := 640) (b := 1) (c := 1024) (r := 292) _ hy))
  have h2 : At (cut18 y) (S2x512.rowMajor j).val _ := at_cast _ (at_slice (n := 655360) (n' := 1024) (o := 299008) _ (at_cast _ hy))
  exact (h2 j rfl).trans (h1 j rfl).symm

/-- `lru_gate_w` taken out of the rows. -/
def unpack19 (y : Vec Ideal S640x1024 .f32) : Vec Ideal S2x2x2x8x64x64 .f32 :=
  shapeCast S2x2x2x8x64x64 (shapeCast S262144 (extractStridedSlice S256x1024 ![293, 0] y slices_S640x1024_S256x1024_293_0) shapeCasts_S256x1024_S262144) shapeCasts_S262144_S2x2x2x8x64x64

/-- The same out of the rows laid end to end. -/
def cut19 (y : Vec Ideal S640x1024 .f32) : Vec Ideal S2x2x2x8x64x64 .f32 :=
  shapeCast S2x2x2x8x64x64 (extractStridedSlice AdamSmallRefIdeal.S262144 ![300032] (shapeCast AdamSmallRefIdeal.S655360 y AdamSmallRefIdeal.Gen.shapeCasts_S640x1024_S655360) AdamSmallRefIdeal.Gen.slices_S655360_S262144_300032) AdamSmallRefIdeal.Gen.shapeCasts_S262144_S2x2x2x8x64x64

theorem same19 (y : Vec Ideal S640x1024 .f32) : cut19 y = unpack19 y := by
  funext j
  have hn : (S2x2x2x8x64x64.rowMajor j).val < 262144 := pos_lt (n := 262144) (Eq.symm AdamSmallRefIdeal.Gen.shapeCasts_S262144_S2x2x2x8x64x64) j
  have e : S640x1024.numel = 655360 := by decide
  have hy := at_some y (k := 293 * 1024 + (S2x2x2x8x64x64.rowMajor j).val) (by rw [e]; omega)
  have h1 : At (unpack19 y) (S2x2x2x8x64x64.rowMajor j).val _ := at_cast _ (at_cast _ (at_rows (a := 640) (b := 256) (c := 1024) (r := 293) _ hy))
  have h2 : At (cut19 y) (S2x2x2x8x64x64.rowMajor j).val _ := at_cast _ (at_slice (n := 655360) (n' := 262144) (o := 300032) _ (at_cast _ hy))
  exact (h2 j rfl).trans (h1 j rfl).symm

/-- `lru_gate_b` taken out of the rows. -/
def unpack20 (y : Vec Ideal S640x1024 .f32) : Vec Ideal S2x2x2x8x64 .f32 :=
  shapeCast S2x2x2x8x64 (shapeCast S4096 (extractStridedSlice S4x1024 ![549, 0] y slices_S640x1024_S4x1024_549_0) shapeCasts_S4x1024_S4096) shapeCasts_S4096_S2x2x2x8x64

/-- The same out of the rows laid end to end. -/
def cut20 (y : Vec Ideal S640x1024 .f32) : Vec Ideal S2x2x2x8x64 .f32 :=
  shapeCast S2x2x2x8x64 (extractStridedSlice AdamSmallRefIdeal.S4096 ![562176] (shapeCast AdamSmallRefIdeal.S655360 y AdamSmallRefIdeal.Gen.shapeCasts_S640x1024_S655360) AdamSmallRefIdeal.Gen.slices_S655360_S4096_562176) AdamSmallRefIdeal.Gen.shapeCasts_S4096_S2x2x2x8x64

theorem same20 (y : Vec Ideal S640x1024 .f32) : cut20 y = unpack20 y := by
  funext j
  have hn : (S2x2x2x8x64.rowMajor j).val < 4096 := pos_lt (n := 4096) (Eq.symm AdamSmallRefIdeal.Gen.shapeCasts_S4096_S2x2x2x8x64) j
  have e : S640x1024.numel = 655360 := by decide
  have hy := at_some y (k := 549 * 1024 + (S2x2x2x8x64.rowMajor j).val) (by rw [e]; omega)
  have h1 : At (unpack20 y) (S2x2x2x8x64.rowMajor j).val _ := at_cast _ (at_cast _ (at_rows (a := 640) (b := 4) (c := 1024) (r := 549) _ hy))
  have h2 : At (cut20 y) (S2x2x2x8x64.rowMajor j).val _ := at_cast _ (at_slice (n := 655360) (n' := 4096) (o := 562176) _ (at_cast _ hy))
  exact (h2 j rfl).trans (h1 j rfl).symm

/-- `m2_conv_b` taken out of the rows. -/
def unpack21 (y : Vec Ideal S640x1024 .f32) : Vec Ideal S2x768 .f32 :=
  shapeCast S2x768 (extractStridedSlice S1536 ![0] (shapeCast S2048 (extractStridedSlice S2x1024 ![553, 0] y slices_S640x1024_S2x1024_553_0) shapeCasts_S2x1024_S2048) slices_S2048_S1536_0) shapeCasts_S1536_S2x768

/-- The same out of the rows laid end to end. -/
def cut21 (y : Vec Ideal S640x1024 .f32) : Vec Ideal S2x768 .f32 :=
  shapeCast S2x768 (extractStridedSlice AdamSmallRefIdeal.S1536 ![566272] (shapeCast AdamSmallRefIdeal.S655360 y AdamSmallRefIdeal.Gen.shapeCasts_S640x1024_S655360) AdamSmallRefIdeal.Gen.slices_S655360_S1536_566272) AdamSmallRefIdeal.Gen.shapeCasts_S1536_S2x768

theorem same21 (y : Vec Ideal S640x1024 .f32) : cut21 y = unpack21 y := by
  funext j
  have hn : (S2x768.rowMajor j).val < 1536 := pos_lt (n := 1536) (Eq.symm AdamSmallRefIdeal.Gen.shapeCasts_S1536_S2x768) j
  have e : S640x1024.numel = 655360 := by decide
  have hy := at_some y (k := 553 * 1024 + (S2x768.rowMajor j).val) (by rw [e]; omega)
  have h1 : At (unpack21 y) (S2x768.rowMajor j).val _ := at_cast _ (at_slice (n := 2048) (n' := 1536) (o := 0) _ (zero_add_at (at_cast _ (at_rows (a := 640) (b := 2) (c := 1024) (r := 553) _ hy))))
  have h2 : At (cut21 y) (S2x768.rowMajor j).val _ := at_cast _ (at_slice (n := 655360) (n' := 1536) (o := 566272) _ (at_cast _ hy))
  exact (h2 j rfl).trans (h1 j rfl).symm

/-- `m2_dt_bias` taken out of the rows. -/
def unpack22 (y : Vec Ideal S640x1024 .f32) : Vec Ideal S2x2x8 .f32 :=
  shapeCast S2x2x8 (extractStridedSlice S32 ![0] (shapeCast S1024 (extractStridedSlice S1x1024 ![555, 0] y slices_S640x1024_S1x1024_555_0) shapeCasts_S1x1024_S1024) slices_S1024_S32_0) shapeCasts_S32_S2x2x8

/-- The same out of the rows laid end to end. -/
def cut22 (y : Vec Ideal S640x1024 .f32) : Vec Ideal S2x2x8 .f32 :=
  shapeCast S2x2x8 (extractStridedSlice AdamSmallRefIdeal.S32 ![568320] (shapeCast AdamSmallRefIdeal.S655360 y AdamSmallRefIdeal.Gen.shapeCasts_S640x1024_S655360) AdamSmallRefIdeal.Gen.slices_S655360_S32_568320) AdamSmallRefIdeal.Gen.shapeCasts_S32_S2x2x8

theorem same22 (y : Vec Ideal S640x1024 .f32) : cut22 y = unpack22 y := by
  funext j
  have hn : (S2x2x8.rowMajor j).val < 32 := pos_lt (n := 32) (Eq.symm AdamSmallRefIdeal.Gen.shapeCasts_S32_S2x2x8) j
  have e : S640x1024.numel = 655360 := by decide
  have hy := at_some y (k := 555 * 1024 + (S2x2x8.rowMajor j).val) (by rw [e]; omega)
  have h1 : At (unpack22 y) (S2x2x8.rowMajor j).val _ := at_cast _ (at_slice (n := 1024) (n' := 32) (o := 0) _ (zero_add_at (at_cast _ (at_rows (a := 640) (b := 1) (c := 1024) (r := 555) _ hy))))
  have h2 : At (cut22 y) (S2x2x8.rowMajor j).val _ := at_cast _ (at_slice (n := 655360) (n' := 32) (o := 568320) _ (at_cast _ hy))
  exact (h2 j rfl).trans (h1 j rfl).symm

/-- `m2_a_log` taken out of the rows. -/
def unpack23 (y : Vec Ideal S640x1024 .f32) : Vec Ideal S2x2x8 .f32 :=
  shapeCast S2x2x8 (extractStridedSlice S32 ![0] (shapeCast S1024 (extractStridedSlice S1x1024 ![556, 0] y slices_S640x1024_S1x1024_556_0) shapeCasts_S1x1024_S1024) slices_S1024_S32_0) shapeCasts_S32_S2x2x8

/-- The same out of the rows laid end to end. -/
def cut23 (y : Vec Ideal S640x1024 .f32) : Vec Ideal S2x2x8 .f32 :=
  shapeCast S2x2x8 (extractStridedSlice AdamSmallRefIdeal.S32 ![569344] (shapeCast AdamSmallRefIdeal.S655360 y AdamSmallRefIdeal.Gen.shapeCasts_S640x1024_S655360) AdamSmallRefIdeal.Gen.slices_S655360_S32_569344) AdamSmallRefIdeal.Gen.shapeCasts_S32_S2x2x8

theorem same23 (y : Vec Ideal S640x1024 .f32) : cut23 y = unpack23 y := by
  funext j
  have hn : (S2x2x8.rowMajor j).val < 32 := pos_lt (n := 32) (Eq.symm AdamSmallRefIdeal.Gen.shapeCasts_S32_S2x2x8) j
  have e : S640x1024.numel = 655360 := by decide
  have hy := at_some y (k := 556 * 1024 + (S2x2x8.rowMajor j).val) (by rw [e]; omega)
  have h1 : At (unpack23 y) (S2x2x8.rowMajor j).val _ := at_cast _ (at_slice (n := 1024) (n' := 32) (o := 0) _ (zero_add_at (at_cast _ (at_rows (a := 640) (b := 1) (c := 1024) (r := 556) _ hy))))
  have h2 : At (cut23 y) (S2x2x8.rowMajor j).val _ := at_cast _ (at_slice (n := 655360) (n' := 32) (o := 569344) _ (at_cast _ hy))
  exact (h2 j rfl).trans (h1 j rfl).symm

/-- `m2_d` taken out of the rows. -/
def unpack24 (y : Vec Ideal S640x1024 .f32) : Vec Ideal S2x8 .f32 :=
  shapeCast S2x8 (extractStridedSlice S16 ![0] (shapeCast S1024 (extractStridedSlice S1x1024 ![557, 0] y slices_S640x1024_S1x1024_557_0) shapeCasts_S1x1024_S1024) slices_S1024_S16_0) shapeCasts_S16_S2x8

/-- The same out of the rows laid end to end. -/
def cut24 (y : Vec Ideal S640x1024 .f32) : Vec Ideal S2x8 .f32 :=
  shapeCast S2x8 (extractStridedSlice AdamSmallRefIdeal.S16 ![570368] (shapeCast AdamSmallRefIdeal.S655360 y AdamSmallRefIdeal.Gen.shapeCasts_S640x1024_S655360) AdamSmallRefIdeal.Gen.slices_S655360_S16_570368) AdamSmallRefIdeal.Gen.shapeCasts_S16_S2x8

theorem same24 (y : Vec Ideal S640x1024 .f32) : cut24 y = unpack24 y := by
  funext j
  have hn : (S2x8.rowMajor j).val < 16 := pos_lt (n := 16) (Eq.symm AdamSmallRefIdeal.Gen.shapeCasts_S16_S2x8) j
  have e : S640x1024.numel = 655360 := by decide
  have hy := at_some y (k := 557 * 1024 + (S2x8.rowMajor j).val) (by rw [e]; omega)
  have h1 : At (unpack24 y) (S2x8.rowMajor j).val _ := at_cast _ (at_slice (n := 1024) (n' := 16) (o := 0) _ (zero_add_at (at_cast _ (at_rows (a := 640) (b := 1) (c := 1024) (r := 557) _ hy))))
  have h2 : At (cut24 y) (S2x8.rowMajor j).val _ := at_cast _ (at_slice (n := 655360) (n' := 16) (o := 570368) _ (at_cast _ hy))
  exact (h2 j rfl).trans (h1 j rfl).symm

/-- `m2_norm` taken out of the rows. -/
def unpack25 (y : Vec Ideal S640x1024 .f32) : Vec Ideal S2x512 .f32 :=
  shapeCast S2x512 (shapeCast S1024 (extractStridedSlice S1x1024 ![558, 0] y slices_S640x1024_S1x1024_558_0) shapeCasts_S1x1024_S1024) shapeCasts_S1024_S2x512

/-- The same out of the rows laid end to end. -/
def cut25 (y : Vec Ideal S640x1024 .f32) : Vec Ideal S2x512 .f32 :=
  shapeCast S2x512 (extractStridedSlice AdamSmallRefIdeal.S1024 ![571392] (shapeCast AdamSmallRefIdeal.S655360 y AdamSmallRefIdeal.Gen.shapeCasts_S640x1024_S655360) AdamSmallRefIdeal.Gen.slices_S655360_S1024_571392) AdamSmallRefIdeal.Gen.shapeCasts_S1024_S2x512

theorem same25 (y : Vec Ideal S640x1024 .f32) : cut25 y = unpack25 y := by
  funext j
  have hn : (S2x512.rowMajor j).val < 1024 := pos_lt (n := 1024) (Eq.symm AdamSmallRefIdeal.Gen.shapeCasts_S1024_S2x512) j
  have e : S640x1024.numel = 655360 := by decide
  have hy := at_some y (k := 558 * 1024 + (S2x512.rowMajor j).val) (by rw [e]; omega)
  have h1 : At (unpack25 y) (S2x512.rowMajor j).val _ := at_cast _ (at_cast _ (at_rows (a := 640) (b := 1) (c := 1024) (r := 558) _ hy))
  have h2 : At (cut25 y) (S2x512.rowMajor j).val _ := at_cast _ (at_slice (n := 655360) (n' := 1024) (o := 571392) _ (at_cast _ hy))
  exact (h2 j rfl).trans (h1 j rfl).symm

/-- `final_norm` taken out of the rows. -/
def unpack26 (y : Vec Ideal S640x1024 .f32) : Vec Ideal S1024 .f32 :=
  shapeCast S1024 (extractStridedSlice S1x1024 ![559, 0] y slices_S640x1024_S1x1024_559_0) shapeCasts_S1x1024_S1024

/-- The same out of the rows laid end to end. -/
def cut26 (y : Vec Ideal S640x1024 .f32) : Vec Ideal S1024 .f32 :=
  extractStridedSlice AdamSmallRefIdeal.S1024 ![572416] (shapeCast AdamSmallRefIdeal.S655360 y AdamSmallRefIdeal.Gen.shapeCasts_S640x1024_S655360) AdamSmallRefIdeal.Gen.slices_S655360_S1024_572416

theorem same26 (y : Vec Ideal S640x1024 .f32) : cut26 y = unpack26 y := by
  funext j
  have hn : (S1024.rowMajor j).val < 1024 := pos_lt_row j
  have e : S640x1024.numel = 655360 := by decide
  have hy := at_some y (k := 559 * 1024 + (S1024.rowMajor j).val) (by rw [e]; omega)
  have h1 : At (unpack26 y) (S1024.rowMajor j).val _ := at_cast _ (at_rows (a := 640) (b := 1) (c := 1024) (r := 559) _ hy)
  have h2 : At (cut26 y) (S1024.rowMajor j).val _ := at_slice (n := 655360) (n' := 1024) (o := 572416) _ (at_cast _ hy)
  exact (h2 j rfl).trans (h1 j rfl).symm

end Cert.Proof.AdamSmall

end
-- ==== Proof.AdamSmallOut.lean ====
/-  What the host operations after the kernel's call leave in each result. -/
module

public import proofs.«01_k».proof.Proof.Gen.AdamSmallIdeal.Launch
public import proofs.«01_k».proof.Proof.AdamSmallRows
public import Idealize.ShloMosaic.Lib.StableHlo.RunRead

@[expose] public section

set_option maxRecDepth 16384

noncomputable section

namespace Cert.Proof.AdamSmall

open Cert.AdamSmallIdeal Cert.AdamSmallIdeal.Gen Idealize.ShloMosaic Idealize.ShloMosaic.TcCoe Idealize.SL.Sem
open Idealize.ShloMosaic.Pipeline (Dat)
open Cert.Proof.Adam Cert.Proof.Rows

open Idealize.ShloMosaic.StableHlo

theorem out0 (V : Valuation τ sig (Elt Ideal)) : StableHlo.after hostOps1 V (Proc.devRef .tc main_v5) = unpack0 (V (Proc.devRef .tc main_v0_0)) := by
  after_reads_simp
  rfl

theorem out1 (V : Valuation τ sig (Elt Ideal)) : StableHlo.after hostOps1 V (Proc.devRef .tc main_v9) = unpack1 (V (Proc.devRef .tc main_v0_0)) := by
  after_reads_simp
  rfl

theorem out2 (V : Valuation τ sig (Elt Ideal)) : StableHlo.after hostOps1 V (Proc.devRef .tc main_v14) = unpack2 (V (Proc.devRef .tc main_v0_0)) := by
  after_reads_simp
  rfl

theorem out3 (V : Valuation τ sig (Elt Ideal)) : StableHlo.after hostOps1 V (Proc.devRef .tc main_v19) = unpack3 (V (Proc.devRef .tc main_v0_0)) := by
  after_reads_simp
  rfl

theorem out4 (V : Valuation τ sig (Elt Ideal)) : StableHlo.after hostOps1 V (Proc.devRef .tc main_v23) = unpack4 (V (Proc.devRef .tc main_v0_0)) := by
  after_reads_simp
  rfl

theorem out5 (V : Valuation τ sig (Elt Ideal)) : StableHlo.after hostOps1 V (Proc.devRef .tc main_v26) = unpack5 (V (Proc.devRef .tc main_v0_0)) := by
  after_reads_simp
  rfl

theorem out6 (V : Valuation τ sig (Elt Ideal)) : StableHlo.after hostOps1 V (Proc.devRef .tc main_v30) = unpack6 (V (Proc.devRef .tc main_v0_0)) := by
  after_reads_simp
  rfl

theorem out7 (V : Valuation τ sig (Elt Ideal)) : StableHlo.after hostOps1 V (Proc.devRef .tc main_v34) = unpack7 (V (Proc.devRef .tc main_v0_0)) := by
  after_reads_simp
  rfl

theorem out8 (V : Valuation τ sig (Elt Ideal)) : StableHlo.after hostOps1 V (Proc.devRef .tc main_v38) = unpack8 (V (Proc.devRef .tc main_v0_0)) := by
  after_reads_simp
  rfl

theorem out9 (V : Valuation τ sig (Elt Ideal)) : StableHlo.after hostOps1 V (Proc.devRef .tc main_v42) = unpack9 (V (Proc.devRef .tc main_v0_0)) := by
  after_reads_simp
  rfl

theorem out10 (V : Valuation τ sig (Elt Ideal)) : StableHlo.after hostOps1 V (Proc.devRef .tc main_v46) = unpack10 (V (Proc.devRef .tc main_v0_0)) := by
  after_reads_simp
  rfl

theorem out11 (V : Valuation τ sig (Elt Ideal)) : StableHlo.after hostOps1 V (Proc.devRef .tc main_v51) = unpack11 (V (Proc.devRef .tc main_v0_0)) := by
  after_reads_simp
  rfl

theorem out12 (V : Valuation τ sig (Elt Ideal)) : StableHlo.after hostOps1 V (Proc.devRef .tc main_v55) = unpack12 (V (Proc.devRef .tc main_v0_0)) := by
  after_reads_simp
  rfl

theorem out13 (V : Valuation τ sig (Elt Ideal)) : StableHlo.after hostOps1 V (Proc.devRef .tc main_v59) = unpack13 (V (Proc.devRef .tc main_v0_0)) := by
  after_reads_simp
  rfl

theorem out14 (V : Valuation τ sig (Elt Ideal)) : StableHlo.after hostOps1 V (Proc.devRef .tc main_v63) = unpack14 (V (Proc.devRef .tc main_v0_0)) := by
  after_reads_simp
  rfl

theorem out15 (V : Valuation τ sig (Elt Ideal)) : StableHlo.after hostOps1 V (Proc.devRef .tc main_v67) = unpack15 (V (Proc.devRef .tc main_v0_0)) := by
  after_reads_simp
  rfl

theorem out16 (V : Valuation τ sig (Elt Ideal)) : StableHlo.after hostOps1 V (Proc.devRef .tc main_v71) = unpack16 (V (Proc.devRef .tc main_v0_0)) := by
  after_reads_simp
  rfl

theorem out17 (V : Valuation τ sig (Elt Ideal)) : StableHlo.after hostOps1 V (Proc.devRef .tc main_v75) = unpack17 (V (Proc.devRef .tc main_v0_0)) := by
  after_reads_simp
  rfl

theorem out18 (V : Valuation τ sig (Elt Ideal)) : StableHlo.after hostOps1 V (Proc.devRef .tc main_v79) = unpack18 (V (Proc.devRef .tc main_v0_0)) := by
  after_reads_simp
  rfl

theorem out19 (V : Valuation τ sig (Elt Ideal)) : StableHlo.after hostOps1 V (Proc.devRef .tc main_v83) = unpack19 (V (Proc.devRef .tc main_v0_0)) := by
  after_reads_simp
  rfl

theorem out20 (V : Valuation τ sig (Elt Ideal)) : StableHlo.after hostOps1 V (Proc.devRef .tc main_v87) = unpack20 (V (Proc.devRef .tc main_v0_0)) := by
  after_reads_simp
  rfl

theorem out21 (V : Valuation τ sig (Elt Ideal)) : StableHlo.after hostOps1 V (Proc.devRef .tc main_v92) = unpack21 (V (Proc.devRef .tc main_v0_0)) := by
  after_reads_simp
  rfl

theorem out22 (V : Valuation τ sig (Elt Ideal)) : StableHlo.after hostOps1 V (Proc.devRef .tc main_v97) = unpack22 (V (Proc.devRef .tc main_v0_0)) := by
  after_reads_simp
  rfl

theorem out23 (V : Valuation τ sig (Elt Ideal)) : StableHlo.after hostOps1 V (Proc.devRef .tc main_v102) = unpack23 (V (Proc.devRef .tc main_v0_0)) := by
  after_reads_simp
  rfl

theorem out24 (V : Valuation τ sig (Elt Ideal)) : StableHlo.after hostOps1 V (Proc.devRef .tc main_v107) = unpack24 (V (Proc.devRef .tc main_v0_0)) := by
  after_reads_simp
  rfl

theorem out25 (V : Valuation τ sig (Elt Ideal)) : StableHlo.after hostOps1 V (Proc.devRef .tc main_v111) = unpack25 (V (Proc.devRef .tc main_v0_0)) := by
  after_reads_simp
  rfl

theorem out26 (V : Valuation τ sig (Elt Ideal)) : StableHlo.after hostOps1 V (Proc.devRef .tc main_v114) = unpack26 (V (Proc.devRef .tc main_v0_0)) := by
  after_reads_simp
  rfl

theorem out27 (V : Valuation τ sig (Elt Ideal)) : StableHlo.after hostOps1 V (Proc.devRef .tc main_v119) = unpack0 (V (Proc.devRef .tc main_v0_1)) := by
  after_reads_simp
  rfl

theorem out28 (V : Valuation τ sig (Elt Ideal)) : StableHlo.after hostOps1 V (Proc.devRef .tc main_v123) = unpack1 (V (Proc.devRef .tc main_v0_1)) := by
  after_reads_simp
  rfl

theorem out29 (V : Valuation τ sig (Elt Ideal)) : StableHlo.after hostOps1 V (Proc.devRef .tc main_v128) = unpack2 (V (Proc.devRef .tc main_v0_1)) := by
  after_reads_simp
  rfl

theorem out30 (V : Valuation τ sig (Elt Ideal)) : StableHlo.after hostOps1 V (Proc.devRef .tc main_v133) = unpack3 (V (Proc.devRef .tc main_v0_1)) := by
  after_reads_simp
  rfl

theorem out31 (V : Valuation τ sig (Elt Ideal)) : StableHlo.after hostOps1 V (Proc.devRef .tc main_v137) = unpack4 (V (Proc.devRef .tc main_v0_1)) := by
  after_reads_simp
  rfl

theorem out32 (V : Valuation τ sig (Elt Ideal)) : StableHlo.after hostOps1 V (Proc.devRef .tc main_v140) = unpack5 (V (Proc.devRef .tc main_v0_1)) := by
  after_reads_simp
  rfl

theorem out33 (V : Valuation τ sig (Elt Ideal)) : StableHlo.after hostOps1 V (Proc.devRef .tc main_v144) = unpack6 (V (Proc.devRef .tc main_v0_1)) := by
  after_reads_simp
  rfl

theorem out34 (V : Valuation τ sig (Elt Ideal)) : StableHlo.after hostOps1 V (Proc.devRef .tc main_v148) = unpack7 (V (Proc.devRef .tc main_v0_1)) := by
  after_reads_simp
  rfl

theorem out35 (V : Valuation τ sig (Elt Ideal)) : StableHlo.after hostOps1 V (Proc.devRef .tc main_v152) = unpack8 (V (Proc.devRef .tc main_v0_1)) := by
  after_reads_simp
  rfl

theorem out36 (V : Valuation τ sig (Elt Ideal)) : StableHlo.after hostOps1 V (Proc.devRef .tc main_v156) = unpack9 (V (Proc.devRef .tc main_v0_1)) := by
  after_reads_simp
  rfl

theorem out37 (V : Valuation τ sig (Elt Ideal)) : StableHlo.after hostOps1 V (Proc.devRef .tc main_v160) = unpack10 (V (Proc.devRef .tc main_v0_1)) := by
  after_reads_simp
  rfl

theorem out38 (V : Valuation τ sig (Elt Ideal)) : StableHlo.after hostOps1 V (Proc.devRef .tc main_v165) = unpack11 (V (Proc.devRef .tc main_v0_1)) := by
  after_reads_simp
  rfl

theorem out39 (V : Valuation τ sig (Elt Ideal)) : StableHlo.after hostOps1 V (Proc.devRef .tc main_v169) = unpack12 (V (Proc.devRef .tc main_v0_1)) := by
  after_reads_simp
  rfl

theorem out40 (V : Valuation τ sig (Elt Ideal)) : StableHlo.after hostOps1 V (Proc.devRef .tc main_v173) = unpack13 (V (Proc.devRef .tc main_v0_1)) := by
  after_reads_simp
  rfl

theorem out41 (V : Valuation τ sig (Elt Ideal)) : StableHlo.after hostOps1 V (Proc.devRef .tc main_v177) = unpack14 (V (Proc.devRef .tc main_v0_1)) := by
  after_reads_simp
  rfl

theorem out42 (V : Valuation τ sig (Elt Ideal)) : StableHlo.after hostOps1 V (Proc.devRef .tc main_v181) = unpack15 (V (Proc.devRef .tc main_v0_1)) := by
  after_reads_simp
  rfl

theorem out43 (V : Valuation τ sig (Elt Ideal)) : StableHlo.after hostOps1 V (Proc.devRef .tc main_v185) = unpack16 (V (Proc.devRef .tc main_v0_1)) := by
  after_reads_simp
  rfl

theorem out44 (V : Valuation τ sig (Elt Ideal)) : StableHlo.after hostOps1 V (Proc.devRef .tc main_v189) = unpack17 (V (Proc.devRef .tc main_v0_1)) := by
  after_reads_simp
  rfl

theorem out45 (V : Valuation τ sig (Elt Ideal)) : StableHlo.after hostOps1 V (Proc.devRef .tc main_v193) = unpack18 (V (Proc.devRef .tc main_v0_1)) := by
  after_reads_simp
  rfl

theorem out46 (V : Valuation τ sig (Elt Ideal)) : StableHlo.after hostOps1 V (Proc.devRef .tc main_v197) = unpack19 (V (Proc.devRef .tc main_v0_1)) := by
  after_reads_simp
  rfl

theorem out47 (V : Valuation τ sig (Elt Ideal)) : StableHlo.after hostOps1 V (Proc.devRef .tc main_v201) = unpack20 (V (Proc.devRef .tc main_v0_1)) := by
  after_reads_simp
  rfl

theorem out48 (V : Valuation τ sig (Elt Ideal)) : StableHlo.after hostOps1 V (Proc.devRef .tc main_v206) = unpack21 (V (Proc.devRef .tc main_v0_1)) := by
  after_reads_simp
  rfl

theorem out49 (V : Valuation τ sig (Elt Ideal)) : StableHlo.after hostOps1 V (Proc.devRef .tc main_v211) = unpack22 (V (Proc.devRef .tc main_v0_1)) := by
  after_reads_simp
  rfl

theorem out50 (V : Valuation τ sig (Elt Ideal)) : StableHlo.after hostOps1 V (Proc.devRef .tc main_v216) = unpack23 (V (Proc.devRef .tc main_v0_1)) := by
  after_reads_simp
  rfl

theorem out51 (V : Valuation τ sig (Elt Ideal)) : StableHlo.after hostOps1 V (Proc.devRef .tc main_v221) = unpack24 (V (Proc.devRef .tc main_v0_1)) := by
  after_reads_simp
  rfl

theorem out52 (V : Valuation τ sig (Elt Ideal)) : StableHlo.after hostOps1 V (Proc.devRef .tc main_v225) = unpack25 (V (Proc.devRef .tc main_v0_1)) := by
  after_reads_simp
  rfl

theorem out53 (V : Valuation τ sig (Elt Ideal)) : StableHlo.after hostOps1 V (Proc.devRef .tc main_v228) = unpack26 (V (Proc.devRef .tc main_v0_1)) := by
  after_reads_simp
  rfl

theorem out54 (V : Valuation τ sig (Elt Ideal)) : StableHlo.after hostOps1 V (Proc.devRef .tc main_v233) = unpack0 (V (Proc.devRef .tc main_v0_2)) := by
  after_reads_simp
  rfl

theorem out55 (V : Valuation τ sig (Elt Ideal)) : StableHlo.after hostOps1 V (Proc.devRef .tc main_v237) = unpack1 (V (Proc.devRef .tc main_v0_2)) := by
  after_reads_simp
  rfl

theorem out56 (V : Valuation τ sig (Elt Ideal)) : StableHlo.after hostOps1 V (Proc.devRef .tc main_v242) = unpack2 (V (Proc.devRef .tc main_v0_2)) := by
  after_reads_simp
  rfl

theorem out57 (V : Valuation τ sig (Elt Ideal)) : StableHlo.after hostOps1 V (Proc.devRef .tc main_v247) = unpack3 (V (Proc.devRef .tc main_v0_2)) := by
  after_reads_simp
  rfl

theorem out58 (V : Valuation τ sig (Elt Ideal)) : StableHlo.after hostOps1 V (Proc.devRef .tc main_v251) = unpack4 (V (Proc.devRef .tc main_v0_2)) := by
  after_reads_simp
  rfl

theorem out59 (V : Valuation τ sig (Elt Ideal)) : StableHlo.after hostOps1 V (Proc.devRef .tc main_v254) = unpack5 (V (Proc.devRef .tc main_v0_2)) := by
  after_reads_simp
  rfl

theorem out60 (V : Valuation τ sig (Elt Ideal)) : StableHlo.after hostOps1 V (Proc.devRef .tc main_v258) = unpack6 (V (Proc.devRef .tc main_v0_2)) := by
  after_reads_simp
  rfl

theorem out61 (V : Valuation τ sig (Elt Ideal)) : StableHlo.after hostOps1 V (Proc.devRef .tc main_v262) = unpack7 (V (Proc.devRef .tc main_v0_2)) := by
  after_reads_simp
  rfl

theorem out62 (V : Valuation τ sig (Elt Ideal)) : StableHlo.after hostOps1 V (Proc.devRef .tc main_v266) = unpack8 (V (Proc.devRef .tc main_v0_2)) := by
  after_reads_simp
  rfl

theorem out63 (V : Valuation τ sig (Elt Ideal)) : StableHlo.after hostOps1 V (Proc.devRef .tc main_v270) = unpack9 (V (Proc.devRef .tc main_v0_2)) := by
  after_reads_simp
  rfl

theorem out64 (V : Valuation τ sig (Elt Ideal)) : StableHlo.after hostOps1 V (Proc.devRef .tc main_v274) = unpack10 (V (Proc.devRef .tc main_v0_2)) := by
  after_reads_simp
  rfl

theorem out65 (V : Valuation τ sig (Elt Ideal)) : StableHlo.after hostOps1 V (Proc.devRef .tc main_v279) = unpack11 (V (Proc.devRef .tc main_v0_2)) := by
  after_reads_simp
  rfl

theorem out66 (V : Valuation τ sig (Elt Ideal)) : StableHlo.after hostOps1 V (Proc.devRef .tc main_v283) = unpack12 (V (Proc.devRef .tc main_v0_2)) := by
  after_reads_simp
  rfl

theorem out67 (V : Valuation τ sig (Elt Ideal)) : StableHlo.after hostOps1 V (Proc.devRef .tc main_v287) = unpack13 (V (Proc.devRef .tc main_v0_2)) := by
  after_reads_simp
  rfl

theorem out68 (V : Valuation τ sig (Elt Ideal)) : StableHlo.after hostOps1 V (Proc.devRef .tc main_v291) = unpack14 (V (Proc.devRef .tc main_v0_2)) := by
  after_reads_simp
  rfl

theorem out69 (V : Valuation τ sig (Elt Ideal)) : StableHlo.after hostOps1 V (Proc.devRef .tc main_v295) = unpack15 (V (Proc.devRef .tc main_v0_2)) := by
  after_reads_simp
  rfl

theorem out70 (V : Valuation τ sig (Elt Ideal)) : StableHlo.after hostOps1 V (Proc.devRef .tc main_v299) = unpack16 (V (Proc.devRef .tc main_v0_2)) := by
  after_reads_simp
  rfl

theorem out71 (V : Valuation τ sig (Elt Ideal)) : StableHlo.after hostOps1 V (Proc.devRef .tc main_v303) = unpack17 (V (Proc.devRef .tc main_v0_2)) := by
  after_reads_simp
  rfl

theorem out72 (V : Valuation τ sig (Elt Ideal)) : StableHlo.after hostOps1 V (Proc.devRef .tc main_v307) = unpack18 (V (Proc.devRef .tc main_v0_2)) := by
  after_reads_simp
  rfl

theorem out73 (V : Valuation τ sig (Elt Ideal)) : StableHlo.after hostOps1 V (Proc.devRef .tc main_v311) = unpack19 (V (Proc.devRef .tc main_v0_2)) := by
  after_reads_simp
  rfl

theorem out74 (V : Valuation τ sig (Elt Ideal)) : StableHlo.after hostOps1 V (Proc.devRef .tc main_v315) = unpack20 (V (Proc.devRef .tc main_v0_2)) := by
  after_reads_simp
  rfl

theorem out75 (V : Valuation τ sig (Elt Ideal)) : StableHlo.after hostOps1 V (Proc.devRef .tc main_v320) = unpack21 (V (Proc.devRef .tc main_v0_2)) := by
  after_reads_simp
  rfl

theorem out76 (V : Valuation τ sig (Elt Ideal)) : StableHlo.after hostOps1 V (Proc.devRef .tc main_v325) = unpack22 (V (Proc.devRef .tc main_v0_2)) := by
  after_reads_simp
  rfl

theorem out77 (V : Valuation τ sig (Elt Ideal)) : StableHlo.after hostOps1 V (Proc.devRef .tc main_v330) = unpack23 (V (Proc.devRef .tc main_v0_2)) := by
  after_reads_simp
  rfl

theorem out78 (V : Valuation τ sig (Elt Ideal)) : StableHlo.after hostOps1 V (Proc.devRef .tc main_v335) = unpack24 (V (Proc.devRef .tc main_v0_2)) := by
  after_reads_simp
  rfl

theorem out79 (V : Valuation τ sig (Elt Ideal)) : StableHlo.after hostOps1 V (Proc.devRef .tc main_v339) = unpack25 (V (Proc.devRef .tc main_v0_2)) := by
  after_reads_simp
  rfl

theorem out80 (V : Valuation τ sig (Elt Ideal)) : StableHlo.after hostOps1 V (Proc.devRef .tc main_v342) = unpack26 (V (Proc.devRef .tc main_v0_2)) := by
  after_reads_simp
  rfl

end Cert.Proof.AdamSmall

end
-- ==== Proof.AdamSmallRef.lean ====
/-  The optimiser's step over the packed small weights: each of the kernel's results, and the reference's. -/
module

public import proofs.«01_k».proof.Proof.AdamSmallArr
public import proofs.«01_k».proof.Proof.AdamSmallOut
public import proofs.«01_k».proof.Proof.Gen.AdamSmallRefIdeal.Read

@[expose] public section

set_option maxRecDepth 16384

noncomputable section

namespace Cert.Proof.AdamSmall

open Cert.AdamSmallIdeal Cert.AdamSmallIdeal.Gen Idealize.ShloMosaic Idealize.ShloMosaic.TcCoe Idealize.SL.Sem
open Idealize.ShloMosaic.Pipeline (Dat)
open Cert.Proof.Adam Cert.Proof.Rows

section
variable (m : (ℓ : Loc nD τ sig) → Buf (Elt Ideal) ℓ)

/-! ## The kernel's results -/

theorem end0 (c : Dev nD) : Pipeline.afterTail₀ cfgs (dats m) 0 (V0 m) [hostOps1] c main_v5 =
    unpack0 (deltaOf m c) :=
  (tail_eq m c main_v5).trans ((out0 (rest m c)).trans (congrArg unpack0 (rest4 m c)))
theorem end1 (c : Dev nD) : Pipeline.afterTail₀ cfgs (dats m) 0 (V0 m) [hostOps1] c main_v9 =
    unpack1 (deltaOf m c) :=
  (tail_eq m c main_v9).trans ((out1 (rest m c)).trans (congrArg unpack1 (rest4 m c)))
theorem end2 (c : Dev nD) : Pipeline.afterTail₀ cfgs (dats m) 0 (V0 m) [hostOps1] c main_v14 =
    unpack2 (deltaOf m c) :=
  (tail_eq m c main_v14).trans ((out2 (rest m c)).trans (congrArg unpack2 (rest4 m c)))
theorem end3 (c : Dev nD) : Pipeline.afterTail₀ cfgs (dats m) 0 (V0 m) [hostOps1] c main_v19 =
    unpack3 (deltaOf m c) :=
  (tail_eq m c main_v19).trans ((out3 (rest m c)).trans (congrArg unpack3 (rest4 m c)))
theorem end4 (c : Dev nD) : Pipeline.afterTail₀ cfgs (dats m) 0 (V0 m) [hostOps1] c main_v23 =
    unpack4 (deltaOf m c) :=
  (tail_eq m c main_v23).trans ((out4 (rest m c)).trans (congrArg unpack4 (rest4 m c)))
theorem end5 (c : Dev nD) : Pipeline.afterTail₀ cfgs (dats m) 0 (V0 m) [hostOps1] c main_v26 =
    unpack5 (deltaOf m c) :=
  (tail_eq m c main_v26).trans ((out5 (rest m c)).trans (congrArg unpack5 (rest4 m c)))
theorem end6 (c : Dev nD) : Pipeline.afterTail₀ cfgs (dats m) 0 (V0 m) [hostOps1] c main_v30 =
    unpack6 (deltaOf m c) :=
  (tail_eq m c main_v30).trans ((out6 (rest m c)).trans (congrArg unpack6 (rest4 m c)))
theorem end7 (c : Dev nD) : Pipeline.afterTail₀ cfgs (dats m) 0 (V0 m) [hostOps1] c main_v34 =
    unpack7 (deltaOf m c) :=
  (tail_eq m c main_v34).trans ((out7 (rest m c)).trans (congrArg unpack7 (rest4 m c)))
theorem end8 (c : Dev nD) : Pipeline.afterTail₀ cfgs (dats m) 0 (V0 m) [hostOps1] c main_v38 =
    unpack8 (deltaOf m c) :=
  (tail_eq m c main_v38).trans ((out8 (rest m c)).trans (congrArg unpack8 (rest4 m c)))
theorem end9 (c : Dev nD) : Pipeline.afterTail₀ cfgs (dats m) 0 (V0 m) [hostOps1] c main_v42 =
    unpack9 (deltaOf m c) :=
  (tail_eq m c main_v42).trans ((out9 (rest m c)).trans (congrArg unpack9 (rest4 m c)))
theorem end10 (c : Dev nD) : Pipeline.afterTail₀ cfgs (dats m) 0 (V0 m) [hostOps1] c main_v46 =
    unpack10 (deltaOf m c) :=
  (tail_eq m c main_v46).trans ((out10 (rest m c)).trans (congrArg unpack10 (rest4 m c)))
theorem end11 (c : Dev nD) : Pipeline.afterTail₀ cfgs (dats m) 0 (V0 m) [hostOps1] c main_v51 =
    unpack11 (deltaOf m c) :=
  (tail_eq m c main_v51).trans ((out11 (rest m c)).trans (congrArg unpack11 (rest4 m c)))
theorem end12 (c : Dev nD) : Pipeline.afterTail₀ cfgs (dats m) 0 (V0 m) [hostOps1] c main_v55 =
    unpack12 (deltaOf m c) :=
  (tail_eq m c main_v55).trans ((out12 (rest m c)).trans (congrArg unpack12 (rest4 m c)))
theorem end13 (c : Dev nD) : Pipeline.afterTail₀ cfgs (dats m) 0 (V0 m) [hostOps1] c main_v59 =
    unpack13 (deltaOf m c) :=
  (tail_eq m c main_v59).trans ((out13 (rest m c)).trans (congrArg unpack13 (rest4 m c)))
theorem end14 (c : Dev nD) : Pipeline.afterTail₀ cfgs (dats m) 0 (V0 m) [hostOps1] c main_v63 =
    unpack14 (deltaOf m c) :=
  (tail_eq m c main_v63).trans ((out14 (rest m c)).trans (congrArg unpack14 (rest4 m c)))
theorem end15 (c : Dev nD) : Pipeline.afterTail₀ cfgs (dats m) 0 (V0 m) [hostOps1] c main_v67 =
    unpack15 (deltaOf m c) :=
  (tail_eq m c main_v67).trans ((out15 (rest m c)).trans (congrArg unpack15 (rest4 m c)))
theorem end16 (c : Dev nD) : Pipeline.afterTail₀ cfgs (dats m) 0 (V0 m) [hostOps1] c main_v71 =
    unpack16 (deltaOf m c) :=
  (tail_eq m c main_v71).trans ((out16 (rest m c)).trans (congrArg unpack16 (rest4 m c)))
theorem end17 (c : Dev nD) : Pipeline.afterTail₀ cfgs (dats m) 0 (V0 m) [hostOps1] c main_v75 =
    unpack17 (deltaOf m c) :=
  (tail_eq m c main_v75).trans ((out17 (rest m c)).trans (congrArg unpack17 (rest4 m c)))
theorem end18 (c : Dev nD) : Pipeline.afterTail₀ cfgs (dats m) 0 (V0 m) [hostOps1] c main_v79 =
    unpack18 (deltaOf m c) :=
  (tail_eq m c main_v79).trans ((out18 (rest m c)).trans (congrArg unpack18 (rest4 m c)))
theorem end19 (c : Dev nD) : Pipeline.afterTail₀ cfgs (dats m) 0 (V0 m) [hostOps1] c main_v83 =
    unpack19 (deltaOf m c) :=
  (tail_eq m c main_v83).trans ((out19 (rest m c)).trans (congrArg unpack19 (rest4 m c)))
theorem end20 (c : Dev nD) : Pipeline.afterTail₀ cfgs (dats m) 0 (V0 m) [hostOps1] c main_v87 =
    unpack20 (deltaOf m c) :=
  (tail_eq m c main_v87).trans ((out20 (rest m c)).trans (congrArg unpack20 (rest4 m c)))
theorem end21 (c : Dev nD) : Pipeline.afterTail₀ cfgs (dats m) 0 (V0 m) [hostOps1] c main_v92 =
    unpack21 (deltaOf m c) :=
  (tail_eq m c main_v92).trans ((out21 (rest m c)).trans (congrArg unpack21 (rest4 m c)))
theorem end22 (c : Dev nD) : Pipeline.afterTail₀ cfgs (dats m) 0 (V0 m) [hostOps1] c main_v97 =
    unpack22 (deltaOf m c) :=
  (tail_eq m c main_v97).trans ((out22 (rest m c)).trans (congrArg unpack22 (rest4 m c)))
theorem end23 (c : Dev nD) : Pipeline.afterTail₀ cfgs (dats m) 0 (V0 m) [hostOps1] c main_v102 =
    unpack23 (deltaOf m c) :=
  (tail_eq m c main_v102).trans ((out23 (rest m c)).trans (congrArg unpack23 (rest4 m c)))
theorem end24 (c : Dev nD) : Pipeline.afterTail₀ cfgs (dats m) 0 (V0 m) [hostOps1] c main_v107 =
    unpack24 (deltaOf m c) :=
  (tail_eq m c main_v107).trans ((out24 (rest m c)).trans (congrArg unpack24 (rest4 m c)))
theorem end25 (c : Dev nD) : Pipeline.afterTail₀ cfgs (dats m) 0 (V0 m) [hostOps1] c main_v111 =
    unpack25 (deltaOf m c) :=
  (tail_eq m c main_v111).trans ((out25 (rest m c)).trans (congrArg unpack25 (rest4 m c)))
theorem end26 (c : Dev nD) : Pipeline.afterTail₀ cfgs (dats m) 0 (V0 m) [hostOps1] c main_v114 =
    unpack26 (deltaOf m c) :=
  (tail_eq m c main_v114).trans ((out26 (rest m c)).trans (congrArg unpack26 (rest4 m c)))
theorem end27 (c : Dev nD) : Pipeline.afterTail₀ cfgs (dats m) 0 (V0 m) [hostOps1] c main_v119 =
    unpack0 (firstOf m c) :=
  (tail_eq m c main_v119).trans ((out27 (rest m c)).trans (congrArg unpack0 (rest5 m c)))
theorem end28 (c : Dev nD) : Pipeline.afterTail₀ cfgs (dats m) 0 (V0 m) [hostOps1] c main_v123 =
    unpack1 (firstOf m c) :=
  (tail_eq m c main_v123).trans ((out28 (rest m c)).trans (congrArg unpack1 (rest5 m c)))
theorem end29 (c : Dev nD) : Pipeline.afterTail₀ cfgs (dats m) 0 (V0 m) [hostOps1] c main_v128 =
    unpack2 (firstOf m c) :=
  (tail_eq m c main_v128).trans ((out29 (rest m c)).trans (congrArg unpack2 (rest5 m c)))
theorem end30 (c : Dev nD) : Pipeline.afterTail₀ cfgs (dats m) 0 (V0 m) [hostOps1] c main_v133 =
    unpack3 (firstOf m c) :=
  (tail_eq m c main_v133).trans ((out30 (rest m c)).trans (congrArg unpack3 (rest5 m c)))
theorem end31 (c : Dev nD) : Pipeline.afterTail₀ cfgs (dats m) 0 (V0 m) [hostOps1] c main_v137 =
    unpack4 (firstOf m c) :=
  (tail_eq m c main_v137).trans ((out31 (rest m c)).trans (congrArg unpack4 (rest5 m c)))
theorem end32 (c : Dev nD) : Pipeline.afterTail₀ cfgs (dats m) 0 (V0 m) [hostOps1] c main_v140 =
    unpack5 (firstOf m c) :=
  (tail_eq m c main_v140).trans ((out32 (rest m c)).trans (congrArg unpack5 (rest5 m c)))
theorem end33 (c : Dev nD) : Pipeline.afterTail₀ cfgs (dats m) 0 (V0 m) [hostOps1] c main_v144 =
    unpack6 (firstOf m c) :=
  (tail_eq m c main_v144).trans ((out33 (rest m c)).trans (congrArg unpack6 (rest5 m c)))
theorem end34 (c : Dev nD) : Pipeline.afterTail₀ cfgs (dats m) 0 (V0 m) [hostOps1] c main_v148 =
    unpack7 (firstOf m c) :=
  (tail_eq m c main_v148).trans ((out34 (rest m c)).trans (congrArg unpack7 (rest5 m c)))
theorem end35 (c : Dev nD) : Pipeline.afterTail₀ cfgs (dats m) 0 (V0 m) [hostOps1] c main_v152 =
    unpack8 (firstOf m c) :=
  (tail_eq m c main_v152).trans ((out35 (rest m c)).trans (congrArg unpack8 (rest5 m c)))
theorem end36 (c : Dev nD) : Pipeline.afterTail₀ cfgs (dats m) 0 (V0 m) [hostOps1] c main_v156 =
    unpack9 (firstOf m c) :=
  (tail_eq m c main_v156).trans ((out36 (rest m c)).trans (congrArg unpack9 (rest5 m c)))
theorem end37 (c : Dev nD) : Pipeline.afterTail₀ cfgs (dats m) 0 (V0 m) [hostOps1] c main_v160 =
    unpack10 (firstOf m c) :=
  (tail_eq m c main_v160).trans ((out37 (rest m c)).trans (congrArg unpack10 (rest5 m c)))
theorem end38 (c : Dev nD) : Pipeline.afterTail₀ cfgs (dats m) 0 (V0 m) [hostOps1] c main_v165 =
    unpack11 (firstOf m c) :=
  (tail_eq m c main_v165).trans ((out38 (rest m c)).trans (congrArg unpack11 (rest5 m c)))
theorem end39 (c : Dev nD) : Pipeline.afterTail₀ cfgs (dats m) 0 (V0 m) [hostOps1] c main_v169 =
    unpack12 (firstOf m c) :=
  (tail_eq m c main_v169).trans ((out39 (rest m c)).trans (congrArg unpack12 (rest5 m c)))
theorem end40 (c : Dev nD) : Pipeline.afterTail₀ cfgs (dats m) 0 (V0 m) [hostOps1] c main_v173 =
    unpack13 (firstOf m c) :=
  (tail_eq m c main_v173).trans ((out40 (rest m c)).trans (congrArg unpack13 (rest5 m c)))
theorem end41 (c : Dev nD) : Pipeline.afterTail₀ cfgs (dats m) 0 (V0 m) [hostOps1] c main_v177 =
    unpack14 (firstOf m c) :=
  (tail_eq m c main_v177).trans ((out41 (rest m c)).trans (congrArg unpack14 (rest5 m c)))
theorem end42 (c : Dev nD) : Pipeline.afterTail₀ cfgs (dats m) 0 (V0 m) [hostOps1] c main_v181 =
    unpack15 (firstOf m c) :=
  (tail_eq m c main_v181).trans ((out42 (rest m c)).trans (congrArg unpack15 (rest5 m c)))
theorem end43 (c : Dev nD) : Pipeline.afterTail₀ cfgs (dats m) 0 (V0 m) [hostOps1] c main_v185 =
    unpack16 (firstOf m c) :=
  (tail_eq m c main_v185).trans ((out43 (rest m c)).trans (congrArg unpack16 (rest5 m c)))
theorem end44 (c : Dev nD) : Pipeline.afterTail₀ cfgs (dats m) 0 (V0 m) [hostOps1] c main_v189 =
    unpack17 (firstOf m c) :=
  (tail_eq m c main_v189).trans ((out44 (rest m c)).trans (congrArg unpack17 (rest5 m c)))
theorem end45 (c : Dev nD) : Pipeline.afterTail₀ cfgs (dats m) 0 (V0 m) [hostOps1] c main_v193 =
    unpack18 (firstOf m c) :=
  (tail_eq m c main_v193).trans ((out45 (rest m c)).trans (congrArg unpack18 (rest5 m c)))
theorem end46 (c : Dev nD) : Pipeline.afterTail₀ cfgs (dats m) 0 (V0 m) [hostOps1] c main_v197 =
    unpack19 (firstOf m c) :=
  (tail_eq m c main_v197).trans ((out46 (rest m c)).trans (congrArg unpack19 (rest5 m c)))
theorem end47 (c : Dev nD) : Pipeline.afterTail₀ cfgs (dats m) 0 (V0 m) [hostOps1] c main_v201 =
    unpack20 (firstOf m c) :=
  (tail_eq m c main_v201).trans ((out47 (rest m c)).trans (congrArg unpack20 (rest5 m c)))
theorem end48 (c : Dev nD) : Pipeline.afterTail₀ cfgs (dats m) 0 (V0 m) [hostOps1] c main_v206 =
    unpack21 (firstOf m c) :=
  (tail_eq m c main_v206).trans ((out48 (rest m c)).trans (congrArg unpack21 (rest5 m c)))
theorem end49 (c : Dev nD) : Pipeline.afterTail₀ cfgs (dats m) 0 (V0 m) [hostOps1] c main_v211 =
    unpack22 (firstOf m c) :=
  (tail_eq m c main_v211).trans ((out49 (rest m c)).trans (congrArg unpack22 (rest5 m c)))
theorem end50 (c : Dev nD) : Pipeline.afterTail₀ cfgs (dats m) 0 (V0 m) [hostOps1] c main_v216 =
    unpack23 (firstOf m c) :=
  (tail_eq m c main_v216).trans ((out50 (rest m c)).trans (congrArg unpack23 (rest5 m c)))
theorem end51 (c : Dev nD) : Pipeline.afterTail₀ cfgs (dats m) 0 (V0 m) [hostOps1] c main_v221 =
    unpack24 (firstOf m c) :=
  (tail_eq m c main_v221).trans ((out51 (rest m c)).trans (congrArg unpack24 (rest5 m c)))
theorem end52 (c : Dev nD) : Pipeline.afterTail₀ cfgs (dats m) 0 (V0 m) [hostOps1] c main_v225 =
    unpack25 (firstOf m c) :=
  (tail_eq m c main_v225).trans ((out52 (rest m c)).trans (congrArg unpack25 (rest5 m c)))
theorem end53 (c : Dev nD) : Pipeline.afterTail₀ cfgs (dats m) 0 (V0 m) [hostOps1] c main_v228 =
    unpack26 (firstOf m c) :=
  (tail_eq m c main_v228).trans ((out53 (rest m c)).trans (congrArg unpack26 (rest5 m c)))
theorem end54 (c : Dev nD) : Pipeline.afterTail₀ cfgs (dats m) 0 (V0 m) [hostOps1] c main_v233 =
    unpack0 (secondOf m c) :=
  (tail_eq m c main_v233).trans ((out54 (rest m c)).trans (congrArg unpack0 (rest6 m c)))
theorem end55 (c : Dev nD) : Pipeline.afterTail₀ cfgs (dats m) 0 (V0 m) [hostOps1] c main_v237 =
    unpack1 (secondOf m c) :=
  (tail_eq m c main_v237).trans ((out55 (rest m c)).trans (congrArg unpack1 (rest6 m c)))
theorem end56 (c : Dev nD) : Pipeline.afterTail₀ cfgs (dats m) 0 (V0 m) [hostOps1] c main_v242 =
    unpack2 (secondOf m c) :=
  (tail_eq m c main_v242).trans ((out56 (rest m c)).trans (congrArg unpack2 (rest6 m c)))
theorem end57 (c : Dev nD) : Pipeline.afterTail₀ cfgs (dats m) 0 (V0 m) [hostOps1] c main_v247 =
    unpack3 (secondOf m c) :=
  (tail_eq m c main_v247).trans ((out57 (rest m c)).trans (congrArg unpack3 (rest6 m c)))
theorem end58 (c : Dev nD) : Pipeline.afterTail₀ cfgs (dats m) 0 (V0 m) [hostOps1] c main_v251 =
    unpack4 (secondOf m c) :=
  (tail_eq m c main_v251).trans ((out58 (rest m c)).trans (congrArg unpack4 (rest6 m c)))
theorem end59 (c : Dev nD) : Pipeline.afterTail₀ cfgs (dats m) 0 (V0 m) [hostOps1] c main_v254 =
    unpack5 (secondOf m c) :=
  (tail_eq m c main_v254).trans ((out59 (rest m c)).trans (congrArg unpack5 (rest6 m c)))
theorem end60 (c : Dev nD) : Pipeline.afterTail₀ cfgs (dats m) 0 (V0 m) [hostOps1] c main_v258 =
    unpack6 (secondOf m c) :=
  (tail_eq m c main_v258).trans ((out60 (rest m c)).trans (congrArg unpack6 (rest6 m c)))
theorem end61 (c : Dev nD) : Pipeline.afterTail₀ cfgs (dats m) 0 (V0 m) [hostOps1] c main_v262 =
    unpack7 (secondOf m c) :=
  (tail_eq m c main_v262).trans ((out61 (rest m c)).trans (congrArg unpack7 (rest6 m c)))
theorem end62 (c : Dev nD) : Pipeline.afterTail₀ cfgs (dats m) 0 (V0 m) [hostOps1] c main_v266 =
    unpack8 (secondOf m c) :=
  (tail_eq m c main_v266).trans ((out62 (rest m c)).trans (congrArg unpack8 (rest6 m c)))
theorem end63 (c : Dev nD) : Pipeline.afterTail₀ cfgs (dats m) 0 (V0 m) [hostOps1] c main_v270 =
    unpack9 (secondOf m c) :=
  (tail_eq m c main_v270).trans ((out63 (rest m c)).trans (congrArg unpack9 (rest6 m c)))
theorem end64 (c : Dev nD) : Pipeline.afterTail₀ cfgs (dats m) 0 (V0 m) [hostOps1] c main_v274 =
    unpack10 (secondOf m c) :=
  (tail_eq m c main_v274).trans ((out64 (rest m c)).trans (congrArg unpack10 (rest6 m c)))
theorem end65 (c : Dev nD) : Pipeline.afterTail₀ cfgs (dats m) 0 (V0 m) [hostOps1] c main_v279 =
    unpack11 (secondOf m c) :=
  (tail_eq m c main_v279).trans ((out65 (rest m c)).trans (congrArg unpack11 (rest6 m c)))
theorem end66 (c : Dev nD) : Pipeline.afterTail₀ cfgs (dats m) 0 (V0 m) [hostOps1] c main_v283 =
    unpack12 (secondOf m c) :=
  (tail_eq m c main_v283).trans ((out66 (rest m c)).trans (congrArg unpack12 (rest6 m c)))
theorem end67 (c : Dev nD) : Pipeline.afterTail₀ cfgs (dats m) 0 (V0 m) [hostOps1] c main_v287 =
    unpack13 (secondOf m c) :=
  (tail_eq m c main_v287).trans ((out67 (rest m c)).trans (congrArg unpack13 (rest6 m c)))
theorem end68 (c : Dev nD) : Pipeline.afterTail₀ cfgs (dats m) 0 (V0 m) [hostOps1] c main_v291 =
    unpack14 (secondOf m c) :=
  (tail_eq m c main_v291).trans ((out68 (rest m c)).trans (congrArg unpack14 (rest6 m c)))
theorem end69 (c : Dev nD) : Pipeline.afterTail₀ cfgs (dats m) 0 (V0 m) [hostOps1] c main_v295 =
    unpack15 (secondOf m c) :=
  (tail_eq m c main_v295).trans ((out69 (rest m c)).trans (congrArg unpack15 (rest6 m c)))
theorem end70 (c : Dev nD) : Pipeline.afterTail₀ cfgs (dats m) 0 (V0 m) [hostOps1] c main_v299 =
    unpack16 (secondOf m c) :=
  (tail_eq m c main_v299).trans ((out70 (rest m c)).trans (congrArg unpack16 (rest6 m c)))
theorem end71 (c : Dev nD) : Pipeline.afterTail₀ cfgs (dats m) 0 (V0 m) [hostOps1] c main_v303 =
    unpack17 (secondOf m c) :=
  (tail_eq m c main_v303).trans ((out71 (rest m c)).trans (congrArg unpack17 (rest6 m c)))
theorem end72 (c : Dev nD) : Pipeline.afterTail₀ cfgs (dats m) 0 (V0 m) [hostOps1] c main_v307 =
    unpack18 (secondOf m c) :=
  (tail_eq m c main_v307).trans ((out72 (rest m c)).trans (congrArg unpack18 (rest6 m c)))
theorem end73 (c : Dev nD) : Pipeline.afterTail₀ cfgs (dats m) 0 (V0 m) [hostOps1] c main_v311 =
    unpack19 (secondOf m c) :=
  (tail_eq m c main_v311).trans ((out73 (rest m c)).trans (congrArg unpack19 (rest6 m c)))
theorem end74 (c : Dev nD) : Pipeline.afterTail₀ cfgs (dats m) 0 (V0 m) [hostOps1] c main_v315 =
    unpack20 (secondOf m c) :=
  (tail_eq m c main_v315).trans ((out74 (rest m c)).trans (congrArg unpack20 (rest6 m c)))
theorem end75 (c : Dev nD) : Pipeline.afterTail₀ cfgs (dats m) 0 (V0 m) [hostOps1] c main_v320 =
    unpack21 (secondOf m c) :=
  (tail_eq m c main_v320).trans ((out75 (rest m c)).trans (congrArg unpack21 (rest6 m c)))
theorem end76 (c : Dev nD) : Pipeline.afterTail₀ cfgs (dats m) 0 (V0 m) [hostOps1] c main_v325 =
    unpack22 (secondOf m c) :=
  (tail_eq m c main_v325).trans ((out76 (rest m c)).trans (congrArg unpack22 (rest6 m c)))
theorem end77 (c : Dev nD) : Pipeline.afterTail₀ cfgs (dats m) 0 (V0 m) [hostOps1] c main_v330 =
    unpack23 (secondOf m c) :=
  (tail_eq m c main_v330).trans ((out77 (rest m c)).trans (congrArg unpack23 (rest6 m c)))
theorem end78 (c : Dev nD) : Pipeline.afterTail₀ cfgs (dats m) 0 (V0 m) [hostOps1] c main_v335 =
    unpack24 (secondOf m c) :=
  (tail_eq m c main_v335).trans ((out78 (rest m c)).trans (congrArg unpack24 (rest6 m c)))
theorem end79 (c : Dev nD) : Pipeline.afterTail₀ cfgs (dats m) 0 (V0 m) [hostOps1] c main_v339 =
    unpack25 (secondOf m c) :=
  (tail_eq m c main_v339).trans ((out79 (rest m c)).trans (congrArg unpack25 (rest6 m c)))
theorem end80 (c : Dev nD) : Pipeline.afterTail₀ cfgs (dats m) 0 (V0 m) [hostOps1] c main_v342 =
    unpack26 (secondOf m c) :=
  (tail_eq m c main_v342).trans ((out80 (rest m c)).trans (congrArg unpack26 (rest6 m c)))

end

/-! ## The reference -/

theorem ref_deltas (g w m v : Vec Ideal S640x1024 .f32) : AdamSmallRefIdeal.Read.val_main_v23 (F := Ideal) g w m v = deltas w g m v := by
  funext i
  rfl
theorem ref_firsts (g m : Vec Ideal S640x1024 .f32) : AdamSmallRefIdeal.Read.val_main_v4 (F := Ideal) g m = firsts g m := by
  funext i
  rfl
theorem ref_seconds (g v : Vec Ideal S640x1024 .f32) : AdamSmallRefIdeal.Read.val_main_v10 (F := Ideal) g v = seconds g v := by
  funext i
  rfl

theorem ref0 (g w m v : Vec Ideal S640x1024 .f32) : AdamSmallRefIdeal.Read.val_main_v28 (F := Ideal) g w m v = unpack0 (deltas w g m v) :=
  (congrArg cut0 (ref_deltas g w m v)).trans (same0 _)
theorem ref1 (g w m v : Vec Ideal S640x1024 .f32) : AdamSmallRefIdeal.Read.val_main_v30 (F := Ideal) g w m v = unpack1 (deltas w g m v) :=
  (congrArg cut1 (ref_deltas g w m v)).trans (same1 _)
theorem ref2 (g w m v : Vec Ideal S640x1024 .f32) : AdamSmallRefIdeal.Read.val_main_v32 (F := Ideal) g w m v = unpack2 (deltas w g m v) :=
  (congrArg cut2 (ref_deltas g w m v)).trans (same2 _)
theorem ref3 (g w m v : Vec Ideal S640x1024 .f32) : AdamSmallRefIdeal.Read.val_main_v34 (F := Ideal) g w m v = unpack3 (deltas w g m v) :=
  (congrArg cut3 (ref_deltas g w m v)).trans (same3 _)
theorem ref4 (g w m v : Vec Ideal S640x1024 .f32) : AdamSmallRefIdeal.Read.val_main_v36 (F := Ideal) g w m v = unpack4 (deltas w g m v) :=
  (congrArg cut4 (ref_deltas g w m v)).trans (same4 _)
theorem ref5 (g w m v : Vec Ideal S640x1024 .f32) : AdamSmallRefIdeal.Read.val_main_v37 (F := Ideal) g w m v = unpack5 (deltas w g m v) :=
  (congrArg cut5 (ref_deltas g w m v)).trans (same5 _)
theorem ref6 (g w m v : Vec Ideal S640x1024 .f32) : AdamSmallRefIdeal.Read.val_main_v39 (F := Ideal) g w m v = unpack6 (deltas w g m v) :=
  (congrArg cut6 (ref_deltas g w m v)).trans (same6 _)
theorem ref7 (g w m v : Vec Ideal S640x1024 .f32) : AdamSmallRefIdeal.Read.val_main_v41 (F := Ideal) g w m v = unpack7 (deltas w g m v) :=
  (congrArg cut7 (ref_deltas g w m v)).trans (same7 _)
theorem ref8 (g w m v : Vec Ideal S640x1024 .f32) : AdamSmallRefIdeal.Read.val_main_v43 (F := Ideal) g w m v = unpack8 (deltas w g m v) :=
  (congrArg cut8 (ref_deltas g w m v)).trans (same8 _)
theorem ref9 (g w m v : Vec Ideal S640x1024 .f32) : AdamSmallRefIdeal.Read.val_main_v45 (F := Ideal) g w m v = unpack9 (deltas w g m v) :=
  (congrArg cut9 (ref_deltas g w m v)).trans (same9 _)
theorem ref10 (g w m v : Vec Ideal S640x1024 .f32) : AdamSmallRefIdeal.Read.val_main_v47 (F := Ideal) g w m v = unpack10 (deltas w g m v) :=
  (congrArg cut10 (ref_deltas g w m v)).trans (same10 _)
theorem ref11 (g w m v : Vec Ideal S640x1024 .f32) : AdamSmallRefIdeal.Read.val_main_v49 (F := Ideal) g w m v = unpack11 (deltas w g m v) :=
  (congrArg cut11 (ref_deltas g w m v)).trans (same11 _)
theorem ref12 (g w m v : Vec Ideal S640x1024 .f32) : AdamSmallRefIdeal.Read.val_main_v51 (F := Ideal) g w m v = unpack12 (deltas w g m v) :=
  (congrArg cut12 (ref_deltas g w m v)).trans (same12 _)
theorem ref13 (g w m v : Vec Ideal S640x1024 .f32) : AdamSmallRefIdeal.Read.val_main_v53 (F := Ideal) g w m v = unpack13 (deltas w g m v) :=
  (congrArg cut13 (ref_deltas g w m v)).trans (same13 _)
theorem ref14 (g w m v : Vec Ideal S640x1024 .f32) : AdamSmallRefIdeal.Read.val_main_v55 (F := Ideal) g w m v = unpack14 (deltas w g m v) :=
  (congrArg cut14 (ref_deltas g w m v)).trans (same14 _)
theorem ref15 (g w m v : Vec Ideal S640x1024 .f32) : AdamSmallRefIdeal.Read.val_main_v57 (F := Ideal) g w m v = unpack15 (deltas w g m v) :=
  (congrArg cut15 (ref_deltas g w m v)).trans (same15 _)
theorem ref16 (g w m v : Vec Ideal S640x1024 .f32) : AdamSmallRefIdeal.Read.val_main_v59 (F := Ideal) g w m v = unpack16 (deltas w g m v) :=
  (congrArg cut16 (ref_deltas g w m v)).trans (same16 _)
theorem ref17 (g w m v : Vec Ideal S640x1024 .f32) : AdamSmallRefIdeal.Read.val_main_v61 (F := Ideal) g w m v = unpack17 (deltas w g m v) :=
  (congrArg cut17 (ref_deltas g w m v)).trans (same17 _)
theorem ref18 (g w m v : Vec Ideal S640x1024 .f32) : AdamSmallRefIdeal.Read.val_main_v63 (F := Ideal) g w m v = unpack18 (deltas w g m v) :=
  (congrArg cut18 (ref_deltas g w m v)).trans (same18 _)
theorem ref19 (g w m v : Vec Ideal S640x1024 .f32) : AdamSmallRefIdeal.Read.val_main_v65 (F := Ideal) g w m v = unpack19 (deltas w g m v) :=
  (congrArg cut19 (ref_deltas g w m v)).trans (same19 _)
theorem ref20 (g w m v : Vec Ideal S640x1024 .f32) : AdamSmallRefIdeal.Read.val_main_v67 (F := Ideal) g w m v = unpack20 (deltas w g m v) :=
  (congrArg cut20 (ref_deltas g w m v)).trans (same20 _)
theorem ref21 (g w m v : Vec Ideal S640x1024 .f32) : AdamSmallRefIdeal.Read.val_main_v69 (F := Ideal) g w m v = unpack21 (deltas w g m v) :=
  (congrArg cut21 (ref_deltas g w m v)).trans (same21 _)
theorem ref22 (g w m v : Vec Ideal S640x1024 .f32) : AdamSmallRefIdeal.Read.val_main_v71 (F := Ideal) g w m v = unpack22 (deltas w g m v) :=
  (congrArg cut22 (ref_deltas g w m v)).trans (same22 _)
theorem ref23 (g w m v : Vec Ideal S640x1024 .f32) : AdamSmallRefIdeal.Read.val_main_v73 (F := Ideal) g w m v = unpack23 (deltas w g m v) :=
  (congrArg cut23 (ref_deltas g w m v)).trans (same23 _)
theorem ref24 (g w m v : Vec Ideal S640x1024 .f32) : AdamSmallRefIdeal.Read.val_main_v75 (F := Ideal) g w m v = unpack24 (deltas w g m v) :=
  (congrArg cut24 (ref_deltas g w m v)).trans (same24 _)
theorem ref25 (g w m v : Vec Ideal S640x1024 .f32) : AdamSmallRefIdeal.Read.val_main_v77 (F := Ideal) g w m v = unpack25 (deltas w g m v) :=
  (congrArg cut25 (ref_deltas g w m v)).trans (same25 _)
theorem ref26 (g w m v : Vec Ideal S640x1024 .f32) : AdamSmallRefIdeal.Read.val_main_v78 (F := Ideal) g w m v = unpack26 (deltas w g m v) :=
  (congrArg cut26 (ref_deltas g w m v)).trans (same26 _)
theorem ref27 (g m : Vec Ideal S640x1024 .f32) : AdamSmallRefIdeal.Read.val_main_v80 (F := Ideal) g m = unpack0 (firsts g m) :=
  (congrArg cut0 (ref_firsts g m)).trans (same0 _)
theorem ref28 (g m : Vec Ideal S640x1024 .f32) : AdamSmallRefIdeal.Read.val_main_v82 (F := Ideal) g m = unpack1 (firsts g m) :=
  (congrArg cut1 (ref_firsts g m)).trans (same1 _)
theorem ref29 (g m : Vec Ideal S640x1024 .f32) : AdamSmallRefIdeal.Read.val_main_v84 (F := Ideal) g m = unpack2 (firsts g m) :=
  (congrArg cut2 (ref_firsts g m)).trans (same2 _)
theorem ref30 (g m : Vec Ideal S640x1024 .f32) : AdamSmallRefIdeal.Read.val_main_v86 (F := Ideal) g m = unpack3 (firsts g m) :=
  (congrArg cut3 (ref_firsts g m)).trans (same3 _)
theorem ref31 (g m : Vec Ideal S640x1024 .f32) : AdamSmallRefIdeal.Read.val_main_v88 (F := Ideal) g m = unpack4 (firsts g m) :=
  (congrArg cut4 (ref_firsts g m)).trans (same4 _)
theorem ref32 (g m : Vec Ideal S640x1024 .f32) : AdamSmallRefIdeal.Read.val_main_v89 (F := Ideal) g m = unpack5 (firsts g m) :=
  (congrArg cut5 (ref_firsts g m)).trans (same5 _)
theorem ref33 (g m : Vec Ideal S640x1024 .f32) : AdamSmallRefIdeal.Read.val_main_v91 (F := Ideal) g m = unpack6 (firsts g m) :=
  (congrArg cut6 (ref_firsts g m)).trans (same6 _)
theorem ref34 (g m : Vec Ideal S640x1024 .f32) : AdamSmallRefIdeal.Read.val_main_v93 (F := Ideal) g m = unpack7 (firsts g m) :=
  (congrArg cut7 (ref_firsts g m)).trans (same7 _)
theorem ref35 (g m : Vec Ideal S640x1024 .f32) : AdamSmallRefIdeal.Read.val_main_v95 (F := Ideal) g m = unpack8 (firsts g m) :=
  (congrArg cut8 (ref_firsts g m)).trans (same8 _)
theorem ref36 (g m : Vec Ideal S640x1024 .f32) : AdamSmallRefIdeal.Read.val_main_v97 (F := Ideal) g m = unpack9 (firsts g m) :=
  (congrArg cut9 (ref_firsts g m)).trans (same9 _)
theorem ref37 (g m : Vec Ideal S640x1024 .f32) : AdamSmallRefIdeal.Read.val_main_v99 (F := Ideal) g m = unpack10 (firsts g m) :=
  (congrArg cut10 (ref_firsts g m)).trans (same10 _)
theorem ref38 (g m : Vec Ideal S640x1024 .f32) : AdamSmallRefIdeal.Read.val_main_v101 (F := Ideal) g m = unpack11 (firsts g m) :=
  (congrArg cut11 (ref_firsts g m)).trans (same11 _)
theorem ref39 (g m : Vec Ideal S640x1024 .f32) : AdamSmallRefIdeal.Read.val_main_v103 (F := Ideal) g m = unpack12 (firsts g m) :=
  (congrArg cut12 (ref_firsts g m)).trans (same12 _)
theorem ref40 (g m : Vec Ideal S640x1024 .f32) : AdamSmallRefIdeal.Read.val_main_v105 (F := Ideal) g m = unpack13 (firsts g m) :=
  (congrArg cut13 (ref_firsts g m)).trans (same13 _)
theorem ref41 (g m : Vec Ideal S640x1024 .f32) : AdamSmallRefIdeal.Read.val_main_v107 (F := Ideal) g m = unpack14 (firsts g m) :=
  (congrArg cut14 (ref_firsts g m)).trans (same14 _)
theorem ref42 (g m : Vec Ideal S640x1024 .f32) : AdamSmallRefIdeal.Read.val_main_v109 (F := Ideal) g m = unpack15 (firsts g m) :=
  (congrArg cut15 (ref_firsts g m)).trans (same15 _)
theorem ref43 (g m : Vec Ideal S640x1024 .f32) : AdamSmallRefIdeal.Read.val_main_v111 (F := Ideal) g m = unpack16 (firsts g m) :=
  (congrArg cut16 (ref_firsts g m)).trans (same16 _)
theorem ref44 (g m : Vec Ideal S640x1024 .f32) : AdamSmallRefIdeal.Read.val_main_v113 (F := Ideal) g m = unpack17 (firsts g m) :=
  (congrArg cut17 (ref_firsts g m)).trans (same17 _)
theorem ref45 (g m : Vec Ideal S640x1024 .f32) : AdamSmallRefIdeal.Read.val_main_v115 (F := Ideal) g m = unpack18 (firsts g m) :=
  (congrArg cut18 (ref_firsts g m)).trans (same18 _)
theorem ref46 (g m : Vec Ideal S640x1024 .f32) : AdamSmallRefIdeal.Read.val_main_v117 (F := Ideal) g m = unpack19 (firsts g m) :=
  (congrArg cut19 (ref_firsts g m)).trans (same19 _)
theorem ref47 (g m : Vec Ideal S640x1024 .f32) : AdamSmallRefIdeal.Read.val_main_v119 (F := Ideal) g m = unpack20 (firsts g m) :=
  (congrArg cut20 (ref_firsts g m)).trans (same20 _)
theorem ref48 (g m : Vec Ideal S640x1024 .f32) : AdamSmallRefIdeal.Read.val_main_v121 (F := Ideal) g m = unpack21 (firsts g m) :=
  (congrArg cut21 (ref_firsts g m)).trans (same21 _)
theorem ref49 (g m : Vec Ideal S640x1024 .f32) : AdamSmallRefIdeal.Read.val_main_v123 (F := Ideal) g m = unpack22 (firsts g m) :=
  (congrArg cut22 (ref_firsts g m)).trans (same22 _)
theorem ref50 (g m : Vec Ideal S640x1024 .f32) : AdamSmallRefIdeal.Read.val_main_v125 (F := Ideal) g m = unpack23 (firsts g m) :=
  (congrArg cut23 (ref_firsts g m)).trans (same23 _)
theorem ref51 (g m : Vec Ideal S640x1024 .f32) : AdamSmallRefIdeal.Read.val_main_v127 (F := Ideal) g m = unpack24 (firsts g m) :=
  (congrArg cut24 (ref_firsts g m)).trans (same24 _)
theorem ref52 (g m : Vec Ideal S640x1024 .f32) : AdamSmallRefIdeal.Read.val_main_v129 (F := Ideal) g m = unpack25 (firsts g m) :=
  (congrArg cut25 (ref_firsts g m)).trans (same25 _)
theorem ref53 (g m : Vec Ideal S640x1024 .f32) : AdamSmallRefIdeal.Read.val_main_v130 (F := Ideal) g m = unpack26 (firsts g m) :=
  (congrArg cut26 (ref_firsts g m)).trans (same26 _)
theorem ref54 (g v : Vec Ideal S640x1024 .f32) : AdamSmallRefIdeal.Read.val_main_v132 (F := Ideal) g v = unpack0 (seconds g v) :=
  (congrArg cut0 (ref_seconds g v)).trans (same0 _)
theorem ref55 (g v : Vec Ideal S640x1024 .f32) : AdamSmallRefIdeal.Read.val_main_v134 (F := Ideal) g v = unpack1 (seconds g v) :=
  (congrArg cut1 (ref_seconds g v)).trans (same1 _)
theorem ref56 (g v : Vec Ideal S640x1024 .f32) : AdamSmallRefIdeal.Read.val_main_v136 (F := Ideal) g v = unpack2 (seconds g v) :=
  (congrArg cut2 (ref_seconds g v)).trans (same2 _)
theorem ref57 (g v : Vec Ideal S640x1024 .f32) : AdamSmallRefIdeal.Read.val_main_v138 (F := Ideal) g v = unpack3 (seconds g v) :=
  (congrArg cut3 (ref_seconds g v)).trans (same3 _)
theorem ref58 (g v : Vec Ideal S640x1024 .f32) : AdamSmallRefIdeal.Read.val_main_v140 (F := Ideal) g v = unpack4 (seconds g v) :=
  (congrArg cut4 (ref_seconds g v)).trans (same4 _)
theorem ref59 (g v : Vec Ideal S640x1024 .f32) : AdamSmallRefIdeal.Read.val_main_v141 (F := Ideal) g v = unpack5 (seconds g v) :=
  (congrArg cut5 (ref_seconds g v)).trans (same5 _)
theorem ref60 (g v : Vec Ideal S640x1024 .f32) : AdamSmallRefIdeal.Read.val_main_v143 (F := Ideal) g v = unpack6 (seconds g v) :=
  (congrArg cut6 (ref_seconds g v)).trans (same6 _)
theorem ref61 (g v : Vec Ideal S640x1024 .f32) : AdamSmallRefIdeal.Read.val_main_v145 (F := Ideal) g v = unpack7 (seconds g v) :=
  (congrArg cut7 (ref_seconds g v)).trans (same7 _)
theorem ref62 (g v : Vec Ideal S640x1024 .f32) : AdamSmallRefIdeal.Read.val_main_v147 (F := Ideal) g v = unpack8 (seconds g v) :=
  (congrArg cut8 (ref_seconds g v)).trans (same8 _)
theorem ref63 (g v : Vec Ideal S640x1024 .f32) : AdamSmallRefIdeal.Read.val_main_v149 (F := Ideal) g v = unpack9 (seconds g v) :=
  (congrArg cut9 (ref_seconds g v)).trans (same9 _)
theorem ref64 (g v : Vec Ideal S640x1024 .f32) : AdamSmallRefIdeal.Read.val_main_v151 (F := Ideal) g v = unpack10 (seconds g v) :=
  (congrArg cut10 (ref_seconds g v)).trans (same10 _)
theorem ref65 (g v : Vec Ideal S640x1024 .f32) : AdamSmallRefIdeal.Read.val_main_v153 (F := Ideal) g v = unpack11 (seconds g v) :=
  (congrArg cut11 (ref_seconds g v)).trans (same11 _)
theorem ref66 (g v : Vec Ideal S640x1024 .f32) : AdamSmallRefIdeal.Read.val_main_v155 (F := Ideal) g v = unpack12 (seconds g v) :=
  (congrArg cut12 (ref_seconds g v)).trans (same12 _)
theorem ref67 (g v : Vec Ideal S640x1024 .f32) : AdamSmallRefIdeal.Read.val_main_v157 (F := Ideal) g v = unpack13 (seconds g v) :=
  (congrArg cut13 (ref_seconds g v)).trans (same13 _)
theorem ref68 (g v : Vec Ideal S640x1024 .f32) : AdamSmallRefIdeal.Read.val_main_v159 (F := Ideal) g v = unpack14 (seconds g v) :=
  (congrArg cut14 (ref_seconds g v)).trans (same14 _)
theorem ref69 (g v : Vec Ideal S640x1024 .f32) : AdamSmallRefIdeal.Read.val_main_v161 (F := Ideal) g v = unpack15 (seconds g v) :=
  (congrArg cut15 (ref_seconds g v)).trans (same15 _)
theorem ref70 (g v : Vec Ideal S640x1024 .f32) : AdamSmallRefIdeal.Read.val_main_v163 (F := Ideal) g v = unpack16 (seconds g v) :=
  (congrArg cut16 (ref_seconds g v)).trans (same16 _)
theorem ref71 (g v : Vec Ideal S640x1024 .f32) : AdamSmallRefIdeal.Read.val_main_v165 (F := Ideal) g v = unpack17 (seconds g v) :=
  (congrArg cut17 (ref_seconds g v)).trans (same17 _)
theorem ref72 (g v : Vec Ideal S640x1024 .f32) : AdamSmallRefIdeal.Read.val_main_v167 (F := Ideal) g v = unpack18 (seconds g v) :=
  (congrArg cut18 (ref_seconds g v)).trans (same18 _)
theorem ref73 (g v : Vec Ideal S640x1024 .f32) : AdamSmallRefIdeal.Read.val_main_v169 (F := Ideal) g v = unpack19 (seconds g v) :=
  (congrArg cut19 (ref_seconds g v)).trans (same19 _)
theorem ref74 (g v : Vec Ideal S640x1024 .f32) : AdamSmallRefIdeal.Read.val_main_v171 (F := Ideal) g v = unpack20 (seconds g v) :=
  (congrArg cut20 (ref_seconds g v)).trans (same20 _)
theorem ref75 (g v : Vec Ideal S640x1024 .f32) : AdamSmallRefIdeal.Read.val_main_v173 (F := Ideal) g v = unpack21 (seconds g v) :=
  (congrArg cut21 (ref_seconds g v)).trans (same21 _)
theorem ref76 (g v : Vec Ideal S640x1024 .f32) : AdamSmallRefIdeal.Read.val_main_v175 (F := Ideal) g v = unpack22 (seconds g v) :=
  (congrArg cut22 (ref_seconds g v)).trans (same22 _)
theorem ref77 (g v : Vec Ideal S640x1024 .f32) : AdamSmallRefIdeal.Read.val_main_v177 (F := Ideal) g v = unpack23 (seconds g v) :=
  (congrArg cut23 (ref_seconds g v)).trans (same23 _)
theorem ref78 (g v : Vec Ideal S640x1024 .f32) : AdamSmallRefIdeal.Read.val_main_v179 (F := Ideal) g v = unpack24 (seconds g v) :=
  (congrArg cut24 (ref_seconds g v)).trans (same24 _)
theorem ref79 (g v : Vec Ideal S640x1024 .f32) : AdamSmallRefIdeal.Read.val_main_v181 (F := Ideal) g v = unpack25 (seconds g v) :=
  (congrArg cut25 (ref_seconds g v)).trans (same25 _)
theorem ref80 (g v : Vec Ideal S640x1024 .f32) : AdamSmallRefIdeal.Read.val_main_v182 (F := Ideal) g v = unpack26 (seconds g v) :=
  (congrArg cut26 (ref_seconds g v)).trans (same26 _)
variable (V0 : Valuation AdamSmallRefIdeal.τ AdamSmallRefIdeal.sig (Elt Ideal)) {g w m v : Vec Ideal S640x1024 .f32}
  (e0 : V0 (Proc.devRef .tc AdamSmallRefIdeal.main_arg0) = g) (e1 : V0 (Proc.devRef .tc AdamSmallRefIdeal.main_arg1) = w)
  (e2 : V0 (Proc.devRef .tc AdamSmallRefIdeal.main_arg2) = m) (e3 : V0 (Proc.devRef .tc AdamSmallRefIdeal.main_arg3) = v)
include e0 e1 e2 e3

theorem got0 : shapeCast S3x2x128 (extractStridedSlice AdamSmallRefIdeal.S768 ![0] (AdamSmallRefIdeal.Value.res_main_v24 V0) AdamSmallRefIdeal.Gen.slices_S655360_S768_0) AdamSmallRefIdeal.Gen.shapeCasts_S768_S3x2x128 = unpack0 (deltas w g m v) := by
  subst e0 e1 e2 e3
  exact (AdamSmallRefIdeal.Read.val_main_v28_eq V0).trans (ref0 ..)
theorem got1 : shapeCast S2x4x128 (extractStridedSlice AdamSmallRefIdeal.S1024 ![1024] (AdamSmallRefIdeal.Value.res_main_v24 V0) AdamSmallRefIdeal.Gen.slices_S655360_S1024_1024) AdamSmallRefIdeal.Gen.shapeCasts_S1024_S2x4x128 = unpack1 (deltas w g m v) := by
  subst e0 e1 e2 e3
  exact (AdamSmallRefIdeal.Read.val_main_v30_eq V0).trans (ref1 ..)
theorem got2 : shapeCast S2x2x128 (extractStridedSlice AdamSmallRefIdeal.S512 ![2048] (AdamSmallRefIdeal.Value.res_main_v24 V0) AdamSmallRefIdeal.Gen.slices_S655360_S512_2048) AdamSmallRefIdeal.Gen.shapeCasts_S512_S2x2x128 = unpack2 (deltas w g m v) := by
  subst e0 e1 e2 e3
  exact (AdamSmallRefIdeal.Read.val_main_v32_eq V0).trans (ref2 ..)
theorem got3 : shapeCast S2x4x192 (extractStridedSlice AdamSmallRefIdeal.S1536 ![3072] (AdamSmallRefIdeal.Value.res_main_v24 V0) AdamSmallRefIdeal.Gen.slices_S655360_S1536_3072) AdamSmallRefIdeal.Gen.shapeCasts_S1536_S2x4x192 = unpack3 (deltas w g m v) := by
  subst e0 e1 e2 e3
  exact (AdamSmallRefIdeal.Read.val_main_v34_eq V0).trans (ref3 ..)
theorem got4 : shapeCast S2x4x256 (extractStridedSlice AdamSmallRefIdeal.S2048 ![5120] (AdamSmallRefIdeal.Value.res_main_v24 V0) AdamSmallRefIdeal.Gen.slices_S655360_S2048_5120) AdamSmallRefIdeal.Gen.shapeCasts_S2048_S2x4x256 = unpack4 (deltas w g m v) := by
  subst e0 e1 e2 e3
  exact (AdamSmallRefIdeal.Read.val_main_v36_eq V0).trans (ref4 ..)
theorem got5 : extractStridedSlice AdamSmallRefIdeal.S1024 ![7168] (AdamSmallRefIdeal.Value.res_main_v24 V0) AdamSmallRefIdeal.Gen.slices_S655360_S1024_7168 = unpack5 (deltas w g m v) := by
  subst e0 e1 e2 e3
  exact (AdamSmallRefIdeal.Read.val_main_v37_eq V0).trans (ref5 ..)
theorem got6 : shapeCast S2x1024 (extractStridedSlice AdamSmallRefIdeal.S2048 ![8192] (AdamSmallRefIdeal.Value.res_main_v24 V0) AdamSmallRefIdeal.Gen.slices_S655360_S2048_8192) AdamSmallRefIdeal.Gen.shapeCasts_S2048_S2x1024 = unpack6 (deltas w g m v) := by
  subst e0 e1 e2 e3
  exact (AdamSmallRefIdeal.Read.val_main_v39_eq V0).trans (ref6 ..)
theorem got7 : shapeCast S2x3072 (extractStridedSlice AdamSmallRefIdeal.S6144 ![10240] (AdamSmallRefIdeal.Value.res_main_v24 V0) AdamSmallRefIdeal.Gen.slices_S655360_S6144_10240) AdamSmallRefIdeal.Gen.shapeCasts_S6144_S2x3072 = unpack7 (deltas w g m v) := by
  subst e0 e1 e2 e3
  exact (AdamSmallRefIdeal.Read.val_main_v41_eq V0).trans (ref7 ..)
theorem got8 : shapeCast S2x512 (extractStridedSlice AdamSmallRefIdeal.S1024 ![16384] (AdamSmallRefIdeal.Value.res_main_v24 V0) AdamSmallRefIdeal.Gen.slices_S655360_S1024_16384) AdamSmallRefIdeal.Gen.shapeCasts_S1024_S2x512 = unpack8 (deltas w g m v) := by
  subst e0 e1 e2 e3
  exact (AdamSmallRefIdeal.Read.val_main_v43_eq V0).trans (ref8 ..)
theorem got9 : shapeCast S2x2x32x64 (extractStridedSlice AdamSmallRefIdeal.S8192 ![17408] (AdamSmallRefIdeal.Value.res_main_v24 V0) AdamSmallRefIdeal.Gen.slices_S655360_S8192_17408) AdamSmallRefIdeal.Gen.shapeCasts_S8192_S2x2x32x64 = unpack9 (deltas w g m v) := by
  subst e0 e1 e2 e3
  exact (AdamSmallRefIdeal.Read.val_main_v45_eq V0).trans (ref9 ..)
theorem got10 : shapeCast S2x2x32x64 (extractStridedSlice AdamSmallRefIdeal.S8192 ![25600] (AdamSmallRefIdeal.Value.res_main_v24 V0) AdamSmallRefIdeal.Gen.slices_S655360_S8192_25600) AdamSmallRefIdeal.Gen.shapeCasts_S8192_S2x2x32x64 = unpack10 (deltas w g m v) := by
  subst e0 e1 e2 e3
  exact (AdamSmallRefIdeal.Read.val_main_v47_eq V0).trans (ref10 ..)
theorem got11 : shapeCast S2x2x32 (extractStridedSlice AdamSmallRefIdeal.S128 ![33792] (AdamSmallRefIdeal.Value.res_main_v24 V0) AdamSmallRefIdeal.Gen.slices_S655360_S128_33792) AdamSmallRefIdeal.Gen.shapeCasts_S128_S2x2x32 = unpack11 (deltas w g m v) := by
  subst e0 e1 e2 e3
  exact (AdamSmallRefIdeal.Read.val_main_v49_eq V0).trans (ref11 ..)
theorem got12 : shapeCast S2x32x64x16 (extractStridedSlice AdamSmallRefIdeal.S65536 ![34816] (AdamSmallRefIdeal.Value.res_main_v24 V0) AdamSmallRefIdeal.Gen.slices_S655360_S65536_34816) AdamSmallRefIdeal.Gen.shapeCasts_S65536_S2x32x64x16 = unpack12 (deltas w g m v) := by
  subst e0 e1 e2 e3
  exact (AdamSmallRefIdeal.Read.val_main_v51_eq V0).trans (ref12 ..)
theorem got13 : shapeCast S2x32x64x16 (extractStridedSlice AdamSmallRefIdeal.S65536 ![100352] (AdamSmallRefIdeal.Value.res_main_v24 V0) AdamSmallRefIdeal.Gen.slices_S655360_S65536_100352) AdamSmallRefIdeal.Gen.shapeCasts_S65536_S2x32x64x16 = unpack13 (deltas w g m v) := by
  subst e0 e1 e2 e3
  exact (AdamSmallRefIdeal.Read.val_main_v53_eq V0).trans (ref13 ..)
theorem got14 : shapeCast S2x32x16x64 (extractStridedSlice AdamSmallRefIdeal.S65536 ![165888] (AdamSmallRefIdeal.Value.res_main_v24 V0) AdamSmallRefIdeal.Gen.slices_S655360_S65536_165888) AdamSmallRefIdeal.Gen.shapeCasts_S65536_S2x32x16x64 = unpack14 (deltas w g m v) := by
  subst e0 e1 e2 e3
  exact (AdamSmallRefIdeal.Read.val_main_v55_eq V0).trans (ref14 ..)
theorem got15 : shapeCast S2x32x16x64 (extractStridedSlice AdamSmallRefIdeal.S65536 ![231424] (AdamSmallRefIdeal.Value.res_main_v24 V0) AdamSmallRefIdeal.Gen.slices_S655360_S65536_231424) AdamSmallRefIdeal.Gen.shapeCasts_S65536_S2x32x16x64 = unpack15 (deltas w g m v) := by
  subst e0 e1 e2 e3
  exact (AdamSmallRefIdeal.Read.val_main_v57_eq V0).trans (ref15 ..)
theorem got16 : shapeCast S2x512 (extractStridedSlice AdamSmallRefIdeal.S1024 ![296960] (AdamSmallRefIdeal.Value.res_main_v24 V0) AdamSmallRefIdeal.Gen.slices_S655360_S1024_296960) AdamSmallRefIdeal.Gen.shapeCasts_S1024_S2x512 = unpack16 (deltas w g m v) := by
  subst e0 e1 e2 e3
  exact (AdamSmallRefIdeal.Read.val_main_v59_eq V0).trans (ref16 ..)
theorem got17 : shapeCast S2x512 (extractStridedSlice AdamSmallRefIdeal.S1024 ![297984] (AdamSmallRefIdeal.Value.res_main_v24 V0) AdamSmallRefIdeal.Gen.slices_S655360_S1024_297984) AdamSmallRefIdeal.Gen.shapeCasts_S1024_S2x512 = unpack17 (deltas w g m v) := by
  subst e0 e1 e2 e3
  exact (AdamSmallRefIdeal.Read.val_main_v61_eq V0).trans (ref17 ..)
theorem got18 : shapeCast S2x512 (extractStridedSlice AdamSmallRefIdeal.S1024 ![299008] (AdamSmallRefIdeal.Value.res_main_v24 V0) AdamSmallRefIdeal.Gen.slices_S655360_S1024_299008) AdamSmallRefIdeal.Gen.shapeCasts_S1024_S2x512 = unpack18 (deltas w g m v) := by
  subst e0 e1 e2 e3
  exact (AdamSmallRefIdeal.Read.val_main_v63_eq V0).trans (ref18 ..)
theorem got19 : shapeCast S2x2x2x8x64x64 (extractStridedSlice AdamSmallRefIdeal.S262144 ![300032] (AdamSmallRefIdeal.Value.res_main_v24 V0) AdamSmallRefIdeal.Gen.slices_S655360_S262144_300032) AdamSmallRefIdeal.Gen.shapeCasts_S262144_S2x2x2x8x64x64 = unpack19 (deltas w g m v) := by
  subst e0 e1 e2 e3
  exact (AdamSmallRefIdeal.Read.val_main_v65_eq V0).trans (ref19 ..)
theorem got20 : shapeCast S2x2x2x8x64 (extractStridedSlice AdamSmallRefIdeal.S4096 ![562176] (AdamSmallRefIdeal.Value.res_main_v24 V0) AdamSmallRefIdeal.Gen.slices_S655360_S4096_562176) AdamSmallRefIdeal.Gen.shapeCasts_S4096_S2x2x2x8x64 = unpack20 (deltas w g m v) := by
  subst e0 e1 e2 e3
  exact (AdamSmallRefIdeal.Read.val_main_v67_eq V0).trans (ref20 ..)
theorem got21 : shapeCast S2x768 (extractStridedSlice AdamSmallRefIdeal.S1536 ![566272] (AdamSmallRefIdeal.Value.res_main_v24 V0) AdamSmallRefIdeal.Gen.slices_S655360_S1536_566272) AdamSmallRefIdeal.Gen.shapeCasts_S1536_S2x768 = unpack21 (deltas w g m v) := by
  subst e0 e1 e2 e3
  exact (AdamSmallRefIdeal.Read.val_main_v69_eq V0).trans (ref21 ..)
theorem got22 : shapeCast S2x2x8 (extractStridedSlice AdamSmallRefIdeal.S32 ![568320] (AdamSmallRefIdeal.Value.res_main_v24 V0) AdamSmallRefIdeal.Gen.slices_S655360_S32_568320) AdamSmallRefIdeal.Gen.shapeCasts_S32_S2x2x8 = unpack22 (deltas w g m v) := by
  subst e0 e1 e2 e3
  exact (AdamSmallRefIdeal.Read.val_main_v71_eq V0).trans (ref22 ..)
theorem got23 : shapeCast S2x2x8 (extractStridedSlice AdamSmallRefIdeal.S32 ![569344] (AdamSmallRefIdeal.Value.res_main_v24 V0) AdamSmallRefIdeal.Gen.slices_S655360_S32_569344) AdamSmallRefIdeal.Gen.shapeCasts_S32_S2x2x8 = unpack23 (deltas w g m v) := by
  subst e0 e1 e2 e3
  exact (AdamSmallRefIdeal.Read.val_main_v73_eq V0).trans (ref23 ..)
theorem got24 : shapeCast S2x8 (extractStridedSlice AdamSmallRefIdeal.S16 ![570368] (AdamSmallRefIdeal.Value.res_main_v24 V0) AdamSmallRefIdeal.Gen.slices_S655360_S16_570368) AdamSmallRefIdeal.Gen.shapeCasts_S16_S2x8 = unpack24 (deltas w g m v) := by
  subst e0 e1 e2 e3
  exact (AdamSmallRefIdeal.Read.val_main_v75_eq V0).trans (ref24 ..)
theorem got25 : shapeCast S2x512 (extractStridedSlice AdamSmallRefIdeal.S1024 ![571392] (AdamSmallRefIdeal.Value.res_main_v24 V0) AdamSmallRefIdeal.Gen.slices_S655360_S1024_571392) AdamSmallRefIdeal.Gen.shapeCasts_S1024_S2x512 = unpack25 (deltas w g m v) := by
  subst e0 e1 e2 e3
  exact (AdamSmallRefIdeal.Read.val_main_v77_eq V0).trans (ref25 ..)
theorem got26 : extractStridedSlice AdamSmallRefIdeal.S1024 ![572416] (AdamSmallRefIdeal.Value.res_main_v24 V0) AdamSmallRefIdeal.Gen.slices_S655360_S1024_572416 = unpack26 (deltas w g m v) := by
  subst e0 e1 e2 e3
  exact (AdamSmallRefIdeal.Read.val_main_v78_eq V0).trans (ref26 ..)
theorem got27 : shapeCast S3x2x128 (extractStridedSlice AdamSmallRefIdeal.S768 ![0] (AdamSmallRefIdeal.Value.res_main_v25 V0) AdamSmallRefIdeal.Gen.slices_S655360_S768_0) AdamSmallRefIdeal.Gen.shapeCasts_S768_S3x2x128 = unpack0 (firsts g m) := by
  subst e0 e1 e2 e3
  exact (AdamSmallRefIdeal.Read.val_main_v80_eq V0).trans (ref27 ..)
theorem got28 : shapeCast S2x4x128 (extractStridedSlice AdamSmallRefIdeal.S1024 ![1024] (AdamSmallRefIdeal.Value.res_main_v25 V0) AdamSmallRefIdeal.Gen.slices_S655360_S1024_1024) AdamSmallRefIdeal.Gen.shapeCasts_S1024_S2x4x128 = unpack1 (firsts g m) := by
  subst e0 e1 e2 e3
  exact (AdamSmallRefIdeal.Read.val_main_v82_eq V0).trans (ref28 ..)
theorem got29 : shapeCast S2x2x128 (extractStridedSlice AdamSmallRefIdeal.S512 ![2048] (AdamSmallRefIdeal.Value.res_main_v25 V0) AdamSmallRefIdeal.Gen.slices_S655360_S512_2048) AdamSmallRefIdeal.Gen.shapeCasts_S512_S2x2x128 = unpack2 (firsts g m) := by
  subst e0 e1 e2 e3
  exact (AdamSmallRefIdeal.Read.val_main_v84_eq V0).trans (ref29 ..)
theorem got30 : shapeCast S2x4x192 (extractStridedSlice AdamSmallRefIdeal.S1536 ![3072] (AdamSmallRefIdeal.Value.res_main_v25 V0) AdamSmallRefIdeal.Gen.slices_S655360_S1536_3072) AdamSmallRefIdeal.Gen.shapeCasts_S1536_S2x4x192 = unpack3 (firsts g m) := by
  subst e0 e1 e2 e3
  exact (AdamSmallRefIdeal.Read.val_main_v86_eq V0).trans (ref30 ..)
theorem got31 : shapeCast S2x4x256 (extractStridedSlice AdamSmallRefIdeal.S2048 ![5120] (AdamSmallRefIdeal.Value.res_main_v25 V0) AdamSmallRefIdeal.Gen.slices_S655360_S2048_5120) AdamSmallRefIdeal.Gen.shapeCasts_S2048_S2x4x256 = unpack4 (firsts g m) := by
  subst e0 e1 e2 e3
  exact (AdamSmallRefIdeal.Read.val_main_v88_eq V0).trans (ref31 ..)
theorem got32 : extractStridedSlice AdamSmallRefIdeal.S1024 ![7168] (AdamSmallRefIdeal.Value.res_main_v25 V0) AdamSmallRefIdeal.Gen.slices_S655360_S1024_7168 = unpack5 (firsts g m) := by
  subst e0 e1 e2 e3
  exact (AdamSmallRefIdeal.Read.val_main_v89_eq V0).trans (ref32 ..)
theorem got33 : shapeCast S2x1024 (extractStridedSlice AdamSmallRefIdeal.S2048 ![8192] (AdamSmallRefIdeal.Value.res_main_v25 V0) AdamSmallRefIdeal.Gen.slices_S655360_S2048_8192) AdamSmallRefIdeal.Gen.shapeCasts_S2048_S2x1024 = unpack6 (firsts g m) := by
  subst e0 e1 e2 e3
  exact (AdamSmallRefIdeal.Read.val_main_v91_eq V0).trans (ref33 ..)
theorem got34 : shapeCast S2x3072 (extractStridedSlice AdamSmallRefIdeal.S6144 ![10240] (AdamSmallRefIdeal.Value.res_main_v25 V0) AdamSmallRefIdeal.Gen.slices_S655360_S6144_10240) AdamSmallRefIdeal.Gen.shapeCasts_S6144_S2x3072 = unpack7 (firsts g m) := by
  subst e0 e1 e2 e3
  exact (AdamSmallRefIdeal.Read.val_main_v93_eq V0).trans (ref34 ..)
theorem got35 : shapeCast S2x512 (extractStridedSlice AdamSmallRefIdeal.S1024 ![16384] (AdamSmallRefIdeal.Value.res_main_v25 V0) AdamSmallRefIdeal.Gen.slices_S655360_S1024_16384) AdamSmallRefIdeal.Gen.shapeCasts_S1024_S2x512 = unpack8 (firsts g m) := by
  subst e0 e1 e2 e3
  exact (AdamSmallRefIdeal.Read.val_main_v95_eq V0).trans (ref35 ..)
theorem got36 : shapeCast S2x2x32x64 (extractStridedSlice AdamSmallRefIdeal.S8192 ![17408] (AdamSmallRefIdeal.Value.res_main_v25 V0) AdamSmallRefIdeal.Gen.slices_S655360_S8192_17408) AdamSmallRefIdeal.Gen.shapeCasts_S8192_S2x2x32x64 = unpack9 (firsts g m) := by
  subst e0 e1 e2 e3
  exact (AdamSmallRefIdeal.Read.val_main_v97_eq V0).trans (ref36 ..)
theorem got37 : shapeCast S2x2x32x64 (extractStridedSlice AdamSmallRefIdeal.S8192 ![25600] (AdamSmallRefIdeal.Value.res_main_v25 V0) AdamSmallRefIdeal.Gen.slices_S655360_S8192_25600) AdamSmallRefIdeal.Gen.shapeCasts_S8192_S2x2x32x64 = unpack10 (firsts g m) := by
  subst e0 e1 e2 e3
  exact (AdamSmallRefIdeal.Read.val_main_v99_eq V0).trans (ref37 ..)
theorem got38 : shapeCast S2x2x32 (extractStridedSlice AdamSmallRefIdeal.S128 ![33792] (AdamSmallRefIdeal.Value.res_main_v25 V0) AdamSmallRefIdeal.Gen.slices_S655360_S128_33792) AdamSmallRefIdeal.Gen.shapeCasts_S128_S2x2x32 = unpack11 (firsts g m) := by
  subst e0 e1 e2 e3
  exact (AdamSmallRefIdeal.Read.val_main_v101_eq V0).trans (ref38 ..)
theorem got39 : shapeCast S2x32x64x16 (extractStridedSlice AdamSmallRefIdeal.S65536 ![34816] (AdamSmallRefIdeal.Value.res_main_v25 V0) AdamSmallRefIdeal.Gen.slices_S655360_S65536_34816) AdamSmallRefIdeal.Gen.shapeCasts_S65536_S2x32x64x16 = unpack12 (firsts g m) := by
  subst e0 e1 e2 e3
  exact (AdamSmallRefIdeal.Read.val_main_v103_eq V0).trans (ref39 ..)
theorem got40 : shapeCast S2x32x64x16 (extractStridedSlice AdamSmallRefIdeal.S65536 ![100352] (AdamSmallRefIdeal.Value.res_main_v25 V0) AdamSmallRefIdeal.Gen.slices_S655360_S65536_100352) AdamSmallRefIdeal.Gen.shapeCasts_S65536_S2x32x64x16 = unpack13 (firsts g m) := by
  subst e0 e1 e2 e3
  exact (AdamSmallRefIdeal.Read.val_main_v105_eq V0).trans (ref40 ..)
theorem got41 : shapeCast S2x32x16x64 (extractStridedSlice AdamSmallRefIdeal.S65536 ![165888] (AdamSmallRefIdeal.Value.res_main_v25 V0) AdamSmallRefIdeal.Gen.slices_S655360_S65536_165888) AdamSmallRefIdeal.Gen.shapeCasts_S65536_S2x32x16x64 = unpack14 (firsts g m) := by
  subst e0 e1 e2 e3
  exact (AdamSmallRefIdeal.Read.val_main_v107_eq V0).trans (ref41 ..)
theorem got42 : shapeCast S2x32x16x64 (extractStridedSlice AdamSmallRefIdeal.S65536 ![231424] (AdamSmallRefIdeal.Value.res_main_v25 V0) AdamSmallRefIdeal.Gen.slices_S655360_S65536_231424) AdamSmallRefIdeal.Gen.shapeCasts_S65536_S2x32x16x64 = unpack15 (firsts g m) := by
  subst e0 e1 e2 e3
  exact (AdamSmallRefIdeal.Read.val_main_v109_eq V0).trans (ref42 ..)
theorem got43 : shapeCast S2x512 (extractStridedSlice AdamSmallRefIdeal.S1024 ![296960] (AdamSmallRefIdeal.Value.res_main_v25 V0) AdamSmallRefIdeal.Gen.slices_S655360_S1024_296960) AdamSmallRefIdeal.Gen.shapeCasts_S1024_S2x512 = unpack16 (firsts g m) := by
  subst e0 e1 e2 e3
  exact (AdamSmallRefIdeal.Read.val_main_v111_eq V0).trans (ref43 ..)
theorem got44 : shapeCast S2x512 (extractStridedSlice AdamSmallRefIdeal.S1024 ![297984] (AdamSmallRefIdeal.Value.res_main_v25 V0) AdamSmallRefIdeal.Gen.slices_S655360_S1024_297984) AdamSmallRefIdeal.Gen.shapeCasts_S1024_S2x512 = unpack17 (firsts g m) := by
  subst e0 e1 e2 e3
  exact (AdamSmallRefIdeal.Read.val_main_v113_eq V0).trans (ref44 ..)
theorem got45 : shapeCast S2x512 (extractStridedSlice AdamSmallRefIdeal.S1024 ![299008] (AdamSmallRefIdeal.Value.res_main_v25 V0) AdamSmallRefIdeal.Gen.slices_S655360_S1024_299008) AdamSmallRefIdeal.Gen.shapeCasts_S1024_S2x512 = unpack18 (firsts g m) := by
  subst e0 e1 e2 e3
  exact (AdamSmallRefIdeal.Read.val_main_v115_eq V0).trans (ref45 ..)
theorem got46 : shapeCast S2x2x2x8x64x64 (extractStridedSlice AdamSmallRefIdeal.S262144 ![300032] (AdamSmallRefIdeal.Value.res_main_v25 V0) AdamSmallRefIdeal.Gen.slices_S655360_S262144_300032) AdamSmallRefIdeal.Gen.shapeCasts_S262144_S2x2x2x8x64x64 = unpack19 (firsts g m) := by
  subst e0 e1 e2 e3
  exact (AdamSmallRefIdeal.Read.val_main_v117_eq V0).trans (ref46 ..)
theorem got47 : shapeCast S2x2x2x8x64 (extractStridedSlice AdamSmallRefIdeal.S4096 ![562176] (AdamSmallRefIdeal.Value.res_main_v25 V0) AdamSmallRefIdeal.Gen.slices_S655360_S4096_562176) AdamSmallRefIdeal.Gen.shapeCasts_S4096_S2x2x2x8x64 = unpack20 (firsts g m) := by
  subst e0 e1 e2 e3
  exact (AdamSmallRefIdeal.Read.val_main_v119_eq V0).trans (ref47 ..)
theorem got48 : shapeCast S2x768 (extractStridedSlice AdamSmallRefIdeal.S1536 ![566272] (AdamSmallRefIdeal.Value.res_main_v25 V0) AdamSmallRefIdeal.Gen.slices_S655360_S1536_566272) AdamSmallRefIdeal.Gen.shapeCasts_S1536_S2x768 = unpack21 (firsts g m) := by
  subst e0 e1 e2 e3
  exact (AdamSmallRefIdeal.Read.val_main_v121_eq V0).trans (ref48 ..)
theorem got49 : shapeCast S2x2x8 (extractStridedSlice AdamSmallRefIdeal.S32 ![568320] (AdamSmallRefIdeal.Value.res_main_v25 V0) AdamSmallRefIdeal.Gen.slices_S655360_S32_568320) AdamSmallRefIdeal.Gen.shapeCasts_S32_S2x2x8 = unpack22 (firsts g m) := by
  subst e0 e1 e2 e3
  exact (AdamSmallRefIdeal.Read.val_main_v123_eq V0).trans (ref49 ..)
theorem got50 : shapeCast S2x2x8 (extractStridedSlice AdamSmallRefIdeal.S32 ![569344] (AdamSmallRefIdeal.Value.res_main_v25 V0) AdamSmallRefIdeal.Gen.slices_S655360_S32_569344) AdamSmallRefIdeal.Gen.shapeCasts_S32_S2x2x8 = unpack23 (firsts g m) := by
  subst e0 e1 e2 e3
  exact (AdamSmallRefIdeal.Read.val_main_v125_eq V0).trans (ref50 ..)
theorem got51 : shapeCast S2x8 (extractStridedSlice AdamSmallRefIdeal.S16 ![570368] (AdamSmallRefIdeal.Value.res_main_v25 V0) AdamSmallRefIdeal.Gen.slices_S655360_S16_570368) AdamSmallRefIdeal.Gen.shapeCasts_S16_S2x8 = unpack24 (firsts g m) := by
  subst e0 e1 e2 e3
  exact (AdamSmallRefIdeal.Read.val_main_v127_eq V0).trans (ref51 ..)
theorem got52 : shapeCast S2x512 (extractStridedSlice AdamSmallRefIdeal.S1024 ![571392] (AdamSmallRefIdeal.Value.res_main_v25 V0) AdamSmallRefIdeal.Gen.slices_S655360_S1024_571392) AdamSmallRefIdeal.Gen.shapeCasts_S1024_S2x512 = unpack25 (firsts g m) := by
  subst e0 e1 e2 e3
  exact (AdamSmallRefIdeal.Read.val_main_v129_eq V0).trans (ref52 ..)
theorem got53 : extractStridedSlice AdamSmallRefIdeal.S1024 ![572416] (AdamSmallRefIdeal.Value.res_main_v25 V0) AdamSmallRefIdeal.Gen.slices_S655360_S1024_572416 = unpack26 (firsts g m) := by
  subst e0 e1 e2 e3
  exact (AdamSmallRefIdeal.Read.val_main_v130_eq V0).trans (ref53 ..)
theorem got54 : shapeCast S3x2x128 (extractStridedSlice AdamSmallRefIdeal.S768 ![0] (AdamSmallRefIdeal.Value.res_main_v26 V0) AdamSmallRefIdeal.Gen.slices_S655360_S768_0) AdamSmallRefIdeal.Gen.shapeCasts_S768_S3x2x128 = unpack0 (seconds g v) := by
  subst e0 e1 e2 e3
  exact (AdamSmallRefIdeal.Read.val_main_v132_eq V0).trans (ref54 ..)
theorem got55 : shapeCast S2x4x128 (extractStridedSlice AdamSmallRefIdeal.S1024 ![1024] (AdamSmallRefIdeal.Value.res_main_v26 V0) AdamSmallRefIdeal.Gen.slices_S655360_S1024_1024) AdamSmallRefIdeal.Gen.shapeCasts_S1024_S2x4x128 = unpack1 (seconds g v) := by
  subst e0 e1 e2 e3
  exact (AdamSmallRefIdeal.Read.val_main_v134_eq V0).trans (ref55 ..)
theorem got56 : shapeCast S2x2x128 (extractStridedSlice AdamSmallRefIdeal.S512 ![2048] (AdamSmallRefIdeal.Value.res_main_v26 V0) AdamSmallRefIdeal.Gen.slices_S655360_S512_2048) AdamSmallRefIdeal.Gen.shapeCasts_S512_S2x2x128 = unpack2 (seconds g v) := by
  subst e0 e1 e2 e3
  exact (AdamSmallRefIdeal.Read.val_main_v136_eq V0).trans (ref56 ..)
theorem got57 : shapeCast S2x4x192 (extractStridedSlice AdamSmallRefIdeal.S1536 ![3072] (AdamSmallRefIdeal.Value.res_main_v26 V0) AdamSmallRefIdeal.Gen.slices_S655360_S1536_3072) AdamSmallRefIdeal.Gen.shapeCasts_S1536_S2x4x192 = unpack3 (seconds g v) := by
  subst e0 e1 e2 e3
  exact (AdamSmallRefIdeal.Read.val_main_v138_eq V0).trans (ref57 ..)
theorem got58 : shapeCast S2x4x256 (extractStridedSlice AdamSmallRefIdeal.S2048 ![5120] (AdamSmallRefIdeal.Value.res_main_v26 V0) AdamSmallRefIdeal.Gen.slices_S655360_S2048_5120) AdamSmallRefIdeal.Gen.shapeCasts_S2048_S2x4x256 = unpack4 (seconds g v) := by
  subst e0 e1 e2 e3
  exact (AdamSmallRefIdeal.Read.val_main_v140_eq V0).trans (ref58 ..)
theorem got59 : extractStridedSlice AdamSmallRefIdeal.S1024 ![7168] (AdamSmallRefIdeal.Value.res_main_v26 V0) AdamSmallRefIdeal.Gen.slices_S655360_S1024_7168 = unpack5 (seconds g v) := by
  subst e0 e1 e2 e3
  exact (AdamSmallRefIdeal.Read.val_main_v141_eq V0).trans (ref59 ..)
theorem got60 : shapeCast S2x1024 (extractStridedSlice AdamSmallRefIdeal.S2048 ![8192] (AdamSmallRefIdeal.Value.res_main_v26 V0) AdamSmallRefIdeal.Gen.slices_S655360_S2048_8192) AdamSmallRefIdeal.Gen.shapeCasts_S2048_S2x1024 = unpack6 (seconds g v) := by
  subst e0 e1 e2 e3
  exact (AdamSmallRefIdeal.Read.val_main_v143_eq V0).trans (ref60 ..)
theorem got61 : shapeCast S2x3072 (extractStridedSlice AdamSmallRefIdeal.S6144 ![10240] (AdamSmallRefIdeal.Value.res_main_v26 V0) AdamSmallRefIdeal.Gen.slices_S655360_S6144_10240) AdamSmallRefIdeal.Gen.shapeCasts_S6144_S2x3072 = unpack7 (seconds g v) := by
  subst e0 e1 e2 e3
  exact (AdamSmallRefIdeal.Read.val_main_v145_eq V0).trans (ref61 ..)
theorem got62 : shapeCast S2x512 (extractStridedSlice AdamSmallRefIdeal.S1024 ![16384] (AdamSmallRefIdeal.Value.res_main_v26 V0) AdamSmallRefIdeal.Gen.slices_S655360_S1024_16384) AdamSmallRefIdeal.Gen.shapeCasts_S1024_S2x512 = unpack8 (seconds g v) := by
  subst e0 e1 e2 e3
  exact (AdamSmallRefIdeal.Read.val_main_v147_eq V0).trans (ref62 ..)
theorem got63 : shapeCast S2x2x32x64 (extractStridedSlice AdamSmallRefIdeal.S8192 ![17408] (AdamSmallRefIdeal.Value.res_main_v26 V0) AdamSmallRefIdeal.Gen.slices_S655360_S8192_17408) AdamSmallRefIdeal.Gen.shapeCasts_S8192_S2x2x32x64 = unpack9 (seconds g v) := by
  subst e0 e1 e2 e3
  exact (AdamSmallRefIdeal.Read.val_main_v149_eq V0).trans (ref63 ..)
theorem got64 : shapeCast S2x2x32x64 (extractStridedSlice AdamSmallRefIdeal.S8192 ![25600] (AdamSmallRefIdeal.Value.res_main_v26 V0) AdamSmallRefIdeal.Gen.slices_S655360_S8192_25600) AdamSmallRefIdeal.Gen.shapeCasts_S8192_S2x2x32x64 = unpack10 (seconds g v) := by
  subst e0 e1 e2 e3
  exact (AdamSmallRefIdeal.Read.val_main_v151_eq V0).trans (ref64 ..)
theorem got65 : shapeCast S2x2x32 (extractStridedSlice AdamSmallRefIdeal.S128 ![33792] (AdamSmallRefIdeal.Value.res_main_v26 V0) AdamSmallRefIdeal.Gen.slices_S655360_S128_33792) AdamSmallRefIdeal.Gen.shapeCasts_S128_S2x2x32 = unpack11 (seconds g v) := by
  subst e0 e1 e2 e3
  exact (AdamSmallRefIdeal.Read.val_main_v153_eq V0).trans (ref65 ..)
theorem got66 : shapeCast S2x32x64x16 (extractStridedSlice AdamSmallRefIdeal.S65536 ![34816] (AdamSmallRefIdeal.Value.res_main_v26 V0) AdamSmallRefIdeal.Gen.slices_S655360_S65536_34816) AdamSmallRefIdeal.Gen.shapeCasts_S65536_S2x32x64x16 = unpack12 (seconds g v) := by
  subst e0 e1 e2 e3
  exact (AdamSmallRefIdeal.Read.val_main_v155_eq V0).trans (ref66 ..)
theorem got67 : shapeCast S2x32x64x16 (extractStridedSlice AdamSmallRefIdeal.S65536 ![100352] (AdamSmallRefIdeal.Value.res_main_v26 V0) AdamSmallRefIdeal.Gen.slices_S655360_S65536_100352) AdamSmallRefIdeal.Gen.shapeCasts_S65536_S2x32x64x16 = unpack13 (seconds g v) := by
  subst e0 e1 e2 e3
  exact (AdamSmallRefIdeal.Read.val_main_v157_eq V0).trans (ref67 ..)
theorem got68 : shapeCast S2x32x16x64 (extractStridedSlice AdamSmallRefIdeal.S65536 ![165888] (AdamSmallRefIdeal.Value.res_main_v26 V0) AdamSmallRefIdeal.Gen.slices_S655360_S65536_165888) AdamSmallRefIdeal.Gen.shapeCasts_S65536_S2x32x16x64 = unpack14 (seconds g v) := by
  subst e0 e1 e2 e3
  exact (AdamSmallRefIdeal.Read.val_main_v159_eq V0).trans (ref68 ..)
theorem got69 : shapeCast S2x32x16x64 (extractStridedSlice AdamSmallRefIdeal.S65536 ![231424] (AdamSmallRefIdeal.Value.res_main_v26 V0) AdamSmallRefIdeal.Gen.slices_S655360_S65536_231424) AdamSmallRefIdeal.Gen.shapeCasts_S65536_S2x32x16x64 = unpack15 (seconds g v) := by
  subst e0 e1 e2 e3
  exact (AdamSmallRefIdeal.Read.val_main_v161_eq V0).trans (ref69 ..)
theorem got70 : shapeCast S2x512 (extractStridedSlice AdamSmallRefIdeal.S1024 ![296960] (AdamSmallRefIdeal.Value.res_main_v26 V0) AdamSmallRefIdeal.Gen.slices_S655360_S1024_296960) AdamSmallRefIdeal.Gen.shapeCasts_S1024_S2x512 = unpack16 (seconds g v) := by
  subst e0 e1 e2 e3
  exact (AdamSmallRefIdeal.Read.val_main_v163_eq V0).trans (ref70 ..)
theorem got71 : shapeCast S2x512 (extractStridedSlice AdamSmallRefIdeal.S1024 ![297984] (AdamSmallRefIdeal.Value.res_main_v26 V0) AdamSmallRefIdeal.Gen.slices_S655360_S1024_297984) AdamSmallRefIdeal.Gen.shapeCasts_S1024_S2x512 = unpack17 (seconds g v) := by
  subst e0 e1 e2 e3
  exact (AdamSmallRefIdeal.Read.val_main_v165_eq V0).trans (ref71 ..)
theorem got72 : shapeCast S2x512 (extractStridedSlice AdamSmallRefIdeal.S1024 ![299008] (AdamSmallRefIdeal.Value.res_main_v26 V0) AdamSmallRefIdeal.Gen.slices_S655360_S1024_299008) AdamSmallRefIdeal.Gen.shapeCasts_S1024_S2x512 = unpack18 (seconds g v) := by
  subst e0 e1 e2 e3
  exact (AdamSmallRefIdeal.Read.val_main_v167_eq V0).trans (ref72 ..)
theorem got73 : shapeCast S2x2x2x8x64x64 (extractStridedSlice AdamSmallRefIdeal.S262144 ![300032] (AdamSmallRefIdeal.Value.res_main_v26 V0) AdamSmallRefIdeal.Gen.slices_S655360_S262144_300032) AdamSmallRefIdeal.Gen.shapeCasts_S262144_S2x2x2x8x64x64 = unpack19 (seconds g v) := by
  subst e0 e1 e2 e3
  exact (AdamSmallRefIdeal.Read.val_main_v169_eq V0).trans (ref73 ..)
theorem got74 : shapeCast S2x2x2x8x64 (extractStridedSlice AdamSmallRefIdeal.S4096 ![562176] (AdamSmallRefIdeal.Value.res_main_v26 V0) AdamSmallRefIdeal.Gen.slices_S655360_S4096_562176) AdamSmallRefIdeal.Gen.shapeCasts_S4096_S2x2x2x8x64 = unpack20 (seconds g v) := by
  subst e0 e1 e2 e3
  exact (AdamSmallRefIdeal.Read.val_main_v171_eq V0).trans (ref74 ..)
theorem got75 : shapeCast S2x768 (extractStridedSlice AdamSmallRefIdeal.S1536 ![566272] (AdamSmallRefIdeal.Value.res_main_v26 V0) AdamSmallRefIdeal.Gen.slices_S655360_S1536_566272) AdamSmallRefIdeal.Gen.shapeCasts_S1536_S2x768 = unpack21 (seconds g v) := by
  subst e0 e1 e2 e3
  exact (AdamSmallRefIdeal.Read.val_main_v173_eq V0).trans (ref75 ..)
theorem got76 : shapeCast S2x2x8 (extractStridedSlice AdamSmallRefIdeal.S32 ![568320] (AdamSmallRefIdeal.Value.res_main_v26 V0) AdamSmallRefIdeal.Gen.slices_S655360_S32_568320) AdamSmallRefIdeal.Gen.shapeCasts_S32_S2x2x8 = unpack22 (seconds g v) := by
  subst e0 e1 e2 e3
  exact (AdamSmallRefIdeal.Read.val_main_v175_eq V0).trans (ref76 ..)
theorem got77 : shapeCast S2x2x8 (extractStridedSlice AdamSmallRefIdeal.S32 ![569344] (AdamSmallRefIdeal.Value.res_main_v26 V0) AdamSmallRefIdeal.Gen.slices_S655360_S32_569344) AdamSmallRefIdeal.Gen.shapeCasts_S32_S2x2x8 = unpack23 (seconds g v) := by
  subst e0 e1 e2 e3
  exact (AdamSmallRefIdeal.Read.val_main_v177_eq V0).trans (ref77 ..)
theorem got78 : shapeCast S2x8 (extractStridedSlice AdamSmallRefIdeal.S16 ![570368] (AdamSmallRefIdeal.Value.res_main_v26 V0) AdamSmallRefIdeal.Gen.slices_S655360_S16_570368) AdamSmallRefIdeal.Gen.shapeCasts_S16_S2x8 = unpack24 (seconds g v) := by
  subst e0 e1 e2 e3
  exact (AdamSmallRefIdeal.Read.val_main_v179_eq V0).trans (ref78 ..)
theorem got79 : shapeCast S2x512 (extractStridedSlice AdamSmallRefIdeal.S1024 ![571392] (AdamSmallRefIdeal.Value.res_main_v26 V0) AdamSmallRefIdeal.Gen.slices_S655360_S1024_571392) AdamSmallRefIdeal.Gen.shapeCasts_S1024_S2x512 = unpack25 (seconds g v) := by
  subst e0 e1 e2 e3
  exact (AdamSmallRefIdeal.Read.val_main_v181_eq V0).trans (ref79 ..)
theorem got80 : extractStridedSlice AdamSmallRefIdeal.S1024 ![572416] (AdamSmallRefIdeal.Value.res_main_v26 V0) AdamSmallRefIdeal.Gen.slices_S655360_S1024_572416 = unpack26 (seconds g v) := by
  subst e0 e1 e2 e3
  exact (AdamSmallRefIdeal.Read.val_main_v182_eq V0).trans (ref80 ..)

end Cert.Proof.AdamSmall

end
-- ==== Proof.AdamSmallStep.lean ====
/-  The optimiser's step over the packed small weights: the claims. -/
module

public import proofs.«01_k».proof.Defs
public import proofs.«01_k».proof.Proof.AdamSmallRef
public import proofs.«01_k».proof.Proof.Gen.AdamSmallRefIdeal.Run

@[expose] public section

set_option maxRecDepth 16384

noncomputable section

namespace Cert.Proof.AdamSmall

open Cert.AdamSmallIdeal Cert.AdamSmallIdeal.Gen Idealize.ShloMosaic Idealize.ShloMosaic.TcCoe Idealize.SL.Sem
open Idealize.ShloMosaic.Pipeline (Dat)
open Cert.Proof.Adam Cert.Proof.Rows

variable (m : (ℓ : Loc nD τ sig) → Buf (Elt Ideal) ℓ) (ρ : Dev nD → PrngReg)

theorem frame_ref : Cert.quiescent_AdamSmallRefIdeal := fun m ρ _ =>
  (θ_run Cert.AdamSmallRefIdeal.defs _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.AdamSmallRefIdeal.Value.run (F := Ideal) m ρ)

theorem algebraic : Cert.algebraic_AdamSmallIdeal_AdamSmallRefIdeal := by
  intro m ρ m' ρ' _ hag
  refine ⟨fun c => unpack0 (deltaOf m c),
    fun c => unpack1 (deltaOf m c),
    fun c => unpack2 (deltaOf m c),
    fun c => unpack3 (deltaOf m c),
    fun c => unpack4 (deltaOf m c),
    fun c => unpack5 (deltaOf m c),
    fun c => unpack6 (deltaOf m c),
    fun c => unpack7 (deltaOf m c),
    fun c => unpack8 (deltaOf m c),
    fun c => unpack9 (deltaOf m c),
    fun c => unpack10 (deltaOf m c),
    fun c => unpack11 (deltaOf m c),
    fun c => unpack12 (deltaOf m c),
    fun c => unpack13 (deltaOf m c),
    fun c => unpack14 (deltaOf m c),
    fun c => unpack15 (deltaOf m c),
    fun c => unpack16 (deltaOf m c),
    fun c => unpack17 (deltaOf m c),
    fun c => unpack18 (deltaOf m c),
    fun c => unpack19 (deltaOf m c),
    fun c => unpack20 (deltaOf m c),
    fun c => unpack21 (deltaOf m c),
    fun c => unpack22 (deltaOf m c),
    fun c => unpack23 (deltaOf m c),
    fun c => unpack24 (deltaOf m c),
    fun c => unpack25 (deltaOf m c),
    fun c => unpack26 (deltaOf m c),
    fun c => unpack0 (firstOf m c),
    fun c => unpack1 (firstOf m c),
    fun c => unpack2 (firstOf m c),
    fun c => unpack3 (firstOf m c),
    fun c => unpack4 (firstOf m c),
    fun c => unpack5 (firstOf m c),
    fun c => unpack6 (firstOf m c),
    fun c => unpack7 (firstOf m c),
    fun c => unpack8 (firstOf m c),
    fun c => unpack9 (firstOf m c),
    fun c => unpack10 (firstOf m c),
    fun c => unpack11 (firstOf m c),
    fun c => unpack12 (firstOf m c),
    fun c => unpack13 (firstOf m c),
    fun c => unpack14 (firstOf m c),
    fun c => unpack15 (firstOf m c),
    fun c => unpack16 (firstOf m c),
    fun c => unpack17 (firstOf m c),
    fun c => unpack18 (firstOf m c),
    fun c => unpack19 (firstOf m c),
    fun c => unpack20 (firstOf m c),
    fun c => unpack21 (firstOf m c),
    fun c => unpack22 (firstOf m c),
    fun c => unpack23 (firstOf m c),
    fun c => unpack24 (firstOf m c),
    fun c => unpack25 (firstOf m c),
    fun c => unpack26 (firstOf m c),
    fun c => unpack0 (secondOf m c),
    fun c => unpack1 (secondOf m c),
    fun c => unpack2 (secondOf m c),
    fun c => unpack3 (secondOf m c),
    fun c => unpack4 (secondOf m c),
    fun c => unpack5 (secondOf m c),
    fun c => unpack6 (secondOf m c),
    fun c => unpack7 (secondOf m c),
    fun c => unpack8 (secondOf m c),
    fun c => unpack9 (secondOf m c),
    fun c => unpack10 (secondOf m c),
    fun c => unpack11 (secondOf m c),
    fun c => unpack12 (secondOf m c),
    fun c => unpack13 (secondOf m c),
    fun c => unpack14 (secondOf m c),
    fun c => unpack15 (secondOf m c),
    fun c => unpack16 (secondOf m c),
    fun c => unpack17 (secondOf m c),
    fun c => unpack18 (secondOf m c),
    fun c => unpack19 (secondOf m c),
    fun c => unpack20 (secondOf m c),
    fun c => unpack21 (secondOf m c),
    fun c => unpack22 (secondOf m c),
    fun c => unpack23 (secondOf m c),
    fun c => unpack24 (secondOf m c),
    fun c => unpack25 (secondOf m c),
    fun c => unpack26 (secondOf m c), ?_, ?_⟩
  · refine (θ_run Cert.AdamSmallIdeal.defs _ _).mono (fun r h c => ?_) (θ_run_and (run_main m ρ) (unchanged m ρ))
    obtain ⟨hf, hu⟩ := h
    exact ⟨((hf c).2 main_v5 (Pipeline.mem_restRefs_of main_v5 (by decide) (by decide))).trans (end0 m c),
      ((hf c).2 main_v9 (Pipeline.mem_restRefs_of main_v9 (by decide) (by decide))).trans (end1 m c),
      ((hf c).2 main_v14 (Pipeline.mem_restRefs_of main_v14 (by decide) (by decide))).trans (end2 m c),
      ((hf c).2 main_v19 (Pipeline.mem_restRefs_of main_v19 (by decide) (by decide))).trans (end3 m c),
      ((hf c).2 main_v23 (Pipeline.mem_restRefs_of main_v23 (by decide) (by decide))).trans (end4 m c),
      ((hf c).2 main_v26 (Pipeline.mem_restRefs_of main_v26 (by decide) (by decide))).trans (end5 m c),
      ((hf c).2 main_v30 (Pipeline.mem_restRefs_of main_v30 (by decide) (by decide))).trans (end6 m c),
      ((hf c).2 main_v34 (Pipeline.mem_restRefs_of main_v34 (by decide) (by decide))).trans (end7 m c),
      ((hf c).2 main_v38 (Pipeline.mem_restRefs_of main_v38 (by decide) (by decide))).trans (end8 m c),
      ((hf c).2 main_v42 (Pipeline.mem_restRefs_of main_v42 (by decide) (by decide))).trans (end9 m c),
      ((hf c).2 main_v46 (Pipeline.mem_restRefs_of main_v46 (by decide) (by decide))).trans (end10 m c),
      ((hf c).2 main_v51 (Pipeline.mem_restRefs_of main_v51 (by decide) (by decide))).trans (end11 m c),
      ((hf c).2 main_v55 (Pipeline.mem_restRefs_of main_v55 (by decide) (by decide))).trans (end12 m c),
      ((hf c).2 main_v59 (Pipeline.mem_restRefs_of main_v59 (by decide) (by decide))).trans (end13 m c),
      ((hf c).2 main_v63 (Pipeline.mem_restRefs_of main_v63 (by decide) (by decide))).trans (end14 m c),
      ((hf c).2 main_v67 (Pipeline.mem_restRefs_of main_v67 (by decide) (by decide))).trans (end15 m c),
      ((hf c).2 main_v71 (Pipeline.mem_restRefs_of main_v71 (by decide) (by decide))).trans (end16 m c),
      ((hf c).2 main_v75 (Pipeline.mem_restRefs_of main_v75 (by decide) (by decide))).trans (end17 m c),
      ((hf c).2 main_v79 (Pipeline.mem_restRefs_of main_v79 (by decide) (by decide))).trans (end18 m c),
      ((hf c).2 main_v83 (Pipeline.mem_restRefs_of main_v83 (by decide) (by decide))).trans (end19 m c),
      ((hf c).2 main_v87 (Pipeline.mem_restRefs_of main_v87 (by decide) (by decide))).trans (end20 m c),
      ((hf c).2 main_v92 (Pipeline.mem_restRefs_of main_v92 (by decide) (by decide))).trans (end21 m c),
      ((hf c).2 main_v97 (Pipeline.mem_restRefs_of main_v97 (by decide) (by decide))).trans (end22 m c),
      ((hf c).2 main_v102 (Pipeline.mem_restRefs_of main_v102 (by decide) (by decide))).trans (end23 m c),
      ((hf c).2 main_v107 (Pipeline.mem_restRefs_of main_v107 (by decide) (by decide))).trans (end24 m c),
      ((hf c).2 main_v111 (Pipeline.mem_restRefs_of main_v111 (by decide) (by decide))).trans (end25 m c),
      ((hf c).2 main_v114 (Pipeline.mem_restRefs_of main_v114 (by decide) (by decide))).trans (end26 m c),
      ((hf c).2 main_v119 (Pipeline.mem_restRefs_of main_v119 (by decide) (by decide))).trans (end27 m c),
      ((hf c).2 main_v123 (Pipeline.mem_restRefs_of main_v123 (by decide) (by decide))).trans (end28 m c),
      ((hf c).2 main_v128 (Pipeline.mem_restRefs_of main_v128 (by decide) (by decide))).trans (end29 m c),
      ((hf c).2 main_v133 (Pipeline.mem_restRefs_of main_v133 (by decide) (by decide))).trans (end30 m c),
      ((hf c).2 main_v137 (Pipeline.mem_restRefs_of main_v137 (by decide) (by decide))).trans (end31 m c),
      ((hf c).2 main_v140 (Pipeline.mem_restRefs_of main_v140 (by decide) (by decide))).trans (end32 m c),
      ((hf c).2 main_v144 (Pipeline.mem_restRefs_of main_v144 (by decide) (by decide))).trans (end33 m c),
      ((hf c).2 main_v148 (Pipeline.mem_restRefs_of main_v148 (by decide) (by decide))).trans (end34 m c),
      ((hf c).2 main_v152 (Pipeline.mem_restRefs_of main_v152 (by decide) (by decide))).trans (end35 m c),
      ((hf c).2 main_v156 (Pipeline.mem_restRefs_of main_v156 (by decide) (by decide))).trans (end36 m c),
      ((hf c).2 main_v160 (Pipeline.mem_restRefs_of main_v160 (by decide) (by decide))).trans (end37 m c),
      ((hf c).2 main_v165 (Pipeline.mem_restRefs_of main_v165 (by decide) (by decide))).trans (end38 m c),
      ((hf c).2 main_v169 (Pipeline.mem_restRefs_of main_v169 (by decide) (by decide))).trans (end39 m c),
      ((hf c).2 main_v173 (Pipeline.mem_restRefs_of main_v173 (by decide) (by decide))).trans (end40 m c),
      ((hf c).2 main_v177 (Pipeline.mem_restRefs_of main_v177 (by decide) (by decide))).trans (end41 m c),
      ((hf c).2 main_v181 (Pipeline.mem_restRefs_of main_v181 (by decide) (by decide))).trans (end42 m c),
      ((hf c).2 main_v185 (Pipeline.mem_restRefs_of main_v185 (by decide) (by decide))).trans (end43 m c),
      ((hf c).2 main_v189 (Pipeline.mem_restRefs_of main_v189 (by decide) (by decide))).trans (end44 m c),
      ((hf c).2 main_v193 (Pipeline.mem_restRefs_of main_v193 (by decide) (by decide))).trans (end45 m c),
      ((hf c).2 main_v197 (Pipeline.mem_restRefs_of main_v197 (by decide) (by decide))).trans (end46 m c),
      ((hf c).2 main_v201 (Pipeline.mem_restRefs_of main_v201 (by decide) (by decide))).trans (end47 m c),
      ((hf c).2 main_v206 (Pipeline.mem_restRefs_of main_v206 (by decide) (by decide))).trans (end48 m c),
      ((hf c).2 main_v211 (Pipeline.mem_restRefs_of main_v211 (by decide) (by decide))).trans (end49 m c),
      ((hf c).2 main_v216 (Pipeline.mem_restRefs_of main_v216 (by decide) (by decide))).trans (end50 m c),
      ((hf c).2 main_v221 (Pipeline.mem_restRefs_of main_v221 (by decide) (by decide))).trans (end51 m c),
      ((hf c).2 main_v225 (Pipeline.mem_restRefs_of main_v225 (by decide) (by decide))).trans (end52 m c),
      ((hf c).2 main_v228 (Pipeline.mem_restRefs_of main_v228 (by decide) (by decide))).trans (end53 m c),
      ((hf c).2 main_v233 (Pipeline.mem_restRefs_of main_v233 (by decide) (by decide))).trans (end54 m c),
      ((hf c).2 main_v237 (Pipeline.mem_restRefs_of main_v237 (by decide) (by decide))).trans (end55 m c),
      ((hf c).2 main_v242 (Pipeline.mem_restRefs_of main_v242 (by decide) (by decide))).trans (end56 m c),
      ((hf c).2 main_v247 (Pipeline.mem_restRefs_of main_v247 (by decide) (by decide))).trans (end57 m c),
      ((hf c).2 main_v251 (Pipeline.mem_restRefs_of main_v251 (by decide) (by decide))).trans (end58 m c),
      ((hf c).2 main_v254 (Pipeline.mem_restRefs_of main_v254 (by decide) (by decide))).trans (end59 m c),
      ((hf c).2 main_v258 (Pipeline.mem_restRefs_of main_v258 (by decide) (by decide))).trans (end60 m c),
      ((hf c).2 main_v262 (Pipeline.mem_restRefs_of main_v262 (by decide) (by decide))).trans (end61 m c),
      ((hf c).2 main_v266 (Pipeline.mem_restRefs_of main_v266 (by decide) (by decide))).trans (end62 m c),
      ((hf c).2 main_v270 (Pipeline.mem_restRefs_of main_v270 (by decide) (by decide))).trans (end63 m c),
      ((hf c).2 main_v274 (Pipeline.mem_restRefs_of main_v274 (by decide) (by decide))).trans (end64 m c),
      ((hf c).2 main_v279 (Pipeline.mem_restRefs_of main_v279 (by decide) (by decide))).trans (end65 m c),
      ((hf c).2 main_v283 (Pipeline.mem_restRefs_of main_v283 (by decide) (by decide))).trans (end66 m c),
      ((hf c).2 main_v287 (Pipeline.mem_restRefs_of main_v287 (by decide) (by decide))).trans (end67 m c),
      ((hf c).2 main_v291 (Pipeline.mem_restRefs_of main_v291 (by decide) (by decide))).trans (end68 m c),
      ((hf c).2 main_v295 (Pipeline.mem_restRefs_of main_v295 (by decide) (by decide))).trans (end69 m c),
      ((hf c).2 main_v299 (Pipeline.mem_restRefs_of main_v299 (by decide) (by decide))).trans (end70 m c),
      ((hf c).2 main_v303 (Pipeline.mem_restRefs_of main_v303 (by decide) (by decide))).trans (end71 m c),
      ((hf c).2 main_v307 (Pipeline.mem_restRefs_of main_v307 (by decide) (by decide))).trans (end72 m c),
      ((hf c).2 main_v311 (Pipeline.mem_restRefs_of main_v311 (by decide) (by decide))).trans (end73 m c),
      ((hf c).2 main_v315 (Pipeline.mem_restRefs_of main_v315 (by decide) (by decide))).trans (end74 m c),
      ((hf c).2 main_v320 (Pipeline.mem_restRefs_of main_v320 (by decide) (by decide))).trans (end75 m c),
      ((hf c).2 main_v325 (Pipeline.mem_restRefs_of main_v325 (by decide) (by decide))).trans (end76 m c),
      ((hf c).2 main_v330 (Pipeline.mem_restRefs_of main_v330 (by decide) (by decide))).trans (end77 m c),
      ((hf c).2 main_v335 (Pipeline.mem_restRefs_of main_v335 (by decide) (by decide))).trans (end78 m c),
      ((hf c).2 main_v339 (Pipeline.mem_restRefs_of main_v339 (by decide) (by decide))).trans (end79 m c),
      ((hf c).2 main_v342 (Pipeline.mem_restRefs_of main_v342 (by decide) (by decide))).trans (end80 m c),
      hu c⟩
  · refine (θ_run Cert.AdamSmallRefIdeal.defs _ _).mono (fun r h c => ?_) (Cert.AdamSmallRefIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, hk⟩ := h c
    obtain ⟨e0, e1, e2, e3⟩ := hag c
    refine ⟨h0.trans (got0 _ e0 e1 e2 e3),
      h1.trans (got1 _ e0 e1 e2 e3),
      h2.trans (got2 _ e0 e1 e2 e3),
      h3.trans (got3 _ e0 e1 e2 e3),
      h4.trans (got4 _ e0 e1 e2 e3),
      h5.trans (got5 _ e0 e1 e2 e3),
      h6.trans (got6 _ e0 e1 e2 e3),
      h7.trans (got7 _ e0 e1 e2 e3),
      h8.trans (got8 _ e0 e1 e2 e3),
      h9.trans (got9 _ e0 e1 e2 e3),
      h10.trans (got10 _ e0 e1 e2 e3),
      h11.trans (got11 _ e0 e1 e2 e3),
      h12.trans (got12 _ e0 e1 e2 e3),
      h13.trans (got13 _ e0 e1 e2 e3),
      h14.trans (got14 _ e0 e1 e2 e3),
      h15.trans (got15 _ e0 e1 e2 e3),
      h16.trans (got16 _ e0 e1 e2 e3),
      h17.trans (got17 _ e0 e1 e2 e3),
      h18.trans (got18 _ e0 e1 e2 e3),
      h19.trans (got19 _ e0 e1 e2 e3),
      h20.trans (got20 _ e0 e1 e2 e3),
      h21.trans (got21 _ e0 e1 e2 e3),
      h22.trans (got22 _ e0 e1 e2 e3),
      h23.trans (got23 _ e0 e1 e2 e3),
      h24.trans (got24 _ e0 e1 e2 e3),
      h25.trans (got25 _ e0 e1 e2 e3),
      h26.trans (got26 _ e0 e1 e2 e3),
      h27.trans (got27 _ e0 e1 e2 e3),
      h28.trans (got28 _ e0 e1 e2 e3),
      h29.trans (got29 _ e0 e1 e2 e3),
      h30.trans (got30 _ e0 e1 e2 e3),
      h31.trans (got31 _ e0 e1 e2 e3),
      h32.trans (got32 _ e0 e1 e2 e3),
      h33.trans (got33 _ e0 e1 e2 e3),
      h34.trans (got34 _ e0 e1 e2 e3),
      h35.trans (got35 _ e0 e1 e2 e3),
      h36.trans (got36 _ e0 e1 e2 e3),
      h37.trans (got37 _ e0 e1 e2 e3),
      h38.trans (got38 _ e0 e1 e2 e3),
      h39.trans (got39 _ e0 e1 e2 e3),
      h40.trans (got40 _ e0 e1 e2 e3),
      h41.trans (got41 _ e0 e1 e2 e3),
      h42.trans (got42 _ e0 e1 e2 e3),
      h43.trans (got43 _ e0 e1 e2 e3),
      h44.trans (got44 _ e0 e1 e2 e3),
      h45.trans (got45 _ e0 e1 e2 e3),
      h46.trans (got46 _ e0 e1 e2 e3),
      h47.trans (got47 _ e0 e1 e2 e3),
      h48.trans (got48 _ e0 e1 e2 e3),
      h49.trans (got49 _ e0 e1 e2 e3),
      h50.trans (got50 _ e0 e1 e2 e3),
      h51.trans (got51 _ e0 e1 e2 e3),
      h52.trans (got52 _ e0 e1 e2 e3),
      h53.trans (got53 _ e0 e1 e2 e3),
      h54.trans (got54 _ e0 e1 e2 e3),
      h55.trans (got55 _ e0 e1 e2 e3),
      h56.trans (got56 _ e0 e1 e2 e3),
      h57.trans (got57 _ e0 e1 e2 e3),
      h58.trans (got58 _ e0 e1 e2 e3),
      h59.trans (got59 _ e0 e1 e2 e3),
      h60.trans (got60 _ e0 e1 e2 e3),
      h61.trans (got61 _ e0 e1 e2 e3),
      h62.trans (got62 _ e0 e1 e2 e3),
      h63.trans (got63 _ e0 e1 e2 e3),
      h64.trans (got64 _ e0 e1 e2 e3),
      h65.trans (got65 _ e0 e1 e2 e3),
      h66.trans (got66 _ e0 e1 e2 e3),
      h67.trans (got67 _ e0 e1 e2 e3),
      h68.trans (got68 _ e0 e1 e2 e3),
      h69.trans (got69 _ e0 e1 e2 e3),
      h70.trans (got70 _ e0 e1 e2 e3),
      h71.trans (got71 _ e0 e1 e2 e3),
      h72.trans (got72 _ e0 e1 e2 e3),
      h73.trans (got73 _ e0 e1 e2 e3),
      h74.trans (got74 _ e0 e1 e2 e3),
      h75.trans (got75 _ e0 e1 e2 e3),
      h76.trans (got76 _ e0 e1 e2 e3),
      h77.trans (got77 _ e0 e1 e2 e3),
      h78.trans (got78 _ e0 e1 e2 e3),
      h79.trans (got79 _ e0 e1 e2 e3),
      h80.trans (got80 _ e0 e1 e2 e3), hk⟩

end Cert.Proof.AdamSmall

end
-- ==== Proof.lean ====
/-  The proof of `Cert.Claim`: the facts each program states, then its claims in the order of `Defs.lean`. The frames of the
    kernels are the generated ones; each call's module proves its reference's frame and its `algebraic` claim. -/
module

public import proofs.«01_k».proof.Defs
public import proofs.«01_k».proof.Proof.Gen.Mix.Frame
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.MixClaim
public import proofs.«01_k».proof.Proof.Gen.InDa.Frame
public import proofs.«01_k».proof.Proof.Gen.InDaIdeal.Frame
public import proofs.«01_k».proof.Proof.Gen.InDaRefIdeal
public import proofs.«01_k».proof.Proof.Gen.InDaIdeal.Value
public import proofs.«01_k».proof.Proof.Gen.InDaRefIdeal.Run
public import proofs.«01_k».proof.Proof.Gen.InDaRefIdeal.Read
public import proofs.«01_k».proof.Proof.InDaProd
public import proofs.«01_k».proof.Proof.Gen.In512.Frame
public import proofs.«01_k».proof.Proof.Gen.In512Ideal.Frame
public import proofs.«01_k».proof.Proof.Gen.In512RefIdeal
public import proofs.«01_k».proof.Proof.Gen.In512Ideal.Value
public import proofs.«01_k».proof.Proof.Gen.In512RefIdeal.Run
public import proofs.«01_k».proof.Proof.Gen.In512RefIdeal.Read
public import proofs.«01_k».proof.Proof.In512Prod
public import proofs.«01_k».proof.Proof.Gen.In1024.Frame
public import proofs.«01_k».proof.Proof.Gen.In1024Ideal.Frame
public import proofs.«01_k».proof.Proof.Gen.In1024RefIdeal
public import proofs.«01_k».proof.Proof.Gen.In1024Ideal.Value
public import proofs.«01_k».proof.Proof.Gen.In1024RefIdeal.Run
public import proofs.«01_k».proof.Proof.Gen.In1024RefIdeal.Read
public import proofs.«01_k».proof.Proof.In1024Prod
public import proofs.«01_k».proof.Proof.Gen.In768.Frame
public import proofs.«01_k».proof.Proof.Gen.In768Ideal.Frame
public import proofs.«01_k».proof.Proof.Gen.In768RefIdeal
public import proofs.«01_k».proof.Proof.Gen.In768Ideal.Value
public import proofs.«01_k».proof.Proof.Gen.In768RefIdeal.Run
public import proofs.«01_k».proof.Proof.Gen.In768RefIdeal.Read
public import proofs.«01_k».proof.Proof.In768Prod
public import proofs.«01_k».proof.Proof.Gen.In128.Frame
public import proofs.«01_k».proof.Proof.Gen.In128Ideal.Frame
public import proofs.«01_k».proof.Proof.Gen.In128RefIdeal
public import proofs.«01_k».proof.Proof.Gen.In128Ideal.Value
public import proofs.«01_k».proof.Proof.Gen.In128RefIdeal.Run
public import proofs.«01_k».proof.Proof.Gen.In128RefIdeal.Read
public import proofs.«01_k».proof.Proof.In128Prod
public import proofs.«01_k».proof.Proof.Gen.InDb512.Frame
public import proofs.«01_k».proof.Proof.Gen.InDb512Ideal.Frame
public import proofs.«01_k».proof.Proof.Gen.InDb512RefIdeal
public import proofs.«01_k».proof.Proof.Gen.InDb512Ideal.Value
public import proofs.«01_k».proof.Proof.Gen.InDb512RefIdeal.Run
public import proofs.«01_k».proof.Proof.Gen.InDb512RefIdeal.Read
public import proofs.«01_k».proof.Proof.InDb512Prod
public import proofs.«01_k».proof.Proof.Gen.InDb1024.Frame
public import proofs.«01_k».proof.Proof.Gen.InDb1024Ideal.Frame
public import proofs.«01_k».proof.Proof.Gen.InDb1024RefIdeal
public import proofs.«01_k».proof.Proof.Gen.InDb1024Ideal.Value
public import proofs.«01_k».proof.Proof.Gen.InDb1024RefIdeal.Run
public import proofs.«01_k».proof.Proof.Gen.InDb1024RefIdeal.Read
public import proofs.«01_k».proof.Proof.InDb1024Prod
public import proofs.«01_k».proof.Proof.Gen.InDb768.Frame
public import proofs.«01_k».proof.Proof.Gen.InDb768Ideal.Frame
public import proofs.«01_k».proof.Proof.Gen.InDb768RefIdeal
public import proofs.«01_k».proof.Proof.Gen.InDb768Ideal.Value
public import proofs.«01_k».proof.Proof.Gen.InDb768RefIdeal.Run
public import proofs.«01_k».proof.Proof.Gen.InDb768RefIdeal.Read
public import proofs.«01_k».proof.Proof.InDb768Prod
public import proofs.«01_k».proof.Proof.Gen.InDb128.Frame
public import proofs.«01_k».proof.Proof.Gen.InDb128Ideal.Frame
public import proofs.«01_k».proof.Proof.Gen.InDb128RefIdeal
public import proofs.«01_k».proof.Proof.Gen.InDb128Ideal.Value
public import proofs.«01_k».proof.Proof.Gen.InDb128RefIdeal.Run
public import proofs.«01_k».proof.Proof.Gen.InDb128RefIdeal.Read
public import proofs.«01_k».proof.Proof.InDb128Prod
public import proofs.«01_k».proof.Proof.Gen.Gate.Frame
public import proofs.«01_k».proof.Proof.Gen.GateIdeal.Frame
public import proofs.«01_k».proof.Proof.Gen.GateRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.GateProd
public import proofs.«01_k».proof.Proof.Gen.GateDa.Frame
public import proofs.«01_k».proof.Proof.Gen.GateDaIdeal.Frame
public import proofs.«01_k».proof.Proof.Gen.GateDaRefIdeal
public import proofs.«01_k».proof.Proof.Gen.GateDaIdeal.Value
public import proofs.«01_k».proof.Proof.Gen.GateDaRefIdeal.Run
public import proofs.«01_k».proof.Proof.Gen.GateDaRefIdeal.Read
public import proofs.«01_k».proof.Proof.GateDaProd
public import proofs.«01_k».proof.Proof.Gen.GateDb.Frame
public import proofs.«01_k».proof.Proof.Gen.GateDbIdeal.Frame
public import proofs.«01_k».proof.Proof.Gen.GateDbRefIdeal
public import proofs.«01_k».proof.Proof.Gen.GateDbIdeal.Value
public import proofs.«01_k».proof.Proof.Gen.GateDbRefIdeal.Run
public import proofs.«01_k».proof.Proof.Gen.GateDbRefIdeal.Read
public import proofs.«01_k».proof.Proof.GateDbProd
public import proofs.«01_k».proof.Proof.Gen.Br.Frame
public import proofs.«01_k».proof.Proof.Gen.BrIdeal.Frame
public import proofs.«01_k».proof.Proof.Gen.BrRefIdeal
public import proofs.«01_k».proof.Proof.Gen.BrIdeal.Value
public import proofs.«01_k».proof.Proof.Gen.BrRefIdeal.Run
public import proofs.«01_k».proof.Proof.Gen.BrRefIdeal.Read
public import proofs.«01_k».proof.Proof.BrProd
public import proofs.«01_k».proof.Proof.Gen.BrDa.Frame
public import proofs.«01_k».proof.Proof.Gen.BrDaIdeal.Frame
public import proofs.«01_k».proof.Proof.Gen.BrDaRefIdeal
public import proofs.«01_k».proof.Proof.Gen.BrDaIdeal.Value
public import proofs.«01_k».proof.Proof.Gen.BrDaRefIdeal.Run
public import proofs.«01_k».proof.Proof.Gen.BrDaRefIdeal.Read
public import proofs.«01_k».proof.Proof.BrDaProd
public import proofs.«01_k».proof.Proof.Gen.BrDb.Frame
public import proofs.«01_k».proof.Proof.Gen.BrDbIdeal.Frame
public import proofs.«01_k».proof.Proof.Gen.BrDbRefIdeal
public import proofs.«01_k».proof.Proof.Gen.BrDbIdeal.Value
public import proofs.«01_k».proof.Proof.Gen.BrDbRefIdeal.Run
public import proofs.«01_k».proof.Proof.Gen.BrDbRefIdeal.Read
public import proofs.«01_k».proof.Proof.BrDbProd
public import proofs.«01_k».proof.Proof.Gen.OutDa.Frame
public import proofs.«01_k».proof.Proof.Gen.OutDaIdeal.Frame
public import proofs.«01_k».proof.Proof.Gen.OutDaRefIdeal
public import proofs.«01_k».proof.Proof.Gen.OutDaIdeal.Value
public import proofs.«01_k».proof.Proof.Gen.OutDaRefIdeal.Run
public import proofs.«01_k».proof.Proof.Gen.OutDaRefIdeal.Read
public import proofs.«01_k».proof.Proof.OutDaProd
public import proofs.«01_k».proof.Proof.Gen.AdamWMod.Frame
public import proofs.«01_k».proof.Proof.Gen.AdamWModIdeal.Frame
public import proofs.«01_k».proof.Proof.Gen.AdamWModRefIdeal
public import proofs.«01_k».proof.Proof.Gen.AdamWModIdeal.Value
public import proofs.«01_k».proof.Proof.Gen.AdamWModRefIdeal.Run
public import proofs.«01_k».proof.Proof.Gen.AdamWModRefIdeal.Read
public import proofs.«01_k».proof.Proof.AdamWModStep
public import proofs.«01_k».proof.Proof.Gen.AdamWIn.Frame
public import proofs.«01_k».proof.Proof.Gen.AdamWInIdeal.Frame
public import proofs.«01_k».proof.Proof.Gen.AdamWInRefIdeal
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.AdamWInStep
public import proofs.«01_k».proof.Proof.Gen.AdamS5WGlu.Frame
public import proofs.«01_k».proof.Proof.Gen.AdamS5WGluIdeal.Frame
public import proofs.«01_k».proof.Proof.Gen.AdamS5WGluRefIdeal
public import proofs.«01_k».proof.Proof.Gen.AdamS5WGluIdeal.Value
public import proofs.«01_k».proof.Proof.Gen.AdamS5WGluRefIdeal.Run
public import proofs.«01_k».proof.Proof.Gen.AdamS5WGluRefIdeal.Read
public import proofs.«01_k».proof.Proof.AdamS5WGluStep
public import proofs.«01_k».proof.Proof.Gen.AdamWBranch.Frame
public import proofs.«01_k».proof.Proof.Gen.AdamWBranchIdeal.Frame
public import proofs.«01_k».proof.Proof.Gen.AdamWBranchRefIdeal
public import proofs.«01_k».proof.Proof.Gen.AdamWBranchIdeal.Value
public import proofs.«01_k».proof.Proof.Gen.AdamWBranchRefIdeal.Run
public import proofs.«01_k».proof.Proof.Gen.AdamWBranchRefIdeal.Read
public import proofs.«01_k».proof.Proof.AdamWBranchStep
public import proofs.«01_k».proof.Proof.Gen.AdamWGate.Frame
public import proofs.«01_k».proof.Proof.Gen.AdamWGateIdeal.Frame
public import proofs.«01_k».proof.Proof.Gen.AdamWGateRefIdeal
public import proofs.«01_k».proof.Proof.Gen.AdamWGateIdeal.Value
public import proofs.«01_k».proof.Proof.Gen.AdamWGateRefIdeal.Run
public import proofs.«01_k».proof.Proof.Gen.AdamWGateRefIdeal.Read
public import proofs.«01_k».proof.Proof.AdamWGateStep
public import proofs.«01_k».proof.Proof.Gen.AdamWOut.Frame
public import proofs.«01_k».proof.Proof.Gen.AdamWOutIdeal.Frame
public import proofs.«01_k».proof.Proof.Gen.AdamWOutRefIdeal
public import proofs.«01_k».proof.Proof.Gen.AdamWOutIdeal.Value
public import proofs.«01_k».proof.Proof.Gen.AdamWOutRefIdeal.Run
public import proofs.«01_k».proof.Proof.Gen.AdamWOutRefIdeal.Read
public import proofs.«01_k».proof.Proof.AdamWOutStep
public import proofs.«01_k».proof.Proof.Gen.ScanBwd
public import proofs.«01_k».proof.Proof.Gen.ScanBwd.Skeleton
public import proofs.«01_k».proof.Proof.Gen.ScanBwd.Loops
public import proofs.«01_k».proof.Proof.Gen.ScanBwd.Launch
public import proofs.«01_k».proof.Proof.Gen.ScanBwd.Points
public import proofs.«01_k».proof.Proof.Gen.ScanBwd.Frame
public import proofs.«01_k».proof.Proof.Gen.ScanBwdIdeal
public import proofs.«01_k».proof.Proof.Gen.ScanBwdIdeal.Skeleton
public import proofs.«01_k».proof.Proof.Gen.ScanBwdIdeal.Loops
public import proofs.«01_k».proof.Proof.Gen.ScanBwdIdeal.Launch
public import proofs.«01_k».proof.Proof.Gen.ScanBwdIdeal.Points
public import proofs.«01_k».proof.Proof.Gen.ScanBwdIdeal.Frame
public import proofs.«01_k».proof.Proof.Gen.ScanBwdRefIdeal
public import proofs.«01_k».proof.Proof.Gen.ScanBwdRefIdeal.Run
public import proofs.«01_k».proof.Proof.ScanBitsGrid
public import proofs.«01_k».proof.Proof.ScanClaim
public import proofs.«01_k».proof.Proof.Gen.AdamSmall.Frame
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmallStep
public import Idealize.ShloMosaic.Adequacy
public import Idealize.ShloMosaic.Init

@[expose] public section

noncomputable section

namespace Cert.Proof

open Idealize.ShloMosaic Idealize.SL.Sem

theorem claim : Cert.Claim :=
  ⟨Cert.Mix.Gen.facts,
   Cert.MixIdeal.Gen.facts,
   Cert.MixRefIdeal.Gen.facts,
   Cert.InDa.Gen.facts,
   Cert.InDaIdeal.Gen.facts,
   Cert.InDaRefIdeal.Gen.facts,
   Cert.In512.Gen.facts,
   Cert.In512Ideal.Gen.facts,
   Cert.In512RefIdeal.Gen.facts,
   Cert.In1024.Gen.facts,
   Cert.In1024Ideal.Gen.facts,
   Cert.In1024RefIdeal.Gen.facts,
   Cert.In768.Gen.facts,
   Cert.In768Ideal.Gen.facts,
   Cert.In768RefIdeal.Gen.facts,
   Cert.In128.Gen.facts,
   Cert.In128Ideal.Gen.facts,
   Cert.In128RefIdeal.Gen.facts,
   Cert.InDb512.Gen.facts,
   Cert.InDb512Ideal.Gen.facts,
   Cert.InDb512RefIdeal.Gen.facts,
   Cert.InDb1024.Gen.facts,
   Cert.InDb1024Ideal.Gen.facts,
   Cert.InDb1024RefIdeal.Gen.facts,
   Cert.InDb768.Gen.facts,
   Cert.InDb768Ideal.Gen.facts,
   Cert.InDb768RefIdeal.Gen.facts,
   Cert.InDb128.Gen.facts,
   Cert.InDb128Ideal.Gen.facts,
   Cert.InDb128RefIdeal.Gen.facts,
   Cert.Gate.Gen.facts,
   Cert.GateIdeal.Gen.facts,
   Cert.GateRefIdeal.Gen.facts,
   Cert.GateDa.Gen.facts,
   Cert.GateDaIdeal.Gen.facts,
   Cert.GateDaRefIdeal.Gen.facts,
   Cert.GateDb.Gen.facts,
   Cert.GateDbIdeal.Gen.facts,
   Cert.GateDbRefIdeal.Gen.facts,
   Cert.Br.Gen.facts,
   Cert.BrIdeal.Gen.facts,
   Cert.BrRefIdeal.Gen.facts,
   Cert.BrDa.Gen.facts,
   Cert.BrDaIdeal.Gen.facts,
   Cert.BrDaRefIdeal.Gen.facts,
   Cert.BrDb.Gen.facts,
   Cert.BrDbIdeal.Gen.facts,
   Cert.BrDbRefIdeal.Gen.facts,
   Cert.OutDa.Gen.facts,
   Cert.OutDaIdeal.Gen.facts,
   Cert.OutDaRefIdeal.Gen.facts,
   Cert.AdamWMod.Gen.facts,
   Cert.AdamWModIdeal.Gen.facts,
   Cert.AdamWModRefIdeal.Gen.facts,
   Cert.AdamWIn.Gen.facts,
   Cert.AdamWInIdeal.Gen.facts,
   Cert.AdamWInRefIdeal.Gen.facts,
   Cert.AdamS5WGlu.Gen.facts,
   Cert.AdamS5WGluIdeal.Gen.facts,
   Cert.AdamS5WGluRefIdeal.Gen.facts,
   Cert.AdamWBranch.Gen.facts,
   Cert.AdamWBranchIdeal.Gen.facts,
   Cert.AdamWBranchRefIdeal.Gen.facts,
   Cert.AdamWGate.Gen.facts,
   Cert.AdamWGateIdeal.Gen.facts,
   Cert.AdamWGateRefIdeal.Gen.facts,
   Cert.AdamWOut.Gen.facts,
   Cert.AdamWOutIdeal.Gen.facts,
   Cert.AdamWOutRefIdeal.Gen.facts,
   Cert.ScanBwd.Gen.facts,
   Cert.ScanBwdIdeal.Gen.facts,
   Cert.ScanBwdRefIdeal.Gen.facts,
   Cert.AdamSmall.Gen.facts,
   Cert.AdamSmallIdeal.Gen.facts,
   Cert.AdamSmallRefIdeal.Gen.facts,
   ⟨by decide⟩,
   fun m ρ _ => Cert.Mix.Gen.frame m ρ,
   fun m ρ _ => Cert.MixIdeal.Gen.frame m ρ,
   Mix.frame_ref,
   fun m ρ _ => Cert.InDa.Gen.frame m ρ,
   fun m ρ _ => Cert.InDaIdeal.Gen.frame m ρ,
   InDa.frame_ref,
   fun m ρ _ => Cert.In512.Gen.frame m ρ,
   fun m ρ _ => Cert.In512Ideal.Gen.frame m ρ,
   In512.frame_ref,
   fun m ρ _ => Cert.In1024.Gen.frame m ρ,
   fun m ρ _ => Cert.In1024Ideal.Gen.frame m ρ,
   In1024.frame_ref,
   fun m ρ _ => Cert.In768.Gen.frame m ρ,
   fun m ρ _ => Cert.In768Ideal.Gen.frame m ρ,
   In768.frame_ref,
   fun m ρ _ => Cert.In128.Gen.frame m ρ,
   fun m ρ _ => Cert.In128Ideal.Gen.frame m ρ,
   In128.frame_ref,
   fun m ρ _ => Cert.InDb512.Gen.frame m ρ,
   fun m ρ _ => Cert.InDb512Ideal.Gen.frame m ρ,
   InDb512.frame_ref,
   fun m ρ _ => Cert.InDb1024.Gen.frame m ρ,
   fun m ρ _ => Cert.InDb1024Ideal.Gen.frame m ρ,
   InDb1024.frame_ref,
   fun m ρ _ => Cert.InDb768.Gen.frame m ρ,
   fun m ρ _ => Cert.InDb768Ideal.Gen.frame m ρ,
   InDb768.frame_ref,
   fun m ρ _ => Cert.InDb128.Gen.frame m ρ,
   fun m ρ _ => Cert.InDb128Ideal.Gen.frame m ρ,
   InDb128.frame_ref,
   fun m ρ _ => Cert.Gate.Gen.frame m ρ,
   fun m ρ _ => Cert.GateIdeal.Gen.frame m ρ,
   Gate.frame_ref,
   fun m ρ _ => Cert.GateDa.Gen.frame m ρ,
   fun m ρ _ => Cert.GateDaIdeal.Gen.frame m ρ,
   GateDa.frame_ref,
   fun m ρ _ => Cert.GateDb.Gen.frame m ρ,
   fun m ρ _ => Cert.GateDbIdeal.Gen.frame m ρ,
   GateDb.frame_ref,
   fun m ρ _ => Cert.Br.Gen.frame m ρ,
   fun m ρ _ => Cert.BrIdeal.Gen.frame m ρ,
   Br.frame_ref,
   fun m ρ _ => Cert.BrDa.Gen.frame m ρ,
   fun m ρ _ => Cert.BrDaIdeal.Gen.frame m ρ,
   BrDa.frame_ref,
   fun m ρ _ => Cert.BrDb.Gen.frame m ρ,
   fun m ρ _ => Cert.BrDbIdeal.Gen.frame m ρ,
   BrDb.frame_ref,
   fun m ρ _ => Cert.OutDa.Gen.frame m ρ,
   fun m ρ _ => Cert.OutDaIdeal.Gen.frame m ρ,
   OutDa.frame_ref,
   fun m ρ _ => Cert.AdamWMod.Gen.frame m ρ,
   fun m ρ _ => Cert.AdamWModIdeal.Gen.frame m ρ,
   AdamWMod.frame_ref,
   fun m ρ _ => Cert.AdamWIn.Gen.frame m ρ,
   fun m ρ _ => Cert.AdamWInIdeal.Gen.frame m ρ,
   AdamWIn.frame_ref,
   fun m ρ _ => Cert.AdamS5WGlu.Gen.frame m ρ,
   fun m ρ _ => Cert.AdamS5WGluIdeal.Gen.frame m ρ,
   AdamS5WGlu.frame_ref,
   fun m ρ _ => Cert.AdamWBranch.Gen.frame m ρ,
   fun m ρ _ => Cert.AdamWBranchIdeal.Gen.frame m ρ,
   AdamWBranch.frame_ref,
   fun m ρ _ => Cert.AdamWGate.Gen.frame m ρ,
   fun m ρ _ => Cert.AdamWGateIdeal.Gen.frame m ρ,
   AdamWGate.frame_ref,
   fun m ρ _ => Cert.AdamWOut.Gen.frame m ρ,
   fun m ρ _ => Cert.AdamWOutIdeal.Gen.frame m ρ,
   AdamWOut.frame_ref,
   fun m ρ _ => ScanBits.frame_scan m ρ,
   Scan.frame_ideal,
   @Scan.frame_ideal_pre ⟨by decide⟩,
   Scan.frame_ref,
   @Scan.frame_ref_pre ⟨by decide⟩,
   fun m ρ _ => Cert.AdamSmall.Gen.frame m ρ,
   fun m ρ _ => Cert.AdamSmallIdeal.Gen.frame m ρ,
   AdamSmall.frame_ref,
   trivial,
   Mix.algebraic,
   trivial,
   InDa.algebraic,
   trivial,
   In512.algebraic,
   trivial,
   In1024.algebraic,
   trivial,
   In768.algebraic,
   trivial,
   In128.algebraic,
   trivial,
   InDb512.algebraic,
   trivial,
   InDb1024.algebraic,
   trivial,
   InDb768.algebraic,
   trivial,
   InDb128.algebraic,
   trivial,
   Gate.algebraic,
   trivial,
   GateDa.algebraic,
   trivial,
   GateDb.algebraic,
   trivial,
   Br.algebraic,
   trivial,
   BrDa.algebraic,
   trivial,
   BrDb.algebraic,
   trivial,
   OutDa.algebraic,
   trivial,
   AdamWMod.algebraic,
   trivial,
   AdamWIn.algebraic,
   trivial,
   AdamS5WGlu.algebraic,
   trivial,
   AdamWBranch.algebraic,
   trivial,
   AdamWGate.algebraic,
   trivial,
   AdamWOut.algebraic,
   trivial,
   @Scan.algebraic ⟨by decide⟩,
   trivial,
   AdamSmall.algebraic⟩

end Cert.Proof

end
